-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).2 = (fun _ => 1#1)

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBIdeal_norm2_finite [hPre_norm2_finite : Cert.Pre_norm2_finite.Facts] (m : (ℓ : Loc Cert.NormBIdeal.nD Cert.NormBIdeal.τ Cert.NormBIdeal.sig) → Buf (Elt Ideal) ℓ) : Prop :=
  ∀ c : Dev Cert.NormBIdeal.nD,
    (Cert.Pre_norm2_finite.fn (F := Ideal) (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)) (m ((c.tc : Thread Cert.NormBIdeal.nD Cert.NormBIdeal.τ).loc Cert.NormBIdeal.main_arg4)) (m ((c.tc : Thread Cert.NormBIdeal.nD Cert.NormBIdeal.τ).loc Cert.NormBIdeal.main_arg5)) (m ((c.tc : Thread Cert.NormBIdeal.nD Cert.NormBIdeal.τ).loc Cert.NormBIdeal.main_arg6))).1 = (fun _ => 1#1)
    ∧ (Cert.Pre_norm2_finite.fn (F := Ideal) (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)) (m ((c.tc : Thread Cert.NormBIdeal.nD Cert.NormBIdeal.τ).loc Cert.NormBIdeal.main_arg4)) (m ((c.tc : Thread Cert.NormBIdeal.nD Cert.NormBIdeal.τ).loc Cert.NormBIdeal.main_arg5)) (m ((c.tc : Thread Cert.NormBIdeal.nD Cert.NormBIdeal.τ).loc Cert.NormBIdeal.main_arg6))).2.1 = (fun _ => 1#1)
    ∧ (Cert.Pre_norm2_finite.fn (F := Ideal) (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)) (m ((c.tc : Thread Cert.NormBIdeal.nD Cert.NormBIdeal.τ).loc Cert.NormBIdeal.main_arg4)) (m ((c.tc : Thread Cert.NormBIdeal.nD Cert.NormBIdeal.τ).loc Cert.NormBIdeal.main_arg5)) (m ((c.tc : Thread Cert.NormBIdeal.nD Cert.NormBIdeal.τ).loc Cert.NormBIdeal.main_arg6))).2.2.1 = (fun _ => 1#1)
    ∧ (Cert.Pre_norm2_finite.fn (F := Ideal) (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)) (m ((c.tc : Thread Cert.NormBIdeal.nD Cert.NormBIdeal.τ).loc Cert.NormBIdeal.main_arg4)) (m ((c.tc : Thread Cert.NormBIdeal.nD Cert.NormBIdeal.τ).loc Cert.NormBIdeal.main_arg5)) (m ((c.tc : Thread Cert.NormBIdeal.nD Cert.NormBIdeal.τ).loc Cert.NormBIdeal.main_arg6))).2.2.2 = (fun _ => 1#1)

def Pre_NormBRefIdeal (m : (ℓ : Loc Cert.NormBRefIdeal.nD Cert.NormBRefIdeal.τ Cert.NormBRefIdeal.sig) → Buf (Elt Ideal) ℓ) : Prop :=
  True

def Pre_NormBRefIdeal_norm2_finite [hPre_norm2_finite : Cert.Pre_norm2_finite.Facts] (m : (ℓ : Loc Cert.NormBRefIdeal.nD Cert.NormBRefIdeal.τ Cert.NormBRefIdeal.sig) → Buf (Elt Ideal) ℓ) : Prop :=
  ∀ c : Dev Cert.NormBRefIdeal.nD,
    (Cert.Pre_norm2_finite.fn (F := Ideal) (m ((c.tc : Thread Cert.NormBRefIdeal.nD Cert.NormBRefIdeal.τ).loc Cert.NormBRefIdeal.main_arg0)) (m ((c.tc : Thread Cert.NormBRefIdeal.nD Cert.NormBRefIdeal.τ).loc Cert.NormBRefIdeal.main_arg1)) (m ((c.tc : Thread Cert.NormBRefIdeal.nD Cert.NormBRefIdeal.τ).loc Cert.NormBRefIdeal.main_arg2)) (m ((c.tc : Thread Cert.NormBRefIdeal.nD Cert.NormBRefIdeal.τ).loc Cert.NormBRefIdeal.main_arg3)) (m ((c.tc : Thread Cert.NormBRefIdeal.nD Cert.NormBRefIdeal.τ).loc Cert.NormBRefIdeal.main_arg4)) (m ((c.tc : Thread Cert.NormBRefIdeal.nD Cert.NormBRefIdeal.τ).loc Cert.NormBRefIdeal.main_arg5)) (m ((c.tc : Thread Cert.NormBRefIdeal.nD Cert.NormBRefIdeal.τ).loc Cert.NormBRefIdeal.main_arg6))).1 = (fun _ => 1#1)
    ∧ (Cert.Pre_norm2_finite.fn (F := Ideal) (m ((c.tc : Thread Cert.NormBRefIdeal.nD Cert.NormBRefIdeal.τ).loc Cert.NormBRefIdeal.main_arg0)) (m ((c.tc : Thread Cert.NormBRefIdeal.nD Cert.NormBRefIdeal.τ).loc Cert.NormBRefIdeal.main_arg1)) (m ((c.tc : Thread Cert.NormBRefIdeal.nD Cert.NormBRefIdeal.τ).loc Cert.NormBRefIdeal.main_arg2)) (m ((c.tc : Thread Cert.NormBRefIdeal.nD Cert.NormBRefIdeal.τ).loc Cert.NormBRefIdeal.main_arg3)) (m ((c.tc : Thread Cert.NormBRefIdeal.nD Cert.NormBRefIdeal.τ).loc Cert.NormBRefIdeal.main_arg4)) (m ((c.tc : Thread Cert.NormBRefIdeal.nD Cert.NormBRefIdeal.τ).loc Cert.NormBRefIdeal.main_arg5)) (m ((c.tc : Thread Cert.NormBRefIdeal.nD Cert.NormBRefIdeal.τ).loc Cert.NormBRefIdeal.main_arg6))).2.1 = (fun _ => 1#1)
    ∧ (Cert.Pre_norm2_finite.fn (F := Ideal) (m ((c.tc : Thread Cert.NormBRefIdeal.nD Cert.NormBRefIdeal.τ).loc Cert.NormBRefIdeal.main_arg0)) (m ((c.tc : Thread Cert.NormBRefIdeal.nD Cert.NormBRefIdeal.τ).loc Cert.NormBRefIdeal.main_arg1)) (m ((c.tc : Thread Cert.NormBRefIdeal.nD Cert.NormBRefIdeal.τ).loc Cert.NormBRefIdeal.main_arg2)) (m ((c.tc : Thread Cert.NormBRefIdeal.nD Cert.NormBRefIdeal.τ).loc Cert.NormBRefIdeal.main_arg3)) (m ((c.tc : Thread Cert.NormBRefIdeal.nD Cert.NormBRefIdeal.τ).loc Cert.NormBRefIdeal.main_arg4)) (m ((c.tc : Thread Cert.NormBRefIdeal.nD Cert.NormBRefIdeal.τ).loc Cert.NormBRefIdeal.main_arg5)) (m ((c.tc : Thread Cert.NormBRefIdeal.nD Cert.NormBRefIdeal.τ).loc Cert.NormBRefIdeal.main_arg6))).2.2.1 = (fun _ => 1#1)
    ∧ (Cert.Pre_norm2_finite.fn (F := Ideal) (m ((c.tc : Thread Cert.NormBRefIdeal.nD Cert.NormBRefIdeal.τ).loc Cert.NormBRefIdeal.main_arg0)) (m ((c.tc : Thread Cert.NormBRefIdeal.nD Cert.NormBRefIdeal.τ).loc Cert.NormBRefIdeal.main_arg1)) (m ((c.tc : Thread Cert.NormBRefIdeal.nD Cert.NormBRefIdeal.τ).loc Cert.NormBRefIdeal.main_arg2)) (m ((c.tc : Thread Cert.NormBRefIdeal.nD Cert.NormBRefIdeal.τ).loc Cert.NormBRefIdeal.main_arg3)) (m ((c.tc : Thread Cert.NormBRefIdeal.nD Cert.NormBRefIdeal.τ).loc Cert.NormBRefIdeal.main_arg4)) (m ((c.tc : Thread Cert.NormBRefIdeal.nD Cert.NormBRefIdeal.τ).loc Cert.NormBRefIdeal.main_arg5)) (m ((c.tc : Thread Cert.NormBRefIdeal.nD Cert.NormBRefIdeal.τ).loc Cert.NormBRefIdeal.main_arg6))).2.2.2 = (fun _ => 1#1)

def Pre_NormA (m : (ℓ : Loc Cert.NormA.nD Cert.NormA.τ Cert.NormA.sig) → Buf (Elt Bits) ℓ) : Prop :=
  True

def Pre_NormAIdeal (m : (ℓ : Loc Cert.NormAIdeal.nD Cert.NormAIdeal.τ Cert.NormAIdeal.sig) → Buf (Elt Ideal) ℓ) : Prop :=
  True

def Pre_NormAIdeal_norm1_finite [hPre_norm1_finite : Cert.Pre_norm1_finite.Facts] (m : (ℓ : Loc Cert.NormAIdeal.nD Cert.NormAIdeal.τ Cert.NormAIdeal.sig) → Buf (Elt Ideal) ℓ) : Prop :=
  ∀ c : Dev Cert.NormAIdeal.nD,
    (Cert.Pre_norm1_finite.fn (F := Ideal) (m ((c.tc : Thread Cert.NormAIdeal.nD Cert.NormAIdeal.τ).loc Cert.NormAIdeal.main_arg0)) (m ((c.tc : Thread Cert.NormAIdeal.nD Cert.NormAIdeal.τ).loc Cert.NormAIdeal.main_arg1)) (m ((c.tc : Thread Cert.NormAIdeal.nD Cert.NormAIdeal.τ).loc Cert.NormAIdeal.main_arg2)) (m ((c.tc : Thread Cert.NormAIdeal.nD Cert.NormAIdeal.τ).loc Cert.NormAIdeal.main_arg3)) (m ((c.tc : Thread Cert.NormAIdeal.nD Cert.NormAIdeal.τ).loc Cert.NormAIdeal.main_arg4))).1 = (fun _ => 1#1)
    ∧ (Cert.Pre_norm1_finite.fn (F := Ideal) (m ((c.tc : Thread Cert.NormAIdeal.nD Cert.NormAIdeal.τ).loc Cert.NormAIdeal.main_arg0)) (m ((c.tc : Thread Cert.NormAIdeal.nD Cert.NormAIdeal.τ).loc Cert.NormAIdeal.main_arg1)) (m ((c.tc : Thread Cert.NormAIdeal.nD Cert.NormAIdeal.τ).loc Cert.NormAIdeal.main_arg2)) (m ((c.tc : Thread Cert.NormAIdeal.nD Cert.NormAIdeal.τ).loc Cert.NormAIdeal.main_arg3)) (m ((c.tc : Thread Cert.NormAIdeal.nD Cert.NormAIdeal.τ).loc Cert.NormAIdeal.main_arg4))).2.1 = (fun _ => 1#1)
    ∧ (Cert.Pre_norm1_finite.fn (F := Ideal) (m ((c.tc : Thread Cert.NormAIdeal.nD Cert.NormAIdeal.τ).loc Cert.NormAIdeal.main_arg0)) (m ((c.tc : Thread Cert.NormAIdeal.nD Cert.NormAIdeal.τ).loc Cert.NormAIdeal.main_arg1)) (m ((c.tc : Thread Cert.NormAIdeal.nD Cert.NormAIdeal.τ).loc Cert.NormAIdeal.main_arg2)) (m ((c.tc : Thread Cert.NormAIdeal.nD Cert.NormAIdeal.τ).loc Cert.NormAIdeal.main_arg3)) (m ((c.tc : Thread Cert.NormAIdeal.nD Cert.NormAIdeal.τ).loc Cert.NormAIdeal.main_arg4))).2.2.1 = (fun _ => 1#1)
    ∧ (Cert.Pre_norm1_finite.fn (F := Ideal) (m ((c.tc : Thread Cert.NormAIdeal.nD Cert.NormAIdeal.τ).loc Cert.NormAIdeal.main_arg0)) (m ((c.tc : Thread Cert.NormAIdeal.nD Cert.NormAIdeal.τ).loc Cert.NormAIdeal.main_arg1)) (m ((c.tc : Thread Cert.NormAIdeal.nD Cert.NormAIdeal.τ).loc Cert.NormAIdeal.main_arg2)) (m ((c.tc : Thread Cert.NormAIdeal.nD Cert.NormAIdeal.τ).loc Cert.NormAIdeal.main_arg3)) (m ((c.tc : Thread Cert.NormAIdeal.nD Cert.NormAIdeal.τ).loc Cert.NormAIdeal.main_arg4))).2.2.2 = (fun _ => 1#1)

def Pre_NormARefIdeal (m : (ℓ : Loc Cert.NormARefIdeal.nD Cert.NormARefIdeal.τ Cert.NormARefIdeal.sig) → Buf (Elt Ideal) ℓ) : Prop :=
  True

def Pre_NormARefIdeal_norm1_finite [hPre_norm1_finite : Cert.Pre_norm1_finite.Facts] (m : (ℓ : Loc Cert.NormARefIdeal.nD Cert.NormARefIdeal.τ Cert.NormARefIdeal.sig) → Buf (Elt Ideal) ℓ) : Prop :=
  ∀ c : Dev Cert.NormARefIdeal.nD,
    (Cert.Pre_norm1_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4))).1 = (fun _ => 1#1)
    ∧ (Cert.Pre_norm1_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4))).2.1 = (fun _ => 1#1)
    ∧ (Cert.Pre_norm1_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4))).2.2.1 = (fun _ => 1#1)
    ∧ (Cert.Pre_norm1_finite.fn (F := Ideal) (m ((c.tc : Thread Cert.NormARefIdeal.nD Cert.NormARefIdeal.τ).loc Cert.NormARefIdeal.main_arg0)) (m ((c.tc : Thread Cert.NormARefIdeal.nD Cert.NormARefIdeal.τ).loc Cert.NormARefIdeal.main_arg1)) (m ((c.tc : Thread Cert.NormARefIdeal.nD Cert.NormARefIdeal.τ).loc Cert.NormARefIdeal.main_arg2)) (m ((c.tc : Thread Cert.NormARefIdeal.nD Cert.NormARefIdeal.τ).loc Cert.NormARefIdeal.main_arg3)) (m ((c.tc : Thread Cert.NormARefIdeal.nD Cert.NormARefIdeal.τ).loc Cert.NormARefIdeal.main_arg4))).2.2.2 = (fun _ => 1#1)

def Pre_FwdB (m : (ℓ : Loc Cert.FwdB.nD Cert.FwdB.τ Cert.FwdB.sig) → Buf (Elt Bits) ℓ) : Prop :=
  True

def Pre_FwdBIdeal (m : (ℓ : Loc Cert.FwdBIdeal.nD Cert.FwdBIdeal.τ Cert.FwdBIdeal.sig) → Buf (Elt Ideal) ℓ) : Prop :=
  True

def Pre_FwdBRefIdeal (m : (ℓ : Loc Cert.FwdBRefIdeal.nD Cert.FwdBRefIdeal.τ Cert.FwdBRefIdeal.sig) → Buf (Elt Ideal) ℓ) : Prop :=
  True

def Pre_FwdA (m : (ℓ : Loc Cert.FwdA.nD Cert.FwdA.τ Cert.FwdA.sig) → Buf (Elt Bits) ℓ) : Prop :=
  True

def Pre_FwdAIdeal (m : (ℓ : Loc Cert.FwdAIdeal.nD Cert.FwdAIdeal.τ Cert.FwdAIdeal.sig) → Buf (Elt Ideal) ℓ) : Prop :=
  True

def Pre_FwdARefIdeal (m : (ℓ : Loc Cert.FwdARefIdeal.nD Cert.FwdARefIdeal.τ Cert.FwdARefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4)
      ∧ r.2.mem ((c.tc : Thread Cert.NormB.nD Cert.NormB.τ).loc Cert.NormB.main_arg5) = m ((c.tc : Thread Cert.NormB.nD Cert.NormB.τ).loc Cert.NormB.main_arg5)
      ∧ r.2.mem ((c.tc : Thread Cert.NormB.nD Cert.NormB.τ).loc Cert.NormB.main_arg6) = m ((c.tc : Thread Cert.NormB.nD Cert.NormB.τ).loc Cert.NormB.main_arg6))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
      ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5)
      ∧ r.2.mem ((c.tc : Thread Cert.NormBIdeal.nD Cert.NormBIdeal.τ).loc Cert.NormBIdeal.main_arg6) = m ((c.tc : Thread Cert.NormBIdeal.nD Cert.NormBIdeal.τ).loc Cert.NormBIdeal.main_arg6))
      ∧ r.2.sem = fun _ => 0)

def quiescent_NormBIdeal_pre_norm2_finite [hNormBIdeal : Cert.NormBIdeal.Facts] [hPre_norm2_finite : Cert.Pre_norm2_finite.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal_norm2_finite m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
      ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5)
      ∧ r.2.mem ((c.tc : Thread Cert.NormBIdeal.nD Cert.NormBIdeal.τ).loc Cert.NormBIdeal.main_arg6) = m ((c.tc : Thread Cert.NormBIdeal.nD Cert.NormBIdeal.τ).loc Cert.NormBIdeal.main_arg6))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4)
      ∧ r.2.mem ((c.tc : Thread Cert.NormBRefIdeal.nD Cert.NormBRefIdeal.τ).loc Cert.NormBRefIdeal.main_arg5) = m ((c.tc : Thread Cert.NormBRefIdeal.nD Cert.NormBRefIdeal.τ).loc Cert.NormBRefIdeal.main_arg5)
      ∧ r.2.mem ((c.tc : Thread Cert.NormBRefIdeal.nD Cert.NormBRefIdeal.τ).loc Cert.NormBRefIdeal.main_arg6) = m ((c.tc : Thread Cert.NormBRefIdeal.nD Cert.NormBRefIdeal.τ).loc Cert.NormBRefIdeal.main_arg6))
      ∧ r.2.sem = fun _ => 0)

def quiescent_NormBRefIdeal_pre_norm2_finite [hNormBRefIdeal : Cert.NormBRefIdeal.Facts] [hPre_norm2_finite : Cert.Pre_norm2_finite.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal_norm2_finite m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4)
      ∧ r.2.mem ((c.tc : Thread Cert.NormBRefIdeal.nD Cert.NormBRefIdeal.τ).loc Cert.NormBRefIdeal.main_arg5) = m ((c.tc : Thread Cert.NormBRefIdeal.nD Cert.NormBRefIdeal.τ).loc Cert.NormBRefIdeal.main_arg5)
      ∧ r.2.mem ((c.tc : Thread Cert.NormBRefIdeal.nD Cert.NormBRefIdeal.τ).loc Cert.NormBRefIdeal.main_arg6) = m ((c.tc : Thread Cert.NormBRefIdeal.nD Cert.NormBRefIdeal.τ).loc Cert.NormBRefIdeal.main_arg6))
      ∧ r.2.sem = fun _ => 0)

def quiescent_NormA [hNormA : Cert.NormA.Facts] : Prop :=
  ∀ (m : (ℓ : Loc Cert.NormA.nD Cert.NormA.τ Cert.NormA.sig) → Buf (Elt Bits) ℓ) (g : Dev Cert.NormA.nD → PrngReg), Pre_NormA m →
    θ_run (Cert.NormA.defs (F := Bits)) (onTc (τ := Cert.NormA.τ) (Cert.NormA.main (F := Bits))) ⟨m, fun _ => 0, g⟩ (fun r => (∀ c : Dev Cert.NormA.nD,
      r.2.mem ((c.tc : Thread Cert.NormA.nD Cert.NormA.τ).loc Cert.NormA.main_arg0) = m ((c.tc : Thread Cert.NormA.nD Cert.NormA.τ).loc Cert.NormA.main_arg0)
      ∧ r.2.mem ((c.tc : Thread Cert.NormA.nD Cert.NormA.τ).loc Cert.NormA.main_arg1) = m ((c.tc : Thread Cert.NormA.nD Cert.NormA.τ).loc Cert.NormA.main_arg1)
      ∧ r.2.mem ((c.tc : Thread Cert.NormA.nD Cert.NormA.τ).loc Cert.NormA.main_arg2) = m ((c.tc : Thread Cert.NormA.nD Cert.NormA.τ).loc Cert.NormA.main_arg2)
      ∧ r.2.mem ((c.tc : Thread Cert.NormA.nD Cert.NormA.τ).loc Cert.NormA.main_arg3) = m ((c.tc : Thread Cert.NormA.nD Cert.NormA.τ).loc Cert.NormA.main_arg3)
      ∧ r.2.mem ((c.tc : Thread Cert.NormA.nD Cert.NormA.τ).loc Cert.NormA.main_arg4) = m ((c.tc : Thread Cert.NormA.nD Cert.NormA.τ).loc Cert.NormA.main_arg4))
      ∧ r.2.sem = fun _ => 0)

def quiescent_NormAIdeal [hNormAIdeal : Cert.NormAIdeal.Facts] : Prop :=
  ∀ (m : (ℓ : Loc Cert.NormAIdeal.nD Cert.NormAIdeal.τ Cert.NormAIdeal.sig) → Buf (Elt Ideal) ℓ) (g : Dev Cert.NormAIdeal.nD → PrngReg), Pre_NormAIdeal m →
    θ_run (Cert.NormAIdeal.defs (F := Ideal)) (onTc (τ := Cert.NormAIdeal.τ) (Cert.NormAIdeal.main (F := Ideal))) ⟨m, fun _ => 0, g⟩ (fun r => (∀ c : Dev Cert.NormAIdeal.nD,
      r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
      ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1)
      ∧ r.2.mem ((c.tc : Thread Cert.NormAIdeal.nD Cert.NormAIdeal.τ).loc Cert.NormAIdeal.main_arg2) = m ((c.tc : Thread Cert.NormAIdeal.nD Cert.NormAIdeal.τ).loc Cert.NormAIdeal.main_arg2)
      ∧ r.2.mem ((c.tc : Thread Cert.NormAIdeal.nD Cert.NormAIdeal.τ).loc Cert.NormAIdeal.main_arg3) = m ((c.tc : Thread Cert.NormAIdeal.nD Cert.NormAIdeal.τ).loc Cert.NormAIdeal.main_arg3)
      ∧ r.2.mem ((c.tc : Thread Cert.NormAIdeal.nD Cert.NormAIdeal.τ).loc Cert.NormAIdeal.main_arg4) = m ((c.tc : Thread Cert.NormAIdeal.nD Cert.NormAIdeal.τ).loc Cert.NormAIdeal.main_arg4))
      ∧ r.2.sem = fun _ => 0)

def quiescent_NormAIdeal_pre_norm1_finite [hNormAIdeal : Cert.NormAIdeal.Facts] [hPre_norm1_finite : Cert.Pre_norm1_finite.Facts] : Prop :=
  ∀ (m : (ℓ : Loc Cert.NormAIdeal.nD Cert.NormAIdeal.τ Cert.NormAIdeal.sig) → Buf (Elt Ideal) ℓ) (g : Dev Cert.NormAIdeal.nD → PrngReg), Pre_NormAIdeal_norm1_finite m →
    θ_run (Cert.NormAIdeal.defs (F := Ideal)) (onTc (τ := Cert.NormAIdeal.τ) (Cert.NormAIdeal.main (F := Ideal))) ⟨m, fun _ => 0, g⟩ (fun r => (∀ c : Dev Cert.NormAIdeal.nD,
      r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
      ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1)
      ∧ r.2.mem ((c.tc : Thread Cert.NormAIdeal.nD Cert.NormAIdeal.τ).loc Cert.NormAIdeal.main_arg2) = m ((c.tc : Thread Cert.NormAIdeal.nD Cert.NormAIdeal.τ).loc Cert.NormAIdeal.main_arg2)
      ∧ r.2.mem ((c.tc : Thread Cert.NormAIdeal.nD Cert.NormAIdeal.τ).loc Cert.NormAIdeal.main_arg3) = m ((c.tc : Thread Cert.NormAIdeal.nD Cert.NormAIdeal.τ).loc Cert.NormAIdeal.main_arg3)
      ∧ r.2.mem ((c.tc : Thread Cert.NormAIdeal.nD Cert.NormAIdeal.τ).loc Cert.NormAIdeal.main_arg4) = m ((c.tc : Thread Cert.NormAIdeal.nD Cert.NormAIdeal.τ).loc Cert.NormAIdeal.main_arg4))
      ∧ r.2.sem = fun _ => 0)

def quiescent_NormARefIdeal [hNormARefIdeal : Cert.NormARefIdeal.Facts] : Prop :=
  ∀ (m : (ℓ : Loc Cert.NormARefIdeal.nD Cert.NormARefIdeal.τ Cert.NormARefIdeal.sig) → Buf (Elt Ideal) ℓ) (g : Dev Cert.NormARefIdeal.nD → PrngReg), Pre_NormARefIdeal m →
    θ_run (Cert.NormARefIdeal.defs (F := Ideal)) (onTc (τ := Cert.NormARefIdeal.τ) (Cert.NormARefIdeal.main (F := Ideal))) ⟨m, fun _ => 0, g⟩ (fun r => (∀ c : Dev Cert.NormARefIdeal.nD,
      r.2.mem ((c.tc : Thread Cert.NormARefIdeal.nD Cert.NormARefIdeal.τ).loc Cert.NormARefIdeal.main_arg0) = m ((c.tc : Thread Cert.NormARefIdeal.nD Cert.NormARefIdeal.τ).loc Cert.NormARefIdeal.main_arg0)
      ∧ r.2.mem ((c.tc : Thread Cert.NormARefIdeal.nD Cert.NormARefIdeal.τ).loc Cert.NormARefIdeal.main_arg1) = m ((c.tc : Thread Cert.NormARefIdeal.nD Cert.NormARefIdeal.τ).loc Cert.NormARefIdeal.main_arg1)
      ∧ r.2.mem ((c.tc : Thread Cert.NormARefIdeal.nD Cert.NormARefIdeal.τ).loc Cert.NormARefIdeal.main_arg2) = m ((c.tc : Thread Cert.NormARefIdeal.nD Cert.NormARefIdeal.τ).loc Cert.NormARefIdeal.main_arg2)
      ∧ r.2.mem ((c.tc : Thread Cert.NormARefIdeal.nD Cert.NormARefIdeal.τ).loc Cert.NormARefIdeal.main_arg3) = m ((c.tc : Thread Cert.NormARefIdeal.nD Cert.NormARefIdeal.τ).loc Cert.NormARefIdeal.main_arg3)
      ∧ r.2.mem ((c.tc : Thread Cert.NormARefIdeal.nD Cert.NormARefIdeal.τ).loc Cert.NormARefIdeal.main_arg4) = m ((c.tc : Thread Cert.NormARefIdeal.nD Cert.NormARefIdeal.τ).loc Cert.NormARefIdeal.main_arg4))
      ∧ r.2.sem = fun _ => 0)

def quiescent_NormARefIdeal_pre_norm1_finite [hNormARefIdeal : Cert.NormARefIdeal.Facts] [hPre_norm1_finite : Cert.Pre_norm1_finite.Facts] : Prop :=
  ∀ (m : (ℓ : Loc Cert.NormARefIdeal.nD Cert.NormARefIdeal.τ Cert.NormARefIdeal.sig) → Buf (Elt Ideal) ℓ) (g : Dev Cert.NormARefIdeal.nD → PrngReg), Pre_NormARefIdeal_norm1_finite m →
    θ_run (Cert.NormARefIdeal.defs (F := Ideal)) (onTc (τ := Cert.NormARefIdeal.τ) (Cert.NormARefIdeal.main (F := Ideal))) ⟨m, fun _ => 0, g⟩ (fun r => (∀ c : Dev Cert.NormARefIdeal.nD,
      r.2.mem ((c.tc : Thread Cert.NormARefIdeal.nD Cert.NormARefIdeal.τ).loc Cert.NormARefIdeal.main_arg0) = m ((c.tc : Thread Cert.NormARefIdeal.nD Cert.NormARefIdeal.τ).loc Cert.NormARefIdeal.main_arg0)
      ∧ r.2.mem ((c.tc : Thread Cert.NormARefIdeal.nD Cert.NormARefIdeal.τ).loc Cert.NormARefIdeal.main_arg1) = m ((c.tc : Thread Cert.NormARefIdeal.nD Cert.NormARefIdeal.τ).loc Cert.NormARefIdeal.main_arg1)
      ∧ r.2.mem ((c.tc : Thread Cert.NormARefIdeal.nD Cert.NormARefIdeal.τ).loc Cert.NormARefIdeal.main_arg2) = m ((c.tc : Thread Cert.NormARefIdeal.nD Cert.NormARefIdeal.τ).loc Cert.NormARefIdeal.main_arg2)
      ∧ r.2.mem ((c.tc : Thread Cert.NormARefIdeal.nD Cert.NormARefIdeal.τ).loc Cert.NormARefIdeal.main_arg3) = m ((c.tc : Thread Cert.NormARefIdeal.nD Cert.NormARefIdeal.τ).loc Cert.NormARefIdeal.main_arg3)
      ∧ r.2.mem ((c.tc : Thread Cert.NormARefIdeal.nD Cert.NormARefIdeal.τ).loc Cert.NormARefIdeal.main_arg4) = m ((c.tc : Thread Cert.NormARefIdeal.nD Cert.NormARefIdeal.τ).loc Cert.NormARefIdeal.main_arg4))
      ∧ r.2.sem = fun _ => 0)

def quiescent_FwdB [hFwdB : Cert.FwdB.Facts] : Prop :=
  ∀ (m : (ℓ : Loc Cert.FwdB.nD Cert.FwdB.τ Cert.FwdB.sig) → Buf (Elt Bits) ℓ) (g : Dev Cert.FwdB.nD → PrngReg), Pre_FwdB m →
    θ_run (Cert.FwdB.defs (F := Bits)) (onTc (τ := Cert.FwdB.τ) (Cert.FwdB.main (F := Bits))) ⟨m, fun _ => 0, g⟩ (fun r => (∀ c : Dev Cert.FwdB.nD,
      r.2.mem ((c.tc : Thread Cert.FwdB.nD Cert.FwdB.τ).loc Cert.FwdB.main_arg0) = m ((c.tc : Thread Cert.FwdB.nD Cert.FwdB.τ).loc Cert.FwdB.main_arg0)
      ∧ r.2.mem ((c.tc : Thread Cert.FwdB.nD Cert.FwdB.τ).loc Cert.FwdB.main_arg1) = m ((c.tc : Thread Cert.FwdB.nD Cert.FwdB.τ).loc Cert.FwdB.main_arg1)
      ∧ r.2.mem ((c.tc : Thread Cert.FwdB.nD Cert.FwdB.τ).loc Cert.FwdB.main_arg2) = m ((c.tc : Thread Cert.FwdB.nD Cert.FwdB.τ).loc Cert.FwdB.main_arg2)
      ∧ r.2.mem ((c.tc : Thread Cert.FwdB.nD Cert.FwdB.τ).loc Cert.FwdB.main_arg3) = m ((c.tc : Thread Cert.FwdB.nD Cert.FwdB.τ).loc Cert.FwdB.main_arg3)
      ∧ r.2.mem ((c.tc : Thread Cert.FwdB.nD Cert.FwdB.τ).loc Cert.FwdB.main_arg4) = m ((c.tc : Thread Cert.FwdB.nD Cert.FwdB.τ).loc Cert.FwdB.main_arg4)
      ∧ r.2.mem ((c.tc : Thread Cert.FwdB.nD Cert.FwdB.τ).loc Cert.FwdB.main_arg5) = m ((c.tc : Thread Cert.FwdB.nD Cert.FwdB.τ).loc Cert.FwdB.main_arg5))
      ∧ r.2.sem = fun _ => 0)

def quiescent_FwdBIdeal [hFwdBIdeal : Cert.FwdBIdeal.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2)
      ∧ r.2.mem ((c.tc : Thread Cert.FwdBIdeal.nD Cert.FwdBIdeal.τ).loc Cert.FwdBIdeal.main_arg3) = m ((c.tc : Thread Cert.FwdBIdeal.nD Cert.FwdBIdeal.τ).loc Cert.FwdBIdeal.main_arg3)
      ∧ r.2.mem ((c.tc : Thread Cert.FwdBIdeal.nD Cert.FwdBIdeal.τ).loc Cert.FwdBIdeal.main_arg4) = m ((c.tc : Thread Cert.FwdBIdeal.nD Cert.FwdBIdeal.τ).loc Cert.FwdBIdeal.main_arg4)
      ∧ r.2.mem ((c.tc : Thread Cert.FwdBIdeal.nD Cert.FwdBIdeal.τ).loc Cert.FwdBIdeal.main_arg5) = m ((c.tc : Thread Cert.FwdBIdeal.nD Cert.FwdBIdeal.τ).loc Cert.FwdBIdeal.main_arg5))
      ∧ r.2.sem = fun _ => 0)

def quiescent_FwdBRefIdeal [hFwdBRefIdeal : Cert.FwdBRefIdeal.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2)
      ∧ r.2.mem ((c.tc : Thread Cert.FwdBRefIdeal.nD Cert.FwdBRefIdeal.τ).loc Cert.FwdBRefIdeal.main_arg3) = m ((c.tc : Thread Cert.FwdBRefIdeal.nD Cert.FwdBRefIdeal.τ).loc Cert.FwdBRefIdeal.main_arg3)
      ∧ r.2.mem ((c.tc : Thread Cert.FwdBRefIdeal.nD Cert.FwdBRefIdeal.τ).loc Cert.FwdBRefIdeal.main_arg4) = m ((c.tc : Thread Cert.FwdBRefIdeal.nD Cert.FwdBRefIdeal.τ).loc Cert.FwdBRefIdeal.main_arg4)
      ∧ r.2.mem ((c.tc : Thread Cert.FwdBRefIdeal.nD Cert.FwdBRefIdeal.τ).loc Cert.FwdBRefIdeal.main_arg5) = m ((c.tc : Thread Cert.FwdBRefIdeal.nD Cert.FwdBRefIdeal.τ).loc Cert.FwdBRefIdeal.main_arg5))
      ∧ r.2.sem = fun _ => 0)

def quiescent_FwdA [hFwdA : Cert.FwdA.Facts] : Prop :=
  ∀ (m : (ℓ : Loc Cert.FwdA.nD Cert.FwdA.τ Cert.FwdA.sig) → Buf (Elt Bits) ℓ) (g : Dev Cert.FwdA.nD → PrngReg), Pre_FwdA m →
    θ_run (Cert.FwdA.defs (F := Bits)) (onTc (τ := Cert.FwdA.τ) (Cert.FwdA.main (F := Bits))) ⟨m, fun _ => 0, g⟩ (fun r => (∀ c : Dev Cert.FwdA.nD,
      r.2.mem ((c.tc : Thread Cert.FwdA.nD Cert.FwdA.τ).loc Cert.FwdA.main_arg0) = m ((c.tc : Thread Cert.FwdA.nD Cert.FwdA.τ).loc Cert.FwdA.main_arg0)
      ∧ r.2.mem ((c.tc : Thread Cert.FwdA.nD Cert.FwdA.τ).loc Cert.FwdA.main_arg1) = m ((c.tc : Thread Cert.FwdA.nD Cert.FwdA.τ).loc Cert.FwdA.main_arg1)
      ∧ r.2.mem ((c.tc : Thread Cert.FwdA.nD Cert.FwdA.τ).loc Cert.FwdA.main_arg2) = m ((c.tc : Thread Cert.FwdA.nD Cert.FwdA.τ).loc Cert.FwdA.main_arg2)
      ∧ r.2.mem ((c.tc : Thread Cert.FwdA.nD Cert.FwdA.τ).loc Cert.FwdA.main_arg3) = m ((c.tc : Thread Cert.FwdA.nD Cert.FwdA.τ).loc Cert.FwdA.main_arg3))
      ∧ r.2.sem = fun _ => 0)

def quiescent_FwdAIdeal [hFwdAIdeal : Cert.FwdAIdeal.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2)
      ∧ r.2.mem ((c.tc : Thread Cert.FwdAIdeal.nD Cert.FwdAIdeal.τ).loc Cert.FwdAIdeal.main_arg3) = m ((c.tc : Thread Cert.FwdAIdeal.nD Cert.FwdAIdeal.τ).loc Cert.FwdAIdeal.main_arg3))
      ∧ r.2.sem = fun _ => 0)

def quiescent_FwdARefIdeal [hFwdARefIdeal : Cert.FwdARefIdeal.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2)
      ∧ r.2.mem ((c.tc : Thread Cert.FwdARefIdeal.nD Cert.FwdARefIdeal.τ).loc Cert.FwdARefIdeal.main_arg3) = m ((c.tc : Thread Cert.FwdARefIdeal.nD Cert.FwdARefIdeal.τ).loc Cert.FwdARefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v65) = v0 c
          ∧ r.2.mem ((c.tc : Thread Cert.ConvRefIdeal.nD Cert.ConvRefIdeal.τ).loc Cert.ConvRefIdeal.main_v66) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0_0)) (v1 : (c : Dev Cert.DownDwIdeal.nD) → Buf (Elt Ideal) ((c.tc : Thread Cert.DownDwIdeal.nD Cert.DownDwIdeal.τ).loc Cert.DownDwIdeal.main_v0_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0_0) = v0 c
          ∧ r.2.mem ((c.tc : Thread Cert.DownDwIdeal.nD Cert.DownDwIdeal.τ).loc Cert.DownDwIdeal.main_v0_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_v6) = v1 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0_0)) (v1 : (c : Dev Cert.UpDwIdeal.nD) → Buf (Elt Ideal) ((c.tc : Thread Cert.UpDwIdeal.nD Cert.UpDwIdeal.τ).loc Cert.UpDwIdeal.main_v0_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0_0) = v0 c
          ∧ r.2.mem ((c.tc : Thread Cert.UpDwIdeal.nD Cert.UpDwIdeal.τ).loc Cert.UpDwIdeal.main_v0_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_v9) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_Attn_AttnIdeal : Prop :=
  IdealRules.named_const.Statement Cert.AttnIdeal.κ "far" .f32 0x7149F2CA#32 ⊤
  ∧ IdealRules.named_const.Statement Cert.AttnIdeal.κ "log2e" .f32 0x3FB8AA3B#32 (((Real.log 2)⁻¹ : ℝ) : EReal)
  ∧ IdealRules.named_const.Statement Cert.AttnIdeal.κ "slope0" .f32 0x3F38AA3B#32 (((1 / 2) * (Real.log 2)⁻¹ : ℝ) : EReal)
  ∧ IdealRules.named_const.Statement Cert.AttnIdeal.κ "slope1" .f32 0x3EB8AA3B#32 (((1 / 4) * (Real.log 2)⁻¹ : ℝ) : EReal)
  ∧ IdealRules.named_const.Statement Cert.AttnIdeal.κ "slope2" .f32 0x3E38AA3B#32 (((1 / 8) * (Real.log 2)⁻¹ : ℝ) : EReal)
  ∧ IdealRules.named_const.Statement Cert.AttnIdeal.κ "slope3" .f32 0x3DB8AA3B#32 (((1 / 16) * (Real.log 2)⁻¹ : ℝ) : EReal)
  ∧ IdealRules.named_const.Statement Cert.AttnIdeal.κ "slope4" .f32 0x3D38AA3B#32 (((1 / 32) * (Real.log 2)⁻¹ : ℝ) : EReal)
  ∧ IdealRules.named_const.Statement Cert.AttnIdeal.κ "slope5" .f32 0x3CB8AA3B#32 (((1 / 64) * (Real.log 2)⁻¹ : ℝ) : EReal)
  ∧ IdealRules.named_const.Statement Cert.AttnIdeal.κ "slope6" .f32 0x3C38AA3B#32 (((1 / 128) * (Real.log 2)⁻¹ : ℝ) : EReal)
  ∧ IdealRules.named_const.Statement Cert.AttnIdeal.κ "slope7" .f32 0x3BB8AA3B#32 (((1 / 256) * (Real.log 2)⁻¹ : ℝ) : EReal)
  ∧ IdealRules.named_const.Statement Cert.AttnIdeal.κ "ln2" .f32 0x3F317218#32 ((Real.log 2 : ℝ) : EReal)

def algebraic_AttnIdeal_AttnRefIdeal_on_attn_written_pre_attn_finite [hAttnIdeal : Cert.AttnIdeal.Facts] [hAttnRefIdeal : Cert.AttnRefIdeal.Facts] [hPre_attn_finite : Cert.Pre_attn_finite.Facts] [hOn_attn_written : Cert.On_attn_written.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v120_0)) (v1 : (c : Dev Cert.AttnIdeal.nD) → Buf (Elt Ideal) ((c.tc : Thread Cert.AttnIdeal.nD Cert.AttnIdeal.τ).loc Cert.AttnIdeal.main_v120_1)) (v2 : (c : Dev Cert.AttnIdeal.nD) → Buf (Elt Ideal) ((c.tc : Thread Cert.AttnIdeal.nD Cert.AttnIdeal.τ).loc Cert.AttnIdeal.main_v120_2)) (v3 : (c : Dev Cert.AttnIdeal.nD) → Buf (Elt Ideal) ((c.tc : Thread Cert.AttnIdeal.nD Cert.AttnIdeal.τ).loc Cert.AttnIdeal.main_v120_3)) (v4 : (c : Dev Cert.AttnIdeal.nD) → Buf (Elt Ideal) ((c.tc : Thread Cert.AttnIdeal.nD Cert.AttnIdeal.τ).loc Cert.AttnIdeal.main_v120_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 i = 1#1 → r.2.mem ((c.tc : Thread Cert.AttnIdeal.nD Cert.AttnIdeal.τ).loc Cert.AttnIdeal.main_v120_0) i = v0 c i)
          ∧ (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 i = 1#1 → r.2.mem ((c.tc : Thread Cert.AttnIdeal.nD Cert.AttnIdeal.τ).loc Cert.AttnIdeal.main_v120_1) i = v1 c i)
          ∧ (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 i = 1#1 → r.2.mem ((c.tc : Thread Cert.AttnIdeal.nD Cert.AttnIdeal.τ).loc Cert.AttnIdeal.main_v120_2) i = v2 c i)
          ∧ (∀ i : (⟨2, ![128, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 i = 1#1 → r.2.mem ((c.tc : Thread Cert.AttnIdeal.nD Cert.AttnIdeal.τ).loc Cert.AttnIdeal.main_v120_3) i = v3 c i)
          ∧ (∀ i : (⟨2, ![128, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2 i = 1#1 → r.2.mem ((c.tc : Thread Cert.AttnIdeal.nD Cert.AttnIdeal.τ).loc Cert.AttnIdeal.main_v120_4) i = v4 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 i = 1#1 → r.2.mem ((c.tc : Thread Cert.AttnRefIdeal.nD Cert.AttnRefIdeal.τ).loc Cert.AttnRefIdeal.main_v229) i = v0 c i)
          ∧ (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 i = 1#1 → r.2.mem ((c.tc : Thread Cert.AttnRefIdeal.nD Cert.AttnRefIdeal.τ).loc Cert.AttnRefIdeal.main_v228) i = v1 c i)
          ∧ (∀ i : (⟨2, ![8192, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 i = 1#1 → r.2.mem ((c.tc : Thread Cert.AttnRefIdeal.nD Cert.AttnRefIdeal.τ).loc Cert.AttnRefIdeal.main_v227) i = v2 c i)
          ∧ (∀ i : (⟨2, ![128, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 i = 1#1 → r.2.mem ((c.tc : Thread Cert.AttnRefIdeal.nD Cert.AttnRefIdeal.τ).loc Cert.AttnRefIdeal.main_v230) i = v3 c i)
          ∧ (∀ i : (⟨2, ![128, 512]⟩ : Shape).Idx, (Cert.On_attn_written.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2 i = 1#1 → r.2.mem ((c.tc : Thread Cert.AttnRefIdeal.nD Cert.AttnRefIdeal.τ).loc Cert.AttnRefIdeal.main_v231) i = v4 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v27) = v0 c
          ∧ r.2.mem ((c.tc : Thread Cert.GateRefIdeal.nD Cert.GateRefIdeal.τ).loc Cert.GateRefIdeal.main_v29) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_NormB_NormBIdeal : Prop :=
  True

def algebraic_NormBIdeal_NormBRefIdeal_pre_norm2_finite [hNormBIdeal : Cert.NormBIdeal.Facts] [hNormBRefIdeal : Cert.NormBRefIdeal.Facts] [hPre_norm2_finite : Cert.Pre_norm2_finite.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal_norm2_finite m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)
      ∧ m' ((c.tc : Thread Cert.NormBRefIdeal.nD Cert.NormBRefIdeal.τ).loc Cert.NormBRefIdeal.main_arg4) = m ((c.tc : Thread Cert.NormBIdeal.nD Cert.NormBIdeal.τ).loc Cert.NormBIdeal.main_arg4)
      ∧ m' ((c.tc : Thread Cert.NormBRefIdeal.nD Cert.NormBRefIdeal.τ).loc Cert.NormBRefIdeal.main_arg5) = m ((c.tc : Thread Cert.NormBIdeal.nD Cert.NormBIdeal.τ).loc Cert.NormBIdeal.main_arg5)
      ∧ m' ((c.tc : Thread Cert.NormBRefIdeal.nD Cert.NormBRefIdeal.τ).loc Cert.NormBRefIdeal.main_arg6) = m ((c.tc : Thread Cert.NormBIdeal.nD Cert.NormBIdeal.τ).loc Cert.NormBIdeal.main_arg6)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)) (v2 : (c : Dev Cert.NormBIdeal.nD) → Buf (Elt Ideal) ((c.tc : Thread Cert.NormBIdeal.nD Cert.NormBIdeal.τ).loc Cert.NormBIdeal.main_v0_2)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_v0_2) = v2 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
          ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5)
          ∧ r.2.mem ((c.tc : Thread Cert.NormBIdeal.nD Cert.NormBIdeal.τ).loc Cert.NormBIdeal.main_arg6) = m ((c.tc : Thread Cert.NormBIdeal.nD Cert.NormBIdeal.τ).loc Cert.NormBIdeal.main_arg6))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v65) = v0 c
          ∧ r.2.mem ((c.tc : Thread Cert.NormBRefIdeal.nD Cert.NormBRefIdeal.τ).loc Cert.NormBRefIdeal.main_v73) = v1 c
          ∧ r.2.mem ((c.tc : Thread Cert.NormBRefIdeal.nD Cert.NormBRefIdeal.τ).loc Cert.NormBRefIdeal.main_v78) = v2 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3)
          ∧ r.2.mem ((c.tc : Thread Cert.NormBRefIdeal.nD Cert.NormBRefIdeal.τ).loc Cert.NormBRefIdeal.main_arg4) = m' ((c.tc : Thread Cert.NormBRefIdeal.nD Cert.NormBRefIdeal.τ).loc Cert.NormBRefIdeal.main_arg4)
          ∧ r.2.mem ((c.tc : Thread Cert.NormBRefIdeal.nD Cert.NormBRefIdeal.τ).loc Cert.NormBRefIdeal.main_arg5) = m' ((c.tc : Thread Cert.NormBRefIdeal.nD Cert.NormBRefIdeal.τ).loc Cert.NormBRefIdeal.main_arg5)
          ∧ r.2.mem ((c.tc : Thread Cert.NormBRefIdeal.nD Cert.NormBRefIdeal.τ).loc Cert.NormBRefIdeal.main_arg6) = m' ((c.tc : Thread Cert.NormBRefIdeal.nD Cert.NormBRefIdeal.τ).loc Cert.NormBRefIdeal.main_arg6))

def preserves_NormA_NormAIdeal : Prop :=
  True

def algebraic_NormAIdeal_NormARefIdeal_pre_norm1_finite [hNormAIdeal : Cert.NormAIdeal.Facts] [hNormARefIdeal : Cert.NormARefIdeal.Facts] [hPre_norm1_finite : Cert.Pre_norm1_finite.Facts] : Prop :=
  ∀ (m : (ℓ : Loc Cert.NormAIdeal.nD Cert.NormAIdeal.τ Cert.NormAIdeal.sig) → Buf (Elt Ideal) ℓ) (g : Dev Cert.NormAIdeal.nD → PrngReg)
    (m' : (ℓ : Loc Cert.NormARefIdeal.nD Cert.NormARefIdeal.τ Cert.NormARefIdeal.sig) → Buf (Elt Ideal) ℓ) (g' : Dev Cert.NormARefIdeal.nD → PrngReg), Pre_NormAIdeal_norm1_finite m →
    (∀ c : Dev Cert.NormAIdeal.nD,
      m' ((c.tc : Thread Cert.NormARefIdeal.nD Cert.NormARefIdeal.τ).loc Cert.NormARefIdeal.main_arg0) = m ((c.tc : Thread Cert.NormAIdeal.nD Cert.NormAIdeal.τ).loc Cert.NormAIdeal.main_arg0)
      ∧ m' ((c.tc : Thread Cert.NormARefIdeal.nD Cert.NormARefIdeal.τ).loc Cert.NormARefIdeal.main_arg1) = m ((c.tc : Thread Cert.NormAIdeal.nD Cert.NormAIdeal.τ).loc Cert.NormAIdeal.main_arg1)
      ∧ m' ((c.tc : Thread Cert.NormARefIdeal.nD Cert.NormARefIdeal.τ).loc Cert.NormARefIdeal.main_arg2) = m ((c.tc : Thread Cert.NormAIdeal.nD Cert.NormAIdeal.τ).loc Cert.NormAIdeal.main_arg2)
      ∧ m' ((c.tc : Thread Cert.NormARefIdeal.nD Cert.NormARefIdeal.τ).loc Cert.NormARefIdeal.main_arg3) = m ((c.tc : Thread Cert.NormAIdeal.nD Cert.NormAIdeal.τ).loc Cert.NormAIdeal.main_arg3)
      ∧ m' ((c.tc : Thread Cert.NormARefIdeal.nD Cert.NormARefIdeal.τ).loc Cert.NormARefIdeal.main_arg4) = m ((c.tc : Thread Cert.NormAIdeal.nD Cert.NormAIdeal.τ).loc Cert.NormAIdeal.main_arg4)) →
    ∃ (v0 : (c : Dev Cert.NormAIdeal.nD) → Buf (Elt Ideal) ((c.tc : Thread Cert.NormAIdeal.nD Cert.NormAIdeal.τ).loc Cert.NormAIdeal.main_v0_0)) (v1 : (c : Dev Cert.NormAIdeal.nD) → Buf (Elt Ideal) ((c.tc : Thread Cert.NormAIdeal.nD Cert.NormAIdeal.τ).loc Cert.NormAIdeal.main_v0_1)),
      θ_run (Cert.NormAIdeal.defs (F := Ideal)) (onTc (τ := Cert.NormAIdeal.τ) (Cert.NormAIdeal.main (F := Ideal))) ⟨m, fun _ => 0, g⟩ (fun r => ∀ c : Dev Cert.NormAIdeal.nD,
          r.2.mem ((c.tc : Thread Cert.NormAIdeal.nD Cert.NormAIdeal.τ).loc Cert.NormAIdeal.main_v0_0) = v0 c
          ∧ r.2.mem ((c.tc : Thread Cert.NormAIdeal.nD Cert.NormAIdeal.τ).loc Cert.NormAIdeal.main_v0_1) = v1 c
          ∧ r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
          ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1)
          ∧ r.2.mem ((c.tc : Thread Cert.NormAIdeal.nD Cert.NormAIdeal.τ).loc Cert.NormAIdeal.main_arg2) = m ((c.tc : Thread Cert.NormAIdeal.nD Cert.NormAIdeal.τ).loc Cert.NormAIdeal.main_arg2)
          ∧ r.2.mem ((c.tc : Thread Cert.NormAIdeal.nD Cert.NormAIdeal.τ).loc Cert.NormAIdeal.main_arg3) = m ((c.tc : Thread Cert.NormAIdeal.nD Cert.NormAIdeal.τ).loc Cert.NormAIdeal.main_arg3)
          ∧ r.2.mem ((c.tc : Thread Cert.NormAIdeal.nD Cert.NormAIdeal.τ).loc Cert.NormAIdeal.main_arg4) = m ((c.tc : Thread Cert.NormAIdeal.nD Cert.NormAIdeal.τ).loc Cert.NormAIdeal.main_arg4))
      ∧ θ_run (Cert.NormARefIdeal.defs (F := Ideal)) (onTc (τ := Cert.NormARefIdeal.τ) (Cert.NormARefIdeal.main (F := Ideal))) ⟨m', fun _ => 0, g'⟩ (fun r => ∀ c : Dev Cert.NormARefIdeal.nD,
          r.2.mem ((c.tc : Thread Cert.NormARefIdeal.nD Cert.NormARefIdeal.τ).loc Cert.NormARefIdeal.main_v65) = v0 c
          ∧ r.2.mem ((c.tc : Thread Cert.NormARefIdeal.nD Cert.NormARefIdeal.τ).loc Cert.NormARefIdeal.main_v71) = v1 c
          ∧ r.2.mem ((c.tc : Thread Cert.NormARefIdeal.nD Cert.NormARefIdeal.τ).loc Cert.NormARefIdeal.main_arg0) = m' ((c.tc : Thread Cert.NormARefIdeal.nD Cert.NormARefIdeal.τ).loc Cert.NormARefIdeal.main_arg0)
          ∧ r.2.mem ((c.tc : Thread Cert.NormARefIdeal.nD Cert.NormARefIdeal.τ).loc Cert.NormARefIdeal.main_arg1) = m' ((c.tc : Thread Cert.NormARefIdeal.nD Cert.NormARefIdeal.τ).loc Cert.NormARefIdeal.main_arg1)
          ∧ r.2.mem ((c.tc : Thread Cert.NormARefIdeal.nD Cert.NormARefIdeal.τ).loc Cert.NormARefIdeal.main_arg2) = m' ((c.tc : Thread Cert.NormARefIdeal.nD Cert.NormARefIdeal.τ).loc Cert.NormARefIdeal.main_arg2)
          ∧ r.2.mem ((c.tc : Thread Cert.NormARefIdeal.nD Cert.NormARefIdeal.τ).loc Cert.NormARefIdeal.main_arg3) = m' ((c.tc : Thread Cert.NormARefIdeal.nD Cert.NormARefIdeal.τ).loc Cert.NormARefIdeal.main_arg3)
          ∧ r.2.mem ((c.tc : Thread Cert.NormARefIdeal.nD Cert.NormARefIdeal.τ).loc Cert.NormARefIdeal.main_arg4) = m' ((c.tc : Thread Cert.NormARefIdeal.nD Cert.NormARefIdeal.τ).loc Cert.NormARefIdeal.main_arg4))

def preserves_FwdB_FwdBIdeal : Prop :=
  True

def algebraic_FwdBIdeal_FwdBRefIdeal [hFwdBIdeal : Cert.FwdBIdeal.Facts] [hFwdBRefIdeal : Cert.FwdBRefIdeal.Facts] : Prop :=
  ∀ (m : (ℓ : Loc Cert.FwdBIdeal.nD Cert.FwdBIdeal.τ Cert.FwdBIdeal.sig) → Buf (Elt Ideal) ℓ) (g : Dev Cert.FwdBIdeal.nD → PrngReg)
    (m' : (ℓ : Loc Cert.FwdBRefIdeal.nD Cert.FwdBRefIdeal.τ Cert.FwdBRefIdeal.sig) → Buf (Elt Ideal) ℓ) (g' : Dev Cert.FwdBRefIdeal.nD → PrngReg), Pre_FwdBIdeal m →
    (∀ c : Dev Cert.FwdBIdeal.nD,
      m' ((c.tc : Thread Cert.FwdBRefIdeal.nD Cert.FwdBRefIdeal.τ).loc Cert.FwdBRefIdeal.main_arg0) = m ((c.tc : Thread Cert.FwdBIdeal.nD Cert.FwdBIdeal.τ).loc Cert.FwdBIdeal.main_arg0)
      ∧ m' ((c.tc : Thread Cert.FwdBRefIdeal.nD Cert.FwdBRefIdeal.τ).loc Cert.FwdBRefIdeal.main_arg1) = m ((c.tc : Thread Cert.FwdBIdeal.nD Cert.FwdBIdeal.τ).loc Cert.FwdBIdeal.main_arg1)
      ∧ m' ((c.tc : Thread Cert.FwdBRefIdeal.nD Cert.FwdBRefIdeal.τ).loc Cert.FwdBRefIdeal.main_arg2) = m ((c.tc : Thread Cert.FwdBIdeal.nD Cert.FwdBIdeal.τ).loc Cert.FwdBIdeal.main_arg2)
      ∧ m' ((c.tc : Thread Cert.FwdBRefIdeal.nD Cert.FwdBRefIdeal.τ).loc Cert.FwdBRefIdeal.main_arg3) = m ((c.tc : Thread Cert.FwdBIdeal.nD Cert.FwdBIdeal.τ).loc Cert.FwdBIdeal.main_arg3)
      ∧ m' ((c.tc : Thread Cert.FwdBRefIdeal.nD Cert.FwdBRefIdeal.τ).loc Cert.FwdBRefIdeal.main_arg4) = m ((c.tc : Thread Cert.FwdBIdeal.nD Cert.FwdBIdeal.τ).loc Cert.FwdBIdeal.main_arg4)
      ∧ m' ((c.tc : Thread Cert.FwdBRefIdeal.nD Cert.FwdBRefIdeal.τ).loc Cert.FwdBRefIdeal.main_arg5) = m ((c.tc : Thread Cert.FwdBIdeal.nD Cert.FwdBIdeal.τ).loc Cert.FwdBIdeal.main_arg5)) →
    ∃ (v0 : (c : Dev Cert.FwdBIdeal.nD) → Buf (Elt Ideal) ((c.tc : Thread Cert.FwdBIdeal.nD Cert.FwdBIdeal.τ).loc Cert.FwdBIdeal.main_v0_0)) (v1 : (c : Dev Cert.FwdBIdeal.nD) → Buf (Elt Ideal) ((c.tc : Thread Cert.FwdBIdeal.nD Cert.FwdBIdeal.τ).loc Cert.FwdBIdeal.main_v0_1)) (v2 : (c : Dev Cert.FwdBIdeal.nD) → Buf (Elt Ideal) ((c.tc : Thread Cert.FwdBIdeal.nD Cert.FwdBIdeal.τ).loc Cert.FwdBIdeal.main_v0_2)),
      θ_run (Cert.FwdBIdeal.defs (F := Ideal)) (onTc (τ := Cert.FwdBIdeal.τ) (Cert.FwdBIdeal.main (F := Ideal))) ⟨m, fun _ => 0, g⟩ (fun r => ∀ c : Dev Cert.FwdBIdeal.nD,
          r.2.mem ((c.tc : Thread Cert.FwdBIdeal.nD Cert.FwdBIdeal.τ).loc Cert.FwdBIdeal.main_v0_0) = v0 c
          ∧ r.2.mem ((c.tc : Thread Cert.FwdBIdeal.nD Cert.FwdBIdeal.τ).loc Cert.FwdBIdeal.main_v0_1) = v1 c
          ∧ r.2.mem ((c.tc : Thread Cert.FwdBIdeal.nD Cert.FwdBIdeal.τ).loc Cert.FwdBIdeal.main_v0_2) = v2 c
          ∧ r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
          ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
          ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2)
          ∧ r.2.mem ((c.tc : Thread Cert.FwdBIdeal.nD Cert.FwdBIdeal.τ).loc Cert.FwdBIdeal.main_arg3) = m ((c.tc : Thread Cert.FwdBIdeal.nD Cert.FwdBIdeal.τ).loc Cert.FwdBIdeal.main_arg3)
          ∧ r.2.mem ((c.tc : Thread Cert.FwdBIdeal.nD Cert.FwdBIdeal.τ).loc Cert.FwdBIdeal.main_arg4) = m ((c.tc : Thread Cert.FwdBIdeal.nD Cert.FwdBIdeal.τ).loc Cert.FwdBIdeal.main_arg4)
          ∧ r.2.mem ((c.tc : Thread Cert.FwdBIdeal.nD Cert.FwdBIdeal.τ).loc Cert.FwdBIdeal.main_arg5) = m ((c.tc : Thread Cert.FwdBIdeal.nD Cert.FwdBIdeal.τ).loc Cert.FwdBIdeal.main_arg5))
      ∧ θ_run (Cert.FwdBRefIdeal.defs (F := Ideal)) (onTc (τ := Cert.FwdBRefIdeal.τ) (Cert.FwdBRefIdeal.main (F := Ideal))) ⟨m', fun _ => 0, g'⟩ (fun r => ∀ c : Dev Cert.FwdBRefIdeal.nD,
          r.2.mem ((c.tc : Thread Cert.FwdBRefIdeal.nD Cert.FwdBRefIdeal.τ).loc Cert.FwdBRefIdeal.main_v2) = v0 c
          ∧ r.2.mem ((c.tc : Thread Cert.FwdBRefIdeal.nD Cert.FwdBRefIdeal.τ).loc Cert.FwdBRefIdeal.main_v21) = v1 c
          ∧ r.2.mem ((c.tc : Thread Cert.FwdBRefIdeal.nD Cert.FwdBRefIdeal.τ).loc Cert.FwdBRefIdeal.main_v23) = v2 c
          ∧ r.2.mem ((c.tc : Thread Cert.FwdBRefIdeal.nD Cert.FwdBRefIdeal.τ).loc Cert.FwdBRefIdeal.main_arg0) = m' ((c.tc : Thread Cert.FwdBRefIdeal.nD Cert.FwdBRefIdeal.τ).loc Cert.FwdBRefIdeal.main_arg0)
          ∧ r.2.mem ((c.tc : Thread Cert.FwdBRefIdeal.nD Cert.FwdBRefIdeal.τ).loc Cert.FwdBRefIdeal.main_arg1) = m' ((c.tc : Thread Cert.FwdBRefIdeal.nD Cert.FwdBRefIdeal.τ).loc Cert.FwdBRefIdeal.main_arg1)
          ∧ r.2.mem ((c.tc : Thread Cert.FwdBRefIdeal.nD Cert.FwdBRefIdeal.τ).loc Cert.FwdBRefIdeal.main_arg2) = m' ((c.tc : Thread Cert.FwdBRefIdeal.nD Cert.FwdBRefIdeal.τ).loc Cert.FwdBRefIdeal.main_arg2)
          ∧ r.2.mem ((c.tc : Thread Cert.FwdBRefIdeal.nD Cert.FwdBRefIdeal.τ).loc Cert.FwdBRefIdeal.main_arg3) = m' ((c.tc : Thread Cert.FwdBRefIdeal.nD Cert.FwdBRefIdeal.τ).loc Cert.FwdBRefIdeal.main_arg3)
          ∧ r.2.mem ((c.tc : Thread Cert.FwdBRefIdeal.nD Cert.FwdBRefIdeal.τ).loc Cert.FwdBRefIdeal.main_arg4) = m' ((c.tc : Thread Cert.FwdBRefIdeal.nD Cert.FwdBRefIdeal.τ).loc Cert.FwdBRefIdeal.main_arg4)
          ∧ r.2.mem ((c.tc : Thread Cert.FwdBRefIdeal.nD Cert.FwdBRefIdeal.τ).loc Cert.FwdBRefIdeal.main_arg5) = m' ((c.tc : Thread Cert.FwdBRefIdeal.nD Cert.FwdBRefIdeal.τ).loc Cert.FwdBRefIdeal.main_arg5))

def preserves_FwdA_FwdAIdeal : Prop :=
  True

def algebraic_FwdAIdeal_FwdARefIdeal [hFwdAIdeal : Cert.FwdAIdeal.Facts] [hFwdARefIdeal : Cert.FwdARefIdeal.Facts] : Prop :=
  ∀ (m : (ℓ : Loc Cert.FwdAIdeal.nD Cert.FwdAIdeal.τ Cert.FwdAIdeal.sig) → Buf (Elt Ideal) ℓ) (g : Dev Cert.FwdAIdeal.nD → PrngReg)
    (m' : (ℓ : Loc Cert.FwdARefIdeal.nD Cert.FwdARefIdeal.τ Cert.FwdARefIdeal.sig) → Buf (Elt Ideal) ℓ) (g' : Dev Cert.FwdARefIdeal.nD → PrngReg), Pre_FwdAIdeal m →
    (∀ c : Dev Cert.FwdAIdeal.nD,
      m' ((c.tc : Thread Cert.FwdARefIdeal.nD Cert.FwdARefIdeal.τ).loc Cert.FwdARefIdeal.main_arg0) = m ((c.tc : Thread Cert.FwdAIdeal.nD Cert.FwdAIdeal.τ).loc Cert.FwdAIdeal.main_arg0)
      ∧ m' ((c.tc : Thread Cert.FwdARefIdeal.nD Cert.FwdARefIdeal.τ).loc Cert.FwdARefIdeal.main_arg1) = m ((c.tc : Thread Cert.FwdAIdeal.nD Cert.FwdAIdeal.τ).loc Cert.FwdAIdeal.main_arg1)
      ∧ m' ((c.tc : Thread Cert.FwdARefIdeal.nD Cert.FwdARefIdeal.τ).loc Cert.FwdARefIdeal.main_arg2) = m ((c.tc : Thread Cert.FwdAIdeal.nD Cert.FwdAIdeal.τ).loc Cert.FwdAIdeal.main_arg2)
      ∧ m' ((c.tc : Thread Cert.FwdARefIdeal.nD Cert.FwdARefIdeal.τ).loc Cert.FwdARefIdeal.main_arg3) = m ((c.tc : Thread Cert.FwdAIdeal.nD Cert.FwdAIdeal.τ).loc Cert.FwdAIdeal.main_arg3)) →
    ∃ (v0 : (c : Dev Cert.FwdAIdeal.nD) → Buf (Elt Ideal) ((c.tc : Thread Cert.FwdAIdeal.nD Cert.FwdAIdeal.τ).loc Cert.FwdAIdeal.main_v0_0)) (v1 : (c : Dev Cert.FwdAIdeal.nD) → Buf (Elt Ideal) ((c.tc : Thread Cert.FwdAIdeal.nD Cert.FwdAIdeal.τ).loc Cert.FwdAIdeal.main_v0_1)),
      θ_run (Cert.FwdAIdeal.defs (F := Ideal)) (onTc (τ := Cert.FwdAIdeal.τ) (Cert.FwdAIdeal.main (F := Ideal))) ⟨m, fun _ => 0, g⟩ (fun r => ∀ c : Dev Cert.FwdAIdeal.nD,
          r.2.mem ((c.tc : Thread Cert.FwdAIdeal.nD Cert.FwdAIdeal.τ).loc Cert.FwdAIdeal.main_v0_0) = v0 c
          ∧ r.2.mem ((c.tc : Thread Cert.FwdAIdeal.nD Cert.FwdAIdeal.τ).loc Cert.FwdAIdeal.main_v0_1) = v1 c
          ∧ r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
          ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
          ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2)
          ∧ r.2.mem ((c.tc : Thread Cert.FwdAIdeal.nD Cert.FwdAIdeal.τ).loc Cert.FwdAIdeal.main_arg3) = m ((c.tc : Thread Cert.FwdAIdeal.nD Cert.FwdAIdeal.τ).loc Cert.FwdAIdeal.main_arg3))
      ∧ θ_run (Cert.FwdARefIdeal.defs (F := Ideal)) (onTc (τ := Cert.FwdARefIdeal.τ) (Cert.FwdARefIdeal.main (F := Ideal))) ⟨m', fun _ => 0, g'⟩ (fun r => ∀ c : Dev Cert.FwdARefIdeal.nD,
          r.2.mem ((c.tc : Thread Cert.FwdARefIdeal.nD Cert.FwdARefIdeal.τ).loc Cert.FwdARefIdeal.main_v18) = v0 c
          ∧ r.2.mem ((c.tc : Thread Cert.FwdARefIdeal.nD Cert.FwdARefIdeal.τ).loc Cert.FwdARefIdeal.main_v20) = v1 c
          ∧ r.2.mem ((c.tc : Thread Cert.FwdARefIdeal.nD Cert.FwdARefIdeal.τ).loc Cert.FwdARefIdeal.main_arg0) = m' ((c.tc : Thread Cert.FwdARefIdeal.nD Cert.FwdARefIdeal.τ).loc Cert.FwdARefIdeal.main_arg0)
          ∧ r.2.mem ((c.tc : Thread Cert.FwdARefIdeal.nD Cert.FwdARefIdeal.τ).loc Cert.FwdARefIdeal.main_arg1) = m' ((c.tc : Thread Cert.FwdARefIdeal.nD Cert.FwdARefIdeal.τ).loc Cert.FwdARefIdeal.main_arg1)
          ∧ r.2.mem ((c.tc : Thread Cert.FwdARefIdeal.nD Cert.FwdARefIdeal.τ).loc Cert.FwdARefIdeal.main_arg2) = m' ((c.tc : Thread Cert.FwdARefIdeal.nD Cert.FwdARefIdeal.τ).loc Cert.FwdARefIdeal.main_arg2)
          ∧ r.2.mem ((c.tc : Thread Cert.FwdARefIdeal.nD Cert.FwdARefIdeal.τ).loc Cert.FwdARefIdeal.main_arg3) = m' ((c.tc : Thread Cert.FwdARefIdeal.nD Cert.FwdARefIdeal.τ).loc Cert.FwdARefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v29) = v1 c
          ∧ r.2.mem ((c.tc : Thread Cert.LossRefIdeal.nD Cert.LossRefIdeal.τ).loc Cert.LossRefIdeal.main_v33) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_v33) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def Claim : Prop :=
  ∃ (hConv : Cert.Conv.Facts) (hConvIdeal : Cert.ConvIdeal.Facts) (hConvRefIdeal : Cert.ConvRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hNormB : Cert.NormB.Facts) (hNormBIdeal : Cert.NormBIdeal.Facts) (hNormBRefIdeal : Cert.NormBRefIdeal.Facts) (hNormA : Cert.NormA.Facts) (hNormAIdeal : Cert.NormAIdeal.Facts) (hNormARefIdeal : Cert.NormARefIdeal.Facts) (hFwdB : Cert.FwdB.Facts) (hFwdBIdeal : Cert.FwdBIdeal.Facts) (hFwdBRefIdeal : Cert.FwdBRefIdeal.Facts) (hFwdA : Cert.FwdA.Facts) (hFwdAIdeal : Cert.FwdAIdeal.Facts) (hFwdARefIdeal : Cert.FwdARefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hPre_attn_finite : Cert.Pre_attn_finite.Facts) (hPre_gate_finite : Cert.Pre_gate_finite.Facts) (hPre_norm2_finite : Cert.Pre_norm2_finite.Facts) (hPre_norm1_finite : Cert.Pre_norm1_finite.Facts) (hOn_attn_written : Cert.On_attn_written.Facts),
    quiescent_Conv (hConv := hConv)
    ∧ quiescent_ConvIdeal (hConvIdeal := hConvIdeal)
    ∧ quiescent_ConvRefIdeal (hConvRefIdeal := hConvRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_NormB (hNormB := hNormB)
    ∧ quiescent_NormBIdeal (hNormBIdeal := hNormBIdeal)
    ∧ quiescent_NormBIdeal_pre_norm2_finite (hNormBIdeal := hNormBIdeal) (hPre_norm2_finite := hPre_norm2_finite)
    ∧ quiescent_NormBRefIdeal (hNormBRefIdeal := hNormBRefIdeal)
    ∧ quiescent_NormBRefIdeal_pre_norm2_finite (hNormBRefIdeal := hNormBRefIdeal) (hPre_norm2_finite := hPre_norm2_finite)
    ∧ quiescent_NormA (hNormA := hNormA)
    ∧ quiescent_NormAIdeal (hNormAIdeal := hNormAIdeal)
    ∧ quiescent_NormAIdeal_pre_norm1_finite (hNormAIdeal := hNormAIdeal) (hPre_norm1_finite := hPre_norm1_finite)
    ∧ quiescent_NormARefIdeal (hNormARefIdeal := hNormARefIdeal)
    ∧ quiescent_NormARefIdeal_pre_norm1_finite (hNormARefIdeal := hNormARefIdeal) (hPre_norm1_finite := hPre_norm1_finite)
    ∧ quiescent_FwdB (hFwdB := hFwdB)
    ∧ quiescent_FwdBIdeal (hFwdBIdeal := hFwdBIdeal)
    ∧ quiescent_FwdBRefIdeal (hFwdBRefIdeal := hFwdBRefIdeal)
    ∧ quiescent_FwdA (hFwdA := hFwdA)
    ∧ quiescent_FwdAIdeal (hFwdAIdeal := hFwdAIdeal)
    ∧ quiescent_FwdARefIdeal (hFwdARefIdeal := hFwdARefIdeal)
    ∧ quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnRefIdeal (hFfnRefIdeal := hFfnRefIdeal)
    ∧ preserves_Conv_ConvIdeal
    ∧ algebraic_ConvIdeal_ConvRefIdeal (hConvIdeal := hConvIdeal) (hConvRefIdeal := hConvRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Attn_AttnIdeal
    ∧ algebraic_AttnIdeal_AttnRefIdeal_on_attn_written_pre_attn_finite (hAttnIdeal := hAttnIdeal) (hAttnRefIdeal := hAttnRefIdeal) (hPre_attn_finite := hPre_attn_finite) (hOn_attn_written := hOn_attn_written)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_NormB_NormBIdeal
    ∧ algebraic_NormBIdeal_NormBRefIdeal_pre_norm2_finite (hNormBIdeal := hNormBIdeal) (hNormBRefIdeal := hNormBRefIdeal) (hPre_norm2_finite := hPre_norm2_finite)
    ∧ preserves_NormA_NormAIdeal
    ∧ algebraic_NormAIdeal_NormARefIdeal_pre_norm1_finite (hNormAIdeal := hNormAIdeal) (hNormARefIdeal := hNormARefIdeal) (hPre_norm1_finite := hPre_norm1_finite)
    ∧ preserves_FwdB_FwdBIdeal
    ∧ algebraic_FwdBIdeal_FwdBRefIdeal (hFwdBIdeal := hFwdBIdeal) (hFwdBRefIdeal := hFwdBRefIdeal)
    ∧ preserves_FwdA_FwdAIdeal
    ∧ algebraic_FwdAIdeal_FwdARefIdeal (hFwdAIdeal := hFwdAIdeal) (hFwdARefIdeal := hFwdARefIdeal)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal (hFfnIdeal := hFfnIdeal) (hFfnRefIdeal := hFfnRefIdeal)
-- ==== On_attn_written.lean ====
abbrev S8192x512 : Shape := ⟨2, ![8192, 512]⟩
abbrev S8192x3200 : Shape := ⟨2, ![8192, 3200]⟩
abbrev S8192x8 : Shape := ⟨2, ![8192, 8]⟩
abbrev S8192x1024 : Shape := ⟨2, ![8192, 1024]⟩
abbrev S_ : Shape := ⟨0, ![]⟩
abbrev S128x512 : Shape := ⟨2, ![128, 512]⟩

class Facts : Prop where
  bcast_S_S8192x512 : S_.BroadcastsInDim S8192x512 (![] : Fin 0 → Fin S8192x512.rank)
  bcast_S_S128x512 : S_.BroadcastsInDim S128x512 (![] : Fin 0 → Fin S128x512.rank)

variable [Facts]

def fn {F : FTy → Type} [FloatOps F] (main_arg0 : FVec F S8192x512 .f32) (main_arg1 : FVec F S8192x512 .f32) (main_arg2 : FVec F S8192x3200 .f32) (main_arg3 : FVec F S8192x512 .f32) (main_arg4 : FVec F S8192x8 .f32) (main_arg5 : FVec F S8192x512 .f32) (main_arg6 : FVec F S8192x8 .f32) (main_arg7 : FVec F S8192x1024 .f32) : IVec S8192x512 1 × IVec S8192x512 1 × IVec S8192x512 1 × IVec S128x512 1 × IVec S128x512 1 :=
  let main_v0 : IVec S8192x512 32 := iotaInDim S8192x512 32 0
  let main_c : IVec S_ 32 := constantI S_ 32 0#32
  let main_v1 : IVec S8192x512 32 := broadcastInDim S8192x512 ![] bcast_S_S8192x512 main_c
  let main_v2 : IVec S8192x512 1 := cmpi .sge main_v0 main_v1
  let main_v3 : IVec S8192x512 32 := iotaInDim S8192x512 32 0
  let main_c_0 : IVec S_ 32 := constantI S_ 32 8064#32
  let main_v4 : IVec S8192x512 32 := broadcastInDim S8192x512 ![] bcast_S_S8192x512 main_c_0
  let main_v5 : IVec S8192x512 1 := cmpi .slt main_v3 main_v4
  let main_v6 : IVec S128x512 32 := iotaInDim S128x512 32 0
  let main_c_1 : IVec S_ 32 := constantI S_ 32 0#32
  let main_v7 : IVec S128x512 32 := broadcastInDim S128x512 ![] bcast_S_S128x512 main_c_1
  let main_v8 : IVec S128x512 1 := cmpi .sge main_v6 main_v7
  let main_v9 : IVec S128x512 32 := iotaInDim S128x512 32 0
  let main_c_2 : IVec S_ 32 := constantI S_ 32 0#32
  let main_v10 : IVec S128x512 32 := broadcastInDim S128x512 ![] bcast_S_S128x512 main_c_2
  let main_v11 : IVec S128x512 1 := cmpi .sge main_v9 main_v10
  (main_v2, main_v5, main_v5, main_v8, main_v11)
-- ==== Pre_attn_finite.lean ====
abbrev S8192x512 : Shape := ⟨2, ![8192, 512]⟩
abbrev S8192x3200 : Shape := ⟨2, ![8192, 3200]⟩
abbrev S8192x8 : Shape := ⟨2, ![8192, 8]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S8192x3200 : S_.BroadcastsInDim S8192x3200 (![] : Fin 0 → Fin S8192x3200.rank)
  bcast_S_S8192x8 : S_.BroadcastsInDim S8192x8 (![] : Fin 0 → Fin S8192x8.rank)
  bcast_S_S8192x1024 : S_.BroadcastsInDim S8192x1024 (![] : Fin 0 → Fin S8192x1024.rank)

variable [Facts]

def fn_part1 {F : FTy → Type} [FloatOps F] (main_arg6 : FVec F S8192x8 .f32) (main_arg7 : FVec F S8192x1024 .f32) (main_v2 : IVec S8192x512 1) (main_v5 : IVec S8192x512 1) (main_v8 : IVec S8192x3200 1) (main_v11 : IVec S8192x512 1) (main_v14 : IVec S8192x8 1) (main_v17 : IVec S8192x512 1) : IVec S8192x512 1 × IVec S8192x512 1 × IVec S8192x3200 1 × IVec S8192x512 1 × IVec S8192x8 1 × IVec S8192x512 1 × IVec S8192x8 1 × IVec S8192x1024 1 :=
  let main_v18 : FVec F S8192x8 .f32 := Host.absf main_arg6
  let main_cst_5 : FVec F S_ .f32 := constant S_ .f32 0x7F800000#32
  let main_v19 : FVec F S8192x8 .f32 := broadcastInDim S8192x8 ![] bcast_S_S8192x8 main_cst_5
  let main_v20 : IVec S8192x8 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x512 .f32) (main_arg1 : FVec F S8192x512 .f32) (main_arg2 : FVec F S8192x3200 .f32) (main_arg3 : FVec F S8192x512 .f32) (main_arg4 : FVec F S8192x8 .f32) (main_arg5 : FVec F S8192x512 .f32) (main_arg6 : FVec F S8192x8 .f32) (main_arg7 : FVec F S8192x1024 .f32) : IVec S8192x512 1 × IVec S8192x512 1 × IVec S8192x3200 1 × IVec S8192x512 1 × IVec S8192x8 1 × IVec S8192x512 1 × IVec S8192x8 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x3200 .f32 := Host.absf main_arg2
  let main_cst_1 : FVec F S_ .f32 := constant S_ .f32 0x7F800000#32
  let main_v7 : FVec F S8192x3200 .f32 := broadcastInDim S8192x3200 ![] bcast_S_S8192x3200 main_cst_1
  let main_v8 : IVec S8192x3200 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x8 .f32 := Host.absf main_arg4
  let main_cst_3 : FVec F S_ .f32 := constant S_ .f32 0x7F800000#32
  let main_v13 : FVec F S8192x8 .f32 := broadcastInDim S8192x8 ![] bcast_S_S8192x8 main_cst_3
  let main_v14 : IVec S8192x8 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_v2 main_v5 main_v8 main_v11 main_v14 main_v17
-- ==== Pre_gate_finite.lean ====
abbrev S2x8192x2816 : Shape := ⟨3, ![2, 8192, 2816]⟩
abbrev S8192x2816 : Shape := ⟨2, ![8192, 2816]⟩
abbrev S_ : Shape := ⟨0, ![]⟩

class Facts : Prop where
  bcast_S_S2x8192x2816 : S_.BroadcastsInDim S2x8192x2816 (![] : Fin 0 → Fin S2x8192x2816.rank)
  bcast_S_S8192x2816 : S_.BroadcastsInDim S8192x2816 (![] : Fin 0 → Fin S8192x2816.rank)

variable [Facts]

def fn {F : FTy → Type} [FloatOps F] (main_arg0 : FVec F S2x8192x2816 .bf16) (main_arg1 : FVec F S8192x2816 .bf16) : IVec S2x8192x2816 1 × IVec S8192x2816 1 :=
  let main_v0 : FVec F S2x8192x2816 .bf16 := Host.absf main_arg0
  let main_cst : FVec F S_ .bf16 := constant S_ .bf16 0x7F80#16
  let main_v1 : FVec F S2x8192x2816 .bf16 := broadcastInDim S2x8192x2816 ![] bcast_S_S2x8192x2816 main_cst
  let main_v2 : IVec S2x8192x2816 1 := cmpf .olt main_v0 main_v1
  let main_v3 : FVec F S8192x2816 .bf16 := Host.absf main_arg1
  let main_cst_0 : FVec F S_ .bf16 := constant S_ .bf16 0x7F80#16
  let main_v4 : FVec F S8192x2816 .bf16 := broadcastInDim S8192x2816 ![] bcast_S_S8192x2816 main_cst_0
  let main_v5 : IVec S8192x2816 1 := cmpf .olt main_v3 main_v4
  (main_v2, main_v5)
-- ==== Pre_norm1_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) : IVec S8192x1024 1 × IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_norm2_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S8192x1024 .f32) (main_arg6 : FVec F S1x1024 .f32) : IVec S8192x1024 1 × IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Conv.lean ====
abbrev S2x8192x2816 : Shape := ⟨3, ![2, 8192, 2816]⟩
abbrev S8192x5632 : Shape := ⟨2, ![8192, 5632]⟩
abbrev S3x5632 : Shape := ⟨2, ![3, 5632]⟩
abbrev S2x3x8x2816 : Shape := ⟨4, ![2, 3, 8, 2816]⟩
abbrev S1x512x1408 : Shape := ⟨3, ![1, 512, 1408]⟩
abbrev S1x16x1408 : Shape := ⟨3, ![1, 16, 1408]⟩
abbrev S512x1408 : Shape := ⟨2, ![512, 1408]⟩
abbrev S3x1408 : Shape := ⟨2, ![3, 1408]⟩
abbrev S1x3x8x1408 : Shape := ⟨4, ![1, 3, 8, 1408]⟩
abbrev S16x1408 : Shape := ⟨2, ![16, 1408]⟩
abbrev S528x1408 : Shape := ⟨2, ![528, 1408]⟩
abbrev S1x1408 : Shape := ⟨2, ![1, 1408]⟩
abbrev S1x1x8x1408 : Shape := ⟨4, ![1, 1, 8, 1408]⟩
abbrev S8x1408 : Shape := ⟨2, ![8, 1408]⟩
abbrev S64x8x1408 : Shape := ⟨3, ![64, 8, 1408]⟩
abbrev S1x3x1408 : Shape := ⟨3, ![1, 3, 1408]⟩
abbrev S1x3x1x1408 : Shape := ⟨4, ![1, 3, 1, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2x8192x2816, .bf16⟩
  | .hbm, ⟨1, _⟩ => ⟨S8192x5632, .bf16⟩
  | .hbm, ⟨2, _⟩ => ⟨S3x5632, .f32⟩
  | .hbm, ⟨3, _⟩ => ⟨S8192x5632, .bf16⟩
  | .hbm, ⟨4, _⟩ => ⟨S2x3x8x2816, .f32⟩
  | .local _ .vmem, ⟨0, _⟩ => ⟨S1x512x1408, .bf16⟩
  | .local _ .vmem, ⟨1, _⟩ => ⟨S1x512x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S512x1408, .bf16⟩
  | .local _ .vmem, ⟨5, _⟩ => ⟨S512x1408, .bf16⟩
  | .local _ .vmem, ⟨6, _⟩ => ⟨S3x1408, .f32⟩
  | .local _ .vmem, ⟨7, _⟩ => ⟨S3x1408, .f32⟩
  | .local _ .vmem, ⟨8, _⟩ => ⟨S512x1408, .bf16⟩
  | .local _ .vmem, ⟨9, _⟩ => ⟨S512x1408, .bf16⟩
  | .local _ .vmem, ⟨10, _⟩ => ⟨S1x3x8x1408, .f32⟩
  | .local _ .vmem, ⟨11, _⟩ => ⟨S1x3x8x1408, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ConvRefIdeal.lean ====
abbrev S2x8192x2816 : Shape := ⟨3, ![2, 8192, 2816]⟩
abbrev S8192x5632 : Shape := ⟨2, ![8192, 5632]⟩
abbrev S3x5632 : Shape := ⟨2, ![3, 5632]⟩
abbrev S1x8192x2816 : Shape := ⟨3, ![1, 8192, 2816]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S3x2x1x2816 : Shape := ⟨4, ![3, 2, 1, 2816]⟩
abbrev S2x3x1x2816 : Shape := ⟨4, ![2, 3, 1, 2816]⟩
abbrev S2x3x8x2816 : Shape := ⟨4, ![2, 3, 8, 2816]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x5632, .bf16⟩
  | .hbm, ⟨2, _⟩ => ⟨S3x5632, .f32⟩
  | .hbm, ⟨3, _⟩ => ⟨S1x8192x2816, .bf16⟩
  | .hbm, ⟨4, _⟩ => ⟨S8192x2816, .bf16⟩
  | .hbm, ⟨5, _⟩ => ⟨S1x8192x2816, .bf16⟩
  | .hbm, ⟨6, _⟩ => ⟨S8192x2816, .bf16⟩
  | .hbm, ⟨7, _⟩ => ⟨S8192x5632, .bf16⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S2x5632, .f32⟩
  | .hbm, ⟨12, _⟩ => ⟨S8194x5632, .f32⟩
  | .hbm, ⟨13, _⟩ => ⟨S_, .f32⟩
  | .hbm, ⟨14, _⟩ => ⟨S2x5632, .f32⟩
  | .hbm, ⟨15, _⟩ => ⟨S1x5632, .f32⟩
  | .hbm, ⟨16, _⟩ => ⟨S5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S8192x5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S5632, .f32⟩
  | .hbm, ⟨40, _⟩ => ⟨S1x5632, .f32⟩
  | .hbm, ⟨41, _⟩ => ⟨S_, .f32⟩
  | .hbm, ⟨42, _⟩ => ⟨S5632, .f32⟩
  | .hbm, ⟨43, _⟩ => ⟨S_, .f32⟩
  | .hbm, ⟨44, _⟩ => ⟨S8194x5632, .f32⟩
  | .hbm, ⟨45, _⟩ => ⟨S1x5632, .f32⟩
  | .hbm, ⟨46, _⟩ => ⟨S_, .f32⟩
  | .hbm, ⟨47, _⟩ => ⟨S3x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S_, .f32⟩
  | .hbm, ⟨52, _⟩ => ⟨S5632, .f32⟩
  | .hbm, ⟨53, _⟩ => ⟨S1x5632, .f32⟩
  | .hbm, ⟨54, _⟩ => ⟨S_, .f32⟩
  | .hbm, ⟨55, _⟩ => ⟨S5632, .f32⟩
  | .hbm, ⟨56, _⟩ => ⟨S_, .f32⟩
  | .hbm, ⟨57, _⟩ => ⟨S8194x5632, .f32⟩
  | .hbm, ⟨58, _⟩ => ⟨S8194x5632, .f32⟩
  | .hbm, ⟨59, _⟩ => ⟨S1x5632, .f32⟩
  | .hbm, ⟨60, _⟩ => ⟨S_, .f32⟩
  | .hbm, ⟨61, _⟩ => ⟨S3x5632, .f32⟩
  | .hbm, ⟨62, _⟩ => ⟨S3x5632, .f32⟩
  | .hbm, ⟨63, _⟩ => ⟨S8192x5632, .f32⟩
  | .hbm, ⟨64, _⟩ => ⟨S8192x5632, .f32⟩
  | .hbm, ⟨65, _⟩ => ⟨S8192x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S5632, .f32⟩
  | .hbm, ⟨71, _⟩ => ⟨S_, .f32⟩
  | .hbm, ⟨72, _⟩ => ⟨S8194x5632, .f32⟩
  | .hbm, ⟨73, _⟩ => ⟨S8194x5632, .f32⟩
  | .hbm, ⟨74, _⟩ => ⟨S1x5632, .f32⟩
  | .hbm, ⟨75, _⟩ => ⟨S_, .f32⟩
  | .hbm, ⟨76, _⟩ => ⟨S3x5632, .f32⟩
  | .hbm, ⟨77, _⟩ => ⟨S3x5632, .f32⟩
  | .hbm, ⟨78, _⟩ => ⟨S2x5632, .f32⟩
  | .hbm, ⟨79, _⟩ => ⟨S8192x5632, .f32⟩
  | .hbm, ⟨80, _⟩ => ⟨S3x2x1x2816, .f32⟩
  | .hbm, ⟨81, _⟩ => ⟨S2x3x1x2816, .f32⟩
  | .hbm, ⟨82, _⟩ => ⟨S8192x5632, .bf16⟩
  | .hbm, ⟨83, _⟩ => ⟨S2x3x8x2816, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S1024x8192 : Shape := ⟨2, ![1024, 8192]⟩
abbrev S8192x5632 : Shape := ⟨2, ![8192, 5632]⟩
abbrev S4x1024x1408 : Shape := ⟨3, ![4, 1024, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S4x1024x1408, .f32⟩
  | .hbm, ⟨3, _⟩ => ⟨S4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S1024x8192 : Shape := ⟨2, ![1024, 8192]⟩
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S8192x1024, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S1024x4x1408, .f32⟩
  | .hbm, ⟨11, _⟩ => ⟨S4x1024x1408, .f32⟩
  | .hbm, ⟨12, _⟩ => ⟨S4x1024x1408, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x3200 : Shape := ⟨2, ![8192, 3200]⟩
abbrev S1024x3200 : Shape := ⟨2, ![1024, 3200]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x3200 : Shape := ⟨2, ![8192, 3200]⟩
abbrev S1024x3200 : Shape := ⟨2, ![1024, 3200]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S_, .f32⟩
  | .hbm, ⟨3, _⟩ => ⟨S8192x1024, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S1024x8192 : Shape := ⟨2, ![1024, 8192]⟩
abbrev S8192x3200 : Shape := ⟨2, ![8192, 3200]⟩
abbrev S1024x3200 : Shape := ⟨2, ![1024, 3200]⟩
abbrev S512x2048 : Shape := ⟨2, ![512, 2048]⟩
abbrev S2048x3200 : Shape := ⟨2, ![2048, 3200]⟩
abbrev S512x3200 : Shape := ⟨2, ![512, 3200]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x3200, .bf16⟩
  | .hbm, ⟨2, _⟩ => ⟨S1024x3200, .f32⟩
  | .local _ .vmem, ⟨0, _⟩ => ⟨S512x2048, .bf16⟩
  | .local _ .vmem, ⟨1, _⟩ => ⟨S512x2048, .bf16⟩
  | .local _ .vmem, ⟨2, _⟩ => ⟨S2048x3200, .bf16⟩
  | .local _ .vmem, ⟨3, _⟩ => ⟨S2048x3200, .bf16⟩
  | .local _ .vmem, ⟨4, _⟩ => ⟨S512x3200, .f32⟩
  | .local _ .vmem, ⟨5, _⟩ => ⟨S512x3200, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S1024x8192 : Shape := ⟨2, ![1024, 8192]⟩
abbrev S8192x3200 : Shape := ⟨2, ![8192, 3200]⟩
abbrev S8192x1024 : Shape := ⟨2, ![8192, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3200, .bf16⟩
  | .hbm, ⟨2, _⟩ => ⟨S8192x1024, .bf16⟩
  | .hbm, ⟨3, _⟩ => ⟨S_, .f32⟩
  | .hbm, ⟨4, _⟩ => ⟨S1024x3200, .f32⟩
  | .hbm, ⟨5, _⟩ => ⟨S8192x1024, .f32⟩
  | .hbm, ⟨6, _⟩ => ⟨S8192x3200, .f32⟩
  | .hbm, ⟨7, _⟩ => ⟨S8192x3200, .f32⟩
  | .hbm, ⟨8, _⟩ => ⟨S3200x1024, .f32⟩
  | .hbm, ⟨9, _⟩ => ⟨S1024x3200, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .f32⟩
  | .local _ .vmem, ⟨4, _⟩ => ⟨S1024x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attn.lean ====
abbrev S8192x512 : Shape := ⟨2, ![8192, 512]⟩
abbrev S8192x3200 : Shape := ⟨2, ![8192, 3200]⟩
abbrev S8192x8 : Shape := ⟨2, ![8192, 8]⟩
abbrev S8192x1024 : Shape := ⟨2, ![8192, 1024]⟩
abbrev S8192x8x64 : Shape := ⟨3, ![8192, 8, 64]⟩
abbrev S_ : Shape := ⟨0, ![]⟩
abbrev S1 : Shape := ⟨1, ![1]⟩
abbrev S8 : Shape := ⟨1, ![8]⟩
abbrev S8x8192x64 : Shape := ⟨3, ![8, 8192, 64]⟩
abbrev S8x64x128x64 : Shape := ⟨4, ![8, 64, 128, 64]⟩
abbrev S8x1x128x64 : Shape := ⟨4, ![8, 1, 128, 64]⟩
abbrev S8x63x128x64 : Shape := ⟨4, ![8, 63, 128, 64]⟩
abbrev S8x64x256x64 : Shape := ⟨4, ![8, 64, 256, 64]⟩
abbrev S8x64x128x256 : Shape := ⟨4, ![8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x1x1 : Shape := ⟨4, ![8, 1, 1, 1]⟩
abbrev S1x1x128x256 : Shape := ⟨4, ![1, 1, 128, 256]⟩
abbrev S8x1x128x256 : Shape := ⟨4, ![8, 1, 128, 256]⟩
abbrev S8x64x128 : Shape := ⟨3, ![8, 64, 128]⟩
abbrev S8x64x128x1 : Shape := ⟨4, ![8, 64, 128, 1]⟩
abbrev S8x8192 : Shape := ⟨2, ![8, 8192]⟩
abbrev S8192x8x1 : Shape := ⟨3, ![8192, 8, 1]⟩
abbrev S128x512 : Shape := ⟨2, ![128, 512]⟩
abbrev S256x256 : Shape := ⟨2, ![256, 256]⟩
abbrev S128x128 : Shape := ⟨2, ![128, 128]⟩
abbrev S256x128 : Shape := ⟨2, ![256, 128]⟩
abbrev S256x1 : Shape := ⟨2, ![256, 1]⟩

abbrev nBuf : Space → Nat
  | .hbm => 156
  | .vmem => 24
  | .smem => 0
  | _ => 0

abbrev hbmTy0_0 (i : Nat) : BufTy := match i % 128 with
  | 0 => ⟨S8192x512, .f32⟩
  | 1 => ⟨S8192x512, .f32⟩
  | 2 => ⟨S8192x3200, .f32⟩
  | 3 => ⟨S8192x512, .f32⟩
  | 4 => ⟨S8192x8, .f32⟩
  | 5 => ⟨S8192x512, .f32⟩
  | 6 => ⟨S8192x8, .f32⟩
  | 7 => ⟨S8192x1024, .f32⟩
  | 8 => ⟨S8192x512, .f32⟩
  | 9 => ⟨S8192x8x64, .f32⟩
  | 10 => ⟨S8192x8x64, .f32⟩
  | 11 => ⟨S8192x8x64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S8, .f32⟩
  | 29 => ⟨S8x8192x64, .f32⟩
  | 30 => ⟨S8x64x128x64, .f32⟩
  | 31 => ⟨S8x8192x64, .f32⟩
  | 32 => ⟨S8x64x128x64, .f32⟩
  | 33 => ⟨S_, .f32⟩
  | 34 => ⟨S8x1x128x64, .f32⟩
  | 35 => ⟨S8x63x128x64, .f32⟩
  | 36 => ⟨S8x64x128x64, .f32⟩
  | 37 => ⟨S8x64x256x64, .f32⟩
  | 38 => ⟨S8x8192x64, .f32⟩
  | 39 => ⟨S8x64x128x64, .f32⟩
  | 40 => ⟨S_, .f32⟩
  | 41 => ⟨S8x1x128x64, .f32⟩
  | 42 => ⟨S8x63x128x64, .f32⟩
  | 43 => ⟨S8x64x128x64, .f32⟩
  | 44 => ⟨S8x64x256x64, .f32⟩
  | 45 => ⟨S8x64x128x256, .f32⟩
  | 46 => ⟨S128, .i32⟩
  | 47 => ⟨S128x1, .i32⟩
  | 48 => ⟨S256, .i32⟩
  | 49 => ⟨S1x256, .i32⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S64, .i32⟩
  | 57 => ⟨S64x1x1, .i32⟩
  | 58 => ⟨S_, .i32⟩
  | 59 => ⟨S64x1x1, .i32⟩
  | 60 => ⟨S64x1x1, .i32⟩
  | 61 => ⟨S1x1x256, .i32⟩
  | 62 => ⟨S64x1x256, .i32⟩
  | 63 => ⟨S64x1x256, .i32⟩
  | 64 => ⟨S64x1x256, .i32⟩
  | 65 => ⟨S_, .i32⟩
  | 66 => ⟨S64x1x256, .i32⟩
  | 67 => ⟨S64x1x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i1⟩
  | 74 => ⟨S128x256, .i1⟩
  | 75 => ⟨S_, .i32⟩
  | 76 => ⟨S64x1x256, .i32⟩
  | 77 => ⟨S64x1x256, .i1⟩
  | 78 => ⟨S1x128x256, .i1⟩
  | 79 => ⟨S64x128x256, .i1⟩
  | 80 => ⟨S64x128x256, .i1⟩
  | 81 => ⟨S64x128x256, .i1⟩
  | 82 => ⟨S8x1x1x1, .f32⟩
  | 83 => ⟨S8x1x1x1, .f32⟩
  | 84 => ⟨S128x256, .f32⟩
  | 85 => ⟨S1x1x128x256, .f32⟩
  | 86 => ⟨S8x1x128x256, .f32⟩
  | 87 => ⟨S8x1x128x256, .f32⟩
  | 88 => ⟨S8x1x128x256, .f32⟩
  | 89 => ⟨S8x64x128x256, .f32⟩
  | 90 => ⟨S8x64x128x256, .f32⟩
  | 91 => ⟨S_, .f32⟩
  | 92 => ⟨S_, .f32⟩
  | 93 => ⟨S8x64x128x256, .i1⟩
  | 94 => ⟨S8x64x128x256, .f32⟩
  | 95 => ⟨S8x64x128x256, .f32⟩
  | 96 => ⟨S_, .f32⟩
  | 97 => ⟨S8x64x128, .f32⟩
  | 98 => ⟨S8x64x128x1, .f32⟩
  | 99 => ⟨S8x64x128x256, .f32⟩
  | 100 => ⟨S8x64x128x256, .f32⟩
  | 101 => ⟨S8x64x128x256, .f32⟩
  | 102 => ⟨S_, .f32⟩
  | 103 => ⟨S8x64x128, .f32⟩
  | 104 => ⟨S8x64x128x1, .f32⟩
  | 105 => ⟨S8x64x128x64, .f32⟩
  | 106 => ⟨S8x64x128x64, .f32⟩
  | 107 => ⟨S8x64x128x64, .f32⟩
  | 108 => ⟨S8x64x128x1, .f32⟩
  | 109 => ⟨S8x64x128x1, .f32⟩
  | 110 => ⟨S8x64x128, .f32⟩
  | 111 => ⟨S8x8192x64, .f32⟩
  | 112 => ⟨S8192x8x64, .f32⟩
  | 113 => ⟨S8x8192, .f32⟩
  | 114 => ⟨S8192x8, .f32⟩
  | 115 => ⟨S8192x8, .f32⟩
  | 116 => ⟨S8192x8, .f32⟩
  | 117 => ⟨S8192x8, .f32⟩
  | 118 => ⟨S8192x8, .f32⟩
  | 119 => ⟨S8192x8, .f32⟩
  | 120 => ⟨S8192x8, .f32⟩
  | 121 => ⟨S8192x8, .f32⟩
  | 122 => ⟨S8192x8, .f32⟩
  | 123 => ⟨S8192x8, .f32⟩
  | 124 => ⟨S8192x8, .f32⟩
  | 125 => ⟨S8192x8x1, .f32⟩
  | 126 => ⟨S8192x8x64, .f32⟩
  | 127 => ⟨S8192x8x64, .f32⟩
  | _ => ⟨S8192x512, .f32⟩

abbrev hbmTy0_1 (i : Nat) : BufTy := match i % 128 with
  | 0 => ⟨S8192x8x1, .f32⟩
  | 1 => ⟨S8192x8x64, .f32⟩
  | 2 => ⟨S8192x8x64, .f32⟩
  | 3 => ⟨S8192x8x64, .f32⟩
  | 4 => ⟨S8192x8x64, .f32⟩
  | 5 => ⟨S8192x8x1, .f32⟩
  | 6 => ⟨S8192x8x64, .f32⟩
  | 7 => ⟨S8192x8x64, .f32⟩
  | 8 => ⟨S8192x8x64, .f32⟩
  | 9 => ⟨S8192x8x64, .f32⟩
  | 10 => ⟨S8192x8x1, .f32⟩
  | 11 => ⟨S8192x8x64, .f32⟩
  | 12 => ⟨S8192x8x64, .f32⟩
  | 13 => ⟨S8192x8, .f32⟩
  | 14 => ⟨S8192x8, .f32⟩
  | 15 => ⟨S_, .f32⟩
  | 16 => ⟨S8192x8, .f32⟩
  | 17 => ⟨S8192x8, .f32⟩
  | 18 => ⟨S8192x8, .f32⟩
  | 19 => ⟨S8192x8x1, .f32⟩
  | 20 => ⟨S8192x8x64, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S128x512, .f32⟩
  | 27 => ⟨S128x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_cst_4 : Ref sig .tc := ⟨.hbm, 17, rfl⟩
abbrev main_cst_5 : Ref sig .tc := ⟨.hbm, 18, rfl⟩
abbrev main_cst_6 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_17 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120_0 : Ref sig .tc := ⟨.hbm, 151, rfl⟩
abbrev main_v120_1 : Ref sig .tc := ⟨.hbm, 152, rfl⟩
abbrev main_v120_2 : Ref sig .tc := ⟨.hbm, 153, rfl⟩
abbrev main_v120_3 : Ref sig .tc := ⟨.hbm, 154, rfl⟩
abbrev main_v120_4 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnIdeal.lean ====
variable {F : FTy → Type} [FloatOps F] [Named F]
def κ : String → Option EReal := fun
  | "far" => some ⊤
  | "ln2" => some ((Real.log 2 : ℝ) : EReal)
  | "log2e" => some (((Real.log 2)⁻¹ : ℝ) : EReal)
  | "slope0" => some (((1 / 2) * (Real.log 2)⁻¹ : ℝ) : EReal)
  | "slope1" => some (((1 / 4) * (Real.log 2)⁻¹ : ℝ) : EReal)
  | "slope2" => some (((1 / 8) * (Real.log 2)⁻¹ : ℝ) : EReal)
  | "slope3" => some (((1 / 16) * (Real.log 2)⁻¹ : ℝ) : EReal)
  | "slope4" => some (((1 / 32) * (Real.log 2)⁻¹ : ℝ) : EReal)
  | "slope5" => some (((1 / 64) * (Real.log 2)⁻¹ : ℝ) : EReal)
  | "slope6" => some (((1 / 128) * (Real.log 2)⁻¹ : ℝ) : EReal)
  | "slope7" => some (((1 / 256) * (Real.log 2)⁻¹ : ℝ) : EReal)
  | _ => none
-- ==== AttnRefIdeal.lean ====
abbrev S8192x512 : Shape := ⟨2, ![8192, 512]⟩
abbrev S8192x3200 : Shape := ⟨2, ![8192, 3200]⟩
abbrev S8192x8 : Shape := ⟨2, ![8192, 8]⟩
abbrev S8192x1024 : Shape := ⟨2, ![8192, 1024]⟩
abbrev S8192x8x64 : Shape := ⟨3, ![8192, 8, 64]⟩
abbrev S_ : Shape := ⟨0, ![]⟩
abbrev S1 : Shape := ⟨1, ![1]⟩
abbrev S8 : Shape := ⟨1, ![8]⟩
abbrev S8x8192x64 : Shape := ⟨3, ![8, 8192, 64]⟩
abbrev S8x64x128x64 : Shape := ⟨4, ![8, 64, 128, 64]⟩
abbrev S8x1x128x64 : Shape := ⟨4, ![8, 1, 128, 64]⟩
abbrev S8x63x128x64 : Shape := ⟨4, ![8, 63, 128, 64]⟩
abbrev S8x64x256x64 : Shape := ⟨4, ![8, 64, 256, 64]⟩
abbrev S8x64x128x256 : Shape := ⟨4, ![8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x1x1 : Shape := ⟨4, ![8, 1, 1, 1]⟩
abbrev S1x1x128x256 : Shape := ⟨4, ![1, 1, 128, 256]⟩
abbrev S8x1x128x256 : Shape := ⟨4, ![8, 1, 128, 256]⟩
abbrev S8x64x128 : Shape := ⟨3, ![8, 64, 128]⟩
abbrev S8x64x128x1 : Shape := ⟨4, ![8, 64, 128, 1]⟩
abbrev S8x8192 : Shape := ⟨2, ![8, 8192]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8x64x64x256 : Shape := ⟨4, ![8, 64, 64, 256]⟩
abbrev S128x512 : Shape := ⟨2, ![128, 512]⟩

abbrev nBuf : Space → Nat
  | .hbm => 295
  | .vmem => 0
  | .smem => 0
  | _ => 0

abbrev hbmTy0_0 (i : Nat) : BufTy := match i % 128 with
  | 0 => ⟨S8192x512, .f32⟩
  | 1 => ⟨S8192x512, .f32⟩
  | 2 => ⟨S8192x3200, .f32⟩
  | 3 => ⟨S8192x512, .f32⟩
  | 4 => ⟨S8192x8, .f32⟩
  | 5 => ⟨S8192x512, .f32⟩
  | 6 => ⟨S8192x8, .f32⟩
  | 7 => ⟨S8192x1024, .f32⟩
  | 8 => ⟨S8192x512, .f32⟩
  | 9 => ⟨S8192x8x64, .f32⟩
  | 10 => ⟨S8192x8x64, .f32⟩
  | 11 => ⟨S8192x8x64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S8, .f32⟩
  | 29 => ⟨S8x8192x64, .f32⟩
  | 30 => ⟨S8x64x128x64, .f32⟩
  | 31 => ⟨S8x8192x64, .f32⟩
  | 32 => ⟨S8x64x128x64, .f32⟩
  | 33 => ⟨S_, .f32⟩
  | 34 => ⟨S8x1x128x64, .f32⟩
  | 35 => ⟨S8x63x128x64, .f32⟩
  | 36 => ⟨S8x64x128x64, .f32⟩
  | 37 => ⟨S_, .f32⟩
  | 38 => ⟨S8x1x128x64, .f32⟩
  | 39 => ⟨S8x64x256x64, .f32⟩
  | 40 => ⟨S8x8192x64, .f32⟩
  | 41 => ⟨S8x64x128x64, .f32⟩
  | 42 => ⟨S_, .f32⟩
  | 43 => ⟨S8x1x128x64, .f32⟩
  | 44 => ⟨S8x63x128x64, .f32⟩
  | 45 => ⟨S8x64x128x64, .f32⟩
  | 46 => ⟨S_, .f32⟩
  | 47 => ⟨S8x1x128x64, .f32⟩
  | 48 => ⟨S8x64x256x64, .f32⟩
  | 49 => ⟨S8x64x128x256, .f32⟩
  | 50 => ⟨S128, .i32⟩
  | 51 => ⟨S128x1, .i32⟩
  | 52 => ⟨S256, .i32⟩
  | 53 => ⟨S1x256, .i32⟩
  | 54 => ⟨S_, .i32⟩
  | 55 => ⟨S128x1, .i32⟩
  | 56 => ⟨S128x1, .i32⟩
  | 57 => ⟨S128x256, .i32⟩
  | 58 => ⟨S128x256, .i32⟩
  | 59 => ⟨S128x256, .i32⟩
  | 60 => ⟨S64, .i32⟩
  | 61 => ⟨S64x1x1, .i32⟩
  | 62 => ⟨S_, .i32⟩
  | 63 => ⟨S64x1x1, .i32⟩
  | 64 => ⟨S64x1x1, .i32⟩
  | 65 => ⟨S1x1x256, .i32⟩
  | 66 => ⟨S64x1x256, .i32⟩
  | 67 => ⟨S64x1x256, .i32⟩
  | 68 => ⟨S64x1x256, .i32⟩
  | 69 => ⟨S_, .i32⟩
  | 70 => ⟨S64x1x256, .i32⟩
  | 71 => ⟨S64x1x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S_, .i32⟩
  | 80 => ⟨S64x1x256, .i32⟩
  | 81 => ⟨S64x1x256, .i1⟩
  | 82 => ⟨S1x128x256, .i1⟩
  | 83 => ⟨S64x128x256, .i1⟩
  | 84 => ⟨S64x128x256, .i1⟩
  | 85 => ⟨S64x128x256, .i1⟩
  | 86 => ⟨S8x1x1x1, .f32⟩
  | 87 => ⟨S8x1x1x1, .f32⟩
  | 88 => ⟨S128x256, .f32⟩
  | 89 => ⟨S1x1x128x256, .f32⟩
  | 90 => ⟨S8x1x128x256, .f32⟩
  | 91 => ⟨S8x1x128x256, .f32⟩
  | 92 => ⟨S8x1x128x256, .f32⟩
  | 93 => ⟨S8x64x128x256, .f32⟩
  | 94 => ⟨S8x64x128x256, .f32⟩
  | 95 => ⟨S_, .f32⟩
  | 96 => ⟨S_, .f32⟩
  | 97 => ⟨S8x64x128x256, .i1⟩
  | 98 => ⟨S8x64x128x256, .f32⟩
  | 99 => ⟨S8x64x128x256, .f32⟩
  | 100 => ⟨S_, .f32⟩
  | 101 => ⟨S8x64x128x256, .f32⟩
  | 102 => ⟨S_, .f32⟩
  | 103 => ⟨S8x64x128, .f32⟩
  | 104 => ⟨S8x64x128x1, .f32⟩
  | 105 => ⟨S8x64x128x256, .f32⟩
  | 106 => ⟨S8x64x128x256, .i1⟩
  | 107 => ⟨S8x64x128x256, .f32⟩
  | 108 => ⟨S_, .f32⟩
  | 109 => ⟨S8x64x128, .f32⟩
  | 110 => ⟨S8x64x128x1, .f32⟩
  | 111 => ⟨S8x64x128x256, .f32⟩
  | 112 => ⟨S8x64x128x256, .f32⟩
  | 113 => ⟨S8x64x128x256, .f32⟩
  | 114 => ⟨S_, .f32⟩
  | 115 => ⟨S8x64x128, .f32⟩
  | 116 => ⟨S8x64x128x1, .f32⟩
  | 117 => ⟨S8x64x128x64, .f32⟩
  | 118 => ⟨S8x64x128x64, .f32⟩
  | 119 => ⟨S8x64x128x64, .f32⟩
  | 120 => ⟨S8x64x128x1, .f32⟩
  | 121 => ⟨S_, .f32⟩
  | 122 => ⟨S8x64x128x1, .f32⟩
  | 123 => ⟨S8x64x128x1, .f32⟩
  | 124 => ⟨S8x64x128x1, .f32⟩
  | 125 => ⟨S8x64x128x1, .f32⟩
  | 126 => ⟨S8x64x128, .f32⟩
  | 127 => ⟨S8x8192x64, .f32⟩
  | _ => ⟨S8192x512, .f32⟩

abbrev hbmTy0_1 (i : Nat) : BufTy := match i % 128 with
  | 0 => ⟨S8192x8x64, .f32⟩
  | 1 => ⟨S8x8192, .f32⟩
  | 2 => ⟨S8192x8, .f32⟩
  | 3 => ⟨S8192x8x64, .f32⟩
  | 4 => ⟨S8192x8x64, .f32⟩
  | 5 => ⟨S1x8192x8, .f32⟩
  | 6 => ⟨S1x8192x8, .f32⟩
  | 7 => ⟨S1x8192x8, .f32⟩
  | 8 => ⟨S3x8192x8, .f32⟩
  | 9 => ⟨S_, .f32⟩
  | 10 => ⟨S8192x8, .f32⟩
  | 11 => ⟨S_, .f32⟩
  | 12 => ⟨S8192x8, .f32⟩
  | 13 => ⟨S_, .f32⟩
  | 14 => ⟨S8192x8, .f32⟩
  | 15 => ⟨S1x8192x8, .f32⟩
  | 16 => ⟨S3x8192x8, .f32⟩
  | 17 => ⟨S3x8192x8, .i1⟩
  | 18 => ⟨S3x8192x8, .f32⟩
  | 19 => ⟨S_, .f32⟩
  | 20 => ⟨S8192x8, .f32⟩
  | 21 => ⟨S_, .f32⟩
  | 22 => ⟨S8192x8, .f32⟩
  | 23 => ⟨S8192x8, .f32⟩
  | 24 => ⟨S_, .f32⟩
  | 25 => ⟨S8192x8, .f32⟩
  | 26 => ⟨S8192x8, .i1⟩
  | 27 => ⟨S_, .f32⟩
  | 28 => ⟨S8192x8, .f32⟩
  | 29 => ⟨S8192x8, .i1⟩
  | 30 => ⟨S_, .f32⟩
  | 31 => ⟨S8192x8, .f32⟩
  | 32 => ⟨S_, .f32⟩
  | 33 => ⟨S8192x8, .f32⟩
  | 34 => ⟨S_, .f32⟩
  | 35 => ⟨S8192x8, .f32⟩
  | 36 => ⟨S8192x8, .f32⟩
  | 37 => ⟨S8192x8, .f32⟩
  | 38 => ⟨S1x8192x8, .f32⟩
  | 39 => ⟨S3x8192x8, .f32⟩
  | 40 => ⟨S3x8192x8, .f32⟩
  | 41 => ⟨S3x8192x8, .f32⟩
  | 42 => ⟨S_, .f32⟩
  | 43 => ⟨S8192x8, .f32⟩
  | 44 => ⟨S1x8192x8, .f32⟩
  | 45 => ⟨S3x8192x8, .f32⟩
  | 46 => ⟨S3x8192x8, .f32⟩
  | 47 => ⟨S1x8192x8, .f32⟩
  | 48 => ⟨S_, .f32⟩
  | 49 => ⟨S1x8192x8, .f32⟩
  | 50 => ⟨S1x8192x8, .f32⟩
  | 51 => ⟨S3x8192x8x1, .f32⟩
  | 52 => ⟨S1x8192x8x64, .f32⟩
  | 53 => ⟨S1x8192x8x64, .f32⟩
  | 54 => ⟨S1x8192x8x64, .f32⟩
  | 55 => ⟨S3x8192x8x64, .f32⟩
  | 56 => ⟨S_, .f32⟩
  | 57 => ⟨S8192x8x64, .f32⟩
  | 58 => ⟨S_, .f32⟩
  | 59 => ⟨S8192x8x64, .f32⟩
  | 60 => ⟨S3x8192x8x64, .f32⟩
  | 61 => ⟨S3x8192x8x64, .f32⟩
  | 62 => ⟨S_, .f32⟩
  | 63 => ⟨S8192x8x64, .f32⟩
  | 64 => ⟨S8192x512, .f32⟩
  | 65 => ⟨S8192x512, .f32⟩
  | 66 => ⟨S8192x8x64, .f32⟩
  | 67 => ⟨S3x8192x8x64, .f32⟩
  | 68 => ⟨S3x8192x8x64, .f32⟩
  | 69 => ⟨S3x8192x8x64, .f32⟩
  | 70 => ⟨S3x8192x8x64, .f32⟩
  | 71 => ⟨S_, .f32⟩
  | 72 => ⟨S3x8192x8, .f32⟩
  | 73 => ⟨S3x8192x8x1, .f32⟩
  | 74 => ⟨S1x8192x8x64, .f32⟩
  | 75 => ⟨S8192x8x64, .f32⟩
  | 76 => ⟨S1x8192x8x64, .f32⟩
  | 77 => ⟨S8192x8x64, .f32⟩
  | 78 => ⟨S1x8192x8x64, .f32⟩
  | 79 => ⟨S8192x8x64, .f32⟩
  | 80 => ⟨S_, .f32⟩
  | 81 => ⟨S3x8192x8, .f32⟩
  | 82 => ⟨S3x8192x8, .f32⟩
  | 83 => ⟨S3x8192x8, .f32⟩
  | 84 => ⟨S3x8192x8, .f32⟩
  | 85 => ⟨S_, .f32⟩
  | 86 => ⟨S8192x8, .f32⟩
  | 87 => ⟨S1x8192x8, .f32⟩
  | 88 => ⟨S1x8192x8, .f32⟩
  | 89 => ⟨S3x8192x8, .f32⟩
  | 90 => ⟨S3x8192x8, .f32⟩
  | 91 => ⟨S_, .f32⟩
  | 92 => ⟨S8192x8, .f32⟩
  | 93 => ⟨S3x8192x8, .f32⟩
  | 94 => ⟨S3x8192x8, .f32⟩
  | 95 => ⟨S3x8192x8, .f32⟩
  | 96 => ⟨S1x8192x8, .f32⟩
  | 97 => ⟨S8192x8, .f32⟩
  | 98 => ⟨S1x8192x8, .f32⟩
  | 99 => ⟨S8192x8, .f32⟩
  | 100 => ⟨S1x8192x8, .f32⟩
  | 101 => ⟨S8192x8, .f32⟩
  | 102 => ⟨S8x8192, .f32⟩
  | 103 => ⟨S8x64x128, .f32⟩
  | 104 => ⟨S8x8192x64, .f32⟩
  | 105 => ⟨S8x64x128x64, .f32⟩
  | 106 => ⟨S8x64x128x1, .f32⟩
  | 107 => ⟨S8x64x128x1, .f32⟩
  | 108 => ⟨S8x64x128x64, .f32⟩
  | 109 => ⟨S8x64x128x64, .f32⟩
  | 110 => ⟨S8x64x128x64, .f32⟩
  | 111 => ⟨S_, .f32⟩
  | 112 => ⟨S8x64x128, .f32⟩
  | 113 => ⟨S8x64x128x1, .f32⟩
  | 114 => ⟨S8x64x128x1, .f32⟩
  | 115 => ⟨S8x64x128x1, .f32⟩
  | 116 => ⟨S8x64x128x64, .f32⟩
  | 117 => ⟨S8x64x128x64, .f32⟩
  | 118 => ⟨S8x64x64x256, .f32⟩
  | 119 => ⟨S8x64x256x64, .f32⟩
  | 120 => ⟨S8x64x128x256, .f32⟩
  | 121 => ⟨S_, .f32⟩
  | 122 => ⟨S8x64x128, .f32⟩
  | 123 => ⟨S8x64x128x256, .f32⟩
  | 124 => ⟨S8x64x128x256, .f32⟩
  | 125 => ⟨S8x64x128x256, .f32⟩
  | 126 => ⟨S8x64x128x256, .f32⟩
  | 127 => ⟨S_, .f32⟩
  | _ => ⟨S8192x512, .f32⟩

abbrev hbmTy0_2 (i : Nat) : BufTy := match i % 128 with
  | 0 => ⟨S8x64x128, .f32⟩
  | 1 => ⟨S8x64x128x1, .f32⟩
  | 2 => ⟨S8x64x128x1, .f32⟩
  | 3 => ⟨S_, .f32⟩
  | 4 => ⟨S8x64x128, .f32⟩
  | 5 => ⟨S8x64x128, .f32⟩
  | 6 => ⟨S8x64x128x256, .f32⟩
  | 7 => ⟨S8x64x128x256, .f32⟩
  | 8 => ⟨S8x64x128x256, .f32⟩
  | 9 => ⟨S_, .f32⟩
  | 10 => ⟨S8x64x128x256, .f32⟩
  | 11 => ⟨S8x64x128x256, .f32⟩
  | 12 => ⟨S8x64x256x64, .f32⟩
  | 13 => ⟨S8x64x128x64, .f32⟩
  | 14 => ⟨S8x64x128x64, .f32⟩
  | 15 => ⟨S8x64x128x64, .f32⟩
  | 16 => ⟨S8x1x128x64, .f32⟩
  | 17 => ⟨S8x63x128x64, .f32⟩
  | 18 => ⟨S_, .f32⟩
  | 19 => ⟨S8x64x128x64, .f32⟩
  | 20 => ⟨S8x64x128x64, .f32⟩
  | 21 => ⟨S8x8192x64, .f32⟩
  | 22 => ⟨S8192x8x64, .f32⟩
  | 23 => ⟨S8x64x128x64, .f32⟩
  | 24 => ⟨S8x64x128x64, .f32⟩
  | 25 => ⟨S8x1x128x64, .f32⟩
  | 26 => ⟨S8x63x128x64, .f32⟩
  | 27 => ⟨S_, .f32⟩
  | 28 => ⟨S8x64x128x64, .f32⟩
  | 29 => ⟨S8x64x128x64, .f32⟩
  | 30 => ⟨S8x8192x64, .f32⟩
  | 31 => ⟨S8192x8x64, .f32⟩
  | 32 => ⟨S8x8192x64, .f32⟩
  | 33 => ⟨S8192x8x64, .f32⟩
  | 34 => ⟨S8192x512, .f32⟩
  | 35 => ⟨S8192x512, .f32⟩
  | 36 => ⟨S8192x512, .f32⟩
  | 37 => ⟨S128x512, .f32⟩
  | 38 => ⟨S128x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_cst_4 : Ref sig .tc := ⟨.hbm, 17, rfl⟩
abbrev main_cst_5 : Ref sig .tc := ⟨.hbm, 18, rfl⟩
abbrev main_cst_6 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_c_13 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_15 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_call0_v0 : Ref sig .tc := ⟨.hbm, 96, rfl⟩
abbrev main_v69_1 : Ref sig .tc := ⟨.hbm, 97, rfl⟩
abbrev main_call0_v2 : Ref sig .tc := ⟨.hbm, 98, rfl⟩
abbrev main_v69_0 : Ref sig .tc := ⟨.hbm, 99, rfl⟩
abbrev main_call0_cst : Ref sig .tc := ⟨.hbm, 100, rfl⟩
abbrev main_v69_2 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_cst_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_cst_25 : Ref sig .tc := ⟨.hbm, 149, rfl⟩
abbrev main_v109 : Ref sig .tc := ⟨.hbm, 150, rfl⟩
abbrev main_v110 : Ref sig .tc := ⟨.hbm, 151, rfl⟩
abbrev main_cst_26 : Ref sig .tc := ⟨.hbm, 152, rfl⟩
abbrev main_v111 : Ref sig .tc := ⟨.hbm, 153, rfl⟩
abbrev main_v112 : Ref sig .tc := ⟨.hbm, 154, rfl⟩
abbrev main_cst_27 : Ref sig .tc := ⟨.hbm, 155, rfl⟩
abbrev main_v113 : Ref sig .tc := ⟨.hbm, 156, rfl⟩
abbrev main_v114 : Ref sig .tc := ⟨.hbm, 157, rfl⟩
abbrev main_cst_28 : Ref sig .tc := ⟨.hbm, 158, rfl⟩
abbrev main_v115 : Ref sig .tc := ⟨.hbm, 159, rfl⟩
abbrev main_cst_29 : Ref sig .tc := ⟨.hbm, 160, rfl⟩
abbrev main_v116 : Ref sig .tc := ⟨.hbm, 161, rfl⟩
abbrev main_cst_30 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_31 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_32 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_33 : Ref sig .tc := ⟨.hbm, 184, rfl⟩
abbrev main_v136 : Ref sig .tc := ⟨.hbm, 185, rfl⟩
abbrev main_cst_34 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_35 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_36 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_37 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_38 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_39 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_40 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_41 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_42 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_43 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_call1_cst : Ref sig .tc := ⟨.hbm, 265, rfl⟩
abbrev main_call1_v0 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_44 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_cst_45 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩

abbrev nD : Nat := 1
abbrev τ : Topo := Topo.v7x

variable {F : FTy → Type} [FloatOps F]
-- ==== Gate.lean ====
abbrev S2x8192x2816 : Shape := ⟨3, ![2, 8192, 2816]⟩
abbrev S8192x2816 : Shape := ⟨2, ![8192, 2816]⟩
abbrev S2x8x2816 : Shape := ⟨3, ![2, 8, 2816]⟩
abbrev S2x512x1408 : Shape := ⟨3, ![2, 512, 1408]⟩
abbrev S512x1408 : Shape := ⟨2, ![512, 1408]⟩
abbrev S2x8x1408 : Shape := ⟨3, ![2, 8, 1408]⟩
abbrev S1x512x1408 : Shape := ⟨3, ![1, 512, 1408]⟩
abbrev S1x8x1408 : Shape := ⟨3, ![1, 8, 1408]⟩
abbrev S8x1408 : Shape := ⟨2, ![8, 1408]⟩
abbrev S64x8x1408 : Shape := ⟨3, ![64, 8, 1408]⟩
abbrev S2x1408 : Shape := ⟨2, ![2, 1408]⟩
abbrev S2x1x1408 : Shape := ⟨3, ![2, 1, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x2816, .bf16⟩
  | .hbm, ⟨1, _⟩ => ⟨S8192x2816, .bf16⟩
  | .hbm, ⟨2, _⟩ => ⟨S2x8192x2816, .bf16⟩
  | .hbm, ⟨3, _⟩ => ⟨S2x8x2816, .f32⟩
  | .local _ .vmem, ⟨0, _⟩ => ⟨S2x512x1408, .bf16⟩
  | .local _ .vmem, ⟨1, _⟩ => ⟨S2x512x1408, .bf16⟩
  | .local _ .vmem, ⟨2, _⟩ => ⟨S512x1408, .bf16⟩
  | .local _ .vmem, ⟨3, _⟩ => ⟨S512x1408, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x8x1408, .f32⟩
  | .local _ .vmem, ⟨7, _⟩ => ⟨S2x8x1408, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GateRefIdeal.lean ====
abbrev S2x8192x2816 : Shape := ⟨3, ![2, 8192, 2816]⟩
abbrev S8192x2816 : Shape := ⟨2, ![8192, 2816]⟩
abbrev S1x8192x2816 : Shape := ⟨3, ![1, 8192, 2816]⟩
abbrev S8192x5632 : Shape := ⟨2, ![8192, 5632]⟩
abbrev S_ : Shape := ⟨0, ![]⟩
abbrev S5632 : Shape := ⟨1, ![5632]⟩
abbrev S1x5632 : Shape := ⟨2, ![1, 5632]⟩
abbrev S2x1x2816 : Shape := ⟨3, ![2, 1, 2816]⟩
abbrev S2x8x2816 : Shape := ⟨3, ![2, 8, 2816]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x5632, .f32⟩
  | .hbm, ⟨37, _⟩ => ⟨S_, .f32⟩
  | .hbm, ⟨38, _⟩ => ⟨S5632, .f32⟩
  | .hbm, ⟨39, _⟩ => ⟨S1x5632, .f32⟩
  | .hbm, ⟨40, _⟩ => ⟨S_, .f32⟩
  | .hbm, ⟨41, _⟩ => ⟨S5632, .f32⟩
  | .hbm, ⟨42, _⟩ => ⟨S8192x2816, .f32⟩
  | .hbm, ⟨43, _⟩ => ⟨S8192x2816, .f32⟩
  | .hbm, ⟨44, _⟩ => ⟨S1x8192x2816, .f32⟩
  | .hbm, ⟨45, _⟩ => ⟨S1x8192x2816, .f32⟩
  | .hbm, ⟨46, _⟩ => ⟨S2x8192x2816, .f32⟩
  | .hbm, ⟨47, _⟩ => ⟨S2x8192x2816, .bf16⟩
  | .hbm, ⟨48, _⟩ => ⟨S2x1x2816, .f32⟩
  | .hbm, ⟨49, _⟩ => ⟨S2x8x2816, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v12_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v12_1 : Ref sig .tc := ⟨.hbm, 26, rfl⟩
abbrev main_v12_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== NormB.lean ====
abbrev S8192x1024 : Shape := ⟨2, ![8192, 1024]⟩
abbrev S1x1024 : Shape := ⟨2, ![1, 1024]⟩
abbrev S3x8x1024 : Shape := ⟨3, ![3, 8, 1024]⟩
abbrev S512x1024 : Shape := ⟨2, ![512, 1024]⟩
abbrev S512 : Shape := ⟨1, ![512]⟩
abbrev S512x1 : Shape := ⟨2, ![512, 1]⟩
abbrev S1x8x1024 : Shape := ⟨3, ![1, 8, 1024]⟩
abbrev S8x1024 : Shape := ⟨2, ![8, 1024]⟩
abbrev S64x8x1024 : Shape := ⟨3, ![64, 8, 1024]⟩
abbrev S3x1024 : Shape := ⟨2, ![3, 1024]⟩
abbrev S3x1x1024 : Shape := ⟨3, ![3, 1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S3x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S3x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1x1024 : Shape := ⟨3, ![1, 1, 1024]⟩
abbrev S3x1x1024 : Shape := ⟨3, ![3, 1, 1024]⟩
abbrev S3x8x1024 : Shape := ⟨3, ![3, 8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .bf16⟩
  | .hbm, ⟨98, _⟩ => ⟨S1x1x1024, .f32⟩
  | .hbm, ⟨99, _⟩ => ⟨S1x1x1024, .f32⟩
  | .hbm, ⟨100, _⟩ => ⟨S1x1x1024, .f32⟩
  | .hbm, ⟨101, _⟩ => ⟨S3x1x1024, .f32⟩
  | .hbm, ⟨102, _⟩ => ⟨S3x8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== NormA.lean ====
abbrev S8192x1024 : Shape := ⟨2, ![8192, 1024]⟩
abbrev S1x1024 : Shape := ⟨2, ![1, 1024]⟩
abbrev S3x8x1024 : Shape := ⟨3, ![3, 8, 1024]⟩
abbrev S512x1024 : Shape := ⟨2, ![512, 1024]⟩
abbrev S512 : Shape := ⟨1, ![512]⟩
abbrev S512x1 : Shape := ⟨2, ![512, 1]⟩
abbrev S1x8x1024 : Shape := ⟨3, ![1, 8, 1024]⟩
abbrev S8x1024 : Shape := ⟨2, ![8, 1024]⟩
abbrev S64x8x1024 : Shape := ⟨3, ![64, 8, 1024]⟩
abbrev S3x1024 : Shape := ⟨2, ![3, 1024]⟩
abbrev S3x1x1024 : Shape := ⟨3, ![3, 1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S3x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S3x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormARefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1x1024 : Shape := ⟨3, ![1, 1, 1024]⟩
abbrev S3x1x1024 : Shape := ⟨3, ![3, 1, 1024]⟩
abbrev S3x8x1024 : Shape := ⟨3, ![3, 8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S_, .f32⟩
  | .hbm, ⟨88, _⟩ => ⟨S1x1024, .f32⟩
  | .hbm, ⟨89, _⟩ => ⟨S1x1x1024, .f32⟩
  | .hbm, ⟨90, _⟩ => ⟨S1x1x1024, .f32⟩
  | .hbm, ⟨91, _⟩ => ⟨S1x1x1024, .f32⟩
  | .hbm, ⟨92, _⟩ => ⟨S3x1x1024, .f32⟩
  | .hbm, ⟨93, _⟩ => ⟨S3x8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== FwdB.lean ====
abbrev S8192x1024 : Shape := ⟨2, ![8192, 1024]⟩
abbrev S1x1024 : Shape := ⟨2, ![1, 1024]⟩
abbrev S1024x8192 : Shape := ⟨2, ![1024, 8192]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdBRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1024x8192, .f32⟩
  | .hbm, ⟨33, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== FwdA.lean ====
abbrev S8192x1024 : Shape := ⟨2, ![8192, 1024]⟩
abbrev S1x1024 : Shape := ⟨2, ![1, 1024]⟩
abbrev S1024x8192 : Shape := ⟨2, ![1024, 8192]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdARefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x8192, .f32⟩
  | .hbm, ⟨28, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S2x8x1024 : Shape := ⟨3, ![2, 8, 1024]⟩
abbrev S512x1024 : Shape := ⟨2, ![512, 1024]⟩
abbrev S1x8x1024 : Shape := ⟨3, ![1, 8, 1024]⟩
abbrev S8x1024 : Shape := ⟨2, ![8, 1024]⟩
abbrev S64x8x1024 : Shape := ⟨3, ![64, 8, 1024]⟩
abbrev S2x1024 : Shape := ⟨2, ![2, 1024]⟩
abbrev S2x1x1024 : Shape := ⟨3, ![2, 1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S2x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S1024 : Shape := ⟨1, ![1024]⟩
abbrev S1x1x1024 : Shape := ⟨3, ![1, 1, 1024]⟩
abbrev S2x1x1024 : Shape := ⟨3, ![2, 1, 1024]⟩
abbrev S2x8x1024 : Shape := ⟨3, ![2, 8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .bf16⟩
  | .hbm, ⟨44, _⟩ => ⟨S1x1x1024, .f32⟩
  | .hbm, ⟨45, _⟩ => ⟨S1x1x1024, .f32⟩
  | .hbm, ⟨46, _⟩ => ⟨S2x1x1024, .f32⟩
  | .hbm, ⟨47, _⟩ => ⟨S2x8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Ffn.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S2x8192x2816 : Shape := ⟨3, ![2, 8192, 2816]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S2x512x1408 : Shape := ⟨3, ![2, 512, 1408]⟩
abbrev S528x1408 : Shape := ⟨2, ![528, 1408]⟩
abbrev S1x512x1408 : Shape := ⟨3, ![1, 512, 1408]⟩

abbrev nBuf : Space → Nat
  | .hbm => 5
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .hbm, ⟨4, _⟩ => ⟨S2x8192x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S2x512x1408, .bf16⟩
  | .local _ .vmem, ⟨19, _⟩ => ⟨S2x512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | .hbm, ⟨42, _⟩ => ⟨S1x8192x2816, .f32⟩
  | .hbm, ⟨43, _⟩ => ⟨S1x8192x2816, .f32⟩
  | .hbm, ⟨44, _⟩ => ⟨S2x8192x2816, .f32⟩
  | .hbm, ⟨45, _⟩ => ⟨S2x8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.ConvSpec.lean ====
/- What the backward pass of the causal convolution of width three computes, element by element, over the reals with
   infinities: the gradient of its input and the gradients of its three taps. Both programs are proved equal to this. -/
module

public import Idealize.ShloMosaic.Lib.Pointwise
public import Idealize.ShloMosaic.PureOps.Ideal.Laws

@[expose] public section

noncomputable section

namespace Cert.ConvSpec

open Idealize.ShloMosaic

/-- The two gradients of the halves of the convolution's result (gate and value), side by side as one array of rows,
    and zero below the last row. -/
def ctx (A0 : FVec Ideal ⟨3, ![2, 8192, 2816]⟩ .bf16) (n L : ℕ) : EReal :=
  if h : n < 8192 ∧ L < 5632 then A0 (ix3 ⟨L / 2816, by omega⟩ ⟨n, h.1⟩ ⟨L % 2816, Nat.mod_lt _ (by omega)⟩) else 0

/-- The convolution's input. -/
def ux (A1 : FVec Ideal ⟨2, ![8192, 5632]⟩ .bf16) (n L : ℕ) : EReal :=
  if h : n < 8192 ∧ L < 5632 then A1 (ix2 ⟨n, h.1⟩ ⟨L, h.2⟩) else 0

/-- The taps. -/
def wx (A2 : FVec Ideal ⟨2, ![3, 5632]⟩ .f32) (k L : ℕ) : EReal :=
  if h : k < 3 ∧ L < 5632 then A2 (ix2 ⟨k, h.1⟩ ⟨L, h.2⟩) else 0

/-- The gradient of the input at row `n`: each tap times the gradient as many rows below as the tap looks back. -/
def duSpec (A0 : FVec Ideal ⟨3, ![2, 8192, 2816]⟩ .bf16) (A2 : FVec Ideal ⟨2, ![3, 5632]⟩ .f32) (n L : ℕ) : EReal :=
  wx A2 2 L * ctx A0 n L + wx A2 1 L * ctx A0 (n + 1) L + wx A2 0 L * ctx A0 (n + 2) L

/-- The gradient of tap `k`: the sum over the rows of the gradient `2 - k` rows below times the input. -/
def tapSpec (A0 : FVec Ideal ⟨3, ![2, 8192, 2816]⟩ .bf16) (A1 : FVec Ideal ⟨2, ![8192, 5632]⟩ .bf16) (k L : ℕ) : EReal :=
  ∑ r : Fin 8192, ctx A0 (r.val + (2 - k)) L * ux A1 r.val L

/-- A sum of products against a sequence delayed by `d` is the sum against the other sequence advanced by `d`, when that
    one is zero from `N` on. -/
theorem sum_shift (N d : ℕ) (c u : ℕ → EReal) (hc : ∀ n, N ≤ n → c n = 0) :
    ∑ x : Fin N, c x.val * (if x.val < d then 0 else u (x.val - d)) = ∑ r : Fin N, c (r.val + d) * u r.val := by
  rw [Fin.sum_univ_eq_sum_range (fun x => c x * (if x < d then 0 else u (x - d))) N,
    Fin.sum_univ_eq_sum_range (fun r => c (r + d) * u r) N]
  have h1 := Finset.sum_range_add (fun x => c x * (if x < d then 0 else u (x - d))) N d
  have h2 := Finset.sum_range_add (fun x => c x * (if x < d then 0 else u (x - d))) d N
  have z1 : ∑ x ∈ Finset.range d, c (N + x) * (if N + x < d then 0 else u (N + x - d)) = 0 :=
    Finset.sum_eq_zero fun x _ => by rw [hc _ (Nat.le_add_right _ _), zero_mul]
  have z2 : ∑ x ∈ Finset.range d, c x * (if x < d then 0 else u (x - d)) = 0 :=
    Finset.sum_eq_zero fun x hx => by rw [if_pos (Finset.mem_range.mp hx), mul_zero]
  rw [z1, add_zero] at h1
  rw [z2, zero_add, Nat.add_comm d N, h1] at h2
  rw [h2]
  refine Finset.sum_congr rfl fun x _ => ?_
  rw [if_neg (by omega), Nat.add_sub_cancel_left, Nat.add_comm d x]

end Cert.ConvSpec

end
-- ==== Proof.ConvBlocks.lean ====
/- The values the convolution's backward kernel leaves in its two output blocks at one grid point. -/
module

public import proofs.«01_k».proof.Proof.Gen.ConvIdeal.Value
public import proofs.«01_k».proof.Proof.ConvSpec

@[expose] public section

set_option maxRecDepth 16384
noncomputable section

namespace Cert.ConvIdeal.Grad

open Cert.ConvIdeal Cert.ConvIdeal.Gen Cert.ConvSpec Idealize.ShloMosaic Idealize.ShloMosaic.TcCoe Idealize.SL.Sem
open Idealize.ShloMosaic.Pipeline (Dat)

/-- The input blocks of a point, at its first row `b`: the gradient rows `b …`, the halo rows `b + 512 …` (not read in the
    last row block, below which the gradient is zero), the rows of the input and the taps. -/
structure Reads (i : grid0.Coords) (x0 : Vec Ideal S1x512x1408 .bf16) (x1 : Vec Ideal S1x16x1408 .bf16) (x2 : Vec Ideal S512x1408 .bf16)
    (x3 : Vec Ideal S3x1408 .f32) (b : ℕ) (ct u w : ℕ → Fin 1408 → EReal) : Prop where
  d : ∀ (p : Fin 512) (q : Fin 1408), x0 (ix3 0 p q) = ct (b + p.val) q
  halo : ∀ (p : Fin 16) (q : Fin 1408), (i 2).val ≠ 15 → x1 (ix3 0 p q) = ct (b + 512 + p.val) q
  last : (i 2).val = 15 → ∀ n q, b + 512 ≤ n → ct n q = 0
  u : ∀ (p : Fin 512) (q : Fin 1408), x2 (ix2 p q) = u (b + p.val) q
  w : ∀ (k : Fin 3) (q : Fin 1408), x3 (ix2 k q) = w k.val q

variable {i : grid0.Coords} {x0 : Vec Ideal S1x512x1408 .bf16} {x1 : Vec Ideal S1x16x1408 .bf16} {x2 : Vec Ideal S512x1408 .bf16}
  {x3 : Vec Ideal S3x1408 .f32} {b : ℕ} {ct u w : ℕ → Fin 1408 → EReal}

/-- The rows of the gradient's block. -/
theorem pay3_at (h : Reads i x0 x1 x2 x3 b ct u w) (s : Fin 512) (l : Fin 1408) : k0_pay3 x0 (ix2 s l) = ct (b + s.val) l := by
  pointwise [k0_pay3]; exact h.d s l

/-- The rows of the gradient's block with the halo below it. -/
theorem pay4_at (h : Reads i x0 x1 x2 x3 b ct u w) (s : Fin 528) (l : Fin 1408) : k0_pay4 i x0 x1 (ix2 s l) = ct (b + s.val) l := by
  pointwise [k0_pay4]
  have hs := s.isLt
  split
  · next h1 => exact pay3_at h ⟨s.val, h1⟩ l
  · next h1 =>
    have hi : (i 2).val < 16 := (i 2).isLt
    by_cases h15 : (i 2).val = 15
    · rw [h15]; exact (h.last h15 _ _ (by omega)).symm
    · have e : BitVec.ofNat 32 (i 2).val ≠ 15#32 := fun e => h15 (by
        have := congrArg BitVec.toNat e; rw [BitVec.toNat_ofNat, BitVec.toNat_ofNat] at this; omega)
      have e' := h.halo ⟨s.val - 512, by omega⟩ l h15
      rw [show b + s.val = b + 512 + (s.val - 512) by omega, ← e']
      have ec : Scalar.cmpi CmpIPredicate.eq (BitVec.ofNat 32 (i 2).val) 15#32 ≠ 1#1 := by
        show BitVec.ofBool (BitVec.ofNat 32 (i 2).val == 15#32) ≠ 1#1
        rw [beq_eq_false_iff_ne.mpr e]; decide
      simp [Scalar.select, ec]

/-- One row further down. -/
theorem pay5_at (h : Reads i x0 x1 x2 x3 b ct u w) (s : Fin 512) (l : Fin 1408) : k0_pay5 i x0 x1 (ix2 s l) = ct (b + s.val + 1) l := by
  pointwise [k0_pay5]
  rw [pay4_at h]; congr 1; have := s.isLt; show b + (s.val + 528 - 527) % 528 = _; omega

/-- Two rows further down. -/
theorem pay6_at (h : Reads i x0 x1 x2 x3 b ct u w) (s : Fin 512) (l : Fin 1408) : k0_pay6 i x0 x1 (ix2 s l) = ct (b + s.val + 2) l := by
  pointwise [k0_pay6]
  rw [pay4_at h]; congr 1; have := s.isLt; show b + (s.val + 528 - 526) % 528 = _; omega

/-- One row of the taps, loaded. -/
theorem tap_ld (x3 : Vec Ideal S3x1408 .f32) (k : ℕ) (k' : Fin 3) (hk : k'.val = k) (l : Fin 1408) (inb) :
    View.ld x3 (Rect.unit (s := S3x1408) ![k, 0] ![1, 1408] inb) (ix2 0 l) = x3 (ix2 k' l) :=
  congrArg x3 (funext fun a => Fin.ext (match a with
    | ⟨0, _⟩ => show k + 1 * 0 = k'.val by omega
    | ⟨1, _⟩ => show 0 + 1 * l.val = l.val by omega))

/-- The block of the input's gradient. -/
theorem pay7_at (h : Reads i x0 x1 x2 x3 b ct u w) (inb2) (inb1) (inb0) (s : Fin 512) (l : Fin 1408) :
    k0_pay7 i x0 x1 (View.ld x3 (Rect.unit (s := S3x1408) ![2, 0] ![1, 1408] inb2)) (View.ld x3 (Rect.unit (s := S3x1408) ![1, 0] ![1, 1408] inb1))
        (View.ld x3 (Rect.unit (s := S3x1408) ![0, 0] ![1, 1408] inb0)) (ix2 s l)
      = w 2 l * ct (b + s.val) l + w 1 l * ct (b + s.val + 1) l + w 0 l * ct (b + s.val + 2) l := by
  pointwise [k0_pay7, pay3_at h, pay5_at h, pay6_at h]
  exact congrArg₂ (· + ·) (congrArg₂ (· + ·) (congrArg (· * _) (h.w 2 l)) (congrArg (· * _) (h.w 1 l))) (congrArg (· * _) (h.w 0 l))

/-- What one point adds to the sum of tap `k` in sublane `s`. -/
def foldK (ct u : ℕ → Fin 1408 → EReal) (b : ℕ) (k : ℕ) (s : Fin 8) (l : Fin 1408) : EReal :=
  ∑ a : Fin 64, ct (b + (a.val * 8 + s.val) + (2 - k)) l * u (b + (a.val * 8 + s.val)) l

theorem pay8_at (h : Reads i x0 x1 x2 x3 b ct u w) (s : Fin 512) (l : Fin 1408) : k0_pay8 x2 (ix2 s l) = u (b + s.val) l := by
  pointwise [k0_pay8]; exact h.u s l

theorem pay9_at (h : Reads i x0 x1 x2 x3 b ct u w) (v : Vec Ideal S1x1x8x1408 .f32) (s : Fin 8) (l : Fin 1408) :
    k0_pay9 (k0_pay6 i x0 x1) (k0_pay8 x2) v (ix4 0 0 s l) = v (ix4 0 0 s l) + foldK ct u b 0 s l := by
  pointwise [k0_pay9, pay6_at h, pay8_at h]
  rfl
theorem pay10_at (h : Reads i x0 x1 x2 x3 b ct u w) (v : Vec Ideal S1x1x8x1408 .f32) (s : Fin 8) (l : Fin 1408) :
    k0_pay10 (k0_pay5 i x0 x1) (k0_pay8 x2) v (ix4 0 0 s l) = v (ix4 0 0 s l) + foldK ct u b 1 s l := by
  pointwise [k0_pay10, pay5_at h, pay8_at h]
  rfl
theorem pay11_at (h : Reads i x0 x1 x2 x3 b ct u w) (v : Vec Ideal S1x1x8x1408 .f32) (s : Fin 8) (l : Fin 1408) :
    k0_pay11 (k0_pay3 x0) (k0_pay8 x2) v (ix4 0 0 s l) = v (ix4 0 0 s l) + foldK ct u b 2 s l := by
  pointwise [k0_pay11, pay3_at h, pay8_at h]
  rfl

/-- Loading tap `k`'s slab of the sums. -/
theorem idx_slab (k : ℕ) (inb) (k' : Fin 3) (hk : k'.val = k) (s : Fin 8) (l : Fin 1408) :
    (Rect.unit (s := S1x3x8x1408) ![0, k, 0, 0] ![1, 1, 8, 1408] inb).toLoadRect.idx (ix4 0 0 s l) = ix4 0 k' s l :=
  funext fun a => Fin.ext (match a with
    | ⟨0, _⟩ => rfl
    | ⟨1, _⟩ => show k + 1 * 0 = k'.val by omega
    | ⟨2, _⟩ => show 0 + 1 * s.val = s.val by omega
    | ⟨3, _⟩ => show 0 + 1 * l.val = l.val by omega)

/-- The sums after a store of tap `k`'s slab, read in that slab. -/
theorem canon_hit (k : ℕ) (inb) (P : Vec Ideal S1x1x8x1408 .f32) (L) (k' : Fin 3) (hk : k'.val = k) (s : Fin 8) (l : Fin 1408) :
    View.canon (Val := Elt Ideal) (⟨Rect.unit (s := S1x3x8x1408) ![0, k, 0, 0] ![1, 1, 8, 1408] inb, P⟩ :: L) (ix4 0 k' s l) = P (ix4 0 0 s l) := by
  rw [← idx_slab k inb k' hk s l]
  exact View.canon_cons_emb _ _ _ _

/-- … and read in another slab. -/
theorem canon_miss (k : ℕ) (inb) (P : Vec Ideal S1x1x8x1408 .f32) (L) (k' : Fin 3) (hk : k'.val ≠ k) (s : Fin 8) (l : Fin 1408) :
    View.canon (Val := Elt Ideal) (⟨Rect.unit (s := S1x3x8x1408) ![0, k, 0, 0] ![1, 1, 8, 1408] inb, P⟩ :: L) (ix4 0 k' s l) = View.canon L (ix4 0 k' s l) := by
  refine View.canon_cons_of_not_mem _ _ fun hm => hk ?_
  change ix4 0 k' s l ∈ (Rect.unit (s := S1x3x8x1408) ![0, k, 0, 0] ![1, 1, 8, 1408] inb).set at hm
  rw [Rect.mem_set_unit] at hm
  have := hm 1
  change k ≤ k'.val ∧ k'.val < k + 1 at this
  omega

/-- Whole-block loads of the inputs. -/
theorem ld_x0 (x : Vec Ideal S1x512x1408 .bf16) (inb) : View.ld x (Rect.unit (s := S1x512x1408) ![0, 0, 0] ![1, 512, 1408] inb) = x :=
  View.ld_unit_zero (by decide) inb x
theorem ld_x1 (x : Vec Ideal S1x16x1408 .bf16) (inb) : View.ld x (Rect.unit (s := S1x16x1408) ![0, 0, 0] ![1, 16, 1408] inb) = x :=
  View.ld_unit_zero (by decide) inb x
theorem ld_x2 (x : Vec Ideal S512x1408 .bf16) (inb) : View.ld x (Rect.unit (s := S512x1408) ![0, 0] ![512, 1408] inb) = x :=
  View.ld_unit_zero (by decide) inb x

/-- One store of the whole block. -/
theorem canon_all (P : Vec Ideal S1x3x8x1408 .f32) (L) (inb) :
    View.canon (Val := Elt Ideal) (⟨Rect.unit (s := S1x3x8x1408) ![0, 0, 0, 0] ![1, 3, 8, 1408] inb, P⟩ :: L) = P :=
  View.canon_cons_unit_zero (by decide) inb P L
theorem canon_du (P : Vec Ideal S512x1408 .bf16) (L) (inb) :
    View.canon (Val := Elt Ideal) (⟨Rect.unit (s := S512x1408) ![0, 0] ![512, 1408] inb, P⟩ :: L) = P :=
  View.canon_cons_unit_zero (by decide) inb P L

/-- The zero block. -/
theorem pay2_at (k : Fin 3) (s : Fin 8) (l : Fin 1408) : (k0_pay2 (F := Ideal)) (ix4 0 k s l) = 0 := by
  pointwise [k0_pay2]

/-- The block with the rows of each slab added up. -/
theorem pay1_at (v : Vec Ideal S1x3x8x1408 .f32) (k : Fin 3) (s : Fin 8) (l : Fin 1408) :
    k0_pay1 v (ix4 0 k s l) = ∑ x : Fin 8, v (ix4 0 k x l) := by
  pointwise [k0_pay1]

/-- A load of tap `k`'s slab. -/
theorem ld_slab (X : Vec Ideal S1x3x8x1408 .f32) (k : ℕ) (inb) (k' : Fin 3) (hk : k'.val = k) (s : Fin 8) (l : Fin 1408) :
    View.ld X (Rect.unit (s := S1x3x8x1408) ![0, k, 0, 0] ![1, 1, 8, 1408] inb) (ix4 0 0 s l) = X (ix4 0 k' s l) :=
  congrArg X (idx_slab k inb k' hk s l)

section
variable (c : Dev nD) (a3 : Memref sig .tc .vmem S1x512x1408 .bf16) (h3 : a3.IsWhole) (a4 : Memref sig .tc .vmem S1x16x1408 .bf16) (h4 : a4.IsWhole) (a5 : Memref sig .tc .vmem S512x1408 .bf16) (h5 : a5.IsWhole) (a6 : Memref sig .tc .vmem S3x1408 .f32) (h6 : a6.IsWhole) (a7 : Memref sig .tc .vmem S512x1408 .bf16) (h7 : a7.IsWhole) (a8 : Memref sig .tc .vmem S1x3x8x1408 .f32) (h8 : a8.IsWhole)

/-- The block of the input's gradient after a point of case A. -/
theorem out_A_4 (hc0 : cond0_0 i) (hc1 : ¬cond0_1 i) (h : Reads i x0 x1 x2 x3 b ct u w) (s : Fin 512) (l : Fin 1408) :
    out0_A_4 (F := Ideal) c i a3 h3 a4 h4 a5 h5 a6 h6 a7 h7 a8 h8 hc0 hc1 x0 x1 x2 x3 (ix2 s l) = w 2 l * ct (b + s.val) l + w 1 l * ct (b + s.val + 1) l + w 0 l * ct (b + s.val + 2) l := by
  unfold out0_A_4
  rw [View.read_writes_eq_canon _ _ _ (cover0_A_4 c i a3 h3 a4 h4 a5 h5 a6 h6 a7 h7 a8 h8 hc0 hc1 x0 x1 x2 x3)]
  unfold kernelRun0_A
  dsimp only
  sl_unfold_words
  simp only [View.readAt_eq_ld, h3.read_unread, h4.read_unread, h5.read_unread, h6.read_unread, h8.read_unread]
  simp only [ld_x0, ld_x1, ld_x2]
  rw [canon_du]
  exact pay7_at h _ _ _ s l

/-- The sums' block after a point of case A. -/
theorem out_A_5 (hc0 : cond0_0 i) (hc1 : ¬cond0_1 i) (h : Reads i x0 x1 x2 x3 b ct u w) (k : Fin 3) (s : Fin 8) (l : Fin 1408) :
    out0_A_5 (F := Ideal) c i a3 h3 a4 h4 a5 h5 a6 h6 a7 h7 a8 h8 hc0 hc1 x0 x1 x2 x3 (ix4 0 k s l) = foldK ct u b k.val s l := by
  unfold out0_A_5
  rw [View.read_writes_eq_canon _ _ _ (cover0_A_5 c i a3 h3 a4 h4 a5 h5 a6 h6 a7 h7 a8 h8 hc0 hc1 x0 x1 x2 x3)]
  unfold kernelRun0_A
  dsimp only
  sl_unfold_words
  simp only [View.readAt_eq_ld, h3.read_unread, h4.read_unread, h5.read_unread, h6.read_unread, h8.read_unread]
  simp only [View.readCov_eq_canon', ld_x0, ld_x1, ld_x2]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, pay9_at h]
    rw [idx_slab 0 _ 0 rfl, canon_all, pay2_at, zero_add] <;> rfl
  · rw [canon_miss 2 _ _ _ _ (by decide), canon_hit 1 _ _ _ _ rfl, pay10_at h]
    rw [idx_slab 1 _ 1 rfl, canon_miss 0 _ _ _ _ (by decide), canon_all, pay2_at, zero_add] <;> rfl
  · rw [canon_hit 2 _ _ _ _ rfl, pay11_at h]
    rw [idx_slab 2 _ 2 rfl, canon_miss 1 _ _ _ _ (by decide), canon_miss 0 _ _ _ _ (by decide), canon_all, pay2_at, zero_add] <;> rfl

/-- The block of the input's gradient after a point of case B. -/
theorem out_B_4 (hc0 : ¬cond0_0 i) (hc1 : ¬cond0_1 i) (xo : Vec Ideal S1x3x8x1408 .f32) (h : Reads i x0 x1 x2 x3 b ct u w) (s : Fin 512) (l : Fin 1408) :
    out0_B_4 (F := Ideal) c i a3 h3 a4 h4 a5 h5 a6 h6 a7 h7 a8 h8 hc0 hc1 x0 x1 x2 x3 xo (ix2 s l) = w 2 l * ct (b + s.val) l + w 1 l * ct (b + s.val + 1) l + w 0 l * ct (b + s.val + 2) l := by
  unfold out0_B_4
  rw [View.read_writes_eq_canon _ _ _ (cover0_B_4 c i a3 h3 a4 h4 a5 h5 a6 h6 a7 h7 a8 h8 hc0 hc1 x0 x1 x2 x3 xo)]
  unfold kernelRun0_B
  dsimp only
  sl_unfold_words
  simp only [View.readAt_eq_ld, h3.read_unread, h4.read_unread, h5.read_unread, h6.read_unread, h8.read_unread]
  simp only [ld_x0, ld_x1, ld_x2]
  rw [canon_du]
  exact pay7_at h _ _ _ s l

/-- The sums' block after a point of case B. -/
theorem out_B_5 (hc0 : ¬cond0_0 i) (hc1 : ¬cond0_1 i) (xo : Vec Ideal S1x3x8x1408 .f32) (h : Reads i x0 x1 x2 x3 b ct u w) (k : Fin 3) (s : Fin 8) (l : Fin 1408) :
    out0_B_5 (F := Ideal) c i a3 h3 a4 h4 a5 h5 a6 h6 a7 h7 a8 h8 hc0 hc1 x0 x1 x2 x3 xo (ix4 0 k s l) = xo (ix4 0 k s l) + foldK ct u b k.val s l := by
  unfold out0_B_5
  rw [View.read_writes_eq_canon _ _ _ (cover0_B_5 c i a3 h3 a4 h4 a5 h5 a6 h6 a7 h7 a8 h8 hc0 hc1 x0 x1 x2 x3 xo)]
  unfold kernelRun0_B
  dsimp only
  sl_unfold_words
  simp only [View.readAt_eq_ld, h3.read_unread, h4.read_unread, h5.read_unread, h6.read_unread, h8.read_unread]
  simp only [ld_x0, ld_x1, ld_x2]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, pay9_at h, ld_slab _ 0 _ 0 rfl] <;> rfl
  · rw [canon_miss 2 _ _ _ _ (by decide), canon_hit 1 _ _ _ _ rfl, pay10_at h, ld_slab _ 1 _ 1 rfl] <;> rfl
  · rw [canon_hit 2 _ _ _ _ rfl, pay11_at h, ld_slab _ 2 _ 2 rfl] <;> rfl

/-- The block of the input's gradient after a point of case C. -/
theorem out_C_4 (hc0 : ¬cond0_0 i) (hc1 : cond0_1 i) (xo : Vec Ideal S1x3x8x1408 .f32) (h : Reads i x0 x1 x2 x3 b ct u w) (s : Fin 512) (l : Fin 1408) :
    out0_C_4 (F := Ideal) c i a3 h3 a4 h4 a5 h5 a6 h6 a7 h7 a8 h8 hc0 hc1 x0 x1 x2 x3 xo (ix2 s l) = w 2 l * ct (b + s.val) l + w 1 l * ct (b + s.val + 1) l + w 0 l * ct (b + s.val + 2) l := by
  unfold out0_C_4
  rw [View.read_writes_eq_canon _ _ _ (cover0_C_4 c i a3 h3 a4 h4 a5 h5 a6 h6 a7 h7 a8 h8 hc0 hc1 x0 x1 x2 x3 xo)]
  unfold kernelRun0_C
  dsimp only
  sl_unfold_words
  simp only [View.readAt_eq_ld, h3.read_unread, h4.read_unread, h5.read_unread, h6.read_unread, h8.read_unread]
  simp only [ld_x0, ld_x1, ld_x2]
  rw [canon_du]
  exact pay7_at h _ _ _ s l

/-- The sums' block after a point of case C. -/
theorem out_C_5 (hc0 : ¬cond0_0 i) (hc1 : cond0_1 i) (xo : Vec Ideal S1x3x8x1408 .f32) (h : Reads i x0 x1 x2 x3 b ct u w) (k : Fin 3) (s : Fin 8) (l : Fin 1408) :
    out0_C_5 (F := Ideal) c i a3 h3 a4 h4 a5 h5 a6 h6 a7 h7 a8 h8 hc0 hc1 x0 x1 x2 x3 xo (ix4 0 k s l) = ∑ s : Fin 8, (xo (ix4 0 k s l) + foldK ct u b k.val s l) := by
  unfold out0_C_5
  rw [View.read_writes_eq_canon _ _ _ (cover0_C_5 c i a3 h3 a4 h4 a5 h5 a6 h6 a7 h7 a8 h8 hc0 hc1 x0 x1 x2 x3 xo)]
  unfold kernelRun0_C
  dsimp only
  sl_unfold_words
  simp only [View.readAt_eq_ld, h3.read_unread, h4.read_unread, h5.read_unread, h6.read_unread, h8.read_unread]
  simp only [View.readCov_eq_canon', ld_x0, ld_x1, ld_x2]
  rw [canon_all, pay1_at]
  refine Finset.sum_congr rfl fun x _ => ?_
  have iw : ∀ (inb) (y : S1x3x8x1408.Idx), (Rect.unit (s := S1x3x8x1408) ![0, 0, 0, 0] ![1, 3, 8, 1408] inb).toLoadRect.idx y = y := fun inb y => funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega
    | ⟨3, _⟩ => show 0 + 1 * (y 3).val = (y 3).val by omega)
  rw [iw]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, pay9_at h, ld_slab _ 0 _ 0 rfl] <;> rfl
  · rw [canon_miss 2 _ _ _ _ (by decide), canon_hit 1 _ _ _ _ rfl, pay10_at h, ld_slab _ 1 _ 1 rfl] <;> rfl
  · rw [canon_hit 2 _ _ _ _ rfl, pay11_at h, ld_slab _ 2 _ 2 rfl] <;> rfl
end

end Cert.ConvIdeal.Grad

end
-- ==== Proof.ConvKernel.lean ====
/- The convolution's backward kernel, run from any memory, leaves the specified gradients in its two result arrays. -/
module

public import proofs.«01_k».proof.Proof.ConvBlocks

@[expose] public section

set_option maxRecDepth 16384
noncomputable section

namespace Cert.ConvIdeal.Grad

open Cert.ConvIdeal Cert.ConvIdeal.Gen Cert.ConvSpec Idealize.ShloMosaic Idealize.ShloMosaic.TcCoe Idealize.SL.Sem
open Idealize.ShloMosaic.Pipeline (Dat)

variable (m : (ℓ : Loc nD τ sig) → Buf (Elt Ideal) ℓ) (c : Dev nD)

/-- The three arguments. -/
abbrev A0 : FVec Ideal S2x8192x2816 .bf16 := m ((c : Thread nD τ).loc main_arg0)
abbrev A1 : FVec Ideal S8192x5632 .bf16 := m ((c : Thread nD τ).loc main_arg1)
abbrev A2 : FVec Ideal S3x5632 .f32 := m ((c : Thread nD τ).loc main_arg2)

/-- The grid's coordinates and the blocks each point names. -/
theorem coord2 : ∀ t : Fin cfg0.N, (grid0.coords t 2).val = t.val % 16 :=
  (by decide +kernel : ∀ t : Fin grid0.N, _)
theorem idx0 : ∀ t : Fin cfg0.N, win0_0.index t 0 = t.val / 32 ∧ win0_0.index t 1 = t.val % 16 ∧ win0_0.index t 2 = t.val / 16 % 2 :=
  (by decide +kernel : ∀ t : Fin grid0.N, _)
theorem idx1 : ∀ t : Fin cfg0.N, t.val % 16 ≠ 15 → win0_1.index t 0 = t.val / 32 ∧ win0_1.index t 1 = (t.val % 16 + 1) * 32 ∧ win0_1.index t 2 = t.val / 16 % 2 :=
  (by decide +kernel : ∀ t : Fin grid0.N, _)
theorem idx2 : ∀ t : Fin cfg0.N, win0_2.index t 0 = t.val % 16 ∧ win0_2.index t 1 = t.val / 16 :=
  (by decide +kernel : ∀ t : Fin grid0.N, _)
theorem idx3 : ∀ t : Fin cfg0.N, win0_3.index t 0 = 0 ∧ win0_3.index t 1 = t.val / 16 :=
  (by decide +kernel : ∀ t : Fin grid0.N, _)
theorem idx4 : ∀ t : Fin cfg0.N, win0_4.index t 0 = t.val % 16 ∧ win0_4.index t 1 = t.val / 16 :=
  (by decide +kernel : ∀ t : Fin grid0.N, _)
theorem idx5 : ∀ t : Fin cfg0.N, win0_5.index t 0 = t.val / 32 ∧ win0_5.index t 1 = 0 ∧ win0_5.index t 2 = 0 ∧ win0_5.index t 3 = t.val / 16 % 2 :=
  (by decide +kernel : ∀ t : Fin grid0.N, _)
theorem flush5 : ∀ t : Fin cfg0.N, (cfg0.win 5).flush t = true ↔ t.val % 16 = 15 :=
  (by decide +kernel : ∀ t : Fin grid0.N, _)
theorem lt64 (t : Fin cfg0.N) : t.val < 64 := t.isLt

/-- The columns of the arrays a point works on. -/
def ctT (t : ℕ) (n : ℕ) (q : Fin 1408) : EReal := ctx (A0 m c) n (1408 * (t / 16) + q.val)
def uT (t : ℕ) (n : ℕ) (q : Fin 1408) : EReal := ux (A1 m c) n (1408 * (t / 16) + q.val)
def wT (t : ℕ) (k : ℕ) (q : Fin 1408) : EReal := wx (A2 m c) k (1408 * (t / 16) + q.val)

/-- The input blocks of point `t`. -/
theorem reads (t : Fin cfg0.N) :
    Reads (grid0.coords t) (iblk m c 0 t) (iblk m c 1 t) (iblk m c 2 t) (iblk m c 3 t) (512 * (t.val % 16)) (ctT m c t.val) (uT m c t.val) (wT m c t.val) where
  d p q := by
    obtain ⟨e0, e1, e2⟩ := idx0 t
    have ht := lt64 t
    have hp := p.isLt
    have hq := q.isLt
    unfold ctT ctx
    rw [dif_pos ⟨by omega, by omega⟩]
    unfold iblk; rw [View.read_apply]
    show V m c main_arg0 _ = m ((c : Thread nD τ).loc main_arg0) _
    unfold V; congr 1; funext a; apply Fin.ext
    match a with
    | ⟨0, _⟩ => show win0_0.index t 0 * 1 + 1 * 0 = (1408 * (t.val / 16) + q.val) / 2816; omega
    | ⟨1, _⟩ => show win0_0.index t 1 * 512 + 1 * p.val = 512 * (t.val % 16) + p.val; omega
    | ⟨2, _⟩ => show win0_0.index t 2 * 1408 + 1 * q.val = (1408 * (t.val / 16) + q.val) % 2816; omega
  halo p q h := by
    rw [coord2] at h
    obtain ⟨e0, e1, e2⟩ := idx1 t h
    have ht := lt64 t
    have hp := p.isLt
    have hq := q.isLt
    unfold ctT ctx
    rw [dif_pos ⟨by omega, by omega⟩]
    unfold iblk; rw [View.read_apply]
    show V m c main_arg0 _ = m ((c : Thread nD τ).loc main_arg0) _
    unfold V; congr 1; funext a; apply Fin.ext
    match a with
    | ⟨0, _⟩ => show win0_1.index t 0 * 1 + 1 * 0 = (1408 * (t.val / 16) + q.val) / 2816; omega
    | ⟨1, _⟩ => show win0_1.index t 1 * 16 + 1 * p.val = 512 * (t.val % 16) + 512 + p.val; omega
    | ⟨2, _⟩ => show win0_1.index t 2 * 1408 + 1 * q.val = (1408 * (t.val / 16) + q.val) % 2816; omega
  last h n q hn := by
    rw [coord2] at h
    exact dif_neg (by omega)
  u p q := by
    obtain ⟨e0, e1⟩ := idx2 t
    have ht := lt64 t
    have hp := p.isLt
    have hq := q.isLt
    unfold uT ux
    rw [dif_pos ⟨by omega, by omega⟩]
    unfold iblk; rw [View.read_apply]
    show V m c main_arg1 _ = m ((c : Thread nD τ).loc main_arg1) _
    unfold V; congr 1; funext a; apply Fin.ext
    match a with
    | ⟨0, _⟩ => show win0_2.index t 0 * 512 + 1 * p.val = 512 * (t.val % 16) + p.val; omega
    | ⟨1, _⟩ => show win0_2.index t 1 * 1408 + 1 * q.val = 1408 * (t.val / 16) + q.val; omega
  w k q := by
    obtain ⟨e0, e1⟩ := idx3 t
    have ht := lt64 t
    have hk := k.isLt
    have hq := q.isLt
    unfold wT wx
    rw [dif_pos ⟨by omega, by omega⟩]
    unfold iblk; rw [View.read_apply]
    show V m c main_arg2 _ = m ((c : Thread nD τ).loc main_arg2) _
    unfold V; congr 1; funext a; apply Fin.ext
    match a with
    | ⟨0, _⟩ => show win0_3.index t 0 * 3 + 1 * k.val = k.val; omega
    | ⟨1, _⟩ => show win0_3.index t 1 * 1408 + 1 * q.val = 1408 * (t.val / 16) + q.val; omega

/-- The block of the input's gradient after point `t`. -/
theorem outs_4 (t : Fin cfg0.N) (s : Fin 512) (l : Fin 1408) :
    (outsAt0 m c t.val t.isLt).1 (ix2 s l) = duSpec (A0 m c) (A2 m c) (512 * (t.val % 16) + s.val) (1408 * (t.val / 16) + l.val) := by
  by_cases h0 : t.val % 16 = 0
  · rw [outsAt0_A m c t h0 (by omega)]; dsimp only
    exact out_A_4 (h := reads m c t) ..
  · by_cases h1 : t.val % 16 = 15
    · rw [outsAt0_C m c t h0 h1]; dsimp only
      exact out_C_4 (h := reads m c t) ..
    · rw [outsAt0_B m c t h0 h1]; dsimp only
      exact out_B_4 (h := reads m c t) ..

/-- The sums after point `t`, before the last row block: what the row blocks so far added. -/
theorem outs_5 (k : Fin 3) (s : Fin 8) (l : Fin 1408) : ∀ (n : ℕ) (hn : n < cfg0.N), n % 16 ≠ 15 →
    (outsAt0 m c n hn).2 (ix4 0 k s l) = ∑ i ∈ Finset.range (n % 16 + 1), foldK (ctT m c n) (uT m c n) (512 * i) k.val s l := by
  intro n
  induction n with
  | zero =>
    intro hn h
    have e := outsAt0_A m c ⟨0, hn⟩ rfl (show ¬0 % 16 = 15 by decide)
    change outsAt0 m c 0 hn = _ at e
    rw [e]; dsimp only
    rw [out_A_5 (h := reads m c ⟨0, hn⟩)]
    simp
  | succ n ih =>
    intro hn h
    by_cases h0 : (n + 1) % 16 = 0
    · have e := outsAt0_A m c ⟨n + 1, hn⟩ h0 h
      change outsAt0 m c (n + 1) hn = _ at e
      rw [e]; dsimp only
      rw [out_A_5 (h := reads m c ⟨n + 1, hn⟩)]
      simp [h0]
    · have e := outsAt0_B m c ⟨n + 1, hn⟩ h0 h
      change outsAt0 m c (n + 1) hn = _ at e
      rw [e]; dsimp only
      rw [out_B_5 (h := reads m c ⟨n + 1, hn⟩)]
      have ih' := ih (by omega) (by omega)
      have hd : (n + 1) / 16 = n / 16 := by omega
      have hm : (n + 1) % 16 = n % 16 + 1 := by omega
      have hc : ctT m c (n + 1) = ctT m c n := by unfold ctT; rw [hd]
      have hu : uT m c (n + 1) = uT m c n := by unfold uT; rw [hd]
      show (outsAt0 m c n _).2 (ix4 0 k s l) + foldK (ctT m c (n + 1)) (uT m c (n + 1)) (512 * ((n + 1) % 16)) k.val s l = _
      rw [ih', hc, hu, hm, Finset.sum_range_succ _ (n % 16 + 1)]

/-- The rows of a column, cut into row blocks and within a block into eight interleaved groups. -/
theorem sum_rows (f : ℕ → EReal) :
    ∑ s : Fin 8, ∑ i ∈ Finset.range 16, ∑ a : Fin 64, f (512 * i + (a.val * 8 + s.val)) = ∑ r : Fin 8192, f r.val := by
  rw [Fin.sum_univ_tiles 16 512 (by norm_num) (fun r : Fin 8192 => f r.val), Finset.sum_comm,
    ← Fin.sum_univ_eq_sum_range (fun i => ∑ s : Fin 8, ∑ a : Fin 64, f (512 * i + (a.val * 8 + s.val))) 16]
  refine Finset.sum_congr rfl fun i _ => ?_
  rw [Fin.sum_univ_tiles 64 8 (by norm_num) (fun r : Fin 512 => f (i.val * 512 + r.val)), Finset.sum_comm]
  refine Finset.sum_congr rfl fun a _ => Finset.sum_congr rfl fun s _ => ?_
  show f (512 * i.val + (a.val * 8 + s.val)) = f (i.val * 512 + (a.val * 8 + s.val))
  rw [Nat.mul_comm]

/-- The sums' block where it is written back: the tap gradients of its columns, in every sublane. -/
theorem outs_5_last (t : Fin cfg0.N) (ht : t.val % 16 = 15) (k : Fin 3) (s : Fin 8) (l : Fin 1408) :
    (outsAt0 m c t.val t.isLt).2 (ix4 0 k s l) = tapSpec (A0 m c) (A1 m c) k.val (1408 * (t.val / 16) + l.val) := by
  have h0 : ¬t.val % 16 = 0 := by omega
  rw [outsAt0_C m c t h0 ht]; dsimp only
  rw [out_C_5 (h := reads m c t)]
  have hd : (t.val - 1) / 16 = t.val / 16 := by omega
  have hm : (t.val - 1) % 16 = 14 := by omega
  have hc : ctT m c (t.val - 1) = ctT m c t.val := by unfold ctT; rw [hd]
  have hu : uT m c (t.val - 1) = uT m c t.val := by unfold uT; rw [hd]
  unfold tapSpec
  rw [← sum_rows (fun r => ctx (A0 m c) (r + (2 - k.val)) (1408 * (t.val / 16) + l.val) * ux (A1 m c) r (1408 * (t.val / 16) + l.val))]
  refine Finset.sum_congr rfl fun x _ => ?_
  rw [outs_5 m c k x l (t.val - 1) _ (by omega), hm, hc, hu, ht, ← Finset.sum_range_succ (fun i => foldK (ctT m c t.val) (uT m c t.val) (512 * i) k.val x l) 15]
  rfl

/-- The gradient of the input, as the array the run leaves. -/
def G4 : FVec Ideal S8192x5632 .bf16 := fun i => duSpec (A0 m c) (A2 m c) (i 0).val (i 1).val
/-- The gradients of the taps, as the array the run leaves. -/
def G5 : FVec Ideal S2x3x8x2816 .f32 := fun i => tapSpec (A0 m c) (A1 m c) (i 1).val ((i 0).val * 2816 + (i 3).val)

theorem flushed_4 (t : Fin cfg0.N) : (dats m 0 c).flushed 4 t = ((cfg0.win 4).blk t).view.read (Elt Ideal) (G4 m c) := by
  rw [Value.flushed4]
  obtain ⟨e0, e1⟩ := idx4 t
  have key : ∀ y : S512x1408.Idx, (outsAt0 m c t.val t.isLt).1 y = G4 m c (((cfg0.win 4).blk t).view.emb y) := fun y => by
    obtain ⟨p, q, rfl⟩ : ∃ (p : Fin 512) (q : Fin 1408), y = ix2 p q := ⟨y 0, y 1, eq_ix2 y⟩
    rw [outs_4]
    unfold G4
    congr 1
    · show 512 * (t.val % 16) + p.val = win0_4.index t 0 * 512 + 1 * p.val; omega
    · show 1408 * (t.val / 16) + q.val = win0_4.index t 1 * 1408 + 1 * q.val; omega
  funext y
  rw [View.read_apply]
  exact key y

theorem flushed_5 (t : Fin cfg0.N) (hf : (cfg0.win 5).flush t = true) :
    (dats m 0 c).flushed 5 t = ((cfg0.win 5).blk t).view.read (Elt Ideal) (G5 m c) := by
  rw [Value.flushed5]
  obtain ⟨e0, e1, e2, e3⟩ := idx5 t
  have ht := lt64 t
  have key : ∀ y : S1x3x8x1408.Idx, (outsAt0 m c t.val t.isLt).2 y = G5 m c (((cfg0.win 5).blk t).view.emb y) := fun y => by
    obtain ⟨z, k, p, q, rfl⟩ : ∃ (z : Fin 1) (k : Fin 3) (p : Fin 8) (q : Fin 1408), y = ix4 z k p q := ⟨y 0, y 1, y 2, y 3, eq_ix4 y⟩
    obtain rfl : z = 0 := Subsingleton.elim _ _
    rw [outs_5_last m c t ((flush5 t).mp hf)]
    unfold G5
    congr 1
    · show k.val = win0_5.index t 1 * 3 + 1 * k.val; omega
    · show 1408 * (t.val / 16) + q.val = (win0_5.index t 0 * 1 + 1 * 0) * 2816 + (win0_5.index t 3 * 1408 + 1 * q.val); omega
  funext y
  rw [View.read_apply]
  exact key y

/-- The input's gradient is left in the first result. -/
theorem arr_4 : (dats m 0 c).arrAt 4 cfg0.N = G4 m c :=
  (dats m 0 c).arrAt_eq_of_cover 4 (G4 m c) (fun t _ => flushed_4 m c t) fun (i : S8192x5632.Idx) => by
    have h0 : (i 0).val < 8192 := (i 0).isLt
    have h1 : (i 1).val < 5632 := (i 1).isLt
    obtain ⟨t, ht⟩ : ∃ t : Fin cfg0.N, t.val = 16 * ((i 1).val / 1408) + (i 0).val / 512 := ⟨⟨_, by show _ < 64; omega⟩, rfl⟩
    refine ⟨t, ?_, ?_⟩
    · exact (by decide +kernel : ∀ t : Fin grid0.N, (cfg0.win 4).flush t = true) _
    · show i ∈ ((View.whole main_v0_0).slice (win0_4.rect t)).set
      rw [View.set_slice_whole, Rect.mem_set_unit]
      obtain ⟨e0, e1⟩ := idx4 t
      intro a
      match a with
      | ⟨0, _⟩ => show win0_4.index t 0 * 512 ≤ (i 0).val ∧ (i 0).val < win0_4.index t 0 * 512 + 512; omega
      | ⟨1, _⟩ => show win0_4.index t 1 * 1408 ≤ (i 1).val ∧ (i 1).val < win0_4.index t 1 * 1408 + 1408; omega

/-- The taps' gradients are left in the second result. -/
theorem arr_5 : (dats m 0 c).arrAt 5 cfg0.N = G5 m c :=
  (dats m 0 c).arrAt_eq_of_cover 5 (G5 m c) (fun t => flushed_5 m c t) fun (i : S2x3x8x2816.Idx) => by
    have h0 : (i 0).val < 2 := (i 0).isLt
    have h1 : (i 1).val < 3 := (i 1).isLt
    have h2 : (i 2).val < 8 := (i 2).isLt
    have h3 : (i 3).val < 2816 := (i 3).isLt
    obtain ⟨t, ht⟩ : ∃ t : Fin cfg0.N, t.val = 32 * (i 0).val + 16 * ((i 3).val / 1408) + 15 := ⟨⟨_, by show _ < 64; omega⟩, rfl⟩
    refine ⟨t, ?_, ?_⟩
    · rw [flush5]; omega
    · show i ∈ ((View.whole main_v0_1).slice (win0_5.rect t)).set
      rw [View.set_slice_whole, Rect.mem_set_unit]
      obtain ⟨e0, e1, e2, e3⟩ := idx5 t
      intro a
      match a with
      | ⟨0, _⟩ => show win0_5.index t 0 * 1 ≤ (i 0).val ∧ (i 0).val < win0_5.index t 0 * 1 + 1; omega
      | ⟨1, _⟩ => show win0_5.index t 1 * 3 ≤ (i 1).val ∧ (i 1).val < win0_5.index t 1 * 3 + 3; omega
      | ⟨2, _⟩ => show win0_5.index t 2 * 8 ≤ (i 2).val ∧ (i 2).val < win0_5.index t 2 * 8 + 8; omega
      | ⟨3, _⟩ => show win0_5.index t 3 * 1408 ≤ (i 3).val ∧ (i 3).val < win0_5.index t 3 * 1408 + 1408; omega

end Cert.ConvIdeal.Grad

end
-- ==== Proof.ConvRefVal.lean ====
/- The reference of the convolution's backward pass computes the specification. -/
module

public import proofs.«01_k».proof.Proof.Gen.ConvRefIdeal.Read
public import proofs.«01_k».proof.Proof.ConvSpec

@[expose] public section

set_option maxRecDepth 16384
noncomputable section

namespace Cert.ConvRefIdeal.Grad

open Cert.ConvRefIdeal Cert.ConvRefIdeal.Gen Cert.ConvRefIdeal.Read Cert.ConvSpec Idealize.ShloMosaic Idealize.ShloMosaic.TcCoe Idealize.SL.Sem

/-- The two halves of the gradient laid side by side. -/
theorem ct_at (A0 : FVec Ideal S2x8192x2816 .bf16) (r : Fin 8192) (l : Fin 5632) :
    val_main_v5 (F := Ideal) A0 (ix2 r l) = ctx A0 r.val l.val := by
  pointwise [val_main_v5, val_main_v4, val_main_v3, val_main_v2, val_main_v1, val_main_v0]
  have hl := l.isLt
  unfold ctx
  by_cases h : l.val < 2816
  · rw [dif_pos h, dif_pos ⟨r.isLt, l.isLt⟩]
    congr 1; refine (ix3_inj _ _ _ _ _ _).mpr ⟨Fin.ext ?_, rfl, Fin.ext ?_⟩
    · show 0 = l.val / 2816; omega
    · show l.val = l.val % 2816; omega
  · rw [dif_neg h, dif_pos ⟨r.isLt, l.isLt⟩]
    congr 1; refine (ix3_inj _ _ _ _ _ _).mpr ⟨Fin.ext ?_, rfl, Fin.ext ?_⟩
    · show 1 = l.val / 2816; omega
    · show l.val - 2816 = l.val % 2816; omega

/-- The reference's gradient of the input. -/
theorem du_at (A0 : FVec Ideal S2x8192x2816 .bf16) (A2 : FVec Ideal S3x5632 .f32) (r : Fin 8192) (l : Fin 5632) :
    val_main_v65 (F := Ideal) A0 A2 (ix2 r l) = duSpec A0 A2 r.val l.val := by
  pointwise [val_main_v65, val_main_v62, val_main_v57, val_main_v46, val_main_v36, val_main_v45, val_main_v56, val_main_v31, val_main_v40, val_main_v51, val_main_v30, val_main_v39, val_main_v50, val_main_v26, val_main_v24, val_main_v23, val_main_v19, val_main_v17, val_main_v16, val_main_v13, val_main_v11, val_main_v10, val_main_cst_3, val_main_cst_7, val_main_cst_11]
  simp only [ct_at]
  have hw : ∀ k : Fin 3, A2 (ix2 k l) = wx A2 k.val l.val := fun k => by
    unfold wx; rw [dif_pos ⟨k.isLt, l.isLt⟩]
  have hz : ∀ n, 8192 ≤ n → ctx A0 n l.val = 0 := fun n hn => dif_neg (by omega)
  rw [hw, hw, hw]
  unfold duSpec
  congr 1
  · congr 1
    split
    · next h => rw [show 2 + r.val - 1 = r.val + 1 by omega]; rfl
    · next h => rw [hz _ (by omega), mul_zero]
  · split
    · next h => rw [show 2 + r.val = r.val + 2 by omega]; rfl
    · next h => rw [hz _ (by omega), mul_zero]

/-- The input with two rows of zeros above it. -/
theorem up_at (A1 : FVec Ideal S8192x5632 .bf16) (r : Fin 8194) (l : Fin 5632) :
    val_main_v8 (F := Ideal) A1 (ix2 r l) = if r.val < 2 then 0 else ux A1 (r.val - 2) l.val := by
  pointwise [val_main_v8, val_main_v7, val_main_v6, val_main_cst]
  have hr := r.isLt
  split
  · rfl
  · next h => unfold ux; rw [dif_pos ⟨by omega, l.isLt⟩]

/-- The sum over the rows of the gradient times the padded input from row `k` on is the specified tap gradient. -/
theorem tap_sum (A0 : FVec Ideal S2x8192x2816 .bf16) (A1 : FVec Ideal S8192x5632 .bf16) (k L : ℕ) (hk : k ≤ 2) :
    ∑ x : Fin 8192, ctx A0 x.val L * (if k + x.val < 2 then 0 else ux A1 (k + x.val - 2) L) = tapSpec A0 A1 k L := by
  unfold tapSpec
  rw [← sum_shift 8192 (2 - k) (fun n => ctx A0 n L) (fun n => ux A1 n L) (fun n hn => dif_neg (by omega))]
  refine Finset.sum_congr rfl fun x _ => ?_
  by_cases h : k + x.val < 2
  · rw [if_pos h, if_pos (by omega)]
  · rw [if_neg h, if_neg (by omega), show k + x.val - 2 = x.val - (2 - k) by omega]

/-- The reference's gradients of the taps. -/
theorem taps_at (A0 : FVec Ideal S2x8192x2816 .bf16) (A1 : FVec Ideal S8192x5632 .bf16) (h : Fin 2) (k : Fin 3) (s : Fin 8) (q : Fin 2816) :
    val_main_v66 (F := Ideal) A0 A1 (ix4 h k s q) = tapSpec A0 A1 k.val (h.val * 2816 + q.val) := by
  pointwise [val_main_v66, val_main_v64, val_main_v63, val_main_v60, val_main_v59, val_main_v49, val_main_v48, val_main_v38, val_main_v37, val_main_v47, val_main_v58, val_main_v35, val_main_v44, val_main_v55, val_main_v34, val_main_v43, val_main_v54, val_main_v33, val_main_v42, val_main_v53, val_main_v32, val_main_v41, val_main_v52, val_main_v12, val_main_v18, val_main_v25, val_main_cst_1, val_main_cst_2, val_main_cst_4, val_main_cst_5, val_main_cst_6, val_main_cst_8, val_main_cst_9, val_main_cst_10, val_main_cst_12]
  have hh := h.isLt
  have hq := q.isLt
  have hk := k.isLt
  have t2 := tap_sum A0 A1 2 (h.val * 2816 + q.val) (by omega)
  have t1 := tap_sum A0 A1 1 (h.val * 2816 + q.val) (by omega)
  have t0 := tap_sum A0 A1 0 (h.val * 2816 + q.val) (by omega)
  simp only [ct_at, up_at, Finset.univ_unique, Finset.sum_singleton]
  simp only [Nat.zero_add] at t0
  rw [t2, t1, t0]
  obtain rfl | rfl | rfl : k = 0 ∨ k = 1 ∨ k = 2 := by
    rcases k with ⟨k, hk⟩; interval_cases k <;> simp
  · rw [dif_neg (by simp), dif_neg (by simp), dif_pos ⟨by simp, by omega⟩, zero_add, zero_add]; rfl
  · rw [dif_neg (by simp), dif_pos ⟨by simp, by omega⟩, dif_neg (by simp), zero_add, add_zero]; rfl
  · rw [dif_pos ⟨by simp, by omega⟩, dif_neg (by simp), dif_neg (by simp), add_zero, add_zero]; rfl

end Cert.ConvRefIdeal.Grad

end
-- ==== Proof.ConvClaim.lean ====
/- The convolution's backward kernel and its reference leave equal results. -/
module

public import proofs.«01_k».proof.Defs
public import proofs.«01_k».proof.Proof.ConvKernel
public import proofs.«01_k».proof.Proof.ConvRefVal

@[expose] public section

set_option maxRecDepth 16384
noncomputable section

namespace Cert.ConvClaim

open Idealize.ShloMosaic Idealize.SL.Sem Cert.ConvSpec

attribute [local instance] Cert.ConvIdeal.Gen.facts Cert.ConvRefIdeal.Gen.facts

/-- The reference's run, at the specification. -/
theorem ref_du (B0 : FVec Ideal Cert.ConvRefIdeal.S2x8192x2816 .bf16) (B2 : FVec Ideal Cert.ConvRefIdeal.S3x5632 .f32) :
    Cert.ConvRefIdeal.Read.val_main_v65 (F := Ideal) B0 B2 = fun i => duSpec B0 B2 (i 0).val (i 1).val := by
  funext i
  obtain ⟨r, l, rfl⟩ : ∃ (r : Fin 8192) (l : Fin 5632), i = ix2 r l := ⟨i 0, i 1, eq_ix2 i⟩
  exact Cert.ConvRefIdeal.Grad.du_at B0 B2 r l

theorem ref_taps (B0 : FVec Ideal Cert.ConvRefIdeal.S2x8192x2816 .bf16) (B1 : FVec Ideal Cert.ConvRefIdeal.S8192x5632 .bf16) :
    Cert.ConvRefIdeal.Read.val_main_v66 (F := Ideal) B0 B1 = fun i => tapSpec B0 B1 (i 1).val ((i 0).val * 2816 + (i 3).val) := by
  funext i
  obtain ⟨h, k, s, q, rfl⟩ : ∃ (h : Fin 2) (k : Fin 3) (s : Fin 8) (q : Fin 2816), i = ix4 h k s q := ⟨i 0, i 1, i 2, i 3, eq_ix4 i⟩
  exact Cert.ConvRefIdeal.Grad.taps_at B0 B1 h k s q

/-- The reference runs from every memory, leaves its arguments and every counter at zero. -/
theorem ref_frame : Cert.quiescent_ConvRefIdeal := fun m ρ _ =>
  (θ_run _ _ _).mono (fun r h => ⟨fun c => (h c).2.2, Idealize.ShloMosaic.sem_eq_zero_of_no_sems (by decide) r.2⟩)
    (Cert.ConvRefIdeal.Value.run (F := Ideal) m ρ)

/-- From memories that agree on the arguments both programs leave the same two gradients. -/
theorem algebraic : Cert.algebraic_ConvIdeal_ConvRefIdeal := by
  intro m ρ m' ρ' _ hag
  refine ⟨fun c => Cert.ConvIdeal.Grad.G4 m c, fun c => Cert.ConvIdeal.Grad.G5 m c, ?_, ?_⟩
  · exact (θ_run _ _ _).mono (fun _ h c => ⟨(h c).1.trans (Cert.ConvIdeal.Grad.arr_4 m c), (h c).2.1.trans (Cert.ConvIdeal.Grad.arr_5 m c), (h c).2.2⟩)
      (Cert.ConvIdeal.Value.run_blocks (F := Ideal) m ρ)
  · refine (θ_run _ _ _).mono (fun _ h c => ⟨(h c).1.trans ?_, (h c).2.1.trans ?_, (h c).2.2⟩) (Cert.ConvRefIdeal.Value.run (F := Ideal) m' ρ')
    · rw [Cert.ConvRefIdeal.Read.val_main_v65_eq, ref_du, (hag c).1, (hag c).2.2]; rfl
    · rw [Cert.ConvRefIdeal.Read.val_main_v66_eq, ref_taps, (hag c).1, (hag c).2.1]; rfl

end Cert.ConvClaim

end
-- ==== Proof.MmSpec.lean ====
/- A matrix product, element by element, over the reals with infinities: the sum over the contracted index, whole or cut into
   tiles. Every projection of the step and its two gradients are proved equal to it. -/
module

public import Idealize.ShloMosaic.Lib.Pointwise
public import Idealize.ShloMosaic.PureOps.Ideal.Laws

@[expose] public section

noncomputable section

namespace Cert.MmSpec

open Idealize.ShloMosaic

/-- The entry of a matrix at two numbers, zero outside. -/
def at2 {a b : ℕ} (f : (⟨2, ![a, b]⟩ : Shape).Idx → EReal) (i j : ℕ) : EReal :=
  if h : i < a ∧ j < b then f (ix2 ⟨i, h.1⟩ ⟨j, h.2⟩) else 0

/-- At the coordinates of an index it is the entry. -/
theorem at2_val {a b : ℕ} (f : (⟨2, ![a, b]⟩ : Shape).Idx → EReal) (i : Fin a) (j : Fin b) : at2 f i.val j.val = f (ix2 i j) :=
  dif_pos ⟨i.isLt, j.isLt⟩

/-- The transposed matrix. -/
def flip2 (f : ℕ → ℕ → EReal) (i j : ℕ) : EReal := f j i

/-- Row `r` of `L` against row `l` of `R`, over `K` terms. -/
def dotAt (K : ℕ) (L R : ℕ → ℕ → EReal) (r l : ℕ) : EReal := ∑ k : Fin K, L r k.val * R l k.val

/-- The part of it in tile `j` of `T` terms. -/
def tileAt (T : ℕ) (L R : ℕ → ℕ → EReal) (r l j : ℕ) : EReal := ∑ s : Fin T, L r (j * T + s.val) * R l (j * T + s.val)

/-- The tiles add up to the whole. -/
theorem sum_tileAt (J T : ℕ) (L R : ℕ → ℕ → EReal) (r l : ℕ) :
    ∑ j ∈ Finset.range J, tileAt T L R r l j = dotAt (J * T) L R r l := by
  unfold dotAt
  rw [Fin.sum_univ_tiles J T rfl (fun k : Fin (J * T) => L r k.val * R l k.val), ← Fin.sum_univ_eq_sum_range (fun j => tileAt T L R r l j) J]
  rfl

/-- One tile is the whole. -/
theorem tileAt_zero (T : ℕ) (L R : ℕ → ℕ → EReal) (r l : ℕ) : tileAt T L R r l 0 = dotAt T L R r l := by
  unfold tileAt dotAt
  refine Finset.sum_congr rfl fun k _ => ?_
  rw [show 0 * T + k.val = k.val by omega]

/-- The order of the factors does not matter. -/
theorem dotAt_comm (K : ℕ) (L R : ℕ → ℕ → EReal) (r l : ℕ) : dotAt K L R r l = dotAt K R L l r := by
  unfold dotAt
  exact Finset.sum_congr rfl fun k _ => mul_comm _ _

end Cert.MmSpec

end
-- ==== Proof.DownDxKernel.lean ====
/- The kernel of the gradient of the activation through the last projection, run from any memory, leaves that product in its result. -/
module

public import proofs.«01_k».proof.Proof.Gen.DownDxIdeal.Value
public import proofs.«01_k».proof.Proof.MmSpec

@[expose] public section

set_option maxRecDepth 16384
noncomputable section

namespace Cert.DownDxIdeal.Mm

open Cert.DownDxIdeal Cert.DownDxIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S2816x1024 .bf16) (inb) : View.ld (Val := Elt Ideal) x (Rect.unit (s := S2816x1024) ![0, 0] ![2816, 1024] inb) = x :=
  View.ld_unit_zero (by decide) inb x
theorem ld_o (x : Vec Ideal S1024x2816 .bf16) (inb) : View.ld (Val := Elt Ideal) x (Rect.unit (s := S1024x2816) ![0, 0] ![1024, 2816] inb) = x :=
  View.ld_unit_zero (by decide) inb x
/-- A store of a whole block leaves what was stored. -/
theorem canon_o (P : Vec Ideal S1024x2816 .bf16) (L : List (View.Piece (Elt Ideal) S1024x2816 .bf16)) (inb) :
    View.canon (Val := Elt Ideal) (⟨Rect.unit (s := S1024x2816) ![0, 0] ![1024, 2816] inb, P⟩ :: L) = P :=
  View.canon_cons_unit_zero (by decide) inb P L

/-- The block a point stores: the product of its two input blocks. -/
theorem out_at (x0 : Vec Ideal S1024x1024 .bf16) (x1 : Vec Ideal S2816x1024 .bf16) (p : Fin 1024) (q : Fin 2816) :
    out0_2 (F := Ideal) x0 x1 (ix2 p q) = ∑ s : Fin 1024, x0 (ix2 p s) * x1 (ix2 q s) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S2816x1024 .bf16 := m ((c : Thread nD τ).loc main_arg1)
/-- The rows of the left factor and the columns of the right one. -/
def LL : ℕ → ℕ → EReal := at2 (a := 8192) (b := 1024) (A0 m c)
def RR : ℕ → ℕ → EReal := at2 (a := 2816) (b := 1024) (A1 m c)

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 1024) :
    (iblk m c 0 t : Vec Ideal S1024x1024 .bf16) (ix2 p q) = LL m c (1024 * (t.val) + p.val) ((0) * 1024 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 1024 + 1 * q.val = (0) * 1024 + q.val; omega

/-- Input block 1 at a point. -/
theorem blk1 (t : Fin cfg0.N) (p : Fin 2816) (q : Fin 1024) :
    (iblk m c 1 t : Vec Ideal S2816x1024 .bf16) (ix2 p q) = RR m c (2816 * (0) + p.val) ((0) * 1024 + q.val) := by
  obtain ⟨e0, e1⟩ := idx1 t
  have ht := ltN t
  have hp := p.isLt
  have hq := q.isLt
  unfold RR at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 2816 + 1 * p.val = 2816 * (0) + p.val; omega
  | ⟨1, _⟩ => show win0_1.index t 1 * 1024 + 1 * q.val = (0) * 1024 + q.val; omega

/-- The product of a point's two input blocks is a tile of the whole product. -/
theorem tile (t : Fin cfg0.N) (p : Fin 1024) (q : Fin 2816) (x0 : Vec Ideal S1024x1024 .bf16) (x1 : Vec Ideal S2816x1024 .bf16) (h0 : x0 = iblk m c 0 t) (h1 : x1 = iblk m c 1 t) :
    ∑ s : Fin 1024, x0 (ix2 p s) * x1 (ix2 q s) = tileAt 1024 (LL m c) (RR m c) (1024 * (t.val) + p.val) (2816 * (0) + q.val) (0) := by
  subst h0 h1
  exact Finset.sum_congr rfl fun s _ => congrArg₂ (· * ·) (blk0 m c t p s) (blk1 m c t q s)

/-- The result's block after a point. -/
theorem outs (t : Fin cfg0.N) (p : Fin 1024) (q : Fin 2816) :
    out0_2 (F := Ideal) (iblk m c 0 t) (iblk m c 1 t) (ix2 p q) = dotAt 1024 (LL m c) (RR m c) (1024 * (t.val) + p.val) (2816 * (0) + q.val) := by
  rw [out_at, tile m c t p q _ _ rfl rfl, tileAt_zero]

/-- Result 1, as the array the run leaves. -/
def G2 : FVec Ideal S8192x2816 .bf16 := fun i => dotAt 1024 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x2816.Idx, (out0_2 (F := Ideal) (iblk m c 0 t) (iblk m c 1 t)) y = G2 m c (((cfg0.win 2).blk t).view.emb y) := fun y => by
    obtain ⟨p, q, rfl⟩ : ∃ (p : Fin 1024) (q : Fin 2816), y = ix2 p q := ⟨y 0, y 1, eq_ix2 y⟩
    rw [outs m c t]
    unfold G2
    congr 1
    · show 1024 * (t.val) + p.val = win0_2.index t 0 * 1024 + 1 * p.val; omega
    · show 2816 * (0) + q.val = win0_2.index t 1 * 2816 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x2816.Idx) => by
    have h0 : (i 0).val < 8192 := (i 0).isLt
    have h1 : (i 1).val < 2816 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 2816 ≤ (i 1).val ∧ (i 1).val < win0_2.index t 1 * 2816 + 2816; omega

end Cert.DownDxIdeal.Mm

end
-- ==== Proof.DownDxClaim.lean ====
/- The gradient of the activation through the last projection: the kernel and the problem's own line leave equal results. -/
module

public import proofs.«01_k».proof.Defs
public import proofs.«01_k».proof.Proof.DownDxKernel
public import proofs.«01_k».proof.Proof.Gen.DownDxRefIdeal.Run
public import proofs.«01_k».proof.Proof.Gen.DownDxRefIdeal.Read

@[expose] public section

set_option maxRecDepth 16384
noncomputable section

namespace Cert.DownDxClaim

open Idealize.ShloMosaic Idealize.SL.Sem Cert.MmSpec

attribute [local instance] Cert.DownDxIdeal.Gen.facts Cert.DownDxRefIdeal.Gen.facts

variable (B0 : FVec Ideal Cert.DownDxRefIdeal.S8192x1024 .bf16) (B1 : FVec Ideal Cert.DownDxRefIdeal.S2816x1024 .bf16)

/-- An element of the reference's result is the product's. -/
theorem v5_at (r : Fin 8192) (l : Fin 2816) :
    Cert.DownDxRefIdeal.Read.val_main_v5 (F := Ideal) B0 B1 (ix2 r l) = dotAt 1024 (at2 (a := 8192) (b := 1024) B0) (at2 (a := 2816) (b := 1024) B1) r.val l.val := by
  have e : ∀ k : Fin 1024, (at2 (a := 8192) (b := 1024) B0) r.val k.val * (at2 (a := 2816) (b := 1024) B1) l.val k.val = _ := fun k => congrArg₂ (· * ·) (at2_val (a := 8192) (b := 1024) B0 r k) (at2_val (a := 2816) (b := 1024) B1 l k)
  unfold dotAt
  rw [Finset.sum_congr rfl fun k _ => e k]
  pointwise [Cert.DownDxRefIdeal.Read.val_main_v5, Cert.DownDxRefIdeal.Read.val_main_v4, Cert.DownDxRefIdeal.Read.val_main_v3, Cert.DownDxRefIdeal.Read.val_main_v2, Cert.DownDxRefIdeal.Read.val_main_v1, Cert.DownDxRefIdeal.Read.val_main_v0, Cert.DownDxRefIdeal.Read.val_main_cst]

theorem v5_ref : Cert.DownDxRefIdeal.Read.val_main_v5 (F := Ideal) B0 B1 = fun i => dotAt 1024 (at2 (a := 8192) (b := 1024) B0) (at2 (a := 2816) (b := 1024) B1) (i 0).val (i 1).val := by
  funext i
  obtain ⟨r, l, rfl⟩ : ∃ (r : Fin 8192) (l : Fin 2816), i = ix2 r l := ⟨i 0, i 1, eq_ix2 i⟩
  exact v5_at B0 B1 r l

/-- The reference runs from every memory, leaves its arguments and every counter at zero. -/
theorem ref_frame : Cert.quiescent_DownDxRefIdeal := fun m ρ _ =>
  (θ_run _ _ _).mono (fun r h => ⟨fun c => (h c).2, Idealize.ShloMosaic.sem_eq_zero_of_no_sems (by decide) r.2⟩)
    (Cert.DownDxRefIdeal.Value.run (F := Ideal) m ρ)

/-- From memories that agree on the arguments both programs leave equal results. -/
theorem algebraic : Cert.algebraic_DownDxIdeal_DownDxRefIdeal := by
  intro m ρ m' ρ' _ hag
  refine ⟨fun c => Cert.DownDxIdeal.Mm.G2 m c, ?_, ?_⟩
  · exact (θ_run _ _ _).mono (fun _ h c => ⟨(h c).1.trans (Cert.DownDxIdeal.Mm.arr_2 m c), (h c).2⟩)
      (Cert.DownDxIdeal.Value.run_blocks (F := Ideal) m ρ)
  · refine (θ_run _ _ _).mono (fun _ h c => ⟨(h c).1.trans ?_, (h c).2⟩) (Cert.DownDxRefIdeal.Value.run (F := Ideal) m' ρ')
    rw [Cert.DownDxRefIdeal.Read.val_main_v5_eq, v5_ref, (hag c).1, (hag c).2]; rfl

end Cert.DownDxClaim

end
-- ==== Proof.DownDwKernel.lean ====
/- The kernel of the gradient of w_down, run from any memory, leaves that product in its result. -/
module

public import proofs.«01_k».proof.Proof.Gen.DownDwIdeal.Value
public import proofs.«01_k».proof.Proof.MmSpec

@[expose] public section

set_option maxRecDepth 16384
noncomputable section

namespace Cert.DownDwIdeal.Mm

open Cert.DownDwIdeal Cert.DownDwIdeal.Gen Cert.MmSpec Idealize.ShloMosaic Idealize.ShloMosaic.TcCoe Idealize.SL.Sem
open Idealize.ShloMosaic.Pipeline (Dat)

/-- A load of a whole block is the block. -/
theorem ld_0 (x : Vec Ideal S2048x1408 .bf16) (inb) : View.ld (Val := Elt Ideal) x (Rect.unit (s := S2048x1408) ![0, 0] ![2048, 1408] inb) = x :=
  View.ld_unit_zero (by decide) inb x
theorem ld_1 (x : Vec Ideal S2048x1024 .bf16) (inb) : View.ld (Val := Elt Ideal) x (Rect.unit (s := S2048x1024) ![0, 0] ![2048, 1024] inb) = x :=
  View.ld_unit_zero (by decide) inb x
theorem ld_o (x : Vec Ideal S1408x1024 .f32) (inb) : View.ld (Val := Elt Ideal) x (Rect.unit (s := S1408x1024) ![0, 0] ![1408, 1024] inb) = x :=
  View.ld_unit_zero (by decide) inb x
/-- A store of a whole block leaves what was stored. -/
theorem canon_o (P : Vec Ideal S1408x1024 .f32) (L : List (View.Piece (Elt Ideal) S1408x1024 .f32)) (inb) :
    View.canon (Val := Elt Ideal) (⟨Rect.unit (s := S1408x1024) ![0, 0] ![1408, 1024] inb, P⟩ :: L) = P :=
  View.canon_cons_unit_zero (by decide) inb P L
theorem canon_r (P : Vec Ideal S1408x1024 .bf16) (L : List (View.Piece (Elt Ideal) S1408x1024 .bf16)) (inb) :
    View.canon (Val := Elt Ideal) (⟨Rect.unit (s := S1408x1024) ![0, 0] ![1408, 1024] inb, P⟩ :: L) = P :=
  View.canon_cons_unit_zero (by decide) inb P L

/-- The product of two input blocks, and it added to what the block held. -/
theorem pay1_at (x0 : Vec Ideal S2048x1408 .bf16) (x1 : Vec Ideal S2048x1024 .bf16) (p : Fin 1408) (q : Fin 1024) : k0_pay1 (F := Ideal) x0 x1 (ix2 p q) = ∑ s : Fin 2048, x0 (ix2 s p) * x1 (ix2 s q) := by
  pointwise [k0_pay1]
theorem pay2_at (x0 : Vec Ideal S2048x1408 .bf16) (x1 : Vec Ideal S2048x1024 .bf16) (xo : Vec Ideal S1408x1024 .f32) (p : Fin 1408) (q : Fin 1024) : k0_pay2 (F := Ideal) x0 x1 xo (ix2 p q) = xo (ix2 p q) + ∑ s : Fin 2048, x0 (ix2 s p) * x1 (ix2 s q) := by
  pointwise [k0_pay2, k0_pay1]
/-- The second result's block is the first's. -/
theorem pay3_at (xo : Vec Ideal S1408x1024 .f32) (p : Fin 1408) (q : Fin 1024) : k0_pay3 (F := Ideal) xo (ix2 p q) = xo (ix2 p q) := by
  pointwise [k0_pay3]

section
variable (c : Dev nD) (i : grid0.Coords) (a0 : Memref sig .tc .vmem S2048x1408 .bf16) (h0 : a0.IsWhole) (a1 : Memref sig .tc .vmem S2048x1024 .bf16) (h1 : a1.IsWhole) (a2 : Memref sig .tc .vmem S1408x1024 .f32) (h2 : a2.IsWhole) (a3 : Memref sig .tc .vmem S1408x1024 .bf16) (h3 : a3.IsWhole)

/-- What a point of case A leaves in output block 2. -/
theorem out_A_2 (hc0 : cond0_0 i) (hc1 : ¬cond0_1 i) (hc2 : ¬cond0_2 i) (x0 : Vec Ideal S2048x1408 .bf16) (x1 : Vec Ideal S2048x1024 .bf16) (p : Fin 1408) (q : Fin 1024) :
    out0_A_2 (F := Ideal) c i a0 h0 a1 h1 a2 h2 a3 h3 hc0 hc1 hc2 x0 x1 (ix2 p q) = ∑ s : Fin 2048, x0 (ix2 s p) * x1 (ix2 s q) := by
  unfold out0_A_2
  rw [View.read_writes_eq_canon _ _ _ (cover0_A_2 c i a0 h0 a1 h1 a2 h2 a3 h3 hc0 hc1 hc2 x0 x1)]
  unfold kernelRun0_A
  dsimp only
  sl_unfold_words
  simp only [View.readAt_eq_ld, h0.read_unread, h1.read_unread]
  rw [canon_o, ld_0, ld_1]
  exact pay1_at x0 x1 p q

/-- What a point of case B leaves in output block 2. -/
theorem out_B_2 (hc0 : ¬cond0_0 i) (hc1 : cond0_1 i) (hc2 : ¬cond0_2 i) (x0 : Vec Ideal S2048x1408 .bf16) (x1 : Vec Ideal S2048x1024 .bf16) (xo : Vec Ideal S1408x1024 .f32) (p : Fin 1408) (q : Fin 1024) :
    out0_B_2 (F := Ideal) c i a0 h0 a1 h1 a2 h2 a3 h3 hc0 hc1 hc2 x0 x1 xo (ix2 p q) = xo (ix2 p q) + ∑ s : Fin 2048, x0 (ix2 s p) * x1 (ix2 s q) := by
  unfold out0_B_2
  rw [View.read_writes_eq_canon _ _ _ (cover0_B_2 c i a0 h0 a1 h1 a2 h2 a3 h3 hc0 hc1 hc2 x0 x1 xo)]
  unfold kernelRun0_B
  dsimp only
  sl_unfold_words
  simp only [View.readAt_eq_ld, h0.read_unread, h1.read_unread, h2.read_unread]
  rw [canon_o, ld_0, ld_1, ld_o]
  exact pay2_at x0 x1 xo p q

/-- A whole block's own positions. -/
theorem rect_idx (inb) (y : S1408x1024.Idx) : (Rect.unit (s := S1408x1024) ![0, 0] ![1408, 1024] inb).toLoadRect.idx y = y :=
  funext fun a => Fin.ext (match a with
    | ⟨0, _⟩ => show 0 + 1 * (y 0).val = (y 0).val by omega
    | ⟨1, _⟩ => show 0 + 1 * (y 1).val = (y 1).val by omega)

/-- What a point of case C leaves in output block 2. -/
theorem out_C_2 (hc0 : ¬cond0_0 i) (hc1 : cond0_1 i) (hc2 : cond0_2 i) (x0 : Vec Ideal S2048x1408 .bf16) (x1 : Vec Ideal S2048x1024 .bf16) (xo : Vec Ideal S1408x1024 .f32) (p : Fin 1408) (q : Fin 1024) :
    out0_C_2 (F := Ideal) c i a0 h0 a1 h1 a2 h2 a3 h3 hc0 hc1 hc2 x0 x1 xo (ix2 p q) = xo (ix2 p q) + ∑ s : Fin 2048, x0 (ix2 s p) * x1 (ix2 s q) := by
  unfold out0_C_2
  rw [View.read_writes_eq_canon _ _ _ (cover0_C_2 c i a0 h0 a1 h1 a2 h2 a3 h3 hc0 hc1 hc2 x0 x1 xo)]
  unfold kernelRun0_C
  dsimp only
  sl_unfold_words
  simp only [View.readAt_eq_ld, h0.read_unread, h1.read_unread, h2.read_unread]
  rw [canon_o, ld_0, ld_1, ld_o]
  exact pay2_at x0 x1 xo p q

/-- What a point of case C leaves in output block 3. -/
theorem out_C_3 (hc0 : ¬cond0_0 i) (hc1 : cond0_1 i) (hc2 : cond0_2 i) (x0 : Vec Ideal S2048x1408 .bf16) (x1 : Vec Ideal S2048x1024 .bf16) (xo : Vec Ideal S1408x1024 .f32) (p : Fin 1408) (q : Fin 1024) :
    out0_C_3 (F := Ideal) c i a0 h0 a1 h1 a2 h2 a3 h3 hc0 hc1 hc2 x0 x1 xo (ix2 p q) = xo (ix2 p q) + ∑ s : Fin 2048, x0 (ix2 s p) * x1 (ix2 s q) := by
  unfold out0_C_3
  rw [View.read_writes_eq_canon _ _ _ (cover0_C_3 c i a0 h0 a1 h1 a2 h2 a3 h3 hc0 hc1 hc2 x0 x1 xo)]
  unfold kernelRun0_C
  dsimp only
  sl_unfold_words
  simp only [View.readAt_eq_ld, h0.read_unread, h1.read_unread, h2.read_unread]
  simp only [View.readCov_eq_canon', ld_0, ld_1, ld_o]
  rw [canon_r, pay3_at]
  rw [canon_o, rect_idx]
  exact pay2_at x0 x1 xo p q
end

variable (m : (ℓ : Loc nD τ sig) → Buf (Elt Ideal) ℓ) (c : Dev nD)

/-- The two arguments. -/
abbrev A0 : FVec Ideal S8192x2816 .bf16 := m ((c : Thread nD τ).loc main_arg0)
abbrev A1 : FVec Ideal S8192x1024 .bf16 := m ((c : Thread nD τ).loc main_arg1)
/-- The rows of the left factor and the columns of the right one. -/
def LL : ℕ → ℕ → EReal := flip2 (at2 (a := 8192) (b := 2816) (A0 m c))
def RR : ℕ → ℕ → EReal := flip2 (at2 (a := 8192) (b := 1024) (A1 m c))

/-- The blocks each grid point names. -/
theorem idx0 : ∀ t : Fin cfg0.N, win0_0.index t 0 = t.val % 4 ∧ win0_0.index t 1 = t.val / 4 :=
  (by decide +kernel : ∀ t : Fin grid0.N, _)
theorem idx1 : ∀ t : Fin cfg0.N, win0_1.index t 0 = t.val % 4 ∧ win0_1.index t 1 = 0 :=
  (by decide +kernel : ∀ t : Fin grid0.N, _)
theorem idx2 : ∀ t : Fin cfg0.N, win0_2.index t 0 = t.val / 4 ∧ win0_2.index t 1 = 0 :=
  (by decide +kernel : ∀ t : Fin grid0.N, _)
theorem idx3 : ∀ t : Fin cfg0.N, win0_3.index t 0 = t.val / 4 ∧ win0_3.index t 1 = 0 :=
  (by decide +kernel : ∀ t : Fin grid0.N, _)
theorem ltN (t : Fin cfg0.N) : t.val < 8 := t.isLt

/-- Input block 0 at a point. -/
theorem blk0 (t : Fin cfg0.N) (p : Fin 2048) (q : Fin 1408) :
    (iblk m c 0 t : Vec Ideal S2048x1408 .bf16) (ix2 p q) = LL m c (1408 * (t.val / 4) + q.val) ((t.val % 4) * 2048 + p.val) := by
  obtain ⟨e0, e1⟩ := idx0 t
  have ht := ltN t
  have hp := p.isLt
  have hq := q.isLt
  unfold LL flip2 at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 2048 + 1 * p.val = (t.val % 4) * 2048 + p.val; omega
  | ⟨1, _⟩ => show win0_0.index t 1 * 1408 + 1 * q.val = 1408 * (t.val / 4) + q.val; omega

/-- Input block 1 at a point. -/
theorem blk1 (t : Fin cfg0.N) (p : Fin 2048) (q : Fin 1024) :
    (iblk m c 1 t : Vec Ideal S2048x1024 .bf16) (ix2 p q) = RR m c (1024 * (0) + q.val) ((t.val % 4) * 2048 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 2048 + 1 * p.val = (t.val % 4) * 2048 + p.val; omega
  | ⟨1, _⟩ => show win0_1.index t 1 * 1024 + 1 * q.val = 1024 * (0) + q.val; omega

/-- The product of a point's two input blocks is a tile of the whole product. -/
theorem tile (t : Fin cfg0.N) (p : Fin 1408) (q : Fin 1024) (x0 : Vec Ideal S2048x1408 .bf16) (x1 : Vec Ideal S2048x1024 .bf16) (h0 : x0 = iblk m c 0 t) (h1 : x1 = iblk m c 1 t) :
    ∑ s : Fin 2048, x0 (ix2 s p) * x1 (ix2 s q) = tileAt 2048 (LL m c) (RR m c) (1408 * (t.val / 4) + p.val) (1024 * (0) + q.val) (t.val % 4) := by
  subst h0 h1
  exact Finset.sum_congr rfl fun s _ => congrArg₂ (· * ·) (blk0 m c t s p) (blk1 m c t s q)

/-- The result's block after a point, before the last tile: the tiles so far added up. -/
theorem outs (p : Fin 1408) (q : Fin 1024) : ∀ (n : ℕ) (hn : n < cfg0.N), n % 4 ≠ 3 →
    (outsAt0 m c n hn).1 (ix2 p q) = ∑ k ∈ Finset.range (n % 4 + 1), tileAt 2048 (LL m c) (RR m c) (1408 * (n / 4) + p.val) (1024 * (0) + q.val) k := by
  intro n
  induction n with
  | zero =>
    intro hn h
    have e := outsAt0_A m c ⟨0, hn⟩ (show 0 % 4 = 0 by decide) (show ¬1 ≤ 0 % 4 by decide) (show ¬0 % 4 = 3 by decide)
    change outsAt0 m c 0 hn = _ at e
    rw [e]; dsimp only
    rw [out_A_2, tile m c ⟨0, hn⟩ p q _ _ rfl rfl]
    simp
  | succ n ih =>
    intro hn h
    by_cases h0 : (n + 1) % 4 = 0
    · have e := outsAt0_A m c ⟨n + 1, hn⟩ h0 (by dsimp only; omega) (by dsimp only; omega)
      change outsAt0 m c (n + 1) hn = _ at e
      rw [e]; dsimp only
      rw [out_A_2, tile m c ⟨n + 1, hn⟩ p q _ _ rfl rfl]
      simp [h0]
    · have e := outsAt0_B m c ⟨n + 1, hn⟩ h0 (by dsimp only; omega) h
      change outsAt0 m c (n + 1) hn = _ at e
      rw [e]; dsimp only
      rw [out_B_2, tile m c ⟨n + 1, hn⟩ p q _ _ rfl rfl]
      have ih' := ih (by omega) (by omega)
      have ei : (n + 1) / 4 = n / 4 := by omega
      have ek : (n + 1) % 4 = n % 4 + 1 := by omega
      show (outsAt0 m c n _).1 (ix2 p q) + tileAt 2048 (LL m c) (RR m c) (1408 * ((n + 1) / 4) + p.val) (1024 * (0) + q.val) ((n + 1) % 4) = _
      rw [ih', ei, ek, Finset.sum_range_succ _ (n % 4 + 1)]

/-- Result block 1 where it is written back: the whole product. -/
theorem outs_2_last (t : Fin cfg0.N) (ht : t.val % 4 = 3) (p : Fin 1408) (q : Fin 1024) :
    (outsAt0 m c t.val t.isLt).1 (ix2 p q) = dotAt 8192 (LL m c) (RR m c) (1408 * (t.val / 4) + p.val) (1024 * (0) + q.val) := by
  have h0 : ¬t.val % 4 = 0 := by omega
  rw [outsAt0_C m c t h0 (by omega) ht]; dsimp only
  rw [out_C_2, tile m c t p q _ _ rfl rfl, outs m c p q (t.val - 1) _ (by omega)]
  have ei : (t.val - 1) / 4 = t.val / 4 := by omega
  have ek : (t.val - 1) % 4 = 2 := by omega
  rw [ei, ek, show t.val % 4 = 2 + 1 by omega, ← Finset.sum_range_succ (fun k => tileAt 2048 (LL m c) (RR m c) (1408 * (t.val / 4) + p.val) (1024 * (0) + q.val) k) (2 + 1)]
  exact sum_tileAt 4 2048 _ _ _ _

/-- Result block 2 where it is written back: the whole product. -/
theorem outs_3_last (t : Fin cfg0.N) (ht : t.val % 4 = 3) (p : Fin 1408) (q : Fin 1024) :
    (outsAt0 m c t.val t.isLt).2 (ix2 p q) = dotAt 8192 (LL m c) (RR m c) (1408 * (t.val / 4) + p.val) (1024 * (0) + q.val) := by
  have h0 : ¬t.val % 4 = 0 := by omega
  rw [outsAt0_C m c t h0 (by omega) ht]; dsimp only
  rw [out_C_3, tile m c t p q _ _ rfl rfl, outs m c p q (t.val - 1) _ (by omega)]
  have ei : (t.val - 1) / 4 = t.val / 4 := by omega
  have ek : (t.val - 1) % 4 = 2 := by omega
  rw [ei, ek, show t.val % 4 = 2 + 1 by omega, ← Finset.sum_range_succ (fun k => tileAt 2048 (LL m c) (RR m c) (1408 * (t.val / 4) + p.val) (1024 * (0) + q.val) k) (2 + 1)]
  exact sum_tileAt 4 2048 _ _ _ _

/-- Result 1, as the array the run leaves. -/
def G2 : FVec Ideal S2816x1024 .f32 := fun i => dotAt 8192 (LL m c) (RR m c) (i 0).val (i 1).val

theorem flush2 : ∀ t : Fin cfg0.N, (cfg0.win 2).flush t = true ↔ t.val % 4 = 3 :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1408x1024.Idx, ((outsAt0 m c t.val t.isLt).1) y = G2 m c (((cfg0.win 2).blk t).view.emb y) := fun y => by
    obtain ⟨p, q, rfl⟩ : ∃ (p : Fin 1408) (q : Fin 1024), y = ix2 p q := ⟨y 0, y 1, eq_ix2 y⟩
    rw [outs_2_last m c t ((flush2 t).mp hf)]
    unfold G2
    congr 1
    · show 1408 * (t.val / 4) + p.val = win0_2.index t 0 * 1408 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S2816x1024.Idx) => by
    have h0 : (i 0).val < 2816 := (i 0).isLt
    have h1 : (i 1).val < 1024 := (i 1).isLt
    obtain ⟨t, ht⟩ : ∃ t : Fin cfg0.N, t.val = 4 * ((i 0).val / 1408) + 3 := ⟨⟨_, by show _ < 8; omega⟩, rfl⟩
    refine ⟨t, ?_, ?_⟩
    · rw [flush2]; omega
    · show i ∈ ((View.whole main_v0_0).slice (win0_2.rect t)).set
      rw [View.set_slice_whole, Rect.mem_set_unit]
      obtain ⟨e0, e1⟩ := idx2 t
      intro a
      match a with
      | ⟨0, _⟩ => show win0_2.index t 0 * 1408 ≤ (i 0).val ∧ (i 0).val < win0_2.index t 0 * 1408 + 1408; omega
      | ⟨1, _⟩ => show win0_2.index t 1 * 1024 ≤ (i 1).val ∧ (i 1).val < win0_2.index t 1 * 1024 + 1024; omega

/-- Result 2, as the array the run leaves. -/
def G3 : FVec Ideal S2816x1024 .bf16 := fun i => dotAt 8192 (LL m c) (RR m c) (i 0).val (i 1).val

theorem flush3 : ∀ t : Fin cfg0.N, (cfg0.win 3).flush t = true ↔ t.val % 4 = 3 :=
  (by decide +kernel : ∀ t : Fin grid0.N, _)

theorem flushed_3 (t : Fin cfg0.N) (hf : (cfg0.win 3).flush t = true) :
    (dats m 0 c).flushed 3 t = ((cfg0.win 3).blk t).view.read (Elt Ideal) (G3 m c) := by
  rw [Value.flushed3]
  obtain ⟨e0, e1⟩ := idx3 t
  have ht := ltN t
  have key : ∀ y : S1408x1024.Idx, ((outsAt0 m c t.val t.isLt).2) y = G3 m c (((cfg0.win 3).blk t).view.emb y) := fun y => by
    obtain ⟨p, q, rfl⟩ : ∃ (p : Fin 1408) (q : Fin 1024), y = ix2 p q := ⟨y 0, y 1, eq_ix2 y⟩
    rw [outs_3_last m c t ((flush3 t).mp hf)]
    unfold G3
    congr 1
    · show 1408 * (t.val / 4) + p.val = win0_3.index t 0 * 1408 + 1 * p.val; omega
    · show 1024 * (0) + q.val = win0_3.index t 1 * 1024 + 1 * q.val; omega
  funext y
  rw [View.read_apply]
  exact key y

/-- The product is left in result 2. -/
theorem arr_3 : (dats m 0 c).arrAt 3 cfg0.N = G3 m c :=
  (dats m 0 c).arrAt_eq_of_cover 3 (G3 m c) (fun t hf => flushed_3 m c t hf) fun (i : S2816x1024.Idx) => by
    have h0 : (i 0).val < 2816 := (i 0).isLt
    have h1 : (i 1).val < 1024 := (i 1).isLt
    obtain ⟨t, ht⟩ : ∃ t : Fin cfg0.N, t.val = 4 * ((i 0).val / 1408) + 3 := ⟨⟨_, by show _ < 8; omega⟩, rfl⟩
    refine ⟨t, ?_, ?_⟩
    · rw [flush3]; omega
    · show i ∈ ((View.whole main_v0_1).slice (win0_3.rect t)).set
      rw [View.set_slice_whole, Rect.mem_set_unit]
      obtain ⟨e0, e1⟩ := idx3 t
      intro a
      match a with
      | ⟨0, _⟩ => show win0_3.index t 0 * 1408 ≤ (i 0).val ∧ (i 0).val < win0_3.index t 0 * 1408 + 1408; omega
      | ⟨1, _⟩ => show win0_3.index t 1 * 1024 ≤ (i 1).val ∧ (i 1).val < win0_3.index t 1 * 1024 + 1024; omega

end Cert.DownDwIdeal.Mm

end
-- ==== Proof.DownDwClaim.lean ====
/- The gradient of w_down: the kernel and the problem's own line leave equal results. -/
module

public import proofs.«01_k».proof.Defs
public import proofs.«01_k».proof.Proof.DownDwKernel
public import proofs.«01_k».proof.Proof.Gen.DownDwRefIdeal.Run
public import proofs.«01_k».proof.Proof.Gen.DownDwRefIdeal.Read

@[expose] public section

set_option maxRecDepth 16384
noncomputable section

namespace Cert.DownDwClaim

open Idealize.ShloMosaic Idealize.SL.Sem Cert.MmSpec

attribute [local instance] Cert.DownDwIdeal.Gen.facts Cert.DownDwRefIdeal.Gen.facts

variable (B0 : FVec Ideal Cert.DownDwRefIdeal.S8192x2816 .bf16) (B1 : FVec Ideal Cert.DownDwRefIdeal.S8192x1024 .bf16)

/-- An element of the reference's result is the product's. -/
theorem v5_at (r : Fin 2816) (l : Fin 1024) :
    Cert.DownDwRefIdeal.Read.val_main_v5 (F := Ideal) B0 B1 (ix2 r l) = dotAt 8192 (flip2 (at2 (a := 8192) (b := 2816) B0)) (flip2 (at2 (a := 8192) (b := 1024) B1)) r.val l.val := by
  rw [dotAt_comm]
  have e : ∀ k : Fin 8192, (flip2 (at2 (a := 8192) (b := 1024) B1)) l.val k.val * (flip2 (at2 (a := 8192) (b := 2816) B0)) r.val k.val = _ := fun k => congrArg₂ (· * ·) (at2_val (a := 8192) (b := 1024) B1 k l) (at2_val (a := 8192) (b := 2816) B0 k r)
  unfold dotAt
  rw [Finset.sum_congr rfl fun k _ => e k]
  pointwise [Cert.DownDwRefIdeal.Read.val_main_v6, Cert.DownDwRefIdeal.Read.val_main_v5, Cert.DownDwRefIdeal.Read.val_main_v4, Cert.DownDwRefIdeal.Read.val_main_v3, Cert.DownDwRefIdeal.Read.val_main_v2, Cert.DownDwRefIdeal.Read.val_main_v1, Cert.DownDwRefIdeal.Read.val_main_v0, Cert.DownDwRefIdeal.Read.val_main_cst]

theorem v5_ref : Cert.DownDwRefIdeal.Read.val_main_v5 (F := Ideal) B0 B1 = fun i => dotAt 8192 (flip2 (at2 (a := 8192) (b := 2816) B0)) (flip2 (at2 (a := 8192) (b := 1024) B1)) (i 0).val (i 1).val := by
  funext i
  obtain ⟨r, l, rfl⟩ : ∃ (r : Fin 2816) (l : Fin 1024), i = ix2 r l := ⟨i 0, i 1, eq_ix2 i⟩
  exact v5_at B0 B1 r l

/-- An element of the reference's result is the product's. -/
theorem v6_at (r : Fin 2816) (l : Fin 1024) :
    Cert.DownDwRefIdeal.Read.val_main_v6 (F := Ideal) B0 B1 (ix2 r l) = dotAt 8192 (flip2 (at2 (a := 8192) (b := 2816) B0)) (flip2 (at2 (a := 8192) (b := 1024) B1)) r.val l.val := by
  rw [dotAt_comm]
  have e : ∀ k : Fin 8192, (flip2 (at2 (a := 8192) (b := 1024) B1)) l.val k.val * (flip2 (at2 (a := 8192) (b := 2816) B0)) r.val k.val = _ := fun k => congrArg₂ (· * ·) (at2_val (a := 8192) (b := 1024) B1 k l) (at2_val (a := 8192) (b := 2816) B0 k r)
  unfold dotAt
  rw [Finset.sum_congr rfl fun k _ => e k]
  pointwise [Cert.DownDwRefIdeal.Read.val_main_v6, Cert.DownDwRefIdeal.Read.val_main_v5, Cert.DownDwRefIdeal.Read.val_main_v4, Cert.DownDwRefIdeal.Read.val_main_v3, Cert.DownDwRefIdeal.Read.val_main_v2, Cert.DownDwRefIdeal.Read.val_main_v1, Cert.DownDwRefIdeal.Read.val_main_v0, Cert.DownDwRefIdeal.Read.val_main_cst]

theorem v6_ref : Cert.DownDwRefIdeal.Read.val_main_v6 (F := Ideal) B0 B1 = fun i => dotAt 8192 (flip2 (at2 (a := 8192) (b := 2816) B0)) (flip2 (at2 (a := 8192) (b := 1024) B1)) (i 0).val (i 1).val := by
  funext i
  obtain ⟨r, l, rfl⟩ : ∃ (r : Fin 2816) (l : Fin 1024), i = ix2 r l := ⟨i 0, i 1, eq_ix2 i⟩
  exact v6_at B0 B1 r l

/-- The reference runs from every memory, leaves its arguments and every counter at zero. -/
theorem ref_frame : Cert.quiescent_DownDwRefIdeal := fun m ρ _ =>
  (θ_run _ _ _).mono (fun r h => ⟨fun c => (h c).2.2, Idealize.ShloMosaic.sem_eq_zero_of_no_sems (by decide) r.2⟩)
    (Cert.DownDwRefIdeal.Value.run (F := Ideal) m ρ)

/-- From memories that agree on the arguments both programs leave equal results. -/
theorem algebraic : Cert.algebraic_DownDwIdeal_DownDwRefIdeal := by
  intro m ρ m' ρ' _ hag
  refine ⟨fun c => Cert.DownDwIdeal.Mm.G2 m c, fun c => Cert.DownDwIdeal.Mm.G3 m c, ?_, ?_⟩
  · exact (θ_run _ _ _).mono (fun _ h c => ⟨(h c).1.trans (Cert.DownDwIdeal.Mm.arr_2 m c), (h c).2.1.trans (Cert.DownDwIdeal.Mm.arr_3 m c), (h c).2.2⟩)
      (Cert.DownDwIdeal.Value.run_blocks (F := Ideal) m ρ)
  · refine (θ_run _ _ _).mono (fun _ h c => ⟨(h c).1.trans ?_, (h c).2.1.trans ?_, (h c).2.2⟩) (Cert.DownDwRefIdeal.Value.run (F := Ideal) m' ρ')
    · rw [Cert.DownDwRefIdeal.Read.val_main_v5_eq, v5_ref, (hag c).1, (hag c).2]; rfl
    · rw [Cert.DownDwRefIdeal.Read.val_main_v6_eq, v6_ref, (hag c).1, (hag c).2]; rfl

end Cert.DownDwClaim

end
-- ==== Proof.UpDxKernel.lean ====
/- The kernel of the gradient of the normed rows through w_up, run from any memory, leaves that product in its result. -/
module

public import proofs.«01_k».proof.Proof.Gen.UpDxIdeal.Value
public import proofs.«01_k».proof.Proof.MmSpec

@[expose] public section

set_option maxRecDepth 16384
noncomputable section

namespace Cert.UpDxIdeal.Mm

open Cert.UpDxIdeal Cert.UpDxIdeal.Gen Cert.MmSpec Idealize.ShloMosaic Idealize.ShloMosaic.TcCoe Idealize.SL.Sem
open Idealize.ShloMosaic.Pipeline (Dat)

/-- A load of a whole block is the block. -/
theorem ld_0 (x : Vec Ideal S1024x2816 .bf16) (inb) : View.ld (Val := Elt Ideal) x (Rect.unit (s := S1024x2816) ![0, 0] ![1024, 2816] inb) = x :=
  View.ld_unit_zero (by decide) inb x
theorem ld_1 (x : Vec Ideal S1024x2816 .bf16) (inb) : View.ld (Val := Elt Ideal) x (Rect.unit (s := S1024x2816) ![0, 0] ![1024, 2816] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The product of two input blocks, and it added to what the block held. -/
theorem pay1_at (x0 : Vec Ideal S1024x2816 .bf16) (x1 : Vec Ideal S1024x2816 .bf16) (p : Fin 1024) (q : Fin 1024) : k0_pay1 (F := Ideal) x0 x1 (ix2 p q) = ∑ s : Fin 2816, x0 (ix2 p s) * x1 (ix2 q s) := by
  pointwise [k0_pay1]
theorem pay2_at (x0 : Vec Ideal S1024x2816 .bf16) (x1 : Vec Ideal S1024x2816 .bf16) (xo : Vec Ideal S1024x1024 .f32) (p : Fin 1024) (q : Fin 1024) : k0_pay2 (F := Ideal) x0 x1 xo (ix2 p q) = xo (ix2 p q) + ∑ s : Fin 2816, x0 (ix2 p s) * x1 (ix2 q s) := by
  pointwise [k0_pay2, k0_pay1]

section
variable (c : Dev nD) (i : grid0.Coords) (a0 : Memref sig .tc .vmem S1024x2816 .bf16) (h0 : a0.IsWhole) (a1 : Memref sig .tc .vmem S1024x2816 .bf16) (h1 : a1.IsWhole) (a2 : Memref sig .tc .vmem S1024x1024 .f32) (h2 : a2.IsWhole)

/-- What a point of case A leaves in output block 2. -/
theorem out_A_2 (hc0 : cond0_0 i) (hc1 : ¬cond0_1 i) (x0 : Vec Ideal S1024x2816 .bf16) (x1 : Vec Ideal S1024x2816 .bf16) (p : Fin 1024) (q : Fin 1024) :
    out0_A_2 (F := Ideal) c i a0 h0 a1 h1 a2 h2 hc0 hc1 x0 x1 (ix2 p q) = ∑ s : Fin 2816, x0 (ix2 p s) * x1 (ix2 q s) := by
  unfold out0_A_2
  rw [View.read_writes_eq_canon _ _ _ (cover0_A_2 c i a0 h0 a1 h1 a2 h2 hc0 hc1 x0 x1)]
  unfold kernelRun0_A
  dsimp only
  sl_unfold_words
  simp only [View.readAt_eq_ld, h0.read_unread, h1.read_unread]
  rw [canon_o, ld_0, ld_1]
  exact pay1_at x0 x1 p q

/-- What a point of case B leaves in output block 2. -/
theorem out_B_2 (hc0 : ¬cond0_0 i) (hc1 : cond0_1 i) (x0 : Vec Ideal S1024x2816 .bf16) (x1 : Vec Ideal S1024x2816 .bf16) (xo : Vec Ideal S1024x1024 .f32) (p : Fin 1024) (q : Fin 1024) :
    out0_B_2 (F := Ideal) c i a0 h0 a1 h1 a2 h2 hc0 hc1 x0 x1 xo (ix2 p q) = xo (ix2 p q) + ∑ s : Fin 2816, x0 (ix2 p s) * x1 (ix2 q s) := by
  unfold out0_B_2
  rw [View.read_writes_eq_canon _ _ _ (cover0_B_2 c i a0 h0 a1 h1 a2 h2 hc0 hc1 x0 x1 xo)]
  unfold kernelRun0_B
  dsimp only
  sl_unfold_words
  simp only [View.readAt_eq_ld, h0.read_unread, h1.read_unread, h2.read_unread]
  rw [canon_o, ld_0, ld_1, ld_o]
  exact pay2_at x0 x1 xo p q
end

variable (m : (ℓ : Loc nD τ sig) → Buf (Elt Ideal) ℓ) (c : Dev nD)

/-- The two arguments. -/
abbrev A0 : FVec Ideal S8192x5632 .bf16 := m ((c : Thread nD τ).loc main_arg0)
abbrev A1 : FVec Ideal S1024x5632 .bf16 := m ((c : Thread nD τ).loc main_arg1)
/-- The rows of the left factor and the columns of the right one. -/
def LL : ℕ → ℕ → EReal := at2 (a := 8192) (b := 5632) (A0 m c)
def RR : ℕ → ℕ → EReal := at2 (a := 1024) (b := 5632) (A1 m c)

/-- The blocks each grid point names. -/
theorem idx0 : ∀ t : Fin cfg0.N, win0_0.index t 0 = t.val / 2 ∧ win0_0.index t 1 = t.val % 2 :=
  (by decide +kernel : ∀ t : Fin grid0.N, _)
theorem idx1 : ∀ t : Fin cfg0.N, win0_1.index t 0 = 0 ∧ win0_1.index t 1 = t.val % 2 :=
  (by decide +kernel : ∀ t : Fin grid0.N, _)
theorem idx2 : ∀ t : Fin cfg0.N, win0_2.index t 0 = t.val / 2 ∧ win0_2.index t 1 = 0 :=
  (by decide +kernel : ∀ t : Fin grid0.N, _)
theorem ltN (t : Fin cfg0.N) : t.val < 16 := t.isLt

/-- Input block 0 at a point. -/
theorem blk0 (t : Fin cfg0.N) (p : Fin 1024) (q : Fin 2816) :
    (iblk m c 0 t : Vec Ideal S1024x2816 .bf16) (ix2 p q) = LL m c (1024 * (t.val / 2) + p.val) ((t.val % 2) * 2816 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val / 2) + p.val; omega
  | ⟨1, _⟩ => show win0_0.index t 1 * 2816 + 1 * q.val = (t.val % 2) * 2816 + q.val; omega

/-- Input block 1 at a point. -/
theorem blk1 (t : Fin cfg0.N) (p : Fin 1024) (q : Fin 2816) :
    (iblk m c 1 t : Vec Ideal S1024x2816 .bf16) (ix2 p q) = RR m c (1024 * (0) + p.val) ((t.val % 2) * 2816 + q.val) := by
  obtain ⟨e0, e1⟩ := idx1 t
  have ht := ltN t
  have hp := p.isLt
  have hq := q.isLt
  unfold RR at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = 1024 * (0) + p.val; omega
  | ⟨1, _⟩ => show win0_1.index t 1 * 2816 + 1 * q.val = (t.val % 2) * 2816 + q.val; omega

/-- The product of a point's two input blocks is a tile of the whole product. -/
theorem tile (t : Fin cfg0.N) (p : Fin 1024) (q : Fin 1024) (x0 : Vec Ideal S1024x2816 .bf16) (x1 : Vec Ideal S1024x2816 .bf16) (h0 : x0 = iblk m c 0 t) (h1 : x1 = iblk m c 1 t) :
    ∑ s : Fin 2816, x0 (ix2 p s) * x1 (ix2 q s) = tileAt 2816 (LL m c) (RR m c) (1024 * (t.val / 2) + p.val) (1024 * (0) + q.val) (t.val % 2) := by
  subst h0 h1
  exact Finset.sum_congr rfl fun s _ => congrArg₂ (· * ·) (blk0 m c t p s) (blk1 m c t q s)

/-- The result's block after a point: the tiles so far added up. -/
theorem outs (p : Fin 1024) (q : Fin 1024) : ∀ (n : ℕ) (hn : n < cfg0.N),
    (outsAt0 m c n hn) (ix2 p q) = ∑ k ∈ Finset.range (n % 2 + 1), tileAt 2816 (LL m c) (RR m c) (1024 * (n / 2) + p.val) (1024 * (0) + q.val) k := by
  intro n
  induction n with
  | zero =>
    intro hn
    have e := outsAt0_A m c ⟨0, hn⟩ (show 0 % 2 = 0 by decide) (show ¬0 % 2 = 1 by decide)
    change outsAt0 m c 0 hn = _ at e
    rw [e]
    rw [out_A_2, tile m c ⟨0, hn⟩ p q _ _ rfl rfl]
    simp
  | succ n ih =>
    intro hn
    by_cases h0 : (n + 1) % 2 = 0
    · have e := outsAt0_A m c ⟨n + 1, hn⟩ h0 (by dsimp only; omega)
      change outsAt0 m c (n + 1) hn = _ at e
      rw [e]
      rw [out_A_2, tile m c ⟨n + 1, hn⟩ p q _ _ rfl rfl]
      simp [h0]
    · have e := outsAt0_B m c ⟨n + 1, hn⟩ h0 (by dsimp only; omega)
      change outsAt0 m c (n + 1) hn = _ at e
      rw [e]
      rw [out_B_2, tile m c ⟨n + 1, hn⟩ p q _ _ rfl rfl]
      have ih' := ih (by omega)
      have ei : (n + 1) / 2 = n / 2 := by omega
      have ek : (n + 1) % 2 = n % 2 + 1 := by omega
      show (outsAt0 m c n _) (ix2 p q) + tileAt 2816 (LL m c) (RR m c) (1024 * ((n + 1) / 2) + p.val) (1024 * (0) + q.val) ((n + 1) % 2) = _
      rw [ih', ei, ek, Finset.sum_range_succ _ (n % 2 + 1)]

/-- The result's block where it is written back: the whole product. -/
theorem outs_2_last (t : Fin cfg0.N) (ht : t.val % 2 = 1) (p : Fin 1024) (q : Fin 1024) :
    (outsAt0 m c t.val t.isLt) (ix2 p q) = dotAt 5632 (LL m c) (RR m c) (1024 * (t.val / 2) + p.val) (1024 * (0) + q.val) := by
  have htn := ltN t
  rw [outs m c p q t.val t.isLt, show t.val % 2 = 1 by omega]
  exact sum_tileAt 2 2816 _ _ _ _

/-- Result 1, as the array the run leaves. -/
def G2 : FVec Ideal S8192x1024 .f32 := fun i => dotAt 5632 (LL m c) (RR m c) (i 0).val (i 1).val

theorem flush2 : ∀ t : Fin cfg0.N, (cfg0.win 2).flush t = true ↔ t.val % 2 = 1 :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, ((outsAt0 m c t.val t.isLt)) y = G2 m c (((cfg0.win 2).blk t).view.emb y) := fun y => by
    obtain ⟨p, q, rfl⟩ : ∃ (p : Fin 1024) (q : Fin 1024), y = ix2 p q := ⟨y 0, y 1, eq_ix2 y⟩
    rw [outs_2_last m c t ((flush2 t).mp hf)]
    unfold G2
    congr 1
    · show 1024 * (t.val / 2) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x1024.Idx) => by
    have h0 : (i 0).val < 8192 := (i 0).isLt
    have h1 : (i 1).val < 1024 := (i 1).isLt
    obtain ⟨t, ht⟩ : ∃ t : Fin cfg0.N, t.val = 2 * ((i 0).val / 1024) + 1 := ⟨⟨_, by show _ < 16; omega⟩, rfl⟩
    refine ⟨t, ?_, ?_⟩
    · rw [flush2]; omega
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.UpDxIdeal.Mm

end
-- ==== Proof.UpDxClaim.lean ====
/- The gradient of the normed rows through w_up: the kernel and the problem's own line leave equal results. -/
module

public import proofs.«01_k».proof.Defs
public import proofs.«01_k».proof.Proof.UpDxKernel
public import proofs.«01_k».proof.Proof.Gen.UpDxRefIdeal.Run
public import proofs.«01_k».proof.Proof.Gen.UpDxRefIdeal.Read

@[expose] public section

set_option maxRecDepth 16384
noncomputable section

namespace Cert.UpDxClaim

open Idealize.ShloMosaic Idealize.SL.Sem Cert.MmSpec

attribute [local instance] Cert.UpDxIdeal.Gen.facts Cert.UpDxRefIdeal.Gen.facts

variable (B0 : FVec Ideal Cert.UpDxRefIdeal.S8192x5632 .bf16) (B1 : FVec Ideal Cert.UpDxRefIdeal.S1024x5632 .bf16)

/-- An element of the reference's result is the product's. -/
theorem v4_at (r : Fin 8192) (l : Fin 1024) :
    Cert.UpDxRefIdeal.Read.val_main_v4 (F := Ideal) B0 B1 (ix2 r l) = dotAt 5632 (at2 (a := 8192) (b := 5632) B0) (at2 (a := 1024) (b := 5632) B1) r.val l.val := by
  have e : ∀ k : Fin 5632, (at2 (a := 8192) (b := 5632) B0) r.val k.val * (at2 (a := 1024) (b := 5632) B1) l.val k.val = _ := fun k => congrArg₂ (· * ·) (at2_val (a := 8192) (b := 5632) B0 r k) (at2_val (a := 1024) (b := 5632) B1 l k)
  unfold dotAt
  rw [Finset.sum_congr rfl fun k _ => e k]
  pointwise [Cert.UpDxRefIdeal.Read.val_main_v4, Cert.UpDxRefIdeal.Read.val_main_v3, Cert.UpDxRefIdeal.Read.val_main_v2, Cert.UpDxRefIdeal.Read.val_main_v1, Cert.UpDxRefIdeal.Read.val_main_v0, Cert.UpDxRefIdeal.Read.val_main_cst]

theorem v4_ref : Cert.UpDxRefIdeal.Read.val_main_v4 (F := Ideal) B0 B1 = fun i => dotAt 5632 (at2 (a := 8192) (b := 5632) B0) (at2 (a := 1024) (b := 5632) B1) (i 0).val (i 1).val := by
  funext i
  obtain ⟨r, l, rfl⟩ : ∃ (r : Fin 8192) (l : Fin 1024), i = ix2 r l := ⟨i 0, i 1, eq_ix2 i⟩
  exact v4_at B0 B1 r l

/-- The reference runs from every memory, leaves its arguments and every counter at zero. -/
theorem ref_frame : Cert.quiescent_UpDxRefIdeal := fun m ρ _ =>
  (θ_run _ _ _).mono (fun r h => ⟨fun c => (h c).2, Idealize.ShloMosaic.sem_eq_zero_of_no_sems (by decide) r.2⟩)
    (Cert.UpDxRefIdeal.Value.run (F := Ideal) m ρ)

/-- From memories that agree on the arguments both programs leave equal results. -/
theorem algebraic : Cert.algebraic_UpDxIdeal_UpDxRefIdeal := by
  intro m ρ m' ρ' _ hag
  refine ⟨fun c => Cert.UpDxIdeal.Mm.G2 m c, ?_, ?_⟩
  · exact (θ_run _ _ _).mono (fun _ h c => ⟨(h c).1.trans (Cert.UpDxIdeal.Mm.arr_2 m c), (h c).2⟩)
      (Cert.UpDxIdeal.Value.run_blocks (F := Ideal) m ρ)
  · refine (θ_run _ _ _).mono (fun _ h c => ⟨(h c).1.trans ?_, (h c).2⟩) (Cert.UpDxRefIdeal.Value.run (F := Ideal) m' ρ')
    rw [Cert.UpDxRefIdeal.Read.val_main_v4_eq, v4_ref, (hag c).1, (hag c).2]; rfl

end Cert.UpDxClaim

end
-- ==== Proof.UpDwKernel.lean ====
/- The kernel of the gradient of w_up, laid out as the four chips' shares of its columns, run from any memory, leaves that product in its result. -/
module

public import proofs.«01_k».proof.Proof.Gen.UpDwIdeal.Value
public import proofs.«01_k».proof.Proof.MmSpec

@[expose] public section

set_option maxRecDepth 16384
noncomputable section

namespace Cert.UpDwIdeal.Mm

open Cert.UpDwIdeal Cert.UpDwIdeal.Gen Cert.MmSpec Idealize.ShloMosaic Idealize.ShloMosaic.TcCoe Idealize.SL.Sem
open Idealize.ShloMosaic.Pipeline (Dat)

/-- A load of a whole block is the block. -/
theorem ld_0 (x : Vec Ideal S1024x2048 .bf16) (inb) : View.ld (Val := Elt Ideal) x (Rect.unit (s := S1024x2048) ![0, 0] ![1024, 2048] inb) = x :=
  View.ld_unit_zero (by decide) inb x
theorem ld_1 (x : Vec Ideal S2048x1408 .bf16) (inb) : View.ld (Val := Elt Ideal) x (Rect.unit (s := S2048x1408) ![0, 0] ![2048, 1408] inb) = x :=
  View.ld_unit_zero (by decide) inb x
theorem ld_o (x : Vec Ideal S1x1024x1408 .f32) (inb) : View.ld (Val := Elt Ideal) x (Rect.unit (s := S1x1024x1408) ![0, 0, 0] ![1, 1024, 1408] inb) = x :=
  View.ld_unit_zero (by decide) inb x
/-- A store of a whole block leaves what was stored. -/
theorem canon_o (P : Vec Ideal S1x1024x1408 .f32) (L : List (View.Piece (Elt Ideal) S1x1024x1408 .f32)) (inb) :
    View.canon (Val := Elt Ideal) (⟨Rect.unit (s := S1x1024x1408) ![0, 0, 0] ![1, 1024, 1408] inb, P⟩ :: L) = P :=
  View.canon_cons_unit_zero (by decide) inb P L
theorem canon_r (P : Vec Ideal S1x1024x1408 .bf16) (L : List (View.Piece (Elt Ideal) S1x1024x1408 .bf16)) (inb) :
    View.canon (Val := Elt Ideal) (⟨Rect.unit (s := S1x1024x1408) ![0, 0, 0] ![1, 1024, 1408] inb, P⟩ :: L) = P :=
  View.canon_cons_unit_zero (by decide) inb P L

/-- The product of two input blocks, and it added to what the block held. -/
theorem pay1_at (x0 : Vec Ideal S1024x2048 .bf16) (x1 : Vec Ideal S2048x1408 .bf16) (p : Fin 1024) (q : Fin 1408) : k0_pay2 (F := Ideal) x0 x1 (ix3 0 p q) = ∑ s : Fin 2048, x0 (ix2 p s) * x1 (ix2 s q) := by
  pointwise [k0_pay2, k0_pay1]
theorem pay2_at (x0 : Vec Ideal S1024x2048 .bf16) (x1 : Vec Ideal S2048x1408 .bf16) (xo : Vec Ideal S1x1024x1408 .f32) (p : Fin 1024) (q : Fin 1408) : k0_pay3 (F := Ideal) x0 x1 xo (ix3 0 p q) = xo (ix3 0 p q) + ∑ s : Fin 2048, x0 (ix2 p s) * x1 (ix2 s q) := by
  pointwise [k0_pay3, k0_pay1]
/-- The second result's block is the first's. -/
theorem pay3_at (xo : Vec Ideal S1x1024x1408 .f32) (p : Fin 1024) (q : Fin 1408) : k0_pay4 (F := Ideal) xo (ix3 0 p q) = xo (ix3 0 p q) := by
  pointwise [k0_pay4]

section
variable (c : Dev nD) (i : grid0.Coords) (a0 : Memref sig .tc .vmem S1024x2048 .bf16) (h0 : a0.IsWhole) (a1 : Memref sig .tc .vmem S2048x1408 .bf16) (h1 : a1.IsWhole) (a2 : Memref sig .tc .vmem S1x1024x1408 .f32) (h2 : a2.IsWhole) (a3 : Memref sig .tc .vmem S1x1024x1408 .bf16) (h3 : a3.IsWhole)

/-- What a point of case A leaves in output block 2. -/
theorem out_A_2 (hc0 : cond0_0 i) (hc1 : ¬cond0_1 i) (hc2 : ¬cond0_2 i) (x0 : Vec Ideal S1024x2048 .bf16) (x1 : Vec Ideal S2048x1408 .bf16) (p : Fin 1024) (q : Fin 1408) :
    out0_A_2 (F := Ideal) c i a0 h0 a1 h1 a2 h2 a3 h3 hc0 hc1 hc2 x0 x1 (ix3 0 p q) = ∑ s : Fin 2048, x0 (ix2 p s) * x1 (ix2 s q) := by
  unfold out0_A_2
  rw [View.read_writes_eq_canon _ _ _ (cover0_A_2 c i a0 h0 a1 h1 a2 h2 a3 h3 hc0 hc1 hc2 x0 x1)]
  unfold kernelRun0_A
  dsimp only
  sl_unfold_words
  simp only [View.readAt_eq_ld, h0.read_unread, h1.read_unread]
  rw [canon_o, ld_0, ld_1]
  exact pay1_at x0 x1 p q

/-- What a point of case B leaves in output block 2. -/
theorem out_B_2 (hc0 : ¬cond0_0 i) (hc1 : cond0_1 i) (hc2 : ¬cond0_2 i) (x0 : Vec Ideal S1024x2048 .bf16) (x1 : Vec Ideal S2048x1408 .bf16) (xo : Vec Ideal S1x1024x1408 .f32) (p : Fin 1024) (q : Fin 1408) :
    out0_B_2 (F := Ideal) c i a0 h0 a1 h1 a2 h2 a3 h3 hc0 hc1 hc2 x0 x1 xo (ix3 0 p q) = xo (ix3 0 p q) + ∑ s : Fin 2048, x0 (ix2 p s) * x1 (ix2 s q) := by
  unfold out0_B_2
  rw [View.read_writes_eq_canon _ _ _ (cover0_B_2 c i a0 h0 a1 h1 a2 h2 a3 h3 hc0 hc1 hc2 x0 x1 xo)]
  unfold kernelRun0_B
  dsimp only
  sl_unfold_words
  simp only [View.readAt_eq_ld, h0.read_unread, h1.read_unread, h2.read_unread]
  rw [canon_o, ld_0, ld_1, ld_o]
  exact pay2_at x0 x1 xo p q

/-- A whole block's own positions. -/
theorem rect_idx (inb) (y : S1x1024x1408.Idx) : (Rect.unit (s := S1x1024x1408) ![0, 0, 0] ![1, 1024, 1408] inb).toLoadRect.idx y = y :=
  funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega)

/-- What a point of case C leaves in output block 2. -/
theorem out_C_2 (hc0 : ¬cond0_0 i) (hc1 : cond0_1 i) (hc2 : cond0_2 i) (x0 : Vec Ideal S1024x2048 .bf16) (x1 : Vec Ideal S2048x1408 .bf16) (xo : Vec Ideal S1x1024x1408 .f32) (p : Fin 1024) (q : Fin 1408) :
    out0_C_2 (F := Ideal) c i a0 h0 a1 h1 a2 h2 a3 h3 hc0 hc1 hc2 x0 x1 xo (ix3 0 p q) = xo (ix3 0 p q) + ∑ s : Fin 2048, x0 (ix2 p s) * x1 (ix2 s q) := by
  unfold out0_C_2
  rw [View.read_writes_eq_canon _ _ _ (cover0_C_2 c i a0 h0 a1 h1 a2 h2 a3 h3 hc0 hc1 hc2 x0 x1 xo)]
  unfold kernelRun0_C
  dsimp only
  sl_unfold_words
  simp only [View.readAt_eq_ld, h0.read_unread, h1.read_unread, h2.read_unread]
  rw [canon_o, ld_0, ld_1, ld_o]
  exact pay2_at x0 x1 xo p q

/-- What a point of case C leaves in output block 3. -/
theorem out_C_3 (hc0 : ¬cond0_0 i) (hc1 : cond0_1 i) (hc2 : cond0_2 i) (x0 : Vec Ideal S1024x2048 .bf16) (x1 : Vec Ideal S2048x1408 .bf16) (xo : Vec Ideal S1x1024x1408 .f32) (p : Fin 1024) (q : Fin 1408) :
    out0_C_3 (F := Ideal) c i a0 h0 a1 h1 a2 h2 a3 h3 hc0 hc1 hc2 x0 x1 xo (ix3 0 p q) = xo (ix3 0 p q) + ∑ s : Fin 2048, x0 (ix2 p s) * x1 (ix2 s q) := by
  unfold out0_C_3
  rw [View.read_writes_eq_canon _ _ _ (cover0_C_3 c i a0 h0 a1 h1 a2 h2 a3 h3 hc0 hc1 hc2 x0 x1 xo)]
  unfold kernelRun0_C
  dsimp only
  sl_unfold_words
  simp only [View.readAt_eq_ld, h0.read_unread, h1.read_unread, h2.read_unread]
  simp only [View.readCov_eq_canon', ld_0, ld_1, ld_o]
  rw [canon_r, pay3_at]
  rw [canon_o, rect_idx]
  exact pay2_at x0 x1 xo p q
end

variable (m : (ℓ : Loc nD τ sig) → Buf (Elt Ideal) ℓ) (c : Dev nD)

/-- The two arguments. -/
abbrev A0 : FVec Ideal S1024x8192 .bf16 := m ((c : Thread nD τ).loc main_arg0)
abbrev A1 : FVec Ideal S8192x5632 .bf16 := m ((c : Thread nD τ).loc main_arg1)
/-- The rows of the left factor and the columns of the right one. -/
def LL : ℕ → ℕ → EReal := at2 (a := 1024) (b := 8192) (A0 m c)
def RR : ℕ → ℕ → EReal := flip2 (at2 (a := 8192) (b := 5632) (A1 m c))

/-- The blocks each grid point names. -/
theorem idx0 : ∀ t : Fin cfg0.N, win0_0.index t 0 = 0 ∧ win0_0.index t 1 = t.val % 4 :=
  (by decide +kernel : ∀ t : Fin grid0.N, _)
theorem idx1 : ∀ t : Fin cfg0.N, win0_1.index t 0 = t.val % 4 ∧ win0_1.index t 1 = t.val / 4 :=
  (by decide +kernel : ∀ t : Fin grid0.N, _)
theorem idx2 : ∀ t : Fin cfg0.N, win0_2.index t 0 = t.val / 4 ∧ win0_2.index t 1 = 0 ∧ win0_2.index t 2 = 0 :=
  (by decide +kernel : ∀ t : Fin grid0.N, _)
theorem idx3 : ∀ t : Fin cfg0.N, win0_3.index t 0 = t.val / 4 ∧ win0_3.index t 1 = 0 ∧ win0_3.index t 2 = 0 :=
  (by decide +kernel : ∀ t : Fin grid0.N, _)
theorem ltN (t : Fin cfg0.N) : t.val < 16 := t.isLt

/-- Input block 0 at a point. -/
theorem blk0 (t : Fin cfg0.N) (p : Fin 1024) (q : Fin 2048) :
    (iblk m c 0 t : Vec Ideal S1024x2048 .bf16) (ix2 p q) = LL m c (1024 * (0) + p.val) ((t.val % 4) * 2048 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (0) + p.val; omega
  | ⟨1, _⟩ => show win0_0.index t 1 * 2048 + 1 * q.val = (t.val % 4) * 2048 + q.val; omega

/-- Input block 1 at a point. -/
theorem blk1 (t : Fin cfg0.N) (p : Fin 2048) (q : Fin 1408) :
    (iblk m c 1 t : Vec Ideal S2048x1408 .bf16) (ix2 p q) = RR m c (1408 * (t.val / 4) + q.val) ((t.val % 4) * 2048 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 2048 + 1 * p.val = (t.val % 4) * 2048 + p.val; omega
  | ⟨1, _⟩ => show win0_1.index t 1 * 1408 + 1 * q.val = 1408 * (t.val / 4) + q.val; omega

/-- The product of a point's two input blocks is a tile of the whole product. -/
theorem tile (t : Fin cfg0.N) (p : Fin 1024) (q : Fin 1408) (x0 : Vec Ideal S1024x2048 .bf16) (x1 : Vec Ideal S2048x1408 .bf16) (h0 : x0 = iblk m c 0 t) (h1 : x1 = iblk m c 1 t) :
    ∑ s : Fin 2048, x0 (ix2 p s) * x1 (ix2 s q) = tileAt 2048 (LL m c) (RR m c) (1024 * (0) + p.val) (1408 * (t.val / 4) + q.val) (t.val % 4) := by
  subst h0 h1
  exact Finset.sum_congr rfl fun s _ => congrArg₂ (· * ·) (blk0 m c t p s) (blk1 m c t s q)

/-- The result's block after a point, before the last tile: the tiles so far added up. -/
theorem outs (p : Fin 1024) (q : Fin 1408) : ∀ (n : ℕ) (hn : n < cfg0.N), n % 4 ≠ 3 →
    (outsAt0 m c n hn).1 (ix3 0 p q) = ∑ k ∈ Finset.range (n % 4 + 1), tileAt 2048 (LL m c) (RR m c) (1024 * (0) + p.val) (1408 * (n / 4) + q.val) k := by
  intro n
  induction n with
  | zero =>
    intro hn h
    have e := outsAt0_A m c ⟨0, hn⟩ (show 0 % 4 = 0 by decide) (show ¬1 ≤ 0 % 4 by decide) (show ¬0 % 4 = 3 by decide)
    change outsAt0 m c 0 hn = _ at e
    rw [e]; dsimp only
    rw [out_A_2, tile m c ⟨0, hn⟩ p q _ _ rfl rfl]
    simp
  | succ n ih =>
    intro hn h
    by_cases h0 : (n + 1) % 4 = 0
    · have e := outsAt0_A m c ⟨n + 1, hn⟩ h0 (by dsimp only; omega) (by dsimp only; omega)
      change outsAt0 m c (n + 1) hn = _ at e
      rw [e]; dsimp only
      rw [out_A_2, tile m c ⟨n + 1, hn⟩ p q _ _ rfl rfl]
      simp [h0]
    · have e := outsAt0_B m c ⟨n + 1, hn⟩ h0 (by dsimp only; omega) h
      change outsAt0 m c (n + 1) hn = _ at e
      rw [e]; dsimp only
      rw [out_B_2, tile m c ⟨n + 1, hn⟩ p q _ _ rfl rfl]
      have ih' := ih (by omega) (by omega)
      have ej : (n + 1) / 4 = n / 4 := by omega
      have ek : (n + 1) % 4 = n % 4 + 1 := by omega
      show (outsAt0 m c n _).1 (ix3 0 p q) + tileAt 2048 (LL m c) (RR m c) (1024 * (0) + p.val) (1408 * ((n + 1) / 4) + q.val) ((n + 1) % 4) = _
      rw [ih', ej, ek, Finset.sum_range_succ _ (n % 4 + 1)]

/-- Result block 1 where it is written back: the whole product. -/
theorem outs_2_last (t : Fin cfg0.N) (ht : t.val % 4 = 3) (p : Fin 1024) (q : Fin 1408) :
    (outsAt0 m c t.val t.isLt).1 (ix3 0 p q) = dotAt 8192 (LL m c) (RR m c) (1024 * (0) + p.val) (1408 * (t.val / 4) + q.val) := by
  have h0 : ¬t.val % 4 = 0 := by omega
  rw [outsAt0_C m c t h0 (by omega) ht]; dsimp only
  rw [out_C_2, tile m c t p q _ _ rfl rfl, outs m c p q (t.val - 1) _ (by omega)]
  have ej : (t.val - 1) / 4 = t.val / 4 := by omega
  have ek : (t.val - 1) % 4 = 2 := by omega
  rw [ej, ek, show t.val % 4 = 2 + 1 by omega, ← Finset.sum_range_succ (fun k => tileAt 2048 (LL m c) (RR m c) (1024 * (0) + p.val) (1408 * (t.val / 4) + q.val) k) (2 + 1)]
  exact sum_tileAt 4 2048 _ _ _ _

/-- Result block 2 where it is written back: the whole product. -/
theorem outs_3_last (t : Fin cfg0.N) (ht : t.val % 4 = 3) (p : Fin 1024) (q : Fin 1408) :
    (outsAt0 m c t.val t.isLt).2 (ix3 0 p q) = dotAt 8192 (LL m c) (RR m c) (1024 * (0) + p.val) (1408 * (t.val / 4) + q.val) := by
  have h0 : ¬t.val % 4 = 0 := by omega
  rw [outsAt0_C m c t h0 (by omega) ht]; dsimp only
  rw [out_C_3, tile m c t p q _ _ rfl rfl, outs m c p q (t.val - 1) _ (by omega)]
  have ej : (t.val - 1) / 4 = t.val / 4 := by omega
  have ek : (t.val - 1) % 4 = 2 := by omega
  rw [ej, ek, show t.val % 4 = 2 + 1 by omega, ← Finset.sum_range_succ (fun k => tileAt 2048 (LL m c) (RR m c) (1024 * (0) + p.val) (1408 * (t.val / 4) + q.val) k) (2 + 1)]
  exact sum_tileAt 4 2048 _ _ _ _

/-- Result 1, as the array the run leaves. -/
def G2 : FVec Ideal S4x1024x1408 .f32 := fun i => dotAt 8192 (LL m c) (RR m c) (i 1).val (1408 * (i 0).val + (i 2).val)

theorem flush2 : ∀ t : Fin cfg0.N, (cfg0.win 2).flush t = true ↔ t.val % 4 = 3 :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1, e2⟩ := idx2 t
  have ht := ltN t
  have key : ∀ y : S1x1024x1408.Idx, ((outsAt0 m c t.val t.isLt).1) y = G2 m c (((cfg0.win 2).blk t).view.emb y) := fun y => by
    obtain ⟨z, p, q, rfl⟩ : ∃ (z : Fin 1) (p : Fin 1024) (q : Fin 1408), y = ix3 z p q := ⟨y 0, y 1, y 2, eq_ix3 y⟩
    obtain rfl : z = 0 := Subsingleton.elim _ _
    rw [outs_2_last m c t ((flush2 t).mp hf)]
    unfold G2
    congr 1
    · show 1024 * (0) + p.val = win0_2.index t 1 * 1024 + 1 * p.val; omega
    · show 1408 * (t.val / 4) + q.val = 1408 * (win0_2.index t 0 * 1 + 1 * 0) + (win0_2.index t 2 * 1408 + 1 * q.val); omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S4x1024x1408.Idx) => by
    have h0 : (i 0).val < 4 := (i 0).isLt
    have h1 : (i 1).val < 1024 := (i 1).isLt
    have h2 : (i 2).val < 1408 := (i 2).isLt
    obtain ⟨t, ht⟩ : ∃ t : Fin cfg0.N, t.val = 4 * (i 0).val + 3 := ⟨⟨_, by show _ < 16; omega⟩, rfl⟩
    refine ⟨t, ?_, ?_⟩
    · rw [flush2]; omega
    · show i ∈ ((View.whole main_v0_0).slice (win0_2.rect t)).set
      rw [View.set_slice_whole, Rect.mem_set_unit]
      obtain ⟨e0, e1, e2⟩ := idx2 t
      intro a
      match a with
      | ⟨0, _⟩ => show win0_2.index t 0 * 1 ≤ (i 0).val ∧ (i 0).val < win0_2.index t 0 * 1 + 1; omega
      | ⟨1, _⟩ => show win0_2.index t 1 * 1024 ≤ (i 1).val ∧ (i 1).val < win0_2.index t 1 * 1024 + 1024; omega
      | ⟨2, _⟩ => show win0_2.index t 2 * 1408 ≤ (i 2).val ∧ (i 2).val < win0_2.index t 2 * 1408 + 1408; omega

/-- Result 2, as the array the run leaves. -/
def G3 : FVec Ideal S4x1024x1408 .bf16 := fun i => dotAt 8192 (LL m c) (RR m c) (i 1).val (1408 * (i 0).val + (i 2).val)

theorem flush3 : ∀ t : Fin cfg0.N, (cfg0.win 3).flush t = true ↔ t.val % 4 = 3 :=
  (by decide +kernel : ∀ t : Fin grid0.N, _)

theorem flushed_3 (t : Fin cfg0.N) (hf : (cfg0.win 3).flush t = true) :
    (dats m 0 c).flushed 3 t = ((cfg0.win 3).blk t).view.read (Elt Ideal) (G3 m c) := by
  rw [Value.flushed3]
  obtain ⟨e0, e1, e2⟩ := idx3 t
  have ht := ltN t
  have key : ∀ y : S1x1024x1408.Idx, ((outsAt0 m c t.val t.isLt).2) y = G3 m c (((cfg0.win 3).blk t).view.emb y) := fun y => by
    obtain ⟨z, p, q, rfl⟩ : ∃ (z : Fin 1) (p : Fin 1024) (q : Fin 1408), y = ix3 z p q := ⟨y 0, y 1, y 2, eq_ix3 y⟩
    obtain rfl : z = 0 := Subsingleton.elim _ _
    rw [outs_3_last m c t ((flush3 t).mp hf)]
    unfold G3
    congr 1
    · show 1024 * (0) + p.val = win0_3.index t 1 * 1024 + 1 * p.val; omega
    · show 1408 * (t.val / 4) + q.val = 1408 * (win0_3.index t 0 * 1 + 1 * 0) + (win0_3.index t 2 * 1408 + 1 * q.val); omega
  funext y
  rw [View.read_apply]
  exact key y

/-- The product is left in result 2. -/
theorem arr_3 : (dats m 0 c).arrAt 3 cfg0.N = G3 m c :=
  (dats m 0 c).arrAt_eq_of_cover 3 (G3 m c) (fun t hf => flushed_3 m c t hf) fun (i : S4x1024x1408.Idx) => by
    have h0 : (i 0).val < 4 := (i 0).isLt
    have h1 : (i 1).val < 1024 := (i 1).isLt
    have h2 : (i 2).val < 1408 := (i 2).isLt
    obtain ⟨t, ht⟩ : ∃ t : Fin cfg0.N, t.val = 4 * (i 0).val + 3 := ⟨⟨_, by show _ < 16; omega⟩, rfl⟩
    refine ⟨t, ?_, ?_⟩
    · rw [flush3]; omega
    · show i ∈ ((View.whole main_v0_1).slice (win0_3.rect t)).set
      rw [View.set_slice_whole, Rect.mem_set_unit]
      obtain ⟨e0, e1, e2⟩ := idx3 t
      intro a
      match a with
      | ⟨0, _⟩ => show win0_3.index t 0 * 1 ≤ (i 0).val ∧ (i 0).val < win0_3.index t 0 * 1 + 1; omega
      | ⟨1, _⟩ => show win0_3.index t 1 * 1024 ≤ (i 1).val ∧ (i 1).val < win0_3.index t 1 * 1024 + 1024; omega
      | ⟨2, _⟩ => show win0_3.index t 2 * 1408 ≤ (i 2).val ∧ (i 2).val < win0_3.index t 2 * 1408 + 1408; omega

end Cert.UpDwIdeal.Mm

end
-- ==== Proof.UpDwClaim.lean ====
/- The gradient of w_up, laid out as the four chips' shares of its columns: the kernel and the problem's own line leave equal results. -/
module

public import proofs.«01_k».proof.Defs
public import proofs.«01_k».proof.Proof.UpDwKernel
public import proofs.«01_k».proof.Proof.Gen.UpDwRefIdeal.Run
public import proofs.«01_k».proof.Proof.Gen.UpDwRefIdeal.Read

@[expose] public section

set_option maxRecDepth 16384
noncomputable section

namespace Cert.UpDwClaim

open Idealize.ShloMosaic Idealize.SL.Sem Cert.MmSpec

attribute [local instance] Cert.UpDwIdeal.Gen.facts Cert.UpDwRefIdeal.Gen.facts

variable (B0 : FVec Ideal Cert.UpDwRefIdeal.S1024x8192 .bf16) (B1 : FVec Ideal Cert.UpDwRefIdeal.S8192x5632 .bf16)

/-- An element of the reference's result is the product's. -/
theorem v8_at (h : Fin 4) (r : Fin 1024) (q : Fin 1408) :
    Cert.UpDwRefIdeal.Read.val_main_v8 (F := Ideal) B0 B1 (ix3 h r q) = dotAt 8192 (at2 (a := 1024) (b := 8192) B0) (flip2 (at2 (a := 8192) (b := 5632) B1)) r.val (1408 * h.val + q.val) := by
  have hh := h.isLt
  have hq := q.isLt
  rw [dotAt_comm]
  have e : ∀ k : Fin 8192, (flip2 (at2 (a := 8192) (b := 5632) B1)) (1408 * h.val + q.val) k.val * (at2 (a := 1024) (b := 8192) B0) r.val k.val = _ := fun k => congrArg₂ (· * ·) (at2_val (a := 8192) (b := 5632) B1 k ⟨1408 * h.val + q.val, by omega⟩) (at2_val (a := 1024) (b := 8192) B0 r k)
  unfold dotAt
  rw [Finset.sum_congr rfl fun k _ => e k]
  pointwise [Cert.UpDwRefIdeal.Read.val_main_v9, Cert.UpDwRefIdeal.Read.val_main_v8, Cert.UpDwRefIdeal.Read.val_main_v7, Cert.UpDwRefIdeal.Read.val_main_v6, Cert.UpDwRefIdeal.Read.val_main_v5, Cert.UpDwRefIdeal.Read.val_main_v4, Cert.UpDwRefIdeal.Read.val_main_v3, Cert.UpDwRefIdeal.Read.val_main_v2, Cert.UpDwRefIdeal.Read.val_main_v1, Cert.UpDwRefIdeal.Read.val_main_cst, Cert.UpDwRefIdeal.Read.val_main_v0]
  refine Finset.sum_congr rfl fun k _ => congrArg₂ (· * ·) (congrArg B1 ?_) rfl
  funext a; apply Fin.ext
  match a with
  | ⟨0, _⟩ => rfl
  | ⟨1, _⟩ => show h.val * 1408 + q.val = 1408 * h.val + q.val; omega

theorem v8_ref : Cert.UpDwRefIdeal.Read.val_main_v8 (F := Ideal) B0 B1 = fun i => dotAt 8192 (at2 (a := 1024) (b := 8192) B0) (flip2 (at2 (a := 8192) (b := 5632) B1)) (i 1).val (1408 * (i 0).val + (i 2).val) := by
  funext i
  obtain ⟨h, r, q, rfl⟩ : ∃ (h : Fin 4) (r : Fin 1024) (q : Fin 1408), i = ix3 h r q := ⟨i 0, i 1, i 2, eq_ix3 i⟩
  exact v8_at B0 B1 h r q

/-- An element of the reference's result is the product's. -/
theorem v9_at (h : Fin 4) (r : Fin 1024) (q : Fin 1408) :
    Cert.UpDwRefIdeal.Read.val_main_v9 (F := Ideal) B0 B1 (ix3 h r q) = dotAt 8192 (at2 (a := 1024) (b := 8192) B0) (flip2 (at2 (a := 8192) (b := 5632) B1)) r.val (1408 * h.val + q.val) := by
  have hh := h.isLt
  have hq := q.isLt
  rw [dotAt_comm]
  have e : ∀ k : Fin 8192, (flip2 (at2 (a := 8192) (b := 5632) B1)) (1408 * h.val + q.val) k.val * (at2 (a := 1024) (b := 8192) B0) r.val k.val = _ := fun k => congrArg₂ (· * ·) (at2_val (a := 8192) (b := 5632) B1 k ⟨1408 * h.val + q.val, by omega⟩) (at2_val (a := 1024) (b := 8192) B0 r k)
  unfold dotAt
  rw [Finset.sum_congr rfl fun k _ => e k]
  pointwise [Cert.UpDwRefIdeal.Read.val_main_v9, Cert.UpDwRefIdeal.Read.val_main_v8, Cert.UpDwRefIdeal.Read.val_main_v7, Cert.UpDwRefIdeal.Read.val_main_v6, Cert.UpDwRefIdeal.Read.val_main_v5, Cert.UpDwRefIdeal.Read.val_main_v4, Cert.UpDwRefIdeal.Read.val_main_v3, Cert.UpDwRefIdeal.Read.val_main_v2, Cert.UpDwRefIdeal.Read.val_main_v1, Cert.UpDwRefIdeal.Read.val_main_cst, Cert.UpDwRefIdeal.Read.val_main_v0]
  refine Finset.sum_congr rfl fun k _ => congrArg₂ (· * ·) (congrArg B1 ?_) rfl
  funext a; apply Fin.ext
  match a with
  | ⟨0, _⟩ => rfl
  | ⟨1, _⟩ => show h.val * 1408 + q.val = 1408 * h.val + q.val; omega

theorem v9_ref : Cert.UpDwRefIdeal.Read.val_main_v9 (F := Ideal) B0 B1 = fun i => dotAt 8192 (at2 (a := 1024) (b := 8192) B0) (flip2 (at2 (a := 8192) (b := 5632) B1)) (i 1).val (1408 * (i 0).val + (i 2).val) := by
  funext i
  obtain ⟨h, r, q, rfl⟩ : ∃ (h : Fin 4) (r : Fin 1024) (q : Fin 1408), i = ix3 h r q := ⟨i 0, i 1, i 2, eq_ix3 i⟩
  exact v9_at B0 B1 h r q

/-- The reference runs from every memory, leaves its arguments and every counter at zero. -/
theorem ref_frame : Cert.quiescent_UpDwRefIdeal := fun m ρ _ =>
  (θ_run _ _ _).mono (fun r h => ⟨fun c => (h c).2.2, Idealize.ShloMosaic.sem_eq_zero_of_no_sems (by decide) r.2⟩)
    (Cert.UpDwRefIdeal.Value.run (F := Ideal) m ρ)

/-- From memories that agree on the arguments both programs leave equal results. -/
theorem algebraic : Cert.algebraic_UpDwIdeal_UpDwRefIdeal := by
  intro m ρ m' ρ' _ hag
  refine ⟨fun c => Cert.UpDwIdeal.Mm.G2 m c, fun c => Cert.UpDwIdeal.Mm.G3 m c, ?_, ?_⟩
  · exact (θ_run _ _ _).mono (fun _ h c => ⟨(h c).1.trans (Cert.UpDwIdeal.Mm.arr_2 m c), (h c).2.1.trans (Cert.UpDwIdeal.Mm.arr_3 m c), (h c).2.2⟩)
      (Cert.UpDwIdeal.Value.run_blocks (F := Ideal) m ρ)
  · refine (θ_run _ _ _).mono (fun _ h c => ⟨(h c).1.trans ?_, (h c).2.1.trans ?_, (h c).2.2⟩) (Cert.UpDwRefIdeal.Value.run (F := Ideal) m' ρ')
    · rw [Cert.UpDwRefIdeal.Read.val_main_v8_eq, v8_ref, (hag c).1, (hag c).2]; rfl
    · rw [Cert.UpDwRefIdeal.Read.val_main_v9_eq, v9_ref, (hag c).1, (hag c).2]; rfl

end Cert.UpDwClaim

end
-- ==== Proof.OutDxKernel.lean ====
/- The kernel of the gradient of the mixed rows through w_out, run from any memory, leaves that product in its result. -/
module

public import proofs.«01_k».proof.Proof.Gen.OutDxIdeal.Value
public import proofs.«01_k».proof.Proof.MmSpec

@[expose] public section

set_option maxRecDepth 16384
noncomputable section

namespace Cert.OutDxIdeal.Mm

open Cert.OutDxIdeal Cert.OutDxIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S1024x1024 .bf16) (inb) : View.ld (Val := Elt Ideal) x (Rect.unit (s := S1024x1024) ![0, 0] ![1024, 1024] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The block a point stores: the product of its two input blocks. -/
theorem out_at (x0 : Vec Ideal S1024x1024 .bf16) (x1 : Vec Ideal S1024x1024 .bf16) (p : Fin 1024) (q : Fin 1024) :
    out0_2 (F := Ideal) x0 x1 (ix2 p q) = ∑ s : Fin 1024, x0 (ix2 p s) * x1 (ix2 q s) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S1024x1024 .bf16 := m ((c : Thread nD τ).loc main_arg1)
/-- The rows of the left factor and the columns of the right one. -/
def LL : ℕ → ℕ → EReal := at2 (a := 8192) (b := 1024) (A0 m c)
def RR : ℕ → ℕ → EReal := at2 (a := 1024) (b := 1024) (A1 m c)

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 1024) :
    (iblk m c 0 t : Vec Ideal S1024x1024 .bf16) (ix2 p q) = LL m c (1024 * (t.val) + p.val) ((0) * 1024 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 1024 + 1 * q.val = (0) * 1024 + q.val; omega

/-- Input block 1 at a point. -/
theorem blk1 (t : Fin cfg0.N) (p : Fin 1024) (q : Fin 1024) :
    (iblk m c 1 t : Vec Ideal S1024x1024 .bf16) (ix2 p q) = RR m c (1024 * (0) + p.val) ((0) * 1024 + q.val) := by
  obtain ⟨e0, e1⟩ := idx1 t
  have ht := ltN t
  have hp := p.isLt
  have hq := q.isLt
  unfold RR at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = 1024 * (0) + p.val; omega
  | ⟨1, _⟩ => show win0_1.index t 1 * 1024 + 1 * q.val = (0) * 1024 + q.val; omega

/-- The product of a point's two input blocks is a tile of the whole product. -/
theorem tile (t : Fin cfg0.N) (p : Fin 1024) (q : Fin 1024) (x0 : Vec Ideal S1024x1024 .bf16) (x1 : Vec Ideal S1024x1024 .bf16) (h0 : x0 = iblk m c 0 t) (h1 : x1 = iblk m c 1 t) :
    ∑ s : Fin 1024, x0 (ix2 p s) * x1 (ix2 q s) = tileAt 1024 (LL m c) (RR m c) (1024 * (t.val) + p.val) (1024 * (0) + q.val) (0) := by
  subst h0 h1
  exact Finset.sum_congr rfl fun s _ => congrArg₂ (· * ·) (blk0 m c t p s) (blk1 m c t q s)

/-- The result's block after a point. -/
theorem outs (t : Fin cfg0.N) (p : Fin 1024) (q : Fin 1024) :
    out0_2 (F := Ideal) (iblk m c 0 t) (iblk m c 1 t) (ix2 p q) = dotAt 1024 (LL m c) (RR m c) (1024 * (t.val) + p.val) (1024 * (0) + q.val) := by
  rw [out_at, tile m c t p q _ _ rfl rfl, tileAt_zero]

/-- Result 1, as the array the run leaves. -/
def G2 : FVec Ideal S8192x1024 .f32 := fun i => dotAt 1024 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, (out0_2 (F := Ideal) (iblk m c 0 t) (iblk m c 1 t)) y = G2 m c (((cfg0.win 2).blk t).view.emb y) := fun y => by
    obtain ⟨p, q, rfl⟩ : ∃ (p : Fin 1024) (q : Fin 1024), y = ix2 p q := ⟨y 0, y 1, eq_ix2 y⟩
    rw [outs m c t]
    unfold G2
    congr 1
    · show 1024 * (t.val) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x1024.Idx) => by
    have h0 : (i 0).val < 8192 := (i 0).isLt
    have h1 : (i 1).val < 1024 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.OutDxIdeal.Mm

end
-- ==== Proof.OutDxClaim.lean ====
/- The gradient of the mixed rows through w_out: the kernel and the problem's own line leave equal results. -/
module

public import proofs.«01_k».proof.Defs
public import proofs.«01_k».proof.Proof.OutDxKernel
public import proofs.«01_k».proof.Proof.Gen.OutDxRefIdeal.Run
public import proofs.«01_k».proof.Proof.Gen.OutDxRefIdeal.Read

@[expose] public section

set_option maxRecDepth 16384
noncomputable section

namespace Cert.OutDxClaim

open Idealize.ShloMosaic Idealize.SL.Sem Cert.MmSpec

attribute [local instance] Cert.OutDxIdeal.Gen.facts Cert.OutDxRefIdeal.Gen.facts

variable (B0 : FVec Ideal Cert.OutDxRefIdeal.S8192x1024 .bf16) (B1 : FVec Ideal Cert.OutDxRefIdeal.S1024x1024 .bf16)

/-- An element of the reference's result is the product's. -/
theorem v4_at (r : Fin 8192) (l : Fin 1024) :
    Cert.OutDxRefIdeal.Read.val_main_v4 (F := Ideal) B0 B1 (ix2 r l) = dotAt 1024 (at2 (a := 8192) (b := 1024) B0) (at2 (a := 1024) (b := 1024) B1) r.val l.val := by
  have e : ∀ k : Fin 1024, (at2 (a := 8192) (b := 1024) B0) r.val k.val * (at2 (a := 1024) (b := 1024) B1) l.val k.val = _ := fun k => congrArg₂ (· * ·) (at2_val (a := 8192) (b := 1024) B0 r k) (at2_val (a := 1024) (b := 1024) B1 l k)
  unfold dotAt
  rw [Finset.sum_congr rfl fun k _ => e k]
  pointwise [Cert.OutDxRefIdeal.Read.val_main_v4, Cert.OutDxRefIdeal.Read.val_main_v3, Cert.OutDxRefIdeal.Read.val_main_v2, Cert.OutDxRefIdeal.Read.val_main_v1, Cert.OutDxRefIdeal.Read.val_main_v0, Cert.OutDxRefIdeal.Read.val_main_cst]

theorem v4_ref : Cert.OutDxRefIdeal.Read.val_main_v4 (F := Ideal) B0 B1 = fun i => dotAt 1024 (at2 (a := 8192) (b := 1024) B0) (at2 (a := 1024) (b := 1024) B1) (i 0).val (i 1).val := by
  funext i
  obtain ⟨r, l, rfl⟩ : ∃ (r : Fin 8192) (l : Fin 1024), i = ix2 r l := ⟨i 0, i 1, eq_ix2 i⟩
  exact v4_at B0 B1 r l

/-- The reference runs from every memory, leaves its arguments and every counter at zero. -/
theorem ref_frame : Cert.quiescent_OutDxRefIdeal := fun m ρ _ =>
  (θ_run _ _ _).mono (fun r h => ⟨fun c => (h c).2, Idealize.ShloMosaic.sem_eq_zero_of_no_sems (by decide) r.2⟩)
    (Cert.OutDxRefIdeal.Value.run (F := Ideal) m ρ)

/-- From memories that agree on the arguments both programs leave equal results. -/
theorem algebraic : Cert.algebraic_OutDxIdeal_OutDxRefIdeal := by
  intro m ρ m' ρ' _ hag
  refine ⟨fun c => Cert.OutDxIdeal.Mm.G2 m c, ?_, ?_⟩
  · exact (θ_run _ _ _).mono (fun _ h c => ⟨(h c).1.trans (Cert.OutDxIdeal.Mm.arr_2 m c), (h c).2⟩)
      (Cert.OutDxIdeal.Value.run_blocks (F := Ideal) m ρ)
  · refine (θ_run _ _ _).mono (fun _ h c => ⟨(h c).1.trans ?_, (h c).2⟩) (Cert.OutDxRefIdeal.Value.run (F := Ideal) m' ρ')
    rw [Cert.OutDxRefIdeal.Read.val_main_v4_eq, v4_ref, (hag c).1, (hag c).2]; rfl

end Cert.OutDxClaim

end
-- ==== Proof.OutDwKernel.lean ====
/- The kernel of the gradient of w_out, run from any memory, leaves that product in its result. -/
module

public import proofs.«01_k».proof.Proof.Gen.OutDwIdeal.Value
public import proofs.«01_k».proof.Proof.MmSpec

@[expose] public section

set_option maxRecDepth 16384
noncomputable section

namespace Cert.OutDwIdeal.Mm

open Cert.OutDwIdeal Cert.OutDwIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S1024x1024 .bf16) (inb) : View.ld (Val := Elt Ideal) x (Rect.unit (s := S1024x1024) ![0, 0] ![1024, 1024] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The product of two input blocks, and it added to what the block held. -/
theorem pay1_at (x0 : Vec Ideal S1024x1024 .bf16) (x1 : Vec Ideal S1024x1024 .bf16) (p : Fin 1024) (q : Fin 1024) : k0_pay1 (F := Ideal) x0 x1 (ix2 p q) = ∑ s : Fin 1024, x0 (ix2 s p) * x1 (ix2 s q) := by
  pointwise [k0_pay1]
theorem pay2_at (x0 : Vec Ideal S1024x1024 .bf16) (x1 : Vec Ideal S1024x1024 .bf16) (xo : Vec Ideal S1024x1024 .f32) (p : Fin 1024) (q : Fin 1024) : k0_pay2 (F := Ideal) x0 x1 xo (ix2 p q) = xo (ix2 p q) + ∑ s : Fin 1024, x0 (ix2 s p) * x1 (ix2 s q) := by
  pointwise [k0_pay2, k0_pay1]

section
variable (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole)

/-- What a point of case A leaves in output block 2. -/
theorem out_A_2 (hc0 : cond0_0 i) (hc1 : ¬cond0_1 i) (x0 : Vec Ideal S1024x1024 .bf16) (x1 : Vec Ideal S1024x1024 .bf16) (p : Fin 1024) (q : Fin 1024) :
    out0_A_2 (F := Ideal) c i a0 h0 a1 h1 a2 h2 hc0 hc1 x0 x1 (ix2 p q) = ∑ s : Fin 1024, x0 (ix2 s p) * x1 (ix2 s q) := by
  unfold out0_A_2
  rw [View.read_writes_eq_canon _ _ _ (cover0_A_2 c i a0 h0 a1 h1 a2 h2 hc0 hc1 x0 x1)]
  unfold kernelRun0_A
  dsimp only
  sl_unfold_words
  simp only [View.readAt_eq_ld, h0.read_unread, h1.read_unread]
  rw [canon_o, ld_0, ld_1]
  exact pay1_at x0 x1 p q

/-- What a point of case B leaves in output block 2. -/
theorem out_B_2 (hc0 : ¬cond0_0 i) (hc1 : cond0_1 i) (x0 : Vec Ideal S1024x1024 .bf16) (x1 : Vec Ideal S1024x1024 .bf16) (xo : Vec Ideal S1024x1024 .f32) (p : Fin 1024) (q : Fin 1024) :
    out0_B_2 (F := Ideal) c i a0 h0 a1 h1 a2 h2 hc0 hc1 x0 x1 xo (ix2 p q) = xo (ix2 p q) + ∑ s : Fin 1024, x0 (ix2 s p) * x1 (ix2 s q) := by
  unfold out0_B_2
  rw [View.read_writes_eq_canon _ _ _ (cover0_B_2 c i a0 h0 a1 h1 a2 h2 hc0 hc1 x0 x1 xo)]
  unfold kernelRun0_B
  dsimp only
  sl_unfold_words
  simp only [View.readAt_eq_ld, h0.read_unread, h1.read_unread, h2.read_unread]
  rw [canon_o, ld_0, ld_1, ld_o]
  exact pay2_at x0 x1 xo p q
end

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S8192x1024 .bf16 := m ((c : Thread nD τ).loc main_arg1)
/-- The rows of the left factor and the columns of the right one. -/
def LL : ℕ → ℕ → EReal := flip2 (at2 (a := 8192) (b := 1024) (A0 m c))
def RR : ℕ → ℕ → EReal := flip2 (at2 (a := 8192) (b := 1024) (A1 m c))

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 1024) :
    (iblk m c 0 t : Vec Ideal S1024x1024 .bf16) (ix2 p q) = LL m c (1024 * (0) + q.val) ((t.val) * 1024 + p.val) := by
  obtain ⟨e0, e1⟩ := idx0 t
  have ht := ltN t
  have hp := p.isLt
  have hq := q.isLt
  unfold LL flip2 at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = (t.val) * 1024 + p.val; omega
  | ⟨1, _⟩ => show win0_0.index t 1 * 1024 + 1 * q.val = 1024 * (0) + q.val; omega

/-- Input block 1 at a point. -/
theorem blk1 (t : Fin cfg0.N) (p : Fin 1024) (q : Fin 1024) :
    (iblk m c 1 t : Vec Ideal S1024x1024 .bf16) (ix2 p q) = RR m c (1024 * (0) + q.val) ((t.val) * 1024 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = (t.val) * 1024 + p.val; omega
  | ⟨1, _⟩ => show win0_1.index t 1 * 1024 + 1 * q.val = 1024 * (0) + q.val; omega

/-- The product of a point's two input blocks is a tile of the whole product. -/
theorem tile (t : Fin cfg0.N) (p : Fin 1024) (q : Fin 1024) (x0 : Vec Ideal S1024x1024 .bf16) (x1 : Vec Ideal S1024x1024 .bf16) (h0 : x0 = iblk m c 0 t) (h1 : x1 = iblk m c 1 t) :
    ∑ s : Fin 1024, x0 (ix2 s p) * x1 (ix2 s q) = tileAt 1024 (LL m c) (RR m c) (1024 * (0) + p.val) (1024 * (0) + q.val) (t.val) := by
  subst h0 h1
  exact Finset.sum_congr rfl fun s _ => congrArg₂ (· * ·) (blk0 m c t s p) (blk1 m c t s q)

/-- The result's block after a point: the tiles so far added up. -/
theorem outs (p : Fin 1024) (q : Fin 1024) : ∀ (n : ℕ) (hn : n < cfg0.N),
    (outsAt0 m c n hn) (ix2 p q) = ∑ k ∈ Finset.range (n + 1), tileAt 1024 (LL m c) (RR m c) (1024 * (0) + p.val) (1024 * (0) + q.val) k := by
  intro n
  induction n with
  | zero =>
    intro hn
    have e := outsAt0_A m c ⟨0, hn⟩ (show 0 % 8 = 0 by decide) (show ¬1 ≤ 0 % 8 by decide)
    change outsAt0 m c 0 hn = _ at e
    rw [e]
    rw [out_A_2, tile m c ⟨0, hn⟩ p q _ _ rfl rfl]
    simp
  | succ n ih =>
    intro hn
    by_cases h0 : (n + 1) % 8 = 0
    · exfalso
      have hlt : n + 1 < 8 := ltN ⟨n + 1, hn⟩
      omega
    · have e := outsAt0_B m c ⟨n + 1, hn⟩ h0 (by dsimp only; omega)
      change outsAt0 m c (n + 1) hn = _ at e
      rw [e]
      rw [out_B_2, tile m c ⟨n + 1, hn⟩ p q _ _ rfl rfl]
      have ih' := ih (by omega)
      have ek : (n + 1) = n + 1 := by omega
      show (outsAt0 m c n _) (ix2 p q) + tileAt 1024 (LL m c) (RR m c) (1024 * (0) + p.val) (1024 * (0) + q.val) ((n + 1)) = _
      rw [ih', Finset.sum_range_succ _ (n + 1)]

/-- The result's block where it is written back: the whole product. -/
theorem outs_2_last (t : Fin cfg0.N) (ht : t.val % 8 = 7) (p : Fin 1024) (q : Fin 1024) :
    (outsAt0 m c t.val t.isLt) (ix2 p q) = dotAt 8192 (LL m c) (RR m c) (1024 * (0) + p.val) (1024 * (0) + q.val) := by
  have htn := ltN t
  rw [outs m c p q t.val t.isLt, show t.val = 7 by omega]
  exact sum_tileAt 8 1024 _ _ _ _

/-- Result 1, as the array the run leaves. -/
def G2 : FVec Ideal S1024x1024 .f32 := fun i => dotAt 8192 (LL m c) (RR m c) (i 0).val (i 1).val

theorem flush2 : ∀ t : Fin cfg0.N, (cfg0.win 2).flush t = true ↔ t.val % 8 = 7 :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, ((outsAt0 m c t.val t.isLt)) y = G2 m c (((cfg0.win 2).blk t).view.emb y) := fun y => by
    obtain ⟨p, q, rfl⟩ : ∃ (p : Fin 1024) (q : Fin 1024), y = ix2 p q := ⟨y 0, y 1, eq_ix2 y⟩
    rw [outs_2_last m c t ((flush2 t).mp hf)]
    unfold G2
    congr 1
    · show 1024 * (0) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S1024x1024.Idx) => by
    have h0 : (i 0).val < 1024 := (i 0).isLt
    have h1 : (i 1).val < 1024 := (i 1).isLt
    obtain ⟨t, ht⟩ : ∃ t : Fin cfg0.N, t.val = 7 := ⟨⟨_, by show _ < 8; omega⟩, rfl⟩
    refine ⟨t, ?_, ?_⟩
    · rw [flush2]; omega
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.OutDwIdeal.Mm

end
-- ==== Proof.OutDwClaim.lean ====
/- The gradient of w_out: the kernel and the problem's own line leave equal results. -/
module

public import proofs.«01_k».proof.Defs
public import proofs.«01_k».proof.Proof.OutDwKernel
public import proofs.«01_k».proof.Proof.Gen.OutDwRefIdeal.Run
public import proofs.«01_k».proof.Proof.Gen.OutDwRefIdeal.Read

@[expose] public section

set_option maxRecDepth 16384
noncomputable section

namespace Cert.OutDwClaim

open Idealize.ShloMosaic Idealize.SL.Sem Cert.MmSpec

attribute [local instance] Cert.OutDwIdeal.Gen.facts Cert.OutDwRefIdeal.Gen.facts

variable (B0 : FVec Ideal Cert.OutDwRefIdeal.S8192x1024 .bf16) (B1 : FVec Ideal Cert.OutDwRefIdeal.S8192x1024 .bf16)

/-- An element of the reference's result is the product's. -/
theorem v5_at (r : Fin 1024) (l : Fin 1024) :
    Cert.OutDwRefIdeal.Read.val_main_v5 (F := Ideal) B0 B1 (ix2 r l) = dotAt 8192 (flip2 (at2 (a := 8192) (b := 1024) B0)) (flip2 (at2 (a := 8192) (b := 1024) B1)) r.val l.val := by
  rw [dotAt_comm]
  have e : ∀ k : Fin 8192, (flip2 (at2 (a := 8192) (b := 1024) B1)) l.val k.val * (flip2 (at2 (a := 8192) (b := 1024) B0)) r.val k.val = _ := fun k => congrArg₂ (· * ·) (at2_val (a := 8192) (b := 1024) B1 k l) (at2_val (a := 8192) (b := 1024) B0 k r)
  unfold dotAt
  rw [Finset.sum_congr rfl fun k _ => e k]
  pointwise [Cert.OutDwRefIdeal.Read.val_main_v5, Cert.OutDwRefIdeal.Read.val_main_v4, Cert.OutDwRefIdeal.Read.val_main_v3, Cert.OutDwRefIdeal.Read.val_main_v2, Cert.OutDwRefIdeal.Read.val_main_v1, Cert.OutDwRefIdeal.Read.val_main_v0, Cert.OutDwRefIdeal.Read.val_main_cst]

theorem v5_ref : Cert.OutDwRefIdeal.Read.val_main_v5 (F := Ideal) B0 B1 = fun i => dotAt 8192 (flip2 (at2 (a := 8192) (b := 1024) B0)) (flip2 (at2 (a := 8192) (b := 1024) B1)) (i 0).val (i 1).val := by
  funext i
  obtain ⟨r, l, rfl⟩ : ∃ (r : Fin 1024) (l : Fin 1024), i = ix2 r l := ⟨i 0, i 1, eq_ix2 i⟩
  exact v5_at B0 B1 r l

/-- The reference runs from every memory, leaves its arguments and every counter at zero. -/
theorem ref_frame : Cert.quiescent_OutDwRefIdeal := fun m ρ _ =>
  (θ_run _ _ _).mono (fun r h => ⟨fun c => (h c).2, Idealize.ShloMosaic.sem_eq_zero_of_no_sems (by decide) r.2⟩)
    (Cert.OutDwRefIdeal.Value.run (F := Ideal) m ρ)

/-- From memories that agree on the arguments both programs leave equal results. -/
theorem algebraic : Cert.algebraic_OutDwIdeal_OutDwRefIdeal := by
  intro m ρ m' ρ' _ hag
  refine ⟨fun c => Cert.OutDwIdeal.Mm.G2 m c, ?_, ?_⟩
  · exact (θ_run _ _ _).mono (fun _ h c => ⟨(h c).1.trans (Cert.OutDwIdeal.Mm.arr_2 m c), (h c).2⟩)
      (Cert.OutDwIdeal.Value.run_blocks (F := Ideal) m ρ)
  · refine (θ_run _ _ _).mono (fun _ h c => ⟨(h c).1.trans ?_, (h c).2⟩) (Cert.OutDwRefIdeal.Value.run (F := Ideal) m' ρ')
    rw [Cert.OutDwRefIdeal.Read.val_main_v5_eq, v5_ref, (hag c).1, (hag c).2]; rfl

end Cert.OutDwClaim

end
-- ==== Proof.InDxKernel.lean ====
/- The kernel of the gradient of the normed rows through w_in, run from any memory, leaves that product in its result. -/
module

public import proofs.«01_k».proof.Proof.Gen.InDxIdeal.Value
public import proofs.«01_k».proof.Proof.MmSpec

@[expose] public section

set_option maxRecDepth 16384
noncomputable section

namespace Cert.InDxIdeal.Mm

open Cert.InDxIdeal Cert.InDxIdeal.Gen Cert.MmSpec Idealize.ShloMosaic Idealize.ShloMosaic.TcCoe Idealize.SL.Sem
open Idealize.ShloMosaic.Pipeline (Dat)

/-- A load of a whole block is the block. -/
theorem ld_0 (x : Vec Ideal S1024x3200 .bf16) (inb) : View.ld (Val := Elt Ideal) x (Rect.unit (s := S1024x3200) ![0, 0] ![1024, 3200] inb) = x :=
  View.ld_unit_zero (by decide) inb x
theorem ld_1 (x : Vec Ideal S1024x3200 .bf16) (inb) : View.ld (Val := Elt Ideal) x (Rect.unit (s := S1024x3200) ![0, 0] ![1024, 3200] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The block a point stores: the product of its two input blocks. -/
theorem out_at (x0 : Vec Ideal S1024x3200 .bf16) (x1 : Vec Ideal S1024x3200 .bf16) (p : Fin 1024) (q : Fin 1024) :
    out0_2 (F := Ideal) x0 x1 (ix2 p q) = ∑ s : Fin 3200, x0 (ix2 p s) * x1 (ix2 q s) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x3200 .bf16 := m ((c : Thread nD τ).loc main_arg0)
abbrev A1 : FVec Ideal S1024x3200 .bf16 := m ((c : Thread nD τ).loc main_arg1)
/-- The rows of the left factor and the columns of the right one. -/
def LL : ℕ → ℕ → EReal := at2 (a := 8192) (b := 3200) (A0 m c)
def RR : ℕ → ℕ → EReal := at2 (a := 1024) (b := 3200) (A1 m c)

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 3200) :
    (iblk m c 0 t : Vec Ideal S1024x3200 .bf16) (ix2 p q) = LL m c (1024 * (t.val) + p.val) ((0) * 3200 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 3200 + 1 * q.val = (0) * 3200 + q.val; omega

/-- Input block 1 at a point. -/
theorem blk1 (t : Fin cfg0.N) (p : Fin 1024) (q : Fin 3200) :
    (iblk m c 1 t : Vec Ideal S1024x3200 .bf16) (ix2 p q) = RR m c (1024 * (0) + p.val) ((0) * 3200 + q.val) := by
  obtain ⟨e0, e1⟩ := idx1 t
  have ht := ltN t
  have hp := p.isLt
  have hq := q.isLt
  unfold RR at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = 1024 * (0) + p.val; omega
  | ⟨1, _⟩ => show win0_1.index t 1 * 3200 + 1 * q.val = (0) * 3200 + q.val; omega

/-- The product of a point's two input blocks is a tile of the whole product. -/
theorem tile (t : Fin cfg0.N) (p : Fin 1024) (q : Fin 1024) (x0 : Vec Ideal S1024x3200 .bf16) (x1 : Vec Ideal S1024x3200 .bf16) (h0 : x0 = iblk m c 0 t) (h1 : x1 = iblk m c 1 t) :
    ∑ s : Fin 3200, x0 (ix2 p s) * x1 (ix2 q s) = tileAt 3200 (LL m c) (RR m c) (1024 * (t.val) + p.val) (1024 * (0) + q.val) (0) := by
  subst h0 h1
  exact Finset.sum_congr rfl fun s _ => congrArg₂ (· * ·) (blk0 m c t p s) (blk1 m c t q s)

/-- The result's block after a point. -/
theorem outs (t : Fin cfg0.N) (p : Fin 1024) (q : Fin 1024) :
    out0_2 (F := Ideal) (iblk m c 0 t) (iblk m c 1 t) (ix2 p q) = dotAt 3200 (LL m c) (RR m c) (1024 * (t.val) + p.val) (1024 * (0) + q.val) := by
  rw [out_at, tile m c t p q _ _ rfl rfl, tileAt_zero]

/-- Result 1, as the array the run leaves. -/
def G2 : FVec Ideal S8192x1024 .f32 := fun i => dotAt 3200 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, (out0_2 (F := Ideal) (iblk m c 0 t) (iblk m c 1 t)) y = G2 m c (((cfg0.win 2).blk t).view.emb y) := fun y => by
    obtain ⟨p, q, rfl⟩ : ∃ (p : Fin 1024) (q : Fin 1024), y = ix2 p q := ⟨y 0, y 1, eq_ix2 y⟩
    rw [outs m c t]
    unfold G2
    congr 1
    · show 1024 * (t.val) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x1024.Idx) => by
    have h0 : (i 0).val < 8192 := (i 0).isLt
    have h1 : (i 1).val < 1024 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.InDxIdeal.Mm

end
-- ==== Proof.InDxClaim.lean ====
/- The gradient of the normed rows through w_in: the kernel and the problem's own line leave equal results. -/
module

public import proofs.«01_k».proof.Defs
public import proofs.«01_k».proof.Proof.InDxKernel
public import proofs.«01_k».proof.Proof.Gen.InDxRefIdeal.Run
public import proofs.«01_k».proof.Proof.Gen.InDxRefIdeal.Read

@[expose] public section

set_option maxRecDepth 16384
noncomputable section

namespace Cert.InDxClaim

open Idealize.ShloMosaic Idealize.SL.Sem Cert.MmSpec

attribute [local instance] Cert.InDxIdeal.Gen.facts Cert.InDxRefIdeal.Gen.facts

variable (B0 : FVec Ideal Cert.InDxRefIdeal.S8192x3200 .bf16) (B1 : FVec Ideal Cert.InDxRefIdeal.S1024x3200 .bf16)

/-- An element of the reference's result is the product's. -/
theorem v4_at (r : Fin 8192) (l : Fin 1024) :
    Cert.InDxRefIdeal.Read.val_main_v4 (F := Ideal) B0 B1 (ix2 r l) = dotAt 3200 (at2 (a := 8192) (b := 3200) B0) (at2 (a := 1024) (b := 3200) B1) r.val l.val := by
  have e : ∀ k : Fin 3200, (at2 (a := 8192) (b := 3200) B0) r.val k.val * (at2 (a := 1024) (b := 3200) B1) l.val k.val = _ := fun k => congrArg₂ (· * ·) (at2_val (a := 8192) (b := 3200) B0 r k) (at2_val (a := 1024) (b := 3200) B1 l k)
  unfold dotAt
  rw [Finset.sum_congr rfl fun k _ => e k]
  pointwise [Cert.InDxRefIdeal.Read.val_main_v4, Cert.InDxRefIdeal.Read.val_main_v3, Cert.InDxRefIdeal.Read.val_main_v2, Cert.InDxRefIdeal.Read.val_main_v1, Cert.InDxRefIdeal.Read.val_main_v0, Cert.InDxRefIdeal.Read.val_main_cst]

theorem v4_ref : Cert.InDxRefIdeal.Read.val_main_v4 (F := Ideal) B0 B1 = fun i => dotAt 3200 (at2 (a := 8192) (b := 3200) B0) (at2 (a := 1024) (b := 3200) B1) (i 0).val (i 1).val := by
  funext i
  obtain ⟨r, l, rfl⟩ : ∃ (r : Fin 8192) (l : Fin 1024), i = ix2 r l := ⟨i 0, i 1, eq_ix2 i⟩
  exact v4_at B0 B1 r l

/-- The reference runs from every memory, leaves its arguments and every counter at zero. -/
theorem ref_frame : Cert.quiescent_InDxRefIdeal := fun m ρ _ =>
  (θ_run _ _ _).mono (fun r h => ⟨fun c => (h c).2, Idealize.ShloMosaic.sem_eq_zero_of_no_sems (by decide) r.2⟩)
    (Cert.InDxRefIdeal.Value.run (F := Ideal) m ρ)

/-- From memories that agree on the arguments both programs leave equal results. -/
theorem algebraic : Cert.algebraic_InDxIdeal_InDxRefIdeal := by
  intro m ρ m' ρ' _ hag
  refine ⟨fun c => Cert.InDxIdeal.Mm.G2 m c, ?_, ?_⟩
  · exact (θ_run _ _ _).mono (fun _ h c => ⟨(h c).1.trans (Cert.InDxIdeal.Mm.arr_2 m c), (h c).2⟩)
      (Cert.InDxIdeal.Value.run_blocks (F := Ideal) m ρ)
  · refine (θ_run _ _ _).mono (fun _ h c => ⟨(h c).1.trans ?_, (h c).2⟩) (Cert.InDxRefIdeal.Value.run (F := Ideal) m' ρ')
    rw [Cert.InDxRefIdeal.Read.val_main_v4_eq, v4_ref, (hag c).1, (hag c).2]; rfl

end Cert.InDxClaim

end
-- ==== Proof.InDwKernel.lean ====
/- The kernel of the gradient of w_in, run from any memory, leaves that product in its result. -/
module

public import proofs.«01_k».proof.Proof.Gen.InDwIdeal.Value
public import proofs.«01_k».proof.Proof.MmSpec

@[expose] public section

set_option maxRecDepth 16384
noncomputable section

namespace Cert.InDwIdeal.Mm

open Cert.InDwIdeal Cert.InDwIdeal.Gen Cert.MmSpec Idealize.ShloMosaic Idealize.ShloMosaic.TcCoe Idealize.SL.Sem
open Idealize.ShloMosaic.Pipeline (Dat)

/-- A load of a whole block is the block. -/
theorem ld_0 (x : Vec Ideal S512x2048 .bf16) (inb) : View.ld (Val := Elt Ideal) x (Rect.unit (s := S512x2048) ![0, 0] ![512, 2048] inb) = x :=
  View.ld_unit_zero (by decide) inb x
theorem ld_1 (x : Vec Ideal S2048x3200 .bf16) (inb) : View.ld (Val := Elt Ideal) x (Rect.unit (s := S2048x3200) ![0, 0] ![2048, 3200] inb) = x :=
  View.ld_unit_zero (by decide) inb x
theorem ld_o (x : Vec Ideal S512x3200 .f32) (inb) : View.ld (Val := Elt Ideal) x (Rect.unit (s := S512x3200) ![0, 0] ![512, 3200] inb) = x :=
  View.ld_unit_zero (by decide) inb x
/-- A store of a whole block leaves what was stored. -/
theorem canon_o (P : Vec Ideal S512x3200 .f32) (L : List (View.Piece (Elt Ideal) S512x3200 .f32)) (inb) :
    View.canon (Val := Elt Ideal) (⟨Rect.unit (s := S512x3200) ![0, 0] ![512, 3200] inb, P⟩ :: L) = P :=
  View.canon_cons_unit_zero (by decide) inb P L

/-- The product of two input blocks, and it added to what the block held. -/
theorem pay1_at (x0 : Vec Ideal S512x2048 .bf16) (x1 : Vec Ideal S2048x3200 .bf16) (p : Fin 512) (q : Fin 3200) : k0_pay1 (F := Ideal) x0 x1 (ix2 p q) = ∑ s : Fin 2048, x0 (ix2 p s) * x1 (ix2 s q) := by
  pointwise [k0_pay1]
theorem pay2_at (x0 : Vec Ideal S512x2048 .bf16) (x1 : Vec Ideal S2048x3200 .bf16) (xo : Vec Ideal S512x3200 .f32) (p : Fin 512) (q : Fin 3200) : k0_pay2 (F := Ideal) x0 x1 xo (ix2 p q) = xo (ix2 p q) + ∑ s : Fin 2048, x0 (ix2 p s) * x1 (ix2 s q) := by
  pointwise [k0_pay2, k0_pay1]

section
variable (c : Dev nD) (i : grid0.Coords) (a0 : Memref sig .tc .vmem S512x2048 .bf16) (h0 : a0.IsWhole) (a1 : Memref sig .tc .vmem S2048x3200 .bf16) (h1 : a1.IsWhole) (a2 : Memref sig .tc .vmem S512x3200 .f32) (h2 : a2.IsWhole)

/-- What a point of case A leaves in output block 2. -/
theorem out_A_2 (hc0 : cond0_0 i) (hc1 : ¬cond0_1 i) (x0 : Vec Ideal S512x2048 .bf16) (x1 : Vec Ideal S2048x3200 .bf16) (p : Fin 512) (q : Fin 3200) :
    out0_A_2 (F := Ideal) c i a0 h0 a1 h1 a2 h2 hc0 hc1 x0 x1 (ix2 p q) = ∑ s : Fin 2048, x0 (ix2 p s) * x1 (ix2 s q) := by
  unfold out0_A_2
  rw [View.read_writes_eq_canon _ _ _ (cover0_A_2 c i a0 h0 a1 h1 a2 h2 hc0 hc1 x0 x1)]
  unfold kernelRun0_A
  dsimp only
  sl_unfold_words
  simp only [View.readAt_eq_ld, h0.read_unread, h1.read_unread]
  rw [canon_o, ld_0, ld_1]
  exact pay1_at x0 x1 p q

/-- What a point of case B leaves in output block 2. -/
theorem out_B_2 (hc0 : ¬cond0_0 i) (hc1 : cond0_1 i) (x0 : Vec Ideal S512x2048 .bf16) (x1 : Vec Ideal S2048x3200 .bf16) (xo : Vec Ideal S512x3200 .f32) (p : Fin 512) (q : Fin 3200) :
    out0_B_2 (F := Ideal) c i a0 h0 a1 h1 a2 h2 hc0 hc1 x0 x1 xo (ix2 p q) = xo (ix2 p q) + ∑ s : Fin 2048, x0 (ix2 p s) * x1 (ix2 s q) := by
  unfold out0_B_2
  rw [View.read_writes_eq_canon _ _ _ (cover0_B_2 c i a0 h0 a1 h1 a2 h2 hc0 hc1 x0 x1 xo)]
  unfold kernelRun0_B
  dsimp only
  sl_unfold_words
  simp only [View.readAt_eq_ld, h0.read_unread, h1.read_unread, h2.read_unread]
  rw [canon_o, ld_0, ld_1, ld_o]
  exact pay2_at x0 x1 xo p q
end

variable (m : (ℓ : Loc nD τ sig) → Buf (Elt Ideal) ℓ) (c : Dev nD)

/-- The two arguments. -/
abbrev A0 : FVec Ideal S1024x8192 .bf16 := m ((c : Thread nD τ).loc main_arg0)
abbrev A1 : FVec Ideal S8192x3200 .bf16 := m ((c : Thread nD τ).loc main_arg1)
/-- The rows of the left factor and the columns of the right one. -/
def LL : ℕ → ℕ → EReal := at2 (a := 1024) (b := 8192) (A0 m c)
def RR : ℕ → ℕ → EReal := flip2 (at2 (a := 8192) (b := 3200) (A1 m c))

/-- The blocks each grid point names. -/
theorem idx0 : ∀ t : Fin cfg0.N, win0_0.index t 0 = t.val / 4 ∧ win0_0.index t 1 = t.val % 4 :=
  (by decide +kernel : ∀ t : Fin grid0.N, _)
theorem idx1 : ∀ t : Fin cfg0.N, win0_1.index t 0 = t.val % 4 ∧ win0_1.index t 1 = 0 :=
  (by decide +kernel : ∀ t : Fin grid0.N, _)
theorem idx2 : ∀ t : Fin cfg0.N, win0_2.index t 0 = t.val / 4 ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 512) (q : Fin 2048) :
    (iblk m c 0 t : Vec Ideal S512x2048 .bf16) (ix2 p q) = LL m c (512 * (t.val / 4) + p.val) ((t.val % 4) * 2048 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 512 + 1 * p.val = 512 * (t.val / 4) + p.val; omega
  | ⟨1, _⟩ => show win0_0.index t 1 * 2048 + 1 * q.val = (t.val % 4) * 2048 + q.val; omega

/-- Input block 1 at a point. -/
theorem blk1 (t : Fin cfg0.N) (p : Fin 2048) (q : Fin 3200) :
    (iblk m c 1 t : Vec Ideal S2048x3200 .bf16) (ix2 p q) = RR m c (3200 * (0) + q.val) ((t.val % 4) * 2048 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 2048 + 1 * p.val = (t.val % 4) * 2048 + p.val; omega
  | ⟨1, _⟩ => show win0_1.index t 1 * 3200 + 1 * q.val = 3200 * (0) + q.val; omega

/-- The product of a point's two input blocks is a tile of the whole product. -/
theorem tile (t : Fin cfg0.N) (p : Fin 512) (q : Fin 3200) (x0 : Vec Ideal S512x2048 .bf16) (x1 : Vec Ideal S2048x3200 .bf16) (h0 : x0 = iblk m c 0 t) (h1 : x1 = iblk m c 1 t) :
    ∑ s : Fin 2048, x0 (ix2 p s) * x1 (ix2 s q) = tileAt 2048 (LL m c) (RR m c) (512 * (t.val / 4) + p.val) (3200 * (0) + q.val) (t.val % 4) := by
  subst h0 h1
  exact Finset.sum_congr rfl fun s _ => congrArg₂ (· * ·) (blk0 m c t p s) (blk1 m c t s q)

/-- The result's block after a point: the tiles so far added up. -/
theorem outs (p : Fin 512) (q : Fin 3200) : ∀ (n : ℕ) (hn : n < cfg0.N),
    (outsAt0 m c n hn) (ix2 p q) = ∑ k ∈ Finset.range (n % 4 + 1), tileAt 2048 (LL m c) (RR m c) (512 * (n / 4) + p.val) (3200 * (0) + q.val) k := by
  intro n
  induction n with
  | zero =>
    intro hn
    have e := outsAt0_A m c ⟨0, hn⟩ (show 0 % 4 = 0 by decide) (show ¬1 ≤ 0 % 4 by decide)
    change outsAt0 m c 0 hn = _ at e
    rw [e]
    rw [out_A_2, tile m c ⟨0, hn⟩ p q _ _ rfl rfl]
    simp
  | succ n ih =>
    intro hn
    by_cases h0 : (n + 1) % 4 = 0
    · have e := outsAt0_A m c ⟨n + 1, hn⟩ h0 (by dsimp only; omega)
      change outsAt0 m c (n + 1) hn = _ at e
      rw [e]
      rw [out_A_2, tile m c ⟨n + 1, hn⟩ p q _ _ rfl rfl]
      simp [h0]
    · have e := outsAt0_B m c ⟨n + 1, hn⟩ h0 (by dsimp only; omega)
      change outsAt0 m c (n + 1) hn = _ at e
      rw [e]
      rw [out_B_2, tile m c ⟨n + 1, hn⟩ p q _ _ rfl rfl]
      have ih' := ih (by omega)
      have ei : (n + 1) / 4 = n / 4 := by omega
      have ek : (n + 1) % 4 = n % 4 + 1 := by omega
      show (outsAt0 m c n _) (ix2 p q) + tileAt 2048 (LL m c) (RR m c) (512 * ((n + 1) / 4) + p.val) (3200 * (0) + q.val) ((n + 1) % 4) = _
      rw [ih', ei, ek, Finset.sum_range_succ _ (n % 4 + 1)]

/-- The result's block where it is written back: the whole product. -/
theorem outs_2_last (t : Fin cfg0.N) (ht : t.val % 4 = 3) (p : Fin 512) (q : Fin 3200) :
    (outsAt0 m c t.val t.isLt) (ix2 p q) = dotAt 8192 (LL m c) (RR m c) (512 * (t.val / 4) + p.val) (3200 * (0) + q.val) := by
  have htn := ltN t
  rw [outs m c p q t.val t.isLt, show t.val % 4 = 3 by omega]
  exact sum_tileAt 4 2048 _ _ _ _

/-- Result 1, as the array the run leaves. -/
def G2 : FVec Ideal S1024x3200 .f32 := fun i => dotAt 8192 (LL m c) (RR m c) (i 0).val (i 1).val

theorem flush2 : ∀ t : Fin cfg0.N, (cfg0.win 2).flush t = true ↔ t.val % 4 = 3 :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S512x3200.Idx, ((outsAt0 m c t.val t.isLt)) y = G2 m c (((cfg0.win 2).blk t).view.emb y) := fun y => by
    obtain ⟨p, q, rfl⟩ : ∃ (p : Fin 512) (q : Fin 3200), y = ix2 p q := ⟨y 0, y 1, eq_ix2 y⟩
    rw [outs_2_last m c t ((flush2 t).mp hf)]
    unfold G2
    congr 1
    · show 512 * (t.val / 4) + p.val = win0_2.index t 0 * 512 + 1 * p.val; omega
    · show 3200 * (0) + q.val = win0_2.index t 1 * 3200 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S1024x3200.Idx) => by
    have h0 : (i 0).val < 1024 := (i 0).isLt
    have h1 : (i 1).val < 3200 := (i 1).isLt
    obtain ⟨t, ht⟩ : ∃ t : Fin cfg0.N, t.val = 4 * ((i 0).val / 512) + 3 := ⟨⟨_, by show _ < 8; omega⟩, rfl⟩
    refine ⟨t, ?_, ?_⟩
    · rw [flush2]; omega
    · show i ∈ ((View.whole main_v0).slice (win0_2.rect t)).set
      rw [View.set_slice_whole, Rect.mem_set_unit]
      obtain ⟨e0, e1⟩ := idx2 t
      intro a
      match a with
      | ⟨0, _⟩ => show win0_2.index t 0 * 512 ≤ (i 0).val ∧ (i 0).val < win0_2.index t 0 * 512 + 512; omega
      | ⟨1, _⟩ => show win0_2.index t 1 * 3200 ≤ (i 1).val ∧ (i 1).val < win0_2.index t 1 * 3200 + 3200; omega

end Cert.InDwIdeal.Mm

end
-- ==== Proof.InDwClaim.lean ====
/- The gradient of w_in: the kernel and the problem's own line leave equal results. -/
module

public import proofs.«01_k».proof.Defs
public import proofs.«01_k».proof.Proof.InDwKernel
public import proofs.«01_k».proof.Proof.Gen.InDwRefIdeal.Run
public import proofs.«01_k».proof.Proof.Gen.InDwRefIdeal.Read

@[expose] public section

set_option maxRecDepth 16384
noncomputable section

namespace Cert.InDwClaim

open Idealize.ShloMosaic Idealize.SL.Sem Cert.MmSpec

attribute [local instance] Cert.InDwIdeal.Gen.facts Cert.InDwRefIdeal.Gen.facts

variable (B0 : FVec Ideal Cert.InDwRefIdeal.S1024x8192 .bf16) (B1 : FVec Ideal Cert.InDwRefIdeal.S8192x3200 .bf16)

/-- An element of the reference's result is the product's. -/
theorem v6_at (r : Fin 1024) (l : Fin 3200) :
    Cert.InDwRefIdeal.Read.val_main_v6 (F := Ideal) B0 B1 (ix2 r l) = dotAt 8192 (at2 (a := 1024) (b := 8192) B0) (flip2 (at2 (a := 8192) (b := 3200) B1)) r.val l.val := by
  rw [dotAt_comm]
  have e : ∀ k : Fin 8192, (flip2 (at2 (a := 8192) (b := 3200) B1)) l.val k.val * (at2 (a := 1024) (b := 8192) B0) r.val k.val = _ := fun k => congrArg₂ (· * ·) (at2_val (a := 8192) (b := 3200) B1 k l) (at2_val (a := 1024) (b := 8192) B0 r k)
  unfold dotAt
  rw [Finset.sum_congr rfl fun k _ => e k]
  pointwise [Cert.InDwRefIdeal.Read.val_main_v6, Cert.InDwRefIdeal.Read.val_main_v5, Cert.InDwRefIdeal.Read.val_main_v4, Cert.InDwRefIdeal.Read.val_main_v3, Cert.InDwRefIdeal.Read.val_main_v2, Cert.InDwRefIdeal.Read.val_main_v1, Cert.InDwRefIdeal.Read.val_main_cst, Cert.InDwRefIdeal.Read.val_main_v0]

theorem v6_ref : Cert.InDwRefIdeal.Read.val_main_v6 (F := Ideal) B0 B1 = fun i => dotAt 8192 (at2 (a := 1024) (b := 8192) B0) (flip2 (at2 (a := 8192) (b := 3200) B1)) (i 0).val (i 1).val := by
  funext i
  obtain ⟨r, l, rfl⟩ : ∃ (r : Fin 1024) (l : Fin 3200), i = ix2 r l := ⟨i 0, i 1, eq_ix2 i⟩
  exact v6_at B0 B1 r l

/-- The reference runs from every memory, leaves its arguments and every counter at zero. -/
theorem ref_frame : Cert.quiescent_InDwRefIdeal := fun m ρ _ =>
  (θ_run _ _ _).mono (fun r h => ⟨fun c => (h c).2, Idealize.ShloMosaic.sem_eq_zero_of_no_sems (by decide) r.2⟩)
    (Cert.InDwRefIdeal.Value.run (F := Ideal) m ρ)

/-- From memories that agree on the arguments both programs leave equal results. -/
theorem algebraic : Cert.algebraic_InDwIdeal_InDwRefIdeal := by
  intro m ρ m' ρ' _ hag
  refine ⟨fun c => Cert.InDwIdeal.Mm.G2 m c, ?_, ?_⟩
  · exact (θ_run _ _ _).mono (fun _ h c => ⟨(h c).1.trans (Cert.InDwIdeal.Mm.arr_2 m c), (h c).2⟩)
      (Cert.InDwIdeal.Value.run_blocks (F := Ideal) m ρ)
  · refine (θ_run _ _ _).mono (fun _ h c => ⟨(h c).1.trans ?_, (h c).2⟩) (Cert.InDwRefIdeal.Value.run (F := Ideal) m' ρ')
    rw [Cert.InDwRefIdeal.Read.val_main_v6_eq, v6_ref, (hag c).1, (hag c).2]; rfl

end Cert.InDwClaim

end
-- ==== Proof.InFwdKernel.lean ====
/- The kernel of the input projection, run from any memory, leaves that product in its result. -/
module

public import proofs.«01_k».proof.Proof.Gen.InFwdIdeal.Value
public import proofs.«01_k».proof.Proof.MmSpec

@[expose] public section

set_option maxRecDepth 16384
noncomputable section

namespace Cert.InFwdIdeal.Mm

open Cert.InFwdIdeal Cert.InFwdIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S1024x3200 .bf16) (inb) : View.ld (Val := Elt Ideal) x (Rect.unit (s := S1024x3200) ![0, 0] ![1024, 3200] inb) = x :=
  View.ld_unit_zero (by decide) inb x
theorem ld_o (x : Vec Ideal S1024x3200 .f32) (inb) : View.ld (Val := Elt Ideal) x (Rect.unit (s := S1024x3200) ![0, 0] ![1024, 3200] inb) = x :=
  View.ld_unit_zero (by decide) inb x
/-- A store of a whole block leaves what was stored. -/
theorem canon_o (P : Vec Ideal S1024x3200 .f32) (L : List (View.Piece (Elt Ideal) S1024x3200 .f32)) (inb) :
    View.canon (Val := Elt Ideal) (⟨Rect.unit (s := S1024x3200) ![0, 0] ![1024, 3200] inb, P⟩ :: L) = P :=
  View.canon_cons_unit_zero (by decide) inb P L

/-- The block a point stores: the product of its two input blocks. -/
theorem out_at (x0 : Vec Ideal S1024x1024 .bf16) (x1 : Vec Ideal S1024x3200 .bf16) (p : Fin 1024) (q : Fin 3200) :
    out0_2 (F := Ideal) x0 x1 (ix2 p q) = ∑ s : Fin 1024, x0 (ix2 p s) * x1 (ix2 s q) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S1024x3200 .bf16 := m ((c : Thread nD τ).loc main_arg1)
/-- The rows of the left factor and the columns of the right one. -/
def LL : ℕ → ℕ → EReal := at2 (a := 8192) (b := 1024) (A0 m c)
def RR : ℕ → ℕ → EReal := flip2 (at2 (a := 1024) (b := 3200) (A1 m c))

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 1024) :
    (iblk m c 0 t : Vec Ideal S1024x1024 .bf16) (ix2 p q) = LL m c (1024 * (t.val) + p.val) ((0) * 1024 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 1024 + 1 * q.val = (0) * 1024 + q.val; omega

/-- Input block 1 at a point. -/
theorem blk1 (t : Fin cfg0.N) (p : Fin 1024) (q : Fin 3200) :
    (iblk m c 1 t : Vec Ideal S1024x3200 .bf16) (ix2 p q) = RR m c (3200 * (0) + q.val) ((0) * 1024 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = (0) * 1024 + p.val; omega
  | ⟨1, _⟩ => show win0_1.index t 1 * 3200 + 1 * q.val = 3200 * (0) + q.val; omega

/-- The product of a point's two input blocks is a tile of the whole product. -/
theorem tile (t : Fin cfg0.N) (p : Fin 1024) (q : Fin 3200) (x0 : Vec Ideal S1024x1024 .bf16) (x1 : Vec Ideal S1024x3200 .bf16) (h0 : x0 = iblk m c 0 t) (h1 : x1 = iblk m c 1 t) :
    ∑ s : Fin 1024, x0 (ix2 p s) * x1 (ix2 s q) = tileAt 1024 (LL m c) (RR m c) (1024 * (t.val) + p.val) (3200 * (0) + q.val) (0) := by
  subst h0 h1
  exact Finset.sum_congr rfl fun s _ => congrArg₂ (· * ·) (blk0 m c t p s) (blk1 m c t s q)

/-- The result's block after a point. -/
theorem outs (t : Fin cfg0.N) (p : Fin 1024) (q : Fin 3200) :
    out0_2 (F := Ideal) (iblk m c 0 t) (iblk m c 1 t) (ix2 p q) = dotAt 1024 (LL m c) (RR m c) (1024 * (t.val) + p.val) (3200 * (0) + q.val) := by
  rw [out_at, tile m c t p q _ _ rfl rfl, tileAt_zero]

/-- Result 1, as the array the run leaves. -/
def G2 : FVec Ideal S8192x3200 .f32 := fun i => dotAt 1024 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x3200.Idx, (out0_2 (F := Ideal) (iblk m c 0 t) (iblk m c 1 t)) y = G2 m c (((cfg0.win 2).blk t).view.emb y) := fun y => by
    obtain ⟨p, q, rfl⟩ : ∃ (p : Fin 1024) (q : Fin 3200), y = ix2 p q := ⟨y 0, y 1, eq_ix2 y⟩
    rw [outs m c t]
    unfold G2
    congr 1
    · show 1024 * (t.val) + p.val = win0_2.index t 0 * 1024 + 1 * p.val; omega
    · show 3200 * (0) + q.val = win0_2.index t 1 * 3200 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x3200.Idx) => by
    have h0 : (i 0).val < 8192 := (i 0).isLt
    have h1 : (i 1).val < 3200 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 3200 ≤ (i 1).val ∧ (i 1).val < win0_2.index t 1 * 3200 + 3200; omega

end Cert.InFwdIdeal.Mm

end
-- ==== Proof.InFwdClaim.lean ====
/- The input projection: the kernel and the problem's own line leave equal results. -/
module

public import proofs.«01_k».proof.Defs
public import proofs.«01_k».proof.Proof.InFwdKernel
public import proofs.«01_k».proof.Proof.Gen.InFwdRefIdeal.Run
public import proofs.«01_k».proof.Proof.Gen.InFwdRefIdeal.Read

@[expose] public section

set_option maxRecDepth 16384
noncomputable section

namespace Cert.InFwdClaim

open Idealize.ShloMosaic Idealize.SL.Sem Cert.MmSpec

attribute [local instance] Cert.InFwdIdeal.Gen.facts Cert.InFwdRefIdeal.Gen.facts

variable (B0 : FVec Ideal Cert.InFwdRefIdeal.S8192x1024 .bf16) (B1 : FVec Ideal Cert.InFwdRefIdeal.S1024x3200 .bf16)

/-- An element of the reference's result is the product's. -/
theorem v2_at (r : Fin 8192) (l : Fin 3200) :
    Cert.InFwdRefIdeal.Read.val_main_v2 (F := Ideal) B0 B1 (ix2 r l) = dotAt 1024 (at2 (a := 8192) (b := 1024) B0) (flip2 (at2 (a := 1024) (b := 3200) B1)) r.val l.val := by
  have e : ∀ k : Fin 1024, (at2 (a := 8192) (b := 1024) B0) r.val k.val * (flip2 (at2 (a := 1024) (b := 3200) B1)) l.val k.val = _ := fun k => congrArg₂ (· * ·) (at2_val (a := 8192) (b := 1024) B0 r k) (at2_val (a := 1024) (b := 3200) B1 k l)
  unfold dotAt
  rw [Finset.sum_congr rfl fun k _ => e k]
  pointwise [Cert.InFwdRefIdeal.Read.val_main_v2, Cert.InFwdRefIdeal.Read.val_main_v1, Cert.InFwdRefIdeal.Read.val_main_v0]

theorem v2_ref : Cert.InFwdRefIdeal.Read.val_main_v2 (F := Ideal) B0 B1 = fun i => dotAt 1024 (at2 (a := 8192) (b := 1024) B0) (flip2 (at2 (a := 1024) (b := 3200) B1)) (i 0).val (i 1).val := by
  funext i
  obtain ⟨r, l, rfl⟩ : ∃ (r : Fin 8192) (l : Fin 3200), i = ix2 r l := ⟨i 0, i 1, eq_ix2 i⟩
  exact v2_at B0 B1 r l

/-- The reference runs from every memory, leaves its arguments and every counter at zero. -/
theorem ref_frame : Cert.quiescent_InFwdRefIdeal := fun m ρ _ =>
  (θ_run _ _ _).mono (fun r h => ⟨fun c => (h c).2, Idealize.ShloMosaic.sem_eq_zero_of_no_sems (by decide) r.2⟩)
    (Cert.InFwdRefIdeal.Value.run (F := Ideal) m ρ)

/-- From memories that agree on the arguments both programs leave equal results. -/
theorem algebraic : Cert.algebraic_InFwdIdeal_InFwdRefIdeal := by
  intro m ρ m' ρ' _ hag
  refine ⟨fun c => Cert.InFwdIdeal.Mm.G2 m c, ?_, ?_⟩
  · exact (θ_run _ _ _).mono (fun _ h c => ⟨(h c).1.trans (Cert.InFwdIdeal.Mm.arr_2 m c), (h c).2⟩)
      (Cert.InFwdIdeal.Value.run_blocks (F := Ideal) m ρ)
  · refine (θ_run _ _ _).mono (fun _ h c => ⟨(h c).1.trans ?_, (h c).2⟩) (Cert.InFwdRefIdeal.Value.run (F := Ideal) m' ρ')
    rw [Cert.InFwdRefIdeal.Read.val_main_v2_eq, v2_ref, (hag c).1, (hag c).2]; rfl

end Cert.InFwdClaim

end
-- ==== Proof.OutFwdKernel.lean ====
/- The kernel of the output projection, run from any memory, leaves that product in its result. -/
module

public import proofs.«01_k».proof.Proof.Gen.OutFwdIdeal.Value
public import proofs.«01_k».proof.Proof.MmSpec

@[expose] public section

set_option maxRecDepth 16384
noncomputable section

namespace Cert.OutFwdIdeal.Mm

open Cert.OutFwdIdeal Cert.OutFwdIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S1024x1024 .bf16) (inb) : View.ld (Val := Elt Ideal) x (Rect.unit (s := S1024x1024) ![0, 0] ![1024, 1024] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The block a point stores: the product of its two input blocks. -/
theorem out_at (x0 : Vec Ideal S1024x1024 .bf16) (x1 : Vec Ideal S1024x1024 .bf16) (p : Fin 1024) (q : Fin 1024) :
    out0_2 (F := Ideal) x0 x1 (ix2 p q) = ∑ s : Fin 1024, x0 (ix2 p s) * x1 (ix2 s q) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S1024x1024 .bf16 := m ((c : Thread nD τ).loc main_arg1)
/-- The rows of the left factor and the columns of the right one. -/
def LL : ℕ → ℕ → EReal := at2 (a := 8192) (b := 1024) (A0 m c)
def RR : ℕ → ℕ → EReal := flip2 (at2 (a := 1024) (b := 1024) (A1 m c))

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 1024) :
    (iblk m c 0 t : Vec Ideal S1024x1024 .bf16) (ix2 p q) = LL m c (1024 * (t.val) + p.val) ((0) * 1024 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 1024 + 1 * q.val = (0) * 1024 + q.val; omega

/-- Input block 1 at a point. -/
theorem blk1 (t : Fin cfg0.N) (p : Fin 1024) (q : Fin 1024) :
    (iblk m c 1 t : Vec Ideal S1024x1024 .bf16) (ix2 p q) = RR m c (1024 * (0) + q.val) ((0) * 1024 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = (0) * 1024 + p.val; omega
  | ⟨1, _⟩ => show win0_1.index t 1 * 1024 + 1 * q.val = 1024 * (0) + q.val; omega

/-- The product of a point's two input blocks is a tile of the whole product. -/
theorem tile (t : Fin cfg0.N) (p : Fin 1024) (q : Fin 1024) (x0 : Vec Ideal S1024x1024 .bf16) (x1 : Vec Ideal S1024x1024 .bf16) (h0 : x0 = iblk m c 0 t) (h1 : x1 = iblk m c 1 t) :
    ∑ s : Fin 1024, x0 (ix2 p s) * x1 (ix2 s q) = tileAt 1024 (LL m c) (RR m c) (1024 * (t.val) + p.val) (1024 * (0) + q.val) (0) := by
  subst h0 h1
  exact Finset.sum_congr rfl fun s _ => congrArg₂ (· * ·) (blk0 m c t p s) (blk1 m c t s q)

/-- The result's block after a point. -/
theorem outs (t : Fin cfg0.N) (p : Fin 1024) (q : Fin 1024) :
    out0_2 (F := Ideal) (iblk m c 0 t) (iblk m c 1 t) (ix2 p q) = dotAt 1024 (LL m c) (RR m c) (1024 * (t.val) + p.val) (1024 * (0) + q.val) := by
  rw [out_at, tile m c t p q _ _ rfl rfl, tileAt_zero]

/-- Result 1, as the array the run leaves. -/
def G2 : FVec Ideal S8192x1024 .f32 := fun i => dotAt 1024 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, (out0_2 (F := Ideal) (iblk m c 0 t) (iblk m c 1 t)) y = G2 m c (((cfg0.win 2).blk t).view.emb y) := fun y => by
    obtain ⟨p, q, rfl⟩ : ∃ (p : Fin 1024) (q : Fin 1024), y = ix2 p q := ⟨y 0, y 1, eq_ix2 y⟩
    rw [outs m c t]
    unfold G2
    congr 1
    · show 1024 * (t.val) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x1024.Idx) => by
    have h0 : (i 0).val < 8192 := (i 0).isLt
    have h1 : (i 1).val < 1024 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.OutFwdIdeal.Mm

end
-- ==== Proof.OutFwdClaim.lean ====
/- The output projection: the kernel and the problem's own line leave equal results. -/
module

public import proofs.«01_k».proof.Defs
public import proofs.«01_k».proof.Proof.OutFwdKernel
public import proofs.«01_k».proof.Proof.Gen.OutFwdRefIdeal.Run
public import proofs.«01_k».proof.Proof.Gen.OutFwdRefIdeal.Read

@[expose] public section

set_option maxRecDepth 16384
noncomputable section

namespace Cert.OutFwdClaim

open Idealize.ShloMosaic Idealize.SL.Sem Cert.MmSpec

attribute [local instance] Cert.OutFwdIdeal.Gen.facts Cert.OutFwdRefIdeal.Gen.facts

variable (B0 : FVec Ideal Cert.OutFwdRefIdeal.S8192x1024 .bf16) (B1 : FVec Ideal Cert.OutFwdRefIdeal.S1024x1024 .bf16)

/-- An element of the reference's result is the product's. -/
theorem v2_at (r : Fin 8192) (l : Fin 1024) :
    Cert.OutFwdRefIdeal.Read.val_main_v2 (F := Ideal) B0 B1 (ix2 r l) = dotAt 1024 (at2 (a := 8192) (b := 1024) B0) (flip2 (at2 (a := 1024) (b := 1024) B1)) r.val l.val := by
  have e : ∀ k : Fin 1024, (at2 (a := 8192) (b := 1024) B0) r.val k.val * (flip2 (at2 (a := 1024) (b := 1024) B1)) l.val k.val = _ := fun k => congrArg₂ (· * ·) (at2_val (a := 8192) (b := 1024) B0 r k) (at2_val (a := 1024) (b := 1024) B1 k l)
  unfold dotAt
  rw [Finset.sum_congr rfl fun k _ => e k]
  pointwise [Cert.OutFwdRefIdeal.Read.val_main_v2, Cert.OutFwdRefIdeal.Read.val_main_v1, Cert.OutFwdRefIdeal.Read.val_main_v0]

theorem v2_ref : Cert.OutFwdRefIdeal.Read.val_main_v2 (F := Ideal) B0 B1 = fun i => dotAt 1024 (at2 (a := 8192) (b := 1024) B0) (flip2 (at2 (a := 1024) (b := 1024) B1)) (i 0).val (i 1).val := by
  funext i
  obtain ⟨r, l, rfl⟩ : ∃ (r : Fin 8192) (l : Fin 1024), i = ix2 r l := ⟨i 0, i 1, eq_ix2 i⟩
  exact v2_at B0 B1 r l

/-- The reference runs from every memory, leaves its arguments and every counter at zero. -/
theorem ref_frame : Cert.quiescent_OutFwdRefIdeal := fun m ρ _ =>
  (θ_run _ _ _).mono (fun r h => ⟨fun c => (h c).2, Idealize.ShloMosaic.sem_eq_zero_of_no_sems (by decide) r.2⟩)
    (Cert.OutFwdRefIdeal.Value.run (F := Ideal) m ρ)

/-- From memories that agree on the arguments both programs leave equal results. -/
theorem algebraic : Cert.algebraic_OutFwdIdeal_OutFwdRefIdeal := by
  intro m ρ m' ρ' _ hag
  refine ⟨fun c => Cert.OutFwdIdeal.Mm.G2 m c, ?_, ?_⟩
  · exact (θ_run _ _ _).mono (fun _ h c => ⟨(h c).1.trans (Cert.OutFwdIdeal.Mm.arr_2 m c), (h c).2⟩)
      (Cert.OutFwdIdeal.Value.run_blocks (F := Ideal) m ρ)
  · refine (θ_run _ _ _).mono (fun _ h c => ⟨(h c).1.trans ?_, (h c).2⟩) (Cert.OutFwdRefIdeal.Value.run (F := Ideal) m' ρ')
    rw [Cert.OutFwdRefIdeal.Read.val_main_v2_eq, v2_ref, (hag c).1, (hag c).2]; rfl

end Cert.OutFwdClaim

end
-- ==== Proof.UpFwdKernel.lean ====
/- The kernel of the up projection, run from any memory, leaves that product in its result. -/
module

public import proofs.«01_k».proof.Proof.Gen.UpFwdIdeal.Value
public import proofs.«01_k».proof.Proof.MmSpec

@[expose] public section

set_option maxRecDepth 16384
noncomputable section

namespace Cert.UpFwdIdeal.Mm

open Cert.UpFwdIdeal Cert.UpFwdIdeal.Gen Cert.MmSpec Idealize.ShloMosaic Idealize.ShloMosaic.TcCoe Idealize.SL.Sem
open Idealize.ShloMosaic.Pipeline (Dat)

/-- A load of a whole block is the block. -/
theorem ld_0 (x : Vec Ideal S1024x1024 .bf16) (inb) : View.ld (Val := Elt Ideal) x (Rect.unit (s := S1024x1024) ![0, 0] ![1024, 1024] inb) = x :=
  View.ld_unit_zero (by decide) inb x
theorem ld_1 (x : Vec Ideal S1024x2816 .bf16) (inb) : View.ld (Val := Elt Ideal) x (Rect.unit (s := S1024x2816) ![0, 0] ![1024, 2816] inb) = x :=
  View.ld_unit_zero (by decide) inb x
theorem ld_o (x : Vec Ideal S1024x2816 .bf16) (inb) : View.ld (Val := Elt Ideal) x (Rect.unit (s := S1024x2816) ![0, 0] ![1024, 2816] inb) = x :=
  View.ld_unit_zero (by decide) inb x
/-- A store of a whole block leaves what was stored. -/
theorem canon_o (P : Vec Ideal S1024x2816 .bf16) (L : List (View.Piece (Elt Ideal) S1024x2816 .bf16)) (inb) :
    View.canon (Val := Elt Ideal) (⟨Rect.unit (s := S1024x2816) ![0, 0] ![1024, 2816] inb, P⟩ :: L) = P :=
  View.canon_cons_unit_zero (by decide) inb P L

/-- The block a point stores: the product of its two input blocks. -/
theorem out_at (x0 : Vec Ideal S1024x1024 .bf16) (x1 : Vec Ideal S1024x2816 .bf16) (p : Fin 1024) (q : Fin 2816) :
    out0_2 (F := Ideal) x0 x1 (ix2 p q) = ∑ s : Fin 1024, x0 (ix2 p s) * x1 (ix2 s q) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x1024 .bf16 := m ((c : Thread nD τ).loc main_arg0)
abbrev A1 : FVec Ideal S1024x5632 .bf16 := m ((c : Thread nD τ).loc main_arg1)
/-- The rows of the left factor and the columns of the right one. -/
def LL : ℕ → ℕ → EReal := at2 (a := 8192) (b := 1024) (A0 m c)
def RR : ℕ → ℕ → EReal := flip2 (at2 (a := 1024) (b := 5632) (A1 m c))

/-- The blocks each grid point names. -/
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 0 ∧ win0_1.index t 1 = t.val % 2 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem ltN (t : Fin cfg0.N) : t.val < 16 := t.isLt

/-- Input block 0 at a point. -/
theorem blk0 (t : Fin cfg0.N) (p : Fin 1024) (q : Fin 1024) :
    (iblk m c 0 t : Vec Ideal S1024x1024 .bf16) (ix2 p q) = LL m c (1024 * (t.val / 2) + p.val) ((0) * 1024 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val / 2) + p.val; omega
  | ⟨1, _⟩ => show win0_0.index t 1 * 1024 + 1 * q.val = (0) * 1024 + q.val; omega

/-- Input block 1 at a point. -/
theorem blk1 (t : Fin cfg0.N) (p : Fin 1024) (q : Fin 2816) :
    (iblk m c 1 t : Vec Ideal S1024x2816 .bf16) (ix2 p q) = RR m c (2816 * (t.val % 2) + q.val) ((0) * 1024 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = (0) * 1024 + p.val; omega
  | ⟨1, _⟩ => show win0_1.index t 1 * 2816 + 1 * q.val = 2816 * (t.val % 2) + q.val; omega

/-- The product of a point's two input blocks is a tile of the whole product. -/
theorem tile (t : Fin cfg0.N) (p : Fin 1024) (q : Fin 2816) (x0 : Vec Ideal S1024x1024 .bf16) (x1 : Vec Ideal S1024x2816 .bf16) (h0 : x0 = iblk m c 0 t) (h1 : x1 = iblk m c 1 t) :
    ∑ s : Fin 1024, x0 (ix2 p s) * x1 (ix2 s q) = tileAt 1024 (LL m c) (RR m c) (1024 * (t.val / 2) + p.val) (2816 * (t.val % 2) + q.val) (0) := by
  subst h0 h1
  exact Finset.sum_congr rfl fun s _ => congrArg₂ (· * ·) (blk0 m c t p s) (blk1 m c t s q)

/-- The result's block after a point. -/
theorem outs (t : Fin cfg0.N) (p : Fin 1024) (q : Fin 2816) :
    out0_2 (F := Ideal) (iblk m c 0 t) (iblk m c 1 t) (ix2 p q) = dotAt 1024 (LL m c) (RR m c) (1024 * (t.val / 2) + p.val) (2816 * (t.val % 2) + q.val) := by
  rw [out_at, tile m c t p q _ _ rfl rfl, tileAt_zero]

/-- Result 1, as the array the run leaves. -/
def G2 : FVec Ideal S8192x5632 .bf16 := fun i => dotAt 1024 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x2816.Idx, (out0_2 (F := Ideal) (iblk m c 0 t) (iblk m c 1 t)) y = G2 m c (((cfg0.win 2).blk t).view.emb y) := fun y => by
    obtain ⟨p, q, rfl⟩ : ∃ (p : Fin 1024) (q : Fin 2816), y = ix2 p q := ⟨y 0, y 1, eq_ix2 y⟩
    rw [outs m c t]
    unfold G2
    congr 1
    · show 1024 * (t.val / 2) + p.val = win0_2.index t 0 * 1024 + 1 * p.val; omega
    · show 2816 * (t.val % 2) + q.val = win0_2.index t 1 * 2816 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x5632.Idx) => by
    have h0 : (i 0).val < 8192 := (i 0).isLt
    have h1 : (i 1).val < 5632 := (i 1).isLt
    obtain ⟨t, ht⟩ : ∃ t : Fin cfg0.N, t.val = 2 * ((i 0).val / 1024) + 1 * ((i 1).val / 2816) + 0 := ⟨⟨_, by show _ < 16; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 2816 ≤ (i 1).val ∧ (i 1).val < win0_2.index t 1 * 2816 + 2816; omega

end Cert.UpFwdIdeal.Mm

end
-- ==== Proof.UpFwdClaim.lean ====
/- The up projection: the kernel and the problem's own line leave equal results. -/
module

public import proofs.«01_k».proof.Defs
public import proofs.«01_k».proof.Proof.UpFwdKernel
public import proofs.«01_k».proof.Proof.Gen.UpFwdRefIdeal.Run
public import proofs.«01_k».proof.Proof.Gen.UpFwdRefIdeal.Read

@[expose] public section

set_option maxRecDepth 16384
noncomputable section

namespace Cert.UpFwdClaim

open Idealize.ShloMosaic Idealize.SL.Sem Cert.MmSpec

attribute [local instance] Cert.UpFwdIdeal.Gen.facts Cert.UpFwdRefIdeal.Gen.facts

variable (B0 : FVec Ideal Cert.UpFwdRefIdeal.S8192x1024 .bf16) (B1 : FVec Ideal Cert.UpFwdRefIdeal.S1024x5632 .bf16)

/-- An element of the reference's result is the product's. -/
theorem v3_at (r : Fin 8192) (l : Fin 5632) :
    Cert.UpFwdRefIdeal.Read.val_main_v3 (F := Ideal) B0 B1 (ix2 r l) = dotAt 1024 (at2 (a := 8192) (b := 1024) B0) (flip2 (at2 (a := 1024) (b := 5632) B1)) r.val l.val := by
  have e : ∀ k : Fin 1024, (at2 (a := 8192) (b := 1024) B0) r.val k.val * (flip2 (at2 (a := 1024) (b := 5632) B1)) l.val k.val = _ := fun k => congrArg₂ (· * ·) (at2_val (a := 8192) (b := 1024) B0 r k) (at2_val (a := 1024) (b := 5632) B1 k l)
  unfold dotAt
  rw [Finset.sum_congr rfl fun k _ => e k]
  pointwise [Cert.UpFwdRefIdeal.Read.val_main_v3, Cert.UpFwdRefIdeal.Read.val_main_v2, Cert.UpFwdRefIdeal.Read.val_main_v1, Cert.UpFwdRefIdeal.Read.val_main_v0]

theorem v3_ref : Cert.UpFwdRefIdeal.Read.val_main_v3 (F := Ideal) B0 B1 = fun i => dotAt 1024 (at2 (a := 8192) (b := 1024) B0) (flip2 (at2 (a := 1024) (b := 5632) B1)) (i 0).val (i 1).val := by
  funext i
  obtain ⟨r, l, rfl⟩ : ∃ (r : Fin 8192) (l : Fin 5632), i = ix2 r l := ⟨i 0, i 1, eq_ix2 i⟩
  exact v3_at B0 B1 r l

/-- The reference runs from every memory, leaves its arguments and every counter at zero. -/
theorem ref_frame : Cert.quiescent_UpFwdRefIdeal := fun m ρ _ =>
  (θ_run _ _ _).mono (fun r h => ⟨fun c => (h c).2, Idealize.ShloMosaic.sem_eq_zero_of_no_sems (by decide) r.2⟩)
    (Cert.UpFwdRefIdeal.Value.run (F := Ideal) m ρ)

/-- From memories that agree on the arguments both programs leave equal results. -/
theorem algebraic : Cert.algebraic_UpFwdIdeal_UpFwdRefIdeal := by
  intro m ρ m' ρ' _ hag
  refine ⟨fun c => Cert.UpFwdIdeal.Mm.G2 m c, ?_, ?_⟩
  · exact (θ_run _ _ _).mono (fun _ h c => ⟨(h c).1.trans (Cert.UpFwdIdeal.Mm.arr_2 m c), (h c).2⟩)
      (Cert.UpFwdIdeal.Value.run_blocks (F := Ideal) m ρ)
  · refine (θ_run _ _ _).mono (fun _ h c => ⟨(h c).1.trans ?_, (h c).2⟩) (Cert.UpFwdRefIdeal.Value.run (F := Ideal) m' ρ')
    rw [Cert.UpFwdRefIdeal.Read.val_main_v3_eq, v3_ref, (hag c).1, (hag c).2]; rfl

end Cert.UpFwdClaim

end
-- ==== Proof.DownFwdKernel.lean ====
/- The kernel of the down projection, run from any memory, leaves that product in its result. -/
module

public import proofs.«01_k».proof.Proof.Gen.DownFwdIdeal.Value
public import proofs.«01_k».proof.Proof.MmSpec

@[expose] public section

set_option maxRecDepth 16384
noncomputable section

namespace Cert.DownFwdIdeal.Mm

open Cert.DownFwdIdeal Cert.DownFwdIdeal.Gen Cert.MmSpec Idealize.ShloMosaic Idealize.ShloMosaic.TcCoe Idealize.SL.Sem
open Idealize.ShloMosaic.Pipeline (Dat)

/-- A load of a whole block is the block. -/
theorem ld_0 (x : Vec Ideal S1024x2816 .bf16) (inb) : View.ld (Val := Elt Ideal) x (Rect.unit (s := S1024x2816) ![0, 0] ![1024, 2816] inb) = x :=
  View.ld_unit_zero (by decide) inb x
theorem ld_1 (x : Vec Ideal S2816x1024 .bf16) (inb) : View.ld (Val := Elt Ideal) x (Rect.unit (s := S2816x1024) ![0, 0] ![2816, 1024] inb) = x :=
  View.ld_unit_zero (by decide) inb x
theorem ld_o (x : Vec Ideal S1024x1024 .f32) (inb) : View.ld (Val := Elt Ideal) x (Rect.unit (s := S1024x1024) ![0, 0] ![1024, 1024] inb) = x :=
  View.ld_unit_zero (by decide) inb x
/-- A store of a whole block leaves what was stored. -/
theorem canon_o (P : Vec Ideal S1024x1024 .f32) (L : List (View.Piece (Elt Ideal) S1024x1024 .f32)) (inb) :
    View.canon (Val := Elt Ideal) (⟨Rect.unit (s := S1024x1024) ![0, 0] ![1024, 1024] inb, P⟩ :: L) = P :=
  View.canon_cons_unit_zero (by decide) inb P L

/-- The block a point stores: the product of its two input blocks. -/
theorem out_at (x0 : Vec Ideal S1024x2816 .bf16) (x1 : Vec Ideal S2816x1024 .bf16) (p : Fin 1024) (q : Fin 1024) :
    out0_2 (F := Ideal) x0 x1 (ix2 p q) = ∑ s : Fin 2816, x0 (ix2 p s) * x1 (ix2 s q) := by
  unfold out0_2
  rw [canon_o, ld_0, ld_1]
  pointwise [k0_pay1]

variable (m : (ℓ : Loc nD τ sig) → Buf (Elt Ideal) ℓ) (c : Dev nD)

/-- The two arguments. -/
abbrev A0 : FVec Ideal S8192x2816 .bf16 := m ((c : Thread nD τ).loc main_arg0)
abbrev A1 : FVec Ideal S2816x1024 .bf16 := m ((c : Thread nD τ).loc main_arg1)
/-- The rows of the left factor and the columns of the right one. -/
def LL : ℕ → ℕ → EReal := at2 (a := 8192) (b := 2816) (A0 m c)
def RR : ℕ → ℕ → EReal := flip2 (at2 (a := 2816) (b := 1024) (A1 m c))

/-- The blocks each grid point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem ltN (t : Fin cfg0.N) : t.val < 8 := t.isLt

/-- Input block 0 at a point. -/
theorem blk0 (t : Fin cfg0.N) (p : Fin 1024) (q : Fin 2816) :
    (iblk m c 0 t : Vec Ideal S1024x2816 .bf16) (ix2 p q) = LL m c (1024 * (t.val) + p.val) ((0) * 2816 + q.val) := by
  obtain ⟨e0, e1⟩ := idx0 t
  have ht := ltN t
  have hp := p.isLt
  have hq := q.isLt
  unfold LL at2
  rw [dif_pos ⟨by omega, by omega⟩]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * (t.val) + p.val; omega
  | ⟨1, _⟩ => show win0_0.index t 1 * 2816 + 1 * q.val = (0) * 2816 + q.val; omega

/-- Input block 1 at a point. -/
theorem blk1 (t : Fin cfg0.N) (p : Fin 2816) (q : Fin 1024) :
    (iblk m c 1 t : Vec Ideal S2816x1024 .bf16) (ix2 p q) = RR m c (1024 * (0) + q.val) ((0) * 2816 + p.val) := by
  obtain ⟨e0, e1⟩ := idx1 t
  have ht := ltN t
  have hp := p.isLt
  have hq := q.isLt
  unfold RR flip2 at2
  rw [dif_pos ⟨by omega, by omega⟩]
  unfold iblk; rw [View.read_apply]
  show V m c main_arg1 _ = m ((c : Thread nD τ).loc main_arg1) _
  unfold V; congr 1; funext a; apply Fin.ext
  match a with
  | ⟨0, _⟩ => show win0_1.index t 0 * 2816 + 1 * p.val = (0) * 2816 + p.val; omega
  | ⟨1, _⟩ => show win0_1.index t 1 * 1024 + 1 * q.val = 1024 * (0) + q.val; omega

/-- The product of a point's two input blocks is a tile of the whole product. -/
theorem tile (t : Fin cfg0.N) (p : Fin 1024) (q : Fin 1024) (x0 : Vec Ideal S1024x2816 .bf16) (x1 : Vec Ideal S2816x1024 .bf16) (h0 : x0 = iblk m c 0 t) (h1 : x1 = iblk m c 1 t) :
    ∑ s : Fin 2816, x0 (ix2 p s) * x1 (ix2 s q) = tileAt 2816 (LL m c) (RR m c) (1024 * (t.val) + p.val) (1024 * (0) + q.val) (0) := by
  subst h0 h1
  exact Finset.sum_congr rfl fun s _ => congrArg₂ (· * ·) (blk0 m c t p s) (blk1 m c t s q)

/-- The result's block after a point. -/
theorem outs (t : Fin cfg0.N) (p : Fin 1024) (q : Fin 1024) :
    out0_2 (F := Ideal) (iblk m c 0 t) (iblk m c 1 t) (ix2 p q) = dotAt 2816 (LL m c) (RR m c) (1024 * (t.val) + p.val) (1024 * (0) + q.val) := by
  rw [out_at, tile m c t p q _ _ rfl rfl, tileAt_zero]

/-- Result 1, as the array the run leaves. -/
def G2 : FVec Ideal S8192x1024 .f32 := fun i => dotAt 2816 (LL m c) (RR m c) (i 0).val (i 1).val

theorem flush2 : ∀ t : Fin cfg0.N, (cfg0.win 2).flush t = true :=
  (by decide +kernel : ∀ t : Fin grid0.N, _)

theorem flushed_2 (t : Fin cfg0.N) (hf : (cfg0.win 2).flush t = true) :
    (dats m 0 c).flushed 2 t = ((cfg0.win 2).blk t).view.read (Elt Ideal) (G2 m c) := by
  rw [Value.flushed2]
  obtain ⟨e0, e1⟩ := idx2 t
  have ht := ltN t
  have key : ∀ y : S1024x1024.Idx, (out0_2 (F := Ideal) (iblk m c 0 t) (iblk m c 1 t)) y = G2 m c (((cfg0.win 2).blk t).view.emb y) := fun y => by
    obtain ⟨p, q, rfl⟩ : ∃ (p : Fin 1024) (q : Fin 1024), y = ix2 p q := ⟨y 0, y 1, eq_ix2 y⟩
    rw [outs m c t]
    unfold G2
    congr 1
    · show 1024 * (t.val) + p.val = win0_2.index t 0 * 1024 + 1 * p.val; omega
    · show 1024 * (0) + q.val = win0_2.index t 1 * 1024 + 1 * q.val; omega
  funext y
  rw [View.read_apply]
  exact key y

/-- The product is left in result 1. -/
theorem arr_2 : (dats m 0 c).arrAt 2 cfg0.N = G2 m c :=
  (dats m 0 c).arrAt_eq_of_cover 2 (G2 m c) (fun t hf => flushed_2 m c t hf) fun (i : S8192x1024.Idx) => by
    have h0 : (i 0).val < 8192 := (i 0).isLt
    have h1 : (i 1).val < 1024 := (i 1).isLt
    obtain ⟨t, ht⟩ : ∃ t : Fin cfg0.N, t.val = 1 * ((i 0).val / 1024) + 0 := ⟨⟨_, by show _ < 8; omega⟩, rfl⟩
    refine ⟨t, ?_, ?_⟩
    · exact flush2 t
    · show i ∈ ((View.whole main_v0).slice (win0_2.rect t)).set
      rw [View.set_slice_whole, Rect.mem_set_unit]
      obtain ⟨e0, e1⟩ := idx2 t
      intro a
      match a with
      | ⟨0, _⟩ => show win0_2.index t 0 * 1024 ≤ (i 0).val ∧ (i 0).val < win0_2.index t 0 * 1024 + 1024; omega
      | ⟨1, _⟩ => show win0_2.index t 1 * 1024 ≤ (i 1).val ∧ (i 1).val < win0_2.index t 1 * 1024 + 1024; omega

end Cert.DownFwdIdeal.Mm

end
-- ==== Proof.DownFwdClaim.lean ====
/- The down projection: the kernel and the problem's own line leave equal results. -/
module

public import proofs.«01_k».proof.Defs
public import proofs.«01_k».proof.Proof.DownFwdKernel
public import proofs.«01_k».proof.Proof.Gen.DownFwdRefIdeal.Run
public import proofs.«01_k».proof.Proof.Gen.DownFwdRefIdeal.Read

@[expose] public section

set_option maxRecDepth 16384
noncomputable section

namespace Cert.DownFwdClaim

open Idealize.ShloMosaic Idealize.SL.Sem Cert.MmSpec

attribute [local instance] Cert.DownFwdIdeal.Gen.facts Cert.DownFwdRefIdeal.Gen.facts

variable (B0 : FVec Ideal Cert.DownFwdRefIdeal.S8192x2816 .bf16) (B1 : FVec Ideal Cert.DownFwdRefIdeal.S2816x1024 .bf16)

/-- An element of the reference's result is the product's. -/
theorem v2_at (r : Fin 8192) (l : Fin 1024) :
    Cert.DownFwdRefIdeal.Read.val_main_v2 (F := Ideal) B0 B1 (ix2 r l) = dotAt 2816 (at2 (a := 8192) (b := 2816) B0) (flip2 (at2 (a := 2816) (b := 1024) B1)) r.val l.val := by
  have e : ∀ k : Fin 2816, (at2 (a := 8192) (b := 2816) B0) r.val k.val * (flip2 (at2 (a := 2816) (b := 1024) B1)) l.val k.val = _ := fun k => congrArg₂ (· * ·) (at2_val (a := 8192) (b := 2816) B0 r k) (at2_val (a := 2816) (b := 1024) B1 k l)
  unfold dotAt
  rw [Finset.sum_congr rfl fun k _ => e k]
  pointwise [Cert.DownFwdRefIdeal.Read.val_main_v2, Cert.DownFwdRefIdeal.Read.val_main_v1, Cert.DownFwdRefIdeal.Read.val_main_v0]

theorem v2_ref : Cert.DownFwdRefIdeal.Read.val_main_v2 (F := Ideal) B0 B1 = fun i => dotAt 2816 (at2 (a := 8192) (b := 2816) B0) (flip2 (at2 (a := 2816) (b := 1024) B1)) (i 0).val (i 1).val := by
  funext i
  obtain ⟨r, l, rfl⟩ : ∃ (r : Fin 8192) (l : Fin 1024), i = ix2 r l := ⟨i 0, i 1, eq_ix2 i⟩
  exact v2_at B0 B1 r l

/-- The reference runs from every memory, leaves its arguments and every counter at zero. -/
theorem ref_frame : Cert.quiescent_DownFwdRefIdeal := fun m ρ _ =>
  (θ_run _ _ _).mono (fun r h => ⟨fun c => (h c).2, Idealize.ShloMosaic.sem_eq_zero_of_no_sems (by decide) r.2⟩)
    (Cert.DownFwdRefIdeal.Value.run (F := Ideal) m ρ)

/-- From memories that agree on the arguments both programs leave equal results. -/
theorem algebraic : Cert.algebraic_DownFwdIdeal_DownFwdRefIdeal := by
  intro m ρ m' ρ' _ hag
  refine ⟨fun c => Cert.DownFwdIdeal.Mm.G2 m c, ?_, ?_⟩
  · exact (θ_run _ _ _).mono (fun _ h c => ⟨(h c).1.trans (Cert.DownFwdIdeal.Mm.arr_2 m c), (h c).2⟩)
      (Cert.DownFwdIdeal.Value.run_blocks (F := Ideal) m ρ)
  · refine (θ_run _ _ _).mono (fun _ h c => ⟨(h c).1.trans ?_, (h c).2⟩) (Cert.DownFwdRefIdeal.Value.run (F := Ideal) m' ρ')
    rw [Cert.DownFwdRefIdeal.Read.val_main_v2_eq, v2_ref, (hag c).1, (hag c).2]; rfl

end Cert.DownFwdClaim

end
-- ==== Proof.AttnSpec.lean ====
module

public import Idealize.ShloMosaic.PureOps.Ideal.Laws

@[expose] public section

noncomputable section

/-! Attention over a window of one block and its predecessor, merged with two other branches by a softmax of their
log-denominators, and the gradient of the merged output, over the reals: rows are `128 n + r`, a row's window has 256
columns, and head `h` holds the lanes `64 h + e`. -/

namespace Cert.AttnSpec

/-- The arrays as functions of a row and a lane (of a row and a head for the two log-denominators). -/
structure Ins where
  q : ℕ → ℕ → ℝ
  k : ℕ → ℕ → ℝ
  v : ℕ → ℕ → ℝ
  oa : ℕ → ℕ → ℝ
  ob : ℕ → ℕ → ℝ
  d : ℕ → ℕ → ℝ
  la : ℕ → ℕ → ℝ
  lb : ℕ → ℕ → ℝ

/-- Row `r` of block `n` sees column `c` of its window: at most 128 rows back, and not before the first row. -/
def ok (n r c : ℕ) : Prop := r ≤ c ∧ c ≤ r + 128 ∧ (0 < n ∨ 128 ≤ c)

instance (n r c : ℕ) : Decidable (ok n r c) := by unfold ok; infer_instance

/-- The row of the keys that column `c` of block `n`'s window names. -/
def kr (n c : ℕ) : ℕ := if c < 128 then 128 * (n - 1) + c else 128 * n + (c - 128)

/-- Head `h`'s slope. -/
def slp (h : ℕ) : ℝ := (1 / 2) ^ (h + 1)

/-- The score. -/
def sc (A : Ins) (h n r c : ℕ) : ℝ :=
  (∑ e : Fin 64, A.q (128 * n + r) (64 * h + e) * A.k (kr n c) (64 * h + e)) - slp h * ((r : ℝ) + 128 - c)

/-- The weight before its division. -/
def ex (A : Ins) (h n r c : ℕ) : ℝ := if ok n r c then Real.exp (sc A h n r c) else 0

/-- The branch's denominator. -/
def W (A : Ins) (h n r : ℕ) : ℝ := ∑ c : Fin 256, ex A h n r c

/-- The merged denominator. -/
def Zt (A : Ins) (h n r : ℕ) : ℝ := W A h n r + Real.exp (A.la (128 * n + r) h) + Real.exp (A.lb (128 * n + r) h)

/-- The branch's numerator. -/
def num (A : Ins) (h n r e : ℕ) : ℝ := ∑ c : Fin 256, ex A h n r c * A.v (kr n c) (64 * h + e)

/-- The merged output. -/
def y (A : Ins) (h n r e : ℕ) : ℝ :=
  (num A h n r e + Real.exp (A.la (128 * n + r) h) * A.oa (128 * n + r) (64 * h + e)
    + Real.exp (A.lb (128 * n + r) h) * A.ob (128 * n + r) (64 * h + e)) / Zt A h n r

/-- The merged weight. -/
def P (A : Ins) (h n r c : ℕ) : ℝ := ex A h n r c / Zt A h n r

/-- The cotangent's product with the merged output. -/
def dl (A : Ins) (h n r : ℕ) : ℝ := ∑ e : Fin 64, A.d (128 * n + r) (64 * h + e) * y A h n r e

/-- The cotangent's product with a row of values. -/
def dP (A : Ins) (h n r c : ℕ) : ℝ := ∑ e : Fin 64, A.d (128 * n + r) (64 * h + e) * A.v (kr n c) (64 * h + e)

/-- The gradient of the score. -/
def dS (A : Ins) (h n r c : ℕ) : ℝ := P A h n r c * (dP A h n r c - dl A h n r)

/-- The gradient of a query. -/
def dq (A : Ins) (h n r e : ℕ) : ℝ := ∑ c : Fin 256, dS A h n r c * A.k (kr n c) (64 * h + e)

/-- What block `n` adds to the gradient of its window's key. -/
def dkc (A : Ins) (h n c e : ℕ) : ℝ := ∑ r : Fin 128, dS A h n r c * A.q (128 * n + r) (64 * h + e)

/-- What block `n` adds to the gradient of its window's value. -/
def dvc (A : Ins) (h n c e : ℕ) : ℝ := ∑ r : Fin 128, P A h n r c * A.d (128 * n + r) (64 * h + e)

/-- The gradient of a key: of its own block and of the next. -/
def dk (A : Ins) (h n r e : ℕ) : ℝ := dkc A h n (128 + r) e + if n < 63 then dkc A h (n + 1) r e else 0

/-- The gradient of a value: of its own block and of the next. -/
def dv (A : Ins) (h n r e : ℕ) : ℝ := dvc A h n (128 + r) e + if n < 63 then dvc A h (n + 1) r e else 0

theorem ex_nonneg (A : Ins) (h n r c : ℕ) : 0 ≤ ex A h n r c := by
  unfold ex; split_ifs
  · exact (Real.exp_pos _).le
  · exact le_rfl

/-- A row always sees itself, so its denominator is positive. -/
theorem W_pos (A : Ins) (h n r : ℕ) (hr : r < 128) : 0 < W A h n r := by
  unfold W
  refine Finset.sum_pos' (fun c _ => ex_nonneg A h n r c) ⟨⟨r + 128, by omega⟩, Finset.mem_univ _, ?_⟩
  have h1 : ok n r (r + 128) := ⟨by omega, by omega, Or.inr (by omega)⟩
  show 0 < ex A h n r (r + 128)
  unfold ex
  rw [if_pos h1]
  exact Real.exp_pos _

theorem Zt_pos (A : Ins) (h n r : ℕ) (hr : r < 128) : 0 < Zt A h n r := by
  have h1 := W_pos A h n r hr
  have h2 := Real.exp_pos (A.la (128 * n + r) h)
  have h3 := Real.exp_pos (A.lb (128 * n + r) h)
  unfold Zt; linarith

/-! One row of the derivative, with the two subtracted maxima as factors `u` and `w`. -/

section Row

variable (d N : Fin 64 → ℝ) (oa ob : Fin 64 → ℝ) (Wd xa xb u w : ℝ)

/-- The derivative at the branch's log-denominator. -/
theorem row_dl0 (hW : 0 < Wd) (ha : 0 < xa) (hb : 0 < xb) (hu : 0 < u) (hw : 0 < w) (E0 Ea Eb Z a b c : ℝ)
    (hE0 : E0 = Wd * w) (hEa : Ea = xa * w) (hEb : Eb = xb * w) (hZ : Z = E0 + Ea + Eb) :
    (a / Z + -(a * (1 / (Z * Z)) * E0 + b * (1 / (Z * Z)) * Ea + c * (1 / (Z * Z)) * Eb)) * E0
      = Wd / (Wd + xa + xb) * (a - (Wd * a + xa * b + xb * c) / (Wd + xa + xb)) := by
  have h0 : Wd + xa + xb ≠ 0 := by positivity
  have h1 : Z = (Wd + xa + xb) * w := by rw [hZ, hE0, hEa, hEb]; ring
  rw [h1, hE0, hEa, hEb]
  field_simp
  ring

/-- The derivative at a weight, times the weight. -/
theorem row_ds (hW : 0 < Wd) (ha : 0 < xa) (hb : 0 < xb) (hu : 0 < u) (hw : 0 < w) (D T a S x : ℝ) :
    (Wd / (Wd + xa + xb) / (Wd * u) * S
        + (Wd / (Wd + xa + xb) * (a - D) / (Wd * u) + -(Wd / (Wd + xa + xb) * a / (Wd * u)))) * (x * u)
      = x / (Wd + xa + xb) * (S - D) := by
  have h0 : Wd + xa + xb ≠ 0 := by positivity
  field_simp
  ring

end Row

/-- The weights' gradients of a row add up to the derivative at its log-denominator. -/
theorem sum_dS (A : Ins) (h n r : ℕ) (hr : r < 128) :
    ∑ c : Fin 256, dS A h n r c
      = W A h n r / Zt A h n r
        * ((∑ e : Fin 64, A.d (128 * n + r) (64 * h + e) * (num A h n r e / W A h n r)) - dl A h n r) := by
  have hW := (W_pos A h n r hr).ne'
  have hZ := (Zt_pos A h n r hr).ne'
  have h1 : ∑ c : Fin 256, ex A h n r c * dP A h n r c
      = ∑ e : Fin 64, A.d (128 * n + r) (64 * h + e) * num A h n r e := by
    unfold dP num
    simp only [Finset.mul_sum]
    rw [Finset.sum_comm]
    exact Finset.sum_congr rfl fun e _ => Finset.sum_congr rfl fun c _ => by ring
  have h2 : ∑ c : Fin 256, dS A h n r c
      = (∑ c : Fin 256, ex A h n r c * dP A h n r c) / Zt A h n r - W A h n r * dl A h n r / Zt A h n r := by
    unfold dS P W
    rw [Finset.sum_mul, Finset.sum_div, Finset.sum_div, ← Finset.sum_sub_distrib]
    exact Finset.sum_congr rfl fun c _ => by field_simp
  have h3 : ∑ e : Fin 64, A.d (128 * n + r) (64 * h + e) * (num A h n r e / W A h n r)
      = (∑ e : Fin 64, A.d (128 * n + r) (64 * h + e) * num A h n r e) / W A h n r := by
    rw [Finset.sum_div]
    exact Finset.sum_congr rfl fun e _ => by ring
  rw [h2, h1, h3]
  field_simp

/-- The cotangent's product with the merged output, from the three branches' products. -/
theorem dl_eq (A : Ins) (h n r : ℕ) (hr : r < 128) :
    dl A h n r
      = (W A h n r * (∑ e : Fin 64, A.d (128 * n + r) (64 * h + e) * (num A h n r e / W A h n r))
        + Real.exp (A.la (128 * n + r) h) * (∑ e : Fin 64, A.d (128 * n + r) (64 * h + e) * A.oa (128 * n + r) (64 * h + e))
        + Real.exp (A.lb (128 * n + r) h) * (∑ e : Fin 64, A.d (128 * n + r) (64 * h + e) * A.ob (128 * n + r) (64 * h + e)))
          / Zt A h n r := by
  have hW := (W_pos A h n r hr).ne'
  have hZ := (Zt_pos A h n r hr).ne'
  unfold dl y
  rw [Finset.mul_sum, Finset.mul_sum, Finset.mul_sum, ← Finset.sum_add_distrib, ← Finset.sum_add_distrib, Finset.sum_div]
  exact Finset.sum_congr rfl fun e _ => by field_simp

/-- A power of two at a score over the logarithm of two, less the base-two log-denominator, is the merged weight. -/
theorem two_rpow (s z : ℝ) (hz : 0 < z) :
    Real.rpow 2 (s * (Real.log 2)⁻¹ - Real.log z / Real.log 2) = Real.exp s / z := by
  have h2 : Real.log 2 ≠ 0 := (Real.log_pos (by norm_num)).ne'
  rw [Real.rpow_eq_pow]
  rw [Real.rpow_def_of_pos (by norm_num : (0:ℝ) < 2)]
  have : Real.log 2 * (s * (Real.log 2)⁻¹ - Real.log z / Real.log 2) = s - Real.log z := by field_simp
  rw [this, Real.exp_sub, Real.exp_log hz]

end Cert.AttnSpec
-- ==== Proof.AttnPair.lean ====
module

public import proofs.«01_k».proof.Proof.Gen.AttnIdeal.Skeleton
public import proofs.«01_k».proof.Proof.AttnSpec
public import Idealize.ShloMosaic.Lib.Pointwise
public import Idealize.ShloMosaic.Lib.ValueIdx

@[expose] public section

set_option maxRecDepth 16384

noncomputable section

/-! The attention gradient kernel's operations at an index, as real numbers: one pair of heads in 128 lanes, rows of the
stacked arrays `128 b + r` for head bit `b`. -/

namespace Cert.AttnIdeal.Grad

open Cert.AttnIdeal Cert.AttnIdeal.Gen Cert.AttnSpec Idealize.ShloMosaic Idealize.ShloMosaic.TcCoe Idealize.SL.Sem

/-- A sum of reals in the extended reals is the sum of the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem andi_ofBool (a b : Bool) : IntOp.andi (BitVec.ofBool a) (BitVec.ofBool b) = BitVec.ofBool (a && b) := by
  cases a <;> cases b <;> rfl

theorem ori_ofBool (a b : Bool) : IntOp.ori (BitVec.ofBool a) (BitVec.ofBool b) = BitVec.ofBool (a || b) := by
  cases a <;> cases b <;> rfl

theorem xori_ofBool (a : Bool) : IntOp.xori (BitVec.ofBool a) 1#1 = BitVec.ofBool (!a) := by
  cases a <;> rfl

theorem select_ofBool {α : Type} (b : Bool) (x y : α) : Scalar.select (BitVec.ofBool b) x y = if b then x else y := by
  cases b <;> rfl

theorem cmpi_eq (x y : BitVec 32) : IntOp.cmpi .eq x y = BitVec.ofBool (x == y) := rfl
theorem cmpi_slt (x y : BitVec 32) : IntOp.cmpi .slt x y = BitVec.ofBool (decide (x.toInt < y.toInt)) := rfl
theorem cmpi_sle (x y : BitVec 32) : IntOp.cmpi .sle x y = BitVec.ofBool (decide (x.toInt ≤ y.toInt)) := rfl
theorem cmpi_sge (x y : BitVec 32) : IntOp.cmpi .sge x y = BitVec.ofBool (decide (y.toInt ≤ x.toInt)) := rfl

/-- A small natural as a word, read signed. -/
theorem toInt_small (x : ℕ) (hx : x < 2 ^ 31) : (BitVec.ofNat 32 x).toInt = x := by
  rw [BitVec.toInt_eq_toNat_cond, BitVec.toNat_ofNat]
  split_ifs <;> omega

/-- A choice on a comparison of small naturals as words. -/
theorem select_slt {α : Type} (x k : ℕ) (hx : x < 2 ^ 31) (hk : k < 2 ^ 31) (a b : α) :
    Scalar.select (IntOp.cmpi .slt (BitVec.ofNat 32 x) (BitVec.ofNat 32 k)) a b = if x < k then a else b := by
  rw [cmpi_slt, select_ofBool, toInt_small x hx, toInt_small k hk]
  simp

theorem select_not_slt {α : Type} (x k : ℕ) (hx : x < 2 ^ 31) (hk : k < 2 ^ 31) (a b : α) :
    Scalar.select (IntOp.xori (IntOp.cmpi .slt (BitVec.ofNat 32 x) (BitVec.ofNat 32 k)) 1#1) a b
      = if x < k then b else a := by
  rw [cmpi_slt, xori_ofBool, select_ofBool, toInt_small x hx, toInt_small k hk]
  by_cases h : x < k
  · rw [if_pos h]; simp [h]
  · rw [if_neg h]; simp; omega

theorem select_eq {α : Type} (x k : ℕ) (hx : x < 2 ^ 31) (hk : k < 2 ^ 31) (a b : α) :
    Scalar.select (IntOp.cmpi .eq (BitVec.ofNat 32 x) (BitVec.ofNat 32 k)) a b = if x = k then a else b := by
  rw [cmpi_eq, select_ofBool]
  by_cases h : x = k
  · subst h; simp
  · have : BitVec.ofNat 32 x ≠ BitVec.ofNat 32 k := fun h' => h (by
      have h1 := congrArg BitVec.toInt h'
      rw [toInt_small x hx, toInt_small k hk] at h1; omega)
    rw [if_neg h, if_neg (by simpa using this)]

/-- The distance of a stacked row and a column, as a word read signed. -/
theorem dist_word (a c : ℕ) (ha : a < 256) (hc : c < 256) :
    (IntOp.subi (IntOp.addi (IntOp.andi (BitVec.ofNat 32 a) 127#32) 128#32) (BitVec.ofNat 32 c)).toInt
      = ((a % 128 : ℕ) : ℤ) + 128 - c := by
  have h1 : IntOp.andi (BitVec.ofNat 32 a) 127#32 = BitVec.ofNat 32 (a % 128) := by
    apply BitVec.eq_of_toNat_eq
    show (BitVec.ofNat 32 a &&& 127#32).toNat = _
    rw [BitVec.toNat_and]
    simp only [BitVec.toNat_ofNat]
    rw [show 127 % 2 ^ 32 = 2 ^ 7 - 1 from rfl, Nat.and_two_pow_sub_one_eq_mod]
    omega
  rw [h1]
  show (BitVec.ofNat 32 (a % 128) + 128#32 - BitVec.ofNat 32 c).toInt = _
  rw [BitVec.toInt_sub, BitVec.toInt_add, toInt_small _ (by omega), toInt_small c (by omega), toInt_small 128 (by omega)]
  simp only [Int.bmod]
  split_ifs <;> omega

theorem far_val : Named.named (F := Ideal) κ "far" (φ := .f32) 0x7149F2CA#32 = (⊤ : EReal) :=
  IdealRules.named_const.ideal_named_scalar _ _ _ _ rfl

theorem log2e_val : Named.named (F := Ideal) κ "log2e" (φ := .f32) 0x3FB8AA3B#32 = (((Real.log 2)⁻¹ : ℝ) : EReal) :=
  IdealRules.named_const.ideal_named_scalar _ _ _ _ rfl

theorem ln2_val : Named.named (F := Ideal) κ "ln2" (φ := .f32) 0x3F317218#32 = ((Real.log 2 : ℝ) : EReal) :=
  IdealRules.named_const.ideal_named_scalar _ _ _ _ rfl

/-- The distance operand of the kernel: infinitely far where a row does not see a column. -/
theorem dist_at (i : grid0.Coords) (a c : Fin 256) :
    k0_pay7 (F := Ideal) i (ix2 a c)
      = if ok (i 0).val (a.val % 128) c.val then ((((a.val % 128 : ℕ) : ℝ) + 128 - c.val : ℝ) : EReal) else ⊤ := by
  pointwise [k0_pay7]
  have h0 : (i 0).val < 64 := (i 0).isLt
  rw [far_val, show FloatOps.sitofp (F := Ideal) FTy.f32
        (IntOp.subi (IntOp.addi (IntOp.andi (BitVec.ofNat 32 a.val) 127#32) 128#32) (BitVec.ofNat 32 c.val))
      = ((((IntOp.subi (IntOp.addi (IntOp.andi (BitVec.ofNat 32 a.val) 127#32) 128#32) (BitVec.ofNat 32 c.val)).toInt : ℤ) : ℝ) : EReal)
      from rfl, dist_word a.val c.val a.isLt c.isLt]
  rw [show Scalar.xori (Scalar.cmpi CmpIPredicate.eq (BitVec.ofNat 32 (i 0).val) 0#32) 1#1
      = BitVec.ofBool (!(BitVec.ofNat 32 (i 0).val == 0#32)) from xori_ofBool _]
  rw [cmpi_sge, cmpi_sle, cmpi_sge, andi_ofBool, ori_ofBool, andi_ofBool, select_ofBool, dist_word a.val c.val a.isLt c.isLt,
    toInt_small c.val (by omega)]
  have hz : (BitVec.ofNat 32 (i 0).val == 0#32) = decide ((i 0).val = 0) := by
    by_cases h : (i 0).val = 0
    · rw [h]; rfl
    · have : BitVec.ofNat 32 (i 0).val ≠ 0#32 := fun h' => h (by
        have h1 := congrArg BitVec.toInt h'
        rw [toInt_small _ (by omega)] at h1
        have h2 : (0#32 : BitVec 32).toInt = 0 := rfl
        omega)
      simp [h, this]
  rw [hz]
  have e0 : (0#32 : BitVec 32).toInt = 0 := rfl
  have e1 : (128#32 : BitVec 32).toInt = 128 := rfl
  rw [e0, e1]
  by_cases h : ok (i 0).val (a.val % 128) c.val
  · rw [if_pos h, if_pos]
    · push_cast; rfl
    · obtain ⟨h1, h2, h3⟩ := h
      simp only [Bool.and_eq_true, Bool.or_eq_true, decide_eq_true_eq, Bool.not_eq_true', decide_eq_false_iff_not]
      omega
  · rw [if_neg h, if_neg]
    intro h'
    apply h
    simp only [Bool.and_eq_true, Bool.or_eq_true, decide_eq_true_eq, Bool.not_eq_true', decide_eq_false_iff_not] at h'
    unfold ok
    omega

/-- A sum over the lanes of one head of a pair. -/
theorem sum_bit (b : ℕ) (hb : b < 2) (f : ℕ → ℝ) :
    ∑ l : Fin 128, (if l.val / 64 = b then f l.val else 0) = ∑ e : Fin 64, f (64 * b + e.val) := by
  rw [Fin.sum_univ_eq_sum_range (fun l => if l / 64 = b then f l else 0) 128,
    Fin.sum_univ_eq_sum_range (fun e => f (64 * b + e)) 64, show 128 = 64 + 64 from rfl, Finset.sum_range_add]
  obtain rfl | rfl : b = 0 ∨ b = 1 := by omega
  · have h1 : ∑ x ∈ Finset.range 64, (if x / 64 = 0 then f x else 0) = ∑ x ∈ Finset.range 64, f (64 * 0 + x) :=
      Finset.sum_congr rfl fun x hx => by
        rw [Finset.mem_range] at hx
        rw [if_pos (by omega)]; congr 1; omega
    have h2 : ∑ x ∈ Finset.range 64, (if (64 + x) / 64 = 0 then f (64 + x) else 0) = 0 :=
      Finset.sum_eq_zero fun x hx => by rw [if_neg (by omega)]
    rw [h1, h2, add_zero]
  · have h1 : ∑ x ∈ Finset.range 64, (if x / 64 = 1 then f x else 0) = 0 :=
      Finset.sum_eq_zero fun x hx => by
        rw [Finset.mem_range] at hx
        rw [if_neg (by omega)]
    have h2 : ∑ x ∈ Finset.range 64, (if (64 + x) / 64 = 1 then f (64 + x) else 0) = ∑ x ∈ Finset.range 64, f (64 * 1 + x) :=
      Finset.sum_congr rfl fun x hx => by
        rw [Finset.mem_range] at hx
        rw [if_pos (by omega)]
    rw [h1, h2, zero_add]

/-- A sum over the stacked rows of a pair whose terms vanish off one head. -/
theorem sum_rows (b : ℕ) (hb : b < 2) (f : ℕ → ℝ) :
    ∑ a : Fin 256, (if a.val / 128 = b then f (a.val % 128) else 0) = ∑ r : Fin 128, f r.val := by
  rw [Fin.sum_univ_eq_sum_range (fun a => if a / 128 = b then f (a % 128) else 0) 256,
    Fin.sum_univ_eq_sum_range (fun r => f r) 128, show 256 = 128 + 128 from rfl, Finset.sum_range_add]
  obtain rfl | rfl : b = 0 ∨ b = 1 := by omega
  · have h1 : ∑ x ∈ Finset.range 128, (if x / 128 = 0 then f (x % 128) else 0) = ∑ x ∈ Finset.range 128, f x :=
      Finset.sum_congr rfl fun x hx => by
        rw [Finset.mem_range] at hx
        rw [if_pos (by omega)]; congr 1; omega
    have h2 : ∑ x ∈ Finset.range 128, (if (128 + x) / 128 = 0 then f ((128 + x) % 128) else 0) = 0 :=
      Finset.sum_eq_zero fun x hx => by rw [if_neg (by omega)]
    rw [h1, h2, add_zero]
  · have h1 : ∑ x ∈ Finset.range 128, (if x / 128 = 1 then f (x % 128) else 0) = 0 :=
      Finset.sum_eq_zero fun x hx => by
        rw [Finset.mem_range] at hx
        rw [if_neg (by omega)]
    have h2 : ∑ x ∈ Finset.range 128, (if (128 + x) / 128 = 1 then f ((128 + x) % 128) else 0) = ∑ x ∈ Finset.range 128, f x :=
      Finset.sum_congr rfl fun x hx => by
        rw [Finset.mem_range] at hx
        rw [if_pos (by omega)]; congr 1; omega
    rw [h1, h2, zero_add]

theorem coe_ite (c : Prop) [Decidable c] (a b : ℝ) : (((if c then a else b : ℝ)) : EReal) = if c then (a : EReal) else (b : EReal) := by
  split_ifs <;> rfl

/-- The window of the keys or values: the predecessor's rows above the block's own. -/
theorem window_at (v57 v58 : FVec Ideal S128x128 .f32) (f : ℕ → ℕ → ℝ) (n p : ℕ)
    (h1 : ∀ r l : Fin 128, v57 (ix2 r l) = ((f (128 * (n - 1) + r.val) (128 * p + l.val) : ℝ) : EReal))
    (h2 : ∀ r l : Fin 128, v58 (ix2 r l) = ((f (128 * n + r.val) (128 * p + l.val) : ℝ) : EReal)) (c : Fin 256) (l : Fin 128) :
    k0_pay12 (F := Ideal) v57 v58 (ix2 c l) = ((f (kr n c.val) (128 * p + l.val) : ℝ) : EReal) := by
  pointwise [k0_pay12]
  unfold kr
  by_cases h : c.val < 128
  · rw [dif_pos h, if_pos h]; exact h1 ⟨c.val, h⟩ l
  · rw [dif_neg h, if_neg h]; exact h2 ⟨c.val - 128, by omega⟩ l

/-- The base-two log-denominators of the stacked rows. -/
theorem lse_at (v78 : FVec Ideal S128x128 .f32) (g : ℕ → ℕ → ℝ)
    (h1 : ∀ r l : Fin 128, v78 (ix2 r l) = ((g r.val (l.val / 64) : ℝ) : EReal)) (a : Fin 256) :
    k0_pay28 (F := Ideal) v78 (iota .tc S128x128 32 [1] iota_S128x128_d1_w32) (ix2 a 0)
      = ((g (a.val % 128) (a.val / 128) : ℝ) : EReal) := by
  pointwise [k0_pay28]
  have ha := a.isLt
  by_cases h : a.val < 128
  · rw [dif_pos h, Finset.sum_eq_single (0 : Fin 128)]
    · rw [h1, show ((0 : Fin 128) : ℕ) = 0 from rfl, select_eq 0 0 (by norm_num) (by norm_num), if_pos rfl]
      have e1 : a.val % 128 = a.val := by omega
      have e2 : a.val / 128 = 0 := by omega
      rw [e1, e2]
    · intro l _ hl
      have hl' : l.val ≠ 0 := fun h' => hl (Fin.ext h')
      exact (select_eq l.val 0 (by omega) (by norm_num) _ _).trans (if_neg hl')
    · intro h'; exact absurd (Finset.mem_univ _) h'
  · rw [dif_neg h, Finset.sum_eq_single (64 : Fin 128)]
    · rw [h1, show ((64 : Fin 128) : ℕ) = 64 from rfl, select_eq 64 64 (by norm_num) (by norm_num), if_pos rfl]
      have e1 : a.val % 128 = a.val - 128 := by omega
      have e2 : a.val / 128 = 1 := by omega
      rw [e1, e2]
    · intro l _ hl
      have hl' : l.val ≠ 64 := fun h' => hl (Fin.ext h')
      exact (select_eq l.val 64 (by omega) (by norm_num) _ _).trans (if_neg hl')
    · intro h'; exact absurd (Finset.mem_univ _) h'

/-- The products of a cotangent's row and an output's row, each over its head's lanes. -/
theorem delta_at (v63 v70 : FVec Ideal S128x128 .f32) (f g : ℕ → ℕ → ℝ)
    (h1 : ∀ r l : Fin 128, v63 (ix2 r l) = ((f r.val l.val : ℝ) : EReal))
    (h2 : ∀ r l : Fin 128, v70 (ix2 r l) = ((g r.val l.val : ℝ) : EReal)) (a : Fin 256) :
    k0_pay34 (F := Ideal) v63 v70 k0_pay25 (ix2 a 0)
      = ((∑ e : Fin 64, f (a.val % 128) (64 * (a.val / 128) + e.val) * g (a.val % 128) (64 * (a.val / 128) + e.val) : ℝ) : EReal) := by
  pointwise [k0_pay34, k0_pay25]
  have ha := a.isLt
  rw [← sum_bit (a.val / 128) (by omega) (fun l => f (a.val % 128) l * g (a.val % 128) l), ← coe_sum]
  by_cases h : a.val < 128
  · rw [dif_pos h]
    refine Finset.sum_congr rfl fun l _ => ?_
    rw [h1, h2]
    refine (select_slt l.val 64 (by omega) (by norm_num) _ _).trans ?_
    have e1 : a.val % 128 = a.val := by omega
    rw [coe_ite, EReal.coe_mul, e1]
    by_cases hl : l.val < 64
    · exact (if_pos hl).trans (Eq.trans rfl (if_pos (by omega)).symm)
    · exact (if_neg hl).trans (Eq.trans rfl (if_neg (by omega)).symm)
  · rw [dif_neg h]
    refine Finset.sum_congr rfl fun l _ => ?_
    rw [h1, h2]
    refine (select_not_slt l.val 64 (by omega) (by norm_num) _ _).trans ?_
    have e1 : a.val % 128 = a.val - 128 := by omega
    rw [coe_ite, EReal.coe_mul, e1]
    by_cases hl : l.val < 64
    · exact (if_pos hl).trans (Eq.trans rfl (if_neg (by omega)).symm)
    · exact (if_neg hl).trans (Eq.trans rfl (if_pos (by omega)).symm)

/-- The queries over the logarithm of two, each head's rows on its own lanes. -/
theorem qs_at (v27 : FVec Ideal S128x128 .f32) (f : ℕ → ℕ → ℝ)
    (h1 : ∀ r l : Fin 128, v27 (ix2 r l) = ((f r.val l.val : ℝ) : EReal)) (a : Fin 256) (l : Fin 128) :
    k0_pay41 (F := Ideal) v27 (ix2 a l)
      = (((if l.val / 64 = a.val / 128 then f (a.val % 128) l.val * (Real.log 2)⁻¹ else 0 : ℝ)) : EReal) := by
  pointwise [k0_pay41]
  rw [log2e_val]
  have ha := a.isLt
  by_cases h : a.val < 128
  · rw [dif_pos h, h1]
    refine (select_slt l.val 64 (by omega) (by norm_num) _ _).trans ?_
    have e1 : a.val % 128 = a.val := by omega
    rw [coe_ite, EReal.coe_mul, e1]
    by_cases hl : l.val < 64
    · exact (if_pos hl).trans (Eq.trans rfl (if_pos (by omega)).symm)
    · exact (if_neg hl).trans (Eq.trans rfl (if_neg (by omega)).symm)
  · rw [dif_neg h, h1]
    refine (select_slt l.val 64 (by omega) (by norm_num) _ _).trans ?_
    have e1 : a.val % 128 = a.val - 128 := by omega
    rw [coe_ite, EReal.coe_mul, e1]
    by_cases hl : l.val < 64
    · exact (if_pos hl).trans (Eq.trans rfl (if_neg (by omega)).symm)
    · exact (if_neg hl).trans (Eq.trans rfl (if_pos (by omega)).symm)

/-- The cotangents, each head's rows on its own lanes. -/
theorem ds_at (v63 : FVec Ideal S128x128 .f32) (f : ℕ → ℕ → ℝ)
    (h1 : ∀ r l : Fin 128, v63 (ix2 r l) = ((f r.val l.val : ℝ) : EReal)) (a : Fin 256) (l : Fin 128) :
    k0_pay46 (F := Ideal) v63 (ix2 a l)
      = (((if l.val / 64 = a.val / 128 then f (a.val % 128) l.val else 0 : ℝ)) : EReal) := by
  pointwise [k0_pay46]
  have ha := a.isLt
  by_cases h : a.val < 128
  · rw [dif_pos h, h1]
    refine (select_slt l.val 64 (by omega) (by norm_num) _ _).trans ?_
    have e1 : a.val % 128 = a.val := by omega
    rw [coe_ite, e1]
    by_cases hl : l.val < 64
    · exact (if_pos hl).trans (Eq.trans rfl (if_pos (by omega)).symm)
    · exact (if_neg hl).trans (Eq.trans rfl (if_neg (by omega)).symm)
  · rw [dif_neg h, h1]
    refine (select_slt l.val 64 (by omega) (by norm_num) _ _).trans ?_
    have e1 : a.val % 128 = a.val - 128 := by omega
    rw [coe_ite, e1]
    by_cases hl : l.val < 64
    · exact (if_pos hl).trans (Eq.trans rfl (if_neg (by omega)).symm)
    · exact (if_neg hl).trans (Eq.trans rfl (if_pos (by omega)).symm)

/-- A weight: a power of two at the score less its penalty less the log-denominator, nothing where the distance is infinite. -/
theorem weight_core (o : Prop) [Decidable o] (x s δ z : ℝ) (hs : 0 < s) (hz : 0 < z) :
    Ideal.exp2 (((x * (Real.log 2)⁻¹ : ℝ) : EReal) - ((s * (Real.log 2)⁻¹ : ℝ) : EReal) * (if o then ((δ : ℝ) : EReal) else ⊤)
        - ((Real.log z / Real.log 2 : ℝ) : EReal))
      = ((if o then Real.exp (x - s * δ) / z else 0 : ℝ) : EReal) := by
  by_cases h : o
  · rw [if_pos h, if_pos h, ← EReal.coe_mul, ← EReal.coe_sub, ← EReal.coe_sub, Ideal.exp2_coe, ← two_rpow _ _ hz]
    congr 2; ring
  · have hs' : 0 < s * (Real.log 2)⁻¹ := mul_pos hs (inv_pos.mpr (Real.log_pos (by norm_num)))
    rw [if_neg h, if_neg h, EReal.coe_mul_top_of_pos hs', show ((x * (Real.log 2)⁻¹ : ℝ) : EReal) - ⊤ = ⊥ from rfl, EReal.bot_sub, Ideal.exp2_bot]
    rfl

/-- The weights of a pair of heads. -/
theorem p_core (qs kc : FVec Ideal S256x128 .bf16) (sl dist ls : EReal) (A : Ins) (n p : ℕ) (a c : Fin 256)
    (hq : ∀ l : Fin 128, qs (ix2 a l)
      = (((if l.val / 64 = a.val / 128 then A.q (128 * n + a.val % 128) (128 * p + l.val) * (Real.log 2)⁻¹ else 0 : ℝ)) : EReal))
    (hk : ∀ l : Fin 128, kc (ix2 c l) = ((A.k (kr n c.val) (128 * p + l.val) : ℝ) : EReal))
    (hsl : sl = ((slp (2 * p + a.val / 128) * (Real.log 2)⁻¹ : ℝ) : EReal))
    (hd : dist = if ok n (a.val % 128) c.val then ((((a.val % 128 : ℕ) : ℝ) + 128 - c.val : ℝ) : EReal) else ⊤)
    (hl : ls = ((Real.log (Zt A (2 * p + a.val / 128) n (a.val % 128)) / Real.log 2 : ℝ) : EReal)) :
    Ideal.exp2 (∑ x : Fin 128, qs (ix2 a x) * kc (ix2 c x) - sl * dist - ls)
      = ((P A (2 * p + a.val / 128) n (a.val % 128) c.val : ℝ) : EReal) := by
  have ha := a.isLt
  have h1 : ∑ x : Fin 128, qs (ix2 a x) * kc (ix2 c x)
      = (((∑ e : Fin 64, A.q (128 * n + a.val % 128) (64 * (2 * p + a.val / 128) + e.val)
          * A.k (kr n c.val) (64 * (2 * p + a.val / 128) + e.val)) * (Real.log 2)⁻¹ : ℝ) : EReal) := by
    have h2 := sum_bit (a.val / 128) (by omega)
      (fun l => A.q (128 * n + a.val % 128) (128 * p + l) * A.k (kr n c.val) (128 * p + l) * (Real.log 2)⁻¹)
    rw [Finset.sum_mul]
    have h3 : ∀ e : ℕ, 64 * (2 * p + a.val / 128) + e = 128 * p + (64 * (a.val / 128) + e) := fun e => by ring
    simp only [h3]
    rw [← h2, ← coe_sum]
    refine Finset.sum_congr rfl fun l _ => ?_
    rw [hq, hk, ← EReal.coe_mul]
    congr 1
    by_cases hh : l.val / 64 = a.val / 128
    · rw [if_pos hh, if_pos hh]; ring
    · rw [if_neg hh, if_neg hh]; ring
  rw [h1, hsl, hd, hl]
  rw [weight_core _ _ _ _ _ (by unfold slp; positivity) (Zt_pos A _ _ _ (by omega))]
  congr 1
  unfold P ex sc
  by_cases hh : ok n (a.val % 128) c.val
  · rw [if_pos hh, if_pos hh]
  · rw [if_neg hh, if_neg hh, zero_div]

/-- The gradient of the scores of a pair of heads. -/
theorem dS_at (vc : FVec Ideal S256x128 .bf16) (del : FVec Ideal S256x1 .f32) (ds : FVec Ideal S256x128 .bf16)
    (p : FVec Ideal S256x256 .f32) (A : Ins) (n pr : ℕ) (a c : Fin 256)
    (hd : ∀ l : Fin 128, ds (ix2 a l)
      = (((if l.val / 64 = a.val / 128 then A.d (128 * n + a.val % 128) (128 * pr + l.val) else 0 : ℝ)) : EReal))
    (hv : ∀ l : Fin 128, vc (ix2 c l) = ((A.v (kr n c.val) (128 * pr + l.val) : ℝ) : EReal))
    (hp : p (ix2 a c) = ((P A (2 * pr + a.val / 128) n (a.val % 128) c.val : ℝ) : EReal))
    (hl : del (ix2 a 0) = ((dl A (2 * pr + a.val / 128) n (a.val % 128) : ℝ) : EReal)) :
    k0_pay57 (F := Ideal) vc del ds p (ix2 a c) = ((dS A (2 * pr + a.val / 128) n (a.val % 128) c.val : ℝ) : EReal) := by
  pointwise [k0_pay57]
  have ha := a.isLt
  have h1 : ∑ x : Fin 128, ds (ix2 a x) * vc (ix2 c x)
      = ((dP A (2 * pr + a.val / 128) n (a.val % 128) c.val : ℝ) : EReal) := by
    have h2 := sum_bit (a.val / 128) (by omega)
      (fun l => A.d (128 * n + a.val % 128) (128 * pr + l) * A.v (kr n c.val) (128 * pr + l))
    unfold dP
    have h3 : ∀ e : ℕ, 64 * (2 * pr + a.val / 128) + e = 128 * pr + (64 * (a.val / 128) + e) := fun e => by ring
    simp only [h3]
    rw [← h2, ← coe_sum]
    refine Finset.sum_congr rfl fun l _ => ?_
    rw [hd, hv, ← EReal.coe_mul]
    congr 1
    by_cases hh : l.val / 64 = a.val / 128
    · rw [if_pos hh, if_pos hh]
    · rw [if_neg hh, if_neg hh]; ring
  rw [h1, hp, hl, ← EReal.coe_sub, ← EReal.coe_mul]
  rfl

/-- The gradient of the queries of a pair of heads. -/
theorem dq_at (kc vc : FVec Ideal S256x128 .bf16) (del : FVec Ideal S256x1 .f32) (ds : FVec Ideal S256x128 .bf16)
    (p : FVec Ideal S256x256 .f32) (A : Ins) (n pr : ℕ)
    (hk : ∀ (c : Fin 256) (l : Fin 128), kc (ix2 c l) = ((A.k (kr n c.val) (128 * pr + l.val) : ℝ) : EReal))
    (hs : ∀ a c : Fin 256, k0_pay57 (F := Ideal) vc del ds p (ix2 a c)
      = ((dS A (2 * pr + a.val / 128) n (a.val % 128) c.val : ℝ) : EReal)) (r l : Fin 128) :
    k0_pay61 (F := Ideal) kc vc del ds p (ix2 r l) = ((dq A (2 * pr + l.val / 64) n r.val (l.val % 64) : ℝ) : EReal) := by
  pointwise [k0_pay61]
  refine (select_slt l.val 64 (by omega) (by norm_num) _ _).trans ?_
  have hr := r.isLt
  have h3 : 64 * (2 * pr + l.val / 64) + l.val % 64 = 128 * pr + l.val := by omega
  unfold dq
  rw [h3]
  by_cases hl : l.val < 64
  · rw [if_pos hl, ← coe_sum]
    refine Finset.sum_congr rfl fun c _ => ?_
    rw [hs, hk, ← EReal.coe_mul]
    have e1 : r.val / 128 = l.val / 64 := by omega
    have e2 : r.val % 128 = r.val := by omega
    simp only [e1, e2]
  · rw [if_neg hl, ← coe_sum]
    refine Finset.sum_congr rfl fun c _ => ?_
    rw [hs, hk, ← EReal.coe_mul]
    have e1 : (128 + r.val) / 128 = l.val / 64 := by omega
    have e2 : (128 + r.val) % 128 = r.val := by omega
    simp only [e1, e2]

/-- What a block adds to the gradient of its window's keys. -/
theorem dk_at (qs : FVec Ideal S256x128 .bf16) (s : FVec Ideal S256x256 .bf16) (A : Ins) (n p : ℕ)
    (hq : ∀ (a : Fin 256) (l : Fin 128), qs (ix2 a l)
      = (((if l.val / 64 = a.val / 128 then A.q (128 * n + a.val % 128) (128 * p + l.val) * (Real.log 2)⁻¹ else 0 : ℝ)) : EReal))
    (hs : ∀ a c : Fin 256, s (ix2 a c) = ((dS A (2 * p + a.val / 128) n (a.val % 128) c.val : ℝ) : EReal))
    (c : Fin 256) (l : Fin 128) :
    k0_pay66 (F := Ideal) qs s (ix2 c l) = ((dkc A (2 * p + l.val / 64) n c.val (l.val % 64) : ℝ) : EReal) := by
  pointwise [k0_pay66]
  have h3 : 64 * (2 * p + l.val / 64) + l.val % 64 = 128 * p + l.val := by omega
  have h2 : Real.log 2 ≠ 0 := (Real.log_pos (by norm_num)).ne'
  have h1 := sum_rows (l.val / 64) (by omega)
    (fun r => dS A (2 * p + l.val / 64) n r c.val * (A.q (128 * n + r) (128 * p + l.val) * (Real.log 2)⁻¹))
  rw [ln2_val]
  have h4 : ∑ x : Fin 256, s (ix2 x c) * qs (ix2 x l)
      = ((∑ r : Fin 128, dS A (2 * p + l.val / 64) n r.val c.val * (A.q (128 * n + r.val) (128 * p + l.val) * (Real.log 2)⁻¹) : ℝ) : EReal) := by
    rw [← h1, ← coe_sum]
    refine Finset.sum_congr rfl fun a _ => ?_
    rw [hs, hq, ← EReal.coe_mul]
    congr 1
    by_cases hh : l.val / 64 = a.val / 128
    · rw [if_pos hh, if_pos hh.symm, hh]
    · rw [if_neg hh, if_neg (fun h => hh h.symm)]; ring
  rw [h4, ← EReal.coe_mul]
  unfold dkc
  rw [h3, Finset.sum_mul]
  congr 1
  refine Finset.sum_congr rfl fun r _ => ?_
  field_simp

/-- What a block adds to the gradient of its window's values. -/
theorem dv_at (ds : FVec Ideal S256x128 .bf16) (p : FVec Ideal S256x256 .f32) (A : Ins) (n pr : ℕ)
    (hd : ∀ (a : Fin 256) (l : Fin 128), ds (ix2 a l)
      = (((if l.val / 64 = a.val / 128 then A.d (128 * n + a.val % 128) (128 * pr + l.val) else 0 : ℝ)) : EReal))
    (hp : ∀ a c : Fin 256, p (ix2 a c) = ((P A (2 * pr + a.val / 128) n (a.val % 128) c.val : ℝ) : EReal))
    (c : Fin 256) (l : Fin 128) :
    k0_pay70 (F := Ideal) ds p (ix2 c l) = ((dvc A (2 * pr + l.val / 64) n c.val (l.val % 64) : ℝ) : EReal) := by
  pointwise [k0_pay70]
  have h3 : 64 * (2 * pr + l.val / 64) + l.val % 64 = 128 * pr + l.val := by omega
  have h1 := sum_rows (l.val / 64) (by omega)
    (fun r => P A (2 * pr + l.val / 64) n r c.val * A.d (128 * n + r) (128 * pr + l.val))
  unfold dvc
  rw [h3, ← h1, ← coe_sum]
  refine Finset.sum_congr rfl fun a _ => ?_
  rw [hp, hd, ← EReal.coe_mul]
  congr 1
  by_cases hh : l.val / 64 = a.val / 128
  · rw [if_pos hh, if_pos hh.symm, hh]
  · rw [if_neg hh, if_neg (fun h => hh h.symm)]; ring

end Cert.AttnIdeal.Grad
-- ==== Proof.AttnBlock.lean ====
module
public import proofs.«01_k».proof.Proof.Gen.AttnIdeal.Value
public import proofs.«01_k».proof.Proof.AttnPair
@[expose] public section
set_option maxRecDepth 16384
noncomputable section
namespace Cert.AttnIdeal.Grad
open Cert.AttnIdeal Cert.AttnIdeal.Gen Cert.AttnSpec Idealize.ShloMosaic Idealize.ShloMosaic.TcCoe Idealize.SL.Sem Idealize.ShloMosaic.Tactic
open Idealize.ShloMosaic.Pipeline (Dat)

/-! The other pairs' operations are those of one pair. -/

theorem eq_10 : k0_pay10 (F := Ideal) = k0_pay12 := rfl
theorem eq_11 : k0_pay11 (F := Ideal) = k0_pay12 := rfl
theorem eq_13 : k0_pay13 (F := Ideal) = k0_pay12 := rfl
theorem eq_14 : k0_pay14 (F := Ideal) = k0_pay12 := rfl
theorem eq_15 : k0_pay15 (F := Ideal) = k0_pay12 := rfl
theorem eq_16 : k0_pay16 (F := Ideal) = k0_pay12 := rfl
theorem eq_17 : k0_pay17 (F := Ideal) = k0_pay12 := rfl
theorem eq_18 (x : FVec Ideal S128x128 .f32) : k0_pay18 (F := Ideal) x = x := shapeCast_self _ _
theorem eq_19 (x : FVec Ideal S128x128 .f32) : k0_pay19 (F := Ideal) x = x := shapeCast_self _ _
theorem eq_20 (x : FVec Ideal S128x128 .f32) : k0_pay20 (F := Ideal) x = x := shapeCast_self _ _
theorem eq_21 (x : FVec Ideal S128x128 .f32) : k0_pay21 (F := Ideal) x = x := shapeCast_self _ _
theorem eq_22 (x : FVec Ideal S128x128 .f32) : k0_pay22 (F := Ideal) x = x := shapeCast_self _ _
theorem eq_23 (x : FVec Ideal S128x128 .f32) : k0_pay23 (F := Ideal) x = x := shapeCast_self _ _
theorem eq_24 (x : FVec Ideal S128x128 .f32) : k0_pay24 (F := Ideal) x = x := shapeCast_self _ _
theorem eq_26 (x : FVec Ideal S128x128 .f32) : k0_pay26 (F := Ideal) x = k0_pay28 (k0_pay23 x) (iota .tc S128x128 32 [1] iota_S128x128_d1_w32) := rfl
theorem eq_27 : k0_pay27 (F := Ideal) = k0_pay28 := rfl
theorem eq_29 : k0_pay29 (F := Ideal) = k0_pay28 := rfl
theorem eq_32 (x y : FVec Ideal S128x128 .f32) : k0_pay32 (F := Ideal) k0_pay25 (k0_pay30 x y) k0_pay31 = k0_pay34 x y k0_pay25 := rfl
theorem eq_33 : k0_pay33 (F := Ideal) = k0_pay34 := rfl
theorem eq_38 (x y : FVec Ideal S128x128 .f32) : k0_pay38 (F := Ideal) (k0_pay36 x y k0_pay25) (k0_pay37 x y k0_pay25) = k0_pay34 x y k0_pay25 := rfl
theorem eq_39 : k0_pay39 (F := Ideal) = k0_pay41 := rfl
theorem eq_40 : k0_pay40 (F := Ideal) = k0_pay41 := rfl
theorem eq_43 (x : FVec Ideal S128x128 .f32) : k0_pay43 (F := Ideal) (k0_pay42 x) = k0_pay41 x := rfl
theorem eq_44 : k0_pay44 (F := Ideal) = k0_pay46 := rfl
theorem eq_45 : k0_pay45 (F := Ideal) = k0_pay46 := rfl
theorem eq_47 : k0_pay47 (F := Ideal) = k0_pay46 := rfl
theorem eq_55 (d : FVec Ideal S256x1 .f32) (p : FVec Ideal S256x256 .f32) (v g : FVec Ideal S256x128 .bf16) : k0_pay55 (F := Ideal) d p (k0_pay54 v g) = k0_pay57 v d g p := rfl
theorem eq_56 (d : FVec Ideal S256x1 .f32) (p : FVec Ideal S256x256 .f32) (v g : FVec Ideal S256x128 .bf16) : k0_pay56 (F := Ideal) v d g p (constant S256x256 .f32 0x00000000#32) = k0_pay57 v d g p := rfl
theorem eq_58 : k0_pay58 (F := Ideal) = k0_pay57 := rfl
theorem eq_59 (k : FVec Ideal S256x128 .bf16) (d : FVec Ideal S256x1 .f32) (p : FVec Ideal S256x256 .f32) (v g : FVec Ideal S256x128 .bf16) : k0_pay59 (F := Ideal) k d p (k0_pay54 v g) = k0_pay61 k v d g p := rfl
theorem eq_60 (k : FVec Ideal S256x128 .bf16) (d : FVec Ideal S256x1 .f32) (p : FVec Ideal S256x256 .f32) (v g : FVec Ideal S256x128 .bf16) : k0_pay60 (F := Ideal) k v d g p (constant S256x256 .f32 0x00000000#32) = k0_pay61 k v d g p := rfl
theorem eq_62 : k0_pay62 (F := Ideal) = k0_pay61 := rfl
theorem eq_64 (q : FVec Ideal S256x128 .bf16) (d : FVec Ideal S256x1 .f32) (p : FVec Ideal S256x256 .f32) (v g : FVec Ideal S256x128 .bf16) : k0_pay64 (F := Ideal) (k0_pay63 d q p (k0_pay54 v g)) (Named.named κ "ln2" 0x3F317218#32) = k0_pay66 q (k0_pay57 v d g p) := rfl
theorem eq_65 : k0_pay65 (F := Ideal) = k0_pay66 := rfl
theorem eq_67 : k0_pay67 (F := Ideal) = k0_pay66 := rfl
theorem eq_68 : k0_pay68 (F := Ideal) = k0_pay70 := rfl
theorem eq_69 : k0_pay69 (F := Ideal) = k0_pay70 := rfl
theorem eq_71 : k0_pay71 (F := Ideal) = k0_pay70 := rfl
theorem eq_72 (q : FVec Ideal S256x128 .bf16) (d : FVec Ideal S256x1 .f32) (p : FVec Ideal S256x256 .f32) (v g : FVec Ideal S256x128 .bf16) (o : FVec Ideal S128x128 .f32) : k0_pay72 (F := Ideal) (k0_pay63 d q p (k0_pay54 v g)) (Named.named κ "ln2" 0x3F317218#32) o = k0_pay80 (k0_pay66 q (k0_pay57 v d g p)) o := rfl
theorem eq_73 (k : FVec Ideal S256x128 .bf16) (d : FVec Ideal S256x1 .f32) (p : FVec Ideal S256x256 .f32) (v g : FVec Ideal S256x128 .bf16) (o : FVec Ideal S128x128 .f32) : k0_pay73 (F := Ideal) g p o = k0_pay80 (k0_pay70 g p) o := rfl
theorem eq_74 (q : FVec Ideal S256x128 .bf16) (d : FVec Ideal S256x1 .f32) (p : FVec Ideal S256x256 .f32) (v g : FVec Ideal S256x128 .bf16) : k0_pay74 (F := Ideal) (k0_pay63 d q p (k0_pay54 v g)) (Named.named κ "ln2" 0x3F317218#32) = k0_pay1 (k0_pay66 q (k0_pay57 v d g p)) := rfl
theorem eq_75 (k : FVec Ideal S256x128 .bf16) (d : FVec Ideal S256x1 .f32) (p : FVec Ideal S256x256 .f32) (v g : FVec Ideal S256x128 .bf16) : k0_pay75 (F := Ideal) g p = k0_pay1 (k0_pay70 g p) := rfl
theorem eq_76 : k0_pay76 (F := Ideal) = k0_pay80 := rfl
theorem eq_77 : k0_pay77 (F := Ideal) = k0_pay80 := rfl
theorem eq_81 : k0_pay81 (F := Ideal) = k0_pay80 := rfl
theorem eq_3 : k0_pay3 (F := Ideal) = k0_pay80 := rfl
theorem eq_4 : k0_pay4 (F := Ideal) = k0_pay80 := rfl
theorem eq_78 : k0_pay78 (F := Ideal) = k0_pay1 := rfl
theorem eq_79 : k0_pay79 (F := Ideal) = k0_pay1 := rfl
theorem eq_2 : k0_pay2 (F := Ideal) = k0_pay1 := rfl
theorem eq_5 : k0_pay5 (F := Ideal) = k0_pay1 := rfl
theorem eq_6 : k0_pay6 (F := Ideal) = k0_pay1 := rfl

/-- A slab of 128 lanes of a block, at an index. -/
theorem ld_slab (x : Vec Ideal S128x512 .f32) (o : ℕ) (inb) (r l : Fin 128) (h : o + l.val < 512) :
    View.ld (Val := Elt Ideal) x (Rect.unit (s := S128x512) ![0, o] ![128, 128] inb) (ix2 r l) = x (ix2 r ⟨o + l.val, h⟩) := by
  show x _ = x _
  congr 1; funext a; apply Fin.ext
  match a with
  | ⟨0, _⟩ => show 0 + 1 * r.val = r.val; omega
  | ⟨1, _⟩ => show o + 1 * l.val = o + l.val; omega

/-- A block whose last store is a slab, at an index of the slab. -/
theorem canon_hit (o : ℕ) (inb) (P : Vec Ideal S128x128 .f32) (L : List (View.Piece (Elt Ideal) S128x512 .f32)) (r l : Fin 128) (k : Fin 512)
    (h : k.val = o + l.val) :
    View.canon (Val := Elt Ideal) (⟨Rect.unit (s := S128x512) ![0, o] ![128, 128] inb, P⟩ :: L) (ix2 r k) = P (ix2 r l) := by
  have h1 : (ix2 r k : S128x512.Idx) = (Rect.unit (s := S128x512) ![0, o] ![128, 128] inb).emb (ix2 r l) := by
    funext a; apply Fin.ext
    match a with
    | ⟨0, _⟩ => show r.val = 0 + 1 * r.val; omega
    | ⟨1, _⟩ => show k.val = o + 1 * l.val; omega
  rw [h1]
  exact View.canon_cons_emb _ _ _ _

/-- … and at an index of another slab. -/
theorem canon_miss (o : ℕ) (inb) (P : Vec Ideal S128x128 .f32) (L : List (View.Piece (Elt Ideal) S128x512 .f32)) (r : Fin 128) (k : Fin 512)
    (h : k.val < o ∨ o + 128 ≤ k.val) :
    View.canon (Val := Elt Ideal) (⟨Rect.unit (s := S128x512) ![0, o] ![128, 128] inb, P⟩ :: L) (ix2 r k)
      = View.canon (Val := Elt Ideal) L (ix2 r k) := by
  refine View.canon_cons_of_not_mem _ _ ?_
  show (ix2 r k : S128x512.Idx) ∉ (Rect.unit (s := S128x512) ![0, o] ![128, 128] inb).set
  rw [Rect.mem_set_unit]
  intro h'
  have := h' 1
  have h2 : o ≤ k.val ∧ k.val < o + 128 := this
  omega

/-- The slabs of one pair of heads at a block hold the arrays' entries. -/
structure Pair (A : Ins) (n p : ℕ) (q k0 k1 v0 v1 yy l d : FVec Ideal S128x128 .f32) : Prop where
  hq : ∀ r e : Fin 128, q (ix2 r e) = ((A.q (128 * n + r.val) (128 * p + e.val) : ℝ) : EReal)
  hk0 : ∀ r e : Fin 128, k0 (ix2 r e) = ((A.k (128 * (n - 1) + r.val) (128 * p + e.val) : ℝ) : EReal)
  hk1 : ∀ r e : Fin 128, k1 (ix2 r e) = ((A.k (128 * n + r.val) (128 * p + e.val) : ℝ) : EReal)
  hv0 : ∀ r e : Fin 128, v0 (ix2 r e) = ((A.v (128 * (n - 1) + r.val) (128 * p + e.val) : ℝ) : EReal)
  hv1 : ∀ r e : Fin 128, v1 (ix2 r e) = ((A.v (128 * n + r.val) (128 * p + e.val) : ℝ) : EReal)
  hy : ∀ r e : Fin 128, yy (ix2 r e) = ((y A (2 * p + e.val / 64) n r.val (e.val % 64) : ℝ) : EReal)
  hl : ∀ r e : Fin 128, l (ix2 r e) = ((Real.log (Zt A (2 * p + e.val / 64) n r.val) / Real.log 2 : ℝ) : EReal)
  hd : ∀ r e : Fin 128, d (ix2 r e) = ((A.d (128 * n + r.val) (128 * p + e.val) : ℝ) : EReal)

/-- The blocks of a grid point hold the arrays' entries. -/
structure Blocks (A : Ins) (n : ℕ) (x0 x1 x2 x3 x4 x5 x6 x7 : Vec Ideal S128x512 .f32) : Prop where
  hq : ∀ (r : Fin 128) (e : Fin 512), x0 (ix2 r e) = ((A.q (128 * n + r.val) e.val : ℝ) : EReal)
  hk0 : ∀ (r : Fin 128) (e : Fin 512), x1 (ix2 r e) = ((A.k (128 * (n - 1) + r.val) e.val : ℝ) : EReal)
  hk1 : ∀ (r : Fin 128) (e : Fin 512), x2 (ix2 r e) = ((A.k (128 * n + r.val) e.val : ℝ) : EReal)
  hv0 : ∀ (r : Fin 128) (e : Fin 512), x3 (ix2 r e) = ((A.v (128 * (n - 1) + r.val) e.val : ℝ) : EReal)
  hv1 : ∀ (r : Fin 128) (e : Fin 512), x4 (ix2 r e) = ((A.v (128 * n + r.val) e.val : ℝ) : EReal)
  hy : ∀ (r : Fin 128) (e : Fin 512), x5 (ix2 r e) = ((y A (e.val / 64) n r.val (e.val % 64) : ℝ) : EReal)
  hl : ∀ (r : Fin 128) (e : Fin 512), x6 (ix2 r e) = ((Real.log (Zt A (e.val / 64) n r.val) / Real.log 2 : ℝ) : EReal)
  hd : ∀ (r : Fin 128) (e : Fin 512), x7 (ix2 r e) = ((A.d (128 * n + r.val) e.val : ℝ) : EReal)

/-- A pair's slabs of the blocks of a grid point. -/
theorem Blocks.pair {A : Ins} {n : ℕ} {x0 x1 x2 x3 x4 x5 x6 x7 : Vec Ideal S128x512 .f32} (B : Blocks A n x0 x1 x2 x3 x4 x5 x6 x7)
    (p : ℕ) (hp : p < 4) (o : ℕ) (ho : o = 128 * p) (inb) :
    Pair A n p (View.ld (Val := Elt Ideal) x0 (Rect.unit (s := S128x512) ![0, o] ![128, 128] inb))
      (View.ld (Val := Elt Ideal) x1 (Rect.unit (s := S128x512) ![0, o] ![128, 128] inb))
      (View.ld (Val := Elt Ideal) x2 (Rect.unit (s := S128x512) ![0, o] ![128, 128] inb))
      (View.ld (Val := Elt Ideal) x3 (Rect.unit (s := S128x512) ![0, o] ![128, 128] inb))
      (View.ld (Val := Elt Ideal) x4 (Rect.unit (s := S128x512) ![0, o] ![128, 128] inb))
      (View.ld (Val := Elt Ideal) x5 (Rect.unit (s := S128x512) ![0, o] ![128, 128] inb))
      (View.ld (Val := Elt Ideal) x6 (Rect.unit (s := S128x512) ![0, o] ![128, 128] inb))
      (View.ld (Val := Elt Ideal) x7 (Rect.unit (s := S128x512) ![0, o] ![128, 128] inb)) := by
  subst ho
  have hb : ∀ e : Fin 128, 128 * p + e.val < 512 := fun e => by have := e.isLt; omega
  have e1 : ∀ e : Fin 128, (128 * p + e.val) / 64 = 2 * p + e.val / 64 := fun e => by omega
  have e2 : ∀ e : Fin 128, (128 * p + e.val) % 64 = e.val % 64 := fun e => by omega
  refine ⟨fun r e => ?_, fun r e => ?_, fun r e => ?_, fun r e => ?_, fun r e => ?_, fun r e => ?_, fun r e => ?_, fun r e => ?_⟩ <;>
    rw [ld_slab _ _ inb r e (hb e)]
  · exact B.hq r ⟨_, hb e⟩
  · exact B.hk0 r ⟨_, hb e⟩
  · exact B.hk1 r ⟨_, hb e⟩
  · exact B.hv0 r ⟨_, hb e⟩
  · exact B.hv1 r ⟨_, hb e⟩
  · rw [B.hy r ⟨_, hb e⟩, ← e1 e, ← e2 e]
  · rw [B.hl r ⟨_, hb e⟩, ← e1 e]
  · exact B.hd r ⟨_, hb e⟩

section Pairs

variable {A : Ins} {n p : ℕ} {q k0 k1 v0 v1 yy l d : FVec Ideal S128x128 .f32}

theorem Pair.kat (H : Pair A n p q k0 k1 v0 v1 yy l d) (c : Fin 256) (e : Fin 128) :
    k0_pay12 (F := Ideal) k0 k1 (ix2 c e) = ((A.k (kr n c.val) (128 * p + e.val) : ℝ) : EReal) :=
  window_at k0 k1 A.k n p H.hk0 H.hk1 c e

theorem Pair.vat (H : Pair A n p q k0 k1 v0 v1 yy l d) (c : Fin 256) (e : Fin 128) :
    k0_pay12 (F := Ideal) v0 v1 (ix2 c e) = ((A.v (kr n c.val) (128 * p + e.val) : ℝ) : EReal) :=
  window_at v0 v1 A.v n p H.hv0 H.hv1 c e

theorem Pair.qat (H : Pair A n p q k0 k1 v0 v1 yy l d) (a : Fin 256) (e : Fin 128) :
    k0_pay41 (F := Ideal) q (ix2 a e)
      = (((if e.val / 64 = a.val / 128 then A.q (128 * n + a.val % 128) (128 * p + e.val) * (Real.log 2)⁻¹ else 0 : ℝ)) : EReal) :=
  qs_at q (fun r e => A.q (128 * n + r) (128 * p + e)) H.hq a e

theorem Pair.dat (H : Pair A n p q k0 k1 v0 v1 yy l d) (a : Fin 256) (e : Fin 128) :
    k0_pay46 (F := Ideal) d (ix2 a e)
      = (((if e.val / 64 = a.val / 128 then A.d (128 * n + a.val % 128) (128 * p + e.val) else 0 : ℝ)) : EReal) :=
  ds_at d (fun r e => A.d (128 * n + r) (128 * p + e)) H.hd a e

theorem Pair.lat (H : Pair A n p q k0 k1 v0 v1 yy l d) (a : Fin 256) :
    k0_pay28 (F := Ideal) l (iota .tc S128x128 32 [1] iota_S128x128_d1_w32) (ix2 a 0)
      = ((Real.log (Zt A (2 * p + a.val / 128) n (a.val % 128)) / Real.log 2 : ℝ) : EReal) :=
  lse_at l (fun r b => Real.log (Zt A (2 * p + b) n r) / Real.log 2) H.hl a

theorem Pair.delta (H : Pair A n p q k0 k1 v0 v1 yy l d) (a : Fin 256) :
    k0_pay34 (F := Ideal) d yy k0_pay25 (ix2 a 0) = ((dl A (2 * p + a.val / 128) n (a.val % 128) : ℝ) : EReal) := by
  rw [delta_at d yy (fun r e => A.d (128 * n + r) (128 * p + e)) (fun r e => y A (2 * p + e / 64) n r (e % 64)) H.hd H.hy a]
  unfold dl
  congr 1
  refine Finset.sum_congr rfl fun e _ => ?_
  have ha := a.isLt
  have e1 : (64 * (a.val / 128) + e.val) / 64 = a.val / 128 := by omega
  have e2 : (64 * (a.val / 128) + e.val) % 64 = e.val := by omega
  have e3 : 128 * p + (64 * (a.val / 128) + e.val) = 64 * (2 * p + a.val / 128) + e.val := by ring
  rw [e1, e2, e3]

/-- The weights of a pair, for a pair of slopes. -/
theorem Pair.weight (H : Pair A n p q k0 k1 v0 v1 yy l d) (i : grid0.Coords) (hi : (i 0).val = n) (s0 s1 : EReal)
    (h0 : s0 = ((slp (2 * p) * (Real.log 2)⁻¹ : ℝ) : EReal)) (h1 : s1 = ((slp (2 * p + 1) * (Real.log 2)⁻¹ : ℝ) : EReal)) (a c : Fin 256) :
    Ideal.exp2 (∑ x : Fin 128, k0_pay41 (F := Ideal) q (ix2 a x) * k0_pay12 (F := Ideal) k0 k1 (ix2 c x)
        - Scalar.select (IntOp.cmpi .slt (BitVec.ofNat 32 a.val) 128#32) s0 s1 * k0_pay7 (F := Ideal) i (ix2 a c)
        - k0_pay28 (F := Ideal) l (iota .tc S128x128 32 [1] iota_S128x128_d1_w32) (ix2 a 0))
      = ((P A (2 * p + a.val / 128) n (a.val % 128) c.val : ℝ) : EReal) := by
  refine p_core (k0_pay41 (F := Ideal) q) (k0_pay12 (F := Ideal) k0 k1) _ _ _ A n p a c (fun e => H.qat a e) (fun e => H.kat c e) ?_ ?_ (H.lat a)
  · refine (select_slt a.val 128 (by have := a.isLt; omega) (by norm_num) _ _).trans ?_
    have ha := a.isLt
    by_cases h : a.val < 128
    · rw [if_pos h, h0, show a.val / 128 = 0 by omega]
      rfl
    · rw [if_neg h, h1, show a.val / 128 = 1 by omega]
  · subst hi; exact dist_at i a c

theorem Pair.w52 (H : Pair A n 2 q k0 k1 v0 v1 yy l d) (i : grid0.Coords) (hi : (i 0).val = n) (a c : Fin 256) :
    k0_pay52 (F := Ideal) (k0_pay7 i) (k0_pay12 k0 k1) (k0_pay28 l (iota .tc S128x128 32 [1] iota_S128x128_d1_w32)) (k0_pay41 q) (ix2 a c)
      = ((P A (2 * 2 + a.val / 128) n (a.val % 128) c.val : ℝ) : EReal) := by
  pointwise [k0_pay52]
  refine H.weight i hi _ _ ?_ ?_ a c
  · rw [show Named.named (F := Ideal) κ "slope4" (φ := .f32) 0x3D38AA3B#32 = _ from IdealRules.named_const.ideal_named_scalar _ _ _ _ rfl]
    unfold slp; norm_num
  · rw [show Named.named (F := Ideal) κ "slope5" (φ := .f32) 0x3CB8AA3B#32 = _ from IdealRules.named_const.ideal_named_scalar _ _ _ _ rfl]
    unfold slp; norm_num

theorem Pair.w51 (H : Pair A n 1 q k0 k1 v0 v1 yy l d) (i : grid0.Coords) (hi : (i 0).val = n) (a c : Fin 256) :
    k0_pay51 (F := Ideal) (k0_pay7 i) (k0_pay12 k0 k1) (k0_pay28 l (iota .tc S128x128 32 [1] iota_S128x128_d1_w32)) (k0_pay41 q) (ix2 a c)
      = ((P A (2 * 1 + a.val / 128) n (a.val % 128) c.val : ℝ) : EReal) := by
  pointwise [k0_pay51]
  refine H.weight i hi _ _ ?_ ?_ a c
  · rw [show Named.named (F := Ideal) κ "slope2" (φ := .f32) 0x3E38AA3B#32 = _ from IdealRules.named_const.ideal_named_scalar _ _ _ _ rfl]
    unfold slp; norm_num
  · rw [show Named.named (F := Ideal) κ "slope3" (φ := .f32) 0x3DB8AA3B#32 = _ from IdealRules.named_const.ideal_named_scalar _ _ _ _ rfl]
    unfold slp; norm_num

theorem Pair.w53 (H : Pair A n 3 q k0 k1 v0 v1 yy l d) (i : grid0.Coords) (hi : (i 0).val = n) (a c : Fin 256) :
    k0_pay53 (F := Ideal) (k0_pay7 i) (k0_pay12 k0 k1) (k0_pay28 l (iota .tc S128x128 32 [1] iota_S128x128_d1_w32)) (k0_pay41 q) (ix2 a c)
      = ((P A (2 * 3 + a.val / 128) n (a.val % 128) c.val : ℝ) : EReal) := by
  pointwise [k0_pay53]
  refine H.weight i hi _ _ ?_ ?_ a c
  · rw [show Named.named (F := Ideal) κ "slope6" (φ := .f32) 0x3C38AA3B#32 = _ from IdealRules.named_const.ideal_named_scalar _ _ _ _ rfl]
    unfold slp; norm_num
  · rw [show Named.named (F := Ideal) κ "slope7" (φ := .f32) 0x3BB8AA3B#32 = _ from IdealRules.named_const.ideal_named_scalar _ _ _ _ rfl]
    unfold slp; norm_num

theorem Pair.w50 (H : Pair A n 0 q k0 k1 v0 v1 yy l d) (i : grid0.Coords) (hi : (i 0).val = n) (a c : Fin 256) :
    k0_pay50 (F := Ideal) (k0_pay7 i) (k0_pay28 l (iota .tc S128x128 32 [1] iota_S128x128_d1_w32))
        (k0_pay48 (k0_pay12 k0 k1) (k0_pay41 q)) k0_pay49 (ix2 a c)
      = ((P A (2 * 0 + a.val / 128) n (a.val % 128) c.val : ℝ) : EReal) := by
  pointwise [k0_pay50, k0_pay48, k0_pay49]
  refine Eq.trans (H.weight i hi _ _ ?_ ?_ a c) (by rw [show 2 * 0 + a.val / 128 = a.val / 128 by omega])
  · rw [show Named.named (F := Ideal) κ "slope0" (φ := .f32) 0x3F38AA3B#32 = _ from IdealRules.named_const.ideal_named_scalar _ _ _ _ rfl]
    unfold slp; norm_num
  · rw [show Named.named (F := Ideal) κ "slope1" (φ := .f32) 0x3EB8AA3B#32 = _ from IdealRules.named_const.ideal_named_scalar _ _ _ _ rfl]
    unfold slp; norm_num

variable {w : FVec Ideal S256x256 .f32}

theorem Pair.dsat (H : Pair A n p q k0 k1 v0 v1 yy l d)
    (hw : ∀ a c : Fin 256, w (ix2 a c) = ((P A (2 * p + a.val / 128) n (a.val % 128) c.val : ℝ) : EReal)) (a c : Fin 256) :
    k0_pay57 (F := Ideal) (k0_pay12 v0 v1) (k0_pay34 d yy k0_pay25) (k0_pay46 d) w (ix2 a c)
      = ((dS A (2 * p + a.val / 128) n (a.val % 128) c.val : ℝ) : EReal) :=
  dS_at _ _ _ _ A n p a c (fun e => H.dat a e) (fun e => H.vat c e) (hw a c) (H.delta a)

/-- The gradient of the queries of a pair. -/
theorem Pair.dq (H : Pair A n p q k0 k1 v0 v1 yy l d)
    (hw : ∀ a c : Fin 256, w (ix2 a c) = ((P A (2 * p + a.val / 128) n (a.val % 128) c.val : ℝ) : EReal)) (r e : Fin 128) :
    k0_pay61 (F := Ideal) (k0_pay12 k0 k1) (k0_pay12 v0 v1) (k0_pay34 d yy k0_pay25) (k0_pay46 d) w (ix2 r e)
      = ((AttnSpec.dq A (2 * p + e.val / 64) n r.val (e.val % 64) : ℝ) : EReal) :=
  dq_at _ _ _ _ _ A n p H.kat (H.dsat hw) r e

/-- A pair's part of the gradient of the window's keys. -/
theorem Pair.dk (H : Pair A n p q k0 k1 v0 v1 yy l d)
    (hw : ∀ a c : Fin 256, w (ix2 a c) = ((P A (2 * p + a.val / 128) n (a.val % 128) c.val : ℝ) : EReal)) (c : Fin 256) (e : Fin 128) :
    k0_pay66 (F := Ideal) (k0_pay41 q) (k0_pay57 (k0_pay12 v0 v1) (k0_pay34 d yy k0_pay25) (k0_pay46 d) w) (ix2 c e)
      = ((dkc A (2 * p + e.val / 64) n c.val (e.val % 64) : ℝ) : EReal) :=
  dk_at _ _ A n p H.qat (H.dsat hw) c e

/-- A pair's part of the gradient of the window's values. -/
theorem Pair.dv (H : Pair A n p q k0 k1 v0 v1 yy l d)
    (hw : ∀ a c : Fin 256, w (ix2 a c) = ((P A (2 * p + a.val / 128) n (a.val % 128) c.val : ℝ) : EReal)) (c : Fin 256) (e : Fin 128) :
    k0_pay70 (F := Ideal) (k0_pay46 d) w (ix2 c e) = ((dvc A (2 * p + e.val / 64) n c.val (e.val % 64) : ℝ) : EReal) :=
  dv_at _ _ A n p H.dat hw c e

end Pairs

/-- The second half of a window's rows. -/
theorem upper_at (x : FVec Ideal S256x128 .f32) (r e : Fin 128) :
    k0_pay1 (F := Ideal) x (ix2 r e) = x (ix2 ⟨128 + r.val, by have := r.isLt; omega⟩ e) := by
  pointwise [k0_pay1]

/-- The carried part and the first half of a window's rows. -/
theorem lower_at (x : FVec Ideal S256x128 .f32) (o : FVec Ideal S128x128 .f32) (r e : Fin 128) :
    k0_pay80 (F := Ideal) x o (ix2 r e) = o (ix2 r e) + x (ix2 ⟨r.val, by have := r.isLt; omega⟩ e) := by
  pointwise [k0_pay80]

end Cert.AttnIdeal.Grad
-- ==== Proof.AttnOut.lean ====
module

public import proofs.«01_k».proof.Proof.Gen.AttnIdeal.Value
public import proofs.«01_k».proof.Proof.AttnBlock

@[expose] public section

set_option maxRecDepth 16384

noncomputable section

/-! What a grid point of the attention gradient leaves in each of its five results' blocks, as real numbers. -/

namespace Cert.AttnIdeal.Grad

open Cert.AttnIdeal Cert.AttnIdeal.Gen Cert.AttnSpec Idealize.ShloMosaic Idealize.ShloMosaic.TcCoe Idealize.SL.Sem Idealize.ShloMosaic.Tactic

section
variable (c : Dev nD) (i : grid0.Coords) (a1 : Memref sig .tc .vmem S128x512 .f32) (H1 : a1.IsWhole) (a2 : Memref sig .tc .vmem S128x512 .f32) (H2 : a2.IsWhole) (a3 : Memref sig .tc .vmem S128x512 .f32) (H3 : a3.IsWhole) (a4 : Memref sig .tc .vmem S128x512 .f32) (H4 : a4.IsWhole) (a5 : Memref sig .tc .vmem S128x512 .f32) (H5 : a5.IsWhole) (a6 : Memref sig .tc .vmem S128x512 .f32) (H6 : a6.IsWhole) (a7 : Memref sig .tc .vmem S128x512 .f32) (H7 : a7.IsWhole) (a8 : Memref sig .tc .vmem S128x512 .f32) (H8 : a8.IsWhole) (a9 : Memref sig .tc .vmem S128x512 .f32) (H9 : a9.IsWhole) (a10 : Memref sig .tc .vmem S128x512 .f32) (H10 : a10.IsWhole) (a11 : Memref sig .tc .vmem S128x512 .f32) (H11 : a11.IsWhole) (a12 : Memref sig .tc .vmem S128x512 .f32) (H12 : a12.IsWhole) (a13 : Memref sig .tc .vmem S128x512 .f32) (H13 : a13.IsWhole)

theorem out_A_8 (hc0 : cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (A : Ins) (n : ℕ) (hi : (i 0).val = n) (B : Blocks A n x0 x1 x2 x3 x4 x5 x6 x7) (r : Fin 128) (l : Fin 512) :
    out0_A_8 (F := Ideal) c i a1 H1 a2 H2 a3 H3 a4 H4 a5 H5 a6 H6 a7 H7 a8 H8 a9 H9 a10 H10 a11 H11 a12 H12 a13 H13 hc0 x0 x1 x2 x3 x4 x5 x6 x7 (ix2 r l) = ((AttnSpec.dq A (l.val / 64) n r.val (l.val % 64) : ℝ) : EReal) := by
  unfold out0_A_8
  rw [View.read_writes_eq_canon _ _ _ (cover0_A_8 c i a1 H1 a2 H2 a3 H3 a4 H4 a5 H5 a6 H6 a7 H7 a8 H8 a9 H9 a10 H10 a11 H11 a12 H12 a13 H13 hc0 x0 x1 x2 x3 x4 x5 x6 x7)]
  unfold kernelRun0_A; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    exact H.dq (H.w53 i hi) r e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    exact H.dq (H.w52 i hi) r e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    exact H.dq (H.w51 i hi) r e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  exact H.dq (H.w50 i hi) r e

theorem out_A_11 (hc0 : cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (A : Ins) (n : ℕ) (hi : (i 0).val = n) (B : Blocks A n x0 x1 x2 x3 x4 x5 x6 x7) (r : Fin 128) (l : Fin 512) :
    out0_A_11 (F := Ideal) c i a1 H1 a2 H2 a3 H3 a4 H4 a5 H5 a6 H6 a7 H7 a8 H8 a9 H9 a10 H10 a11 H11 a12 H12 a13 H13 hc0 x0 x1 x2 x3 x4 x5 x6 x7 (ix2 r l) = ((dkc A (l.val / 64) n (128 + r.val) (l.val % 64) : ℝ) : EReal) := by
  unfold out0_A_11
  rw [View.read_writes_eq_canon _ _ _ (cover0_A_11 c i a1 H1 a2 H2 a3 H3 a4 H4 a5 H5 a6 H6 a7 H7 a8 H8 a9 H9 a10 H10 a11 H11 a12 H12 a13 H13 hc0 x0 x1 x2 x3 x4 x5 x6 x7)]
  unfold kernelRun0_A; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [upper_at]
    exact H.dk (H.w53 i hi) _ e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [upper_at]
    exact H.dk (H.w52 i hi) _ e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [upper_at]
    exact H.dk (H.w51 i hi) _ e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [upper_at]
  exact H.dk (H.w50 i hi) _ e

theorem out_A_12 (hc0 : cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (A : Ins) (n : ℕ) (hi : (i 0).val = n) (B : Blocks A n x0 x1 x2 x3 x4 x5 x6 x7) (r : Fin 128) (l : Fin 512) :
    out0_A_12 (F := Ideal) c i a1 H1 a2 H2 a3 H3 a4 H4 a5 H5 a6 H6 a7 H7 a8 H8 a9 H9 a10 H10 a11 H11 a12 H12 a13 H13 hc0 x0 x1 x2 x3 x4 x5 x6 x7 (ix2 r l) = ((dvc A (l.val / 64) n (128 + r.val) (l.val % 64) : ℝ) : EReal) := by
  unfold out0_A_12
  rw [View.read_writes_eq_canon _ _ _ (cover0_A_12 c i a1 H1 a2 H2 a3 H3 a4 H4 a5 H5 a6 H6 a7 H7 a8 H8 a9 H9 a10 H10 a11 H11 a12 H12 a13 H13 hc0 x0 x1 x2 x3 x4 x5 x6 x7)]
  unfold kernelRun0_A; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [upper_at]
    exact H.dv (H.w53 i hi) _ e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [upper_at]
    exact H.dv (H.w52 i hi) _ e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [upper_at]
    exact H.dv (H.w51 i hi) _ e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [upper_at]
  exact H.dv (H.w50 i hi) _ e

theorem out_B_8 (hc0 : ¬cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (xo11 : Vec Ideal S128x512 .f32) (xo12 : Vec Ideal S128x512 .f32) (A : Ins) (n : ℕ) (hi : (i 0).val = n) (B : Blocks A n x0 x1 x2 x3 x4 x5 x6 x7) (r : Fin 128) (l : Fin 512) :
    out0_B_8 (F := Ideal) c i a1 H1 a2 H2 a3 H3 a4 H4 a5 H5 a6 H6 a7 H7 a8 H8 a9 H9 a10 H10 a11 H11 a12 H12 a13 H13 hc0 x0 x1 x2 x3 x4 x5 x6 x7 xo11 xo12 (ix2 r l) = ((AttnSpec.dq A (l.val / 64) n r.val (l.val % 64) : ℝ) : EReal) := by
  unfold out0_B_8
  rw [View.read_writes_eq_canon _ _ _ (cover0_B_8 c i a1 H1 a2 H2 a3 H3 a4 H4 a5 H5 a6 H6 a7 H7 a8 H8 a9 H9 a10 H10 a11 H11 a12 H12 a13 H13 hc0 x0 x1 x2 x3 x4 x5 x6 x7 xo11 xo12)]
  unfold kernelRun0_B; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    exact H.dq (H.w53 i hi) r e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    exact H.dq (H.w52 i hi) r e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    exact H.dq (H.w51 i hi) r e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  exact H.dq (H.w50 i hi) r e

theorem out_B_11 (hc0 : ¬cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (xo11 : Vec Ideal S128x512 .f32) (xo12 : Vec Ideal S128x512 .f32) (A : Ins) (n : ℕ) (hi : (i 0).val = n) (B : Blocks A n x0 x1 x2 x3 x4 x5 x6 x7) (r : Fin 128) (l : Fin 512) :
    out0_B_11 (F := Ideal) c i a1 H1 a2 H2 a3 H3 a4 H4 a5 H5 a6 H6 a7 H7 a8 H8 a9 H9 a10 H10 a11 H11 a12 H12 a13 H13 hc0 x0 x1 x2 x3 x4 x5 x6 x7 xo11 xo12 (ix2 r l) = ((dkc A (l.val / 64) n (128 + r.val) (l.val % 64) : ℝ) : EReal) := by
  unfold out0_B_11
  rw [View.read_writes_eq_canon _ _ _ (cover0_B_11 c i a1 H1 a2 H2 a3 H3 a4 H4 a5 H5 a6 H6 a7 H7 a8 H8 a9 H9 a10 H10 a11 H11 a12 H12 a13 H13 hc0 x0 x1 x2 x3 x4 x5 x6 x7 xo11 xo12)]
  unfold kernelRun0_B; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [upper_at]
    exact H.dk (H.w53 i hi) _ e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [upper_at]
    exact H.dk (H.w52 i hi) _ e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [upper_at]
    exact H.dk (H.w51 i hi) _ e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [upper_at]
  exact H.dk (H.w50 i hi) _ e

theorem out_B_12 (hc0 : ¬cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (xo11 : Vec Ideal S128x512 .f32) (xo12 : Vec Ideal S128x512 .f32) (A : Ins) (n : ℕ) (hi : (i 0).val = n) (B : Blocks A n x0 x1 x2 x3 x4 x5 x6 x7) (r : Fin 128) (l : Fin 512) :
    out0_B_12 (F := Ideal) c i a1 H1 a2 H2 a3 H3 a4 H4 a5 H5 a6 H6 a7 H7 a8 H8 a9 H9 a10 H10 a11 H11 a12 H12 a13 H13 hc0 x0 x1 x2 x3 x4 x5 x6 x7 xo11 xo12 (ix2 r l) = ((dvc A (l.val / 64) n (128 + r.val) (l.val % 64) : ℝ) : EReal) := by
  unfold out0_B_12
  rw [View.read_writes_eq_canon _ _ _ (cover0_B_12 c i a1 H1 a2 H2 a3 H3 a4 H4 a5 H5 a6 H6 a7 H7 a8 H8 a9 H9 a10 H10 a11 H11 a12 H12 a13 H13 hc0 x0 x1 x2 x3 x4 x5 x6 x7 xo11 xo12)]
  unfold kernelRun0_B; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [upper_at]
    exact H.dv (H.w53 i hi) _ e
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [upper_at]
    exact H.dv (H.w52 i hi) _ e
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [upper_at]
    exact H.dv (H.w51 i hi) _ e
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [upper_at]
  exact H.dv (H.w50 i hi) _ e

theorem out_B_9 (hc0 : ¬cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (xo11 : Vec Ideal S128x512 .f32) (xo12 : Vec Ideal S128x512 .f32) (A : Ins) (n : ℕ) (hi : (i 0).val = n) (B : Blocks A n x0 x1 x2 x3 x4 x5 x6 x7) (r : Fin 128) (l : Fin 512) :
    out0_B_9 (F := Ideal) c i a1 H1 a2 H2 a3 H3 a4 H4 a5 H5 a6 H6 a7 H7 a8 H8 a9 H9 a10 H10 a11 H11 a12 H12 a13 H13 hc0 x0 x1 x2 x3 x4 x5 x6 x7 xo11 xo12 (ix2 r l) = xo11 (ix2 r l) + ((dkc A (l.val / 64) n r.val (l.val % 64) : ℝ) : EReal) := by
  unfold out0_B_9
  rw [View.read_writes_eq_canon _ _ _ (cover0_B_9 c i a1 H1 a2 H2 a3 H3 a4 H4 a5 H5 a6 H6 a7 H7 a8 H8 a9 H9 a10 H10 a11 H11 a12 H12 a13 H13 hc0 x0 x1 x2 x3 x4 x5 x6 x7 xo11 xo12)]
  unfold kernelRun0_B; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [lower_at]
    refine congrArg₂ (· + ·) ?_ (H.dk (H.w53 i hi) _ e)
    exact (ld_slab xo11 384 _ r e (by omega)).trans (congrArg xo11 (congrArg (fun k : Fin 512 => (ix2 r k : S128x512.Idx)) (Fin.ext he.symm)))
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [lower_at]
    refine congrArg₂ (· + ·) ?_ (H.dk (H.w52 i hi) _ e)
    exact (ld_slab xo11 256 _ r e (by omega)).trans (congrArg xo11 (congrArg (fun k : Fin 512 => (ix2 r k : S128x512.Idx)) (Fin.ext he.symm)))
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [lower_at]
    refine congrArg₂ (· + ·) ?_ (H.dk (H.w51 i hi) _ e)
    exact (ld_slab xo11 128 _ r e (by omega)).trans (congrArg xo11 (congrArg (fun k : Fin 512 => (ix2 r k : S128x512.Idx)) (Fin.ext he.symm)))
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [lower_at]
  refine congrArg₂ (· + ·) ?_ (H.dk (H.w50 i hi) _ e)
  exact (ld_slab xo11 0 _ r e (by omega)).trans (congrArg xo11 (congrArg (fun k : Fin 512 => (ix2 r k : S128x512.Idx)) (Fin.ext he.symm)))

theorem out_B_10 (hc0 : ¬cond0_0 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (xo11 : Vec Ideal S128x512 .f32) (xo12 : Vec Ideal S128x512 .f32) (A : Ins) (n : ℕ) (hi : (i 0).val = n) (B : Blocks A n x0 x1 x2 x3 x4 x5 x6 x7) (r : Fin 128) (l : Fin 512) :
    out0_B_10 (F := Ideal) c i a1 H1 a2 H2 a3 H3 a4 H4 a5 H5 a6 H6 a7 H7 a8 H8 a9 H9 a10 H10 a11 H11 a12 H12 a13 H13 hc0 x0 x1 x2 x3 x4 x5 x6 x7 xo11 xo12 (ix2 r l) = xo12 (ix2 r l) + ((dvc A (l.val / 64) n r.val (l.val % 64) : ℝ) : EReal) := by
  unfold out0_B_10
  rw [View.read_writes_eq_canon _ _ _ (cover0_B_10 c i a1 H1 a2 H2 a3 H3 a4 H4 a5 H5 a6 H6 a7 H7 a8 H8 a9 H9 a10 H10 a11 H11 a12 H12 a13 H13 hc0 x0 x1 x2 x3 x4 x5 x6 x7 xo11 xo12)]
  unfold kernelRun0_B; dsimp only; sl_unfold_words
  simp only [View.readAt_eq_ld, H1.read_unread, H2.read_unread, H3.read_unread, H4.read_unread, H5.read_unread, H6.read_unread, H7.read_unread, H8.read_unread, H9.read_unread, H10.read_unread, H11.read_unread, H12.read_unread, H13.read_unread, eq_10, eq_11, eq_13, eq_14, eq_15, eq_16, eq_17, eq_18, eq_19, eq_20, eq_21, eq_22, eq_23, eq_24, eq_26, eq_27, eq_29, eq_32, eq_33, eq_38, eq_39, eq_40, eq_43, eq_44, eq_45, eq_47, eq_55, eq_56, eq_58, eq_59, eq_60, eq_62, eq_64, eq_65, eq_67, eq_68, eq_69, eq_71, eq_72, eq_73, eq_74, eq_75, eq_76, eq_77, eq_81, eq_3, eq_4, eq_78, eq_79, eq_2, eq_5, eq_6]
  have hl := l.isLt
  by_cases h3 : 384 ≤ l.val
  · obtain ⟨e, he⟩ : ∃ e : Fin 128, l.val = 384 + e.val := ⟨⟨l.val - 384, by omega⟩, by show l.val = 384 + (l.val - 384); omega⟩
    have e1 : l.val / 64 = 2 * 3 + e.val / 64 := by omega
    have e2 : l.val % 64 = e.val % 64 := by omega
    rw [canon_hit 384 _ _ _ r e l he, e1, e2]
    have H := B.pair 3 (by norm_num) 384 rfl inb_S128x512_S128x128_0_384
    rw [lower_at]
    refine congrArg₂ (· + ·) ?_ (H.dv (H.w53 i hi) _ e)
    exact (ld_slab xo12 384 _ r e (by omega)).trans (congrArg xo12 (congrArg (fun k : Fin 512 => (ix2 r k : S128x512.Idx)) (Fin.ext he.symm)))
  rw [canon_miss 384 _ _ _ _ _ (by omega)]
  by_cases h2 : 256 ≤ l.val
  · obtain ⟨e, he⟩ : ∃ e : Fin 128, l.val = 256 + e.val := ⟨⟨l.val - 256, by omega⟩, by show l.val = 256 + (l.val - 256); omega⟩
    have e1 : l.val / 64 = 2 * 2 + e.val / 64 := by omega
    have e2 : l.val % 64 = e.val % 64 := by omega
    rw [canon_hit 256 _ _ _ r e l he, e1, e2]
    have H := B.pair 2 (by norm_num) 256 rfl inb_S128x512_S128x128_0_256
    rw [lower_at]
    refine congrArg₂ (· + ·) ?_ (H.dv (H.w52 i hi) _ e)
    exact (ld_slab xo12 256 _ r e (by omega)).trans (congrArg xo12 (congrArg (fun k : Fin 512 => (ix2 r k : S128x512.Idx)) (Fin.ext he.symm)))
  rw [canon_miss 256 _ _ _ _ _ (by omega)]
  by_cases h1 : 128 ≤ l.val
  · obtain ⟨e, he⟩ : ∃ e : Fin 128, l.val = 128 + e.val := ⟨⟨l.val - 128, by omega⟩, by show l.val = 128 + (l.val - 128); omega⟩
    have e1 : l.val / 64 = 2 * 1 + e.val / 64 := by omega
    have e2 : l.val % 64 = e.val % 64 := by omega
    rw [canon_hit 128 _ _ _ r e l he, e1, e2]
    have H := B.pair 1 (by norm_num) 128 rfl inb_S128x512_S128x128_0_128
    rw [lower_at]
    refine congrArg₂ (· + ·) ?_ (H.dv (H.w51 i hi) _ e)
    exact (ld_slab xo12 128 _ r e (by omega)).trans (congrArg xo12 (congrArg (fun k : Fin 512 => (ix2 r k : S128x512.Idx)) (Fin.ext he.symm)))
  rw [canon_miss 128 _ _ _ _ _ (by omega)]
  obtain ⟨e, he⟩ : ∃ e : Fin 128, l.val = 0 + e.val := ⟨⟨l.val, by omega⟩, by show l.val = 0 + l.val; omega⟩
  have e1 : l.val / 64 = 2 * 0 + e.val / 64 := by omega
  have e2 : l.val % 64 = e.val % 64 := by omega
  rw [canon_hit 0 _ _ _ r e l he, e1, e2]
  have H := B.pair 0 (by norm_num) 0 rfl inb_S128x512_S128x128_0_0
  rw [lower_at]
  refine congrArg₂ (· + ·) ?_ (H.dv (H.w50 i hi) _ e)
  exact (ld_slab xo12 0 _ r e (by omega)).trans (congrArg xo12 (congrArg (fun k : Fin 512 => (ix2 r k : S128x512.Idx)) (Fin.ext he.symm)))
end

end Cert.AttnIdeal.Grad
-- ==== Proof.AttnIns.lean ====
module

public import proofs.«01_k».proof.Proof.AttnSpec
public import Idealize.ShloMosaic.Lib.Pointwise

@[expose] public section

noncomputable section

/-! The arrays of the attention gradient read as real numbers. -/

namespace Cert.AttnSpec

open Idealize.ShloMosaic

/-- An array of extended reals at a row and a lane, as a real; zero outside it. -/
def at2r {a b : ℕ} (f : (⟨2, ![a, b]⟩ : Shape).Idx → EReal) (i j : ℕ) : ℝ :=
  if h : i < a ∧ j < b then (f (ix2 ⟨i, h.1⟩ ⟨j, h.2⟩)).toReal else 0

/-- Every element is a real number. -/
def Fin2 {a b : ℕ} (f : (⟨2, ![a, b]⟩ : Shape).Idx → EReal) : Prop := ∀ i, f i ≠ ⊤ ∧ f i ≠ ⊥

/-- An element of an array of real numbers. -/
theorem at2r_coe {a b : ℕ} {f : (⟨2, ![a, b]⟩ : Shape).Idx → EReal} (hf : Fin2 f) (i : Fin a) (j : Fin b) :
    f (ix2 i j) = ((at2r f i.val j.val : ℝ) : EReal) := by
  unfold at2r
  rw [dif_pos ⟨i.isLt, j.isLt⟩]
  exact (EReal.coe_toReal (hf _).1 (hf _).2).symm

/-- The same, with the two coordinates given as numbers. -/
theorem at2r_at {a b : ℕ} {f : (⟨2, ![a, b]⟩ : Shape).Idx → EReal} (hf : Fin2 f) (i : Fin a) (j : Fin b) (x y : ℕ)
    (hx : i.val = x) (hy : j.val = y) : f (ix2 i j) = ((at2r f x y : ℝ) : EReal) := by
  subst hx hy
  exact at2r_coe hf i j

/-- The eight arguments as real numbers: the values are the lanes from 2560 on, the cotangent's the lanes from 512 on. -/
def ins {s0 s1 s2 s3 s4 s5 s6 s7 : ℕ}
    (x0 : (⟨2, ![8192, s0]⟩ : Shape).Idx → EReal) (x1 : (⟨2, ![8192, s1]⟩ : Shape).Idx → EReal)
    (x2 : (⟨2, ![8192, s2]⟩ : Shape).Idx → EReal) (x3 : (⟨2, ![8192, s3]⟩ : Shape).Idx → EReal)
    (x4 : (⟨2, ![8192, s4]⟩ : Shape).Idx → EReal) (x5 : (⟨2, ![8192, s5]⟩ : Shape).Idx → EReal)
    (x6 : (⟨2, ![8192, s6]⟩ : Shape).Idx → EReal) (x7 : (⟨2, ![8192, s7]⟩ : Shape).Idx → EReal) : Ins where
  q := at2r x0
  k := at2r x1
  v := fun i j => at2r x2 i (2560 + j)
  oa := at2r x3
  la := at2r x4
  ob := at2r x5
  lb := at2r x6
  d := fun i j => at2r x7 i (512 + j)

end Cert.AttnSpec

end
-- ==== Proof.AttnRefFwd.lean ====
module

public import proofs.«01_k».proof.Proof.Gen.AttnRefIdeal.Read
public import proofs.«01_k».proof.Proof.AttnPair
public import proofs.«01_k».proof.Proof.AttnIns

@[expose] public section

set_option maxRecDepth 16384

noncomputable section

/-! The reference's forward lines of the branch at an index, as real numbers. -/

namespace Cert.AttnRefIdeal.Grad

open Cert.AttnRefIdeal Cert.AttnRefIdeal.Gen Cert.AttnRefIdeal.Read Cert.AttnSpec Idealize.ShloMosaic Idealize.ShloMosaic.TcCoe Idealize.SL.Sem
open Cert.AttnIdeal.Grad (coe_sum coe_ite select_ofBool andi_ofBool toInt_small cmpi_sle cmpi_sge)

variable (x0 x1 : FVec Ideal S8192x512 .f32) (x2 : FVec Ideal S8192x3200 .f32)

/-- A head's block of queries. -/
theorem q_at (h0 : Fin2 x0) (h : Fin 8) (n : Fin 64) (r : Fin 128) (e : Fin 64) :
    val_main_v14 (F := Ideal) x0 (ix4 h n r e) = ((at2r x0 (128 * n.val + r.val) (64 * h.val + e.val) : ℝ) : EReal) := by
  pointwise [val_main_v14, val_main_v13, val_main_v1]
  exact at2r_at h0 _ _ _ _ (by show n.val * 128 + r.val = _; omega) (by show h.val * 64 + e.val = _; omega)

/-- A head's block of keys. -/
theorem kb_at (h1 : Fin2 x1) (h : Fin 8) (n : Fin 64) (r : Fin 128) (e : Fin 64) :
    val_main_v16 (F := Ideal) x1 (ix4 h n r e) = ((at2r x1 (128 * n.val + r.val) (64 * h.val + e.val) : ℝ) : EReal) := by
  pointwise [val_main_v16, val_main_v15, val_main_v2]
  exact at2r_at h1 _ _ _ _ (by show n.val * 128 + r.val = _; omega) (by show h.val * 64 + e.val = _; omega)

/-- The block of keys before a block: zeros before the first. -/
theorem kp_at (h1 : Fin2 x1) (h : Fin 8) (n : Fin 64) (r : Fin 128) (e : Fin 64) :
    val_main_v19 (F := Ideal) x1 (ix4 h n r e)
      = if n.val = 0 then 0 else ((at2r x1 (128 * (n.val - 1) + r.val) (64 * h.val + e.val) : ℝ) : EReal) := by
  pointwise [val_main_v19, val_main_v18, val_main_v17, val_main_cst_7]
  by_cases hn0 : n.val < 1
  · exact (dif_pos hn0).trans (if_pos (by omega)).symm
  · exact (dif_neg hn0).trans ((kb_at x1 h1 h ⟨n.val - 1, by omega⟩ r e).trans (if_neg (by omega)).symm)

/-- A head's window of keys: zeros before the first row. -/
theorem k_at (h1 : Fin2 x1) (h : Fin 8) (n : Fin 64) (c : Fin 256) (e : Fin 64) :
    val_main_v21 (F := Ideal) x1 (ix4 h n c e)
      = if n.val = 0 ∧ c.val < 128 then 0 else ((at2r x1 (kr n.val c.val) (64 * h.val + e.val) : ℝ) : EReal) := by
  pointwise [val_main_v21]
  have hc := c.isLt
  by_cases h1c : c.val < 128
  · refine (dif_pos h1c).trans ((kp_at x1 h1 h n ⟨c.val, h1c⟩ e).trans ?_)
    unfold kr
    by_cases hn0 : n.val = 0
    · rw [if_pos hn0, if_pos ⟨hn0, h1c⟩]
    · rw [if_neg hn0, if_neg (by omega), if_pos h1c]
  · refine (dif_neg h1c).trans ((kb_at x1 h1 h n ⟨c.val - 128, by omega⟩ e).trans ?_)
    unfold kr
    rw [if_neg (by omega), if_neg h1c]

/-- A head's block of values. -/
theorem vb_at (h2 : Fin2 x2) (h : Fin 8) (n : Fin 64) (r : Fin 128) (e : Fin 64) :
    val_main_v23 (F := Ideal) x2 (ix4 h n r e) = ((at2r x2 (128 * n.val + r.val) (2560 + (64 * h.val + e.val)) : ℝ) : EReal) := by
  pointwise [val_main_v23, val_main_v22, val_main_v3, val_main_v0]
  exact at2r_at h2 _ _ _ _ (by show n.val * 128 + r.val = _; omega) (by show 2560 + (h.val * 64 + e.val) = _; omega)

/-- The block of values before a block: zeros before the first. -/
theorem vp_at (h2 : Fin2 x2) (h : Fin 8) (n : Fin 64) (r : Fin 128) (e : Fin 64) :
    val_main_v26 (F := Ideal) x2 (ix4 h n r e)
      = if n.val = 0 then 0 else ((at2r x2 (128 * (n.val - 1) + r.val) (2560 + (64 * h.val + e.val)) : ℝ) : EReal) := by
  pointwise [val_main_v26, val_main_v25, val_main_v24, val_main_cst_9]
  by_cases hn0 : n.val < 1
  · exact (dif_pos hn0).trans (if_pos (by omega)).symm
  · exact (dif_neg hn0).trans ((vb_at x2 h2 h ⟨n.val - 1, by omega⟩ r e).trans (if_neg (by omega)).symm)

/-- A head's window of values: zeros before the first row. -/
theorem v_at (h2 : Fin2 x2) (h : Fin 8) (n : Fin 64) (c : Fin 256) (e : Fin 64) :
    val_main_v28 (F := Ideal) x2 (ix4 h n c e)
      = if n.val = 0 ∧ c.val < 128 then 0 else ((at2r x2 (kr n.val c.val) (2560 + (64 * h.val + e.val)) : ℝ) : EReal) := by
  pointwise [val_main_v28]
  have hc := c.isLt
  by_cases h1c : c.val < 128
  · refine (dif_pos h1c).trans ((vp_at x2 h2 h n ⟨c.val, h1c⟩ e).trans ?_)
    unfold kr
    by_cases hn0 : n.val = 0
    · rw [if_pos hn0, if_pos ⟨hn0, h1c⟩]
    · rw [if_neg hn0, if_neg (by omega), if_pos h1c]
  · refine (dif_neg h1c).trans ((vb_at x2 h2 h n ⟨c.val - 128, by omega⟩ e).trans ?_)
    unfold kr
    rw [if_neg (by omega), if_neg h1c]

/-- The slopes. -/
theorem slope_at (h : Fin 8) : val_main_v12 (F := Ideal) (ix1 h) = ((slp h.val : ℝ) : EReal) := by
  pointwise [val_main_v12, val_main_v4, val_main_v5, val_main_v6, val_main_v7, val_main_v8, val_main_v9, val_main_v10, val_main_v11,
    val_main_cst, val_main_cst_0, val_main_cst_1, val_main_cst_2, val_main_cst_3, val_main_cst_4, val_main_cst_5, val_main_cst_6]
  unfold slp
  obtain ⟨h, hh⟩ := h
  interval_cases h <;> simp [Ideal.ofBits, Ideal.ieee] <;> norm_num <;> rw [← EReal.coe_mul] <;> norm_num

/-- The distances, as words. -/
theorem rel_at (r : Fin 128) (c : Fin 256) :
    val_main_v38 (F := Ideal) (ix2 r c) = BitVec.ofNat 32 r.val + 128#32 - BitVec.ofNat 32 c.val := by
  pointwise [val_main_v38, val_main_v36, val_main_v35, val_main_v34, val_main_c, val_main_v31, val_main_v30, val_main_v37, val_main_v33, val_main_v32]
  rfl

/-- The window's rows, as words. -/
theorem key_at (n : Fin 64) (c : Fin 256) :
    val_main_v48 (F := Ideal) (ix3 n 0 c) = BitVec.ofNat 32 n.val * 128#32 + BitVec.ofNat 32 c.val - 128#32 := by
  pointwise [val_main_v48, val_main_v46, val_main_v44, val_main_v42, val_main_v40, val_main_v39, val_main_v41, val_main_c_11,
    val_main_v45, val_main_v43, val_main_v33, val_main_v32, val_main_v47, val_main_c_12]
  rfl

theorem rel_toInt (r c : ℕ) (hr : r < 128) (hc : c < 256) :
    (BitVec.ofNat 32 r + 128#32 - BitVec.ofNat 32 c).toInt = (r : ℤ) + 128 - c := by
  rw [BitVec.toInt_sub, BitVec.toInt_add, toInt_small _ (by omega), toInt_small c (by omega), toInt_small 128 (by omega)]
  simp only [Int.bmod]
  split_ifs <;> omega

theorem key_toInt (n c : ℕ) (hn : n < 64) (hc : c < 256) :
    (BitVec.ofNat 32 n * 128#32 + BitVec.ofNat 32 c - 128#32).toInt = (n : ℤ) * 128 + c - 128 := by
  rw [BitVec.toInt_sub, BitVec.toInt_add, BitVec.toInt_mul, toInt_small _ (by omega), toInt_small c (by omega), toInt_small 128 (by omega)]
  simp only [Int.bmod]
  split_ifs <;> omega

/-- Which columns a row sees. -/
theorem valid_at (h : Fin 8) (n : Fin 64) (r : Fin 128) (c : Fin 256) :
    val_main_v69_1 (F := Ideal) (ix4 h n r c) = BitVec.ofBool (decide (ok n.val r.val c.val)) := by
  pointwise [val_main_v69_1, val_main_v59, val_main_v57, val_main_v58, val_main_v56, val_main_v53, val_main_v50, val_main_v52, val_main_v49,
    val_main_v51, val_main_c_13, val_main_c_14, val_main_c_15, val_main_v55, val_main_v54]
  have hn := n.isLt; have hr := r.isLt; have hc := c.isLt
  rw [rel_at, key_at, cmpi_sge, cmpi_sle, cmpi_sge, andi_ofBool, andi_ofBool, rel_toInt _ _ hr hc, key_toInt _ _ hn hc]
  congr 1
  have e0 : (0#32 : BitVec 32).toInt = 0 := rfl
  have e1 : (128#32 : BitVec 32).toInt = 128 := rfl
  rw [e0, e1, Bool.eq_iff_iff]
  simp only [Bool.and_eq_true, decide_eq_true_eq]
  unfold ok
  constructor
  · rintro ⟨⟨h1, h2⟩, h3⟩
    exact ⟨by omega, by omega, by omega⟩
  · rintro ⟨h1, h2, h3⟩
    exact ⟨⟨by omega, by omega⟩, by omega⟩

/-- The scores, minus infinity where a row does not see a column. -/
theorem s_at (h0 : Fin2 x0) (h1 : Fin2 x1) (h : Fin 8) (n : Fin 64) (r : Fin 128) (c : Fin 256) (A : Ins) (hq : A.q = at2r x0) (hk : A.k = at2r x1) :
    val_main_v69_0 (F := Ideal) x0 x1 (ix4 h n r c)
      = if ok n.val r.val c.val then ((sc A h.val n.val r.val c.val : ℝ) : EReal) else ⊥ := by
  rw [val_main_v69_0_apply, valid_at, select_ofBool]
  by_cases hok : ok n.val r.val c.val
  · rw [if_pos hok, if_pos (by simpa using hok)]
    pointwise [val_main_v68, val_main_v29, val_main_v67, val_main_v66, val_main_v65, val_main_v64, val_main_v63, val_main_v62, val_main_v61, val_main_v60]
    have hs : ∑ e : Fin 64, val_main_v14 (F := Ideal) x0 (ix4 h n r e) * val_main_v21 (F := Ideal) x1 (ix4 h n c e)
        = ((∑ e : Fin 64, A.q (128 * n.val + r.val) (64 * h.val + e.val) * A.k (kr n.val c.val) (64 * h.val + e.val) : ℝ) : EReal) := by
      rw [← coe_sum]
      refine Finset.sum_congr rfl fun e _ => ?_
      rw [q_at x0 h0, k_at x1 h1, if_neg (by unfold ok at hok; omega), ← EReal.coe_mul, hq, hk]
    rw [hs, slope_at, rel_at, show FloatOps.sitofp (F := Ideal) FTy.f32 (BitVec.ofNat 32 r.val + 128#32 - BitVec.ofNat 32 c.val)
      = ((((BitVec.ofNat 32 r.val + 128#32 - BitVec.ofNat 32 c.val).toInt : ℤ) : ℝ) : EReal) from rfl, rel_toInt _ _ r.isLt c.isLt,
      ← EReal.coe_neg, ← EReal.coe_mul, ← EReal.coe_add]
    unfold sc
    congr 1
    push_cast
    ring
  · rw [if_neg hok, if_neg (by simpa using hok)]
    pointwise [val_main_call0_v2, val_main_call0_v0, val_main_cst_16]
    show Ideal.ofBits .f32 0xFF800000#32 = ⊥
    simp [Ideal.ofBits, Ideal.ieee]

/-- The greatest of finitely many extended reals is one of them. -/
theorem fold_max {n : ℕ} (hn : 0 < n) (f : Fin n → EReal) :
    (∃ c, (Finset.univ : Finset (Fin n)).fold max ⊥ f = f c) ∧ ∀ c, f c ≤ (Finset.univ : Finset (Fin n)).fold max ⊥ f := by
  constructor
  · obtain ⟨c, _, hc⟩ := Finset.exists_mem_eq_sup (Finset.univ : Finset (Fin n)) ⟨⟨0, hn⟩, Finset.mem_univ _⟩ f
    exact ⟨c, hc⟩
  · exact fun c => Finset.le_sup (f := f) (Finset.mem_univ c)

theorem neg_inf : Ideal.ofBits .f32 0xFF800000#32 = ⊥ := by simp [Ideal.ofBits, Ideal.ieee]

/-- The greatest score of a row is one of its scores, and at least each of them. -/
theorem m_at (h : Fin 8) (n : Fin 64) (r : Fin 128) :
    (∃ c : Fin 256, val_main_v70 (F := Ideal) x0 x1 (ix3 h n r) = val_main_v69_0 (F := Ideal) x0 x1 (ix4 h n r c))
      ∧ ∀ c : Fin 256, val_main_v69_0 (F := Ideal) x0 x1 (ix4 h n r c) ≤ val_main_v70 (F := Ideal) x0 x1 (ix3 h n r) := by
  have key := fold_max (by omega) fun c : Fin 256 => val_main_v69_0 (F := Ideal) x0 x1 (ix4 h n r c)
  have e : val_main_v70 (F := Ideal) x0 x1 (ix3 h n r)
      = (Finset.univ : Finset (Fin 256)).fold max ⊥ fun c => val_main_v69_0 (F := Ideal) x0 x1 (ix4 h n r c) := by
    pointwise [val_main_v70, val_main_cst_17]
    rw [neg_inf]
  rw [e]
  exact key

/-- So it is a real number, and some column attains it. -/
theorem m_real (h0 : Fin2 x0) (h1 : Fin2 x1) (h : Fin 8) (n : Fin 64) (r : Fin 128) :
    ∃ m : ℝ, val_main_v70 (F := Ideal) x0 x1 (ix3 h n r) = (m : EReal) := by
  obtain ⟨⟨c, hc⟩, hle⟩ := m_at x0 x1 h n r
  let A : Ins := ⟨at2r x0, at2r x1, at2r x0, at2r x0, at2r x0, at2r x0, at2r x0, at2r x0⟩
  have hb := hle ⟨r.val + 128, by omega⟩
  rw [s_at x0 x1 h0 h1 h n r _ A rfl rfl, if_pos ⟨by simp, by simp, Or.inr (by simp)⟩] at hb
  rw [s_at x0 x1 h0 h1 h n r c A rfl rfl] at hc
  by_cases hok : ok n.val r.val c.val
  · rw [if_pos hok] at hc
    exact ⟨_, hc⟩
  · rw [if_neg hok] at hc
    rw [hc] at hb
    exact absurd (le_bot_iff.mp hb) (EReal.coe_ne_bot _)

variable (A : Ins)

/-- A quotient of reals. -/
theorem div_real (x y : ℝ) (h : y ≠ 0) : Ideal.div (x : EReal) (y : EReal) = ((x / y : ℝ) : EReal) := by
  rw [Ideal.div_coe h, ← EReal.coe_mul]; congr 1; ring

/-- A weight of the reference: the exponential of the score less the row's greatest. -/
theorem p_at (h0 : Fin2 x0) (h1 : Fin2 x1) (hq : A.q = at2r x0) (hk : A.k = at2r x1) (h : Fin 8) (n : Fin 64) (r : Fin 128) (m : ℝ)
    (hm : val_main_v70 (F := Ideal) x0 x1 (ix3 h n r) = (m : EReal)) (c : Fin 256) :
    val_main_v79 (F := Ideal) x0 x1 (ix4 h n r c) = ((ex A h.val n.val r.val c.val * Real.exp (-m) : ℝ) : EReal) := by
  pointwise [val_main_v79, val_main_v78, val_main_v77, val_main_v76]
  rw [hm, s_at x0 x1 h0 h1 h n r c A hq hk]
  by_cases hok : ok n.val r.val c.val
  · rw [if_pos hok]
    unfold ex
    rw [if_pos hok, ← EReal.coe_sub, Ideal.exp_coe, sub_eq_add_neg, Real.exp_add]
  · rw [if_neg hok]
    unfold ex
    rw [if_neg hok, zero_mul, show (⊥ : EReal) - (m : EReal) = ⊥ from rfl, Ideal.exp_bot, EReal.coe_zero]

/-- A row's denominator of the reference. -/
theorem den_at (h0 : Fin2 x0) (h1 : Fin2 x1) (hq : A.q = at2r x0) (hk : A.k = at2r x1) (h : Fin 8) (n : Fin 64) (r : Fin 128) (m : ℝ)
    (hm : val_main_v70 (F := Ideal) x0 x1 (ix3 h n r) = (m : EReal)) :
    val_main_v81 (F := Ideal) x0 x1 (ix4 h n r 0) = ((W A h.val n.val r.val * Real.exp (-m) : ℝ) : EReal) := by
  pointwise [val_main_v81, val_main_v80, val_main_cst_19]
  unfold W
  rw [Finset.sum_mul, ← coe_sum]
  exact Finset.sum_congr rfl fun c _ => p_at x0 x1 A h0 h1 hq hk h n r m hm c

/-- A row's numerator of the reference. -/
theorem num_at (h0 : Fin2 x0) (h1 : Fin2 x1) (h2 : Fin2 x2) (hq : A.q = at2r x0) (hk : A.k = at2r x1) (hv : A.v = fun i j => at2r x2 i (2560 + j)) (h : Fin 8) (n : Fin 64) (r : Fin 128) (m : ℝ)
    (hm : val_main_v70 (F := Ideal) x0 x1 (ix3 h n r) = (m : EReal)) (e : Fin 64) :
    val_main_v82 (F := Ideal) x0 x1 x2 (ix4 h n r e) = ((num A h.val n.val r.val e.val * Real.exp (-m) : ℝ) : EReal) := by
  pointwise [val_main_v82]
  unfold num
  rw [Finset.sum_mul, ← coe_sum]
  refine Finset.sum_congr rfl fun c _ => ?_
  rw [p_at x0 x1 A h0 h1 hq hk h n r m hm c, v_at x2 h2]
  by_cases hz : n.val = 0 ∧ c.val < 128
  · rw [if_pos hz, mul_zero]
    have : ¬ ok n.val r.val c.val := by unfold ok; omega
    unfold ex
    rw [if_neg this, zero_mul, zero_mul, EReal.coe_zero]
  · rw [if_neg hz, ← EReal.coe_mul, hv]
    exact congrArg (fun t : ℝ => (t : EReal)) (mul_right_comm _ _ _)

/-- Row `128 n + r`. -/
def row (n : Fin 64) (r : Fin 128) : Fin 8192 := ⟨128 * n.val + r.val, by omega⟩

/-- The branch's output. -/
theorem o_at (h0 : Fin2 x0) (h1 : Fin2 x1) (h2 : Fin2 x2) (hq : A.q = at2r x0) (hk : A.k = at2r x1) (hv : A.v = fun i j => at2r x2 i (2560 + j)) (h : Fin 8) (n : Fin 64) (r : Fin 128) (e : Fin 64) :
    val_main_v92 (F := Ideal) x0 x1 x2 (ix3 (row n r) h e) = ((num A h.val n.val r.val e.val / W A h.val n.val r.val : ℝ) : EReal) := by
  pointwise [val_main_v92, val_main_v91, val_main_v84, val_main_v83]
  have e1 : (⟨(row n r).val / 128, by have := (row n r).isLt; omega⟩ : Fin 64) = n := Fin.ext (by show (128 * n.val + r.val) / 128 = n.val; omega)
  have e2 : (⟨(row n r).val % 128, by omega⟩ : Fin 128) = r := Fin.ext (by show (128 * n.val + r.val) % 128 = r.val; omega)
  rw [e1, e2]
  obtain ⟨m, hm⟩ := m_real x0 x1 h0 h1 h n r
  have hW := (W_pos A h.val n.val r.val r.isLt).ne'
  have hx := (Real.exp_pos (-m)).ne'
  rw [num_at x0 x1 x2 A h0 h1 h2 hq hk hv h n r m hm, den_at x0 x1 A h0 h1 hq hk h n r m hm, div_real _ _ (mul_ne_zero hW hx),
    mul_div_mul_right _ _ hx]

/-- The branch's log-denominator. -/
theorem lse4_at (h0 : Fin2 x0) (h1 : Fin2 x1) (hq : A.q = at2r x0) (hk : A.k = at2r x1) (h : Fin 8) (n : Fin 64) (r : Fin 128) :
    val_main_v89 (F := Ideal) x0 x1 (ix4 h n r 0) = ((Real.log (W A h.val n.val r.val) : ℝ) : EReal) := by
  obtain ⟨m, hm⟩ := m_real x0 x1 h0 h1 h n r
  have hW := W_pos A h.val n.val r.val r.isLt
  rw [val_main_v89_apply, val_main_v88_apply, val_main_v76_apply,
    show idx_main_v76 (ix4 h n r 0) = ix3 h n r from funext fun a => match a with | ⟨0, _⟩ => rfl | ⟨1, _⟩ => rfl | ⟨2, _⟩ => rfl,
    hm, den_at x0 x1 A h0 h1 hq hk h n r m hm, Ideal.hostUnary_log_def, Ideal.addf_def, Ideal.log_coe, if_neg (not_le.mpr (mul_pos hW (Real.exp_pos _))), ← EReal.coe_add,
    Real.log_mul hW.ne' (Real.exp_pos _).ne', Real.log_exp]
  exact congrArg (fun t : ℝ => (t : EReal)) (by ring)

/-- The branch's log-denominator, without the last axis. -/
theorem lse3_at (h0 : Fin2 x0) (h1 : Fin2 x1) (hq : A.q = at2r x0) (hk : A.k = at2r x1) (h : Fin 8) (n : Fin 64) (r : Fin 128) :
    val_main_v90 (F := Ideal) x0 x1 (ix3 h n r) = ((Real.log (W A h.val n.val r.val) : ℝ) : EReal) := by
  rw [val_main_v90_apply, ← lse4_at x0 x1 A h0 h1 hq hk h n r]
  congr 1
  have hh := h.isLt; have hn := n.isLt; have hr := r.isLt
  funext a; apply Fin.ext
  match a with
  | ⟨0, _⟩ => show ((h.val * 64 + n.val) * 128 + r.val) / 8192 = h.val; omega
  | ⟨1, _⟩ => show ((h.val * 64 + n.val) * 128 + r.val) / 128 % 64 = n.val; omega
  | ⟨2, _⟩ => show ((h.val * 64 + n.val) * 128 + r.val) / 1 % 128 = r.val; omega
  | ⟨3, _⟩ => rfl

/-- The branch's log-denominator, by row and head. -/
theorem lse_at (h0 : Fin2 x0) (h1 : Fin2 x1) (hq : A.q = at2r x0) (hk : A.k = at2r x1) (h : Fin 8) (n : Fin 64) (r : Fin 128) :
    val_main_v94 (F := Ideal) x0 x1 (ix2 (row n r) h) = ((Real.log (W A h.val n.val r.val) : ℝ) : EReal) := by
  rw [val_main_v94_apply, val_main_v93_apply, ← lse3_at x0 x1 A h0 h1 hq hk h n r]
  congr 1
  have hh := h.isLt; have hn := n.isLt; have hr := r.isLt
  funext a; apply Fin.ext
  match a with
  | ⟨0, _⟩ => show (h.val * 8192 + (128 * n.val + r.val)) / 8192 = h.val; omega
  | ⟨1, _⟩ => show (h.val * 8192 + (128 * n.val + r.val)) / 128 % 64 = n.val; omega
  | ⟨2, _⟩ => show (h.val * 8192 + (128 * n.val + r.val)) % 128 = r.val; omega

end Cert.AttnRefIdeal.Grad

end
-- ==== Proof.AttnRefVal.lean ====
module

public import proofs.«01_k».proof.Proof.AttnRefFwd

@[expose] public section

set_option maxRecDepth 16384

noncomputable section

/-! The reference's derivative of the merged attention at an index, as real numbers. -/

namespace Cert.AttnRefIdeal.Grad

open Cert.AttnRefIdeal Cert.AttnRefIdeal.Gen Cert.AttnRefIdeal.Read Cert.AttnSpec Idealize.ShloMosaic Idealize.ShloMosaic.TcCoe Idealize.SL.Sem
open Cert.AttnIdeal.Grad (coe_sum coe_ite select_ofBool andi_ofBool toInt_small cmpi_sle cmpi_sge)

variable (x0 x1 : FVec Ideal S8192x512 .f32) (x2 : FVec Ideal S8192x3200 .f32) (x3 : FVec Ideal S8192x512 .f32) (x4 : FVec Ideal S8192x8 .f32)
  (x5 : FVec Ideal S8192x512 .f32) (x6 : FVec Ideal S8192x8 .f32) (x7 : FVec Ideal S8192x1024 .f32)

/-- The eight arguments hold real numbers, those of `A`. -/
structure Reals (A : Ins) : Prop where
  f0 : Fin2 x0
  f1 : Fin2 x1
  f2 : Fin2 x2
  f3 : Fin2 x3
  f4 : Fin2 x4
  f5 : Fin2 x5
  f6 : Fin2 x6
  f7 : Fin2 x7
  hA : A = ins x0 x1 x2 x3 x4 x5 x6 x7

variable {x0 x1 x2 x3 x4 x5 x6 x7} {A : Ins} (R : Reals x0 x1 x2 x3 x4 x5 x6 x7 A)
include R

theorem Reals.q : A.q = at2r x0 := by rw [R.hA]; rfl
theorem Reals.k : A.k = at2r x1 := by rw [R.hA]; rfl
theorem Reals.v : A.v = fun i j => at2r x2 i (2560 + j) := by rw [R.hA]; rfl

omit R in
/-- A branch's log-denominator: the branch of the window, then the other two. -/
def lg (A : Ins) (h n r g : ℕ) : ℝ :=
  if g < 1 then Real.log (W A h n r) else if g - 1 < 1 then A.la (128 * n + r) h else A.lb (128 * n + r) h

omit R in
/-- A branch's denominator. -/
def xg (A : Ins) (h n r g : ℕ) : ℝ :=
  if g < 1 then W A h n r else if g - 1 < 1 then Real.exp (A.la (128 * n + r) h) else Real.exp (A.lb (128 * n + r) h)

omit R in
/-- A branch's output. -/
def og (A : Ins) (h n r g e : ℕ) : ℝ :=
  if g < 1 then num A h n r e / W A h n r
  else if g - 1 < 1 then A.oa (128 * n + r) (64 * h + e) else A.ob (128 * n + r) (64 * h + e)

omit R in
theorem exp_lg (A : Ins) (h n r g : ℕ) (hr : r < 128) : Real.exp (lg A h n r g) = xg A h n r g := by
  unfold lg xg
  split_ifs
  · exact Real.exp_log (W_pos A h n r hr)
  · rfl
  · rfl

/-- The three log-denominators. -/
theorem lg_at (h : Fin 8) (n : Fin 64) (r : Fin 128) (g : Fin 3) :
    val_main_v100 (F := Ideal) x0 x1 x4 x6 (ix3 g (row n r) h) = ((lg A h.val n.val r.val g.val : ℝ) : EReal) := by
  pointwise [val_main_v100, val_main_v97, val_main_v98, val_main_v99]
  unfold lg
  by_cases hg : g.val < 1
  · rw [if_pos hg]
    exact (dif_pos hg).trans (lse_at x0 x1 A R.f0 R.f1 R.q R.k h n r)
  · rw [if_neg hg]
    refine (dif_neg hg).trans ?_
    by_cases hg' : g.val - 1 < 1
    · rw [if_pos hg', R.hA]
      exact (dif_pos hg').trans (at2r_at R.f4 _ _ _ _ rfl rfl)
    · rw [if_neg hg', R.hA]
      exact (dif_neg hg').trans (at2r_at R.f6 _ _ _ _ rfl rfl)

/-- Their greatest is a real number. -/
theorem M_real (h : Fin 8) (n : Fin 64) (r : Fin 128) :
    ∃ M : ℝ, val_main_v110 (F := Ideal) x0 x1 x4 x6 (ix2 (row n r) h) = (M : EReal) := by
  obtain ⟨⟨g, hg⟩, _⟩ := fold_max (by omega) fun g : Fin 3 => val_main_v100 (F := Ideal) x0 x1 x4 x6 (ix3 g (row n r) h)
  have e : val_main_v103 (F := Ideal) x0 x1 x4 x6 (ix2 (row n r) h)
      = (Finset.univ : Finset (Fin 3)).fold max ⊥ fun g => val_main_v100 (F := Ideal) x0 x1 x4 x6 (ix3 g (row n r) h) := by
    pointwise [val_main_v103, val_main_cst_23]
    rw [neg_inf]
  refine ⟨lg A h.val n.val r.val g.val, ?_⟩
  pointwise [val_main_v110, val_main_v109, val_main_cst_25]
  rw [neg_inf, e, hg, lg_at R]
  exact max_eq_right bot_le

/-- The three branches' weights before their division. -/
theorem E_at (h : Fin 8) (n : Fin 64) (r : Fin 128) (M : ℝ)
    (hM : val_main_v110 (F := Ideal) x0 x1 x4 x6 (ix2 (row n r) h) = (M : EReal)) (g : Fin 3) :
    val_main_v123 (F := Ideal) x0 x1 x4 x6 (ix3 g (row n r) h) = ((xg A h.val n.val r.val g.val * Real.exp (-M) : ℝ) : EReal) := by
  pointwise [val_main_v123, val_main_v122, val_main_v121, val_main_v120]
  rw [lg_at R, hM, ← EReal.coe_sub, Ideal.exp_coe, sub_eq_add_neg, Real.exp_add, exp_lg A _ _ _ _ r.isLt]

/-- Their sum. -/
theorem Z_at (h : Fin 8) (n : Fin 64) (r : Fin 128) (M : ℝ)
    (hM : val_main_v110 (F := Ideal) x0 x1 x4 x6 (ix2 (row n r) h) = (M : EReal)) :
    val_main_v125 (F := Ideal) x0 x1 x4 x6 (ix3 0 (row n r) h) = ((Zt A h.val n.val r.val * Real.exp (-M) : ℝ) : EReal) := by
  pointwise [val_main_v125, val_main_v124, val_main_cst_31]
  rw [Fin.sum_univ_three, E_at R h n r M hM, E_at R h n r M hM, E_at R h n r M hM, ← EReal.coe_add, ← EReal.coe_add, ← add_mul, ← add_mul]
  rfl

/-- The three branches' outputs. -/
theorem og_at (h : Fin 8) (n : Fin 64) (r : Fin 128) (g : Fin 3) (e : Fin 64) :
    val_main_v135 (F := Ideal) x0 x1 x2 x3 x5 (ix4 g (row n r) h e) = ((og A h.val n.val r.val g.val e.val : ℝ) : EReal) := by
  pointwise [val_main_v135, val_main_v134, val_main_v133, val_main_v132, val_main_v95, val_main_v96]
  unfold og
  by_cases hg : g.val < 1
  · rw [if_pos hg]
    exact (dif_pos hg).trans (o_at x0 x1 x2 A R.f0 R.f1 R.f2 R.q R.k R.v h n r e)
  · rw [if_neg hg]
    refine (dif_neg hg).trans ?_
    by_cases hg' : g.val - 1 < 1
    · rw [if_pos hg', R.hA]
      exact (dif_pos hg').trans (at2r_at R.f3 _ _ _ _ rfl (by show h.val * 64 + e.val = _; omega))
    · rw [if_neg hg', R.hA]
      exact (dif_neg hg').trans (at2r_at R.f5 _ _ _ _ rfl (by show h.val * 64 + e.val = _; omega))

/-- The cotangent. -/
theorem d_at (h : Fin 8) (n : Fin 64) (r : Fin 128) (e : Fin 64) :
    val_main_v143 (F := Ideal) x7 (ix3 (row n r) h e) = ((A.d (128 * n.val + r.val) (64 * h.val + e.val) : ℝ) : EReal) := by
  pointwise [val_main_v143, val_main_v142]
  rw [R.hA]
  exact at2r_at R.f7 _ _ _ _ rfl (by show 512 + (h.val * 64 + e.val) = _; omega)

/-- The cotangent of the branch's output. -/
theorem do_at (h : Fin 8) (n : Fin 64) (r : Fin 128) (e : Fin 64) :
    val_main_v151 (F := Ideal) x0 x1 x4 x6 x7 (ix3 (row n r) h e)
      = ((W A h.val n.val r.val / Zt A h.val n.val r.val * A.d (128 * n.val + r.val) (64 * h.val + e.val) : ℝ) : EReal) := by
  pointwise [val_main_v151, val_main_v150, val_main_v146, val_main_v145, val_main_v144, val_main_v131, val_main_v127, val_main_v126]
  obtain ⟨M, hM⟩ := M_real R h n r
  have hZ := (Zt_pos A h.val n.val r.val r.isLt).ne'
  have hx := (Real.exp_pos (-M)).ne'
  rw [E_at R h n r M hM, Z_at R h n r M hM, d_at R, div_real _ _ (mul_ne_zero hZ hx), mul_div_mul_right _ _ hx, ← EReal.coe_mul]
  rfl

/-- The cotangents of the three branches' weights. -/
theorem dw_at (h : Fin 8) (n : Fin 64) (r : Fin 128) (g : Fin 3) :
    val_main_v156 (F := Ideal) x0 x1 x2 x3 x5 x7 (ix3 g (row n r) h)
      = ((∑ e : Fin 64, A.d (128 * n.val + r.val) (64 * h.val + e.val) * og A h.val n.val r.val g.val e.val : ℝ) : EReal) := by
  pointwise [val_main_v156, val_main_v149, val_main_v148, val_main_v147, val_main_v144, val_main_cst_37, val_main_cst_36]
  rw [Finset.univ_unique, Finset.sum_singleton, ← coe_sum]
  exact Finset.sum_congr rfl fun e _ => by rw [d_at R, og_at R, ← EReal.coe_mul]

omit R in
theorem div_one_real (z : ℝ) (hz : z ≠ 0) : Ideal.div 1 ((z : EReal) * (z : EReal)) = ((1 / (z * z) : ℝ) : EReal) := by
  rw [← EReal.coe_mul, ← EReal.coe_one, div_real _ _ (mul_ne_zero hz hz)]

/-- The cotangent of the branch's log-denominator. -/
theorem dl0_at (h : Fin 8) (n : Fin 64) (r : Fin 128) :
    val_main_v170 (F := Ideal) x0 x1 x2 x3 x4 x5 x6 x7 (ix2 (row n r) h)
      = ((W A h.val n.val r.val / Zt A h.val n.val r.val
          * ((∑ e : Fin 64, A.d (128 * n.val + r.val) (64 * h.val + e.val) * (num A h.val n.val r.val e.val / W A h.val n.val r.val))
            - dl A h.val n.val r.val) : ℝ) : EReal) := by
  pointwise [val_main_v170, val_main_v169, val_main_v168, val_main_v167, val_main_v166, val_main_v165, val_main_v164, val_main_v163, val_main_v162,
    val_main_v161, val_main_v160, val_main_v159, val_main_v158, val_main_v157, val_main_v130, val_main_v129, val_main_v128, val_main_cst_38,
    val_main_cst_39, val_main_cst_32]
  obtain ⟨M, hM⟩ := M_real R h n r
  have hW := W_pos A h.val n.val r.val r.isLt
  have hZ := (Zt_pos A h.val n.val r.val r.isLt).ne'
  have hx := (Real.exp_pos (-M)).ne'
  rw [Finset.univ_unique, Finset.sum_singleton, Fin.sum_univ_three]
  rw [E_at R h n r M hM, E_at R h n r M hM, E_at R h n r M hM, Z_at R h n r M hM, dw_at R, dw_at R, dw_at R, div_one_real _ (mul_ne_zero hZ hx),
    div_real _ _ (mul_ne_zero hZ hx)]
  simp only [← EReal.coe_mul, ← EReal.coe_add, ← EReal.coe_neg]
  refine congrArg (fun t : ℝ => (t : EReal)) ?_
  have key := row_dl0 (W A h.val n.val r.val) (Real.exp (A.la (128 * n.val + r.val) h.val)) (Real.exp (A.lb (128 * n.val + r.val) h.val)) 1
    (Real.exp (-M)) hW (Real.exp_pos _) (Real.exp_pos _) one_pos (Real.exp_pos _) _ _ _ (Zt A h.val n.val r.val * Real.exp (-M))
    (∑ e : Fin 64, A.d (128 * n.val + r.val) (64 * h.val + e.val) * og A h.val n.val r.val 0 e.val)
    (∑ e : Fin 64, A.d (128 * n.val + r.val) (64 * h.val + e.val) * og A h.val n.val r.val 1 e.val)
    (∑ e : Fin 64, A.d (128 * n.val + r.val) (64 * h.val + e.val) * og A h.val n.val r.val 2 e.val) rfl rfl rfl (by unfold Zt; ring)
  rw [dl_eq A h.val n.val r.val r.isLt]
  exact key

omit R in
theorem row_eq (n : Fin 64) (r : Fin 128) (i : Fin 8192) (hi : i.val = n.val * 128 + r.val) : i = row n r :=
  Fin.ext (by rw [hi]; show _ = 128 * n.val + r.val; omega)

/-- The cotangent of the branch's output, by block. -/
theorem dob_at (h : Fin 8) (n : Fin 64) (r : Fin 128) (e : Fin 64) :
    val_main_v178 (F := Ideal) x0 x1 x4 x6 x7 (ix4 h n r e)
      = ((W A h.val n.val r.val / Zt A h.val n.val r.val * A.d (128 * n.val + r.val) (64 * h.val + e.val) : ℝ) : EReal) := by
  pointwise [val_main_v178, val_main_v177]
  exact (congrArg (fun i => val_main_v151 (F := Ideal) x0 x1 x4 x6 x7 (ix3 i h e)) (row_eq n r ⟨n.val * 128 + r.val, by omega⟩ rfl)).trans
    (do_at R h n r e)

/-- The cotangent of the branch's log-denominator, by block. -/
theorem dlb_at (h : Fin 8) (n : Fin 64) (r : Fin 128) :
    val_main_v179 (F := Ideal) x0 x1 x2 x3 x4 x5 x6 x7 (ix4 h n r 0)
      = ((W A h.val n.val r.val / Zt A h.val n.val r.val
          * ((∑ e : Fin 64, A.d (128 * n.val + r.val) (64 * h.val + e.val) * (num A h.val n.val r.val e.val / W A h.val n.val r.val))
            - dl A h.val n.val r.val) : ℝ) : EReal) := by
  pointwise [val_main_v179, val_main_v176, val_main_v175]
  exact (congrArg (fun i => val_main_v170 (F := Ideal) x0 x1 x2 x3 x4 x5 x6 x7 (ix2 i h)) (row_eq n r ⟨n.val * 128 + r.val, by omega⟩ rfl)).trans
    (dl0_at R h n r)

/-- The cotangent of the denominator. -/
theorem dden_at (h : Fin 8) (n : Fin 64) (r : Fin 128) (m : ℝ) (hm : val_main_v70 (F := Ideal) x0 x1 (ix3 h n r) = (m : EReal)) :
    val_main_v187 (F := Ideal) x0 x1 x2 x3 x4 x5 x6 x7 (ix4 h n r 0)
      = ((W A h.val n.val r.val / Zt A h.val n.val r.val
            * ((∑ e : Fin 64, A.d (128 * n.val + r.val) (64 * h.val + e.val) * (num A h.val n.val r.val e.val / W A h.val n.val r.val))
              - dl A h.val n.val r.val) / (W A h.val n.val r.val * Real.exp (-m))
          + -(W A h.val n.val r.val / Zt A h.val n.val r.val
            * (∑ e : Fin 64, A.d (128 * n.val + r.val) (64 * h.val + e.val) * (num A h.val n.val r.val e.val / W A h.val n.val r.val))
              / (W A h.val n.val r.val * Real.exp (-m))) : ℝ) : EReal) := by
  pointwise [val_main_v187, val_main_v186, val_main_v185, val_main_v184, val_main_v183, val_main_v182, val_main_v181, val_main_v180, val_main_v87,
    val_main_v86, val_main_v85, val_main_cst_40, val_main_cst_20]
  have hW := (W_pos A h.val n.val r.val r.isLt).ne'
  have hZ := (Zt_pos A h.val n.val r.val r.isLt).ne'
  have hx := (Real.exp_pos (-m)).ne'
  have hs : ∀ e : Fin 64, val_main_v178 (F := Ideal) x0 x1 x4 x6 x7 (ix4 h n r e)
        * Ideal.div 1 (val_main_v81 (F := Ideal) x0 x1 (ix4 h n r 0) * val_main_v81 (F := Ideal) x0 x1 (ix4 h n r 0))
        * val_main_v82 (F := Ideal) x0 x1 x2 (ix4 h n r e)
      = ((W A h.val n.val r.val / Zt A h.val n.val r.val
          * (A.d (128 * n.val + r.val) (64 * h.val + e.val) * (num A h.val n.val r.val e.val / W A h.val n.val r.val))
            / (W A h.val n.val r.val * Real.exp (-m)) : ℝ) : EReal) := fun e => by
    rw [dob_at R, den_at x0 x1 A R.f0 R.f1 R.q R.k h n r m hm, num_at x0 x1 x2 A R.f0 R.f1 R.f2 R.q R.k R.v h n r m hm,
      div_one_real _ (mul_ne_zero hW hx), ← EReal.coe_mul, ← EReal.coe_mul]
    refine congrArg (fun t : ℝ => (t : EReal)) ?_
    field_simp
  rw [Finset.sum_congr rfl fun e _ => hs e, coe_sum, dlb_at R, den_at x0 x1 A R.f0 R.f1 R.q R.k h n r m hm, div_real _ _ (mul_ne_zero hW hx),
    ← EReal.coe_neg, ← EReal.coe_add, ← Finset.sum_div, ← Finset.mul_sum]

/-- The cotangent of the numerator. -/
theorem dnum_at (h : Fin 8) (n : Fin 64) (r : Fin 128) (m : ℝ) (hm : val_main_v70 (F := Ideal) x0 x1 (ix3 h n r) = (m : EReal)) (e : Fin 64) :
    Ideal.div (val_main_v178 (F := Ideal) x0 x1 x4 x6 x7 (ix4 h n r e)) (val_main_v81 (F := Ideal) x0 x1 (ix4 h n r 0))
      = ((W A h.val n.val r.val / Zt A h.val n.val r.val * A.d (128 * n.val + r.val) (64 * h.val + e.val)
          / (W A h.val n.val r.val * Real.exp (-m)) : ℝ) : EReal) := by
  have hW := (W_pos A h.val n.val r.val r.isLt).ne'
  have hx := (Real.exp_pos (-m)).ne'
  rw [dob_at R, den_at x0 x1 A R.f0 R.f1 R.q R.k h n r m hm, div_real _ _ (mul_ne_zero hW hx)]

/-- What a block adds to the gradient of its window's values. -/
theorem dvc_at (h : Fin 8) (n : Fin 64) (c : Fin 256) (e : Fin 64) :
    val_main_v191 (F := Ideal) x0 x1 x4 x6 x7 (ix4 h n c e) = ((dvc A h.val n.val c.val e.val : ℝ) : EReal) := by
  pointwise [val_main_v191, val_main_v190, val_main_v189, val_main_v188]
  unfold dvc
  rw [← coe_sum]
  refine Finset.sum_congr rfl fun r _ => ?_
  obtain ⟨m, hm⟩ := m_real x0 x1 R.f0 R.f1 h n r
  have hW := (W_pos A h.val n.val r.val r.isLt).ne'
  have hx := (Real.exp_pos (-m)).ne'
  rw [dnum_at R h n r m hm, p_at x0 x1 A R.f0 R.f1 R.q R.k h n r m hm c, ← EReal.coe_mul]
  refine congrArg (fun t : ℝ => (t : EReal)) ?_
  unfold P
  have hZ := (Zt_pos A h.val n.val r.val r.isLt).ne'
  field_simp

/-- The gradient of a score. -/
theorem dS_at (h : Fin 8) (n : Fin 64) (r : Fin 128) (c : Fin 256) :
    val_main_v196 (F := Ideal) x0 x1 x2 x3 x4 x5 x6 x7 (ix4 h n r c) = ((dS A h.val n.val r.val c.val : ℝ) : EReal) := by
  obtain ⟨m, hm⟩ := m_real x0 x1 R.f0 R.f1 h n r
  have hp := p_at x0 x1 A R.f0 R.f1 R.q R.k h n r m hm c
  by_cases hz : n.val = 0 ∧ c.val < 128
  · have hok : ¬ ok n.val r.val c.val := by unfold ok; omega
    have hex : ex A h.val n.val r.val c.val = 0 := by unfold ex; rw [if_neg hok]
    rw [hex, zero_mul, EReal.coe_zero] at hp
    rw [val_main_v196_apply, hp, Ideal.mulf_def, mul_zero]
    unfold dS P
    rw [hex, zero_div, zero_mul, EReal.coe_zero]
  · pointwise [val_main_v196, val_main_v195, val_main_v194, val_main_v193, val_main_v192, val_main_v189, val_main_v188, val_main_cst_41]
    rw [Fin.sum_univ_one]
    have hs : ∀ e : Fin 64, Ideal.div (val_main_v178 (F := Ideal) x0 x1 x4 x6 x7 (ix4 h n r e)) (val_main_v81 (F := Ideal) x0 x1 (ix4 h n r 0))
          * val_main_v28 (F := Ideal) x2 (ix4 h n c e)
        = ((W A h.val n.val r.val / Zt A h.val n.val r.val / (W A h.val n.val r.val * Real.exp (-m))
          * (A.d (128 * n.val + r.val) (64 * h.val + e.val) * A.v (kr n.val c.val) (64 * h.val + e.val)) : ℝ) : EReal) := fun e => by
      rw [dnum_at R h n r m hm, v_at x2 R.f2, if_neg hz, ← EReal.coe_mul, R.v]
      exact congrArg (fun t : ℝ => (t : EReal)) (by ring)
    rw [Finset.sum_congr rfl fun e _ => hs e, coe_sum, ← Finset.mul_sum, hp,
      dden_at R h n r m hm, ← EReal.coe_add, ← EReal.coe_mul]
    refine congrArg (fun t : ℝ => (t : EReal)) ?_
    exact row_ds (W A h.val n.val r.val) (Real.exp (A.la (128 * n.val + r.val) h.val)) (Real.exp (A.lb (128 * n.val + r.val) h.val)) (Real.exp (-m)) 1
      (W_pos A h.val n.val r.val r.isLt) (Real.exp_pos _) (Real.exp_pos _) (Real.exp_pos _) one_pos (dl A h.val n.val r.val) 0 _
      (dP A h.val n.val r.val c.val) (ex A h.val n.val r.val c.val)

/-- How often a row's greatest score is attained: not zero times. -/
theorem count_ne (h : Fin 8) (n : Fin 64) (r : Fin 128) : val_main_v75 (F := Ideal) x0 x1 (ix3 h n r) ≠ 0 := by
  obtain ⟨⟨c, hc⟩, _⟩ := m_at x0 x1 h n r
  have ht : ∀ c : Fin 256, val_main_v74 (F := Ideal) x0 x1 (ix4 h n r c)
      = if val_main_v69_0 (F := Ideal) x0 x1 (ix4 h n r c) = val_main_v70 (F := Ideal) x0 x1 (ix3 h n r) then 1 else 0 := fun c => by
    pointwise [val_main_v74, val_main_v73, val_main_v72, val_main_v71]
    by_cases hh : val_main_v69_0 (F := Ideal) x0 x1 (ix4 h n r c) = val_main_v70 (F := Ideal) x0 x1 (ix3 h n r)
    · rw [if_pos hh, decide_eq_true hh]
      show (((BitVec.ofBool true).toNat : ℝ) : EReal) = 1
      simp
    · rw [if_neg hh, decide_eq_false hh]
      show (((BitVec.ofBool false).toNat : ℝ) : EReal) = 0
      simp
  have e : val_main_v75 (F := Ideal) x0 x1 (ix3 h n r) = ∑ c : Fin 256, val_main_v74 (F := Ideal) x0 x1 (ix4 h n r c) := by
    pointwise [val_main_v75, val_main_cst_18]
  rw [e]
  have h1 : val_main_v74 (F := Ideal) x0 x1 (ix4 h n r c) = 1 := by rw [ht, if_pos hc.symm]
  have h2 : val_main_v74 (F := Ideal) x0 x1 (ix4 h n r c) ≤ ∑ c : Fin 256, val_main_v74 (F := Ideal) x0 x1 (ix4 h n r c) :=
    Finset.single_le_sum (f := fun c : Fin 256 => val_main_v74 (F := Ideal) x0 x1 (ix4 h n r c))
      (fun c _ => by show 0 ≤ val_main_v74 (F := Ideal) x0 x1 (ix4 h n r c); rw [ht]; split_ifs <;> simp) (Finset.mem_univ c)
  rw [h1] at h2
  exact (lt_of_lt_of_le zero_lt_one h2).ne'

/-- The gradient of a score after its mask: the greatest score's own share is zero. -/
theorem ds_at (h : Fin 8) (n : Fin 64) (r : Fin 128) (c : Fin 256) :
    val_main_v206 (F := Ideal) x0 x1 x2 x3 x4 x5 x6 x7 (ix4 h n r c) = ((dS A h.val n.val r.val c.val : ℝ) : EReal) := by
  pointwise [val_main_v206, val_main_v205, val_main_v204, val_main_v203, val_main_v202, val_main_v201, val_main_v200, val_main_v199, val_main_v198,
    val_main_v197, val_main_call1_v0, val_main_call1_cst, val_main_cst_43, val_main_cst_42]
  rw [Finset.univ_unique, Finset.sum_singleton, valid_at, select_ofBool]
  have hs : val_main_v179 (F := Ideal) x0 x1 x2 x3 x4 x5 x6 x7 (ix4 h n r default)
      + ∑ c : Fin 256, -val_main_v196 (F := Ideal) x0 x1 x2 x3 x4 x5 x6 x7 (ix4 h n r c) = 0 := by
    rw [show val_main_v179 (F := Ideal) x0 x1 x2 x3 x4 x5 x6 x7 (ix4 h n r default) = _ from dlb_at R h n r,
      Finset.sum_congr rfl fun c _ => (congrArg Neg.neg (dS_at R h n r c)).trans (EReal.coe_neg _).symm, coe_sum, ← EReal.coe_add,
      Finset.sum_neg_distrib, sum_dS A h.val n.val r.val r.isLt, add_neg_cancel, EReal.coe_zero]
  rw [hs]
  have hdiv : Ideal.div 0 (val_main_v75 (F := Ideal) x0 x1 (ix3 h n r)) = 0 := by
    unfold Ideal.div
    rw [if_neg (count_ne R h n r), zero_mul]
  rw [hdiv, zero_mul, add_zero, dS_at R]
  by_cases hok : ok n.val r.val c.val
  · rw [if_pos (by simpa using hok)]
  · rw [if_neg (by simpa using hok)]
    unfold dS P ex
    rw [if_neg hok, zero_div, zero_mul, EReal.coe_zero]

/-- What a block adds to the gradient of its window's keys. -/
theorem dkc_at (h : Fin 8) (n : Fin 64) (c : Fin 256) (e : Fin 64) :
    val_main_v207 (F := Ideal) x0 x1 x2 x3 x4 x5 x6 x7 (ix4 h n c e) = ((dkc A h.val n.val c.val e.val : ℝ) : EReal) := by
  pointwise [val_main_v207]
  unfold dkc
  rw [← coe_sum]
  exact Finset.sum_congr rfl fun r _ => by rw [ds_at R, q_at x0 R.f0, ← EReal.coe_mul, R.q]

/-- The gradient of the queries, by block. -/
theorem dq_at (h : Fin 8) (n : Fin 64) (r : Fin 128) (e : Fin 64) :
    val_main_v208 (F := Ideal) x0 x1 x2 x3 x4 x5 x6 x7 (ix4 h n r e) = ((dq A h.val n.val r.val e.val : ℝ) : EReal) := by
  pointwise [val_main_v208]
  unfold dq
  rw [← coe_sum]
  refine Finset.sum_congr rfl fun c _ => ?_
  rw [ds_at R, k_at x1 R.f1]
  by_cases hz : n.val = 0 ∧ c.val < 128
  · have hok : ¬ ok n.val r.val c.val := by unfold ok; omega
    have hds : dS A h.val n.val r.val c.val = 0 := by unfold dS P ex; rw [if_neg hok, zero_div, zero_mul]
    rw [if_pos hz, mul_zero, hds, zero_mul, EReal.coe_zero]
  · rw [if_neg hz, ← EReal.coe_mul, R.k]

/-- The gradient of the keys, by block: of the block's own window and of the next block's. -/
theorem dk_at (h : Fin 8) (n : Fin 64) (r : Fin 128) (e : Fin 64) :
    val_main_v222 (F := Ideal) x0 x1 x2 x3 x4 x5 x6 x7 (ix4 h n r e) = ((dk A h.val n.val r.val e.val : ℝ) : EReal) := by
  pointwise [val_main_v222, val_main_v221, val_main_v220, val_main_v218, val_main_v217, val_main_cst_45]
  unfold dk
  rw [EReal.coe_add]
  refine congrArg₂ (· + ·) (dkc_at R h n ⟨128 + r.val, by omega⟩ e) ?_
  by_cases hn : n.val < 63
  · rw [if_pos hn, add_comm n.val 1]
    exact (dif_pos hn).trans (dkc_at R h ⟨1 + n.val, by omega⟩ ⟨r.val, by omega⟩ e)
  · rw [if_neg hn]
    exact (dif_neg hn).trans EReal.coe_zero.symm

/-- The gradient of the values, by block: of the block's own window and of the next block's. -/
theorem dv_at (h : Fin 8) (n : Fin 64) (r : Fin 128) (e : Fin 64) :
    val_main_v214 (F := Ideal) x0 x1 x4 x6 x7 (ix4 h n r e) = ((dv A h.val n.val r.val e.val : ℝ) : EReal) := by
  pointwise [val_main_v214, val_main_v213, val_main_v212, val_main_v210, val_main_v209, val_main_cst_44]
  unfold dv
  rw [EReal.coe_add]
  refine congrArg₂ (· + ·) (dvc_at R h n ⟨128 + r.val, by omega⟩ e) ?_
  by_cases hn : n.val < 63
  · rw [if_pos hn, add_comm n.val 1]
    exact (dif_pos hn).trans (dvc_at R h ⟨1 + n.val, by omega⟩ ⟨r.val, by omega⟩ e)
  · rw [if_neg hn]
    exact (dif_neg hn).trans EReal.coe_zero.symm

/-- The reference's gradient of the queries. -/
theorem ref_dq (i : Fin 8192) (l : Fin 512) :
    val_main_v229 (F := Ideal) x0 x1 x2 x3 x4 x5 x6 x7 (ix2 i l)
      = ((dq A (l.val / 64) (i.val / 128) (i.val % 128) (l.val % 64) : ℝ) : EReal) := by
  pointwise [val_main_v229, val_main_v226, val_main_v225]
  exact dq_at R ⟨l.val / 64, by omega⟩ ⟨i.val / 128, by omega⟩ ⟨i.val % 128, by omega⟩ ⟨l.val % 64, by omega⟩

/-- The reference's gradient of the keys. -/
theorem ref_dk (i : Fin 8192) (l : Fin 512) :
    val_main_v228 (F := Ideal) x0 x1 x2 x3 x4 x5 x6 x7 (ix2 i l)
      = ((dk A (l.val / 64) (i.val / 128) (i.val % 128) (l.val % 64) : ℝ) : EReal) := by
  pointwise [val_main_v228, val_main_v224, val_main_v223]
  exact dk_at R ⟨l.val / 64, by omega⟩ ⟨i.val / 128, by omega⟩ ⟨i.val % 128, by omega⟩ ⟨l.val % 64, by omega⟩

/-- The reference's gradient of the values. -/
theorem ref_dv (i : Fin 8192) (l : Fin 512) :
    val_main_v227 (F := Ideal) x0 x1 x4 x6 x7 (ix2 i l)
      = ((dv A (l.val / 64) (i.val / 128) (i.val % 128) (l.val % 64) : ℝ) : EReal) := by
  pointwise [val_main_v227, val_main_v216, val_main_v215]
  exact dv_at R ⟨l.val / 64, by omega⟩ ⟨i.val / 128, by omega⟩ ⟨i.val % 128, by omega⟩ ⟨l.val % 64, by omega⟩

/-- The last block's keys, which no later block adds to. -/
theorem ref_dk_last (r : Fin 128) (l : Fin 512) :
    val_main_v230 (F := Ideal) x0 x1 x2 x3 x4 x5 x6 x7 (ix2 r l) = ((dkc A (l.val / 64) 63 (128 + r.val) (l.val % 64) : ℝ) : EReal) := by
  pointwise [val_main_v230]
  refine (ref_dk R ⟨8064 + r.val, by omega⟩ l).trans ?_
  refine congrArg (fun t : ℝ => (t : EReal)) ?_
  show dk A (l.val / 64) ((8064 + r.val) / 128) ((8064 + r.val) % 128) (l.val % 64) = _
  rw [show (8064 + r.val) / 128 = 63 by omega, show (8064 + r.val) % 128 = r.val by omega]
  unfold dk
  rw [if_neg (by omega), add_zero]

/-- The last block's values, which no later block adds to. -/
theorem ref_dv_last (r : Fin 128) (l : Fin 512) :
    val_main_v231 (F := Ideal) x0 x1 x4 x6 x7 (ix2 r l) = ((dvc A (l.val / 64) 63 (128 + r.val) (l.val % 64) : ℝ) : EReal) := by
  pointwise [val_main_v231]
  refine (ref_dv R ⟨8064 + r.val, by omega⟩ l).trans ?_
  refine congrArg (fun t : ℝ => (t : EReal)) ?_
  show dv A (l.val / 64) ((8064 + r.val) / 128) ((8064 + r.val) % 128) (l.val % 64) = _
  rw [show (8064 + r.val) / 128 = 63 by omega, show (8064 + r.val) % 128 = r.val by omega]
  unfold dv
  rw [if_neg (by omega), add_zero]

end Cert.AttnRefIdeal.Grad

end
-- ==== Proof.AttnHost.lean ====
module

public import proofs.«01_k».proof.Proof.Gen.AttnIdeal.Frame.Runs
public import proofs.«01_k».proof.Proof.AttnRefVal
public import Idealize.ShloMosaic.Lib.StableHlo.RunRead

@[expose] public section

set_option maxRecDepth 16384

noncomputable section

/-! What the host lines before the attention gradient kernel leave: the merged output and its log-denominator. -/

namespace Cert.AttnIdeal.Grad

open Cert.AttnIdeal Cert.AttnIdeal.Gen Cert.AttnSpec Idealize.ShloMosaic Idealize.ShloMosaic.TcCoe Idealize.SL.Sem

variable (m : (ι : Loc nD τ sig) → Buf (Elt Ideal) ι) (c : Dev nD)

/-- The branch's output is what the reference's forward lines compute. -/
theorem V_o : V m c main_v82
    = Cert.AttnRefIdeal.Read.val_main_v92 (F := Ideal) (V m c main_arg0) (V m c main_arg1) (V m c main_arg2) := by
  unfold V
  after_reads_simp
  rfl

/-- So is its log-denominator. -/
theorem V_lse : V m c main_v84
    = Cert.AttnRefIdeal.Read.val_main_v94 (F := Ideal) (V m c main_arg0) (V m c main_arg1) := by
  unfold V
  after_reads_simp
  rfl

/-- The greatest of the three log-denominators. -/
def mgM (l la lb : FVec Ideal S8192x8 .f32) : FVec Ideal S8192x8 .f32 := maximumf (maximumf l la) lb

/-- The three weights' sum. -/
def mgZ (l la lb : FVec Ideal S8192x8 .f32) : FVec Ideal S8192x8 .f32 :=
  addf (addf (Host.exp (subf l (mgM l la lb))) (Host.exp (subf la (mgM l la lb)))) (Host.exp (subf lb (mgM l la lb)))

/-- A value of each row and head, at every lane of the head. -/
def wide (x : FVec Ideal S8192x8 .f32) : FVec Ideal S8192x8x64 .f32 :=
  broadcastInDim S8192x8x64 ![0, 1, 2] bcast_S8192x8x1_S8192x8x64_0_1_2 (broadcastInDim S8192x8x1 ![0, 1] bcast_S8192x8_S8192x8x1_0_1 x)

/-- The merged output. -/
def mgY (o : FVec Ideal S8192x8x64 .f32) (l la lb : FVec Ideal S8192x8 .f32) (oa ob : FVec Ideal S8192x512 .f32) : FVec Ideal S8192x512 .f32 :=
  shapeCast S8192x512 (Host.divf (addf (addf (mulf (wide (Host.exp (subf l (mgM l la lb)))) o)
      (mulf (wide (Host.exp (subf la (mgM l la lb)))) (shapeCast S8192x8x64 oa shapeCasts_S8192x512_S8192x8x64)))
    (mulf (wide (Host.exp (subf lb (mgM l la lb)))) (shapeCast S8192x8x64 ob shapeCasts_S8192x512_S8192x8x64)))
    (wide (mgZ l la lb))) shapeCasts_S8192x8x64_S8192x512

/-- The merged log-denominator, to base two. -/
def mgL (l la lb : FVec Ideal S8192x8 .f32) : FVec Ideal S8192x8 .f32 :=
  Host.divf (addf (mgM l la lb) (Host.log (mgZ l la lb))) (Host.log (broadcastInDim S8192x8 ![] bcast_S_S8192x8 (constant S_ .f32 0x40000000#32)))

set_option maxHeartbeats 2000000 in
/-- What the kernel takes as the merged output. -/
theorem V_y : V m c main_v118
    = mgY (Cert.AttnRefIdeal.Read.val_main_v92 (F := Ideal) (V m c main_arg0) (V m c main_arg1) (V m c main_arg2))
        (Cert.AttnRefIdeal.Read.val_main_v94 (F := Ideal) (V m c main_arg0) (V m c main_arg1))
        (V m c main_arg4) (V m c main_arg6) (V m c main_arg3) (V m c main_arg5) := by
  unfold V
  after_reads_simp
  rfl

/-- What the kernel takes as the merged log-denominator. -/
theorem V_l : V m c main_v119
    = shapeCast S8192x512 (wide (mgL (Cert.AttnRefIdeal.Read.val_main_v94 (F := Ideal) (V m c main_arg0) (V m c main_arg1))
        (V m c main_arg4) (V m c main_arg6))) shapeCasts_S8192x8x64_S8192x512 := by
  unfold V
  after_reads_simp
  rfl

open Cert.AttnRefIdeal.Grad (div_real row)

/-- The greatest, at a row and a head. -/
theorem mgM_at (l la lb : FVec Ideal S8192x8 .f32) (i : Fin 8192) (h : Fin 8) (a b d : ℝ) (ha : l (ix2 i h) = (a : EReal)) (hb : la (ix2 i h) = (b : EReal))
    (hd : lb (ix2 i h) = (d : EReal)) : mgM l la lb (ix2 i h) = ((max (max a b) d : ℝ) : EReal) := by
  pointwise [mgM]
  rw [ha, hb, hd, EReal.coe_strictMono.monotone.map_max, EReal.coe_strictMono.monotone.map_max]

/-- The sum of the weights, at a row and a head. -/
theorem mgZ_at (l la lb : FVec Ideal S8192x8 .f32) (i : Fin 8192) (h : Fin 8) (a b d M : ℝ) (ha : l (ix2 i h) = (a : EReal)) (hb : la (ix2 i h) = (b : EReal))
    (hd : lb (ix2 i h) = (d : EReal)) (hM : mgM l la lb (ix2 i h) = (M : EReal)) :
    mgZ l la lb (ix2 i h) = (((Real.exp a + Real.exp b + Real.exp d) * Real.exp (-M) : ℝ) : EReal) := by
  pointwise [mgZ]
  rw [ha, hb, hd, hM, ← EReal.coe_sub, ← EReal.coe_sub, ← EReal.coe_sub, Ideal.exp_coe, Ideal.exp_coe, Ideal.exp_coe, ← EReal.coe_add, ← EReal.coe_add]
  simp only [sub_eq_add_neg, Real.exp_add, add_mul]

/-- The merged output, at a row and a lane. -/
theorem mgY_at (o : FVec Ideal S8192x8x64 .f32) (l la lb : FVec Ideal S8192x8 .f32) (oa ob : FVec Ideal S8192x512 .f32) (i : Fin 8192) (j : Fin 512)
    (h : Fin 8) (e : Fin 64) (hh : j.val / 64 = h.val) (he : j.val % 64 = e.val) (a b d u v w : ℝ)
    (ha : l (ix2 i h) = (a : EReal)) (hb : la (ix2 i h) = (b : EReal)) (hd : lb (ix2 i h) = (d : EReal))
    (hu : o (ix3 i h e) = (u : EReal)) (hv : oa (ix2 i j) = (v : EReal)) (hw : ob (ix2 i j) = (w : EReal)) :
    mgY o l la lb oa ob (ix2 i j)
      = (((Real.exp a * u + Real.exp b * v + Real.exp d * w) / (Real.exp a + Real.exp b + Real.exp d) : ℝ) : EReal) := by
  have hM := mgM_at l la lb i h a b d ha hb hd
  have hZ := mgZ_at l la lb i h a b d _ ha hb hd hM
  pointwise [mgY, wide]
  have e1 : (⟨j.val / 64, by omega⟩ : Fin 8) = h := Fin.ext hh
  have e2 : (⟨j.val % 64, by omega⟩ : Fin 64) = e := Fin.ext he
  rw [e1, e2, ha, hb, hd, hu, hv, hw, hM, hZ]
  generalize max (max a b) d = M
  have hz : Real.exp a + Real.exp b + Real.exp d ≠ 0 := by positivity
  rw [← EReal.coe_sub, ← EReal.coe_sub, ← EReal.coe_sub, Ideal.exp_coe, Ideal.exp_coe, Ideal.exp_coe, ← EReal.coe_mul, ← EReal.coe_mul, ← EReal.coe_mul,
    ← EReal.coe_add, ← EReal.coe_add, div_real _ _ (mul_ne_zero hz (Real.exp_pos _).ne')]
  refine congrArg (fun t : ℝ => (t : EReal)) ?_
  simp only [sub_eq_add_neg, Real.exp_add]
  rw [show Real.exp a * Real.exp (-M) * u + Real.exp b * Real.exp (-M) * v + Real.exp d * Real.exp (-M) * w
    = (Real.exp a * u + Real.exp b * v + Real.exp d * w) * Real.exp (-M) by ring, mul_div_mul_right _ _ (Real.exp_pos _).ne']

theorem two_val : Ideal.ofBits .f32 0x40000000#32 = ((2 : ℝ) : EReal) := by
  simp [Ideal.ofBits, Ideal.ieee]
  rw [← EReal.coe_mul]
  norm_num

/-- The merged log-denominator, at a row and a lane. -/
theorem mgL_at (l la lb : FVec Ideal S8192x8 .f32) (i : Fin 8192) (j : Fin 512)
    (h : Fin 8) (hh : j.val / 64 = h.val) (a b d : ℝ)
    (ha : l (ix2 i h) = (a : EReal)) (hb : la (ix2 i h) = (b : EReal)) (hd : lb (ix2 i h) = (d : EReal)) :
    shapeCast S8192x512 (wide (mgL l la lb)) shapeCasts_S8192x8x64_S8192x512 (ix2 i j)
      = ((Real.log (Real.exp a + Real.exp b + Real.exp d) / Real.log 2 : ℝ) : EReal) := by
  have hM := mgM_at l la lb i h a b d ha hb hd
  have hZ := mgZ_at l la lb i h a b d _ ha hb hd hM
  pointwise [mgL, wide]
  have e1 : (⟨j.val / 64, by omega⟩ : Fin 8) = h := Fin.ext hh
  rw [e1, hM, hZ]
  generalize max (max a b) d = M
  have hz : 0 < Real.exp a + Real.exp b + Real.exp d := by positivity
  have h2 : Real.log 2 ≠ 0 := (Real.log_pos (by norm_num)).ne'
  rw [show Ideal.ofBits FTy.f32 1073741824#32 = _ from two_val, Ideal.log_coe, Ideal.log_coe, if_neg (not_le.mpr (mul_pos hz (Real.exp_pos _))),
    if_neg (by norm_num), ← EReal.coe_add, div_real _ _ h2, Real.log_mul hz.ne' (Real.exp_pos _).ne', Real.log_exp]
  exact congrArg (fun t : ℝ => (t : EReal)) (by ring)

variable {A : Ins} (R : Cert.AttnRefIdeal.Grad.Reals (V m c main_arg0) (V m c main_arg1) (V m c main_arg2) (V m c main_arg3) (V m c main_arg4)
  (V m c main_arg5) (V m c main_arg6) (V m c main_arg7) A)
include R

/-- The kernel's merged output is the specification's. -/
theorem host_y (n : Fin 64) (r : Fin 128) (l : Fin 512) :
    V m c main_v118 (ix2 (row n r) l) = ((y A (l.val / 64) n.val r.val (l.val % 64) : ℝ) : EReal) := by
  have hW := W_pos A (l.val / 64) n.val r.val r.isLt
  have h0 := Cert.AttnRefIdeal.Grad.lse_at (V m c main_arg0) (V m c main_arg1) A R.f0 R.f1 R.q R.k ⟨l.val / 64, by omega⟩ n r
  have h1 := Cert.AttnRefIdeal.Grad.o_at (V m c main_arg0) (V m c main_arg1) (V m c main_arg2) A R.f0 R.f1 R.f2 R.q R.k R.v ⟨l.val / 64, by omega⟩ n r ⟨l.val % 64, by omega⟩
  have key := mgY_at _ _ (V m c main_arg4) (V m c main_arg6) (V m c main_arg3) (V m c main_arg5) (row n r) l ⟨l.val / 64, by omega⟩ ⟨l.val % 64, by omega⟩
    rfl rfl _ _ _ _ _ _ h0 (at2r_at R.f4 (row n r) ⟨l.val / 64, by omega⟩ _ _ rfl rfl) (at2r_at R.f6 (row n r) ⟨l.val / 64, by omega⟩ _ _ rfl rfl) h1
    (at2r_at R.f3 (row n r) l (row n r).val (64 * (l.val / 64) + l.val % 64) rfl (by omega))
    (at2r_at R.f5 (row n r) l (row n r).val (64 * (l.val / 64) + l.val % 64) rfl (by omega))
  rw [V_y, key]
  refine congrArg (fun t : ℝ => (t : EReal)) ?_
  unfold y Zt
  rw [Real.exp_log hW, mul_div_cancel₀ _ hW.ne']
  rw [R.hA]
  rfl

/-- The kernel's merged log-denominator is the specification's, to base two. -/
theorem host_l (n : Fin 64) (r : Fin 128) (l : Fin 512) :
    V m c main_v119 (ix2 (row n r) l) = ((Real.log (Zt A (l.val / 64) n.val r.val) / Real.log 2 : ℝ) : EReal) := by
  have hW := W_pos A (l.val / 64) n.val r.val r.isLt
  have h0 := Cert.AttnRefIdeal.Grad.lse_at (V m c main_arg0) (V m c main_arg1) A R.f0 R.f1 R.q R.k ⟨l.val / 64, by omega⟩ n r
  have key := mgL_at _ (V m c main_arg4) (V m c main_arg6) (row n r) l ⟨l.val / 64, by omega⟩
    rfl _ _ _ h0 (at2r_at R.f4 (row n r) ⟨l.val / 64, by omega⟩ _ _ rfl rfl) (at2r_at R.f6 (row n r) ⟨l.val / 64, by omega⟩ _ _ rfl rfl)
  rw [V_l, key]
  refine congrArg (fun t : ℝ => (t : EReal)) ?_
  unfold Zt
  rw [Real.exp_log hW]
  rw [R.hA]
  rfl

end Cert.AttnIdeal.Grad

end
-- ==== Proof.AttnKernel.lean ====
module

public import proofs.«01_k».proof.Proof.Gen.AttnIdeal.Value
public import proofs.«01_k».proof.Proof.AttnOut
public import proofs.«01_k».proof.Proof.AttnHost

@[expose] public section

set_option maxRecDepth 16384

noncomputable section

/-! The five arrays the attention gradient kernel leaves, as real numbers. -/

namespace Cert.AttnIdeal.Grad

open Cert.AttnIdeal Cert.AttnIdeal.Gen Cert.AttnSpec Idealize.ShloMosaic Idealize.ShloMosaic.TcCoe Idealize.SL.Sem
open Idealize.ShloMosaic.Pipeline (Dat)
open Cert.AttnRefIdeal.Grad (row Reals)

theorem ltN (t : Fin cfg0.N) : t.val < 64 := t.isLt

/-- The grid has one axis: a point's coordinate is its number. -/
theorem coord : ∀ t : Fin cfg0.N, (grid0.coords t 0).val = t.val :=
  (by decide +kernel : ∀ t : Fin grid0.N, _)

theorem idx0 : ∀ t : Fin cfg0.N, win0_0.index t 0 = t.val ∧ win0_0.index t 1 = 0 :=
  (by decide +kernel : ∀ t : Fin grid0.N, _)

theorem idx1 : ∀ t : Fin cfg0.N, win0_1.index t 0 = t.val - 1 ∧ win0_1.index t 1 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = t.val - 1 ∧ win0_3.index t 1 = 5 :=
  (by decide +kernel : ∀ t : Fin grid0.N, _)

theorem idx4 : ∀ t : Fin cfg0.N, win0_4.index t 0 = t.val ∧ win0_4.index t 1 = 5 :=
  (by decide +kernel : ∀ t : Fin grid0.N, _)

theorem idx5 : ∀ t : Fin cfg0.N, win0_5.index t 0 = t.val ∧ win0_5.index t 1 = 0 :=
  (by decide +kernel : ∀ t : Fin grid0.N, _)

theorem idx6 : ∀ t : Fin cfg0.N, win0_6.index t 0 = t.val ∧ win0_6.index t 1 = 0 :=
  (by decide +kernel : ∀ t : Fin grid0.N, _)

theorem idx7 : ∀ t : Fin cfg0.N, win0_7.index t 0 = t.val ∧ win0_7.index t 1 = 1 :=
  (by decide +kernel : ∀ t : Fin grid0.N, _)

theorem idx8 : ∀ t : Fin cfg0.N, win0_8.index t 0 = t.val ∧ win0_8.index t 1 = 0 :=
  (by decide +kernel : ∀ t : Fin grid0.N, _)

theorem idx9 : ∀ t : Fin cfg0.N, win0_9.index t 0 = t.val - 1 ∧ win0_9.index t 1 = 0 :=
  (by decide +kernel : ∀ t : Fin grid0.N, _)

theorem idx10 : ∀ t : Fin cfg0.N, win0_10.index t 0 = t.val - 1 ∧ win0_10.index t 1 = 0 :=
  (by decide +kernel : ∀ t : Fin grid0.N, _)

theorem idx11 : ∀ t : Fin cfg0.N, win0_11.index t 0 = 0 ∧ win0_11.index t 1 = 0 :=
  (by decide +kernel : ∀ t : Fin grid0.N, _)

theorem idx12 : ∀ t : Fin cfg0.N, win0_12.index t 0 = 0 ∧ win0_12.index t 1 = 0 :=
  (by decide +kernel : ∀ t : Fin grid0.N, _)

theorem flush8 : ∀ t : Fin cfg0.N, (cfg0.win 8).flush t = true ↔ True :=
  (by decide +kernel : ∀ t : Fin grid0.N, _)

theorem flush9 : ∀ t : Fin cfg0.N, (cfg0.win 9).flush t = true ↔ t.val ≠ 0 :=
  (by decide +kernel : ∀ t : Fin grid0.N, _)

theorem flush10 : ∀ t : Fin cfg0.N, (cfg0.win 10).flush t = true ↔ t.val ≠ 0 :=
  (by decide +kernel : ∀ t : Fin grid0.N, _)

theorem flush11 : ∀ t : Fin cfg0.N, (cfg0.win 11).flush t = true ↔ t.val = 63 :=
  (by decide +kernel : ∀ t : Fin grid0.N, _)

theorem flush12 : ∀ t : Fin cfg0.N, (cfg0.win 12).flush t = true ↔ t.val = 63 :=
  (by decide +kernel : ∀ t : Fin grid0.N, _)

variable (m : (ι : Loc nD τ sig) → Buf (Elt Ideal) ι) (c : Dev nD)

/-- Where input block 0 of a point reads its array. -/
theorem read0 (t : Fin cfg0.N) (r : Fin 128) (e : Fin 512) (i : Fin 8192) (hi : i.val = 128 * (t.val) + r.val)
    (j : Fin 512) (hj : j.val = e.val) (f : FVec Ideal S8192x512 .f32) :
    (((cfg0.win 0).blk t).view.read (Elt Ideal) f : Vec Ideal S128x512 .f32) (ix2 r e) = f (ix2 i j) := by
  obtain ⟨e0, e1⟩ := idx0 t
  rw [View.read_apply]
  refine congrArg f (funext fun a => Fin.ext ?_)
  match a with
  | ⟨0, _⟩ => show win0_0.index t 0 * 128 + 1 * r.val = i.val; omega
  | ⟨1, _⟩ => show win0_0.index t 1 * 512 + 1 * e.val = j.val; omega

/-- Input block 0 at a point. -/
theorem blk0 (t : Fin cfg0.N) (r : Fin 128) (e : Fin 512) (i : Fin 8192) (hi : i.val = 128 * (t.val) + r.val)
    (j : Fin 512) (hj : j.val = e.val) :
    (iblk m c 0 t : Vec Ideal S128x512 .f32) (ix2 r e) = V m c main_arg0 (ix2 i j) := by
  exact read0 t r e i hi j hj (V m c main_arg0)

/-- Where input block 1 of a point reads its array. -/
theorem read1 (t : Fin cfg0.N) (r : Fin 128) (e : Fin 512) (i : Fin 8192) (hi : i.val = 128 * (t.val - 1) + r.val)
    (j : Fin 512) (hj : j.val = e.val) (f : FVec Ideal S8192x512 .f32) :
    (((cfg0.win 1).blk t).view.read (Elt Ideal) f : Vec Ideal S128x512 .f32) (ix2 r e) = f (ix2 i j) := by
  obtain ⟨e0, e1⟩ := idx1 t
  rw [View.read_apply]
  refine congrArg f (funext fun a => Fin.ext ?_)
  match a with
  | ⟨0, _⟩ => show win0_1.index t 0 * 128 + 1 * r.val = i.val; omega
  | ⟨1, _⟩ => show win0_1.index t 1 * 512 + 1 * e.val = j.val; omega

/-- Input block 1 at a point. -/
theorem blk1 (t : Fin cfg0.N) (r : Fin 128) (e : Fin 512) (i : Fin 8192) (hi : i.val = 128 * (t.val - 1) + r.val)
    (j : Fin 512) (hj : j.val = e.val) :
    (iblk m c 1 t : Vec Ideal S128x512 .f32) (ix2 r e) = V m c main_arg1 (ix2 i j) := by
  exact read1 t r e i hi j hj (V m c main_arg1)

/-- Where input block 2 of a point reads its array. -/
theorem read2 (t : Fin cfg0.N) (r : Fin 128) (e : Fin 512) (i : Fin 8192) (hi : i.val = 128 * (t.val) + r.val)
    (j : Fin 512) (hj : j.val = e.val) (f : FVec Ideal S8192x512 .f32) :
    (((cfg0.win 2).blk t).view.read (Elt Ideal) f : Vec Ideal S128x512 .f32) (ix2 r e) = f (ix2 i j) := by
  obtain ⟨e0, e1⟩ := idx2 t
  rw [View.read_apply]
  refine congrArg f (funext fun a => Fin.ext ?_)
  match a with
  | ⟨0, _⟩ => show win0_2.index t 0 * 128 + 1 * r.val = i.val; omega
  | ⟨1, _⟩ => show win0_2.index t 1 * 512 + 1 * e.val = j.val; omega

/-- Input block 2 at a point. -/
theorem blk2 (t : Fin cfg0.N) (r : Fin 128) (e : Fin 512) (i : Fin 8192) (hi : i.val = 128 * (t.val) + r.val)
    (j : Fin 512) (hj : j.val = e.val) :
    (iblk m c 2 t : Vec Ideal S128x512 .f32) (ix2 r e) = V m c main_arg1 (ix2 i j) := by
  exact read2 t r e i hi j hj (V m c main_arg1)

/-- Input block 3 at a point. -/
theorem blk3 (t : Fin cfg0.N) (r : Fin 128) (e : Fin 512) (i : Fin 8192) (hi : i.val = 128 * (t.val - 1) + r.val)
    (j : Fin 3200) (hj : j.val = 2560 + e.val) :
    X0_3 m c t (ix2 r e) = V m c main_arg2 (ix2 i j) := by
  obtain ⟨e0, e1⟩ := idx3 t
  unfold X0_3 Pipeline.Window.fill
  rw [dif_pos (moved0_3 t (ix2 r e))]
  unfold iblk; rw [View.read_apply]
  show V m c main_arg2 _ = V m c main_arg2 _
  refine congrArg _ (funext fun a => Fin.ext ?_)
  match a with
  | ⟨0, _⟩ => show win0_3.index t 0 * 128 + 1 * r.val = i.val; omega
  | ⟨1, _⟩ => show win0_3.index t 1 * 512 + 1 * e.val = j.val; omega

/-- Input block 4 at a point. -/
theorem blk4 (t : Fin cfg0.N) (r : Fin 128) (e : Fin 512) (i : Fin 8192) (hi : i.val = 128 * (t.val) + r.val)
    (j : Fin 3200) (hj : j.val = 2560 + e.val) :
    X0_4 m c t (ix2 r e) = V m c main_arg2 (ix2 i j) := by
  obtain ⟨e0, e1⟩ := idx4 t
  unfold X0_4 Pipeline.Window.fill
  rw [dif_pos (moved0_4 t (ix2 r e))]
  unfold iblk; rw [View.read_apply]
  show V m c main_arg2 _ = V m c main_arg2 _
  refine congrArg _ (funext fun a => Fin.ext ?_)
  match a with
  | ⟨0, _⟩ => show win0_4.index t 0 * 128 + 1 * r.val = i.val; omega
  | ⟨1, _⟩ => show win0_4.index t 1 * 512 + 1 * e.val = j.val; omega

/-- Where input block 5 of a point reads its array. -/
theorem read5 (t : Fin cfg0.N) (r : Fin 128) (e : Fin 512) (i : Fin 8192) (hi : i.val = 128 * (t.val) + r.val)
    (j : Fin 512) (hj : j.val = e.val) (f : FVec Ideal S8192x512 .f32) :
    (((cfg0.win 5).blk t).view.read (Elt Ideal) f : Vec Ideal S128x512 .f32) (ix2 r e) = f (ix2 i j) := by
  obtain ⟨e0, e1⟩ := idx5 t
  rw [View.read_apply]
  refine congrArg f (funext fun a => Fin.ext ?_)
  match a with
  | ⟨0, _⟩ => show win0_5.index t 0 * 128 + 1 * r.val = i.val; omega
  | ⟨1, _⟩ => show win0_5.index t 1 * 512 + 1 * e.val = j.val; omega

/-- Input block 5 at a point. -/
theorem blk5 (t : Fin cfg0.N) (r : Fin 128) (e : Fin 512) (i : Fin 8192) (hi : i.val = 128 * (t.val) + r.val)
    (j : Fin 512) (hj : j.val = e.val) :
    (iblk m c 5 t : Vec Ideal S128x512 .f32) (ix2 r e) = V m c main_v118 (ix2 i j) := by
  exact read5 t r e i hi j hj (V m c main_v118)

/-- Where input block 6 of a point reads its array. -/
theorem read6 (t : Fin cfg0.N) (r : Fin 128) (e : Fin 512) (i : Fin 8192) (hi : i.val = 128 * (t.val) + r.val)
    (j : Fin 512) (hj : j.val = e.val) (f : FVec Ideal S8192x512 .f32) :
    (((cfg0.win 6).blk t).view.read (Elt Ideal) f : Vec Ideal S128x512 .f32) (ix2 r e) = f (ix2 i j) := by
  obtain ⟨e0, e1⟩ := idx6 t
  rw [View.read_apply]
  refine congrArg f (funext fun a => Fin.ext ?_)
  match a with
  | ⟨0, _⟩ => show win0_6.index t 0 * 128 + 1 * r.val = i.val; omega
  | ⟨1, _⟩ => show win0_6.index t 1 * 512 + 1 * e.val = j.val; omega

/-- Input block 6 at a point. -/
theorem blk6 (t : Fin cfg0.N) (r : Fin 128) (e : Fin 512) (i : Fin 8192) (hi : i.val = 128 * (t.val) + r.val)
    (j : Fin 512) (hj : j.val = e.val) :
    (iblk m c 6 t : Vec Ideal S128x512 .f32) (ix2 r e) = V m c main_v119 (ix2 i j) := by
  exact read6 t r e i hi j hj (V m c main_v119)

/-- Where input block 7 of a point reads its array. -/
theorem read7 (t : Fin cfg0.N) (r : Fin 128) (e : Fin 512) (i : Fin 8192) (hi : i.val = 128 * (t.val) + r.val)
    (j : Fin 1024) (hj : j.val = 512 + e.val) (f : FVec Ideal S8192x1024 .f32) :
    (((cfg0.win 7).blk t).view.read (Elt Ideal) f : Vec Ideal S128x512 .f32) (ix2 r e) = f (ix2 i j) := by
  obtain ⟨e0, e1⟩ := idx7 t
  rw [View.read_apply]
  refine congrArg f (funext fun a => Fin.ext ?_)
  match a with
  | ⟨0, _⟩ => show win0_7.index t 0 * 128 + 1 * r.val = i.val; omega
  | ⟨1, _⟩ => show win0_7.index t 1 * 512 + 1 * e.val = j.val; omega

/-- Input block 7 at a point. -/
theorem blk7 (t : Fin cfg0.N) (r : Fin 128) (e : Fin 512) (i : Fin 8192) (hi : i.val = 128 * (t.val) + r.val)
    (j : Fin 1024) (hj : j.val = 512 + e.val) :
    (iblk m c 7 t : Vec Ideal S128x512 .f32) (ix2 r e) = V m c main_arg7 (ix2 i j) := by
  exact read7 t r e i hi j hj (V m c main_arg7)

variable {m c} {A : Ins} (R : Reals (V m c main_arg0) (V m c main_arg1) (V m c main_arg2) (V m c main_arg3)
  (V m c main_arg4) (V m c main_arg5) (V m c main_arg6) (V m c main_arg7) A)
include R

/-- A point's input blocks hold the real numbers of the specification. -/
theorem blocks (t : Fin cfg0.N) :
    Blocks A t.val (iblk m c 0 t) (iblk m c 1 t) (iblk m c 2 t) (X0_3 m c t) (X0_4 m c t) (iblk m c 5 t) (iblk m c 6 t) (iblk m c 7 t) where
  hq r e := by
    have ht := ltN t
    rw [R.q]
    exact (blk0 m c t r e ⟨128 * t.val + r.val, by omega⟩ rfl e rfl).trans (at2r_at R.f0 _ _ _ _ rfl rfl)
  hk0 r e := by
    have ht := ltN t
    rw [R.k]
    exact (blk1 m c t r e ⟨128 * (t.val - 1) + r.val, by omega⟩ rfl e rfl).trans (at2r_at R.f1 _ _ _ _ rfl rfl)
  hk1 r e := by
    have ht := ltN t
    rw [R.k]
    exact (blk2 m c t r e ⟨128 * t.val + r.val, by omega⟩ rfl e rfl).trans (at2r_at R.f1 _ _ _ _ rfl rfl)
  hv0 r e := by
    have ht := ltN t
    rw [R.v]
    exact (blk3 m c t r e ⟨128 * (t.val - 1) + r.val, by omega⟩ rfl ⟨2560 + e.val, by omega⟩ rfl).trans (at2r_at R.f2 _ _ _ _ rfl rfl)
  hv1 r e := by
    have ht := ltN t
    rw [R.v]
    exact (blk4 m c t r e ⟨128 * t.val + r.val, by omega⟩ rfl ⟨2560 + e.val, by omega⟩ rfl).trans (at2r_at R.f2 _ _ _ _ rfl rfl)
  hy r e := (blk5 m c t r e (row ⟨t.val, ltN t⟩ r) rfl e rfl).trans (host_y m c R ⟨t.val, ltN t⟩ r e)
  hl r e := (blk6 m c t r e (row ⟨t.val, ltN t⟩ r) rfl e rfl).trans (host_l m c R ⟨t.val, ltN t⟩ r e)
  hd r e := by
    have ht := ltN t
    rw [show A.d = fun i j => at2r (V m c main_arg7) i (512 + j) from by rw [R.hA]; rfl]
    exact (blk7 m c t r e ⟨128 * t.val + r.val, by omega⟩ rfl ⟨512 + e.val, by omega⟩ rfl).trans (at2r_at R.f7 _ _ _ _ rfl rfl)

/-- The query gradient's block after a point. -/
theorem outs8 (t : Fin cfg0.N) (r : Fin 128) (l : Fin 512) :
    (outsAt0 m c t.val t.isLt).1 (ix2 r l) = ((AttnSpec.dq A (l.val / 64) t.val r.val (l.val % 64) : ℝ) : EReal) := by
  by_cases h0 : t.val % 64 = 0
  · rw [outsAt0_A m c t h0]; dsimp only
    exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (X0_3 m c t) (X0_4 m c t) (iblk m c 5 t) (iblk m c 6 t) (iblk m c 7 t) A t.val (coord t) (blocks R t) r l
  · rw [outsAt0_B m c t h0]; dsimp only
    exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (X0_3 m c t) (X0_4 m c t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 A t.val (coord t) (blocks R t) r l

/-- A point's own keys' share, carried to the next point. -/
theorem outs11 (t : Fin cfg0.N) (r : Fin 128) (l : Fin 512) :
    (outsAt0 m c t.val t.isLt).2.2.2.1 (ix2 r l) = ((dkc A (l.val / 64) t.val (128 + r.val) (l.val % 64) : ℝ) : EReal) := by
  by_cases h0 : t.val % 64 = 0
  · rw [outsAt0_A m c t h0]; dsimp only
    exact out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (X0_3 m c t) (X0_4 m c t) (iblk m c 5 t) (iblk m c 6 t) (iblk m c 7 t) A t.val (coord t) (blocks R t) r l
  · rw [outsAt0_B m c t h0]; dsimp only
    exact out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (X0_3 m c t) (X0_4 m c t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 A t.val (coord t) (blocks R t) r l

/-- A point's own values' share, carried to the next point. -/
theorem outs12 (t : Fin cfg0.N) (r : Fin 128) (l : Fin 512) :
    (outsAt0 m c t.val t.isLt).2.2.2.2 (ix2 r l) = ((dvc A (l.val / 64) t.val (128 + r.val) (l.val % 64) : ℝ) : EReal) := by
  by_cases h0 : t.val % 64 = 0
  · rw [outsAt0_A m c t h0]; dsimp only
    exact out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (X0_3 m c t) (X0_4 m c t) (iblk m c 5 t) (iblk m c 6 t) (iblk m c 7 t) A t.val (coord t) (blocks R t) r l
  · rw [outsAt0_B m c t h0]; dsimp only
    exact out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (X0_3 m c t) (X0_4 m c t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 A t.val (coord t) (blocks R t) r l

/-- What a point after the first leaves for the block before it: both blocks' shares. -/
theorem outs9 (t : Fin cfg0.N) (ht0 : t.val ≠ 0) (r : Fin 128) (l : Fin 512) :
    (outsAt0 m c t.val t.isLt).2.1 (ix2 r l) = ((AttnSpec.dk A (l.val / 64) (t.val - 1) r.val (l.val % 64) : ℝ) : EReal) := by
  have ht := ltN t
  have h0 : ¬t.val % 64 = 0 := by omega
  have hp := outs11 R ⟨t.val - 1, Nat.lt_of_le_of_lt (Nat.sub_le _ _) t.isLt⟩ r l
  rw [outsAt0_B m c t h0]; dsimp only
  refine (out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (X0_3 m c t) (X0_4 m c t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 A t.val (coord t) (blocks R t) r l).trans ?_
  rw [hp, ← EReal.coe_add]
  refine congrArg (fun t : ℝ => (t : EReal)) ?_
  unfold AttnSpec.dk
  rw [if_pos (by omega : t.val - 1 < 63), show t.val - 1 + 1 = t.val from by omega]

/-- What a point after the first leaves for the block before it: both blocks' shares. -/
theorem outs10 (t : Fin cfg0.N) (ht0 : t.val ≠ 0) (r : Fin 128) (l : Fin 512) :
    (outsAt0 m c t.val t.isLt).2.2.1 (ix2 r l) = ((AttnSpec.dv A (l.val / 64) (t.val - 1) r.val (l.val % 64) : ℝ) : EReal) := by
  have ht := ltN t
  have h0 : ¬t.val % 64 = 0 := by omega
  have hp := outs12 R ⟨t.val - 1, Nat.lt_of_le_of_lt (Nat.sub_le _ _) t.isLt⟩ r l
  rw [outsAt0_B m c t h0]; dsimp only
  refine (out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (X0_3 m c t) (X0_4 m c t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 A t.val (coord t) (blocks R t) r l).trans ?_
  rw [hp, ← EReal.coe_add]
  refine congrArg (fun t : ℝ => (t : EReal)) ?_
  unfold AttnSpec.dv
  rw [if_pos (by omega : t.val - 1 < 63), show t.val - 1 + 1 = t.val from by omega]

omit R in
/-- The query gradient. -/
def G8 (A : Ins) : FVec Ideal S8192x512 .f32 := fun i => ((AttnSpec.dq A ((i 1).val / 64) ((i 0).val / 128) ((i 0).val % 128) ((i 1).val % 64) : ℝ) : EReal)

theorem flushed_8 (t : Fin cfg0.N) (hf : (cfg0.win 8).flush t = true) :
    (dats m 0 c).flushed 8 t = ((cfg0.win 8).blk t).view.read (Elt Ideal) (G8 A) := by
  rw [Value.flushed8]
  obtain ⟨e0, e1⟩ := idx8 t
  have ht := ltN t
  have hp := (flush8 t).mp hf
  have key : ∀ y : S128x512.Idx, (outsAt0 m c t.val t.isLt).1 y = G8 A (((cfg0.win 8).blk t).view.emb y) := fun y => by
    obtain ⟨r, l, rfl⟩ : ∃ (r : Fin 128) (l : Fin 512), y = ix2 r l := ⟨y 0, y 1, eq_ix2 y⟩
    refine (outs8 R t r l).trans ?_
    unfold G8
    have h0 : ((((cfg0.win 8).blk t).view.emb (ix2 r l) : S8192x512.Idx) 0).val = 128 * t.val + r.val := by
      show win0_8.index t 0 * 128 + 1 * r.val = _; omega
    have h1 : ((((cfg0.win 8).blk t).view.emb (ix2 r l) : S8192x512.Idx) 1).val = l.val := by
      show win0_8.index t 1 * 512 + 1 * l.val = _; omega
    rw [h0, h1]
    rw [show (128 * t.val + r.val) / 128 = t.val from by omega, show (128 * t.val + r.val) % 128 = r.val from by omega]
  funext y
  rw [View.read_apply]
  exact key y

/-- The query gradient. -/
theorem arr_8 (i : Fin 8192) (l : Fin 512) : (dats m 0 c).arrAt 8 cfg0.N (ix2 i l) = G8 A (ix2 i l) := by
  obtain ⟨t, ht⟩ : ∃ t : Fin cfg0.N, t.val = i.val / 128 := ⟨⟨_, by show _ < 64; omega⟩, rfl⟩
  refine (dats m 0 c).arrAt_apply_of_mem 8 (G8 A) (fun t hf => flushed_8 R t hf) cfg0.N t (ix2 i l) t.isLt ((flush8 t).mpr trivial) ?_
  show (ix2 i l : S8192x512.Idx) ∈ ((View.whole main_v120_0).slice (win0_8.rect t)).set
  rw [View.set_slice_whole, Rect.mem_set_unit]
  obtain ⟨e0, e1⟩ := idx8 t
  intro a
  match a with
  | ⟨0, _⟩ => show win0_8.index t 0 * 128 ≤ i.val ∧ i.val < win0_8.index t 0 * 128 + 128; omega
  | ⟨1, _⟩ => show win0_8.index t 1 * 512 ≤ l.val ∧ l.val < win0_8.index t 1 * 512 + 512; omega

omit R in
/-- The key gradient, in every block but the last. -/
def G9 (A : Ins) : FVec Ideal S8192x512 .f32 := fun i => ((AttnSpec.dk A ((i 1).val / 64) ((i 0).val / 128) ((i 0).val % 128) ((i 1).val % 64) : ℝ) : EReal)

theorem flushed_9 (t : Fin cfg0.N) (hf : (cfg0.win 9).flush t = true) :
    (dats m 0 c).flushed 9 t = ((cfg0.win 9).blk t).view.read (Elt Ideal) (G9 A) := by
  rw [Value.flushed9]
  obtain ⟨e0, e1⟩ := idx9 t
  have ht := ltN t
  have hp := (flush9 t).mp hf
  have key : ∀ y : S128x512.Idx, (outsAt0 m c t.val t.isLt).2.1 y = G9 A (((cfg0.win 9).blk t).view.emb y) := fun y => by
    obtain ⟨r, l, rfl⟩ : ∃ (r : Fin 128) (l : Fin 512), y = ix2 r l := ⟨y 0, y 1, eq_ix2 y⟩
    refine (outs9 R t hp r l).trans ?_
    unfold G9
    have h0 : ((((cfg0.win 9).blk t).view.emb (ix2 r l) : S8192x512.Idx) 0).val = 128 * (t.val - 1) + r.val := by
      show win0_9.index t 0 * 128 + 1 * r.val = _; omega
    have h1 : ((((cfg0.win 9).blk t).view.emb (ix2 r l) : S8192x512.Idx) 1).val = l.val := by
      show win0_9.index t 1 * 512 + 1 * l.val = _; omega
    rw [h0, h1]
    rw [show (128 * (t.val - 1) + r.val) / 128 = (t.val - 1) from by omega, show (128 * (t.val - 1) + r.val) % 128 = r.val from by omega]
  funext y
  rw [View.read_apply]
  exact key y

/-- The key gradient, in every block but the last. -/
theorem arr_9 (i : Fin 8192) (hi : i.val < 8064) (l : Fin 512) : (dats m 0 c).arrAt 9 cfg0.N (ix2 i l) = G9 A (ix2 i l) := by
  obtain ⟨t, ht⟩ : ∃ t : Fin cfg0.N, t.val = i.val / 128 + 1 := ⟨⟨_, by show _ < 64; omega⟩, rfl⟩
  refine (dats m 0 c).arrAt_apply_of_mem 9 (G9 A) (fun t hf => flushed_9 R t hf) cfg0.N t (ix2 i l) t.isLt ((flush9 t).mpr (by omega)) ?_
  show (ix2 i l : S8192x512.Idx) ∈ ((View.whole main_v120_1).slice (win0_9.rect t)).set
  rw [View.set_slice_whole, Rect.mem_set_unit]
  obtain ⟨e0, e1⟩ := idx9 t
  intro a
  match a with
  | ⟨0, _⟩ => show win0_9.index t 0 * 128 ≤ i.val ∧ i.val < win0_9.index t 0 * 128 + 128; omega
  | ⟨1, _⟩ => show win0_9.index t 1 * 512 ≤ l.val ∧ l.val < win0_9.index t 1 * 512 + 512; omega

omit R in
/-- The value gradient, in every block but the last. -/
def G10 (A : Ins) : FVec Ideal S8192x512 .f32 := fun i => ((AttnSpec.dv A ((i 1).val / 64) ((i 0).val / 128) ((i 0).val % 128) ((i 1).val % 64) : ℝ) : EReal)

theorem flushed_10 (t : Fin cfg0.N) (hf : (cfg0.win 10).flush t = true) :
    (dats m 0 c).flushed 10 t = ((cfg0.win 10).blk t).view.read (Elt Ideal) (G10 A) := by
  rw [Value.flushed10]
  obtain ⟨e0, e1⟩ := idx10 t
  have ht := ltN t
  have hp := (flush10 t).mp hf
  have key : ∀ y : S128x512.Idx, (outsAt0 m c t.val t.isLt).2.2.1 y = G10 A (((cfg0.win 10).blk t).view.emb y) := fun y => by
    obtain ⟨r, l, rfl⟩ : ∃ (r : Fin 128) (l : Fin 512), y = ix2 r l := ⟨y 0, y 1, eq_ix2 y⟩
    refine (outs10 R t hp r l).trans ?_
    unfold G10
    have h0 : ((((cfg0.win 10).blk t).view.emb (ix2 r l) : S8192x512.Idx) 0).val = 128 * (t.val - 1) + r.val := by
      show win0_10.index t 0 * 128 + 1 * r.val = _; omega
    have h1 : ((((cfg0.win 10).blk t).view.emb (ix2 r l) : S8192x512.Idx) 1).val = l.val := by
      show win0_10.index t 1 * 512 + 1 * l.val = _; omega
    rw [h0, h1]
    rw [show (128 * (t.val - 1) + r.val) / 128 = (t.val - 1) from by omega, show (128 * (t.val - 1) + r.val) % 128 = r.val from by omega]
  funext y
  rw [View.read_apply]
  exact key y

/-- The value gradient, in every block but the last. -/
theorem arr_10 (i : Fin 8192) (hi : i.val < 8064) (l : Fin 512) : (dats m 0 c).arrAt 10 cfg0.N (ix2 i l) = G10 A (ix2 i l) := by
  obtain ⟨t, ht⟩ : ∃ t : Fin cfg0.N, t.val = i.val / 128 + 1 := ⟨⟨_, by show _ < 64; omega⟩, rfl⟩
  refine (dats m 0 c).arrAt_apply_of_mem 10 (G10 A) (fun t hf => flushed_10 R t hf) cfg0.N t (ix2 i l) t.isLt ((flush10 t).mpr (by omega)) ?_
  show (ix2 i l : S8192x512.Idx) ∈ ((View.whole main_v120_2).slice (win0_10.rect t)).set
  rw [View.set_slice_whole, Rect.mem_set_unit]
  obtain ⟨e0, e1⟩ := idx10 t
  intro a
  match a with
  | ⟨0, _⟩ => show win0_10.index t 0 * 128 ≤ i.val ∧ i.val < win0_10.index t 0 * 128 + 128; omega
  | ⟨1, _⟩ => show win0_10.index t 1 * 512 ≤ l.val ∧ l.val < win0_10.index t 1 * 512 + 512; omega

omit R in
/-- The last block's key gradient. -/
def G11 (A : Ins) : FVec Ideal S128x512 .f32 := fun i => ((dkc A ((i 1).val / 64) 63 (128 + (i 0).val) ((i 1).val % 64) : ℝ) : EReal)

theorem flushed_11 (t : Fin cfg0.N) (hf : (cfg0.win 11).flush t = true) :
    (dats m 0 c).flushed 11 t = ((cfg0.win 11).blk t).view.read (Elt Ideal) (G11 A) := by
  rw [Value.flushed11]
  obtain ⟨e0, e1⟩ := idx11 t
  have ht := ltN t
  have hp := (flush11 t).mp hf
  have key : ∀ y : S128x512.Idx, (outsAt0 m c t.val t.isLt).2.2.2.1 y = G11 A (((cfg0.win 11).blk t).view.emb y) := fun y => by
    obtain ⟨r, l, rfl⟩ : ∃ (r : Fin 128) (l : Fin 512), y = ix2 r l := ⟨y 0, y 1, eq_ix2 y⟩
    refine (outs11 R t r l).trans ?_
    unfold G11
    have h0 : ((((cfg0.win 11).blk t).view.emb (ix2 r l) : S128x512.Idx) 0).val = 128 * 0 + r.val := by
      show win0_11.index t 0 * 128 + 1 * r.val = _; omega
    have h1 : ((((cfg0.win 11).blk t).view.emb (ix2 r l) : S128x512.Idx) 1).val = l.val := by
      show win0_11.index t 1 * 512 + 1 * l.val = _; omega
    rw [h0, h1]
    rw [hp, show 128 * 0 + r.val = r.val from by omega]
  funext y
  rw [View.read_apply]
  exact key y

/-- The last block's key gradient. -/
theorem arr_11 (i : Fin 128) (l : Fin 512) : (dats m 0 c).arrAt 11 cfg0.N (ix2 i l) = G11 A (ix2 i l) := by
  obtain ⟨t, ht⟩ : ∃ t : Fin cfg0.N, t.val = 63 := ⟨⟨_, by show _ < 64; omega⟩, rfl⟩
  refine (dats m 0 c).arrAt_apply_of_mem 11 (G11 A) (fun t hf => flushed_11 R t hf) cfg0.N t (ix2 i l) t.isLt ((flush11 t).mpr (by omega)) ?_
  show (ix2 i l : S128x512.Idx) ∈ ((View.whole main_v120_3).slice (win0_11.rect t)).set
  rw [View.set_slice_whole, Rect.mem_set_unit]
  obtain ⟨e0, e1⟩ := idx11 t
  intro a
  match a with
  | ⟨0, _⟩ => show win0_11.index t 0 * 128 ≤ i.val ∧ i.val < win0_11.index t 0 * 128 + 128; omega
  | ⟨1, _⟩ => show win0_11.index t 1 * 512 ≤ l.val ∧ l.val < win0_11.index t 1 * 512 + 512; omega

omit R in
/-- The last block's value gradient. -/
def G12 (A : Ins) : FVec Ideal S128x512 .f32 := fun i => ((dvc A ((i 1).val / 64) 63 (128 + (i 0).val) ((i 1).val % 64) : ℝ) : EReal)

theorem flushed_12 (t : Fin cfg0.N) (hf : (cfg0.win 12).flush t = true) :
    (dats m 0 c).flushed 12 t = ((cfg0.win 12).blk t).view.read (Elt Ideal) (G12 A) := by
  rw [Value.flushed12]
  obtain ⟨e0, e1⟩ := idx12 t
  have ht := ltN t
  have hp := (flush12 t).mp hf
  have key : ∀ y : S128x512.Idx, (outsAt0 m c t.val t.isLt).2.2.2.2 y = G12 A (((cfg0.win 12).blk t).view.emb y) := fun y => by
    obtain ⟨r, l, rfl⟩ : ∃ (r : Fin 128) (l : Fin 512), y = ix2 r l := ⟨y 0, y 1, eq_ix2 y⟩
    refine (outs12 R t r l).trans ?_
    unfold G12
    have h0 : ((((cfg0.win 12).blk t).view.emb (ix2 r l) : S128x512.Idx) 0).val = 128 * 0 + r.val := by
      show win0_12.index t 0 * 128 + 1 * r.val = _; omega
    have h1 : ((((cfg0.win 12).blk t).view.emb (ix2 r l) : S128x512.Idx) 1).val = l.val := by
      show win0_12.index t 1 * 512 + 1 * l.val = _; omega
    rw [h0, h1]
    rw [hp, show 128 * 0 + r.val = r.val from by omega]
  funext y
  rw [View.read_apply]
  exact key y

/-- The last block's value gradient. -/
theorem arr_12 (i : Fin 128) (l : Fin 512) : (dats m 0 c).arrAt 12 cfg0.N (ix2 i l) = G12 A (ix2 i l) := by
  obtain ⟨t, ht⟩ : ∃ t : Fin cfg0.N, t.val = 63 := ⟨⟨_, by show _ < 64; omega⟩, rfl⟩
  refine (dats m 0 c).arrAt_apply_of_mem 12 (G12 A) (fun t hf => flushed_12 R t hf) cfg0.N t (ix2 i l) t.isLt ((flush12 t).mpr (by omega)) ?_
  show (ix2 i l : S128x512.Idx) ∈ ((View.whole main_v120_4).slice (win0_12.rect t)).set
  rw [View.set_slice_whole, Rect.mem_set_unit]
  obtain ⟨e0, e1⟩ := idx12 t
  intro a
  match a with
  | ⟨0, _⟩ => show win0_12.index t 0 * 128 ≤ i.val ∧ i.val < win0_12.index t 0 * 128 + 128; omega
  | ⟨1, _⟩ => show win0_12.index t 1 * 512 ≤ l.val ∧ l.val < win0_12.index t 1 * 512 + 512; omega

end Cert.AttnIdeal.Grad

end
-- ==== Proof.AttnClaim.lean ====
/- The gradient of the attention branch: the kernel and the derivative of the problem's own lines leave equal results. -/
module

public import proofs.«01_k».proof.Defs
public import proofs.«01_k».proof.Proof.AttnKernel
public import proofs.«01_k».proof.Proof.AttnRefVal
public import proofs.«01_k».proof.Proof.Gen.AttnIdeal.Value
public import proofs.«01_k».proof.Proof.Gen.AttnRefIdeal.Run
public import proofs.«01_k».proof.Proof.Gen.AttnRefIdeal.Read

@[expose] public section

set_option maxRecDepth 16384
noncomputable section

namespace Cert.AttnClaim

open Idealize.ShloMosaic Idealize.SL.Sem Cert.AttnSpec
open Cert.AttnRefIdeal.Grad (Reals)

/-- The side conditions of the precondition's text. -/
theorem pre_facts : Cert.Pre_attn_finite.Facts where
  bcast_S_S8192x512 := by decide
  bcast_S_S8192x3200 := by decide
  bcast_S_S8192x8 := by decide
  bcast_S_S8192x1024 := by decide

/-- The side conditions of the mask's text. -/
theorem on_facts : Cert.On_attn_written.Facts where
  bcast_S_S8192x512 := by decide
  bcast_S_S128x512 := by decide

attribute [local instance] Cert.AttnIdeal.Gen.facts Cert.AttnRefIdeal.Gen.facts pre_facts on_facts

/-- An extended real whose size is below the greatest is a real number. -/
theorem real_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor
  · rintro rfl
    simp at h
  · rintro rfl
    simp at h

/-- The arguments as real numbers. -/
def insOf (m : (ι : Loc Cert.AttnIdeal.nD Cert.AttnIdeal.τ Cert.AttnIdeal.sig) → Buf (Elt Ideal) ι) (c : Dev Cert.AttnIdeal.nD) : Ins :=
  ins (s0 := 512) (s1 := 512) (s2 := 3200) (s3 := 512) (s4 := 8) (s5 := 512) (s6 := 8) (s7 := 1024) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))

/-- Under the precondition every element of the arguments is a real number. -/
theorem reals (m : (ι : Loc Cert.AttnIdeal.nD Cert.AttnIdeal.τ Cert.AttnIdeal.sig) → Buf (Elt Ideal) ι) (hp : Cert.Pre_AttnIdeal_attn_finite m)
    (c : Dev Cert.AttnIdeal.nD) : Reals (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (insOf m c) where
  f0 := fun i => real_of _ (congrFun (hp c).1 i)
  f1 := fun i => real_of _ (congrFun (hp c).2.1 i)
  f2 := fun i => real_of _ (congrFun (hp c).2.2.1 i)
  f3 := fun i => real_of _ (congrFun (hp c).2.2.2.1 i)
  f4 := fun i => real_of _ (congrFun (hp c).2.2.2.2.1 i)
  f5 := fun i => real_of _ (congrFun (hp c).2.2.2.2.2.1 i)
  f6 := fun i => real_of _ (congrFun (hp c).2.2.2.2.2.2.1 i)
  f7 := fun i => real_of _ (congrFun (hp c).2.2.2.2.2.2.2 i)
  hA := rfl

/-- So they are when the kernel's pipeline starts: no host line writes an argument. -/
theorem reals_V (m : (ι : Loc Cert.AttnIdeal.nD Cert.AttnIdeal.τ Cert.AttnIdeal.sig) → Buf (Elt Ideal) ι) (hp : Cert.Pre_AttnIdeal_attn_finite m)
    (c : Dev Cert.AttnIdeal.nD) : Reals (Cert.AttnIdeal.Gen.V m c Cert.AttnIdeal.main_arg0) (Cert.AttnIdeal.Gen.V m c Cert.AttnIdeal.main_arg1) (Cert.AttnIdeal.Gen.V m c Cert.AttnIdeal.main_arg2) (Cert.AttnIdeal.Gen.V m c Cert.AttnIdeal.main_arg3) (Cert.AttnIdeal.Gen.V m c Cert.AttnIdeal.main_arg4) (Cert.AttnIdeal.Gen.V m c Cert.AttnIdeal.main_arg5) (Cert.AttnIdeal.Gen.V m c Cert.AttnIdeal.main_arg6) (Cert.AttnIdeal.Gen.V m c Cert.AttnIdeal.main_arg7) (insOf m c) := by
  rw [Cert.AttnIdeal.Gen.V_main_arg0 m c, Cert.AttnIdeal.Gen.V_main_arg1 m c, Cert.AttnIdeal.Gen.V_main_arg2 m c, Cert.AttnIdeal.Gen.V_main_arg3 m c, Cert.AttnIdeal.Gen.V_main_arg4 m c, Cert.AttnIdeal.Gen.V_main_arg5 m c, Cert.AttnIdeal.Gen.V_main_arg6 m c, Cert.AttnIdeal.Gen.V_main_arg7 m c]
  exact reals m hp c

/-- The mask selects a row of the key's or the value's gradient only before the last block. -/
theorem row_of (i : Fin 8192) (h : IntOp.cmpi .slt (BitVec.ofNat 32 i.val) 8064#32 = 1#1) : i.val < 8064 := by
  have hi := i.isLt
  have e : BitVec.slt (BitVec.ofNat 32 i.val) 8064#32 = true := by
    have key : ∀ b : Bool, BitVec.ofBool b = 1#1 → b = true := by decide
    exact key _ h
  rw [BitVec.slt, decide_eq_true_eq, BitVec.toInt_eq_toNat_of_lt (by rw [BitVec.toNat_ofNat]; omega)] at e
  rw [BitVec.toNat_ofNat, Nat.mod_eq_of_lt (by omega)] at e
  have : (8064#32 : BitVec 32).toInt = 8064 := by decide
  rw [this] at e
  omega

/-- The reference runs from every memory, leaves its arguments and every counter at zero. -/
theorem ref_frame : Cert.quiescent_AttnRefIdeal := fun m ρ _ =>
  (θ_run _ _ _).mono (fun r h => ⟨fun c => (h c).2.2.2.2.2, Idealize.ShloMosaic.sem_eq_zero_of_no_sems (by decide) r.2⟩)
    (Cert.AttnRefIdeal.Value.run (F := Ideal) m ρ)

/-- From memories of real numbers that agree on the arguments both programs leave equal results, wherever the kernel writes. -/
theorem algebraic : Cert.algebraic_AttnIdeal_AttnRefIdeal_on_attn_written_pre_attn_finite := by
  intro m ρ m' ρ' hp hag
  refine ⟨fun c => Cert.AttnIdeal.Grad.G8 (insOf m c), fun c => Cert.AttnIdeal.Grad.G9 (insOf m c), fun c => Cert.AttnIdeal.Grad.G10 (insOf m c),
    fun c => Cert.AttnIdeal.Grad.G11 (insOf m c), fun c => Cert.AttnIdeal.Grad.G12 (insOf m c), ?_, ?_⟩
  · refine (θ_run _ _ _).mono (fun _ h c => ?_) (Cert.AttnIdeal.Value.run_blocks (F := Ideal) m ρ)
    have R := reals_V m hp c
    obtain ⟨h0, h1, h2, h3, h4, hk⟩ := h c
    refine ⟨fun i _ => ?_, fun i hi => ?_, fun i hi => ?_, fun i _ => ?_, fun i _ => ?_, hk⟩
    · obtain ⟨r, l, rfl⟩ : ∃ (r : Fin 8192) (l : Fin 512), i = ix2 r l := ⟨i 0, i 1, eq_ix2 i⟩
      exact (congrFun h0 _).trans (Cert.AttnIdeal.Grad.arr_8 R r l)
    · obtain ⟨r, l, rfl⟩ : ∃ (r : Fin 8192) (l : Fin 512), i = ix2 r l := ⟨i 0, i 1, eq_ix2 i⟩
      exact (congrFun h1 _).trans (Cert.AttnIdeal.Grad.arr_9 R r (row_of r hi) l)
    · obtain ⟨r, l, rfl⟩ : ∃ (r : Fin 8192) (l : Fin 512), i = ix2 r l := ⟨i 0, i 1, eq_ix2 i⟩
      exact (congrFun h2 _).trans (Cert.AttnIdeal.Grad.arr_10 R r (row_of r hi) l)
    · obtain ⟨r, l, rfl⟩ : ∃ (r : Fin 128) (l : Fin 512), i = ix2 r l := ⟨i 0, i 1, eq_ix2 i⟩
      exact (congrFun h3 _).trans (Cert.AttnIdeal.Grad.arr_11 R r l)
    · obtain ⟨r, l, rfl⟩ : ∃ (r : Fin 128) (l : Fin 512), i = ix2 r l := ⟨i 0, i 1, eq_ix2 i⟩
      exact (congrFun h4 _).trans (Cert.AttnIdeal.Grad.arr_12 R r l)
  · refine (θ_run _ _ _).mono (fun _ h c => ?_) (Cert.AttnRefIdeal.Value.run (F := Ideal) m' ρ')
    have R := reals m hp c
    obtain ⟨e0, e1, e2, e3, e4, e5, e6, e7⟩ := hag c
    obtain ⟨h0, h1, h2, h3, h4, hk⟩ := h c
    refine ⟨fun i _ => ?_, fun i _ => ?_, fun i _ => ?_, fun i _ => ?_, fun i _ => ?_, hk⟩
    · obtain ⟨r, l, rfl⟩ : ∃ (r : Fin 8192) (l : Fin 512), i = ix2 r l := ⟨i 0, i 1, eq_ix2 i⟩
      refine (congrFun (h0.trans (Cert.AttnRefIdeal.Read.val_main_v229_eq _)) _).trans ?_
      show Cert.AttnRefIdeal.Read.val_main_v229 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (ix2 r l) = _
      rw [e0, e1, e2, e3, e4, e5, e6, e7]
      exact Cert.AttnRefIdeal.Grad.ref_dq R r l
    · obtain ⟨r, l, rfl⟩ : ∃ (r : Fin 8192) (l : Fin 512), i = ix2 r l := ⟨i 0, i 1, eq_ix2 i⟩
      refine (congrFun (h1.trans (Cert.AttnRefIdeal.Read.val_main_v228_eq _)) _).trans ?_
      show Cert.AttnRefIdeal.Read.val_main_v228 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (ix2 r l) = _
      rw [e0, e1, e2, e3, e4, e5, e6, e7]
      exact Cert.AttnRefIdeal.Grad.ref_dk R r l
    · obtain ⟨r, l, rfl⟩ : ∃ (r : Fin 8192) (l : Fin 512), i = ix2 r l := ⟨i 0, i 1, eq_ix2 i⟩
      refine (congrFun (h2.trans (Cert.AttnRefIdeal.Read.val_main_v227_eq _)) _).trans ?_
      show Cert.AttnRefIdeal.Read.val_main_v227 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (ix2 r l) = _
      rw [e0, e1, e4, e6, e7]
      exact Cert.AttnRefIdeal.Grad.ref_dv R r l
    · obtain ⟨r, l, rfl⟩ : ∃ (r : Fin 128) (l : Fin 512), i = ix2 r l := ⟨i 0, i 1, eq_ix2 i⟩
      refine (congrFun (h3.trans (Cert.AttnRefIdeal.Read.val_main_v230_eq _)) _).trans ?_
      show Cert.AttnRefIdeal.Read.val_main_v230 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (ix2 r l) = _
      rw [e0, e1, e2, e3, e4, e5, e6, e7]
      exact Cert.AttnRefIdeal.Grad.ref_dk_last R r l
    · obtain ⟨r, l, rfl⟩ : ∃ (r : Fin 128) (l : Fin 512), i = ix2 r l := ⟨i 0, i 1, eq_ix2 i⟩
      refine (congrFun (h4.trans (Cert.AttnRefIdeal.Read.val_main_v231_eq _)) _).trans ?_
      show Cert.AttnRefIdeal.Read.val_main_v231 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (ix2 r l) = _
      rw [e0, e1, e4, e6, e7]
      exact Cert.AttnRefIdeal.Grad.ref_dv_last R r l

/-- Each named constant is the number its name says. -/
theorem preserves : Cert.preserves_Attn_AttnIdeal :=
  ⟨IdealRules.named_const.statement Cert.AttnIdeal.κ "far" .f32 0x7149F2CA#32 ⊤ rfl,
   IdealRules.named_const.statement Cert.AttnIdeal.κ "log2e" .f32 0x3FB8AA3B#32 (((Real.log 2)⁻¹ : ℝ) : EReal) rfl,
   IdealRules.named_const.statement Cert.AttnIdeal.κ "slope0" .f32 0x3F38AA3B#32 (((1 / 2) * (Real.log 2)⁻¹ : ℝ) : EReal) rfl,
   IdealRules.named_const.statement Cert.AttnIdeal.κ "slope1" .f32 0x3EB8AA3B#32 (((1 / 4) * (Real.log 2)⁻¹ : ℝ) : EReal) rfl,
   IdealRules.named_const.statement Cert.AttnIdeal.κ "slope2" .f32 0x3E38AA3B#32 (((1 / 8) * (Real.log 2)⁻¹ : ℝ) : EReal) rfl,
   IdealRules.named_const.statement Cert.AttnIdeal.κ "slope3" .f32 0x3DB8AA3B#32 (((1 / 16) * (Real.log 2)⁻¹ : ℝ) : EReal) rfl,
   IdealRules.named_const.statement Cert.AttnIdeal.κ "slope4" .f32 0x3D38AA3B#32 (((1 / 32) * (Real.log 2)⁻¹ : ℝ) : EReal) rfl,
   IdealRules.named_const.statement Cert.AttnIdeal.κ "slope5" .f32 0x3CB8AA3B#32 (((1 / 64) * (Real.log 2)⁻¹ : ℝ) : EReal) rfl,
   IdealRules.named_const.statement Cert.AttnIdeal.κ "slope6" .f32 0x3C38AA3B#32 (((1 / 128) * (Real.log 2)⁻¹ : ℝ) : EReal) rfl,
   IdealRules.named_const.statement Cert.AttnIdeal.κ "slope7" .f32 0x3BB8AA3B#32 (((1 / 256) * (Real.log 2)⁻¹ : ℝ) : EReal) rfl,
   IdealRules.named_const.statement Cert.AttnIdeal.κ "ln2" .f32 0x3F317218#32 ((Real.log 2 : ℝ) : EReal) rfl⟩

end Cert.AttnClaim

end
-- ==== Proof.GateSpec.lean ====
/- What the backward pass of the feed-forward gate `silu (u_gate) * u_val` computes, element by element, over the reals
   with infinities: the gradients of its two halves, and of the bias added to each, which are their sums over the rows. -/
module

public import Idealize.ShloMosaic.Lib.Pointwise
public import Idealize.ShloMosaic.PureOps.Ideal.Laws

@[expose] public section

noncomputable section

namespace Cert.GateSpec

open Idealize.ShloMosaic

/-- The logistic function. -/
def sg (x : EReal) : EReal := Ideal.div 1 (1 + Ideal.exp (-x))

/-- The gradient of the gate half (`h = 0`) or of the value half at gate `g`, value `v` and gradient `d` of the product. -/
def gr (h : ℕ) (g v d : EReal) : EReal := if h = 0 then d * v * (sg g * (1 + g * (1 - sg g))) else d * (g * sg g)

/-- The same gradient as differentiating `silu g * v` writes it. -/
def grRef (h : ℕ) (g v d : EReal) : EReal := if h = 0 then d * v * sg g + g * (d * v) * (sg g * (1 - sg g)) else g * sg g * d

/-- The two agree on real numbers. -/
theorem gr_eq (h : ℕ) (g v d : ℝ) : grRef h g v d = gr h g v d := by
  obtain ⟨s, hs⟩ : ∃ s : ℝ, sg g = (s : EReal) := ⟨1 / (1 + Real.exp (-g)), by
    unfold sg
    rw [← EReal.coe_neg, Ideal.exp_coe, ← EReal.coe_one, ← EReal.coe_add, Ideal.div_coe, ← EReal.coe_mul, one_mul]
    have := Real.exp_pos (-g)
    positivity⟩
  unfold gr grRef
  rw [hs]
  split
  · simp only [← EReal.coe_one, ← EReal.coe_sub, ← EReal.coe_mul, ← EReal.coe_add]
    exact congrArg (fun t : ℝ => (t : EReal)) (by ring)
  · simp only [← EReal.coe_mul]
    exact congrArg (fun t : ℝ => (t : EReal)) (by ring)

/-- The gate half (`h = 0`) and the value half (`h = 1`). -/
def ux (A0 : FVec Ideal ⟨3, ![2, 8192, 2816]⟩ .bf16) (h n L : ℕ) : EReal :=
  if k : h < 2 ∧ n < 8192 ∧ L < 2816 then A0 (ix3 ⟨h, k.1⟩ ⟨n, k.2.1⟩ ⟨L, k.2.2⟩) else 0

/-- The gradient of the product. -/
def dx (A1 : FVec Ideal ⟨2, ![8192, 2816]⟩ .bf16) (n L : ℕ) : EReal :=
  if k : n < 8192 ∧ L < 2816 then A1 (ix2 ⟨n, k.1⟩ ⟨L, k.2⟩) else 0

/-- The gradient of half `h` at row `n` and column `L`. -/
def duSpec (A0 : FVec Ideal ⟨3, ![2, 8192, 2816]⟩ .bf16) (A1 : FVec Ideal ⟨2, ![8192, 2816]⟩ .bf16) (h n L : ℕ) : EReal :=
  gr h (ux A0 0 n L) (ux A0 1 n L) (dx A1 n L)

/-- The gradient of half `h`'s bias: the sum over the rows. -/
def dbSpec (A0 : FVec Ideal ⟨3, ![2, 8192, 2816]⟩ .bf16) (A1 : FVec Ideal ⟨2, ![8192, 2816]⟩ .bf16) (h L : ℕ) : EReal :=
  ∑ r : Fin 8192, duSpec A0 A1 h r.val L

/-- Where every element is a real number, the form that differentiating writes is the same. -/
theorem duRef (A0 : FVec Ideal ⟨3, ![2, 8192, 2816]⟩ .bf16) (A1 : FVec Ideal ⟨2, ![8192, 2816]⟩ .bf16) (f0 : ∀ i, A0 i ≠ ⊤ ∧ A0 i ≠ ⊥) (f1 : ∀ i, A1 i ≠ ⊤ ∧ A1 i ≠ ⊥)
    (h n L : ℕ) : grRef h (ux A0 0 n L) (ux A0 1 n L) (dx A1 n L) = duSpec A0 A1 h n L := by
  have hu : ∀ k, ∃ x : ℝ, ux A0 k n L = (x : EReal) := fun k => by
    unfold ux
    split
    · exact ⟨_, (EReal.coe_toReal (f0 _).1 (f0 _).2).symm⟩
    · exact ⟨0, rfl⟩
  have hd : ∃ x : ℝ, dx A1 n L = (x : EReal) := by
    unfold dx
    split
    · exact ⟨_, (EReal.coe_toReal (f1 _).1 (f1 _).2).symm⟩
    · exact ⟨0, rfl⟩
  obtain ⟨g, hg⟩ := hu 0
  obtain ⟨v, hv⟩ := hu 1
  obtain ⟨d, hd⟩ := hd
  unfold duSpec
  rw [hg, hv, hd, gr_eq]

end Cert.GateSpec

end
-- ==== Proof.GateBlocks.lean ====
/- The values the gate's backward kernel leaves in its two output blocks at one grid point. -/
module

public import proofs.«01_k».proof.Proof.Gen.GateIdeal.Value
public import proofs.«01_k».proof.Proof.GateSpec

@[expose] public section

set_option maxRecDepth 16384
noncomputable section

namespace Cert.GateIdeal.Grad

open Cert.GateIdeal Cert.GateIdeal.Gen Cert.GateSpec Idealize.ShloMosaic Idealize.ShloMosaic.TcCoe Idealize.SL.Sem
open Idealize.ShloMosaic.Pipeline (Dat)

/-- The input blocks of a point, at its first row `b`: the two halves' rows `b …` and the rows of the product's gradient. -/
structure Reads (x0 : Vec Ideal S2x512x1408 .bf16) (x1 : Vec Ideal S512x1408 .bf16) (b : ℕ) (u : ℕ → ℕ → Fin 1408 → EReal) (d : ℕ → Fin 1408 → EReal) : Prop where
  u : ∀ (h : Fin 2) (p : Fin 512) (q : Fin 1408), x0 (ix3 h p q) = u h.val (b + p.val) q
  d : ∀ (p : Fin 512) (q : Fin 1408), x1 (ix2 p q) = d (b + p.val) q

variable {i : grid0.Coords} {x0 : Vec Ideal S2x512x1408 .bf16} {x1 : Vec Ideal S512x1408 .bf16} {b : ℕ} {u : ℕ → ℕ → Fin 1408 → EReal} {d : ℕ → Fin 1408 → EReal}

/-- The gradient at one row and column. -/
def gq (u : ℕ → ℕ → Fin 1408 → EReal) (d : ℕ → Fin 1408 → EReal) (h n : ℕ) (q : Fin 1408) : EReal := gr h (u 0 n q) (u 1 n q) (d n q)

/-- One half of the pair, loaded. -/
theorem half_ld (x : Vec Ideal S2x512x1408 .bf16) (k : ℕ) (k' : Fin 2) (hk : k'.val = k) (p : Fin 512) (q : Fin 1408) (inb) :
    View.ld x (Rect.unit (s := S2x512x1408) ![k, 0, 0] ![1, 512, 1408] inb) (ix3 0 p q) = x (ix3 k' p q) :=
  congrArg x (funext fun a => Fin.ext (match a with
    | ⟨0, _⟩ => show k + 1 * 0 = k'.val by omega
    | ⟨1, _⟩ => show 0 + 1 * p.val = p.val by omega
    | ⟨2, _⟩ => show 0 + 1 * q.val = q.val by omega))

theorem ld_x1 (x : Vec Ideal S512x1408 .bf16) (inb) : View.ld x (Rect.unit (s := S512x1408) ![0, 0] ![512, 1408] inb) = x :=
  View.ld_unit_zero (by decide) inb x

/-- The logistic function of a gate's block. -/
theorem pay8_at (y : Vec Ideal S1x512x1408 .bf16) (p : Fin 512) (q : Fin 1408) : k0_pay8 y (ix2 p q) = sg (y (ix3 0 p q)) := by
  pointwise [k0_pay8, k0_pay6]
  unfold sg
  simp

/-- The gate's gradient. -/
theorem pay9_at (y z : Vec Ideal S1x512x1408 .bf16) (w : Vec Ideal S512x1408 .bf16) (p : Fin 512) (q : Fin 1408) :
    k0_pay9 y z w (ix2 p q) = gr 0 (y (ix3 0 p q)) (z (ix3 0 p q)) (w (ix2 p q)) := by
  pointwise [k0_pay9, k0_pay6, k0_pay7, pay8_at]
  rfl

/-- The value's gradient. -/
theorem pay10_at (y : Vec Ideal S1x512x1408 .bf16) (w : Vec Ideal S512x1408 .bf16) (v : EReal) (p : Fin 512) (q : Fin 1408) :
    k0_pay10 y w (ix2 p q) = gr 1 (y (ix3 0 p q)) v (w (ix2 p q)) := by
  pointwise [k0_pay10, k0_pay6, k0_pay7, pay8_at]
  rfl

theorem g0_at (h : Reads x0 x1 b u d) (inb0) (inb1) (p : Fin 512) (q : Fin 1408) :
    k0_pay9 (View.ld x0 (Rect.unit (s := S2x512x1408) ![0, 0, 0] ![1, 512, 1408] inb0)) (View.ld x0 (Rect.unit (s := S2x512x1408) ![1, 0, 0] ![1, 512, 1408] inb1)) x1 (ix2 p q)
      = gq u d 0 (b + p.val) q := by
  rw [pay9_at, half_ld _ 0 0 rfl, half_ld _ 1 1 rfl, h.u, h.u, h.d]; rfl

theorem g1_at (h : Reads x0 x1 b u d) (inb0) (p : Fin 512) (q : Fin 1408) :
    k0_pay10 (View.ld x0 (Rect.unit (s := S2x512x1408) ![0, 0, 0] ![1, 512, 1408] inb0)) x1 (ix2 p q) = gq u d 1 (b + p.val) q := by
  rw [pay10_at _ _ (u 1 (b + p.val) q), half_ld _ 0 0 rfl, h.u, h.d]; rfl

theorem pay11_at (y z : Vec Ideal S1x512x1408 .bf16) (w : Vec Ideal S512x1408 .bf16) (p : Fin 512) (q : Fin 1408) :
    k0_pay11 y z w (ix3 0 p q) = k0_pay9 y z w (ix2 p q) := by
  pointwise [k0_pay11]

theorem pay1_at (y : Vec Ideal S1x512x1408 .bf16) (w : Vec Ideal S512x1408 .bf16) (p : Fin 512) (q : Fin 1408) :
    k0_pay1 (k0_pay12 y w) (ix3 0 p q) = k0_pay10 y w (ix2 p q) := by
  pointwise [k0_pay1, k0_pay12]

/-- What one point adds to the sum of half `h` in sublane `s`. -/
def fold (u : ℕ → ℕ → Fin 1408 → EReal) (d : ℕ → Fin 1408 → EReal) (b h : ℕ) (s : Fin 8) (l : Fin 1408) : EReal :=
  ∑ a : Fin 64, gq u d h (b + (a.val * 8 + s.val)) l

theorem pay2_at (f : FVec Ideal S512x1408 .f32) (g : ℕ → Fin 1408 → EReal) (hf : ∀ p q, f (ix2 p q) = g (b + p.val) q) (v : Vec Ideal S1x8x1408 .f32) (s : Fin 8) (l : Fin 1408) :
    k0_pay2 f v (ix3 0 s l) = v (ix3 0 s l) + ∑ a : Fin 64, g (b + (a.val * 8 + s.val)) l := by
  pointwise [k0_pay2, hf]

theorem pay3_at (f : FVec Ideal S512x1408 .f32) (g : ℕ → Fin 1408 → EReal) (hf : ∀ p q, f (ix2 p q) = g (b + p.val) q) (v : Vec Ideal S1x8x1408 .f32) (s : Fin 8) (l : Fin 1408) :
    k0_pay3 f v (ix3 0 s l) = v (ix3 0 s l) + ∑ a : Fin 64, g (b + (a.val * 8 + s.val)) l := by
  pointwise [k0_pay3, hf]

/-- The zero block. -/
theorem pay5_at (k : Fin 2) (s : Fin 8) (l : Fin 1408) : (k0_pay5 (F := Ideal)) (ix3 k s l) = 0 := by
  pointwise [k0_pay5]

/-- The block with the rows of each half added up. -/
theorem pay4_at (v : Vec Ideal S2x8x1408 .f32) (k : Fin 2) (s : Fin 8) (l : Fin 1408) :
    k0_pay4 v (ix3 k s l) = ∑ x : Fin 8, v (ix3 k x l) := by
  pointwise [k0_pay4]

/-- Loading half `k` of the sums. -/
theorem idx_slab (k : ℕ) (inb) (k' : Fin 2) (hk : k'.val = k) (s : Fin 8) (l : Fin 1408) :
    (Rect.unit (s := S2x8x1408) ![k, 0, 0] ![1, 8, 1408] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)

theorem idx_half (k : ℕ) (inb) (k' : Fin 2) (hk : k'.val = k) (s : Fin 512) (l : Fin 1408) :
    (Rect.unit (s := S2x512x1408) ![k, 0, 0] ![1, 512, 1408] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)

/-- The sums after a store of half `k`, read in that half. -/
theorem canon_hit (k : ℕ) (inb) (P : Vec Ideal S1x8x1408 .f32) (L) (k' : Fin 2) (hk : k'.val = k) (s : Fin 8) (l : Fin 1408) :
    View.canon (Val := Elt Ideal) (⟨Rect.unit (s := S2x8x1408) ![k, 0, 0] ![1, 8, 1408] inb, P⟩ :: L) (ix3 k' s l) = P (ix3 0 s l) := by
  rw [← idx_slab k inb k' hk s l]
  exact View.canon_cons_emb _ _ _ _

/-- … and read in the other half. -/
theorem canon_miss (k : ℕ) (inb) (P : Vec Ideal S1x8x1408 .f32) (L) (k' : Fin 2) (hk : k'.val ≠ k) (s : Fin 8) (l : Fin 1408) :
    View.canon (Val := Elt Ideal) (⟨Rect.unit (s := S2x8x1408) ![k, 0, 0] ![1, 8, 1408] inb, P⟩ :: L) (ix3 k' s l) = View.canon L (ix3 k' s l) := by
  refine View.canon_cons_of_not_mem _ _ fun hm => hk ?_
  change ix3 k' s l ∈ (Rect.unit (s := S2x8x1408) ![k, 0, 0] ![1, 8, 1408] inb).set at hm
  rw [Rect.mem_set_unit] at hm
  have := hm 0
  change k ≤ k'.val ∧ k'.val < k + 1 at this
  omega

/-- The same of the gradients' block. -/
theorem canon_hit' (k : ℕ) (inb) (P : Vec Ideal S1x512x1408 .bf16) (L) (k' : Fin 2) (hk : k'.val = k) (s : Fin 512) (l : Fin 1408) :
    View.canon (Val := Elt Ideal) (⟨Rect.unit (s := S2x512x1408) ![k, 0, 0] ![1, 512, 1408] inb, P⟩ :: L) (ix3 k' s l) = P (ix3 0 s l) := by
  rw [← idx_half k inb k' hk s l]
  exact View.canon_cons_emb _ _ _ _

theorem canon_miss' (k : ℕ) (inb) (P : Vec Ideal S1x512x1408 .bf16) (L) (k' : Fin 2) (hk : k'.val ≠ k) (s : Fin 512) (l : Fin 1408) :
    View.canon (Val := Elt Ideal) (⟨Rect.unit (s := S2x512x1408) ![k, 0, 0] ![1, 512, 1408] inb, P⟩ :: L) (ix3 k' s l) = View.canon L (ix3 k' s l) := by
  refine View.canon_cons_of_not_mem _ _ fun hm => hk ?_
  change ix3 k' s l ∈ (Rect.unit (s := S2x512x1408) ![k, 0, 0] ![1, 512, 1408] inb).set at hm
  rw [Rect.mem_set_unit] at hm
  have := hm 0
  change k ≤ k'.val ∧ k'.val < k + 1 at this
  omega

/-- One store of the whole block of sums. -/
theorem canon_all (P : Vec Ideal S2x8x1408 .f32) (L) (inb) :
    View.canon (Val := Elt Ideal) (⟨Rect.unit (s := S2x8x1408) ![0, 0, 0] ![2, 8, 1408] inb, P⟩ :: L) = P :=
  View.canon_cons_unit_zero (by decide) inb P L

/-- A load of half `k` of the sums. -/
theorem ld_slab (X : Vec Ideal S2x8x1408 .f32) (k : ℕ) (inb) (k' : Fin 2) (hk : k'.val = k) (s : Fin 8) (l : Fin 1408) :
    View.ld X (Rect.unit (s := S2x8x1408) ![k, 0, 0] ![1, 8, 1408] inb) (ix3 0 s l) = X (ix3 k' s l) :=
  congrArg X (idx_slab k inb k' hk s l)

variable (c : Dev nD) (a2 : Memref sig .tc .vmem S2x512x1408 .bf16) (h2 : a2.IsWhole) (a3 : Memref sig .tc .vmem S512x1408 .bf16) (h3 : a3.IsWhole) (a4 : Memref sig .tc .vmem S2x512x1408 .bf16) (h4 : a4.IsWhole) (a5 : Memref sig .tc .vmem S2x8x1408 .f32) (h5 : a5.IsWhole)

/-- The gradients' block after a point of case A. -/
theorem out_A_2 (hc0 : cond0_0 i) (hc1 : ¬cond0_1 i) (h : Reads x0 x1 b u d) (k : Fin 2) (s : Fin 512) (l : Fin 1408) :
    out0_A_2 (F := Ideal) c i a2 h2 a3 h3 a4 h4 a5 h5 hc0 hc1 x0 x1 (ix3 k s l) = gq u d k.val (b + s.val) l := by
  unfold out0_A_2
  rw [View.read_writes_eq_canon _ _ _ (cover0_A_2 c i a2 h2 a3 h3 a4 h4 a5 h5 hc0 hc1 x0 x1)]
  unfold kernelRun0_A
  dsimp only
  sl_unfold_words
  simp only [View.readAt_eq_ld, h2.read_unread, h3.read_unread, h5.read_unread]
  simp only [ld_x1]
  obtain rfl | rfl : k = 0 ∨ k = 1 := by
    rcases k with ⟨k, hk⟩; interval_cases k <;> simp
  · rw [canon_miss' 1 _ _ _ _ (by decide), canon_hit' 0 _ _ _ _ rfl, pay11_at]
    exact g0_at h _ _ s l
  · rw [canon_hit' 1 _ _ _ _ rfl, pay1_at]
    exact g1_at h _ s l

/-- The sums' block after a point of case A. -/
theorem out_A_3 (hc0 : cond0_0 i) (hc1 : ¬cond0_1 i) (h : Reads x0 x1 b u d) (k : Fin 2) (s : Fin 8) (l : Fin 1408) :
    out0_A_3 (F := Ideal) c i a2 h2 a3 h3 a4 h4 a5 h5 hc0 hc1 x0 x1 (ix3 k s l) = fold u d b k.val s l := by
  unfold out0_A_3
  rw [View.read_writes_eq_canon _ _ _ (cover0_A_3 c i a2 h2 a3 h3 a4 h4 a5 h5 hc0 hc1 x0 x1)]
  unfold kernelRun0_A
  dsimp only
  sl_unfold_words
  simp only [View.readAt_eq_ld, h2.read_unread, h3.read_unread, h5.read_unread]
  simp only [View.readCov_eq_canon', ld_x1]
  obtain rfl | rfl : k = 0 ∨ k = 1 := by
    rcases k with ⟨k, hk⟩; interval_cases k <;> simp
  · rw [canon_miss 1 _ _ _ _ (by decide), canon_hit 0 _ _ _ _ rfl, pay2_at (b := b) _ (gq u d 0) (fun p q => g0_at h _ _ p q)]
    rw [idx_slab 0 _ 0 rfl, canon_all, pay5_at, zero_add] <;> rfl
  · rw [canon_hit 1 _ _ _ _ rfl, pay3_at (b := b) _ (gq u d 1) (fun p q => g1_at h _ p q)]
    rw [idx_slab 1 _ 1 rfl, canon_miss 0 _ _ _ _ (by decide), canon_all, pay5_at, zero_add] <;> rfl

/-- The gradients' block after a point of case B. -/
theorem out_B_2 (hc0 : ¬cond0_0 i) (hc1 : ¬cond0_1 i) (xo : Vec Ideal S2x8x1408 .f32) (h : Reads x0 x1 b u d) (k : Fin 2) (s : Fin 512) (l : Fin 1408) :
    out0_B_2 (F := Ideal) c i a2 h2 a3 h3 a4 h4 a5 h5 hc0 hc1 x0 x1 xo (ix3 k s l) = gq u d k.val (b + s.val) l := by
  unfold out0_B_2
  rw [View.read_writes_eq_canon _ _ _ (cover0_B_2 c i a2 h2 a3 h3 a4 h4 a5 h5 hc0 hc1 x0 x1 xo)]
  unfold kernelRun0_B
  dsimp only
  sl_unfold_words
  simp only [View.readAt_eq_ld, h2.read_unread, h3.read_unread, h5.read_unread]
  simp only [ld_x1]
  obtain rfl | rfl : k = 0 ∨ k = 1 := by
    rcases k with ⟨k, hk⟩; interval_cases k <;> simp
  · rw [canon_miss' 1 _ _ _ _ (by decide), canon_hit' 0 _ _ _ _ rfl, pay11_at]
    exact g0_at h _ _ s l
  · rw [canon_hit' 1 _ _ _ _ rfl, pay1_at]
    exact g1_at h _ s l

/-- The sums' block after a point of case B. -/
theorem out_B_3 (hc0 : ¬cond0_0 i) (hc1 : ¬cond0_1 i) (xo : Vec Ideal S2x8x1408 .f32) (h : Reads x0 x1 b u d) (k : Fin 2) (s : Fin 8) (l : Fin 1408) :
    out0_B_3 (F := Ideal) c i a2 h2 a3 h3 a4 h4 a5 h5 hc0 hc1 x0 x1 xo (ix3 k s l) = xo (ix3 k s l) + fold u d b k.val s l := by
  unfold out0_B_3
  rw [View.read_writes_eq_canon _ _ _ (cover0_B_3 c i a2 h2 a3 h3 a4 h4 a5 h5 hc0 hc1 x0 x1 xo)]
  unfold kernelRun0_B
  dsimp only
  sl_unfold_words
  simp only [View.readAt_eq_ld, h2.read_unread, h3.read_unread, h5.read_unread]
  simp only [ld_x1]
  obtain rfl | rfl : k = 0 ∨ k = 1 := by
    rcases k with ⟨k, hk⟩; interval_cases k <;> simp
  · rw [canon_miss 1 _ _ _ _ (by decide), canon_hit 0 _ _ _ _ rfl, pay2_at (b := b) _ (gq u d 0) (fun p q => g0_at h _ _ p q), ld_slab _ 0 _ 0 rfl] <;> rfl
  · rw [canon_hit 1 _ _ _ _ rfl, pay3_at (b := b) _ (gq u d 1) (fun p q => g1_at h _ p q), ld_slab _ 1 _ 1 rfl] <;> rfl

/-- The gradients' block after a point of case C. -/
theorem out_C_2 (hc0 : ¬cond0_0 i) (hc1 : cond0_1 i) (xo : Vec Ideal S2x8x1408 .f32) (h : Reads x0 x1 b u d) (k : Fin 2) (s : Fin 512) (l : Fin 1408) :
    out0_C_2 (F := Ideal) c i a2 h2 a3 h3 a4 h4 a5 h5 hc0 hc1 x0 x1 xo (ix3 k s l) = gq u d k.val (b + s.val) l := by
  unfold out0_C_2
  rw [View.read_writes_eq_canon _ _ _ (cover0_C_2 c i a2 h2 a3 h3 a4 h4 a5 h5 hc0 hc1 x0 x1 xo)]
  unfold kernelRun0_C
  dsimp only
  sl_unfold_words
  simp only [View.readAt_eq_ld, h2.read_unread, h3.read_unread, h5.read_unread]
  simp only [ld_x1]
  obtain rfl | rfl : k = 0 ∨ k = 1 := by
    rcases k with ⟨k, hk⟩; interval_cases k <;> simp
  · rw [canon_miss' 1 _ _ _ _ (by decide), canon_hit' 0 _ _ _ _ rfl, pay11_at]
    exact g0_at h _ _ s l
  · rw [canon_hit' 1 _ _ _ _ rfl, pay1_at]
    exact g1_at h _ s l

/-- The sums' block after a point of case C. -/
theorem out_C_3 (hc0 : ¬cond0_0 i) (hc1 : cond0_1 i) (xo : Vec Ideal S2x8x1408 .f32) (h : Reads x0 x1 b u d) (k : Fin 2) (s : Fin 8) (l : Fin 1408) :
    out0_C_3 (F := Ideal) c i a2 h2 a3 h3 a4 h4 a5 h5 hc0 hc1 x0 x1 xo (ix3 k s l) = ∑ x : Fin 8, (xo (ix3 k x l) + fold u d b k.val x l) := by
  unfold out0_C_3
  rw [View.read_writes_eq_canon _ _ _ (cover0_C_3 c i a2 h2 a3 h3 a4 h4 a5 h5 hc0 hc1 x0 x1 xo)]
  unfold kernelRun0_C
  dsimp only
  sl_unfold_words
  simp only [View.readAt_eq_ld, h2.read_unread, h3.read_unread, h5.read_unread]
  simp only [View.readCov_eq_canon', ld_x1]
  rw [canon_all, pay4_at]
  refine Finset.sum_congr rfl fun x _ => ?_
  have iw : ∀ (inb) (y : S2x8x1408.Idx), (Rect.unit (s := S2x8x1408) ![0, 0, 0] ![2, 8, 1408] inb).toLoadRect.idx y = y := fun inb y => funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega)
  rw [iw]
  obtain rfl | rfl : k = 0 ∨ k = 1 := by
    rcases k with ⟨k, hk⟩; interval_cases k <;> simp
  · rw [canon_miss 1 _ _ _ _ (by decide), canon_hit 0 _ _ _ _ rfl, pay2_at (b := b) _ (gq u d 0) (fun p q => g0_at h _ _ p q), ld_slab _ 0 _ 0 rfl] <;> rfl
  · rw [canon_hit 1 _ _ _ _ rfl, pay3_at (b := b) _ (gq u d 1) (fun p q => g1_at h _ p q), ld_slab _ 1 _ 1 rfl] <;> rfl

end Cert.GateIdeal.Grad

end
-- ==== Proof.GateKernel.lean ====
/- The gate's backward kernel, run from any memory, leaves the specified gradients in its two result arrays. -/
module

public import proofs.«01_k».proof.Proof.GateBlocks

@[expose] public section

set_option maxRecDepth 16384
noncomputable section

namespace Cert.GateIdeal.Grad

open Cert.GateIdeal Cert.GateIdeal.Gen Cert.GateSpec Idealize.ShloMosaic Idealize.ShloMosaic.TcCoe Idealize.SL.Sem
open Idealize.ShloMosaic.Pipeline (Dat)

variable (m : (ℓ : Loc nD τ sig) → Buf (Elt Ideal) ℓ) (c : Dev nD)

/-- The two arguments. -/
abbrev A0 : FVec Ideal S2x8192x2816 .bf16 := m ((c : Thread nD τ).loc main_arg0)
abbrev A1 : FVec Ideal S8192x2816 .bf16 := m ((c : Thread nD τ).loc main_arg1)

/-- The blocks each point names. -/
theorem idx0 : ∀ t : Fin cfg0.N, win0_0.index t 0 = 0 ∧ win0_0.index t 1 = t.val % 16 ∧ win0_0.index t 2 = t.val / 16 :=
  (by decide +kernel : ∀ t : Fin grid0.N, _)
theorem idx1 : ∀ t : Fin cfg0.N, win0_1.index t 0 = t.val % 16 ∧ win0_1.index t 1 = t.val / 16 :=
  (by decide +kernel : ∀ t : Fin grid0.N, _)
theorem idx2 : ∀ t : Fin cfg0.N, win0_2.index t 0 = 0 ∧ win0_2.index t 1 = t.val % 16 ∧ win0_2.index t 2 = t.val / 16 :=
  (by decide +kernel : ∀ t : Fin grid0.N, _)
theorem idx3 : ∀ t : Fin cfg0.N, win0_3.index t 0 = 0 ∧ win0_3.index t 1 = 0 ∧ win0_3.index t 2 = t.val / 16 :=
  (by decide +kernel : ∀ t : Fin grid0.N, _)
theorem flush3 : ∀ t : Fin cfg0.N, (cfg0.win 3).flush t = true ↔ t.val % 16 = 15 :=
  (by decide +kernel : ∀ t : Fin grid0.N, _)
theorem lt32 (t : Fin cfg0.N) : t.val < 32 := t.isLt

/-- The columns of the arrays a point works on. -/
def uT (t : ℕ) (h n : ℕ) (q : Fin 1408) : EReal := ux (A0 m c) h n (1408 * (t / 16) + q.val)
def dT (t : ℕ) (n : ℕ) (q : Fin 1408) : EReal := dx (A1 m c) n (1408 * (t / 16) + q.val)

/-- The input blocks of point `t`. -/
theorem reads (t : Fin cfg0.N) : Reads (iblk m c 0 t) (iblk m c 1 t) (512 * (t.val % 16)) (uT m c t.val) (dT m c t.val) where
  u h p q := by
    obtain ⟨e0, e1, e2⟩ := idx0 t
    have ht := lt32 t
    have hh := h.isLt
    have hp := p.isLt
    have hq := q.isLt
    unfold uT ux
    rw [dif_pos ⟨by omega, by omega, by omega⟩]
    unfold iblk; rw [View.read_apply]
    show V m c main_arg0 _ = m ((c : Thread nD τ).loc main_arg0) _
    unfold V; congr 1; funext a; apply Fin.ext
    match a with
    | ⟨0, _⟩ => show win0_0.index t 0 * 2 + 1 * h.val = h.val; omega
    | ⟨1, _⟩ => show win0_0.index t 1 * 512 + 1 * p.val = 512 * (t.val % 16) + p.val; omega
    | ⟨2, _⟩ => show win0_0.index t 2 * 1408 + 1 * q.val = 1408 * (t.val / 16) + q.val; omega
  d p q := by
    obtain ⟨e0, e1⟩ := idx1 t
    have ht := lt32 t
    have hp := p.isLt
    have hq := q.isLt
    unfold dT dx
    rw [dif_pos ⟨by omega, by omega⟩]
    unfold iblk; rw [View.read_apply]
    show V m c main_arg1 _ = m ((c : Thread nD τ).loc main_arg1) _
    unfold V; congr 1; funext a; apply Fin.ext
    match a with
    | ⟨0, _⟩ => show win0_1.index t 0 * 512 + 1 * p.val = 512 * (t.val % 16) + p.val; omega
    | ⟨1, _⟩ => show win0_1.index t 1 * 1408 + 1 * q.val = 1408 * (t.val / 16) + q.val; omega

/-- The block of the gradients after point `t`. -/
theorem outs_2 (t : Fin cfg0.N) (k : Fin 2) (s : Fin 512) (l : Fin 1408) :
    (outsAt0 m c t.val t.isLt).1 (ix3 k s l) = duSpec (A0 m c) (A1 m c) k.val (512 * (t.val % 16) + s.val) (1408 * (t.val / 16) + l.val) := by
  by_cases h0 : t.val % 16 = 0
  · rw [outsAt0_A m c t h0 (by omega)]; dsimp only
    exact out_A_2 (h := reads m c t) ..
  · by_cases h1 : t.val % 16 = 15
    · rw [outsAt0_C m c t h0 h1]; dsimp only
      exact out_C_2 (h := reads m c t) ..
    · rw [outsAt0_B m c t h0 h1]; dsimp only
      exact out_B_2 (h := reads m c t) ..

/-- The sums after point `t`, before the last row block: what the row blocks so far added. -/
theorem outs_3 (k : Fin 2) (s : Fin 8) (l : Fin 1408) : ∀ (n : ℕ) (hn : n < cfg0.N), n % 16 ≠ 15 →
    (outsAt0 m c n hn).2 (ix3 k s l) = ∑ i ∈ Finset.range (n % 16 + 1), fold (uT m c n) (dT m c n) (512 * i) k.val s l := by
  intro n
  induction n with
  | zero =>
    intro hn h
    have e := outsAt0_A m c ⟨0, hn⟩ rfl (show ¬0 % 16 = 15 by decide)
    change outsAt0 m c 0 hn = _ at e
    rw [e]; dsimp only
    rw [out_A_3 (h := reads m c ⟨0, hn⟩)]
    simp
  | succ n ih =>
    intro hn h
    by_cases h0 : (n + 1) % 16 = 0
    · have e := outsAt0_A m c ⟨n + 1, hn⟩ h0 h
      change outsAt0 m c (n + 1) hn = _ at e
      rw [e]; dsimp only
      rw [out_A_3 (h := reads m c ⟨n + 1, hn⟩)]
      simp [h0]
    · have e := outsAt0_B m c ⟨n + 1, hn⟩ h0 h
      change outsAt0 m c (n + 1) hn = _ at e
      rw [e]; dsimp only
      rw [out_B_3 (h := reads m c ⟨n + 1, hn⟩)]
      have ih' := ih (by omega) (by omega)
      have hd : (n + 1) / 16 = n / 16 := by omega
      have hm : (n + 1) % 16 = n % 16 + 1 := by omega
      have hc : dT m c (n + 1) = dT m c n := by unfold dT; rw [hd]
      have hu : uT m c (n + 1) = uT m c n := by unfold uT; rw [hd]
      show (outsAt0 m c n _).2 (ix3 k s l) + fold (uT m c (n + 1)) (dT m c (n + 1)) (512 * ((n + 1) % 16)) k.val s l = _
      rw [ih', hc, hu, hm, Finset.sum_range_succ _ (n % 16 + 1)]

/-- The rows of a column, cut into row blocks and within a block into eight interleaved groups. -/
theorem sum_rows (f : ℕ → EReal) :
    ∑ s : Fin 8, ∑ i ∈ Finset.range 16, ∑ a : Fin 64, f (512 * i + (a.val * 8 + s.val)) = ∑ r : Fin 8192, f r.val := by
  rw [Fin.sum_univ_tiles 16 512 (by norm_num) (fun r : Fin 8192 => f r.val), Finset.sum_comm,
    ← Fin.sum_univ_eq_sum_range (fun i => ∑ s : Fin 8, ∑ a : Fin 64, f (512 * i + (a.val * 8 + s.val))) 16]
  refine Finset.sum_congr rfl fun i _ => ?_
  rw [Fin.sum_univ_tiles 64 8 (by norm_num) (fun r : Fin 512 => f (i.val * 512 + r.val)), Finset.sum_comm]
  refine Finset.sum_congr rfl fun a _ => Finset.sum_congr rfl fun s _ => ?_
  show f (512 * i.val + (a.val * 8 + s.val)) = f (i.val * 512 + (a.val * 8 + s.val))
  rw [Nat.mul_comm]

/-- The sums' block where it is written back: the bias gradients of its columns, in every sublane. -/
theorem outs_3_last (t : Fin cfg0.N) (ht : t.val % 16 = 15) (k : Fin 2) (s : Fin 8) (l : Fin 1408) :
    (outsAt0 m c t.val t.isLt).2 (ix3 k s l) = dbSpec (A0 m c) (A1 m c) k.val (1408 * (t.val / 16) + l.val) := by
  have h0 : ¬t.val % 16 = 0 := by omega
  rw [outsAt0_C m c t h0 ht]; dsimp only
  rw [out_C_3 (h := reads m c t)]
  have hd : (t.val - 1) / 16 = t.val / 16 := by omega
  have hm : (t.val - 1) % 16 = 14 := by omega
  have hc : dT m c (t.val - 1) = dT m c t.val := by unfold dT; rw [hd]
  have hu : uT m c (t.val - 1) = uT m c t.val := by unfold uT; rw [hd]
  unfold dbSpec
  rw [← sum_rows (fun r => duSpec (A0 m c) (A1 m c) k.val r (1408 * (t.val / 16) + l.val))]
  refine Finset.sum_congr rfl fun x _ => ?_
  rw [outs_3 m c k x l (t.val - 1) _ (by omega), hm, hc, hu, ht, ← Finset.sum_range_succ (fun i => fold (uT m c t.val) (dT m c t.val) (512 * i) k.val x l) 15]
  rfl

/-- The gradients of the halves, as the array the run leaves. -/
def G2 : FVec Ideal S2x8192x2816 .bf16 := fun i => duSpec (A0 m c) (A1 m c) (i 0).val (i 1).val (i 2).val
/-- The gradients of the biases, as the array the run leaves. -/
def G3 : FVec Ideal S2x8x2816 .f32 := fun i => dbSpec (A0 m c) (A1 m c) (i 0).val (i 2).val

theorem flushed_2 (t : Fin cfg0.N) : (dats m 0 c).flushed 2 t = ((cfg0.win 2).blk t).view.read (Elt Ideal) (G2 m c) := by
  rw [Value.flushed2]
  obtain ⟨e0, e1, e2⟩ := idx2 t
  have key : ∀ y : S2x512x1408.Idx, (outsAt0 m c t.val t.isLt).1 y = G2 m c (((cfg0.win 2).blk t).view.emb y) := fun y => by
    obtain ⟨k, p, q, rfl⟩ : ∃ (k : Fin 2) (p : Fin 512) (q : Fin 1408), y = ix3 k p q := ⟨y 0, y 1, y 2, eq_ix3 y⟩
    rw [outs_2]
    unfold G2
    congr 1
    · show k.val = win0_2.index t 0 * 2 + 1 * k.val; omega
    · show 512 * (t.val % 16) + p.val = win0_2.index t 1 * 512 + 1 * p.val; omega
    · show 1408 * (t.val / 16) + q.val = win0_2.index t 2 * 1408 + 1 * q.val; omega
  funext y
  rw [View.read_apply]
  exact key y

theorem flushed_3 (t : Fin cfg0.N) (hf : (cfg0.win 3).flush t = true) :
    (dats m 0 c).flushed 3 t = ((cfg0.win 3).blk t).view.read (Elt Ideal) (G3 m c) := by
  rw [Value.flushed3]
  obtain ⟨e0, e1, e2⟩ := idx3 t
  have key : ∀ y : S2x8x1408.Idx, (outsAt0 m c t.val t.isLt).2 y = G3 m c (((cfg0.win 3).blk t).view.emb y) := fun y => by
    obtain ⟨k, p, q, rfl⟩ : ∃ (k : Fin 2) (p : Fin 8) (q : Fin 1408), y = ix3 k p q := ⟨y 0, y 1, y 2, eq_ix3 y⟩
    rw [outs_3_last m c t ((flush3 t).mp hf)]
    unfold G3
    congr 1
    · show k.val = win0_3.index t 0 * 2 + 1 * k.val; omega
    · show 1408 * (t.val / 16) + q.val = win0_3.index t 2 * 1408 + 1 * q.val; omega
  funext y
  rw [View.read_apply]
  exact key y

/-- The halves' gradients are left in the first result. -/
theorem arr_2 : (dats m 0 c).arrAt 2 cfg0.N = G2 m c :=
  (dats m 0 c).arrAt_eq_of_cover 2 (G2 m c) (fun t _ => flushed_2 m c t) fun (i : S2x8192x2816.Idx) => by
    have h0 : (i 0).val < 2 := (i 0).isLt
    have h1 : (i 1).val < 8192 := (i 1).isLt
    have h2 : (i 2).val < 2816 := (i 2).isLt
    obtain ⟨t, ht⟩ : ∃ t : Fin cfg0.N, t.val = 16 * ((i 2).val / 1408) + (i 1).val / 512 := ⟨⟨_, by show _ < 32; omega⟩, rfl⟩
    refine ⟨t, ?_, ?_⟩
    · exact (by decide +kernel : ∀ t : Fin grid0.N, (cfg0.win 2).flush t = true) _
    · show i ∈ ((View.whole main_v0_0).slice (win0_2.rect t)).set
      rw [View.set_slice_whole, Rect.mem_set_unit]
      obtain ⟨e0, e1, e2⟩ := idx2 t
      intro a
      match a with
      | ⟨0, _⟩ => show win0_2.index t 0 * 2 ≤ (i 0).val ∧ (i 0).val < win0_2.index t 0 * 2 + 2; omega
      | ⟨1, _⟩ => show win0_2.index t 1 * 512 ≤ (i 1).val ∧ (i 1).val < win0_2.index t 1 * 512 + 512; omega
      | ⟨2, _⟩ => show win0_2.index t 2 * 1408 ≤ (i 2).val ∧ (i 2).val < win0_2.index t 2 * 1408 + 1408; omega

/-- The biases' gradients are left in the second result. -/
theorem arr_3 : (dats m 0 c).arrAt 3 cfg0.N = G3 m c :=
  (dats m 0 c).arrAt_eq_of_cover 3 (G3 m c) (fun t => flushed_3 m c t) fun (i : S2x8x2816.Idx) => by
    have h0 : (i 0).val < 2 := (i 0).isLt
    have h1 : (i 1).val < 8 := (i 1).isLt
    have h2 : (i 2).val < 2816 := (i 2).isLt
    obtain ⟨t, ht⟩ : ∃ t : Fin cfg0.N, t.val = 16 * ((i 2).val / 1408) + 15 := ⟨⟨_, by show _ < 32; omega⟩, rfl⟩
    refine ⟨t, ?_, ?_⟩
    · rw [flush3]; omega
    · show i ∈ ((View.whole main_v0_1).slice (win0_3.rect t)).set
      rw [View.set_slice_whole, Rect.mem_set_unit]
      obtain ⟨e0, e1, e2⟩ := idx3 t
      intro a
      match a with
      | ⟨0, _⟩ => show win0_3.index t 0 * 2 ≤ (i 0).val ∧ (i 0).val < win0_3.index t 0 * 2 + 2; omega
      | ⟨1, _⟩ => show win0_3.index t 1 * 8 ≤ (i 1).val ∧ (i 1).val < win0_3.index t 1 * 8 + 8; omega
      | ⟨2, _⟩ => show win0_3.index t 2 * 1408 ≤ (i 2).val ∧ (i 2).val < win0_3.index t 2 * 1408 + 1408; omega

end Cert.GateIdeal.Grad

end
-- ==== Proof.GateRefVal.lean ====
/- The reference of the gate's backward pass computes the specification. -/
module

public import proofs.«01_k».proof.Proof.Gen.GateRefIdeal.Read
public import proofs.«01_k».proof.Proof.GateSpec

@[expose] public section

set_option maxRecDepth 16384
noncomputable section

namespace Cert.GateRefIdeal.Grad

open Cert.GateRefIdeal Cert.GateRefIdeal.Gen Cert.GateRefIdeal.Read Cert.GateSpec Idealize.ShloMosaic Idealize.ShloMosaic.TcCoe Idealize.SL.Sem

variable (A0 : FVec Ideal S2x8192x2816 .bf16) (A1 : FVec Ideal S8192x2816 .bf16)

/-- The two halves laid side by side, with the zero offset of the bias. -/
theorem u_at (r : Fin 8192) (l : Fin 5632) : val_main_v9 (F := Ideal) A0 (ix2 r l) = ux A0 (l.val / 2816) r.val (l.val % 2816) := by
  pointwise [val_main_v9, val_main_v8, val_main_v7, val_main_v6, val_main_cst, val_main_v5, val_main_v4, val_main_v3, val_main_v2, val_main_v1, val_main_v0]
  have hl := l.isLt
  unfold ux
  by_cases h : l.val < 2816
  · rw [dif_pos h, dif_pos ⟨by omega, r.isLt, by omega⟩]
    congr 1; refine (ix3_inj _ _ _ _ _ _).mpr ⟨Fin.ext ?_, rfl, Fin.ext ?_⟩
    · show 0 = l.val / 2816; omega
    · show l.val = l.val % 2816; omega
  · rw [dif_neg h, dif_pos ⟨by omega, r.isLt, by omega⟩]
    congr 1; refine (ix3_inj _ _ _ _ _ _).mpr ⟨Fin.ext ?_, rfl, Fin.ext ?_⟩
    · show 1 = l.val / 2816; omega
    · show l.val - 2816 = l.val % 2816; omega

/-- The gate half and the value half. -/
theorem gate_at (r : Fin 8192) (l : Fin 2816) : val_main_v10 (F := Ideal) A0 (ix2 r l) = ux A0 0 r.val l.val := by
  pointwise [val_main_v10, u_at]
  have hl := l.isLt
  congr 1 <;> omega
theorem value_at (r : Fin 8192) (l : Fin 2816) : val_main_v11 (F := Ideal) A0 (ix2 r l) = ux A0 1 r.val l.val := by
  pointwise [val_main_v11, u_at]
  have hl := l.isLt
  congr 1 <;> omega

/-- The logistic function of the gate. -/
theorem sg_at (r : Fin 8192) (l : Fin 2816) : val_main_v12_2 (F := Ideal) A0 (ix2 r l) = sg (ux A0 0 r.val l.val) := by
  pointwise [val_main_v12_2, val_main_call0_v4, val_main_call0_cst_0, val_main_call0_v3, val_main_call0_v2, val_main_call0_cst, val_main_call0_v1, val_main_call0_v0, gate_at]
  unfold sg
  simp

/-- The gradient of the product. -/
theorem d_at (r : Fin 8192) (l : Fin 2816) : val_main_v14 (F := Ideal) A1 (ix2 r l) = dx A1 r.val l.val := by
  pointwise [val_main_v14]
  unfold dx
  rw [dif_pos ⟨r.isLt, l.isLt⟩]

/-- The gradients of the two halves. -/
theorem dg_at (r : Fin 8192) (l : Fin 2816) :
    val_main_v17 (F := Ideal) A0 A1 (ix2 r l) = grRef 0 (ux A0 0 r.val l.val) (ux A0 1 r.val l.val) (dx A1 r.val l.val) := by
  pointwise [val_main_v17, val_main_call1_v1, val_main_call1_v2, val_main_call1_v0, val_main_v16, val_main_v12_1, val_main_call0_v7, val_main_call0_v6, val_main_call0_cst_1, gate_at, value_at, sg_at, d_at]
  rfl
theorem dv_at (r : Fin 8192) (l : Fin 2816) :
    val_main_v15 (F := Ideal) A0 A1 (ix2 r l) = grRef 1 (ux A0 0 r.val l.val) (ux A0 1 r.val l.val) (dx A1 r.val l.val) := by
  pointwise [val_main_v15, val_main_v12_0, gate_at, sg_at, d_at]
  rfl

/-- The two gradients side by side. -/
theorem du_at (f0 : ∀ i, A0 i ≠ ⊤ ∧ A0 i ≠ ⊥) (f1 : ∀ i, A1 i ≠ ⊤ ∧ A1 i ≠ ⊥) (r : Fin 8192) (l : Fin 5632) :
    val_main_v18 (F := Ideal) A0 A1 (ix2 r l) = duSpec A0 A1 (l.val / 2816) r.val (l.val % 2816) := by
  pointwise [val_main_v18]
  have hl := l.isLt
  by_cases h : l.val < 2816
  · rw [dif_pos h, dg_at, duRef A0 A1 f0 f1]
    show duSpec A0 A1 0 r.val l.val = _
    congr 1 <;> omega
  · rw [dif_neg h, dv_at, duRef A0 A1 f0 f1]
    show duSpec A0 A1 1 r.val (l.val - 2816) = _
    congr 1 <;> omega

/-- The reference's gradients of the halves. -/
theorem duc_at (f0 : ∀ i, A0 i ≠ ⊤ ∧ A0 i ≠ ⊥) (f1 : ∀ i, A1 i ≠ ⊤ ∧ A1 i ≠ ⊥) (k : Fin 2) (r : Fin 8192) (l : Fin 2816) :
    val_main_v27 (F := Ideal) A0 A1 (ix3 k r l) = duSpec A0 A1 k.val r.val l.val := by
  pointwise [val_main_v27, val_main_v26, val_main_v25, val_main_v24, val_main_v23, val_main_v22, du_at A0 A1 f0 f1]
  have hl := l.isLt
  have hk := k.isLt
  split
  · congr 1 <;> omega
  · congr 1 <;> omega

/-- The reference's gradients of the biases. -/
theorem db_at (f0 : ∀ i, A0 i ≠ ⊤ ∧ A0 i ≠ ⊥) (f1 : ∀ i, A1 i ≠ ⊤ ∧ A1 i ≠ ⊥) (k : Fin 2) (s : Fin 8) (l : Fin 2816) :
    val_main_v29 (F := Ideal) A0 A1 (ix3 k s l) = dbSpec A0 A1 k.val l.val := by
  pointwise [val_main_v29, val_main_v28, val_main_v21, val_main_v20, val_main_v19, val_main_cst_0, val_main_cst_1, du_at A0 A1 f0 f1]
  have hl := l.isLt
  have hk := k.isLt
  unfold dbSpec
  simp only [Finset.univ_unique, Finset.sum_singleton]
  refine Finset.sum_congr rfl fun r _ => ?_
  congr 1 <;> omega

end Cert.GateRefIdeal.Grad

end
-- ==== Proof.GateClaim.lean ====
/- The gate's backward kernel and its reference leave equal results on real numbers. -/
module

public import proofs.«01_k».proof.Defs
public import proofs.«01_k».proof.Proof.GateKernel
public import proofs.«01_k».proof.Proof.GateRefVal

@[expose] public section

set_option maxRecDepth 16384
noncomputable section

namespace Cert.GateClaim

open Idealize.ShloMosaic Idealize.SL.Sem Cert.GateSpec

/-- The side conditions of the precondition's text. -/
theorem pre_facts : Cert.Pre_gate_finite.Facts where
  bcast_S_S2x8192x2816 := by decide
  bcast_S_S8192x2816 := by decide

attribute [local instance] Cert.GateIdeal.Gen.facts Cert.GateRefIdeal.Gen.facts pre_facts

/-- An extended real whose size is below the greatest is a real number. -/
theorem real_of (x : EReal) (h : Ideal.cmp .olt (max x (-x)) (Ideal.ofBits .bf16 0x7F80#16) = 1#1) : x ≠ ⊤ ∧ x ≠ ⊥ := by
  have htop : Ideal.ofBits .bf16 0x7F80#16 = ⊤ := by simp [Ideal.ofBits, Ideal.ieee]
  rw [htop] at h
  unfold Ideal.cmp at h
  constructor
  · rintro rfl
    simp at h
  · rintro rfl
    simp at h

/-- The reference's results, at the specification. -/
theorem ref_du (B0 : FVec Ideal Cert.GateRefIdeal.S2x8192x2816 .bf16) (B1 : FVec Ideal Cert.GateRefIdeal.S8192x2816 .bf16)
    (f0 : ∀ i, B0 i ≠ ⊤ ∧ B0 i ≠ ⊥) (f1 : ∀ i, B1 i ≠ ⊤ ∧ B1 i ≠ ⊥) :
    Cert.GateRefIdeal.Read.val_main_v27 (F := Ideal) B0 B1 = fun i => duSpec B0 B1 (i 0).val (i 1).val (i 2).val := by
  funext i
  obtain ⟨k, r, l, rfl⟩ : ∃ (k : Fin 2) (r : Fin 8192) (l : Fin 2816), i = ix3 k r l := ⟨i 0, i 1, i 2, eq_ix3 i⟩
  exact Cert.GateRefIdeal.Grad.duc_at B0 B1 f0 f1 k r l

theorem ref_db (B0 : FVec Ideal Cert.GateRefIdeal.S2x8192x2816 .bf16) (B1 : FVec Ideal Cert.GateRefIdeal.S8192x2816 .bf16)
    (f0 : ∀ i, B0 i ≠ ⊤ ∧ B0 i ≠ ⊥) (f1 : ∀ i, B1 i ≠ ⊤ ∧ B1 i ≠ ⊥) :
    Cert.GateRefIdeal.Read.val_main_v29 (F := Ideal) B0 B1 = fun i => dbSpec B0 B1 (i 0).val (i 2).val := by
  funext i
  obtain ⟨k, s, l, rfl⟩ : ∃ (k : Fin 2) (s : Fin 8) (l : Fin 2816), i = ix3 k s l := ⟨i 0, i 1, i 2, eq_ix3 i⟩
  exact Cert.GateRefIdeal.Grad.db_at B0 B1 f0 f1 k s l

/-- The reference runs from every memory, leaves its arguments and every counter at zero. -/
theorem ref_frame : Cert.quiescent_GateRefIdeal := fun m ρ _ =>
  (θ_run _ _ _).mono (fun r h => ⟨fun c => (h c).2.2, Idealize.ShloMosaic.sem_eq_zero_of_no_sems (by decide) r.2⟩)
    (Cert.GateRefIdeal.Value.run (F := Ideal) m ρ)

/-- From memories of real numbers that agree on the arguments both programs leave the same gradients. -/
theorem algebraic : Cert.algebraic_GateIdeal_GateRefIdeal_pre_gate_finite := by
  intro m ρ m' ρ' hp hag
  refine ⟨fun c => Cert.GateIdeal.Grad.G2 m c, fun c => Cert.GateIdeal.Grad.G3 m c, ?_, ?_⟩
  · exact (θ_run _ _ _).mono (fun _ h c => ⟨(h c).1.trans (Cert.GateIdeal.Grad.arr_2 m c), (h c).2.1.trans (Cert.GateIdeal.Grad.arr_3 m c), (h c).2.2⟩)
      (Cert.GateIdeal.Value.run_blocks (F := Ideal) m ρ)
  · refine (θ_run _ _ _).mono (fun _ h c => ⟨(h c).1.trans ?_, (h c).2.1.trans ?_, (h c).2.2⟩) (Cert.GateRefIdeal.Value.run (F := Ideal) m' ρ')
    · rw [Cert.GateRefIdeal.Read.val_main_v27_eq, (hag c).1, (hag c).2, ref_du _ _ (fun i => real_of _ (congrFun (hp c).1 i)) (fun i => real_of _ (congrFun (hp c).2 i))]; rfl
    · rw [Cert.GateRefIdeal.Read.val_main_v29_eq, (hag c).1, (hag c).2, ref_db _ _ (fun i => real_of _ (congrFun (hp c).1 i)) (fun i => real_of _ (congrFun (hp c).2 i))]; rfl

end Cert.GateClaim

end
-- ==== Proof.NormSpec.lean ====
/- What the backward pass of a modulated norm `rms_norm (x, gain) * (1 + sc) + sh` computes, row by row, over the reals
   with infinities. -/
module

public import Idealize.ShloMosaic.Lib.Pointwise
public import Idealize.ShloMosaic.PureOps.Ideal.Laws

@[expose] public section

noncomputable section

namespace Cert.NormSpec

open Idealize.ShloMosaic

/-- The row length and the offset under the root, as the programs write them. -/
abbrev cN : EReal := Ideal.ofBits .f32 0x44800000#32
abbrev cE : EReal := Ideal.ofBits .f32 0x358637BD#32
abbrev cOne : EReal := 1
abbrev cHalf : EReal := Ideal.ofBits .f32 0xBF000000#32

theorem cN_eq : cN = ((1024 : ℝ) : EReal) := by
  simp [cN, Ideal.ofBits, Ideal.ieee]
  rw [← EReal.coe_mul]; norm_num
theorem cOne_eq : cOne = ((1 : ℝ) : EReal) := EReal.coe_one.symm
theorem cHalf_eq : cHalf = ((-(1 / 2) : ℝ) : EReal) := by
  simp [cHalf, Ideal.ofBits, Ideal.ieee]
  rw [← EReal.coe_mul]; norm_num
theorem cE_pos : ∃ e : ℝ, 0 < e ∧ cE = (e : EReal) := by
  simp [cE, Ideal.ofBits, Ideal.ieee]
  rw [← EReal.coe_mul]
  exact ⟨_, by positivity, rfl⟩

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A row's mean square with the offset, its inverse root, and the row scaled by it. -/
def ms (x : Fin 1024 → EReal) : EReal := Ideal.div (∑ k, x k * x k) cN + cE
def rs (x : Fin 1024 → EReal) : EReal := Ideal.rsqrt (ms x)
def nx (x : Fin 1024 → EReal) (q : Fin 1024) : EReal := x q * rs x

/-- The gradient before the norm's scaling. -/
def dn (d g sc : Fin 1024 → EReal) (q : Fin 1024) : EReal := d q * (g q * (cOne + sc q))

/-- The gradient in the row, added to the gradient `res` of its other use. -/
def gx (x d res g sc : Fin 1024 → EReal) (q : Fin 1024) : EReal :=
  res q + rs x * (dn d g sc q - nx x q * Ideal.div (∑ k, dn d g sc k * nx x k) cN)

/-- The same as differentiating writes it. -/
def dnRef (d g sc : Fin 1024 → EReal) (q : Fin 1024) : EReal := d q * (cOne + sc q) * g q
def wRef (x d g sc : Fin 1024 → EReal) : EReal :=
  Ideal.div ((∑ k, x k * dnRef d g sc k) * (cHalf * Ideal.div (rs x) (ms x))) cN
def gxRef (x d res g sc : Fin 1024 → EReal) (q : Fin 1024) : EReal :=
  res q + (dnRef d g sc q * rs x + x q * wRef x d g sc + wRef x d g sc * x q)

/-- The mean square of a row of real numbers is positive. -/
theorem ms_pos (x : Fin 1024 → ℝ) : ∃ v : ℝ, 0 < v ∧ ms (fun k => (x k : EReal)) = (v : EReal) := by
  obtain ⟨e, he, hE⟩ := cE_pos
  refine ⟨(∑ k, x k * x k) * (1 / 1024) + e, ?_, ?_⟩
  · have : 0 ≤ ∑ k, x k * x k := Finset.sum_nonneg fun k _ => mul_self_nonneg _
    positivity
  · unfold ms
    rw [hE, cN_eq, Ideal.div_coe (by norm_num)]
    simp only [← EReal.coe_mul, ← coe_sum, ← EReal.coe_add]

/-- The two agree on real numbers. -/
theorem gx_eq (x d g sc : Fin 1024 → ℝ) (res : Fin 1024 → EReal) (q : Fin 1024) :
    gxRef (fun k => (x k : EReal)) (fun k => (d k : EReal)) res (fun k => (g k : EReal)) (fun k => (sc k : EReal)) q
      = gx (fun k => (x k : EReal)) (fun k => (d k : EReal)) res (fun k => (g k : EReal)) (fun k => (sc k : EReal)) q := by
  obtain ⟨v, hv, hm⟩ := ms_pos x
  have hr : rs (fun k => (x k : EReal)) = (((Real.sqrt v)⁻¹ : ℝ) : EReal) := by
    unfold rs
    rw [hm, Ideal.rsqrt_coe, if_neg (not_lt.mpr hv.le), if_neg hv.ne']
  unfold gxRef gx wRef dnRef dn nx
  rw [hm, hr, cN_eq, cOne_eq, cHalf_eq]
  simp only [Ideal.div_coe hv.ne', Ideal.div_coe (show (1024 : ℝ) ≠ 0 by norm_num), ← EReal.coe_mul, ← EReal.coe_add, ← EReal.coe_sub, ← coe_sum]
  congr 1
  refine congrArg (fun t : ℝ => (t : EReal)) ?_
  have hs : Real.sqrt v * Real.sqrt v = v := Real.mul_self_sqrt hv.le
  have hp : 0 < Real.sqrt v := Real.sqrt_pos.mpr hv
  have e1 : ∑ k, d k * (g k * (1 + sc k)) * (x k * (Real.sqrt v)⁻¹) = (∑ k, x k * (d k * (1 + sc k) * g k)) * (Real.sqrt v)⁻¹ := by
    rw [Finset.sum_mul]
    exact Finset.sum_congr rfl fun k _ => by ring
  rw [e1]
  generalize (∑ k, x k * (d k * (1 + sc k) * g k)) = T
  generalize Real.sqrt v = s at *
  subst hs
  field_simp
  ring

/-- A row of real numbers. -/
theorem lift (x : Fin 1024 → EReal) (h : ∀ k, x k ≠ ⊤ ∧ x k ≠ ⊥) : ∃ y : Fin 1024 → ℝ, x = fun k => (y k : EReal) :=
  ⟨fun k => (x k).toReal, funext fun k => (EReal.coe_toReal (h k).1 (h k).2).symm⟩

theorem gx_ref (x d res g sc : Fin 1024 → EReal) (hx : ∀ k, x k ≠ ⊤ ∧ x k ≠ ⊥) (hd : ∀ k, d k ≠ ⊤ ∧ d k ≠ ⊥) (hg : ∀ k, g k ≠ ⊤ ∧ g k ≠ ⊥)
    (hs : ∀ k, sc k ≠ ⊤ ∧ sc k ≠ ⊥) (q : Fin 1024) : gxRef x d res g sc q = gx x d res g sc q := by
  obtain ⟨x, rfl⟩ := lift x hx
  obtain ⟨d, rfl⟩ := lift d hd
  obtain ⟨g, rfl⟩ := lift g hg
  obtain ⟨sc, rfl⟩ := lift sc hs
  exact gx_eq x d g sc res q

/-- Row `n` of an array, and the one row of a vector. -/
def row (A : FVec Ideal ⟨2, ![8192, 1024]⟩ .f32) (n : ℕ) (q : Fin 1024) : EReal := if k : n < 8192 then A (ix2 ⟨n, k⟩ q) else 0
def vec (A : FVec Ideal ⟨2, ![1, 1024]⟩ .f32) (q : Fin 1024) : EReal := A (ix2 0 q)

theorem row_fin (A : FVec Ideal ⟨2, ![8192, 1024]⟩ .f32) (f : ∀ i, A i ≠ ⊤ ∧ A i ≠ ⊥) (n : ℕ) (k : Fin 1024) : row A n k ≠ ⊤ ∧ row A n k ≠ ⊥ := by
  unfold row
  split
  · exact f _
  · exact ⟨EReal.zero_ne_top, EReal.zero_ne_bot⟩

theorem vec_at (A : FVec Ideal ⟨2, ![1, 1024]⟩ .f32) (q : Fin 1024) : A (ix2 0 q) = vec A q := rfl
theorem vec_fin (A : FVec Ideal ⟨2, ![1, 1024]⟩ .f32) (f : ∀ i, A i ≠ ⊤ ∧ A i ≠ ⊥) (k : Fin 1024) : vec A k ≠ ⊤ ∧ vec A k ≠ ⊥ := f _
theorem row_at (A : FVec Ideal ⟨2, ![8192, 1024]⟩ .f32) (r : Fin 8192) (q : Fin 1024) : A (ix2 r q) = row A r.val q := by
  unfold row; rw [dif_pos r.isLt]

/-- The terms summed over the rows: for the scale's gradient, for the shift's and for the gate's. -/
def term (x d br dx : Fin 1024 → EReal) (k : ℕ) (q : Fin 1024) : EReal :=
  if k = 0 then d q * nx x q else if k = 1 then d q else dx q * br q

/-- The arguments as rows: the norm's input, its output's gradient, the gradient of the input's other use, the branch
    the gate multiplies; and the gain, the scale and the gate. -/
structure Rows where
  x : ℕ → Fin 1024 → EReal
  d : ℕ → Fin 1024 → EReal
  r : ℕ → Fin 1024 → EReal
  br : ℕ → Fin 1024 → EReal
  g : Fin 1024 → EReal
  s : Fin 1024 → EReal
  gt : Fin 1024 → EReal

namespace Rows
variable (R : Rows)
/-- The gradient of row `n`. -/
def dx (n : ℕ) (q : Fin 1024) : EReal := gx (R.x n) (R.d n) (R.r n) R.g R.s q
/-- The gradient of row `n` of the branch. -/
def db (n : ℕ) (q : Fin 1024) : EReal := R.gt q * R.dx n q
/-- What row `n` adds to sum `k`. -/
def tm (k n : ℕ) (q : Fin 1024) : EReal := term (R.x n) (R.d n) (R.br n) (R.dx n) k q
/-- What the 512 rows from `b` on add to sum `k` in sublane `s`. -/
def fold (b k : ℕ) (s : Fin 8) (l : Fin 1024) : EReal := ∑ a : Fin 64, R.tm k (b + (a.val * 8 + s.val)) l
/-- The sum over all rows. -/
def total (k : ℕ) (l : Fin 1024) : EReal := ∑ r : Fin 8192, R.tm k r.val l
end Rows

/-- The arguments of the two calls as rows: of the second norm's, and of the first norm's, which has no branch. -/
def rowsB (A0 A1 A2 : FVec Ideal ⟨2, ![8192, 1024]⟩ .f32) (A3 A4 : FVec Ideal ⟨2, ![1, 1024]⟩ .f32) (A5 : FVec Ideal ⟨2, ![8192, 1024]⟩ .f32)
    (A6 : FVec Ideal ⟨2, ![1, 1024]⟩ .f32) : Rows := ⟨row A0, row A1, row A2, row A5, vec A3, vec A4, vec A6⟩
def rowsA (A0 A1 A2 : FVec Ideal ⟨2, ![8192, 1024]⟩ .f32) (A3 A4 : FVec Ideal ⟨2, ![1, 1024]⟩ .f32) : Rows :=
  ⟨row A0, row A1, row A2, fun _ _ => 0, vec A3, vec A4, fun _ => 0⟩

/-- The rows, cut into row blocks and within a block into eight interleaved groups. -/
theorem sum_rows (f : ℕ → EReal) :
    ∑ s : Fin 8, ∑ i ∈ Finset.range 16, ∑ a : Fin 64, f (512 * i + (a.val * 8 + s.val)) = ∑ r : Fin 8192, f r.val := by
  rw [Fin.sum_univ_tiles 16 512 (by norm_num) (fun r : Fin 8192 => f r.val), Finset.sum_comm,
    ← Fin.sum_univ_eq_sum_range (fun i => ∑ s : Fin 8, ∑ a : Fin 64, f (512 * i + (a.val * 8 + s.val))) 16]
  refine Finset.sum_congr rfl fun i _ => ?_
  rw [Fin.sum_univ_tiles 64 8 (by norm_num) (fun r : Fin 512 => f (i.val * 512 + r.val)), Finset.sum_comm]
  refine Finset.sum_congr rfl fun a _ => Finset.sum_congr rfl fun s _ => ?_
  show f (512 * i.val + (a.val * 8 + s.val)) = f (i.val * 512 + (a.val * 8 + s.val))
  rw [Nat.mul_comm]

end Cert.NormSpec

end
-- ==== Proof.NormBBlocks.lean ====
/- The values the norm's backward kernel leaves in its output blocks at one grid point. -/
module

public import proofs.«01_k».proof.Proof.Gen.NormBIdeal.Value
public import proofs.«01_k».proof.Proof.NormSpec

@[expose] public section

set_option maxRecDepth 16384
noncomputable section

namespace Cert.NormBIdeal.Grad

open Cert.NormBIdeal Cert.NormBIdeal.Gen Cert.NormSpec Idealize.ShloMosaic Idealize.ShloMosaic.TcCoe Idealize.SL.Sem
open Idealize.ShloMosaic.Pipeline (Dat)

/-- The input blocks of a point whose first row is `b`, as rows. -/
structure Reads (x0 : Vec Ideal S512x1024 .f32) (x1 : Vec Ideal S512x1024 .f32) (x2 : Vec Ideal S512x1024 .f32) (x3 : Vec Ideal S1x1024 .f32) (x4 : Vec Ideal S1x1024 .f32) (x5 : Vec Ideal S512x1024 .f32) (x6 : Vec Ideal S1x1024 .f32) (b : ℕ) (R : Rows) : Prop where
  x : ∀ (p : Fin 512) (q : Fin 1024), x0 (ix2 p q) = R.x (b + p.val) q
  d : ∀ (p : Fin 512) (q : Fin 1024), x1 (ix2 p q) = R.d (b + p.val) q
  r : ∀ (p : Fin 512) (q : Fin 1024), x2 (ix2 p q) = R.r (b + p.val) q
  g : ∀ q : Fin 1024, x3 (ix2 0 q) = R.g q
  s : ∀ q : Fin 1024, x4 (ix2 0 q) = R.s q
  br : ∀ (p : Fin 512) (q : Fin 1024), x5 (ix2 p q) = R.br (b + p.val) q
  gt : ∀ q : Fin 1024, x6 (ix2 0 q) = R.gt q

variable {i : grid0.Coords} {x0 : Vec Ideal S512x1024 .f32} {x1 : Vec Ideal S512x1024 .f32} {x2 : Vec Ideal S512x1024 .f32} {x3 : Vec Ideal S1x1024 .f32} {x4 : Vec Ideal S1x1024 .f32} {x5 : Vec Ideal S512x1024 .f32} {x6 : Vec Ideal S1x1024 .f32} {b : ℕ} {R : Rows}

theorem ld_w (x : Vec Ideal S512x1024 .f32) (inb) : View.ld x (Rect.unit (s := S512x1024) ![0, 0] ![512, 1024] inb) = x :=
  View.ld_unit_zero (by decide) inb x
theorem ld_v (x : Vec Ideal S1x1024 .f32) (inb) : View.ld x (Rect.unit (s := S1x1024) ![0, 0] ![1, 1024] inb) = x :=
  View.ld_unit_zero (by decide) inb x

/-- The rows' inverse roots. -/
theorem rs_at (h : Reads x0 x1 x2 x3 x4 x5 x6 b R) (p : Fin 512) (l : Fin 1) : k0_pay3 x0 (ix2 p l) = rs (R.x (b + p.val)) := by
  pointwise [k0_pay3, h.x]
  rfl

/-- The scaled rows. -/
theorem nx_at (h : Reads x0 x1 x2 x3 x4 x5 x6 b R) (p : Fin 512) (q : Fin 1024) : k0_pay4 x0 (ix2 p q) = nx (R.x (b + p.val)) q := by
  pointwise [k0_pay4, rs_at h, h.x]
  rfl

/-- The rows' gradients. -/
theorem dx_at (h : Reads x0 x1 x2 x3 x4 x5 x6 b R) (p : Fin 512) (q : Fin 1024) : k0_pay5 x0 x1 x3 x4 x2 (ix2 p q) = R.dx (b + p.val) q := by
  pointwise [k0_pay5, rs_at h, nx_at h, h.d, h.r, h.g, h.s]
  rfl

/-- The scale's and the shift's sums, one block of rows added. -/
theorem sum0_at (h : Reads x0 x1 x2 x3 x4 x5 x6 b R) (v : Vec Ideal S1x8x1024 .f32) (s : Fin 8) (l : Fin 1024) :
    k0_pay6 x1 (k0_pay4 x0) v (ix3 0 s l) = v (ix3 0 s l) + R.fold b 0 s l := by
  pointwise [k0_pay6, nx_at h, h.d]
  rfl
theorem sum1_at (h : Reads x0 x1 x2 x3 x4 x5 x6 b R) (v : Vec Ideal S1x8x1024 .f32) (s : Fin 8) (l : Fin 1024) :
    k0_pay7 x1 v (ix3 0 s l) = v (ix3 0 s l) + R.fold b 1 s l := by
  pointwise [k0_pay7, h.d]
  rfl

/-- The branch's gradient, and the gate's sum. -/
theorem db_at (h : Reads x0 x1 x2 x3 x4 x5 x6 b R) (p : Fin 512) (q : Fin 1024) : k0_pay8 (k0_pay5 x0 x1 x3 x4 x2) x6 (ix2 p q) = R.db (b + p.val) q := by
  pointwise [k0_pay8, dx_at h, h.gt]
  rfl
theorem sum2_at (h : Reads x0 x1 x2 x3 x4 x5 x6 b R) (v : Vec Ideal S1x8x1024 .f32) (s : Fin 8) (l : Fin 1024) :
    k0_pay9 (k0_pay5 x0 x1 x3 x4 x2) v x5 (ix3 0 s l) = v (ix3 0 s l) + R.fold b 2 s l := by
  pointwise [k0_pay9, dx_at h, h.br]
  rfl

/-- The zero block. -/
theorem zero_at (k : Fin 3) (s : Fin 8) (l : Fin 1024) : (k0_pay2 (F := Ideal)) (ix3 k s l) = 0 := by
  pointwise [k0_pay2]

/-- The block with the sublanes of each sum added up. -/
theorem total_at (v : Vec Ideal S3x8x1024 .f32) (k : Fin 3) (s : Fin 8) (l : Fin 1024) :
    k0_pay1 v (ix3 k s l) = ∑ x : Fin 8, v (ix3 k x l) := by
  pointwise [k0_pay1]

/-- Loading sum `k`. -/
theorem idx_slab (k : ℕ) (inb) (k' : Fin 3) (hk : k'.val = k) (s : Fin 8) (l : Fin 1024) :
    (Rect.unit (s := S3x8x1024) ![k, 0, 0] ![1, 8, 1024] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)

theorem mem_slab (k : ℕ) (inb) (k' : Fin 3) (hk : k'.val = k) (s : Fin 8) (l : Fin 1024) :
    ix3 k' s l ∈ (Rect.unit (s := S3x8x1024) ![k, 0, 0] ![1, 8, 1024] inb).set := by
  have hs := s.isLt
  have hl := l.isLt
  rw [Rect.mem_set_unit]
  intro a
  match a with
  | ⟨0, _⟩ => show k ≤ k'.val ∧ k'.val < k + 1; omega
  | ⟨1, _⟩ => show 0 ≤ s.val ∧ s.val < 0 + 8; omega
  | ⟨2, _⟩ => show 0 ≤ l.val ∧ l.val < 0 + 1024; omega
theorem not_mem (k : ℕ) (inb) (k' : Fin 3) (hk : k'.val ≠ k) (s : Fin 8) (l : Fin 1024) :
    ix3 k' s l ∉ (Rect.unit (s := S3x8x1024) ![k, 0, 0] ![1, 8, 1024] inb).set := by
  intro hm
  refine hk ?_
  rw [Rect.mem_set_unit] at hm
  have := hm 0
  change k ≤ k'.val ∧ k'.val < k + 1 at this
  omega

/-- The sums after a store of sum `k`, read there and read elsewhere. -/
theorem canon_hit (k : ℕ) (inb) (P : Vec Ideal S1x8x1024 .f32) (L) (k' : Fin 3) (hk : k'.val = k) (s : Fin 8) (l : Fin 1024) :
    View.canon (Val := Elt Ideal) (⟨Rect.unit (s := S3x8x1024) ![k, 0, 0] ![1, 8, 1024] inb, P⟩ :: L) (ix3 k' s l) = P (ix3 0 s l) := by
  rw [← idx_slab k inb k' hk s l]
  exact View.canon_cons_emb _ _ _ _
theorem canon_miss (k : ℕ) (inb) (P : Vec Ideal S1x8x1024 .f32) (L) (k' : Fin 3) (hk : k'.val ≠ k) (s : Fin 8) (l : Fin 1024) :
    View.canon (Val := Elt Ideal) (⟨Rect.unit (s := S3x8x1024) ![k, 0, 0] ![1, 8, 1024] inb, P⟩ :: L) (ix3 k' s l) = View.canon L (ix3 k' s l) :=
  View.canon_cons_of_not_mem _ _ (not_mem k inb k' hk s l)

/-- One store of a whole block. -/
theorem canon_all (P : Vec Ideal S3x8x1024 .f32) (L) (inb) :
    View.canon (Val := Elt Ideal) (⟨Rect.unit (s := S3x8x1024) ![0, 0, 0] ![3, 8, 1024] inb, P⟩ :: L) = P :=
  View.canon_cons_unit_zero (by decide) inb P L
theorem canon_w {e : EltTy} (P : Vec Ideal S512x1024 e) (L) (inb) :
    View.canon (Val := Elt Ideal) (⟨Rect.unit (s := S512x1024) ![0, 0] ![512, 1024] inb, P⟩ :: L) = P :=
  View.canon_cons_unit_zero (by decide) inb P L

/-- A load of sum `k`. -/
theorem ld_slab (X : Vec Ideal S3x8x1024 .f32) (k : ℕ) (inb) (k' : Fin 3) (hk : k'.val = k) (s : Fin 8) (l : Fin 1024) :
    View.ld X (Rect.unit (s := S3x8x1024) ![k, 0, 0] ![1, 8, 1024] inb) (ix3 0 s l) = X (ix3 k' s l) :=
  congrArg X (idx_slab k inb k' hk s l)

variable (c : Dev nD) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .bf16) (h9 : a9.IsWhole) (a10 : Memref sig .tc .vmem S3x8x1024 .f32) (h10 : a10.IsWhole)

/-- The rows' gradients after a point of case A. -/
theorem out_A_7 (hc0 : cond0_0 i) (hc1 : ¬cond0_1 i) (h : Reads x0 x1 x2 x3 x4 x5 x6 b R) (p : Fin 512) (q : Fin 1024) :
    out0_A_7 (F := Ideal) c i a1 h1 a2 h2 a3 h3 a4 h4 a5 h5 a6 h6 a7 h7 a8 h8 a9 h9 a10 h10 hc0 hc1 x0 x1 x2 x3 x4 x5 x6 (ix2 p q) = R.dx (b + p.val) q := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact dx_at h p q

/-- The branch's gradients after a point of case A. -/
theorem out_A_8 (hc0 : cond0_0 i) (hc1 : ¬cond0_1 i) (h : Reads x0 x1 x2 x3 x4 x5 x6 b R) (p : Fin 512) (q : Fin 1024) :
    out0_A_8 (F := Ideal) c i a1 h1 a2 h2 a3 h3 a4 h4 a5 h5 a6 h6 a7 h7 a8 h8 a9 h9 a10 h10 hc0 hc1 x0 x1 x2 x3 x4 x5 x6 (ix2 p q) = R.db (b + p.val) q := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact db_at h p q

/-- The sums after a point of case A. -/
theorem out_A_9 (hc0 : cond0_0 i) (hc1 : ¬cond0_1 i) (h : Reads x0 x1 x2 x3 x4 x5 x6 b R) (k : Fin 3) (s : Fin 8) (l : Fin 1024) :
    out0_A_9 (F := Ideal) c i a1 h1 a2 h2 a3 h3 a4 h4 a5 h5 a6 h6 a7 h7 a8 h8 a9 h9 a10 h10 hc0 hc1 x0 x1 x2 x3 x4 x5 x6 (ix3 k s l) = R.fold b k.val s l := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread]
  simp only [View.readCov_eq_canon', ld_w, ld_v]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, sum0_at h, idx_slab 0 _ 0 rfl, canon_all, zero_at, zero_add] <;> rfl
  · rw [canon_miss 2 _ _ _ _ (by decide), canon_hit 1 _ _ _ _ rfl, sum1_at h, idx_slab 1 _ 1 rfl, canon_miss 0 _ _ _ _ (by decide), canon_all, zero_at, zero_add] <;> rfl
  · rw [canon_hit 2 _ _ _ _ rfl, sum2_at h, idx_slab 2 _ 2 rfl, canon_miss 1 _ _ _ _ (by decide), canon_miss 0 _ _ _ _ (by decide), canon_all, zero_at, zero_add] <;> rfl

/-- The rows' gradients after a point of case B. -/
theorem out_B_7 (hc0 : ¬cond0_0 i) (hc1 : ¬cond0_1 i) (xo : Vec Ideal S3x8x1024 .f32) (h : Reads x0 x1 x2 x3 x4 x5 x6 b R) (p : Fin 512) (q : Fin 1024) :
    out0_B_7 (F := Ideal) c i a1 h1 a2 h2 a3 h3 a4 h4 a5 h5 a6 h6 a7 h7 a8 h8 a9 h9 a10 h10 hc0 hc1 x0 x1 x2 x3 x4 x5 x6 xo (ix2 p q) = R.dx (b + p.val) q := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact dx_at h p q

/-- The branch's gradients after a point of case B. -/
theorem out_B_8 (hc0 : ¬cond0_0 i) (hc1 : ¬cond0_1 i) (xo : Vec Ideal S3x8x1024 .f32) (h : Reads x0 x1 x2 x3 x4 x5 x6 b R) (p : Fin 512) (q : Fin 1024) :
    out0_B_8 (F := Ideal) c i a1 h1 a2 h2 a3 h3 a4 h4 a5 h5 a6 h6 a7 h7 a8 h8 a9 h9 a10 h10 hc0 hc1 x0 x1 x2 x3 x4 x5 x6 xo (ix2 p q) = R.db (b + p.val) q := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact db_at h p q

/-- The sums after a point of case B. -/
theorem out_B_9 (hc0 : ¬cond0_0 i) (hc1 : ¬cond0_1 i) (xo : Vec Ideal S3x8x1024 .f32) (h : Reads x0 x1 x2 x3 x4 x5 x6 b R) (k : Fin 3) (s : Fin 8) (l : Fin 1024) :
    out0_B_9 (F := Ideal) c i a1 h1 a2 h2 a3 h3 a4 h4 a5 h5 a6 h6 a7 h7 a8 h8 a9 h9 a10 h10 hc0 hc1 x0 x1 x2 x3 x4 x5 x6 xo (ix3 k s l) = xo (ix3 k s l) + R.fold b k.val s l := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, sum0_at h, ld_slab _ 0 _ 0 rfl] <;> rfl
  · rw [canon_miss 2 _ _ _ _ (by decide), canon_hit 1 _ _ _ _ rfl, sum1_at h, ld_slab _ 1 _ 1 rfl] <;> rfl
  · rw [canon_hit 2 _ _ _ _ rfl, sum2_at h, ld_slab _ 2 _ 2 rfl] <;> rfl

/-- The rows' gradients after a point of case C. -/
theorem out_C_7 (hc0 : ¬cond0_0 i) (hc1 : cond0_1 i) (xo : Vec Ideal S3x8x1024 .f32) (h : Reads x0 x1 x2 x3 x4 x5 x6 b R) (p : Fin 512) (q : Fin 1024) :
    out0_C_7 (F := Ideal) c i a1 h1 a2 h2 a3 h3 a4 h4 a5 h5 a6 h6 a7 h7 a8 h8 a9 h9 a10 h10 hc0 hc1 x0 x1 x2 x3 x4 x5 x6 xo (ix2 p q) = R.dx (b + p.val) q := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x5 x6 xo)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact dx_at h p q

/-- The branch's gradients after a point of case C. -/
theorem out_C_8 (hc0 : ¬cond0_0 i) (hc1 : cond0_1 i) (xo : Vec Ideal S3x8x1024 .f32) (h : Reads x0 x1 x2 x3 x4 x5 x6 b R) (p : Fin 512) (q : Fin 1024) :
    out0_C_8 (F := Ideal) c i a1 h1 a2 h2 a3 h3 a4 h4 a5 h5 a6 h6 a7 h7 a8 h8 a9 h9 a10 h10 hc0 hc1 x0 x1 x2 x3 x4 x5 x6 xo (ix2 p q) = R.db (b + p.val) q := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 x6 xo)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread]
  simp only [ld_w, ld_v]
  rw [canon_w]
  exact db_at h p q

/-- The sums after a point of case C. -/
theorem out_C_9 (hc0 : ¬cond0_0 i) (hc1 : cond0_1 i) (xo : Vec Ideal S3x8x1024 .f32) (h : Reads x0 x1 x2 x3 x4 x5 x6 b R) (k : Fin 3) (s : Fin 8) (l : Fin 1024) :
    out0_C_9 (F := Ideal) c i a1 h1 a2 h2 a3 h3 a4 h4 a5 h5 a6 h6 a7 h7 a8 h8 a9 h9 a10 h10 hc0 hc1 x0 x1 x2 x3 x4 x5 x6 xo (ix3 k s l) = ∑ x : Fin 8, (xo (ix3 k x l) + R.fold b k.val x l) := by
  unfold out0_C_9
  rw [View.read_writes_eq_canon _ _ _ (cover0_C_9 c i a1 h1 a2 h2 a3 h3 a4 h4 a5 h5 a6 h6 a7 h7 a8 h8 a9 h9 a10 h10 hc0 hc1 x0 x1 x2 x3 x4 x5 x6 xo)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread]
  simp only [View.readCov_eq_canon', ld_w, ld_v]
  rw [canon_all, total_at]
  refine Finset.sum_congr rfl fun x _ => ?_
  have iw : ∀ (inb) (y : S3x8x1024.Idx), (Rect.unit (s := S3x8x1024) ![0, 0, 0] ![3, 8, 1024] inb).toLoadRect.idx y = y := fun inb y => funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega)
  rw [iw]
  obtain rfl | rfl | rfl : k = 0 ∨ k = 1 ∨ k = 2 := by
    rcases k with ⟨k, hk⟩; interval_cases k <;> simp
  · rw [canon_miss 2 _ _ _ _ (by decide), canon_miss 1 _ _ _ _ (by decide), canon_hit 0 _ _ _ _ rfl, sum0_at h, ld_slab _ 0 _ 0 rfl] <;> rfl
  · rw [canon_miss 2 _ _ _ _ (by decide), canon_hit 1 _ _ _ _ rfl, sum1_at h, ld_slab _ 1 _ 1 rfl] <;> rfl
  · rw [canon_hit 2 _ _ _ _ rfl, sum2_at h, ld_slab _ 2 _ 2 rfl] <;> rfl

end Cert.NormBIdeal.Grad

end
-- ==== Proof.NormBKernel.lean ====
/- The norm's backward kernel, run from any memory, leaves the specified gradients in its result arrays. -/
module

public import proofs.«01_k».proof.Proof.NormBBlocks

@[expose] public section

set_option maxRecDepth 16384
noncomputable section

namespace Cert.NormBIdeal.Grad

open Cert.NormBIdeal Cert.NormBIdeal.Gen Cert.NormSpec Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev A0 : FVec Ideal S8192x1024 .f32 := m ((c : Thread nD τ).loc main_arg0)
abbrev A1 : FVec Ideal S8192x1024 .f32 := m ((c : Thread nD τ).loc main_arg1)
abbrev A2 : FVec Ideal S8192x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S8192x1024 .f32 := m ((c : Thread nD τ).loc main_arg5)
abbrev A6 : FVec Ideal S1x1024 .f32 := m ((c : Thread nD τ).loc main_arg6)
def rws : Rows := rowsB (A0 m c) (A1 m c) (A2 m c) (A3 m c) (A4 m c) (A5 m c) (A6 m c)

/-- The blocks each point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)
theorem idx9 : ∀ t : Fin cfg0.N, win0_9.index t 0 = 0 ∧ win0_9.index t 1 = 0 ∧ win0_9.index t 2 = 0 :=
  (by decide +kernel : ∀ t : Fin grid0.N, _)
theorem flush9 : ∀ t : Fin cfg0.N, (cfg0.win 9).flush t = true ↔ t.val = 15 :=
  (by decide +kernel : ∀ t : Fin grid0.N, _)
theorem lt16 (t : Fin cfg0.N) : t.val < 16 := t.isLt

/-- The input blocks of point `t`. -/
theorem reads (t : Fin cfg0.N) : Reads (iblk m c 0 t) (iblk m c 1 t) (iblk m c 2 t) (iblk m c 3 t) (iblk m c 4 t) (iblk m c 5 t) (iblk m c 6 t) (512 * t.val) (rws m c) where
  x p q := by
    obtain ⟨e0, e1⟩ := idx0 t
    have ht := lt16 t
    have hp := p.isLt
    show _ = row (A0 m c) (512 * t.val + p.val) q
    unfold row
    rw [dif_pos (by omega)]
    unfold iblk; rw [View.read_apply]
    show V m c main_arg0 _ = m ((c : Thread nD τ).loc main_arg0) _
    unfold V; congr 1; funext a; apply Fin.ext
    match a with
    | ⟨0, _⟩ => show win0_0.index t 0 * 512 + 1 * p.val = 512 * t.val + p.val; omega
    | ⟨1, _⟩ => show win0_0.index t 1 * 1024 + 1 * q.val = q.val; omega
  d p q := by
    obtain ⟨e0, e1⟩ := idx1 t
    have ht := lt16 t
    have hp := p.isLt
    show _ = row (A1 m c) (512 * t.val + p.val) q
    unfold row
    rw [dif_pos (by omega)]
    unfold iblk; rw [View.read_apply]
    show V m c main_arg1 _ = m ((c : Thread nD τ).loc main_arg1) _
    unfold V; congr 1; funext a; apply Fin.ext
    match a with
    | ⟨0, _⟩ => show win0_1.index t 0 * 512 + 1 * p.val = 512 * t.val + p.val; omega
    | ⟨1, _⟩ => show win0_1.index t 1 * 1024 + 1 * q.val = q.val; omega
  r p q := by
    obtain ⟨e0, e1⟩ := idx2 t
    have ht := lt16 t
    have hp := p.isLt
    show _ = row (A2 m c) (512 * t.val + p.val) q
    unfold row
    rw [dif_pos (by omega)]
    unfold iblk; rw [View.read_apply]
    show V m c main_arg2 _ = m ((c : Thread nD τ).loc main_arg2) _
    unfold V; congr 1; funext a; apply Fin.ext
    match a with
    | ⟨0, _⟩ => show win0_2.index t 0 * 512 + 1 * p.val = 512 * t.val + p.val; omega
    | ⟨1, _⟩ => show win0_2.index t 1 * 1024 + 1 * q.val = q.val; omega
  g q := by
    obtain ⟨e0, e1⟩ := idx3 t
    show _ = vec (A3 m c) q
    unfold vec
    unfold iblk; rw [View.read_apply]
    show V m c main_arg3 _ = m ((c : Thread nD τ).loc main_arg3) _
    unfold V; congr 1; funext a; apply Fin.ext
    match a with
    | ⟨0, _⟩ => show win0_3.index t 0 * 1 + 1 * 0 = 0; omega
    | ⟨1, _⟩ => show win0_3.index t 1 * 1024 + 1 * q.val = q.val; omega
  s q := by
    obtain ⟨e0, e1⟩ := idx4 t
    show _ = vec (A4 m c) q
    unfold vec
    unfold iblk; rw [View.read_apply]
    show V m c main_arg4 _ = m ((c : Thread nD τ).loc main_arg4) _
    unfold V; congr 1; funext a; apply Fin.ext
    match a with
    | ⟨0, _⟩ => show win0_4.index t 0 * 1 + 1 * 0 = 0; omega
    | ⟨1, _⟩ => show win0_4.index t 1 * 1024 + 1 * q.val = q.val; omega
  br p q := by
    obtain ⟨e0, e1⟩ := idx5 t
    have ht := lt16 t
    have hp := p.isLt
    show _ = row (A5 m c) (512 * t.val + p.val) q
    unfold row
    rw [dif_pos (by omega)]
    unfold iblk; rw [View.read_apply]
    show V m c main_arg5 _ = m ((c : Thread nD τ).loc main_arg5) _
    unfold V; congr 1; funext a; apply Fin.ext
    match a with
    | ⟨0, _⟩ => show win0_5.index t 0 * 512 + 1 * p.val = 512 * t.val + p.val; omega
    | ⟨1, _⟩ => show win0_5.index t 1 * 1024 + 1 * q.val = q.val; omega
  gt q := by
    obtain ⟨e0, e1⟩ := idx6 t
    show _ = vec (A6 m c) q
    unfold vec
    unfold iblk; rw [View.read_apply]
    show V m c main_arg6 _ = m ((c : Thread nD τ).loc main_arg6) _
    unfold V; congr 1; funext a; apply Fin.ext
    match a with
    | ⟨0, _⟩ => show win0_6.index t 0 * 1 + 1 * 0 = 0; omega
    | ⟨1, _⟩ => show win0_6.index t 1 * 1024 + 1 * q.val = q.val; omega

/-- The block of the rows' gradients after point `t`. -/
theorem outs_7 (t : Fin cfg0.N) (p : Fin 512) (q : Fin 1024) :
    (outsAt0 m c t.val t.isLt).1 (ix2 p q) = (rws m c).dx (512 * t.val + p.val) q := by
  have ht := lt16 t
  by_cases h0 : t.val % 16 = 0
  · rw [outsAt0_A m c t h0 (by omega)]; dsimp only
    exact out_A_7 (h := reads m c t) ..
  · by_cases h1 : t.val % 16 = 15
    · rw [outsAt0_C m c t h0 h1]; dsimp only
      exact out_C_7 (h := reads m c t) ..
    · rw [outsAt0_B m c t h0 h1]; dsimp only
      exact out_B_7 (h := reads m c t) ..

/-- The block of the branch's gradients after point `t`. -/
theorem outs_8 (t : Fin cfg0.N) (p : Fin 512) (q : Fin 1024) :
    (outsAt0 m c t.val t.isLt).2.1 (ix2 p q) = (rws m c).db (512 * t.val + p.val) q := by
  have ht := lt16 t
  by_cases h0 : t.val % 16 = 0
  · rw [outsAt0_A m c t h0 (by omega)]; dsimp only
    exact out_A_8 (h := reads m c t) ..
  · by_cases h1 : t.val % 16 = 15
    · rw [outsAt0_C m c t h0 h1]; dsimp only
      exact out_C_8 (h := reads m c t) ..
    · rw [outsAt0_B m c t h0 h1]; dsimp only
      exact out_B_8 (h := reads m c t) ..

/-- The sums after point `n`, before the last row block: what the row blocks so far added. -/
theorem outs_9 (k : Fin 3) (s : Fin 8) (l : Fin 1024) : ∀ (n : ℕ) (hn : n < cfg0.N), n < 15 →
    (outsAt0 m c n hn).2.2 (ix3 k s l) = ∑ i ∈ Finset.range (n + 1), (rws m c).fold (512 * i) k.val s l := by
  intro n
  induction n with
  | zero =>
    intro hn h
    have e := outsAt0_A m c ⟨0, hn⟩ rfl (show ¬0 % 16 = 15 by decide)
    change outsAt0 m c 0 hn = _ at e
    rw [e]; dsimp only
    rw [out_A_9 (h := reads m c ⟨0, hn⟩)]
    simp
  | succ n ih =>
    intro hn h
    have e := outsAt0_B m c ⟨n + 1, hn⟩ (show ¬(n + 1) % 16 = 0 by omega) (show ¬(n + 1) % 16 = 15 by omega)
    change outsAt0 m c (n + 1) hn = _ at e
    rw [e]; dsimp only
    rw [out_B_9 (h := reads m c ⟨n + 1, hn⟩)]
    have ih' := ih (by omega) (by omega)
    show (outsAt0 m c n _).2.2 (ix3 k s l) + (rws m c).fold (512 * (n + 1)) k.val s l = _
    rw [ih', Finset.sum_range_succ _ (n + 1)]

/-- The sums' block where it is written back: the sums over all rows, in every sublane. -/
theorem outs_9_last (t : Fin cfg0.N) (ht : t.val = 15) (k : Fin 3) (s : Fin 8) (l : Fin 1024) :
    (outsAt0 m c t.val t.isLt).2.2 (ix3 k s l) = (rws m c).total k.val l := by
  rw [outsAt0_C m c t (by omega) (by omega)]; dsimp only
  rw [out_C_9 (h := reads m c t)]
  have hm : t.val - 1 = 14 := by omega
  unfold Rows.total
  rw [← sum_rows (fun r => (rws m c).tm k.val r l)]
  refine Finset.sum_congr rfl fun x _ => ?_
  rw [outs_9 m c k x l (t.val - 1) _ (by omega), hm, ht, ← Finset.sum_range_succ (fun i => (rws m c).fold (512 * i) k.val x l) 15]
  rfl

/-- The result arrays. -/
def G7 : FVec Ideal S8192x1024 .f32 := fun i => (rws m c).dx (i 0).val (i 1)
def G8 : FVec Ideal S8192x1024 .bf16 := fun i => (rws m c).db (i 0).val (i 1)
def G9 : FVec Ideal S3x8x1024 .f32 := fun i => (rws m c).total (i 0).val (i 2)

theorem flushed_7 (t : Fin cfg0.N) : (dats m 0 c).flushed 7 t = ((cfg0.win 7).blk t).view.read (Elt Ideal) (G7 m c) := by
  rw [Value.flushed7]
  obtain ⟨e0, e1⟩ := idx7 t
  have key : ∀ y : S512x1024.Idx, (outsAt0 m c t.val t.isLt).1 y = G7 m c (((cfg0.win 7).blk t).view.emb y) := fun y => by
    obtain ⟨p, q, rfl⟩ : ∃ (p : Fin 512) (q : Fin 1024), y = ix2 p q := ⟨y 0, y 1, eq_ix2 y⟩
    rw [outs_7]
    unfold G7
    congr 1
    · show 512 * t.val + p.val = win0_7.index t 0 * 512 + 1 * p.val; omega
    · refine Fin.ext ?_
      show q.val = win0_7.index t 1 * 1024 + 1 * q.val; omega
  funext y
  rw [View.read_apply]
  exact key y

theorem flushed_8 (t : Fin cfg0.N) : (dats m 0 c).flushed 8 t = ((cfg0.win 8).blk t).view.read (Elt Ideal) (G8 m c) := by
  rw [Value.flushed8]
  obtain ⟨e0, e1⟩ := idx8 t
  have key : ∀ y : S512x1024.Idx, (outsAt0 m c t.val t.isLt).2.1 y = G8 m c (((cfg0.win 8).blk t).view.emb y) := fun y => by
    obtain ⟨p, q, rfl⟩ : ∃ (p : Fin 512) (q : Fin 1024), y = ix2 p q := ⟨y 0, y 1, eq_ix2 y⟩
    rw [outs_8]
    unfold G8
    congr 1
    · show 512 * t.val + p.val = win0_8.index t 0 * 512 + 1 * p.val; omega
    · refine Fin.ext ?_
      show q.val = win0_8.index t 1 * 1024 + 1 * q.val; omega
  funext y
  rw [View.read_apply]
  exact key y

theorem flushed_9 (t : Fin cfg0.N) (hf : (cfg0.win 9).flush t = true) :
    (dats m 0 c).flushed 9 t = ((cfg0.win 9).blk t).view.read (Elt Ideal) (G9 m c) := by
  rw [Value.flushed9]
  obtain ⟨e0, e1, e2⟩ := idx9 t
  have key : ∀ y : S3x8x1024.Idx, (outsAt0 m c t.val t.isLt).2.2 y = G9 m c (((cfg0.win 9).blk t).view.emb y) := fun y => by
    obtain ⟨k, p, q, rfl⟩ : ∃ (k : Fin 3) (p : Fin 8) (q : Fin 1024), y = ix3 k p q := ⟨y 0, y 1, y 2, eq_ix3 y⟩
    rw [outs_9_last m c t ((flush9 t).mp hf)]
    unfold G9
    congr 1
    · show k.val = win0_9.index t 0 * 3 + 1 * k.val; omega
    · refine Fin.ext ?_
      show q.val = win0_9.index t 2 * 1024 + 1 * q.val; omega
  funext y
  rw [View.read_apply]
  exact key y

theorem arr_7 : (dats m 0 c).arrAt 7 cfg0.N = G7 m c :=
  (dats m 0 c).arrAt_eq_of_cover 7 (G7 m c) (fun t _ => flushed_7 m c t) fun (i : S8192x1024.Idx) => by
    have h0 : (i 0).val < 8192 := (i 0).isLt
    have h1 : (i 1).val < 1024 := (i 1).isLt
    obtain ⟨t, ht⟩ : ∃ t : Fin cfg0.N, t.val = (i 0).val / 512 := ⟨⟨_, by show _ < 16; omega⟩, rfl⟩
    refine ⟨t, ?_, ?_⟩
    · exact (by decide +kernel : ∀ t : Fin grid0.N, (cfg0.win 7).flush t = true) _
    · show i ∈ ((View.whole main_v0_0).slice (win0_7.rect t)).set
      rw [View.set_slice_whole, Rect.mem_set_unit]
      obtain ⟨e0, e1⟩ := idx7 t
      intro a
      match a with
      | ⟨0, _⟩ => show win0_7.index t 0 * 512 ≤ (i 0).val ∧ (i 0).val < win0_7.index t 0 * 512 + 512; omega
      | ⟨1, _⟩ => show win0_7.index t 1 * 1024 ≤ (i 1).val ∧ (i 1).val < win0_7.index t 1 * 1024 + 1024; omega

theorem arr_8 : (dats m 0 c).arrAt 8 cfg0.N = G8 m c :=
  (dats m 0 c).arrAt_eq_of_cover 8 (G8 m c) (fun t _ => flushed_8 m c t) fun (i : S8192x1024.Idx) => by
    have h0 : (i 0).val < 8192 := (i 0).isLt
    have h1 : (i 1).val < 1024 := (i 1).isLt
    obtain ⟨t, ht⟩ : ∃ t : Fin cfg0.N, t.val = (i 0).val / 512 := ⟨⟨_, by show _ < 16; omega⟩, rfl⟩
    refine ⟨t, ?_, ?_⟩
    · exact (by decide +kernel : ∀ t : Fin grid0.N, (cfg0.win 8).flush t = true) _
    · show i ∈ ((View.whole main_v0_1).slice (win0_8.rect t)).set
      rw [View.set_slice_whole, Rect.mem_set_unit]
      obtain ⟨e0, e1⟩ := idx8 t
      intro a
      match a with
      | ⟨0, _⟩ => show win0_8.index t 0 * 512 ≤ (i 0).val ∧ (i 0).val < win0_8.index t 0 * 512 + 512; omega
      | ⟨1, _⟩ => show win0_8.index t 1 * 1024 ≤ (i 1).val ∧ (i 1).val < win0_8.index t 1 * 1024 + 1024; omega

theorem arr_9 : (dats m 0 c).arrAt 9 cfg0.N = G9 m c :=
  (dats m 0 c).arrAt_eq_of_cover 9 (G9 m c) (fun t => flushed_9 m c t) fun (i : S3x8x1024.Idx) => by
    have h0 : (i 0).val < 3 := (i 0).isLt
    have h1 : (i 1).val < 8 := (i 1).isLt
    have h2 : (i 2).val < 1024 := (i 2).isLt
    obtain ⟨t, ht⟩ : ∃ t : Fin cfg0.N, t.val = 15 := ⟨⟨15, by show _ < 16; omega⟩, rfl⟩
    refine ⟨t, ?_, ?_⟩
    · rw [flush9]; exact ht
    · show i ∈ ((View.whole main_v0_2).slice (win0_9.rect t)).set
      rw [View.set_slice_whole, Rect.mem_set_unit]
      obtain ⟨e0, e1, e2⟩ := idx9 t
      intro a
      match a with
      | ⟨0, _⟩ => show win0_9.index t 0 * 3 ≤ (i 0).val ∧ (i 0).val < win0_9.index t 0 * 3 + 3; omega
      | ⟨1, _⟩ => show win0_9.index t 1 * 8 ≤ (i 1).val ∧ (i 1).val < win0_9.index t 1 * 8 + 8; omega
      | ⟨2, _⟩ => show win0_9.index t 2 * 1024 ≤ (i 2).val ∧ (i 2).val < win0_9.index t 2 * 1024 + 1024; omega

end Cert.NormBIdeal.Grad

end
-- ==== Proof.NormBRefVal.lean ====
/- The reference of the norm's backward pass computes the specification. -/
module

public import proofs.«01_k».proof.Proof.Gen.NormBRefIdeal.Read
public import proofs.«01_k».proof.Proof.NormSpec

@[expose] public section

set_option maxRecDepth 16384
noncomputable section

namespace Cert.NormBRefIdeal.Grad

open Cert.NormBRefIdeal Cert.NormBRefIdeal.Gen Cert.NormBRefIdeal.Read Cert.NormSpec Idealize.ShloMosaic Idealize.ShloMosaic.TcCoe Idealize.SL.Sem

variable (A0 : FVec Ideal S8192x1024 .f32) (A1 : FVec Ideal S8192x1024 .f32) (A2 : FVec Ideal S8192x1024 .f32) (A3 : FVec Ideal S1x1024 .f32) (A4 : FVec Ideal S1x1024 .f32) (A5 : FVec Ideal S8192x1024 .f32) (A6 : FVec Ideal S1x1024 .f32)

/-- The mean square, its inverse root and the gradient before the scaling. -/
theorem ms_at (r : Fin 8192) (l : Fin 1) : val_main_v7 (F := Ideal) A0 (ix2 r l) = ms (row A0 r.val) := by
  pointwise [val_main_v7, val_main_v6, val_main_cst_2, val_main_v5, val_main_v4, val_main_cst_1, val_main_v3, val_main_v2, val_main_cst_0, val_main_v1, row_at A0]
  unfold ms
  simp
theorem rs_at (r : Fin 8192) (l : Fin 1) : val_main_v8 (F := Ideal) A0 (ix2 r l) = rs (row A0 r.val) := by
  pointwise [val_main_v8, ms_at]
  rfl
theorem dn_at (r : Fin 8192) (q : Fin 1024) : val_main_v25 (F := Ideal) A1 A3 A4 (ix2 r q) = dnRef (row A1 r.val) (vec A3) (vec A4) q := by
  pointwise [val_main_v25, val_main_v24, val_main_v23, val_main_v22, val_main_v17, val_main_v16, val_main_cst_4, row_at A1, vec_at A3, vec_at A4]
  rfl

/-- What the mean square's gradient is worth. -/
theorem w_at (r : Fin 8192) : val_main_v34 (F := Ideal) A0 A1 A3 A4 (ix1 r) = wRef (row A0 r.val) (row A1 r.val) (vec A3) (vec A4) := by
  pointwise [val_main_v34, val_main_cst_7, val_main_v33, val_main_v32, val_main_cst_6, val_main_v31, val_main_v28, val_main_v27, val_main_cst_5, val_main_v26, val_main_v11, val_main_v10, val_main_cst_3, val_main_v9, rs_at, ms_at, dn_at, row_at A0]
  unfold wRef
  simp

/-- The rows' gradients. -/
theorem dx_at (f0 : ∀ i, A0 i ≠ ⊤ ∧ A0 i ≠ ⊥) (f1 : ∀ i, A1 i ≠ ⊤ ∧ A1 i ≠ ⊥) (f3 : ∀ i, A3 i ≠ ⊤ ∧ A3 i ≠ ⊥) (f4 : ∀ i, A4 i ≠ ⊤ ∧ A4 i ≠ ⊥) (r : Fin 8192) (q : Fin 1024) :
    val_main_v65 (F := Ideal) A0 A1 A2 A3 A4 (ix2 r q) = (rowsB A0 A1 A2 A3 A4 A5 A6).dx r.val q := by
  refine Eq.trans ?_ (gx_ref (row A0 r.val) (row A1 r.val) (row A2 r.val) (vec A3) (vec A4) (row_fin A0 f0 _) (row_fin A1 f1 _) (vec_fin A3 f3) (vec_fin A4 f4) q)
  pointwise [val_main_v65, val_main_v39, val_main_v38, val_main_v37, val_main_v36, val_main_v35, val_main_v30, val_main_v29, rs_at, dn_at, w_at, row_at A0, row_at A2]
  rfl

/-- The scaled rows, at unit gain. -/
theorem nx_at (r : Fin 8192) (q : Fin 1024) : val_main_v52 (F := Ideal) A0 (ix2 r q) = nx (row A0 r.val) q := by
  pointwise [val_main_v52, val_main_v51, val_main_v40, val_main_cst_8, val_main_v50, val_main_v49, val_main_v48, val_main_v47, val_main_v46, val_main_cst_11, val_main_v45, val_main_v44, val_main_cst_10, val_main_v43, val_main_v42, val_main_cst_9, val_main_v41, row_at A0]
  unfold nx rs ms
  simp

/-- The branch's gradients. -/
theorem db_at (f0 : ∀ i, A0 i ≠ ⊤ ∧ A0 i ≠ ⊥) (f1 : ∀ i, A1 i ≠ ⊤ ∧ A1 i ≠ ⊥) (f3 : ∀ i, A3 i ≠ ⊤ ∧ A3 i ≠ ⊥) (f4 : ∀ i, A4 i ≠ ⊤ ∧ A4 i ≠ ⊥) (r : Fin 8192) (q : Fin 1024) :
    val_main_v73 (F := Ideal) A0 A1 A2 A3 A4 A6 (ix2 r q) = (rowsB A0 A1 A2 A3 A4 A5 A6).db r.val q := by
  pointwise [val_main_v73, val_main_v69, val_main_v68, dx_at A0 A1 A2 A3 A4 A5 A6 f0 f1 f3 f4, vec_at A6]
  rfl

/-- The sums over the rows. -/
theorem total_at (f0 : ∀ i, A0 i ≠ ⊤ ∧ A0 i ≠ ⊥) (f1 : ∀ i, A1 i ≠ ⊤ ∧ A1 i ≠ ⊥) (f3 : ∀ i, A3 i ≠ ⊤ ∧ A3 i ≠ ⊥) (f4 : ∀ i, A4 i ≠ ⊤ ∧ A4 i ≠ ⊥) (k : Fin 3) (s : Fin 8) (l : Fin 1024) :
    val_main_v78 (F := Ideal) A0 A1 A2 A3 A4 A5 (ix3 k s l) = (rowsB A0 A1 A2 A3 A4 A5 A6).total k.val l := by
  obtain rfl | rfl | rfl : k = 0 ∨ k = 1 ∨ k = 2 := by
    rcases k with ⟨k, hk⟩; interval_cases k <;> simp
  · pointwise [val_main_v78, val_main_v77, val_main_v74, val_main_v64, val_main_v63, val_main_cst_14, val_main_v62, val_main_v59, nx_at, row_at A1]
    refine Eq.trans ?_ (Finset.sum_congr rfl fun r _ => mul_comm _ _)
    rfl
  · pointwise [val_main_v78, val_main_v77, val_main_v75, val_main_v61, val_main_v60, val_main_cst_13, row_at A1]
    rfl
  · pointwise [val_main_v78, val_main_v77, val_main_v76, val_main_v72, val_main_v71, val_main_cst_15, val_main_v70, dx_at A0 A1 A2 A3 A4 A5 A6 f0 f1 f3 f4, row_at A5]
    rfl

end Cert.NormBRefIdeal.Grad

end
-- ==== Proof.NormBClaim.lean ====
/- The norm's backward kernel and its reference leave equal results on real numbers. -/
module

public import proofs.«01_k».proof.Defs
public import proofs.«01_k».proof.Proof.NormBKernel
public import proofs.«01_k».proof.Proof.NormBRefVal

@[expose] public section

set_option maxRecDepth 16384
noncomputable section

namespace Cert.NormBClaim

open Idealize.ShloMosaic Idealize.SL.Sem Cert.NormSpec

/-- The side conditions of the precondition's text. -/
theorem pre_facts : Cert.Pre_norm2_finite.Facts where
  bcast_S_S8192x1024 := by decide
  bcast_S_S1x1024 := by decide

attribute [local instance] Cert.NormBIdeal.Gen.facts Cert.NormBRefIdeal.Gen.facts pre_facts

/-- An extended real whose size is below the greatest is a real number. -/
theorem real_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor
  · rintro rfl
    simp at h
  · rintro rfl
    simp at h

/-- The reference's results, at the specification. -/
theorem ref_dx (B0 : FVec Ideal Cert.NormBRefIdeal.S8192x1024 .f32) (B1 : FVec Ideal Cert.NormBRefIdeal.S8192x1024 .f32) (B2 : FVec Ideal Cert.NormBRefIdeal.S8192x1024 .f32) (B3 : FVec Ideal Cert.NormBRefIdeal.S1x1024 .f32) (B4 : FVec Ideal Cert.NormBRefIdeal.S1x1024 .f32) (B5 : FVec Ideal Cert.NormBRefIdeal.S8192x1024 .f32) (B6 : FVec Ideal Cert.NormBRefIdeal.S1x1024 .f32) (f0 : ∀ i, B0 i ≠ ⊤ ∧ B0 i ≠ ⊥) (f1 : ∀ i, B1 i ≠ ⊤ ∧ B1 i ≠ ⊥) (f3 : ∀ i, B3 i ≠ ⊤ ∧ B3 i ≠ ⊥) (f4 : ∀ i, B4 i ≠ ⊤ ∧ B4 i ≠ ⊥) :
    Cert.NormBRefIdeal.Read.val_main_v65 (F := Ideal) B0 B1 B2 B3 B4 = fun i => (rowsB B0 B1 B2 B3 B4 B5 B6).dx (i 0).val (i 1) := by
  funext i
  obtain ⟨r, l, rfl⟩ : ∃ (r : Fin 8192) (l : Fin 1024), i = ix2 r l := ⟨i 0, i 1, eq_ix2 i⟩
  exact Cert.NormBRefIdeal.Grad.dx_at B0 B1 B2 B3 B4 B5 B6 f0 f1 f3 f4 r l
theorem ref_db (B0 : FVec Ideal Cert.NormBRefIdeal.S8192x1024 .f32) (B1 : FVec Ideal Cert.NormBRefIdeal.S8192x1024 .f32) (B2 : FVec Ideal Cert.NormBRefIdeal.S8192x1024 .f32) (B3 : FVec Ideal Cert.NormBRefIdeal.S1x1024 .f32) (B4 : FVec Ideal Cert.NormBRefIdeal.S1x1024 .f32) (B5 : FVec Ideal Cert.NormBRefIdeal.S8192x1024 .f32) (B6 : FVec Ideal Cert.NormBRefIdeal.S1x1024 .f32) (f0 : ∀ i, B0 i ≠ ⊤ ∧ B0 i ≠ ⊥) (f1 : ∀ i, B1 i ≠ ⊤ ∧ B1 i ≠ ⊥) (f3 : ∀ i, B3 i ≠ ⊤ ∧ B3 i ≠ ⊥) (f4 : ∀ i, B4 i ≠ ⊤ ∧ B4 i ≠ ⊥) :
    Cert.NormBRefIdeal.Read.val_main_v73 (F := Ideal) B0 B1 B2 B3 B4 B6 = fun i => (rowsB B0 B1 B2 B3 B4 B5 B6).db (i 0).val (i 1) := by
  funext i
  obtain ⟨r, l, rfl⟩ : ∃ (r : Fin 8192) (l : Fin 1024), i = ix2 r l := ⟨i 0, i 1, eq_ix2 i⟩
  exact Cert.NormBRefIdeal.Grad.db_at B0 B1 B2 B3 B4 B5 B6 f0 f1 f3 f4 r l
theorem ref_total (B0 : FVec Ideal Cert.NormBRefIdeal.S8192x1024 .f32) (B1 : FVec Ideal Cert.NormBRefIdeal.S8192x1024 .f32) (B2 : FVec Ideal Cert.NormBRefIdeal.S8192x1024 .f32) (B3 : FVec Ideal Cert.NormBRefIdeal.S1x1024 .f32) (B4 : FVec Ideal Cert.NormBRefIdeal.S1x1024 .f32) (B5 : FVec Ideal Cert.NormBRefIdeal.S8192x1024 .f32) (B6 : FVec Ideal Cert.NormBRefIdeal.S1x1024 .f32) (f0 : ∀ i, B0 i ≠ ⊤ ∧ B0 i ≠ ⊥) (f1 : ∀ i, B1 i ≠ ⊤ ∧ B1 i ≠ ⊥) (f3 : ∀ i, B3 i ≠ ⊤ ∧ B3 i ≠ ⊥) (f4 : ∀ i, B4 i ≠ ⊤ ∧ B4 i ≠ ⊥) :
    Cert.NormBRefIdeal.Read.val_main_v78 (F := Ideal) B0 B1 B2 B3 B4 B5 = fun i => (rowsB B0 B1 B2 B3 B4 B5 B6).total (i 0).val (i 2) := by
  funext i
  obtain ⟨k, s, l, rfl⟩ : ∃ (k : Fin 3) (s : Fin 8) (l : Fin 1024), i = ix3 k s l := ⟨i 0, i 1, i 2, eq_ix3 i⟩
  exact Cert.NormBRefIdeal.Grad.total_at B0 B1 B2 B3 B4 B5 B6 f0 f1 f3 f4 k s l

/-- The reference runs from every memory, leaves its arguments and every counter at zero. -/
theorem ref_frame : Cert.quiescent_NormBRefIdeal := fun m ρ _ =>
  (θ_run _ _ _).mono (fun r h => ⟨fun c => (h c).2.2.2, Idealize.ShloMosaic.sem_eq_zero_of_no_sems (by decide) r.2⟩)
    (Cert.NormBRefIdeal.Value.run (F := Ideal) m ρ)

/-- From memories of real numbers that agree on the arguments both programs leave the same gradients. -/
theorem algebraic : Cert.algebraic_NormBIdeal_NormBRefIdeal_pre_norm2_finite := by
  intro m ρ m' ρ' hp hag
  refine ⟨fun c => Cert.NormBIdeal.Grad.G7 m c, fun c => Cert.NormBIdeal.Grad.G8 m c, fun c => Cert.NormBIdeal.Grad.G9 m c, ?_, ?_⟩
  · exact (θ_run _ _ _).mono (fun _ h c => ⟨(h c).1.trans (Cert.NormBIdeal.Grad.arr_7 m c), (h c).2.1.trans (Cert.NormBIdeal.Grad.arr_8 m c), (h c).2.2.1.trans (Cert.NormBIdeal.Grad.arr_9 m c), (h c).2.2.2⟩)
      (Cert.NormBIdeal.Value.run_blocks (F := Ideal) m ρ)
  · refine (θ_run _ _ _).mono (fun _ h c => ⟨(h c).1.trans ?_, (h c).2.1.trans ?_, (h c).2.2.1.trans ?_, (h c).2.2.2⟩) (Cert.NormBRefIdeal.Value.run (F := Ideal) m' ρ')
    · rw [Cert.NormBRefIdeal.Read.val_main_v65_eq, (hag c).1, (hag c).2.1, (hag c).2.2.1, (hag c).2.2.2.1, (hag c).2.2.2.2.1]
      exact ref_dx (Cert.NormBIdeal.Grad.A0 m c) (Cert.NormBIdeal.Grad.A1 m c) (Cert.NormBIdeal.Grad.A2 m c) (Cert.NormBIdeal.Grad.A3 m c) (Cert.NormBIdeal.Grad.A4 m c) (Cert.NormBIdeal.Grad.A5 m c) (Cert.NormBIdeal.Grad.A6 m c) (fun i => real_of _ (congrFun (hp c).1 i)) (fun i => real_of _ (congrFun (hp c).2.1 i)) (fun i => real_of _ (congrFun (hp c).2.2.1 i)) (fun i => real_of _ (congrFun (hp c).2.2.2 i))
    · rw [Cert.NormBRefIdeal.Read.val_main_v73_eq, (hag c).1, (hag c).2.1, (hag c).2.2.1, (hag c).2.2.2.1, (hag c).2.2.2.2.1, (hag c).2.2.2.2.2.2]
      exact ref_db (Cert.NormBIdeal.Grad.A0 m c) (Cert.NormBIdeal.Grad.A1 m c) (Cert.NormBIdeal.Grad.A2 m c) (Cert.NormBIdeal.Grad.A3 m c) (Cert.NormBIdeal.Grad.A4 m c) (Cert.NormBIdeal.Grad.A5 m c) (Cert.NormBIdeal.Grad.A6 m c) (fun i => real_of _ (congrFun (hp c).1 i)) (fun i => real_of _ (congrFun (hp c).2.1 i)) (fun i => real_of _ (congrFun (hp c).2.2.1 i)) (fun i => real_of _ (congrFun (hp c).2.2.2 i))
    · rw [Cert.NormBRefIdeal.Read.val_main_v78_eq, (hag c).1, (hag c).2.1, (hag c).2.2.1, (hag c).2.2.2.1, (hag c).2.2.2.2.1, (hag c).2.2.2.2.2.1]
      exact ref_total (Cert.NormBIdeal.Grad.A0 m c) (Cert.NormBIdeal.Grad.A1 m c) (Cert.NormBIdeal.Grad.A2 m c) (Cert.NormBIdeal.Grad.A3 m c) (Cert.NormBIdeal.Grad.A4 m c) (Cert.NormBIdeal.Grad.A5 m c) (Cert.NormBIdeal.Grad.A6 m c) (fun i => real_of _ (congrFun (hp c).1 i)) (fun i => real_of _ (congrFun (hp c).2.1 i)) (fun i => real_of _ (congrFun (hp c).2.2.1 i)) (fun i => real_of _ (congrFun (hp c).2.2.2 i))

end Cert.NormBClaim

end
-- ==== Proof.NormABlocks.lean ====
/- The values the norm's backward kernel leaves in its output blocks at one grid point. -/
module

public import proofs.«01_k».proof.Proof.Gen.NormAIdeal.Value
public import proofs.«01_k».proof.Proof.NormSpec

@[expose] public section

set_option maxRecDepth 16384
noncomputable section

namespace Cert.NormAIdeal.Grad

open Cert.NormAIdeal Cert.NormAIdeal.Gen Cert.NormSpec Idealize.ShloMosaic Idealize.ShloMosaic.TcCoe Idealize.SL.Sem
open Idealize.ShloMosaic.Pipeline (Dat)

/-- The input blocks of a point whose first row is `b`, as rows. -/
structure Reads (x0 : Vec Ideal S512x1024 .f32) (x1 : Vec Ideal S512x1024 .f32) (x2 : Vec Ideal S512x1024 .f32) (x3 : Vec Ideal S1x1024 .f32) (x4 : Vec Ideal S1x1024 .f32) (b : ℕ) (R : Rows) : Prop where
  x : ∀ (p : Fin 512) (q : Fin 1024), x0 (ix2 p q) = R.x (b + p.val) q
  d : ∀ (p : Fin 512) (q : Fin 1024), x1 (ix2 p q) = R.d (b + p.val) q
  r : ∀ (p : Fin 512) (q : Fin 1024), x2 (ix2 p q) = R.r (b + p.val) q
  g : ∀ q : Fin 1024, x3 (ix2 0 q) = R.g q
  s : ∀ q : Fin 1024, x4 (ix2 0 q) = R.s q
  br : R.br = fun _ _ => 0

variable {i : grid0.Coords} {x0 : Vec Ideal S512x1024 .f32} {x1 : Vec Ideal S512x1024 .f32} {x2 : Vec Ideal S512x1024 .f32} {x3 : Vec Ideal S1x1024 .f32} {x4 : Vec Ideal S1x1024 .f32} {b : ℕ} {R : Rows}

theorem ld_w (x : Vec Ideal S512x1024 .f32) (inb) : View.ld x (Rect.unit (s := S512x1024) ![0, 0] ![512, 1024] inb) = x :=
  View.ld_unit_zero (by decide) inb x
theorem ld_v (x : Vec Ideal S1x1024 .f32) (inb) : View.ld x (Rect.unit (s := S1x1024) ![0, 0] ![1, 1024] inb) = x :=
  View.ld_unit_zero (by decide) inb x

/-- The rows' inverse roots. -/
theorem rs_at (h : Reads x0 x1 x2 x3 x4 b R) (p : Fin 512) (l : Fin 1) : k0_pay5 x0 (ix2 p l) = rs (R.x (b + p.val)) := by
  pointwise [k0_pay5, h.x]
  rfl

/-- The scaled rows. -/
theorem nx_at (h : Reads x0 x1 x2 x3 x4 b R) (p : Fin 512) (q : Fin 1024) : k0_pay6 x0 (ix2 p q) = nx (R.x (b + p.val)) q := by
  pointwise [k0_pay6, rs_at h, h.x]
  rfl

/-- The rows' gradients. -/
theorem dx_at (h : Reads x0 x1 x2 x3 x4 b R) (p : Fin 512) (q : Fin 1024) : k0_pay7 x0 x1 x3 x4 x2 (ix2 p q) = R.dx (b + p.val) q := by
  pointwise [k0_pay7, rs_at h, nx_at h, h.d, h.r, h.g, h.s]
  rfl

/-- The scale's and the shift's sums, one block of rows added. -/
theorem sum0_at (h : Reads x0 x1 x2 x3 x4 b R) (v : Vec Ideal S1x8x1024 .f32) (s : Fin 8) (l : Fin 1024) :
    k0_pay1 x1 (k0_pay6 x0) v (ix3 0 s l) = v (ix3 0 s l) + R.fold b 0 s l := by
  pointwise [k0_pay1, nx_at h, h.d]
  rfl
theorem sum1_at (h : Reads x0 x1 x2 x3 x4 b R) (v : Vec Ideal S1x8x1024 .f32) (s : Fin 8) (l : Fin 1024) :
    k0_pay2 x1 v (ix3 0 s l) = v (ix3 0 s l) + R.fold b 1 s l := by
  pointwise [k0_pay2, h.d]
  rfl

/-- Without a branch the third sum stays zero. -/
theorem fold2 (h : Reads x0 x1 x2 x3 x4 b R) (s : Fin 8) (l : Fin 1024) : R.fold b 2 s l = 0 := by
  unfold Rows.fold Rows.tm term
  rw [h.br]
  simp

/-- The zero block. -/
theorem zero_at (k : Fin 3) (s : Fin 8) (l : Fin 1024) : (k0_pay4 (F := Ideal)) (ix3 k s l) = 0 := by
  pointwise [k0_pay4]

/-- The block with the sublanes of each sum added up. -/
theorem total_at (v : Vec Ideal S3x8x1024 .f32) (k : Fin 3) (s : Fin 8) (l : Fin 1024) :
    k0_pay3 v (ix3 k s l) = ∑ x : Fin 8, v (ix3 k x l) := by
  pointwise [k0_pay3]

/-- Loading sum `k`. -/
theorem idx_slab (k : ℕ) (inb) (k' : Fin 3) (hk : k'.val = k) (s : Fin 8) (l : Fin 1024) :
    (Rect.unit (s := S3x8x1024) ![k, 0, 0] ![1, 8, 1024] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)

theorem mem_slab (k : ℕ) (inb) (k' : Fin 3) (hk : k'.val = k) (s : Fin 8) (l : Fin 1024) :
    ix3 k' s l ∈ (Rect.unit (s := S3x8x1024) ![k, 0, 0] ![1, 8, 1024] inb).set := by
  have hs := s.isLt
  have hl := l.isLt
  rw [Rect.mem_set_unit]
  intro a
  match a with
  | ⟨0, _⟩ => show k ≤ k'.val ∧ k'.val < k + 1; omega
  | ⟨1, _⟩ => show 0 ≤ s.val ∧ s.val < 0 + 8; omega
  | ⟨2, _⟩ => show 0 ≤ l.val ∧ l.val < 0 + 1024; omega
theorem not_mem (k : ℕ) (inb) (k' : Fin 3) (hk : k'.val ≠ k) (s : Fin 8) (l : Fin 1024) :
    ix3 k' s l ∉ (Rect.unit (s := S3x8x1024) ![k, 0, 0] ![1, 8, 1024] inb).set := by
  intro hm
  refine hk ?_
  rw [Rect.mem_set_unit] at hm
  have := hm 0
  change k ≤ k'.val ∧ k'.val < k + 1 at this
  omega

/-- The sums after a store of sum `k`, read there and read elsewhere. -/
theorem canon_hit (k : ℕ) (inb) (P : Vec Ideal S1x8x1024 .f32) (L) (k' : Fin 3) (hk : k'.val = k) (s : Fin 8) (l : Fin 1024) :
    View.canon (Val := Elt Ideal) (⟨Rect.unit (s := S3x8x1024) ![k, 0, 0] ![1, 8, 1024] inb, P⟩ :: L) (ix3 k' s l) = P (ix3 0 s l) := by
  rw [← idx_slab k inb k' hk s l]
  exact View.canon_cons_emb _ _ _ _
theorem canon_miss (k : ℕ) (inb) (P : Vec Ideal S1x8x1024 .f32) (L) (k' : Fin 3) (hk : k'.val ≠ k) (s : Fin 8) (l : Fin 1024) :
    View.canon (Val := Elt Ideal) (⟨Rect.unit (s := S3x8x1024) ![k, 0, 0] ![1, 8, 1024] inb, P⟩ :: L) (ix3 k' s l) = View.canon L (ix3 k' s l) :=
  View.canon_cons_of_not_mem _ _ (not_mem k inb k' hk s l)

/-- One store of a whole block. -/
theorem canon_all (P : Vec Ideal S3x8x1024 .f32) (L) (inb) :
    View.canon (Val := Elt Ideal) (⟨Rect.unit (s := S3x8x1024) ![0, 0, 0] ![3, 8, 1024] inb, P⟩ :: L) = P :=
  View.canon_cons_unit_zero (by decide) inb P L
theorem canon_w {e : EltTy} (P : Vec Ideal S512x1024 e) (L) (inb) :
    View.canon (Val := Elt Ideal) (⟨Rect.unit (s := S512x1024) ![0, 0] ![512, 1024] inb, P⟩ :: L) = P :=
  View.canon_cons_unit_zero (by decide) inb P L

/-- A load of sum `k`. -/
theorem ld_slab (X : Vec Ideal S3x8x1024 .f32) (k : ℕ) (inb) (k' : Fin 3) (hk : k'.val = k) (s : Fin 8) (l : Fin 1024) :
    View.ld X (Rect.unit (s := S3x8x1024) ![k, 0, 0] ![1, 8, 1024] inb) (ix3 0 s l) = X (ix3 k' s l) :=
  congrArg X (idx_slab k inb k' hk s l)

variable (c : Dev nD) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole) (a7 : Memref sig .tc .vmem S3x8x1024 .f32) (h7 : a7.IsWhole)

/-- The rows' gradients after a point of case A. -/
theorem out_A_5 (hc0 : cond0_0 i) (hc1 : ¬cond0_1 i) (h : Reads x0 x1 x2 x3 x4 b R) (p : Fin 512) (q : Fin 1024) :
    out0_A_5 (F := Ideal) c i a1 h1 a2 h2 a3 h3 a4 h4 a5 h5 a6 h6 a7 h7 hc0 hc1 x0 x1 x2 x3 x4 (ix2 p q) = R.dx (b + p.val) q := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The sums after a point of case A. -/
theorem out_A_6 (hc0 : cond0_0 i) (hc1 : ¬cond0_1 i) (h : Reads x0 x1 x2 x3 x4 b R) (k : Fin 3) (s : Fin 8) (l : Fin 1024) :
    out0_A_6 (F := Ideal) c i a1 h1 a2 h2 a3 h3 a4 h4 a5 h5 a6 h6 a7 h7 hc0 hc1 x0 x1 x2 x3 x4 (ix3 k s l) = R.fold b k.val s l := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  simp only [View.readAt_eq_ld, h1.read_unread, h2.read_unread, h3.read_unread, h4.read_unread, h5.read_unread, h6.read_unread, h7.read_unread]
  simp only [View.readCov_eq_canon', ld_w, ld_v]
  obtain rfl | rfl | rfl : k = 0 ∨ k = 1 ∨ k = 2 := by
    rcases k with ⟨k, hk⟩; interval_cases k <;> simp
  · rw [canon_miss 1 _ _ _ _ (by decide), canon_hit 0 _ _ _ _ rfl, sum0_at h, idx_slab 0 _ 0 rfl, canon_all, zero_at, zero_add] <;> rfl
  · rw [canon_hit 1 _ _ _ _ rfl, sum1_at h, idx_slab 1 _ 1 rfl, canon_miss 0 _ _ _ _ (by decide), canon_all, zero_at, zero_add] <;> rfl
  · rw [canon_miss 1 _ _ _ _ (by decide), canon_miss 0 _ _ _ _ (by decide), canon_all, zero_at]; exact (fold2 h s l).symm

/-- The rows' gradients after a point of case B. -/
theorem out_B_5 (hc0 : ¬cond0_0 i) (hc1 : ¬cond0_1 i) (xo : Vec Ideal S3x8x1024 .f32) (h : Reads x0 x1 x2 x3 x4 b R) (p : Fin 512) (q : Fin 1024) :
    out0_B_5 (F := Ideal) c i a1 h1 a2 h2 a3 h3 a4 h4 a5 h5 a6 h6 a7 h7 hc0 hc1 x0 x1 x2 x3 x4 xo (ix2 p q) = R.dx (b + p.val) q := by
  unfold out0_B_5
  rw [View.read_writes_eq_canon _ _ _ (cover0_B_5 c i a1 h1 a2 h2 a3 h3 a4 h4 a5 h5 a6 h6 a7 h7 hc0 hc1 x0 x1 x2 x3 x4 xo)]
  unfold kernelRun0_B
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The sums after a point of case B. -/
theorem out_B_6 (hc0 : ¬cond0_0 i) (hc1 : ¬cond0_1 i) (xo : Vec Ideal S3x8x1024 .f32) (h : Reads x0 x1 x2 x3 x4 b R) (k : Fin 3) (s : Fin 8) (l : Fin 1024) :
    out0_B_6 (F := Ideal) c i a1 h1 a2 h2 a3 h3 a4 h4 a5 h5 a6 h6 a7 h7 hc0 hc1 x0 x1 x2 x3 x4 xo (ix3 k s l) = xo (ix3 k s l) + R.fold b k.val s l := by
  unfold out0_B_6
  unfold kernelRun0_B
  dsimp only
  sl_unfold_words
  simp only [View.readAt_eq_ld, h1.read_unread, h2.read_unread, h3.read_unread, h4.read_unread, h5.read_unread, h6.read_unread, h7.read_unread]
  simp only [ld_w, ld_v]
  obtain rfl | rfl | rfl : k = 0 ∨ k = 1 ∨ k = 2 := by
    rcases k with ⟨k, hk⟩; interval_cases k <;> simp
  · refine Eq.trans (View.read_writes_apply_eq_canon _ _ _ _ ⟨_, List.mem_cons_of_mem _ List.mem_cons_self, mem_slab 0 inb_S3x8x1024_S1x8x1024_0_0_0 0 rfl s l⟩) ?_
    rw [canon_miss 1 _ _ _ _ (by decide), canon_hit 0 _ _ _ _ rfl, sum0_at h, ld_slab _ 0 _ 0 rfl] <;> rfl
  · refine Eq.trans (View.read_writes_apply_eq_canon _ _ _ _ ⟨_, List.mem_cons_self, mem_slab 1 inb_S3x8x1024_S1x8x1024_1_0_0 1 rfl s l⟩) ?_
    rw [canon_hit 1 _ _ _ _ rfl, sum1_at h, ld_slab _ 1 _ 1 rfl] <;> rfl
  · rw [View.read_writes_apply_of_forall_not_mem, h7.read_unread]
    · show _ = xo (ix3 2 s l) + R.fold b 2 s l
      rw [fold2 h, add_zero]
    · intro pc hp
      simp only [List.mem_cons, List.not_mem_nil, or_false] at hp
      rcases hp with rfl | rfl
      · exact not_mem 1 inb_S3x8x1024_S1x8x1024_1_0_0 2 (by decide) s l
      · exact not_mem 0 inb_S3x8x1024_S1x8x1024_0_0_0 2 (by decide) s l

/-- The rows' gradients after a point of case C. -/
theorem out_C_5 (hc0 : ¬cond0_0 i) (hc1 : cond0_1 i) (xo : Vec Ideal S3x8x1024 .f32) (h : Reads x0 x1 x2 x3 x4 b R) (p : Fin 512) (q : Fin 1024) :
    out0_C_5 (F := Ideal) c i a1 h1 a2 h2 a3 h3 a4 h4 a5 h5 a6 h6 a7 h7 hc0 hc1 x0 x1 x2 x3 x4 xo (ix2 p q) = R.dx (b + p.val) q := by
  unfold out0_C_5
  rw [View.read_writes_eq_canon _ _ _ (cover0_C_5 c i a1 h1 a2 h2 a3 h3 a4 h4 a5 h5 a6 h6 a7 h7 hc0 hc1 x0 x1 x2 x3 x4 xo)]
  unfold kernelRun0_C
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The sums after a point of case C. -/
theorem out_C_6 (hc0 : ¬cond0_0 i) (hc1 : cond0_1 i) (xo : Vec Ideal S3x8x1024 .f32) (h : Reads x0 x1 x2 x3 x4 b R) (k : Fin 3) (s : Fin 8) (l : Fin 1024) :
    out0_C_6 (F := Ideal) c i a1 h1 a2 h2 a3 h3 a4 h4 a5 h5 a6 h6 a7 h7 hc0 hc1 x0 x1 x2 x3 x4 xo (ix3 k s l) = ∑ x : Fin 8, (xo (ix3 k x l) + R.fold b k.val x l) := by
  unfold out0_C_6
  rw [View.read_writes_eq_canon _ _ _ (cover0_C_6 c i a1 h1 a2 h2 a3 h3 a4 h4 a5 h5 a6 h6 a7 h7 hc0 hc1 x0 x1 x2 x3 x4 xo)]
  unfold kernelRun0_C
  dsimp only
  sl_unfold_words
  simp only [View.readAt_eq_ld, h1.read_unread, h2.read_unread, h3.read_unread, h4.read_unread, h5.read_unread, h6.read_unread, h7.read_unread]
  simp only [View.readCov_eq_canon', ld_w, ld_v]
  rw [canon_all, total_at]
  refine Finset.sum_congr rfl fun x _ => ?_
  rw [View.ld_unit_zero (by decide)]
  obtain rfl | rfl | rfl : k = 0 ∨ k = 1 ∨ k = 2 := by
    rcases k with ⟨k, hk⟩; interval_cases k <;> simp
  · refine Eq.trans (View.read_writes_apply_eq_canon _ _ _ _ ⟨_, List.mem_cons_of_mem _ List.mem_cons_self, mem_slab 0 inb_S3x8x1024_S1x8x1024_0_0_0 0 rfl x l⟩) ?_
    rw [canon_miss 1 _ _ _ _ (by decide), canon_hit 0 _ _ _ _ rfl, sum0_at h, ld_slab _ 0 _ 0 rfl] <;> rfl
  · refine Eq.trans (View.read_writes_apply_eq_canon _ _ _ _ ⟨_, List.mem_cons_self, mem_slab 1 inb_S3x8x1024_S1x8x1024_1_0_0 1 rfl x l⟩) ?_
    rw [canon_hit 1 _ _ _ _ rfl, sum1_at h, ld_slab _ 1 _ 1 rfl] <;> rfl
  · rw [View.read_writes_apply_of_forall_not_mem, h7.read_unread]
    · show _ = xo (ix3 2 x l) + R.fold b 2 x l
      rw [fold2 h, add_zero]
    · intro pc hp
      simp only [List.mem_cons, List.not_mem_nil, or_false] at hp
      rcases hp with rfl | rfl
      · exact not_mem 1 inb_S3x8x1024_S1x8x1024_1_0_0 2 (by decide) x l
      · exact not_mem 0 inb_S3x8x1024_S1x8x1024_0_0_0 2 (by decide) x l

end Cert.NormAIdeal.Grad

end
-- ==== Proof.NormAKernel.lean ====
/- The norm's backward kernel, run from any memory, leaves the specified gradients in its result arrays. -/
module

public import proofs.«01_k».proof.Proof.NormABlocks

@[expose] public section

set_option maxRecDepth 16384
noncomputable section

namespace Cert.NormAIdeal.Grad

open Cert.NormAIdeal Cert.NormAIdeal.Gen Cert.NormSpec Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev A0 : FVec Ideal S8192x1024 .f32 := m ((c : Thread nD τ).loc main_arg0)
abbrev A1 : FVec Ideal S8192x1024 .f32 := m ((c : Thread nD τ).loc main_arg1)
abbrev A2 : FVec Ideal S8192x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
def rws : Rows := rowsA (A0 m c) (A1 m c) (A2 m c) (A3 m c) (A4 m c)

/-- The blocks each point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem flush6 : ∀ t : Fin cfg0.N, (cfg0.win 6).flush t = true ↔ t.val = 15 :=
  (by decide +kernel : ∀ t : Fin grid0.N, _)
theorem lt16 (t : Fin cfg0.N) : t.val < 16 := t.isLt

/-- The input blocks of point `t`. -/
theorem reads (t : Fin cfg0.N) : Reads (iblk m c 0 t) (iblk m c 1 t) (iblk m c 2 t) (iblk m c 3 t) (iblk m c 4 t) (512 * t.val) (rws m c) where
  x p q := by
    obtain ⟨e0, e1⟩ := idx0 t
    have ht := lt16 t
    have hp := p.isLt
    show _ = row (A0 m c) (512 * t.val + p.val) q
    unfold row
    rw [dif_pos (by omega)]
    unfold iblk; rw [View.read_apply]
    show V m c main_arg0 _ = m ((c : Thread nD τ).loc main_arg0) _
    unfold V; congr 1; funext a; apply Fin.ext
    match a with
    | ⟨0, _⟩ => show win0_0.index t 0 * 512 + 1 * p.val = 512 * t.val + p.val; omega
    | ⟨1, _⟩ => show win0_0.index t 1 * 1024 + 1 * q.val = q.val; omega
  d p q := by
    obtain ⟨e0, e1⟩ := idx1 t
    have ht := lt16 t
    have hp := p.isLt
    show _ = row (A1 m c) (512 * t.val + p.val) q
    unfold row
    rw [dif_pos (by omega)]
    unfold iblk; rw [View.read_apply]
    show V m c main_arg1 _ = m ((c : Thread nD τ).loc main_arg1) _
    unfold V; congr 1; funext a; apply Fin.ext
    match a with
    | ⟨0, _⟩ => show win0_1.index t 0 * 512 + 1 * p.val = 512 * t.val + p.val; omega
    | ⟨1, _⟩ => show win0_1.index t 1 * 1024 + 1 * q.val = q.val; omega
  r p q := by
    obtain ⟨e0, e1⟩ := idx2 t
    have ht := lt16 t
    have hp := p.isLt
    show _ = row (A2 m c) (512 * t.val + p.val) q
    unfold row
    rw [dif_pos (by omega)]
    unfold iblk; rw [View.read_apply]
    show V m c main_arg2 _ = m ((c : Thread nD τ).loc main_arg2) _
    unfold V; congr 1; funext a; apply Fin.ext
    match a with
    | ⟨0, _⟩ => show win0_2.index t 0 * 512 + 1 * p.val = 512 * t.val + p.val; omega
    | ⟨1, _⟩ => show win0_2.index t 1 * 1024 + 1 * q.val = q.val; omega
  g q := by
    obtain ⟨e0, e1⟩ := idx3 t
    show _ = vec (A3 m c) q
    unfold vec
    unfold iblk; rw [View.read_apply]
    show V m c main_arg3 _ = m ((c : Thread nD τ).loc main_arg3) _
    unfold V; congr 1; funext a; apply Fin.ext
    match a with
    | ⟨0, _⟩ => show win0_3.index t 0 * 1 + 1 * 0 = 0; omega
    | ⟨1, _⟩ => show win0_3.index t 1 * 1024 + 1 * q.val = q.val; omega
  s q := by
    obtain ⟨e0, e1⟩ := idx4 t
    show _ = vec (A4 m c) q
    unfold vec
    unfold iblk; rw [View.read_apply]
    show V m c main_arg4 _ = m ((c : Thread nD τ).loc main_arg4) _
    unfold V; congr 1; funext a; apply Fin.ext
    match a with
    | ⟨0, _⟩ => show win0_4.index t 0 * 1 + 1 * 0 = 0; omega
    | ⟨1, _⟩ => show win0_4.index t 1 * 1024 + 1 * q.val = q.val; omega
  br := rfl

/-- The block of the rows' gradients after point `t`. -/
theorem outs_5 (t : Fin cfg0.N) (p : Fin 512) (q : Fin 1024) :
    (outsAt0 m c t.val t.isLt).1 (ix2 p q) = (rws m c).dx (512 * t.val + p.val) q := by
  have ht := lt16 t
  by_cases h0 : t.val % 16 = 0
  · rw [outsAt0_A m c t h0 (by omega)]; dsimp only
    exact out_A_5 (h := reads m c t) ..
  · by_cases h1 : t.val % 16 = 15
    · rw [outsAt0_C m c t h0 h1]; dsimp only
      exact out_C_5 (h := reads m c t) ..
    · rw [outsAt0_B m c t h0 h1]; dsimp only
      exact out_B_5 (h := reads m c t) ..

/-- The sums after point `n`, before the last row block: what the row blocks so far added. -/
theorem outs_6 (k : Fin 3) (s : Fin 8) (l : Fin 1024) : ∀ (n : ℕ) (hn : n < cfg0.N), n < 15 →
    (outsAt0 m c n hn).2 (ix3 k s l) = ∑ i ∈ Finset.range (n + 1), (rws m c).fold (512 * i) k.val s l := by
  intro n
  induction n with
  | zero =>
    intro hn h
    have e := outsAt0_A m c ⟨0, hn⟩ rfl (show ¬0 % 16 = 15 by decide)
    change outsAt0 m c 0 hn = _ at e
    rw [e]; dsimp only
    rw [out_A_6 (h := reads m c ⟨0, hn⟩)]
    simp
  | succ n ih =>
    intro hn h
    have e := outsAt0_B m c ⟨n + 1, hn⟩ (show ¬(n + 1) % 16 = 0 by omega) (show ¬(n + 1) % 16 = 15 by omega)
    change outsAt0 m c (n + 1) hn = _ at e
    rw [e]; dsimp only
    rw [out_B_6 (h := reads m c ⟨n + 1, hn⟩)]
    have ih' := ih (by omega) (by omega)
    show (outsAt0 m c n _).2 (ix3 k s l) + (rws m c).fold (512 * (n + 1)) k.val s l = _
    rw [ih', Finset.sum_range_succ _ (n + 1)]

/-- The sums' block where it is written back: the sums over all rows, in every sublane. -/
theorem outs_6_last (t : Fin cfg0.N) (ht : t.val = 15) (k : Fin 3) (s : Fin 8) (l : Fin 1024) :
    (outsAt0 m c t.val t.isLt).2 (ix3 k s l) = (rws m c).total k.val l := by
  rw [outsAt0_C m c t (by omega) (by omega)]; dsimp only
  rw [out_C_6 (h := reads m c t)]
  have hm : t.val - 1 = 14 := by omega
  unfold Rows.total
  rw [← sum_rows (fun r => (rws m c).tm k.val r l)]
  refine Finset.sum_congr rfl fun x _ => ?_
  rw [outs_6 m c k x l (t.val - 1) _ (by omega), hm, ht, ← Finset.sum_range_succ (fun i => (rws m c).fold (512 * i) k.val x l) 15]
  rfl

/-- The result arrays. -/
def G5 : FVec Ideal S8192x1024 .f32 := fun i => (rws m c).dx (i 0).val (i 1)
def G6 : FVec Ideal S3x8x1024 .f32 := fun i => (rws m c).total (i 0).val (i 2)

theorem flushed_5 (t : Fin cfg0.N) : (dats m 0 c).flushed 5 t = ((cfg0.win 5).blk t).view.read (Elt Ideal) (G5 m c) := by
  rw [Value.flushed5]
  obtain ⟨e0, e1⟩ := idx5 t
  have key : ∀ y : S512x1024.Idx, (outsAt0 m c t.val t.isLt).1 y = G5 m c (((cfg0.win 5).blk t).view.emb y) := fun y => by
    obtain ⟨p, q, rfl⟩ : ∃ (p : Fin 512) (q : Fin 1024), y = ix2 p q := ⟨y 0, y 1, eq_ix2 y⟩
    rw [outs_5]
    unfold G5
    congr 1
    · show 512 * t.val + p.val = win0_5.index t 0 * 512 + 1 * p.val; omega
    · refine Fin.ext ?_
      show q.val = win0_5.index t 1 * 1024 + 1 * q.val; omega
  funext y
  rw [View.read_apply]
  exact key y

theorem flushed_6 (t : Fin cfg0.N) (hf : (cfg0.win 6).flush t = true) :
    (dats m 0 c).flushed 6 t = ((cfg0.win 6).blk t).view.read (Elt Ideal) (G6 m c) := by
  rw [Value.flushed6]
  obtain ⟨e0, e1, e2⟩ := idx6 t
  have key : ∀ y : S3x8x1024.Idx, (outsAt0 m c t.val t.isLt).2 y = G6 m c (((cfg0.win 6).blk t).view.emb y) := fun y => by
    obtain ⟨k, p, q, rfl⟩ : ∃ (k : Fin 3) (p : Fin 8) (q : Fin 1024), y = ix3 k p q := ⟨y 0, y 1, y 2, eq_ix3 y⟩
    rw [outs_6_last m c t ((flush6 t).mp hf)]
    unfold G6
    congr 1
    · show k.val = win0_6.index t 0 * 3 + 1 * k.val; omega
    · refine Fin.ext ?_
      show q.val = win0_6.index t 2 * 1024 + 1 * q.val; omega
  funext y
  rw [View.read_apply]
  exact key y

theorem arr_5 : (dats m 0 c).arrAt 5 cfg0.N = G5 m c :=
  (dats m 0 c).arrAt_eq_of_cover 5 (G5 m c) (fun t _ => flushed_5 m c t) fun (i : S8192x1024.Idx) => by
    have h0 : (i 0).val < 8192 := (i 0).isLt
    have h1 : (i 1).val < 1024 := (i 1).isLt
    obtain ⟨t, ht⟩ : ∃ t : Fin cfg0.N, t.val = (i 0).val / 512 := ⟨⟨_, by show _ < 16; omega⟩, rfl⟩
    refine ⟨t, ?_, ?_⟩
    · exact (by decide +kernel : ∀ t : Fin grid0.N, (cfg0.win 5).flush t = true) _
    · show i ∈ ((View.whole main_v0_0).slice (win0_5.rect t)).set
      rw [View.set_slice_whole, Rect.mem_set_unit]
      obtain ⟨e0, e1⟩ := idx5 t
      intro a
      match a with
      | ⟨0, _⟩ => show win0_5.index t 0 * 512 ≤ (i 0).val ∧ (i 0).val < win0_5.index t 0 * 512 + 512; omega
      | ⟨1, _⟩ => show win0_5.index t 1 * 1024 ≤ (i 1).val ∧ (i 1).val < win0_5.index t 1 * 1024 + 1024; omega

theorem arr_6 : (dats m 0 c).arrAt 6 cfg0.N = G6 m c :=
  (dats m 0 c).arrAt_eq_of_cover 6 (G6 m c) (fun t => flushed_6 m c t) fun (i : S3x8x1024.Idx) => by
    have h0 : (i 0).val < 3 := (i 0).isLt
    have h1 : (i 1).val < 8 := (i 1).isLt
    have h2 : (i 2).val < 1024 := (i 2).isLt
    obtain ⟨t, ht⟩ : ∃ t : Fin cfg0.N, t.val = 15 := ⟨⟨15, by show _ < 16; omega⟩, rfl⟩
    refine ⟨t, ?_, ?_⟩
    · rw [flush6]; exact ht
    · show i ∈ ((View.whole main_v0_1).slice (win0_6.rect t)).set
      rw [View.set_slice_whole, Rect.mem_set_unit]
      obtain ⟨e0, e1, e2⟩ := idx6 t
      intro a
      match a with
      | ⟨0, _⟩ => show win0_6.index t 0 * 3 ≤ (i 0).val ∧ (i 0).val < win0_6.index t 0 * 3 + 3; omega
      | ⟨1, _⟩ => show win0_6.index t 1 * 8 ≤ (i 1).val ∧ (i 1).val < win0_6.index t 1 * 8 + 8; omega
      | ⟨2, _⟩ => show win0_6.index t 2 * 1024 ≤ (i 2).val ∧ (i 2).val < win0_6.index t 2 * 1024 + 1024; omega

end Cert.NormAIdeal.Grad

end
-- ==== Proof.NormARefVal.lean ====
/- The reference of the norm's backward pass computes the specification. -/
module

public import proofs.«01_k».proof.Proof.Gen.NormARefIdeal.Read
public import proofs.«01_k».proof.Proof.NormSpec

@[expose] public section

set_option maxRecDepth 16384
noncomputable section

namespace Cert.NormARefIdeal.Grad

open Cert.NormARefIdeal Cert.NormARefIdeal.Gen Cert.NormARefIdeal.Read Cert.NormSpec Idealize.ShloMosaic Idealize.ShloMosaic.TcCoe Idealize.SL.Sem

variable (A0 : FVec Ideal S8192x1024 .f32) (A1 : FVec Ideal S8192x1024 .f32) (A2 : FVec Ideal S8192x1024 .f32) (A3 : FVec Ideal S1x1024 .f32) (A4 : FVec Ideal S1x1024 .f32)

/-- The mean square, its inverse root and the gradient before the scaling. -/
theorem ms_at (r : Fin 8192) (l : Fin 1) : val_main_v7 (F := Ideal) A0 (ix2 r l) = ms (row A0 r.val) := by
  pointwise [val_main_v7, val_main_v6, val_main_cst_2, val_main_v5, val_main_v4, val_main_cst_1, val_main_v3, val_main_v2, val_main_cst_0, val_main_v1, row_at A0]
  unfold ms
  simp
theorem rs_at (r : Fin 8192) (l : Fin 1) : val_main_v8 (F := Ideal) A0 (ix2 r l) = rs (row A0 r.val) := by
  pointwise [val_main_v8, ms_at]
  rfl
theorem dn_at (r : Fin 8192) (q : Fin 1024) : val_main_v25 (F := Ideal) A1 A3 A4 (ix2 r q) = dnRef (row A1 r.val) (vec A3) (vec A4) q := by
  pointwise [val_main_v25, val_main_v24, val_main_v23, val_main_v22, val_main_v17, val_main_v16, val_main_cst_4, row_at A1, vec_at A3, vec_at A4]
  rfl

/-- What the mean square's gradient is worth. -/
theorem w_at (r : Fin 8192) : val_main_v34 (F := Ideal) A0 A1 A3 A4 (ix1 r) = wRef (row A0 r.val) (row A1 r.val) (vec A3) (vec A4) := by
  pointwise [val_main_v34, val_main_cst_7, val_main_v33, val_main_v32, val_main_cst_6, val_main_v31, val_main_v28, val_main_v27, val_main_cst_5, val_main_v26, val_main_v11, val_main_v10, val_main_cst_3, val_main_v9, rs_at, ms_at, dn_at, row_at A0]
  unfold wRef
  simp

/-- The rows' gradients. -/
theorem dx_at (f0 : ∀ i, A0 i ≠ ⊤ ∧ A0 i ≠ ⊥) (f1 : ∀ i, A1 i ≠ ⊤ ∧ A1 i ≠ ⊥) (f3 : ∀ i, A3 i ≠ ⊤ ∧ A3 i ≠ ⊥) (f4 : ∀ i, A4 i ≠ ⊤ ∧ A4 i ≠ ⊥) (r : Fin 8192) (q : Fin 1024) :
    val_main_v65 (F := Ideal) A0 A1 A2 A3 A4 (ix2 r q) = (rowsA A0 A1 A2 A3 A4).dx r.val q := by
  refine Eq.trans ?_ (gx_ref (row A0 r.val) (row A1 r.val) (row A2 r.val) (vec A3) (vec A4) (row_fin A0 f0 _) (row_fin A1 f1 _) (vec_fin A3 f3) (vec_fin A4 f4) q)
  pointwise [val_main_v65, val_main_v39, val_main_v38, val_main_v37, val_main_v36, val_main_v35, val_main_v30, val_main_v29, rs_at, dn_at, w_at, row_at A0, row_at A2]
  rfl

/-- The scaled rows, at unit gain. -/
theorem nx_at (r : Fin 8192) (q : Fin 1024) : val_main_v52 (F := Ideal) A0 (ix2 r q) = nx (row A0 r.val) q := by
  pointwise [val_main_v52, val_main_v51, val_main_v40, val_main_cst_8, val_main_v50, val_main_v49, val_main_v48, val_main_v47, val_main_v46, val_main_cst_11, val_main_v45, val_main_v44, val_main_cst_10, val_main_v43, val_main_v42, val_main_cst_9, val_main_v41, row_at A0]
  unfold nx rs ms
  simp

/-- The sums over the rows. -/
theorem total_at (f0 : ∀ i, A0 i ≠ ⊤ ∧ A0 i ≠ ⊥) (f1 : ∀ i, A1 i ≠ ⊤ ∧ A1 i ≠ ⊥) (f3 : ∀ i, A3 i ≠ ⊤ ∧ A3 i ≠ ⊥) (f4 : ∀ i, A4 i ≠ ⊤ ∧ A4 i ≠ ⊥) (k : Fin 3) (s : Fin 8) (l : Fin 1024) :
    val_main_v71 (F := Ideal) A0 A1 (ix3 k s l) = (rowsA A0 A1 A2 A3 A4).total k.val l := by
  obtain rfl | rfl | rfl : k = 0 ∨ k = 1 ∨ k = 2 := by
    rcases k with ⟨k, hk⟩; interval_cases k <;> simp
  · pointwise [val_main_v71, val_main_v70, val_main_v67, val_main_v64, val_main_v63, val_main_cst_14, val_main_v62, val_main_v59, nx_at, row_at A1]
    refine Eq.trans ?_ (Finset.sum_congr rfl fun r _ => mul_comm _ _)
    rfl
  · pointwise [val_main_v71, val_main_v70, val_main_v68, val_main_v61, val_main_v60, val_main_cst_13, row_at A1]
    rfl
  · pointwise [val_main_v71, val_main_v70, val_main_v69, val_main_v66, val_main_cst_15]
    unfold Rows.total Rows.tm term rowsA
    simp

end Cert.NormARefIdeal.Grad

end
-- ==== Proof.NormAClaim.lean ====
/- The norm's backward kernel and its reference leave equal results on real numbers. -/
module

public import proofs.«01_k».proof.Defs
public import proofs.«01_k».proof.Proof.NormAKernel
public import proofs.«01_k».proof.Proof.NormARefVal

@[expose] public section

set_option maxRecDepth 16384
noncomputable section

namespace Cert.NormAClaim

open Idealize.ShloMosaic Idealize.SL.Sem Cert.NormSpec

/-- The side conditions of the precondition's text. -/
theorem pre_facts : Cert.Pre_norm1_finite.Facts where
  bcast_S_S8192x1024 := by decide
  bcast_S_S1x1024 := by decide

attribute [local instance] Cert.NormAIdeal.Gen.facts Cert.NormARefIdeal.Gen.facts pre_facts

/-- An extended real whose size is below the greatest is a real number. -/
theorem real_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor
  · rintro rfl
    simp at h
  · rintro rfl
    simp at h

/-- The reference's results, at the specification. -/
theorem ref_dx (B0 : FVec Ideal Cert.NormARefIdeal.S8192x1024 .f32) (B1 : FVec Ideal Cert.NormARefIdeal.S8192x1024 .f32) (B2 : FVec Ideal Cert.NormARefIdeal.S8192x1024 .f32) (B3 : FVec Ideal Cert.NormARefIdeal.S1x1024 .f32) (B4 : FVec Ideal Cert.NormARefIdeal.S1x1024 .f32) (f0 : ∀ i, B0 i ≠ ⊤ ∧ B0 i ≠ ⊥) (f1 : ∀ i, B1 i ≠ ⊤ ∧ B1 i ≠ ⊥) (f3 : ∀ i, B3 i ≠ ⊤ ∧ B3 i ≠ ⊥) (f4 : ∀ i, B4 i ≠ ⊤ ∧ B4 i ≠ ⊥) :
    Cert.NormARefIdeal.Read.val_main_v65 (F := Ideal) B0 B1 B2 B3 B4 = fun i => (rowsA B0 B1 B2 B3 B4).dx (i 0).val (i 1) := by
  funext i
  obtain ⟨r, l, rfl⟩ : ∃ (r : Fin 8192) (l : Fin 1024), i = ix2 r l := ⟨i 0, i 1, eq_ix2 i⟩
  exact Cert.NormARefIdeal.Grad.dx_at B0 B1 B2 B3 B4 f0 f1 f3 f4 r l
theorem ref_total (B0 : FVec Ideal Cert.NormARefIdeal.S8192x1024 .f32) (B1 : FVec Ideal Cert.NormARefIdeal.S8192x1024 .f32) (B2 : FVec Ideal Cert.NormARefIdeal.S8192x1024 .f32) (B3 : FVec Ideal Cert.NormARefIdeal.S1x1024 .f32) (B4 : FVec Ideal Cert.NormARefIdeal.S1x1024 .f32) (f0 : ∀ i, B0 i ≠ ⊤ ∧ B0 i ≠ ⊥) (f1 : ∀ i, B1 i ≠ ⊤ ∧ B1 i ≠ ⊥) (f3 : ∀ i, B3 i ≠ ⊤ ∧ B3 i ≠ ⊥) (f4 : ∀ i, B4 i ≠ ⊤ ∧ B4 i ≠ ⊥) :
    Cert.NormARefIdeal.Read.val_main_v71 (F := Ideal) B0 B1 = fun i => (rowsA B0 B1 B2 B3 B4).total (i 0).val (i 2) := by
  funext i
  obtain ⟨k, s, l, rfl⟩ : ∃ (k : Fin 3) (s : Fin 8) (l : Fin 1024), i = ix3 k s l := ⟨i 0, i 1, i 2, eq_ix3 i⟩
  exact Cert.NormARefIdeal.Grad.total_at B0 B1 B2 B3 B4 f0 f1 f3 f4 k s l

/-- The reference runs from every memory, leaves its arguments and every counter at zero. -/
theorem ref_frame : Cert.quiescent_NormARefIdeal := fun m ρ _ =>
  (θ_run _ _ _).mono (fun r h => ⟨fun c => (h c).2.2, Idealize.ShloMosaic.sem_eq_zero_of_no_sems (by decide) r.2⟩)
    (Cert.NormARefIdeal.Value.run (F := Ideal) m ρ)

/-- From memories of real numbers that agree on the arguments both programs leave the same gradients. -/
theorem algebraic : Cert.algebraic_NormAIdeal_NormARefIdeal_pre_norm1_finite := by
  intro m ρ m' ρ' hp hag
  refine ⟨fun c => Cert.NormAIdeal.Grad.G5 m c, fun c => Cert.NormAIdeal.Grad.G6 m c, ?_, ?_⟩
  · exact (θ_run _ _ _).mono (fun _ h c => ⟨(h c).1.trans (Cert.NormAIdeal.Grad.arr_5 m c), (h c).2.1.trans (Cert.NormAIdeal.Grad.arr_6 m c), (h c).2.2⟩)
      (Cert.NormAIdeal.Value.run_blocks (F := Ideal) m ρ)
  · refine (θ_run _ _ _).mono (fun _ h c => ⟨(h c).1.trans ?_, (h c).2.1.trans ?_, (h c).2.2⟩) (Cert.NormARefIdeal.Value.run (F := Ideal) m' ρ')
    · refine (Cert.NormARefIdeal.Read.val_main_v65_eq (F := Ideal) ..).trans ?_
      rw [(hag c).1, (hag c).2.1, (hag c).2.2.1, (hag c).2.2.2.1, (hag c).2.2.2.2]
      exact ref_dx (Cert.NormAIdeal.Grad.A0 m c) (Cert.NormAIdeal.Grad.A1 m c) (Cert.NormAIdeal.Grad.A2 m c) (Cert.NormAIdeal.Grad.A3 m c) (Cert.NormAIdeal.Grad.A4 m c) (fun i => real_of _ (congrFun (hp c).1 i)) (fun i => real_of _ (congrFun (hp c).2.1 i)) (fun i => real_of _ (congrFun (hp c).2.2.1 i)) (fun i => real_of _ (congrFun (hp c).2.2.2 i))
    · refine (Cert.NormARefIdeal.Read.val_main_v71_eq (F := Ideal) ..).trans ?_
      rw [(hag c).1, (hag c).2.1]
      exact ref_total (Cert.NormAIdeal.Grad.A0 m c) (Cert.NormAIdeal.Grad.A1 m c) (Cert.NormAIdeal.Grad.A2 m c) (Cert.NormAIdeal.Grad.A3 m c) (Cert.NormAIdeal.Grad.A4 m c) (fun i => real_of _ (congrFun (hp c).1 i)) (fun i => real_of _ (congrFun (hp c).2.1 i)) (fun i => real_of _ (congrFun (hp c).2.2.1 i)) (fun i => real_of _ (congrFun (hp c).2.2.2 i))

end Cert.NormAClaim

end
-- ==== Proof.FwdSpec.lean ====
/- What the forward pass of a modulated norm computes, row by row, over the reals with infinities. -/
module

public import proofs.«01_k».proof.Proof.NormSpec

@[expose] public section

noncomputable section

namespace Cert.FwdSpec

open Idealize.ShloMosaic Cert.NormSpec

/-- A row with the gated branch added, and a row normalised, scaled and shifted. -/
def xm (x br g : Fin 1024 → EReal) (q : Fin 1024) : EReal := x q + g q * br q
def hy (x g s sh : Fin 1024 → EReal) (q : Fin 1024) : EReal := nx x q * g q * (cOne + s q) + sh q

/-- Row `n` of each result, from the arguments. -/
def xB (A0 A1 : FVec Ideal ⟨2, ![8192, 1024]⟩ .f32) (A2 : FVec Ideal ⟨2, ![1, 1024]⟩ .f32) (n : ℕ) (q : Fin 1024) : EReal :=
  xm (row A0 n) (row A1 n) (vec A2) q
def yB (A0 A1 : FVec Ideal ⟨2, ![8192, 1024]⟩ .f32) (A2 A3 A4 A5 : FVec Ideal ⟨2, ![1, 1024]⟩ .f32) (n : ℕ) (q : Fin 1024) : EReal :=
  hy (xB A0 A1 A2 n) (vec A3) (vec A4) (vec A5) q
def yA (A0 : FVec Ideal ⟨2, ![8192, 1024]⟩ .f32) (A1 A2 A3 : FVec Ideal ⟨2, ![1, 1024]⟩ .f32) (n : ℕ) (q : Fin 1024) : EReal :=
  hy (row A0 n) (vec A1) (vec A2) (vec A3) q

end Cert.FwdSpec

end
-- ==== Proof.FwdBKernel.lean ====
/- The forward norm's kernel, run from any memory, leaves the specified rows in its result arrays. -/
module

public import proofs.«01_k».proof.Proof.Gen.FwdBIdeal.Value
public import proofs.«01_k».proof.Proof.FwdSpec

@[expose] public section

set_option maxRecDepth 16384
noncomputable section

namespace Cert.FwdBIdeal.Fwd

open Cert.FwdBIdeal Cert.FwdBIdeal.Gen Cert.NormSpec Cert.FwdSpec Idealize.ShloMosaic Idealize.ShloMosaic.TcCoe Idealize.SL.Sem
open Idealize.ShloMosaic.Pipeline (Dat)

theorem ld_w (x : Vec Ideal S1024x1024 .f32) (inb) : View.ld x (Rect.unit (s := S1024x1024) ![0, 0] ![1024, 1024] inb) = x :=
  View.ld_unit_zero (by decide) inb x
theorem ld_v (x : Vec Ideal S1x1024 .f32) (inb) : View.ld x (Rect.unit (s := S1x1024) ![0, 0] ![1, 1024] inb) = x :=
  View.ld_unit_zero (by decide) inb x
theorem canon_w {e : EltTy} (P : Vec Ideal S1024x1024 e) (L) (inb) :
    View.canon (Val := Elt Ideal) (⟨Rect.unit (s := S1024x1024) ![0, 0] ![1024, 1024] inb, P⟩ :: L) = P :=
  View.canon_cons_unit_zero (by decide) inb P L

variable (m : (ℓ : Loc nD τ sig) → Buf (Elt Ideal) ℓ) (c : Dev nD)

/-- The arguments. -/
abbrev A0 : FVec Ideal S8192x1024 .f32 := m ((c : Thread nD τ).loc main_arg0)
abbrev A1 : FVec Ideal S8192x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S1x1024 .f32 := m ((c : Thread nD τ).loc main_arg5)

/-- The blocks each point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = 0 ∧ win0_8.index t 1 = t.val :=
  (by decide +kernel : ∀ t : Fin grid0.N, _)
theorem lt8 (t : Fin cfg0.N) : t.val < 8 := t.isLt

/-- The input blocks of point `t`. -/
theorem blk0 (t : Fin cfg0.N) (p q : Fin 1024) : iblk m c 0 t (ix2 p q) = row (A0 m c) (1024 * t.val + p.val) q := by
  obtain ⟨e0, e1⟩ := idx0 t
  have ht := lt8 t
  have hp := p.isLt
  unfold row
  rw [dif_pos (by omega)]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * t.val + p.val; omega
  | ⟨1, _⟩ => show win0_0.index t 1 * 1024 + 1 * q.val = q.val; omega
theorem blk1 (t : Fin cfg0.N) (p q : Fin 1024) : iblk m c 1 t (ix2 p q) = row (A1 m c) (1024 * t.val + p.val) q := by
  obtain ⟨e0, e1⟩ := idx1 t
  have ht := lt8 t
  have hp := p.isLt
  unfold row
  rw [dif_pos (by omega)]
  unfold iblk; rw [View.read_apply]
  show V m c main_arg1 _ = m ((c : Thread nD τ).loc main_arg1) _
  unfold V; congr 1; funext a; apply Fin.ext
  match a with
  | ⟨0, _⟩ => show win0_1.index t 0 * 1024 + 1 * p.val = 1024 * t.val + p.val; omega
  | ⟨1, _⟩ => show win0_1.index t 1 * 1024 + 1 * q.val = q.val; omega
theorem blk2 (t : Fin cfg0.N) (q : Fin 1024) : iblk m c 2 t (ix2 0 q) = vec (A2 m c) q := by
  obtain ⟨e0, e1⟩ := idx2 t
  unfold vec
  unfold iblk; rw [View.read_apply]
  show V m c main_arg2 _ = m ((c : Thread nD τ).loc main_arg2) _
  unfold V; congr 1; funext a; apply Fin.ext
  match a with
  | ⟨0, _⟩ => show win0_2.index t 0 * 1 + 1 * 0 = 0; omega
  | ⟨1, _⟩ => show win0_2.index t 1 * 1024 + 1 * q.val = q.val; omega
theorem blk3 (t : Fin cfg0.N) (q : Fin 1024) : iblk m c 3 t (ix2 0 q) = vec (A3 m c) q := by
  obtain ⟨e0, e1⟩ := idx3 t
  unfold vec
  unfold iblk; rw [View.read_apply]
  show V m c main_arg3 _ = m ((c : Thread nD τ).loc main_arg3) _
  unfold V; congr 1; funext a; apply Fin.ext
  match a with
  | ⟨0, _⟩ => show win0_3.index t 0 * 1 + 1 * 0 = 0; omega
  | ⟨1, _⟩ => show win0_3.index t 1 * 1024 + 1 * q.val = q.val; omega
theorem blk4 (t : Fin cfg0.N) (q : Fin 1024) : iblk m c 4 t (ix2 0 q) = vec (A4 m c) q := by
  obtain ⟨e0, e1⟩ := idx4 t
  unfold vec
  unfold iblk; rw [View.read_apply]
  show V m c main_arg4 _ = m ((c : Thread nD τ).loc main_arg4) _
  unfold V; congr 1; funext a; apply Fin.ext
  match a with
  | ⟨0, _⟩ => show win0_4.index t 0 * 1 + 1 * 0 = 0; omega
  | ⟨1, _⟩ => show win0_4.index t 1 * 1024 + 1 * q.val = q.val; omega
theorem blk5 (t : Fin cfg0.N) (q : Fin 1024) : iblk m c 5 t (ix2 0 q) = vec (A5 m c) q := by
  obtain ⟨e0, e1⟩ := idx5 t
  unfold vec
  unfold iblk; rw [View.read_apply]
  show V m c main_arg5 _ = m ((c : Thread nD τ).loc main_arg5) _
  unfold V; congr 1; funext a; apply Fin.ext
  match a with
  | ⟨0, _⟩ => show win0_5.index t 0 * 1 + 1 * 0 = 0; omega
  | ⟨1, _⟩ => show win0_5.index t 1 * 1024 + 1 * q.val = q.val; omega

/-- The rows after the gated addition. -/
theorem x_at (t : Fin cfg0.N) (p q : Fin 1024) : k0_pay1 (iblk m c 0 t) (iblk m c 2 t) (iblk m c 1 t) (ix2 p q) = xB (A0 m c) (A1 m c) (A2 m c) (1024 * t.val + p.val) q := by
  pointwise [k0_pay1, blk0, blk1, blk2]
  rfl

/-- The normalised rows, as they are, rounded and transposed. -/
theorem y_at (t : Fin cfg0.N) (p q : Fin 1024) : k0_pay2 (iblk m c 0 t) (iblk m c 2 t) (iblk m c 1 t) (iblk m c 3 t) (iblk m c 4 t) (iblk m c 5 t) (ix2 p q) = yB (A0 m c) (A1 m c) (A2 m c) (A3 m c) (A4 m c) (A5 m c) (1024 * t.val + p.val) q := by
  pointwise [k0_pay2, x_at, blk3, blk4, blk5]
  rfl
theorem h_at (t : Fin cfg0.N) (p q : Fin 1024) : k0_pay3 (iblk m c 0 t) (iblk m c 2 t) (iblk m c 1 t) (iblk m c 3 t) (iblk m c 4 t) (iblk m c 5 t) (ix2 p q) = yB (A0 m c) (A1 m c) (A2 m c) (A3 m c) (A4 m c) (A5 m c) (1024 * t.val + p.val) q := by
  pointwise [k0_pay3, y_at]
theorem ht_at (t : Fin cfg0.N) (p q : Fin 1024) : k0_pay4 (iblk m c 0 t) (iblk m c 2 t) (iblk m c 1 t) (iblk m c 3 t) (iblk m c 4 t) (iblk m c 5 t) (ix2 q p) = yB (A0 m c) (A1 m c) (A2 m c) (A3 m c) (A4 m c) (A5 m c) (1024 * t.val + p.val) q := by
  pointwise [k0_pay4, y_at]

/-- The result arrays. -/
def G6 : FVec Ideal S8192x1024 .f32 := fun i => xB (A0 m c) (A1 m c) (A2 m c) (i 0).val (i 1)
def G7 : FVec Ideal S8192x1024 .bf16 := fun i => yB (A0 m c) (A1 m c) (A2 m c) (A3 m c) (A4 m c) (A5 m c) (i 0).val (i 1)
def G8 : FVec Ideal S1024x8192 .bf16 := fun i => yB (A0 m c) (A1 m c) (A2 m c) (A3 m c) (A4 m c) (A5 m c) (i 1).val (i 0)

theorem flushed_6 (t : Fin cfg0.N) : (dats m 0 c).flushed 6 t = ((cfg0.win 6).blk t).view.read (Elt Ideal) (G6 m c) := by
  rw [Value.flushed6]
  obtain ⟨e0, e1⟩ := idx6 t
  have key : ∀ y : S1024x1024.Idx, out0_6 (iblk m c 0 t) (iblk m c 1 t) (iblk m c 2 t) (iblk m c 3 t) (iblk m c 4 t) (iblk m c 5 t) y = G6 m c (((cfg0.win 6).blk t).view.emb y) := fun y => by
    obtain ⟨p, q, rfl⟩ : ∃ (a b : Fin 1024), y = ix2 a b := ⟨y 0, y 1, eq_ix2 y⟩
    unfold out0_6
    simp only [r0_0, r0_1, ld_w, ld_v]
    rw [canon_w, x_at]
    unfold G6
    congr 1
    · show 1024 * t.val + p.val = win0_6.index t 0 * 1024 + 1 * p.val; omega
    · refine Fin.ext ?_
      show q.val = win0_6.index t 1 * 1024 + 1 * q.val; omega
  funext y
  rw [View.read_apply]
  exact key y

theorem arr_6 : (dats m 0 c).arrAt 6 cfg0.N = G6 m c :=
  (dats m 0 c).arrAt_eq_of_cover 6 (G6 m c) (fun t _ => flushed_6 m c t) fun (i : S8192x1024.Idx) => by
    have h0 : (i 0).val < 8192 := (i 0).isLt
    have h1 : (i 1).val < 1024 := (i 1).isLt
    obtain ⟨t, ht⟩ : ∃ t : Fin cfg0.N, t.val = (i 0).val / 1024 := ⟨⟨_, by show _ < 8; omega⟩, rfl⟩
    refine ⟨t, ?_, ?_⟩
    · exact (by decide +kernel : ∀ t : Fin grid0.N, (cfg0.win 6).flush t = true) _
    · show i ∈ ((View.whole main_v0_0).slice (win0_6.rect t)).set
      rw [View.set_slice_whole, Rect.mem_set_unit]
      obtain ⟨e0, e1⟩ := idx6 t
      intro a
      match a with
      | ⟨0, _⟩ => show win0_6.index t 0 * 1024 ≤ (i 0).val ∧ (i 0).val < win0_6.index t 0 * 1024 + 1024; omega
      | ⟨1, _⟩ => show win0_6.index t 1 * 1024 ≤ (i 1).val ∧ (i 1).val < win0_6.index t 1 * 1024 + 1024; omega

theorem flushed_7 (t : Fin cfg0.N) : (dats m 0 c).flushed 7 t = ((cfg0.win 7).blk t).view.read (Elt Ideal) (G7 m c) := by
  rw [Value.flushed7]
  obtain ⟨e0, e1⟩ := idx7 t
  have key : ∀ y : S1024x1024.Idx, out0_7 (iblk m c 0 t) (iblk m c 1 t) (iblk m c 2 t) (iblk m c 3 t) (iblk m c 4 t) (iblk m c 5 t) y = G7 m c (((cfg0.win 7).blk t).view.emb y) := fun y => by
    obtain ⟨p, q, rfl⟩ : ∃ (a b : Fin 1024), y = ix2 a b := ⟨y 0, y 1, eq_ix2 y⟩
    unfold out0_7
    simp only [r0_0, r0_1, ld_w, ld_v]
    rw [canon_w, h_at]
    unfold G7
    congr 1
    · show 1024 * t.val + p.val = win0_7.index t 0 * 1024 + 1 * p.val; omega
    · refine Fin.ext ?_
      show q.val = win0_7.index t 1 * 1024 + 1 * q.val; omega
  funext y
  rw [View.read_apply]
  exact key y

theorem arr_7 : (dats m 0 c).arrAt 7 cfg0.N = G7 m c :=
  (dats m 0 c).arrAt_eq_of_cover 7 (G7 m c) (fun t _ => flushed_7 m c t) fun (i : S8192x1024.Idx) => by
    have h0 : (i 0).val < 8192 := (i 0).isLt
    have h1 : (i 1).val < 1024 := (i 1).isLt
    obtain ⟨t, ht⟩ : ∃ t : Fin cfg0.N, t.val = (i 0).val / 1024 := ⟨⟨_, by show _ < 8; omega⟩, rfl⟩
    refine ⟨t, ?_, ?_⟩
    · exact (by decide +kernel : ∀ t : Fin grid0.N, (cfg0.win 7).flush t = true) _
    · show i ∈ ((View.whole main_v0_1).slice (win0_7.rect t)).set
      rw [View.set_slice_whole, Rect.mem_set_unit]
      obtain ⟨e0, e1⟩ := idx7 t
      intro a
      match a with
      | ⟨0, _⟩ => show win0_7.index t 0 * 1024 ≤ (i 0).val ∧ (i 0).val < win0_7.index t 0 * 1024 + 1024; omega
      | ⟨1, _⟩ => show win0_7.index t 1 * 1024 ≤ (i 1).val ∧ (i 1).val < win0_7.index t 1 * 1024 + 1024; omega

theorem flushed_8 (t : Fin cfg0.N) : (dats m 0 c).flushed 8 t = ((cfg0.win 8).blk t).view.read (Elt Ideal) (G8 m c) := by
  rw [Value.flushed8]
  obtain ⟨e0, e1⟩ := idx8 t
  have key : ∀ y : S1024x1024.Idx, out0_8 (iblk m c 0 t) (iblk m c 1 t) (iblk m c 2 t) (iblk m c 3 t) (iblk m c 4 t) (iblk m c 5 t) y = G8 m c (((cfg0.win 8).blk t).view.emb y) := fun y => by
    obtain ⟨q, p, rfl⟩ : ∃ (a b : Fin 1024), y = ix2 a b := ⟨y 0, y 1, eq_ix2 y⟩
    unfold out0_8
    simp only [r0_0, r0_1, ld_w, ld_v]
    rw [canon_w, ht_at]
    unfold G8
    congr 1
    · show 1024 * t.val + p.val = win0_8.index t 1 * 1024 + 1 * p.val; omega
    · refine Fin.ext ?_
      show q.val = win0_8.index t 0 * 1024 + 1 * q.val; omega
  funext y
  rw [View.read_apply]
  exact key y

theorem arr_8 : (dats m 0 c).arrAt 8 cfg0.N = G8 m c :=
  (dats m 0 c).arrAt_eq_of_cover 8 (G8 m c) (fun t _ => flushed_8 m c t) fun (i : S1024x8192.Idx) => by
    have h0 : (i 0).val < 1024 := (i 0).isLt
    have h1 : (i 1).val < 8192 := (i 1).isLt
    obtain ⟨t, ht⟩ : ∃ t : Fin cfg0.N, t.val = (i 1).val / 1024 := ⟨⟨_, by show _ < 8; omega⟩, rfl⟩
    refine ⟨t, ?_, ?_⟩
    · exact (by decide +kernel : ∀ t : Fin grid0.N, (cfg0.win 8).flush t = true) _
    · show i ∈ ((View.whole main_v0_2).slice (win0_8.rect t)).set
      rw [View.set_slice_whole, Rect.mem_set_unit]
      obtain ⟨e0, e1⟩ := idx8 t
      intro a
      match a with
      | ⟨0, _⟩ => show win0_8.index t 0 * 1024 ≤ (i 0).val ∧ (i 0).val < win0_8.index t 0 * 1024 + 1024; omega
      | ⟨1, _⟩ => show win0_8.index t 1 * 1024 ≤ (i 1).val ∧ (i 1).val < win0_8.index t 1 * 1024 + 1024; omega

end Cert.FwdBIdeal.Fwd

end
-- ==== Proof.FwdBClaim.lean ====
/- The forward norm's kernel and its reference leave equal results. -/
module

public import proofs.«01_k».proof.Defs
public import proofs.«01_k».proof.Proof.FwdBKernel
public import proofs.«01_k».proof.Proof.Gen.FwdBRefIdeal.Read

@[expose] public section

set_option maxRecDepth 16384
noncomputable section

namespace Cert.FwdBRefIdeal.Fwd

open Cert.FwdBRefIdeal Cert.FwdBRefIdeal.Gen Cert.FwdBRefIdeal.Read Cert.NormSpec Cert.FwdSpec Idealize.ShloMosaic Idealize.ShloMosaic.TcCoe Idealize.SL.Sem

variable (A0 : FVec Ideal S8192x1024 .f32) (A1 : FVec Ideal S8192x1024 .f32) (A2 : FVec Ideal S1x1024 .f32) (A3 : FVec Ideal S1x1024 .f32) (A4 : FVec Ideal S1x1024 .f32) (A5 : FVec Ideal S1x1024 .f32)

/-- The reference's results, at the specification. -/
theorem x_at (r : Fin 8192) (q : Fin 1024) : val_main_v2 (F := Ideal) A0 A1 A2 (ix2 r q) = xB A0 A1 A2 r.val q := by
  pointwise [val_main_v2, val_main_v1, val_main_v0, row_at A0, row_at A1, vec_at A2]
  rfl
theorem y_at (r : Fin 8192) (q : Fin 1024) : val_main_v20 (F := Ideal) A0 A1 A2 A3 A4 A5 (ix2 r q) = yB A0 A1 A2 A3 A4 A5 r.val q := by
  pointwise [x_at A0 A1 A2, vec_at A3, vec_at A4, vec_at A5, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  unfold yB hy nx rs ms
  simp
theorem h_at (r : Fin 8192) (q : Fin 1024) : val_main_v21 (F := Ideal) A0 A1 A2 A3 A4 A5 (ix2 r q) = yB A0 A1 A2 A3 A4 A5 r.val q := by
  pointwise [val_main_v21, y_at]
theorem ht_at (r : Fin 8192) (q : Fin 1024) : val_main_v23 (F := Ideal) A0 A1 A2 A3 A4 A5 (ix2 q r) = yB A0 A1 A2 A3 A4 A5 r.val q := by
  pointwise [val_main_v23, val_main_v22, y_at]

theorem ref_x : val_main_v2 (F := Ideal) A0 A1 A2 = fun i => xB A0 A1 A2 (i 0).val (i 1) := by
  funext i
  obtain ⟨r, l, rfl⟩ : ∃ (r : Fin 8192) (l : Fin 1024), i = ix2 r l := ⟨i 0, i 1, eq_ix2 i⟩
  exact x_at A0 A1 A2 r l
theorem ref_h : val_main_v21 (F := Ideal) A0 A1 A2 A3 A4 A5 = fun i => yB A0 A1 A2 A3 A4 A5 (i 0).val (i 1) := by
  funext i
  obtain ⟨r, l, rfl⟩ : ∃ (r : Fin 8192) (l : Fin 1024), i = ix2 r l := ⟨i 0, i 1, eq_ix2 i⟩
  exact h_at A0 A1 A2 A3 A4 A5 r l
theorem ref_ht : val_main_v23 (F := Ideal) A0 A1 A2 A3 A4 A5 = fun i => yB A0 A1 A2 A3 A4 A5 (i 1).val (i 0) := by
  funext i
  obtain ⟨l, r, rfl⟩ : ∃ (l : Fin 1024) (r : Fin 8192), i = ix2 l r := ⟨i 0, i 1, eq_ix2 i⟩
  exact ht_at A0 A1 A2 A3 A4 A5 r l

end Cert.FwdBRefIdeal.Fwd

namespace Cert.FwdBClaim

open Idealize.ShloMosaic Idealize.SL.Sem

attribute [local instance] Cert.FwdBIdeal.Gen.facts Cert.FwdBRefIdeal.Gen.facts

/-- The reference runs from every memory, leaves its arguments and every counter at zero. -/
theorem ref_frame : Cert.quiescent_FwdBRefIdeal := fun m ρ _ =>
  (θ_run _ _ _).mono (fun r h => ⟨fun c => (h c).2.2.2, Idealize.ShloMosaic.sem_eq_zero_of_no_sems (by decide) r.2⟩)
    (Cert.FwdBRefIdeal.Value.run (F := Ideal) m ρ)

/-- From memories that agree on the arguments both programs leave the same results. -/
theorem algebraic : Cert.algebraic_FwdBIdeal_FwdBRefIdeal := by
  intro m ρ m' ρ' _ hag
  refine ⟨fun c => Cert.FwdBIdeal.Fwd.G6 m c, fun c => Cert.FwdBIdeal.Fwd.G7 m c, fun c => Cert.FwdBIdeal.Fwd.G8 m c, ?_, ?_⟩
  · exact (θ_run _ _ _).mono (fun _ h c => ⟨(h c).1.trans (Cert.FwdBIdeal.Fwd.arr_6 m c), (h c).2.1.trans (Cert.FwdBIdeal.Fwd.arr_7 m c), (h c).2.2.1.trans (Cert.FwdBIdeal.Fwd.arr_8 m c), (h c).2.2.2⟩)
      (Cert.FwdBIdeal.Value.run_blocks (F := Ideal) m ρ)
  · refine (θ_run _ _ _).mono (fun _ h c => ⟨(h c).1.trans ?_, (h c).2.1.trans ?_, (h c).2.2.1.trans ?_, (h c).2.2.2⟩) (Cert.FwdBRefIdeal.Value.run (F := Ideal) m' ρ')
    · refine (Cert.FwdBRefIdeal.Read.val_main_v2_eq (F := Ideal) ..).trans ?_
      rw [(hag c).1, (hag c).2.1, (hag c).2.2.1]
      exact Cert.FwdBRefIdeal.Fwd.ref_x (Cert.FwdBIdeal.Fwd.A0 m c) (Cert.FwdBIdeal.Fwd.A1 m c) (Cert.FwdBIdeal.Fwd.A2 m c)
    · refine (Cert.FwdBRefIdeal.Read.val_main_v21_eq (F := Ideal) ..).trans ?_
      rw [(hag c).1, (hag c).2.1, (hag c).2.2.1, (hag c).2.2.2.1, (hag c).2.2.2.2.1, (hag c).2.2.2.2.2]
      exact Cert.FwdBRefIdeal.Fwd.ref_h (Cert.FwdBIdeal.Fwd.A0 m c) (Cert.FwdBIdeal.Fwd.A1 m c) (Cert.FwdBIdeal.Fwd.A2 m c) (Cert.FwdBIdeal.Fwd.A3 m c) (Cert.FwdBIdeal.Fwd.A4 m c) (Cert.FwdBIdeal.Fwd.A5 m c)
    · refine (Cert.FwdBRefIdeal.Read.val_main_v23_eq (F := Ideal) ..).trans ?_
      rw [(hag c).1, (hag c).2.1, (hag c).2.2.1, (hag c).2.2.2.1, (hag c).2.2.2.2.1, (hag c).2.2.2.2.2]
      exact Cert.FwdBRefIdeal.Fwd.ref_ht (Cert.FwdBIdeal.Fwd.A0 m c) (Cert.FwdBIdeal.Fwd.A1 m c) (Cert.FwdBIdeal.Fwd.A2 m c) (Cert.FwdBIdeal.Fwd.A3 m c) (Cert.FwdBIdeal.Fwd.A4 m c) (Cert.FwdBIdeal.Fwd.A5 m c)

end Cert.FwdBClaim

end
-- ==== Proof.FwdAKernel.lean ====
/- The forward norm's kernel, run from any memory, leaves the specified rows in its result arrays. -/
module

public import proofs.«01_k».proof.Proof.Gen.FwdAIdeal.Value
public import proofs.«01_k».proof.Proof.FwdSpec

@[expose] public section

set_option maxRecDepth 16384
noncomputable section

namespace Cert.FwdAIdeal.Fwd

open Cert.FwdAIdeal Cert.FwdAIdeal.Gen Cert.NormSpec Cert.FwdSpec Idealize.ShloMosaic Idealize.ShloMosaic.TcCoe Idealize.SL.Sem
open Idealize.ShloMosaic.Pipeline (Dat)

theorem ld_w (x : Vec Ideal S1024x1024 .f32) (inb) : View.ld x (Rect.unit (s := S1024x1024) ![0, 0] ![1024, 1024] inb) = x :=
  View.ld_unit_zero (by decide) inb x
theorem ld_v (x : Vec Ideal S1x1024 .f32) (inb) : View.ld x (Rect.unit (s := S1x1024) ![0, 0] ![1, 1024] inb) = x :=
  View.ld_unit_zero (by decide) inb x
theorem canon_w {e : EltTy} (P : Vec Ideal S1024x1024 e) (L) (inb) :
    View.canon (Val := Elt Ideal) (⟨Rect.unit (s := S1024x1024) ![0, 0] ![1024, 1024] inb, P⟩ :: L) = P :=
  View.canon_cons_unit_zero (by decide) inb P L

variable (m : (ℓ : Loc nD τ sig) → Buf (Elt Ideal) ℓ) (c : Dev nD)

/-- The arguments. -/
abbrev A0 : FVec Ideal S8192x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024 .f32 := m ((c : Thread nD τ).loc main_arg3)

/-- The blocks each point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = 0 ∧ win0_5.index t 1 = t.val :=
  (by decide +kernel : ∀ t : Fin grid0.N, _)
theorem lt8 (t : Fin cfg0.N) : t.val < 8 := t.isLt

/-- The input blocks of point `t`. -/
theorem blk0 (t : Fin cfg0.N) (p q : Fin 1024) : iblk m c 0 t (ix2 p q) = row (A0 m c) (1024 * t.val + p.val) q := by
  obtain ⟨e0, e1⟩ := idx0 t
  have ht := lt8 t
  have hp := p.isLt
  unfold row
  rw [dif_pos (by omega)]
  unfold iblk; rw [View.read_apply]
  show V m c main_arg0 _ = m ((c : Thread nD τ).loc main_arg0) _
  unfold V; congr 1; funext a; apply Fin.ext
  match a with
  | ⟨0, _⟩ => show win0_0.index t 0 * 1024 + 1 * p.val = 1024 * t.val + p.val; omega
  | ⟨1, _⟩ => show win0_0.index t 1 * 1024 + 1 * q.val = q.val; omega
theorem blk1 (t : Fin cfg0.N) (q : Fin 1024) : iblk m c 1 t (ix2 0 q) = vec (A1 m c) q := by
  obtain ⟨e0, e1⟩ := idx1 t
  unfold vec
  unfold iblk; rw [View.read_apply]
  show V m c main_arg1 _ = m ((c : Thread nD τ).loc main_arg1) _
  unfold V; congr 1; funext a; apply Fin.ext
  match a with
  | ⟨0, _⟩ => show win0_1.index t 0 * 1 + 1 * 0 = 0; omega
  | ⟨1, _⟩ => show win0_1.index t 1 * 1024 + 1 * q.val = q.val; omega
theorem blk2 (t : Fin cfg0.N) (q : Fin 1024) : iblk m c 2 t (ix2 0 q) = vec (A2 m c) q := by
  obtain ⟨e0, e1⟩ := idx2 t
  unfold vec
  unfold iblk; rw [View.read_apply]
  show V m c main_arg2 _ = m ((c : Thread nD τ).loc main_arg2) _
  unfold V; congr 1; funext a; apply Fin.ext
  match a with
  | ⟨0, _⟩ => show win0_2.index t 0 * 1 + 1 * 0 = 0; omega
  | ⟨1, _⟩ => show win0_2.index t 1 * 1024 + 1 * q.val = q.val; omega
theorem blk3 (t : Fin cfg0.N) (q : Fin 1024) : iblk m c 3 t (ix2 0 q) = vec (A3 m c) q := by
  obtain ⟨e0, e1⟩ := idx3 t
  unfold vec
  unfold iblk; rw [View.read_apply]
  show V m c main_arg3 _ = m ((c : Thread nD τ).loc main_arg3) _
  unfold V; congr 1; funext a; apply Fin.ext
  match a with
  | ⟨0, _⟩ => show win0_3.index t 0 * 1 + 1 * 0 = 0; omega
  | ⟨1, _⟩ => show win0_3.index t 1 * 1024 + 1 * q.val = q.val; omega

/-- The normalised rows, as they are, rounded and transposed. -/
theorem y_at (t : Fin cfg0.N) (p q : Fin 1024) : k0_pay1 (iblk m c 0 t) (iblk m c 1 t) (iblk m c 2 t) (iblk m c 3 t) (ix2 p q) = yA (A0 m c) (A1 m c) (A2 m c) (A3 m c) (1024 * t.val + p.val) q := by
  pointwise [k0_pay1, blk0, blk1, blk2, blk3]
  rfl
theorem h_at (t : Fin cfg0.N) (p q : Fin 1024) : k0_pay2 (iblk m c 0 t) (iblk m c 1 t) (iblk m c 2 t) (iblk m c 3 t) (ix2 p q) = yA (A0 m c) (A1 m c) (A2 m c) (A3 m c) (1024 * t.val + p.val) q := by
  pointwise [k0_pay2, y_at]
theorem ht_at (t : Fin cfg0.N) (p q : Fin 1024) : k0_pay3 (iblk m c 0 t) (iblk m c 1 t) (iblk m c 2 t) (iblk m c 3 t) (ix2 q p) = yA (A0 m c) (A1 m c) (A2 m c) (A3 m c) (1024 * t.val + p.val) q := by
  pointwise [k0_pay3, y_at]

/-- The result arrays. -/
def G4 : FVec Ideal S8192x1024 .bf16 := fun i => yA (A0 m c) (A1 m c) (A2 m c) (A3 m c) (i 0).val (i 1)
def G5 : FVec Ideal S1024x8192 .bf16 := fun i => yA (A0 m c) (A1 m c) (A2 m c) (A3 m c) (i 1).val (i 0)

theorem flushed_4 (t : Fin cfg0.N) : (dats m 0 c).flushed 4 t = ((cfg0.win 4).blk t).view.read (Elt Ideal) (G4 m c) := by
  rw [Value.flushed4]
  obtain ⟨e0, e1⟩ := idx4 t
  have key : ∀ y : S1024x1024.Idx, out0_4 (iblk m c 0 t) (iblk m c 1 t) (iblk m c 2 t) (iblk m c 3 t) y = G4 m c (((cfg0.win 4).blk t).view.emb y) := fun y => by
    obtain ⟨p, q, rfl⟩ : ∃ (a b : Fin 1024), y = ix2 a b := ⟨y 0, y 1, eq_ix2 y⟩
    unfold out0_4
    simp only [r0_0, r0_1, ld_w, ld_v]
    rw [canon_w, h_at]
    unfold G4
    congr 1
    · show 1024 * t.val + p.val = win0_4.index t 0 * 1024 + 1 * p.val; omega
    · refine Fin.ext ?_
      show q.val = win0_4.index t 1 * 1024 + 1 * q.val; omega
  funext y
  rw [View.read_apply]
  exact key y

theorem arr_4 : (dats m 0 c).arrAt 4 cfg0.N = G4 m c :=
  (dats m 0 c).arrAt_eq_of_cover 4 (G4 m c) (fun t _ => flushed_4 m c t) fun (i : S8192x1024.Idx) => by
    have h0 : (i 0).val < 8192 := (i 0).isLt
    have h1 : (i 1).val < 1024 := (i 1).isLt
    obtain ⟨t, ht⟩ : ∃ t : Fin cfg0.N, t.val = (i 0).val / 1024 := ⟨⟨_, by show _ < 8; omega⟩, rfl⟩
    refine ⟨t, ?_, ?_⟩
    · exact (by decide +kernel : ∀ t : Fin grid0.N, (cfg0.win 4).flush t = true) _
    · show i ∈ ((View.whole main_v0_0).slice (win0_4.rect t)).set
      rw [View.set_slice_whole, Rect.mem_set_unit]
      obtain ⟨e0, e1⟩ := idx4 t
      intro a
      match a with
      | ⟨0, _⟩ => show win0_4.index t 0 * 1024 ≤ (i 0).val ∧ (i 0).val < win0_4.index t 0 * 1024 + 1024; omega
      | ⟨1, _⟩ => show win0_4.index t 1 * 1024 ≤ (i 1).val ∧ (i 1).val < win0_4.index t 1 * 1024 + 1024; omega

theorem flushed_5 (t : Fin cfg0.N) : (dats m 0 c).flushed 5 t = ((cfg0.win 5).blk t).view.read (Elt Ideal) (G5 m c) := by
  rw [Value.flushed5]
  obtain ⟨e0, e1⟩ := idx5 t
  have key : ∀ y : S1024x1024.Idx, out0_5 (iblk m c 0 t) (iblk m c 1 t) (iblk m c 2 t) (iblk m c 3 t) y = G5 m c (((cfg0.win 5).blk t).view.emb y) := fun y => by
    obtain ⟨q, p, rfl⟩ : ∃ (a b : Fin 1024), y = ix2 a b := ⟨y 0, y 1, eq_ix2 y⟩
    unfold out0_5
    simp only [r0_0, r0_1, ld_w, ld_v]
    rw [canon_w, ht_at]
    unfold G5
    congr 1
    · show 1024 * t.val + p.val = win0_5.index t 1 * 1024 + 1 * p.val; omega
    · refine Fin.ext ?_
      show q.val = win0_5.index t 0 * 1024 + 1 * q.val; omega
  funext y
  rw [View.read_apply]
  exact key y

theorem arr_5 : (dats m 0 c).arrAt 5 cfg0.N = G5 m c :=
  (dats m 0 c).arrAt_eq_of_cover 5 (G5 m c) (fun t _ => flushed_5 m c t) fun (i : S1024x8192.Idx) => by
    have h0 : (i 0).val < 1024 := (i 0).isLt
    have h1 : (i 1).val < 8192 := (i 1).isLt
    obtain ⟨t, ht⟩ : ∃ t : Fin cfg0.N, t.val = (i 1).val / 1024 := ⟨⟨_, by show _ < 8; omega⟩, rfl⟩
    refine ⟨t, ?_, ?_⟩
    · exact (by decide +kernel : ∀ t : Fin grid0.N, (cfg0.win 5).flush t = true) _
    · show i ∈ ((View.whole main_v0_1).slice (win0_5.rect t)).set
      rw [View.set_slice_whole, Rect.mem_set_unit]
      obtain ⟨e0, e1⟩ := idx5 t
      intro a
      match a with
      | ⟨0, _⟩ => show win0_5.index t 0 * 1024 ≤ (i 0).val ∧ (i 0).val < win0_5.index t 0 * 1024 + 1024; omega
      | ⟨1, _⟩ => show win0_5.index t 1 * 1024 ≤ (i 1).val ∧ (i 1).val < win0_5.index t 1 * 1024 + 1024; omega

end Cert.FwdAIdeal.Fwd

end
-- ==== Proof.FwdAClaim.lean ====
/- The forward norm's kernel and its reference leave equal results. -/
module

public import proofs.«01_k».proof.Defs
public import proofs.«01_k».proof.Proof.FwdAKernel
public import proofs.«01_k».proof.Proof.Gen.FwdARefIdeal.Read

@[expose] public section

set_option maxRecDepth 16384
noncomputable section

namespace Cert.FwdARefIdeal.Fwd

open Cert.FwdARefIdeal Cert.FwdARefIdeal.Gen Cert.FwdARefIdeal.Read Cert.NormSpec Cert.FwdSpec Idealize.ShloMosaic Idealize.ShloMosaic.TcCoe Idealize.SL.Sem

variable (A0 : FVec Ideal S8192x1024 .f32) (A1 : FVec Ideal S1x1024 .f32) (A2 : FVec Ideal S1x1024 .f32) (A3 : FVec Ideal S1x1024 .f32)

/-- The reference's results, at the specification. -/
theorem y_at (r : Fin 8192) (q : Fin 1024) : val_main_v17 (F := Ideal) A0 A1 A2 A3 (ix2 r q) = yA A0 A1 A2 A3 r.val q := by
  pointwise [row_at A0, vec_at A1, vec_at A2, vec_at A3, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold yA hy nx rs ms
  simp
theorem h_at (r : Fin 8192) (q : Fin 1024) : val_main_v18 (F := Ideal) A0 A1 A2 A3 (ix2 r q) = yA A0 A1 A2 A3 r.val q := by
  pointwise [val_main_v18, y_at]
theorem ht_at (r : Fin 8192) (q : Fin 1024) : val_main_v20 (F := Ideal) A0 A1 A2 A3 (ix2 q r) = yA A0 A1 A2 A3 r.val q := by
  pointwise [val_main_v20, val_main_v19, y_at]

theorem ref_h : val_main_v18 (F := Ideal) A0 A1 A2 A3 = fun i => yA A0 A1 A2 A3 (i 0).val (i 1) := by
  funext i
  obtain ⟨r, l, rfl⟩ : ∃ (r : Fin 8192) (l : Fin 1024), i = ix2 r l := ⟨i 0, i 1, eq_ix2 i⟩
  exact h_at A0 A1 A2 A3 r l
theorem ref_ht : val_main_v20 (F := Ideal) A0 A1 A2 A3 = fun i => yA A0 A1 A2 A3 (i 1).val (i 0) := by
  funext i
  obtain ⟨l, r, rfl⟩ : ∃ (l : Fin 1024) (r : Fin 8192), i = ix2 l r := ⟨i 0, i 1, eq_ix2 i⟩
  exact ht_at A0 A1 A2 A3 r l

end Cert.FwdARefIdeal.Fwd

namespace Cert.FwdAClaim

open Idealize.ShloMosaic Idealize.SL.Sem

attribute [local instance] Cert.FwdAIdeal.Gen.facts Cert.FwdARefIdeal.Gen.facts

/-- The reference runs from every memory, leaves its arguments and every counter at zero. -/
theorem ref_frame : Cert.quiescent_FwdARefIdeal := fun m ρ _ =>
  (θ_run _ _ _).mono (fun r h => ⟨fun c => (h c).2.2, Idealize.ShloMosaic.sem_eq_zero_of_no_sems (by decide) r.2⟩)
    (Cert.FwdARefIdeal.Value.run (F := Ideal) m ρ)

/-- From memories that agree on the arguments both programs leave the same results. -/
theorem algebraic : Cert.algebraic_FwdAIdeal_FwdARefIdeal := by
  intro m ρ m' ρ' _ hag
  refine ⟨fun c => Cert.FwdAIdeal.Fwd.G4 m c, fun c => Cert.FwdAIdeal.Fwd.G5 m c, ?_, ?_⟩
  · exact (θ_run _ _ _).mono (fun _ h c => ⟨(h c).1.trans (Cert.FwdAIdeal.Fwd.arr_4 m c), (h c).2.1.trans (Cert.FwdAIdeal.Fwd.arr_5 m c), (h c).2.2⟩)
      (Cert.FwdAIdeal.Value.run_blocks (F := Ideal) m ρ)
  · refine (θ_run _ _ _).mono (fun _ h c => ⟨(h c).1.trans ?_, (h c).2.1.trans ?_, (h c).2.2⟩) (Cert.FwdARefIdeal.Value.run (F := Ideal) m' ρ')
    · refine (Cert.FwdARefIdeal.Read.val_main_v18_eq (F := Ideal) ..).trans ?_
      rw [(hag c).1, (hag c).2.1, (hag c).2.2.1, (hag c).2.2.2]
      exact Cert.FwdARefIdeal.Fwd.ref_h (Cert.FwdAIdeal.Fwd.A0 m c) (Cert.FwdAIdeal.Fwd.A1 m c) (Cert.FwdAIdeal.Fwd.A2 m c) (Cert.FwdAIdeal.Fwd.A3 m c)
    · refine (Cert.FwdARefIdeal.Read.val_main_v20_eq (F := Ideal) ..).trans ?_
      rw [(hag c).1, (hag c).2.1, (hag c).2.2.1, (hag c).2.2.2]
      exact Cert.FwdARefIdeal.Fwd.ref_ht (Cert.FwdAIdeal.Fwd.A0 m c) (Cert.FwdAIdeal.Fwd.A1 m c) (Cert.FwdAIdeal.Fwd.A2 m c) (Cert.FwdAIdeal.Fwd.A3 m c)

end Cert.FwdAClaim

end
-- ==== Proof.LossSpec.lean ====
/- What the loss head computes, row by row, over the reals with infinities. -/
module

public import proofs.«01_k».proof.Proof.NormSpec

@[expose] public section

noncomputable section

namespace Cert.LossSpec

open Idealize.ShloMosaic Cert.NormSpec

/-- One over the row length, as the kernel writes it, and the factors of the derivative of half a mean square. -/
abbrev cI : EReal := Ideal.ofBits .f32 0x3A800000#32
abbrev cH : EReal := Ideal.ofBits .f32 0x3F000000#32
abbrev cT : EReal := Ideal.ofBits .f32 0x40000000#32

theorem cI_eq : cI = ((1 / 1024 : ℝ) : EReal) := by
  simp [cI, Ideal.ofBits, Ideal.ieee]
  rw [← EReal.coe_mul]; norm_num
theorem cH_eq : cH = ((1 / 2 : ℝ) : EReal) := by
  simp [cH, Ideal.ofBits, Ideal.ieee]
  rw [← EReal.coe_mul]; norm_num
theorem cT_eq : cT = ((2 : ℝ) : EReal) := by
  simp [cT, Ideal.ofBits, Ideal.ieee]
  rw [← EReal.coe_mul]; norm_num

/-- The derivative's factor, taken together. -/
theorem scale_eq (e : EReal) : Ideal.div (cH * 1) cN * (cT * e) = e * cI := by
  rw [cH_eq, cT_eq, cI_eq, cN_eq, mul_one, Ideal.div_coe (by norm_num), ← EReal.coe_mul, ← mul_assoc, ← EReal.coe_mul, mul_comm]
  congr 2
  norm_num

/-- The arguments as rows: the residual stream, the feed-forward block's output, the target; and the gate. -/
structure Rows where
  x : ℕ → Fin 1024 → EReal
  f : ℕ → Fin 1024 → EReal
  t : ℕ → Fin 1024 → EReal
  g : Fin 1024 → EReal

namespace Rows
variable (R : Rows)
/-- The error of row `n`, the loss's gradient in it and in the feed-forward block's output. -/
def er (n : ℕ) (q : Fin 1024) : EReal := R.x n q + R.g q * R.f n q - R.t n q
def dx (n : ℕ) (q : Fin 1024) : EReal := R.er n q * cI
def db (n : ℕ) (q : Fin 1024) : EReal := R.g q * R.dx n q
/-- What row `n` adds to the gate's gradient and to the sum of squared errors. -/
def tm (k n : ℕ) (q : Fin 1024) : EReal := if k = 0 then R.dx n q * R.f n q else R.er n q * R.er n q
/-- What the 512 rows from `b` on add to sum `k` in sublane `s`. -/
def fold (b k : ℕ) (s : Fin 8) (l : Fin 1024) : EReal := ∑ a : Fin 64, R.tm k (b + (a.val * 8 + s.val)) l
/-- The sum over all rows. -/
def total (k : ℕ) (l : Fin 1024) : EReal := ∑ r : Fin 8192, R.tm k r.val l
end Rows

/-- The arguments as rows. -/
def rows (A0 A1 : FVec Ideal ⟨2, ![8192, 1024]⟩ .f32) (A2 : FVec Ideal ⟨2, ![1, 1024]⟩ .f32) (A3 : FVec Ideal ⟨2, ![8192, 1024]⟩ .f32) : Rows :=
  ⟨row A0, row A1, row A3, vec A2⟩

end Cert.LossSpec

end
-- ==== Proof.LossBlocks.lean ====
/- The values the loss head's kernel leaves in its output blocks at one grid point. -/
module

public import proofs.«01_k».proof.Proof.Gen.LossIdeal.Value
public import proofs.«01_k».proof.Proof.LossSpec

@[expose] public section

set_option maxRecDepth 16384
noncomputable section

namespace Cert.LossIdeal.Grad

open Cert.LossIdeal Cert.LossIdeal.Gen Cert.LossSpec Idealize.ShloMosaic Idealize.ShloMosaic.TcCoe Idealize.SL.Sem
open Idealize.ShloMosaic.Pipeline (Dat)

/-- The input blocks of a point whose first row is `b`, as rows. -/
structure Reads (x0 : Vec Ideal S512x1024 .f32) (x1 : Vec Ideal S512x1024 .f32) (x2 : Vec Ideal S1x1024 .f32) (x3 : Vec Ideal S512x1024 .f32) (b : ℕ) (R : Rows) : Prop where
  x : ∀ (p : Fin 512) (q : Fin 1024), x0 (ix2 p q) = R.x (b + p.val) q
  f : ∀ (p : Fin 512) (q : Fin 1024), x1 (ix2 p q) = R.f (b + p.val) q
  g : ∀ q : Fin 1024, x2 (ix2 0 q) = R.g q
  t : ∀ (p : Fin 512) (q : Fin 1024), x3 (ix2 p q) = R.t (b + p.val) q

variable {i : grid0.Coords} {x0 : Vec Ideal S512x1024 .f32} {x1 : Vec Ideal S512x1024 .f32} {x2 : Vec Ideal S1x1024 .f32} {x3 : Vec Ideal S512x1024 .f32} {b : ℕ} {R : Rows}

theorem ld_w (x : Vec Ideal S512x1024 .f32) (inb) : View.ld x (Rect.unit (s := S512x1024) ![0, 0] ![512, 1024] inb) = x :=
  View.ld_unit_zero (by decide) inb x
theorem ld_v (x : Vec Ideal S1x1024 .f32) (inb) : View.ld x (Rect.unit (s := S1x1024) ![0, 0] ![1, 1024] inb) = x :=
  View.ld_unit_zero (by decide) inb x

/-- The errors, their gradient and the feed-forward block's. -/
theorem er_at (h : Reads x0 x1 x2 x3 b R) (p : Fin 512) (q : Fin 1024) : k0_pay4 x1 x0 x2 x3 (ix2 p q) = R.er (b + p.val) q := by
  pointwise [k0_pay4, h.x, h.f, h.g, h.t]
  rfl
theorem dx_at (h : Reads x0 x1 x2 x3 b R) (p : Fin 512) (q : Fin 1024) : k0_pay5 x1 x0 x2 x3 (ix2 p q) = R.dx (b + p.val) q := by
  pointwise [k0_pay5, er_at h]
  rfl
theorem db_at (h : Reads x0 x1 x2 x3 b R) (p : Fin 512) (q : Fin 1024) : k0_pay6 x1 x0 x2 x3 x2 (ix2 p q) = R.db (b + p.val) q := by
  pointwise [k0_pay6, dx_at h, h.g]
  rfl

/-- The two sums, one block of rows added. -/
theorem sum0_at (h : Reads x0 x1 x2 x3 b R) (v : Vec Ideal S1x8x1024 .f32) (s : Fin 8) (l : Fin 1024) :
    k0_pay7 x1 x0 x2 x3 v (ix3 0 s l) = v (ix3 0 s l) + R.fold b 0 s l := by
  pointwise [k0_pay7, dx_at h, h.f]
  rfl
theorem sum1_at (h : Reads x0 x1 x2 x3 b R) (v : Vec Ideal S1x8x1024 .f32) (s : Fin 8) (l : Fin 1024) :
    k0_pay1 (k0_pay4 x1 x0 x2 x3) v (ix3 0 s l) = v (ix3 0 s l) + R.fold b 1 s l := by
  pointwise [k0_pay1, er_at h]
  rfl

/-- The zero block. -/
theorem zero_at (k : Fin 2) (s : Fin 8) (l : Fin 1024) : (k0_pay3 (F := Ideal)) (ix3 k s l) = 0 := by
  pointwise [k0_pay3]

/-- The block with the sublanes of each sum added up. -/
theorem total_at (v : Vec Ideal S2x8x1024 .f32) (k : Fin 2) (s : Fin 8) (l : Fin 1024) :
    k0_pay2 v (ix3 k s l) = ∑ x : Fin 8, v (ix3 k x l) := by
  pointwise [k0_pay2]

/-- Loading sum `k`. -/
theorem idx_slab (k : ℕ) (inb) (k' : Fin 2) (hk : k'.val = k) (s : Fin 8) (l : Fin 1024) :
    (Rect.unit (s := S2x8x1024) ![k, 0, 0] ![1, 8, 1024] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)

theorem mem_slab (k : ℕ) (inb) (k' : Fin 2) (hk : k'.val = k) (s : Fin 8) (l : Fin 1024) :
    ix3 k' s l ∈ (Rect.unit (s := S2x8x1024) ![k, 0, 0] ![1, 8, 1024] inb).set := by
  have hs := s.isLt
  have hl := l.isLt
  rw [Rect.mem_set_unit]
  intro a
  match a with
  | ⟨0, _⟩ => show k ≤ k'.val ∧ k'.val < k + 1; omega
  | ⟨1, _⟩ => show 0 ≤ s.val ∧ s.val < 0 + 8; omega
  | ⟨2, _⟩ => show 0 ≤ l.val ∧ l.val < 0 + 1024; omega
theorem not_mem (k : ℕ) (inb) (k' : Fin 2) (hk : k'.val ≠ k) (s : Fin 8) (l : Fin 1024) :
    ix3 k' s l ∉ (Rect.unit (s := S2x8x1024) ![k, 0, 0] ![1, 8, 1024] inb).set := by
  intro hm
  refine hk ?_
  rw [Rect.mem_set_unit] at hm
  have := hm 0
  change k ≤ k'.val ∧ k'.val < k + 1 at this
  omega

/-- The sums after a store of sum `k`, read there and read elsewhere. -/
theorem canon_hit (k : ℕ) (inb) (P : Vec Ideal S1x8x1024 .f32) (L) (k' : Fin 2) (hk : k'.val = k) (s : Fin 8) (l : Fin 1024) :
    View.canon (Val := Elt Ideal) (⟨Rect.unit (s := S2x8x1024) ![k, 0, 0] ![1, 8, 1024] inb, P⟩ :: L) (ix3 k' s l) = P (ix3 0 s l) := by
  rw [← idx_slab k inb k' hk s l]
  exact View.canon_cons_emb _ _ _ _
theorem canon_miss (k : ℕ) (inb) (P : Vec Ideal S1x8x1024 .f32) (L) (k' : Fin 2) (hk : k'.val ≠ k) (s : Fin 8) (l : Fin 1024) :
    View.canon (Val := Elt Ideal) (⟨Rect.unit (s := S2x8x1024) ![k, 0, 0] ![1, 8, 1024] inb, P⟩ :: L) (ix3 k' s l) = View.canon L (ix3 k' s l) :=
  View.canon_cons_of_not_mem _ _ (not_mem k inb k' hk s l)

/-- One store of a whole block. -/
theorem canon_all (P : Vec Ideal S2x8x1024 .f32) (L) (inb) :
    View.canon (Val := Elt Ideal) (⟨Rect.unit (s := S2x8x1024) ![0, 0, 0] ![2, 8, 1024] inb, P⟩ :: L) = P :=
  View.canon_cons_unit_zero (by decide) inb P L
theorem canon_w {e : EltTy} (P : Vec Ideal S512x1024 e) (L) (inb) :
    View.canon (Val := Elt Ideal) (⟨Rect.unit (s := S512x1024) ![0, 0] ![512, 1024] inb, P⟩ :: L) = P :=
  View.canon_cons_unit_zero (by decide) inb P L

/-- A load of sum `k`. -/
theorem ld_slab (X : Vec Ideal S2x8x1024 .f32) (k : ℕ) (inb) (k' : Fin 2) (hk : k'.val = k) (s : Fin 8) (l : Fin 1024) :
    View.ld X (Rect.unit (s := S2x8x1024) ![k, 0, 0] ![1, 8, 1024] inb) (ix3 0 s l) = X (ix3 k' s l) :=
  congrArg X (idx_slab k inb k' hk s l)

variable (c : Dev nD) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S2x8x1024 .f32) (h7 : a7.IsWhole)

/-- The rows' gradients after a point of case A. -/
theorem out_A_4 (hc0 : cond0_0 i) (hc1 : ¬cond0_1 i) (h : Reads x0 x1 x2 x3 b R) (p : Fin 512) (q : Fin 1024) :
    out0_A_4 (F := Ideal) c i a1 h1 a2 h2 a3 h3 a4 h4 a5 h5 a6 h6 a7 h7 hc0 hc1 x0 x1 x2 x3 (ix2 p q) = R.dx (b + p.val) q := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The branch's gradients after a point of case A. -/
theorem out_A_5 (hc0 : cond0_0 i) (hc1 : ¬cond0_1 i) (h : Reads x0 x1 x2 x3 b R) (p : Fin 512) (q : Fin 1024) :
    out0_A_5 (F := Ideal) c i a1 h1 a2 h2 a3 h3 a4 h4 a5 h5 a6 h6 a7 h7 hc0 hc1 x0 x1 x2 x3 (ix2 p q) = R.db (b + p.val) q := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  simp only [View.readAt_eq_ld, h1.read_unread, h2.read_unread, h3.read_unread, h4.read_unread, h5.read_unread, h6.read_unread, h7.read_unread]
  simp only [ld_w, ld_v]
  rw [canon_w]
  exact db_at h p q

/-- The sums after a point of case A. -/
theorem out_A_6 (hc0 : cond0_0 i) (hc1 : ¬cond0_1 i) (h : Reads x0 x1 x2 x3 b R) (k : Fin 2) (s : Fin 8) (l : Fin 1024) :
    out0_A_6 (F := Ideal) c i a1 h1 a2 h2 a3 h3 a4 h4 a5 h5 a6 h6 a7 h7 hc0 hc1 x0 x1 x2 x3 (ix3 k s l) = R.fold b k.val s l := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  simp only [View.readAt_eq_ld, h1.read_unread, h2.read_unread, h3.read_unread, h4.read_unread, h5.read_unread, h6.read_unread, h7.read_unread]
  simp only [View.readCov_eq_canon', ld_w, ld_v]
  obtain rfl | rfl : k = 0 ∨ k = 1 := by
    rcases k with ⟨k, hk⟩; interval_cases k <;> simp
  · rw [canon_miss 1 _ _ _ _ (by decide), canon_hit 0 _ _ _ _ rfl, sum0_at h, idx_slab 0 _ 0 rfl, canon_all, zero_at, zero_add] <;> rfl
  · rw [canon_hit 1 _ _ _ _ rfl, sum1_at h, idx_slab 1 _ 1 rfl, canon_miss 0 _ _ _ _ (by decide), canon_all, zero_at, zero_add] <;> rfl

/-- The rows' gradients after a point of case B. -/
theorem out_B_4 (hc0 : ¬cond0_0 i) (hc1 : ¬cond0_1 i) (xo : Vec Ideal S2x8x1024 .f32) (h : Reads x0 x1 x2 x3 b R) (p : Fin 512) (q : Fin 1024) :
    out0_B_4 (F := Ideal) c i a1 h1 a2 h2 a3 h3 a4 h4 a5 h5 a6 h6 a7 h7 hc0 hc1 x0 x1 x2 x3 xo (ix2 p q) = R.dx (b + p.val) q := by
  unfold out0_B_4
  rw [View.read_writes_eq_canon _ _ _ (cover0_B_4 c i a1 h1 a2 h2 a3 h3 a4 h4 a5 h5 a6 h6 a7 h7 hc0 hc1 x0 x1 x2 x3 xo)]
  unfold kernelRun0_B
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The branch's gradients after a point of case B. -/
theorem out_B_5 (hc0 : ¬cond0_0 i) (hc1 : ¬cond0_1 i) (xo : Vec Ideal S2x8x1024 .f32) (h : Reads x0 x1 x2 x3 b R) (p : Fin 512) (q : Fin 1024) :
    out0_B_5 (F := Ideal) c i a1 h1 a2 h2 a3 h3 a4 h4 a5 h5 a6 h6 a7 h7 hc0 hc1 x0 x1 x2 x3 xo (ix2 p q) = R.db (b + p.val) q := by
  unfold out0_B_5
  rw [View.read_writes_eq_canon _ _ _ (cover0_B_5 c i a1 h1 a2 h2 a3 h3 a4 h4 a5 h5 a6 h6 a7 h7 hc0 hc1 x0 x1 x2 x3 xo)]
  unfold kernelRun0_B
  dsimp only
  sl_unfold_words
  simp only [View.readAt_eq_ld, h1.read_unread, h2.read_unread, h3.read_unread, h4.read_unread, h5.read_unread, h6.read_unread, h7.read_unread]
  simp only [ld_w, ld_v]
  rw [canon_w]
  exact db_at h p q

/-- The sums after a point of case B. -/
theorem out_B_6 (hc0 : ¬cond0_0 i) (hc1 : ¬cond0_1 i) (xo : Vec Ideal S2x8x1024 .f32) (h : Reads x0 x1 x2 x3 b R) (k : Fin 2) (s : Fin 8) (l : Fin 1024) :
    out0_B_6 (F := Ideal) c i a1 h1 a2 h2 a3 h3 a4 h4 a5 h5 a6 h6 a7 h7 hc0 hc1 x0 x1 x2 x3 xo (ix3 k s l) = xo (ix3 k s l) + R.fold b k.val s l := by
  unfold out0_B_6
  rw [View.read_writes_eq_canon _ _ _ (cover0_B_6 c i a1 h1 a2 h2 a3 h3 a4 h4 a5 h5 a6 h6 a7 h7 hc0 hc1 x0 x1 x2 x3 xo)]
  unfold kernelRun0_B
  dsimp only
  sl_unfold_words
  simp only [View.readAt_eq_ld, h1.read_unread, h2.read_unread, h3.read_unread, h4.read_unread, h5.read_unread, h6.read_unread, h7.read_unread]
  simp only [ld_w, ld_v]
  obtain rfl | rfl : k = 0 ∨ k = 1 := by
    rcases k with ⟨k, hk⟩; interval_cases k <;> simp
  · rw [canon_miss 1 _ _ _ _ (by decide), canon_hit 0 _ _ _ _ rfl, sum0_at h, ld_slab _ 0 _ 0 rfl] <;> rfl
  · rw [canon_hit 1 _ _ _ _ rfl, sum1_at h, ld_slab _ 1 _ 1 rfl] <;> rfl

/-- The rows' gradients after a point of case C. -/
theorem out_C_4 (hc0 : ¬cond0_0 i) (hc1 : cond0_1 i) (xo : Vec Ideal S2x8x1024 .f32) (h : Reads x0 x1 x2 x3 b R) (p : Fin 512) (q : Fin 1024) :
    out0_C_4 (F := Ideal) c i a1 h1 a2 h2 a3 h3 a4 h4 a5 h5 a6 h6 a7 h7 hc0 hc1 x0 x1 x2 x3 xo (ix2 p q) = R.dx (b + p.val) q := by
  unfold out0_C_4
  rw [View.read_writes_eq_canon _ _ _ (cover0_C_4 c i a1 h1 a2 h2 a3 h3 a4 h4 a5 h5 a6 h6 a7 h7 hc0 hc1 x0 x1 x2 x3 xo)]
  unfold kernelRun0_C
  dsimp only
  sl_unfold_words
  simp only [View.readAt_eq_ld, h1.read_unread, h2.read_unread, h3.read_unread, h4.read_unread, h5.read_unread, h6.read_unread, h7.read_unread]
  simp only [ld_w, ld_v]
  rw [canon_w]
  exact dx_at h p q

/-- The branch's gradients after a point of case C. -/
theorem out_C_5 (hc0 : ¬cond0_0 i) (hc1 : cond0_1 i) (xo : Vec Ideal S2x8x1024 .f32) (h : Reads x0 x1 x2 x3 b R) (p : Fin 512) (q : Fin 1024) :
    out0_C_5 (F := Ideal) c i a1 h1 a2 h2 a3 h3 a4 h4 a5 h5 a6 h6 a7 h7 hc0 hc1 x0 x1 x2 x3 xo (ix2 p q) = R.db (b + p.val) q := by
  unfold out0_C_5
  rw [View.read_writes_eq_canon _ _ _ (cover0_C_5 c i a1 h1 a2 h2 a3 h3 a4 h4 a5 h5 a6 h6 a7 h7 hc0 hc1 x0 x1 x2 x3 xo)]
  unfold kernelRun0_C
  dsimp only
  sl_unfold_words
  simp only [View.readAt_eq_ld, h1.read_unread, h2.read_unread, h3.read_unread, h4.read_unread, h5.read_unread, h6.read_unread, h7.read_unread]
  simp only [ld_w, ld_v]
  rw [canon_w]
  exact db_at h p q

/-- The sums after a point of case C. -/
theorem out_C_6 (hc0 : ¬cond0_0 i) (hc1 : cond0_1 i) (xo : Vec Ideal S2x8x1024 .f32) (h : Reads x0 x1 x2 x3 b R) (k : Fin 2) (s : Fin 8) (l : Fin 1024) :
    out0_C_6 (F := Ideal) c i a1 h1 a2 h2 a3 h3 a4 h4 a5 h5 a6 h6 a7 h7 hc0 hc1 x0 x1 x2 x3 xo (ix3 k s l) = ∑ x : Fin 8, (xo (ix3 k x l) + R.fold b k.val x l) := by
  unfold out0_C_6
  rw [View.read_writes_eq_canon _ _ _ (cover0_C_6 c i a1 h1 a2 h2 a3 h3 a4 h4 a5 h5 a6 h6 a7 h7 hc0 hc1 x0 x1 x2 x3 xo)]
  unfold kernelRun0_C
  dsimp only
  sl_unfold_words
  simp only [View.readAt_eq_ld, h1.read_unread, h2.read_unread, h3.read_unread, h4.read_unread, h5.read_unread, h6.read_unread, h7.read_unread]
  simp only [View.readCov_eq_canon', ld_w, ld_v]
  rw [canon_all, total_at]
  refine Finset.sum_congr rfl fun x _ => ?_
  have iw : ∀ (inb) (y : S2x8x1024.Idx), (Rect.unit (s := S2x8x1024) ![0, 0, 0] ![2, 8, 1024] inb).toLoadRect.idx y = y := fun inb y => funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega)
  rw [iw]
  obtain rfl | rfl : k = 0 ∨ k = 1 := by
    rcases k with ⟨k, hk⟩; interval_cases k <;> simp
  · rw [canon_miss 1 _ _ _ _ (by decide), canon_hit 0 _ _ _ _ rfl, sum0_at h, ld_slab _ 0 _ 0 rfl] <;> rfl
  · rw [canon_hit 1 _ _ _ _ rfl, sum1_at h, ld_slab _ 1 _ 1 rfl] <;> rfl

end Cert.LossIdeal.Grad

end
-- ==== Proof.LossKernel.lean ====
/- The loss head's kernel, run from any memory, leaves the specified gradients in its result arrays. -/
module

public import proofs.«01_k».proof.Proof.LossBlocks

@[expose] public section

set_option maxRecDepth 16384
noncomputable section

namespace Cert.LossIdeal.Grad

open Cert.LossIdeal Cert.LossIdeal.Gen Cert.LossSpec Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev A0 : FVec Ideal S8192x1024 .f32 := m ((c : Thread nD τ).loc main_arg0)
abbrev A1 : FVec Ideal S8192x1024 .f32 := m ((c : Thread nD τ).loc main_arg1)
abbrev A2 : FVec Ideal S1x1024 .f32 := m ((c : Thread nD τ).loc main_arg2)
abbrev A3 : FVec Ideal S8192x1024 .f32 := m ((c : Thread nD τ).loc main_arg3)
def rws : Rows := rows (A0 m c) (A1 m c) (A2 m c) (A3 m c)

/-- The blocks each point names. -/
theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem flush6 : ∀ t : Fin cfg0.N, (cfg0.win 6).flush t = true ↔ t.val = 15 :=
  (by decide +kernel : ∀ t : Fin grid0.N, _)
theorem lt16 (t : Fin cfg0.N) : t.val < 16 := t.isLt

/-- The input blocks of point `t`. -/
theorem reads (t : Fin cfg0.N) : Reads (iblk m c 0 t) (iblk m c 1 t) (iblk m c 2 t) (iblk m c 3 t) (512 * t.val) (rws m c) where
  x p q := by
    obtain ⟨e0, e1⟩ := idx0 t
    have ht := lt16 t
    have hp := p.isLt
    show _ = NormSpec.row (A0 m c) (512 * t.val + p.val) q
    unfold NormSpec.row
    rw [dif_pos (by omega)]
    unfold iblk; rw [View.read_apply]
    show V m c main_arg0 _ = m ((c : Thread nD τ).loc main_arg0) _
    unfold V; congr 1; funext a; apply Fin.ext
    match a with
    | ⟨0, _⟩ => show win0_0.index t 0 * 512 + 1 * p.val = 512 * t.val + p.val; omega
    | ⟨1, _⟩ => show win0_0.index t 1 * 1024 + 1 * q.val = q.val; omega
  f p q := by
    obtain ⟨e0, e1⟩ := idx1 t
    have ht := lt16 t
    have hp := p.isLt
    show _ = NormSpec.row (A1 m c) (512 * t.val + p.val) q
    unfold NormSpec.row
    rw [dif_pos (by omega)]
    unfold iblk; rw [View.read_apply]
    show V m c main_arg1 _ = m ((c : Thread nD τ).loc main_arg1) _
    unfold V; congr 1; funext a; apply Fin.ext
    match a with
    | ⟨0, _⟩ => show win0_1.index t 0 * 512 + 1 * p.val = 512 * t.val + p.val; omega
    | ⟨1, _⟩ => show win0_1.index t 1 * 1024 + 1 * q.val = q.val; omega
  g q := by
    obtain ⟨e0, e1⟩ := idx2 t
    show _ = NormSpec.vec (A2 m c) q
    unfold NormSpec.vec
    unfold iblk; rw [View.read_apply]
    show V m c main_arg2 _ = m ((c : Thread nD τ).loc main_arg2) _
    unfold V; congr 1; funext a; apply Fin.ext
    match a with
    | ⟨0, _⟩ => show win0_2.index t 0 * 1 + 1 * 0 = 0; omega
    | ⟨1, _⟩ => show win0_2.index t 1 * 1024 + 1 * q.val = q.val; omega
  t p q := by
    obtain ⟨e0, e1⟩ := idx3 t
    have ht := lt16 t
    have hp := p.isLt
    show _ = NormSpec.row (A3 m c) (512 * t.val + p.val) q
    unfold NormSpec.row
    rw [dif_pos (by omega)]
    unfold iblk; rw [View.read_apply]
    show V m c main_arg3 _ = m ((c : Thread nD τ).loc main_arg3) _
    unfold V; congr 1; funext a; apply Fin.ext
    match a with
    | ⟨0, _⟩ => show win0_3.index t 0 * 512 + 1 * p.val = 512 * t.val + p.val; omega
    | ⟨1, _⟩ => show win0_3.index t 1 * 1024 + 1 * q.val = q.val; omega

/-- The block of the rows' gradients after point `t`. -/
theorem outs_4 (t : Fin cfg0.N) (p : Fin 512) (q : Fin 1024) :
    (outsAt0 m c t.val t.isLt).1 (ix2 p q) = (rws m c).dx (512 * t.val + p.val) q := by
  have ht := lt16 t
  by_cases h0 : t.val % 16 = 0
  · rw [outsAt0_A m c t h0 (by omega)]; dsimp only
    exact out_A_4 (h := reads m c t) ..
  · by_cases h1 : t.val % 16 = 15
    · rw [outsAt0_C m c t h0 h1]; dsimp only
      exact out_C_4 (h := reads m c t) ..
    · rw [outsAt0_B m c t h0 h1]; dsimp only
      exact out_B_4 (h := reads m c t) ..

/-- The block of the branch's gradients after point `t`. -/
theorem outs_5 (t : Fin cfg0.N) (p : Fin 512) (q : Fin 1024) :
    (outsAt0 m c t.val t.isLt).2.1 (ix2 p q) = (rws m c).db (512 * t.val + p.val) q := by
  have ht := lt16 t
  by_cases h0 : t.val % 16 = 0
  · rw [outsAt0_A m c t h0 (by omega)]; dsimp only
    exact out_A_5 (h := reads m c t) ..
  · by_cases h1 : t.val % 16 = 15
    · rw [outsAt0_C m c t h0 h1]; dsimp only
      exact out_C_5 (h := reads m c t) ..
    · rw [outsAt0_B m c t h0 h1]; dsimp only
      exact out_B_5 (h := reads m c t) ..

/-- The sums after point `n`, before the last row block: what the row blocks so far added. -/
theorem outs_6 (k : Fin 2) (s : Fin 8) (l : Fin 1024) : ∀ (n : ℕ) (hn : n < cfg0.N), n < 15 →
    (outsAt0 m c n hn).2.2 (ix3 k s l) = ∑ i ∈ Finset.range (n + 1), (rws m c).fold (512 * i) k.val s l := by
  intro n
  induction n with
  | zero =>
    intro hn h
    have e := outsAt0_A m c ⟨0, hn⟩ rfl (show ¬0 % 16 = 15 by decide)
    change outsAt0 m c 0 hn = _ at e
    rw [e]; dsimp only
    rw [out_A_6 (h := reads m c ⟨0, hn⟩)]
    simp
  | succ n ih =>
    intro hn h
    have e := outsAt0_B m c ⟨n + 1, hn⟩ (show ¬(n + 1) % 16 = 0 by omega) (show ¬(n + 1) % 16 = 15 by omega)
    change outsAt0 m c (n + 1) hn = _ at e
    rw [e]; dsimp only
    rw [out_B_6 (h := reads m c ⟨n + 1, hn⟩)]
    have ih' := ih (by omega) (by omega)
    show (outsAt0 m c n _).2.2 (ix3 k s l) + (rws m c).fold (512 * (n + 1)) k.val s l = _
    rw [ih', Finset.sum_range_succ _ (n + 1)]

/-- The sums' block where it is written back: the sums over all rows, in every sublane. -/
theorem outs_6_last (t : Fin cfg0.N) (ht : t.val = 15) (k : Fin 2) (s : Fin 8) (l : Fin 1024) :
    (outsAt0 m c t.val t.isLt).2.2 (ix3 k s l) = (rws m c).total k.val l := by
  rw [outsAt0_C m c t (by omega) (by omega)]; dsimp only
  rw [out_C_6 (h := reads m c t)]
  have hm : t.val - 1 = 14 := by omega
  unfold Rows.total
  rw [← NormSpec.sum_rows (fun r => (rws m c).tm k.val r l)]
  refine Finset.sum_congr rfl fun x _ => ?_
  rw [outs_6 m c k x l (t.val - 1) _ (by omega), hm, ht, ← Finset.sum_range_succ (fun i => (rws m c).fold (512 * i) k.val x l) 15]
  rfl

/-- The result arrays. -/
def G4 : FVec Ideal S8192x1024 .f32 := fun i => (rws m c).dx (i 0).val (i 1)
def G5 : FVec Ideal S8192x1024 .bf16 := fun i => (rws m c).db (i 0).val (i 1)
def G6 : FVec Ideal S2x8x1024 .f32 := fun i => (rws m c).total (i 0).val (i 2)

theorem flushed_4 (t : Fin cfg0.N) : (dats m 0 c).flushed 4 t = ((cfg0.win 4).blk t).view.read (Elt Ideal) (G4 m c) := by
  rw [Value.flushed4]
  obtain ⟨e0, e1⟩ := idx4 t
  have key : ∀ y : S512x1024.Idx, (outsAt0 m c t.val t.isLt).1 y = G4 m c (((cfg0.win 4).blk t).view.emb y) := fun y => by
    obtain ⟨p, q, rfl⟩ : ∃ (p : Fin 512) (q : Fin 1024), y = ix2 p q := ⟨y 0, y 1, eq_ix2 y⟩
    rw [outs_4]
    unfold G4
    congr 1
    · show 512 * t.val + p.val = win0_4.index t 0 * 512 + 1 * p.val; omega
    · refine Fin.ext ?_
      show q.val = win0_4.index t 1 * 1024 + 1 * q.val; omega
  funext y
  rw [View.read_apply]
  exact key y

theorem flushed_5 (t : Fin cfg0.N) : (dats m 0 c).flushed 5 t = ((cfg0.win 5).blk t).view.read (Elt Ideal) (G5 m c) := by
  rw [Value.flushed5]
  obtain ⟨e0, e1⟩ := idx5 t
  have key : ∀ y : S512x1024.Idx, (outsAt0 m c t.val t.isLt).2.1 y = G5 m c (((cfg0.win 5).blk t).view.emb y) := fun y => by
    obtain ⟨p, q, rfl⟩ : ∃ (p : Fin 512) (q : Fin 1024), y = ix2 p q := ⟨y 0, y 1, eq_ix2 y⟩
    rw [outs_5]
    unfold G5
    congr 1
    · show 512 * t.val + p.val = win0_5.index t 0 * 512 + 1 * p.val; omega
    · refine Fin.ext ?_
      show q.val = win0_5.index t 1 * 1024 + 1 * q.val; omega
  funext y
  rw [View.read_apply]
  exact key y

theorem flushed_6 (t : Fin cfg0.N) (hf : (cfg0.win 6).flush t = true) :
    (dats m 0 c).flushed 6 t = ((cfg0.win 6).blk t).view.read (Elt Ideal) (G6 m c) := by
  rw [Value.flushed6]
  obtain ⟨e0, e1, e2⟩ := idx6 t
  have key : ∀ y : S2x8x1024.Idx, (outsAt0 m c t.val t.isLt).2.2 y = G6 m c (((cfg0.win 6).blk t).view.emb y) := fun y => by
    obtain ⟨k, p, q, rfl⟩ : ∃ (k : Fin 2) (p : Fin 8) (q : Fin 1024), y = ix3 k p q := ⟨y 0, y 1, y 2, eq_ix3 y⟩
    rw [outs_6_last m c t ((flush6 t).mp hf)]
    unfold G6
    congr 1
    · show k.val = win0_6.index t 0 * 2 + 1 * k.val; omega
    · refine Fin.ext ?_
      show q.val = win0_6.index t 2 * 1024 + 1 * q.val; omega
  funext y
  rw [View.read_apply]
  exact key y

theorem arr_4 : (dats m 0 c).arrAt 4 cfg0.N = G4 m c :=
  (dats m 0 c).arrAt_eq_of_cover 4 (G4 m c) (fun t _ => flushed_4 m c t) fun (i : S8192x1024.Idx) => by
    have h0 : (i 0).val < 8192 := (i 0).isLt
    have h1 : (i 1).val < 1024 := (i 1).isLt
    obtain ⟨t, ht⟩ : ∃ t : Fin cfg0.N, t.val = (i 0).val / 512 := ⟨⟨_, by show _ < 16; omega⟩, rfl⟩
    refine ⟨t, ?_, ?_⟩
    · exact (by decide +kernel : ∀ t : Fin grid0.N, (cfg0.win 4).flush t = true) _
    · show i ∈ ((View.whole main_v0_0).slice (win0_4.rect t)).set
      rw [View.set_slice_whole, Rect.mem_set_unit]
      obtain ⟨e0, e1⟩ := idx4 t
      intro a
      match a with
      | ⟨0, _⟩ => show win0_4.index t 0 * 512 ≤ (i 0).val ∧ (i 0).val < win0_4.index t 0 * 512 + 512; omega
      | ⟨1, _⟩ => show win0_4.index t 1 * 1024 ≤ (i 1).val ∧ (i 1).val < win0_4.index t 1 * 1024 + 1024; omega

theorem arr_5 : (dats m 0 c).arrAt 5 cfg0.N = G5 m c :=
  (dats m 0 c).arrAt_eq_of_cover 5 (G5 m c) (fun t _ => flushed_5 m c t) fun (i : S8192x1024.Idx) => by
    have h0 : (i 0).val < 8192 := (i 0).isLt
    have h1 : (i 1).val < 1024 := (i 1).isLt
    obtain ⟨t, ht⟩ : ∃ t : Fin cfg0.N, t.val = (i 0).val / 512 := ⟨⟨_, by show _ < 16; omega⟩, rfl⟩
    refine ⟨t, ?_, ?_⟩
    · exact (by decide +kernel : ∀ t : Fin grid0.N, (cfg0.win 5).flush t = true) _
    · show i ∈ ((View.whole main_v0_1).slice (win0_5.rect t)).set
      rw [View.set_slice_whole, Rect.mem_set_unit]
      obtain ⟨e0, e1⟩ := idx5 t
      intro a
      match a with
      | ⟨0, _⟩ => show win0_5.index t 0 * 512 ≤ (i 0).val ∧ (i 0).val < win0_5.index t 0 * 512 + 512; omega
      | ⟨1, _⟩ => show win0_5.index t 1 * 1024 ≤ (i 1).val ∧ (i 1).val < win0_5.index t 1 * 1024 + 1024; omega

theorem arr_6 : (dats m 0 c).arrAt 6 cfg0.N = G6 m c :=
  (dats m 0 c).arrAt_eq_of_cover 6 (G6 m c) (fun t => flushed_6 m c t) fun (i : S2x8x1024.Idx) => by
    have h0 : (i 0).val < 2 := (i 0).isLt
    have h1 : (i 1).val < 8 := (i 1).isLt
    have h2 : (i 2).val < 1024 := (i 2).isLt
    obtain ⟨t, ht⟩ : ∃ t : Fin cfg0.N, t.val = 15 := ⟨⟨15, by show _ < 16; omega⟩, rfl⟩
    refine ⟨t, ?_, ?_⟩
    · rw [flush6]; exact ht
    · show i ∈ ((View.whole main_v0_2).slice (win0_6.rect t)).set
      rw [View.set_slice_whole, Rect.mem_set_unit]
      obtain ⟨e0, e1, e2⟩ := idx6 t
      intro a
      match a with
      | ⟨0, _⟩ => show win0_6.index t 0 * 2 ≤ (i 0).val ∧ (i 0).val < win0_6.index t 0 * 2 + 2; omega
      | ⟨1, _⟩ => show win0_6.index t 1 * 8 ≤ (i 1).val ∧ (i 1).val < win0_6.index t 1 * 8 + 8; omega
      | ⟨2, _⟩ => show win0_6.index t 2 * 1024 ≤ (i 2).val ∧ (i 2).val < win0_6.index t 2 * 1024 + 1024; omega

end Cert.LossIdeal.Grad

end
-- ==== Proof.LossRefVal.lean ====
/- The reference of the loss head computes the specification. -/
module

public import proofs.«01_k».proof.Proof.Gen.LossRefIdeal.Read
public import proofs.«01_k».proof.Proof.LossSpec

@[expose] public section

set_option maxRecDepth 16384
noncomputable section

namespace Cert.LossRefIdeal.Grad

open Cert.LossRefIdeal Cert.LossRefIdeal.Gen Cert.LossRefIdeal.Read Cert.LossSpec Idealize.ShloMosaic Idealize.ShloMosaic.TcCoe Idealize.SL.Sem

variable (A0 A1 : FVec Ideal S8192x1024 .f32) (A2 : FVec Ideal S1x1024 .f32) (A3 : FVec Ideal S8192x1024 .f32)

/-- The errors, as each of the two losses writes them. -/
theorem er_at (r : Fin 8192) (q : Fin 1024) : val_main_v3 (F := Ideal) A0 A1 A2 A3 (ix2 r q) = (rows A0 A1 A2 A3).er r.val q := by
  pointwise [val_main_v3, val_main_v2, val_main_v1, val_main_v0, NormSpec.row_at A0, NormSpec.row_at A1, NormSpec.row_at A3, NormSpec.vec_at A2]
  rfl
theorem er_at' (r : Fin 8192) (q : Fin 1024) : val_main_v25 (F := Ideal) A0 A1 A2 A3 (ix2 r q) = (rows A0 A1 A2 A3).er r.val q := by
  pointwise [val_main_v25, val_main_v2, val_main_v1, val_main_v0, NormSpec.row_at A0, NormSpec.row_at A1, NormSpec.row_at A3, NormSpec.vec_at A2]
  rfl

/-- The loss's gradient, and the feed-forward block's. -/
theorem dx_at (r : Fin 8192) (q : Fin 1024) : val_main_v17 (F := Ideal) A0 A1 A2 A3 (ix2 r q) = (rows A0 A1 A2 A3).dx r.val q := by
  refine Eq.trans ?_ (scale_eq _)
  pointwise [val_main_v17, val_main_v16, val_main_v15, val_main_v14, val_main_cst_6, val_main_v13, val_main_v12, val_main_cst_5, val_main_cst_4, val_main_v6, val_main_v5, val_main_cst, er_at]
theorem db_at (r : Fin 8192) (q : Fin 1024) : val_main_v29 (F := Ideal) A0 A1 A2 A3 (ix2 r q) = (rows A0 A1 A2 A3).db r.val q := by
  pointwise [val_main_v29, val_main_v21, val_main_v20, dx_at, NormSpec.vec_at A2]
  rfl

/-- The sums over the rows. -/
theorem total_at (k : Fin 2) (s : Fin 8) (l : Fin 1024) :
    val_main_v33 (F := Ideal) A0 A1 A2 A3 (ix3 k s l) = (rows A0 A1 A2 A3).total k.val l := by
  obtain rfl | rfl : k = 0 ∨ k = 1 := by
    rcases k with ⟨k, hk⟩; interval_cases k <;> simp
  · pointwise [val_main_v33, val_main_v32, val_main_v30, val_main_v24, val_main_v23, val_main_cst_7, val_main_v22, dx_at, NormSpec.row_at A1]
    rfl
  · pointwise [val_main_v33, val_main_v32, val_main_v31, val_main_v28, val_main_v27, val_main_cst_8, val_main_v26, er_at']
    rfl

end Cert.LossRefIdeal.Grad

end
-- ==== Proof.LossClaim.lean ====
/- The loss head and its reference leave equal results. -/
module

public import proofs.«01_k».proof.Defs
public import proofs.«01_k».proof.Proof.LossKernel
public import proofs.«01_k».proof.Proof.LossRefVal

@[expose] public section

set_option maxRecDepth 16384
noncomputable section

namespace Cert.LossClaim

open Idealize.ShloMosaic Idealize.SL.Sem Cert.LossSpec

attribute [local instance] Cert.LossIdeal.Gen.facts Cert.LossRefIdeal.Gen.facts

/-- The reference's results, at the specification. -/
theorem ref_dx (B0 B1 : FVec Ideal Cert.LossRefIdeal.S8192x1024 .f32) (B2 : FVec Ideal Cert.LossRefIdeal.S1x1024 .f32) (B3 : FVec Ideal Cert.LossRefIdeal.S8192x1024 .f32) :
    Cert.LossRefIdeal.Read.val_main_v17 (F := Ideal) B0 B1 B2 B3 = fun i => (rows B0 B1 B2 B3).dx (i 0).val (i 1) := by
  funext i
  obtain ⟨r, l, rfl⟩ : ∃ (r : Fin 8192) (l : Fin 1024), i = ix2 r l := ⟨i 0, i 1, eq_ix2 i⟩
  exact Cert.LossRefIdeal.Grad.dx_at B0 B1 B2 B3 r l
theorem ref_db (B0 B1 : FVec Ideal Cert.LossRefIdeal.S8192x1024 .f32) (B2 : FVec Ideal Cert.LossRefIdeal.S1x1024 .f32) (B3 : FVec Ideal Cert.LossRefIdeal.S8192x1024 .f32) :
    Cert.LossRefIdeal.Read.val_main_v29 (F := Ideal) B0 B1 B2 B3 = fun i => (rows B0 B1 B2 B3).db (i 0).val (i 1) := by
  funext i
  obtain ⟨r, l, rfl⟩ : ∃ (r : Fin 8192) (l : Fin 1024), i = ix2 r l := ⟨i 0, i 1, eq_ix2 i⟩
  exact Cert.LossRefIdeal.Grad.db_at B0 B1 B2 B3 r l
theorem ref_total (B0 B1 : FVec Ideal Cert.LossRefIdeal.S8192x1024 .f32) (B2 : FVec Ideal Cert.LossRefIdeal.S1x1024 .f32) (B3 : FVec Ideal Cert.LossRefIdeal.S8192x1024 .f32) :
    Cert.LossRefIdeal.Read.val_main_v33 (F := Ideal) B0 B1 B2 B3 = fun i => (rows B0 B1 B2 B3).total (i 0).val (i 2) := by
  funext i
  obtain ⟨k, s, l, rfl⟩ : ∃ (k : Fin 2) (s : Fin 8) (l : Fin 1024), i = ix3 k s l := ⟨i 0, i 1, i 2, eq_ix3 i⟩
  exact Cert.LossRefIdeal.Grad.total_at B0 B1 B2 B3 k s l

/-- The reference runs from every memory, leaves its arguments and every counter at zero. -/
theorem ref_frame : Cert.quiescent_LossRefIdeal := fun m ρ _ =>
  (θ_run _ _ _).mono (fun r h => ⟨fun c => (h c).2.2.2, Idealize.ShloMosaic.sem_eq_zero_of_no_sems (by decide) r.2⟩)
    (Cert.LossRefIdeal.Value.run (F := Ideal) m ρ)

/-- From memories that agree on the arguments both programs leave the same results. -/
theorem algebraic : Cert.algebraic_LossIdeal_LossRefIdeal := by
  intro m ρ m' ρ' _ hag
  refine ⟨fun c => Cert.LossIdeal.Grad.G4 m c, fun c => Cert.LossIdeal.Grad.G5 m c, fun c => Cert.LossIdeal.Grad.G6 m c, ?_, ?_⟩
  · exact (θ_run _ _ _).mono (fun _ h c => ⟨(h c).1.trans (Cert.LossIdeal.Grad.arr_4 m c), (h c).2.1.trans (Cert.LossIdeal.Grad.arr_5 m c), (h c).2.2.1.trans (Cert.LossIdeal.Grad.arr_6 m c), (h c).2.2.2⟩)
      (Cert.LossIdeal.Value.run_blocks (F := Ideal) m ρ)
  · refine (θ_run _ _ _).mono (fun _ h c => ⟨(h c).1.trans ?_, (h c).2.1.trans ?_, (h c).2.2.1.trans ?_, (h c).2.2.2⟩) (Cert.LossRefIdeal.Value.run (F := Ideal) m' ρ')
    · refine (Cert.LossRefIdeal.Read.val_main_v17_eq (F := Ideal) ..).trans ?_
      rw [(hag c).1, (hag c).2.1, (hag c).2.2.1, (hag c).2.2.2]
      exact ref_dx (Cert.LossIdeal.Grad.A0 m c) (Cert.LossIdeal.Grad.A1 m c) (Cert.LossIdeal.Grad.A2 m c) (Cert.LossIdeal.Grad.A3 m c)
    · refine (Cert.LossRefIdeal.Read.val_main_v29_eq (F := Ideal) ..).trans ?_
      rw [(hag c).1, (hag c).2.1, (hag c).2.2.1, (hag c).2.2.2]
      exact ref_db (Cert.LossIdeal.Grad.A0 m c) (Cert.LossIdeal.Grad.A1 m c) (Cert.LossIdeal.Grad.A2 m c) (Cert.LossIdeal.Grad.A3 m c)
    · refine (Cert.LossRefIdeal.Read.val_main_v33_eq (F := Ideal) ..).trans ?_
      rw [(hag c).1, (hag c).2.1, (hag c).2.2.1, (hag c).2.2.2]
      exact ref_total (Cert.LossIdeal.Grad.A0 m c) (Cert.LossIdeal.Grad.A1 m c) (Cert.LossIdeal.Grad.A2 m c) (Cert.LossIdeal.Grad.A3 m c)

end Cert.LossClaim

end
-- ==== Proof.FfnSpec.lean ====
/- What the forward pass of the causal convolution and of the gate after it computes, element by element, over the reals
   with infinities. -/
module

public import proofs.«01_k».proof.Proof.ConvSpec
public import proofs.«01_k».proof.Proof.GateSpec

@[expose] public section

noncomputable section

namespace Cert.FfnSpec

open Idealize.ShloMosaic

/-- The convolution's input with sixteen rows of zeros above it. -/
def ex (A0 : FVec Ideal ⟨2, ![8192, 5632]⟩ .bf16) (n L : ℕ) : EReal := if n < 16 then 0 else ConvSpec.ux A0 (n - 16) L

/-- The bias. -/
def bx (A2 : FVec Ideal ⟨2, ![1, 5632]⟩ .f32) (L : ℕ) : EReal := if h : L < 5632 then A2 (ix2 0 ⟨L, h⟩) else 0

/-- The convolution at row `n` and column `L`: three rows up to this one, each times its tap, and the bias. -/
def cx (A0 : FVec Ideal ⟨2, ![8192, 5632]⟩ .bf16) (A1 : FVec Ideal ⟨2, ![3, 5632]⟩ .f32) (A2 : FVec Ideal ⟨2, ![1, 5632]⟩ .f32) (n L : ℕ) : EReal :=
  bx A2 L + ConvSpec.wx A1 0 L * ex A0 (n + 14) L + ConvSpec.wx A1 1 L * ex A0 (n + 15) L + ConvSpec.wx A1 2 L * ex A0 (n + 16) L

/-- The gated product. -/
def act (g v : EReal) : EReal := g * GateSpec.sg g * v

end Cert.FfnSpec

end
-- ==== Proof.FfnKernel.lean ====
/- The forward convolution and gate, run from any memory, leaves the specified values in its result arrays. -/
module

public import proofs.«01_k».proof.Proof.Gen.FfnIdeal.Value
public import proofs.«01_k».proof.Proof.FfnSpec

@[expose] public section

set_option maxRecDepth 16384
noncomputable section

namespace Cert.FfnIdeal.Fwd

open Cert.FfnIdeal Cert.FfnIdeal.Gen Cert.ConvSpec Cert.FfnSpec Idealize.ShloMosaic Idealize.ShloMosaic.TcCoe Idealize.SL.Sem
open Idealize.ShloMosaic.Pipeline (Dat)

/-- The blocks one half reads at a point, at its first row `b` of the input with sixteen zero rows above it. -/
structure Half (i : grid0.Coords) (x : Vec Ideal S512x1408 .bf16) (x' : Vec Ideal S16x1408 .bf16) (w : Vec Ideal S3x1408 .f32) (v : Vec Ideal S1x1408 .f32)
    (b : ℕ) (e tap : ℕ → Fin 1408 → EReal) (bias : Fin 1408 → EReal) : Prop where
  d : ∀ (p : Fin 512) (q : Fin 1408), x (ix2 p q) = e (b + p.val + 16) q
  halo : ∀ (p : Fin 16) (q : Fin 1408), (i 1).val ≠ 0 → x' (ix2 p q) = e (b + p.val) q
  first : (i 1).val = 0 → ∀ p q, p < 16 → e (b + p) q = 0
  w : ∀ (k : Fin 3) (q : Fin 1408), w (ix2 k q) = tap k.val q
  b : ∀ q : Fin 1408, v (ix2 0 q) = bias q

variable {i : grid0.Coords} {x : Vec Ideal S512x1408 .bf16} {x' : Vec Ideal S16x1408 .bf16} {w : Vec Ideal S3x1408 .f32} {v : Vec Ideal S1x1408 .f32}
  {b : ℕ} {e tap : ℕ → Fin 1408 → EReal} {bias : Fin 1408 → EReal}

/-- The rows, with the halo above them, and one row up. -/
theorem pay6_at (h : Half i x x' w v b e tap bias) (s : Fin 512) (l : Fin 1408) : k0_pay6 x (ix2 s l) = e (b + s.val + 16) l := by
  pointwise [k0_pay6]; exact h.d s l
theorem pay7_at (h : Half i x x' w v b e tap bias) (s : Fin 528) (l : Fin 1408) : k0_pay7 i x x' (ix2 s l) = e (b + s.val) l := by
  pointwise [k0_pay7]
  have hs := s.isLt
  split
  · next h1 =>
    have hi : (i 1).val < 16 := (i 1).isLt
    by_cases h0 : (i 1).val = 0
    · rw [h0]; exact (h.first h0 _ _ h1).symm
    · have en : BitVec.ofNat 32 (i 1).val ≠ 0#32 := fun en => h0 (by
        have := congrArg BitVec.toNat en; rw [BitVec.toNat_ofNat, BitVec.toNat_ofNat] at this; omega)
      have e' := h.halo ⟨s.val, h1⟩ l h0
      rw [← e']
      have ec : Scalar.cmpi CmpIPredicate.eq (BitVec.ofNat 32 (i 1).val) 0#32 ≠ 1#1 := by
        show BitVec.ofBool (BitVec.ofNat 32 (i 1).val == 0#32) ≠ 1#1
        rw [beq_eq_false_iff_ne.mpr en]; decide
      simp [Scalar.select, ec]
  · next h1 =>
    have e' := pay6_at h ⟨s.val - 16, by omega⟩ l
    rw [show b + s.val = b + (s.val - 16) + 16 by omega]
    exact e'
theorem pay8_at (h : Half i x x' w v b e tap bias) (s : Fin 512) (l : Fin 1408) : k0_pay8 i x x' (ix2 s l) = e (b + s.val + 15) l := by
  pointwise [k0_pay8]
  rw [pay7_at h]; congr 1; have := s.isLt; show b + (16 + s.val + 528 - 1) % 528 = _; omega

/-- One row of the taps, loaded. -/
theorem tap_ld (w : Vec Ideal S3x1408 .f32) (k : ℕ) (k' : Fin 3) (hk : k'.val = k) (l : Fin 1408) (inb) :
    View.ld w (Rect.unit (s := S3x1408) ![k, 0] ![1, 1408] inb) (ix2 0 l) = w (ix2 k' l) :=
  congrArg w (funext fun a => Fin.ext (match a with
    | ⟨0, _⟩ => show k + 1 * 0 = k'.val by omega
    | ⟨1, _⟩ => show 0 + 1 * l.val = l.val by omega))
theorem ld_x (x : Vec Ideal S512x1408 .bf16) (inb) : View.ld x (Rect.unit (s := S512x1408) ![0, 0] ![512, 1408] inb) = x :=
  View.ld_unit_zero (by decide) inb x
theorem ld_h (x : Vec Ideal S16x1408 .bf16) (inb) : View.ld x (Rect.unit (s := S16x1408) ![0, 0] ![16, 1408] inb) = x :=
  View.ld_unit_zero (by decide) inb x
theorem ld_b (x : Vec Ideal S1x1408 .f32) (inb) : View.ld x (Rect.unit (s := S1x1408) ![0, 0] ![1, 1408] inb) = x :=
  View.ld_unit_zero (by decide) inb x

/-- The convolution's rows in one half. -/
theorem conv_at (h : Half i x x' w v b e tap bias) (inb0) (inb1) (inb2) (s : Fin 512) (l : Fin 1408) :
    k0_pay1 (k0_pay6 x) (k0_pay7 i x x') (k0_pay8 i x x') 2#32 v (View.ld w (Rect.unit (s := S3x1408) ![0, 0] ![1, 1408] inb0))
        (View.ld w (Rect.unit (s := S3x1408) ![1, 0] ![1, 1408] inb1)) (View.ld w (Rect.unit (s := S3x1408) ![2, 0] ![1, 1408] inb2)) (ix2 s l)
      = bias l + tap 0 l * e (b + s.val + 14) l + tap 1 l * e (b + s.val + 15) l + tap 2 l * e (b + s.val + 16) l := by
  pointwise [k0_pay1, pay6_at h, pay7_at h, pay8_at h]
  have hs := s.isLt
  refine congrArg₂ (· + ·) (congrArg₂ (· + ·) (congrArg₂ (· + ·) (h.b l) (congrArg₂ (· * ·) (h.w 0 l) ?_)) (congrArg (· * _) (h.w 1 l))) (congrArg (· * _) (h.w 2 l))
  congr 1; show b + (16 + s.val + 528 - 2) % 528 = _; omega

theorem pay5_eq (v12 v13 v18 v22 : Vec Ideal S1x1408 .f32) :
    k0_pay5 i x x' v12 v13 v18 v22 = k0_pay1 (k0_pay6 x) (k0_pay7 i x x') (k0_pay8 i x x') 2#32 v12 v13 v18 v22 := rfl

/-- The gated product, and the two halves as they are stored. -/
theorem pay2_at (v25 v27 : FVec Ideal S512x1408 .f32) (v32) (v34 : FVec Ideal S512x1408 .f32) (n) (v37 v38 v43 v47 : Vec Ideal S1x1408 .f32) (s : Fin 512) (l : Fin 1408) :
    k0_pay2 v25 v27 v32 v34 n v37 v38 v43 v47 (ix2 s l) = act (v25 (ix2 s l)) (k0_pay1 v27 v32 v34 n v37 v38 v43 v47 (ix2 s l)) := by
  generalize hk : k0_pay1 v27 v32 v34 n v37 v38 v43 v47 = K
  pointwise [k0_pay2, hk]
  unfold act GateSpec.sg
  simp
theorem pay3_at (v25 : FVec Ideal S512x1408 .f32) (s : Fin 512) (l : Fin 1408) : k0_pay3 v25 (ix3 0 s l) = v25 (ix2 s l) := by
  pointwise [k0_pay3]
theorem pay4_at (v27 : FVec Ideal S512x1408 .f32) (v32) (v34 : FVec Ideal S512x1408 .f32) (n) (v37 v38 v43 v47 : Vec Ideal S1x1408 .f32) (s : Fin 512) (l : Fin 1408) :
    k0_pay4 v27 v32 v34 n v37 v38 v43 v47 (ix3 0 s l) = k0_pay1 v27 v32 v34 n v37 v38 v43 v47 (ix2 s l) := by
  generalize hk : k0_pay1 v27 v32 v34 n v37 v38 v43 v47 = K
  pointwise [k0_pay4, hk]

/-- The stores of the two halves. -/
theorem idx_slab (k : ℕ) (inb) (k' : Fin 2) (hk : k'.val = k) (s : Fin 512) (l : Fin 1408) :
    (Rect.unit (s := S2x512x1408) ![k, 0, 0] ![1, 512, 1408] inb).toLoadRect.idx (ix3 0 s l) = ix3 k' s l :=
  funext fun a => Fin.ext (match a with
    | ⟨0, _⟩ => show k + 1 * 0 = k'.val by omega
    | ⟨1, _⟩ => show 0 + 1 * s.val = s.val by omega
    | ⟨2, _⟩ => show 0 + 1 * l.val = l.val by omega)
theorem canon_hit (k : ℕ) (inb) (P : Vec Ideal S1x512x1408 .bf16) (L) (k' : Fin 2) (hk : k'.val = k) (s : Fin 512) (l : Fin 1408) :
    View.canon (Val := Elt Ideal) (⟨Rect.unit (s := S2x512x1408) ![k, 0, 0] ![1, 512, 1408] inb, P⟩ :: L) (ix3 k' s l) = P (ix3 0 s l) := by
  rw [← idx_slab k inb k' hk s l]
  exact View.canon_cons_emb _ _ _ _
theorem canon_miss (k : ℕ) (inb) (P : Vec Ideal S1x512x1408 .bf16) (L) (k' : Fin 2) (hk : k'.val ≠ k) (s : Fin 512) (l : Fin 1408) :
    View.canon (Val := Elt Ideal) (⟨Rect.unit (s := S2x512x1408) ![k, 0, 0] ![1, 512, 1408] inb, P⟩ :: L) (ix3 k' s l) = View.canon L (ix3 k' s l) := by
  refine View.canon_cons_of_not_mem _ _ fun hm => hk ?_
  change ix3 k' s l ∈ (Rect.unit (s := S2x512x1408) ![k, 0, 0] ![1, 512, 1408] inb).set at hm
  rw [Rect.mem_set_unit] at hm
  have := hm 0
  change k ≤ k'.val ∧ k'.val < k + 1 at this
  omega
theorem canon_w (P : Vec Ideal S512x1408 .bf16) (L) (inb) :
    View.canon (Val := Elt Ideal) (⟨Rect.unit (s := S512x1408) ![0, 0] ![512, 1408] inb, P⟩ :: L) = P :=
  View.canon_cons_unit_zero (by decide) inb P L

variable (m : (ℓ : Loc nD τ sig) → Buf (Elt Ideal) ℓ) (c : Dev nD)

/-- The arguments. -/
abbrev A0 : FVec Ideal S8192x5632 .bf16 := m ((c : Thread nD τ).loc main_arg0)
abbrev A1 : FVec Ideal S3x5632 .f32 := m ((c : Thread nD τ).loc main_arg1)
abbrev A2 : FVec Ideal S1x5632 .f32 := m ((c : Thread nD τ).loc main_arg2)

/-- The blocks each point names. -/
theorem coord1 : ∀ t : Fin cfg0.N, (grid0.coords t 1).val = t.val % 16 :=
  (by decide +kernel : ∀ t : Fin grid0.N, _)
theorem idx0 : ∀ t : Fin cfg0.N, win0_0.index t 0 = t.val % 16 ∧ win0_0.index t 1 = t.val / 16 :=
  (by decide +kernel : ∀ t : Fin grid0.N, _)
theorem idx1 : ∀ t : Fin cfg0.N, win0_1.index t 0 = t.val % 16 * 32 - 1 ∧ win0_1.index t 1 = t.val / 16 :=
  (by decide +kernel : ∀ t : Fin grid0.N, _)
theorem idx2 : ∀ t : Fin cfg0.N, win0_2.index t 0 = t.val % 16 ∧ win0_2.index t 1 = t.val / 16 + 2 :=
  (by decide +kernel : ∀ t : Fin grid0.N, _)
theorem idx3 : ∀ t : Fin cfg0.N, win0_3.index t 0 = t.val % 16 * 32 - 1 ∧ win0_3.index t 1 = t.val / 16 + 2 :=
  (by decide +kernel : ∀ t : Fin grid0.N, _)
theorem idx4 : ∀ t : Fin cfg0.N, win0_4.index t 0 = 0 ∧ win0_4.index t 1 = t.val / 16 :=
  (by decide +kernel : ∀ t : Fin grid0.N, _)
theorem idx5 : ∀ t : Fin cfg0.N, win0_5.index t 0 = 0 ∧ win0_5.index t 1 = t.val / 16 + 2 :=
  (by decide +kernel : ∀ t : Fin grid0.N, _)
theorem idx6 : ∀ t : Fin cfg0.N, win0_6.index t 0 = 0 ∧ win0_6.index t 1 = t.val / 16 :=
  (by decide +kernel : ∀ t : Fin grid0.N, _)
theorem idx7 : ∀ t : Fin cfg0.N, win0_7.index t 0 = 0 ∧ win0_7.index t 1 = t.val / 16 + 2 :=
  (by decide +kernel : ∀ t : Fin grid0.N, _)
theorem idx8 : ∀ t : Fin cfg0.N, win0_8.index t 0 = t.val % 16 ∧ win0_8.index t 1 = t.val / 16 :=
  (by decide +kernel : ∀ t : Fin grid0.N, _)
theorem idx9 : ∀ t : Fin cfg0.N, win0_9.index t 0 = 0 ∧ win0_9.index t 1 = t.val % 16 ∧ win0_9.index t 2 = t.val / 16 :=
  (by decide +kernel : ∀ t : Fin grid0.N, _)
theorem lt32 (t : Fin cfg0.N) : t.val < 32 := t.isLt

/-- The input blocks of point `t`, of the gate half and of the value half. -/
theorem gate (t : Fin cfg0.N) :
    Half (grid0.coords t) (iblk m c 0 t) (iblk m c 1 t) (iblk m c 4 t) (iblk m c 6 t) (512 * (t.val % 16))
      (fun n q => ex (A0 m c) n (1408 * (t.val / 16) + q.val)) (fun k q => wx (A1 m c) k (1408 * (t.val / 16) + q.val))
      (fun q => bx (A2 m c) (1408 * (t.val / 16) + q.val)) where
  d p q := by
    obtain ⟨e0, e1⟩ := idx0 t
    have ht := lt32 t
    have hq := q.isLt
    have hp := p.isLt
    unfold ex ux
    rw [if_neg (by omega), dif_pos ⟨by omega, by omega⟩]
    unfold iblk; rw [View.read_apply]
    show V m c main_arg0 _ = m ((c : Thread nD τ).loc main_arg0) _
    unfold V; congr 1; funext a; apply Fin.ext
    match a with
    | ⟨0, _⟩ => show win0_0.index t 0 * 512 + 1 * p.val = 512 * (t.val % 16) + p.val + 16 - 16; omega
    | ⟨1, _⟩ => show win0_0.index t 1 * 1408 + 1 * q.val = 1408 * (t.val / 16) + q.val; omega
  halo p q h0 := by
    obtain ⟨e0, e1⟩ := idx1 t
    have ht := lt32 t
    have hq := q.isLt
    have hp := p.isLt
    rw [coord1] at h0
    unfold ex ux
    rw [if_neg (by omega), dif_pos ⟨by omega, by omega⟩]
    unfold iblk; rw [View.read_apply]
    show V m c main_arg0 _ = m ((c : Thread nD τ).loc main_arg0) _
    unfold V; congr 1; funext a; apply Fin.ext
    match a with
    | ⟨0, _⟩ => show win0_1.index t 0 * 16 + 1 * p.val = 512 * (t.val % 16) + p.val - 16; omega
    | ⟨1, _⟩ => show win0_1.index t 1 * 1408 + 1 * q.val = 1408 * (t.val / 16) + q.val; omega
  first h0 p q hp := by
    rw [coord1] at h0
    exact if_pos (by omega)
  w k q := by
    obtain ⟨e0, e1⟩ := idx4 t
    have ht := lt32 t
    have hq := q.isLt
    have hk := k.isLt
    unfold wx
    rw [dif_pos ⟨by omega, by omega⟩]
    unfold iblk; rw [View.read_apply]
    show V m c main_arg1 _ = m ((c : Thread nD τ).loc main_arg1) _
    unfold V; congr 1; funext a; apply Fin.ext
    match a with
    | ⟨0, _⟩ => show win0_4.index t 0 * 3 + 1 * k.val = k.val; omega
    | ⟨1, _⟩ => show win0_4.index t 1 * 1408 + 1 * q.val = 1408 * (t.val / 16) + q.val; omega
  b q := by
    obtain ⟨e0, e1⟩ := idx6 t
    have ht := lt32 t
    have hq := q.isLt
    unfold bx
    rw [dif_pos (by omega)]
    unfold iblk; rw [View.read_apply]
    show V m c main_arg2 _ = m ((c : Thread nD τ).loc main_arg2) _
    unfold V; congr 1; funext a; apply Fin.ext
    match a with
    | ⟨0, _⟩ => show win0_6.index t 0 * 1 + 1 * 0 = 0; omega
    | ⟨1, _⟩ => show win0_6.index t 1 * 1408 + 1 * q.val = 1408 * (t.val / 16) + q.val; omega
theorem value (t : Fin cfg0.N) :
    Half (grid0.coords t) (iblk m c 2 t) (iblk m c 3 t) (iblk m c 5 t) (iblk m c 7 t) (512 * (t.val % 16))
      (fun n q => ex (A0 m c) n (2816 + 1408 * (t.val / 16) + q.val)) (fun k q => wx (A1 m c) k (2816 + 1408 * (t.val / 16) + q.val))
      (fun q => bx (A2 m c) (2816 + 1408 * (t.val / 16) + q.val)) where
  d p q := by
    obtain ⟨e0, e1⟩ := idx2 t
    have ht := lt32 t
    have hq := q.isLt
    have hp := p.isLt
    unfold ex ux
    rw [if_neg (by omega), dif_pos ⟨by omega, by omega⟩]
    unfold iblk; rw [View.read_apply]
    show V m c main_arg0 _ = m ((c : Thread nD τ).loc main_arg0) _
    unfold V; congr 1; funext a; apply Fin.ext
    match a with
    | ⟨0, _⟩ => show win0_2.index t 0 * 512 + 1 * p.val = 512 * (t.val % 16) + p.val + 16 - 16; omega
    | ⟨1, _⟩ => show win0_2.index t 1 * 1408 + 1 * q.val = 2816 + 1408 * (t.val / 16) + q.val; omega
  halo p q h0 := by
    obtain ⟨e0, e1⟩ := idx3 t
    have ht := lt32 t
    have hq := q.isLt
    have hp := p.isLt
    rw [coord1] at h0
    unfold ex ux
    rw [if_neg (by omega), dif_pos ⟨by omega, by omega⟩]
    unfold iblk; rw [View.read_apply]
    show V m c main_arg0 _ = m ((c : Thread nD τ).loc main_arg0) _
    unfold V; congr 1; funext a; apply Fin.ext
    match a with
    | ⟨0, _⟩ => show win0_3.index t 0 * 16 + 1 * p.val = 512 * (t.val % 16) + p.val - 16; omega
    | ⟨1, _⟩ => show win0_3.index t 1 * 1408 + 1 * q.val = 2816 + 1408 * (t.val / 16) + q.val; omega
  first h0 p q hp := by
    rw [coord1] at h0
    exact if_pos (by omega)
  w k q := by
    obtain ⟨e0, e1⟩ := idx5 t
    have ht := lt32 t
    have hq := q.isLt
    have hk := k.isLt
    unfold wx
    rw [dif_pos ⟨by omega, by omega⟩]
    unfold iblk; rw [View.read_apply]
    show V m c main_arg1 _ = m ((c : Thread nD τ).loc main_arg1) _
    unfold V; congr 1; funext a; apply Fin.ext
    match a with
    | ⟨0, _⟩ => show win0_5.index t 0 * 3 + 1 * k.val = k.val; omega
    | ⟨1, _⟩ => show win0_5.index t 1 * 1408 + 1 * q.val = 2816 + 1408 * (t.val / 16) + q.val; omega
  b q := by
    obtain ⟨e0, e1⟩ := idx7 t
    have ht := lt32 t
    have hq := q.isLt
    unfold bx
    rw [dif_pos (by omega)]
    unfold iblk; rw [View.read_apply]
    show V m c main_arg2 _ = m ((c : Thread nD τ).loc main_arg2) _
    unfold V; congr 1; funext a; apply Fin.ext
    match a with
    | ⟨0, _⟩ => show win0_7.index t 0 * 1 + 1 * 0 = 0; omega
    | ⟨1, _⟩ => show win0_7.index t 1 * 1408 + 1 * q.val = 2816 + 1408 * (t.val / 16) + q.val; omega

/-- The two halves of the convolution at a point. -/
theorem cg_at (t : Fin cfg0.N) (p : Fin 512) (q : Fin 1408) : k0_pay9 (grid0.coords t) (iblk m c 0 t) (iblk m c 1 t) (iblk m c 2 t) (iblk m c 3 t) (iblk m c 4 t) (iblk m c 5 t) (iblk m c 6 t) (iblk m c 7 t) (ix2 p q)
    = cx (A0 m c) (A1 m c) (A2 m c) (512 * (t.val % 16) + p.val) (1408 * (t.val / 16) + q.val) := by
  unfold k0_pay9
  simp only [r0_0, r0_1, r0_2, r0_3, r0_4, r0_5, ld_x, ld_h, ld_b]
  rw [pay5_eq]
  exact conv_at (gate m c t) _ _ _ p q
theorem cv_at (t : Fin cfg0.N) (p : Fin 512) (q : Fin 1408) : k0_pay1 (k0_pay6 (iblk m c 2 t)) (k0_pay7 (grid0.coords t) (iblk m c 2 t) (iblk m c 3 t)) (k0_pay8 (grid0.coords t) (iblk m c 2 t) (iblk m c 3 t)) 2#32 (iblk m c 7 t)
      (View.ld (iblk m c 5 t) r0_3) (View.ld (iblk m c 5 t) r0_4) (View.ld (iblk m c 5 t) r0_5) (ix2 p q)
    = cx (A0 m c) (A1 m c) (A2 m c) (512 * (t.val % 16) + p.val) (2816 + 1408 * (t.val / 16) + q.val) :=
  conv_at (value m c t) _ _ _ p q

/-- The result arrays. -/
def G8 : FVec Ideal S8192x2816 .bf16 := fun i => act (cx (A0 m c) (A1 m c) (A2 m c) (i 0).val (i 1).val) (cx (A0 m c) (A1 m c) (A2 m c) (i 0).val (2816 + (i 1).val))
def G9 : FVec Ideal S2x8192x2816 .bf16 := fun i => cx (A0 m c) (A1 m c) (A2 m c) (i 1).val (2816 * (i 0).val + (i 2).val)

theorem flushed_8 (t : Fin cfg0.N) : (dats m 0 c).flushed 8 t = ((cfg0.win 8).blk t).view.read (Elt Ideal) (G8 m c) := by
  rw [Value.flushed8]
  obtain ⟨e0, e1⟩ := idx8 t
  have key : ∀ y : S512x1408.Idx, out0_8 (grid0.coords t) (iblk m c 0 t) (iblk m c 1 t) (iblk m c 2 t) (iblk m c 3 t) (iblk m c 4 t) (iblk m c 5 t) (iblk m c 6 t) (iblk m c 7 t) y = G8 m c (((cfg0.win 8).blk t).view.emb y) := fun y => by
    obtain ⟨p, q, rfl⟩ : ∃ (a : Fin 512) (b : Fin 1408), y = ix2 a b := ⟨y 0, y 1, eq_ix2 y⟩
    unfold out0_8 k0_pay12 k0_pay11 k0_pay10
    simp only [r0_0, r0_1, r0_2, ld_x, ld_h, ld_b]
    rw [canon_w, pay2_at, cg_at]
    refine (congrArg (act _) (cv_at m c t p q)).trans ?_
    have h0 : 512 * (t.val % 16) + p.val = win0_8.index t 0 * 512 + 1 * p.val := by omega
    have h1 : 1408 * (t.val / 16) + q.val = win0_8.index t 1 * 1408 + 1 * q.val := by omega
    rw [Nat.add_assoc 2816, h0, h1]
    rfl
  funext y
  rw [View.read_apply]
  exact key y

theorem arr_8 : (dats m 0 c).arrAt 8 cfg0.N = G8 m c :=
  (dats m 0 c).arrAt_eq_of_cover 8 (G8 m c) (fun t _ => flushed_8 m c t) fun (i : S8192x2816.Idx) => by
    have h0 : (i 0).val < 8192 := (i 0).isLt
    have h1 : (i 1).val < 2816 := (i 1).isLt
    obtain ⟨t, ht⟩ : ∃ t : Fin cfg0.N, t.val = (i 1).val / 1408 * 16 + (i 0).val / 512 := ⟨⟨_, by show _ < 32; omega⟩, rfl⟩
    refine ⟨t, ?_, ?_⟩
    · exact (by decide +kernel : ∀ t : Fin grid0.N, (cfg0.win 8).flush t = true) _
    · show i ∈ ((View.whole main_v0_0).slice (win0_8.rect t)).set
      rw [View.set_slice_whole, Rect.mem_set_unit]
      obtain ⟨e0, e1⟩ := idx8 t
      intro a
      match a with
      | ⟨0, _⟩ => show win0_8.index t 0 * 512 ≤ (i 0).val ∧ (i 0).val < win0_8.index t 0 * 512 + 512; omega
      | ⟨1, _⟩ => show win0_8.index t 1 * 1408 ≤ (i 1).val ∧ (i 1).val < win0_8.index t 1 * 1408 + 1408; omega

theorem flushed_9 (t : Fin cfg0.N) : (dats m 0 c).flushed 9 t = ((cfg0.win 9).blk t).view.read (Elt Ideal) (G9 m c) := by
  rw [Value.flushed9]
  obtain ⟨e0, e1, e2⟩ := idx9 t
  have key : ∀ y : S2x512x1408.Idx, out0_9 (grid0.coords t) (iblk m c 0 t) (iblk m c 1 t) (iblk m c 2 t) (iblk m c 3 t) (iblk m c 4 t) (iblk m c 5 t) (iblk m c 6 t) (iblk m c 7 t) y = G9 m c (((cfg0.win 9).blk t).view.emb y) := fun y => by
    obtain ⟨k, p, q, rfl⟩ : ∃ (k : Fin 2) (a : Fin 512) (b : Fin 1408), y = ix3 k a b := ⟨y 0, y 1, y 2, eq_ix3 y⟩
    unfold out0_9 k0_pay12 k0_pay11 k0_pay10
    simp only [r0_0, r0_1, r0_2, r0_6, r0_7, ld_x, ld_h, ld_b]
    have h0 : 512 * (t.val % 16) + p.val = win0_9.index t 1 * 512 + 1 * p.val := by omega
    have h1 : 2816 * k.val + (1408 * (t.val / 16) + q.val) = 2816 * (win0_9.index t 0 * 2 + 1 * k.val) + (win0_9.index t 2 * 1408 + 1 * q.val) := by omega
    have hG : G9 m c (((cfg0.win 9).blk t).view.emb (ix3 k p q)) = cx (A0 m c) (A1 m c) (A2 m c) (512 * (t.val % 16) + p.val) (2816 * k.val + (1408 * (t.val / 16) + q.val)) := by
      rw [h0, h1]; rfl
    rw [hG]
    obtain rfl | rfl : k = 0 ∨ k = 1 := by
      rcases k with ⟨k, hk⟩; interval_cases k <;> simp
    · refine (canon_miss 1 _ _ _ _ (by decide) _ _).trans ((canon_hit 0 _ _ _ _ rfl _ _).trans ?_)
      rw [pay3_at, cg_at]
      congr 1; show _ = 2816 * 0 + _; omega
    · refine (canon_hit 1 _ _ _ _ rfl _ _).trans ?_
      rw [pay4_at]
      refine (cv_at m c t p q).trans ?_
      congr 1; show _ = 2816 * 1 + _; omega
  funext y
  rw [View.read_apply]
  exact key y

theorem arr_9 : (dats m 0 c).arrAt 9 cfg0.N = G9 m c :=
  (dats m 0 c).arrAt_eq_of_cover 9 (G9 m c) (fun t _ => flushed_9 m c t) fun (i : S2x8192x2816.Idx) => by
    have h0 : (i 0).val < 2 := (i 0).isLt
    have h1 : (i 1).val < 8192 := (i 1).isLt
    have h2 : (i 2).val < 2816 := (i 2).isLt
    obtain ⟨t, ht⟩ : ∃ t : Fin cfg0.N, t.val = (i 2).val / 1408 * 16 + (i 1).val / 512 := ⟨⟨_, by show _ < 32; omega⟩, rfl⟩
    refine ⟨t, ?_, ?_⟩
    · exact (by decide +kernel : ∀ t : Fin grid0.N, (cfg0.win 9).flush t = true) _
    · show i ∈ ((View.whole main_v0_1).slice (win0_9.rect t)).set
      rw [View.set_slice_whole, Rect.mem_set_unit]
      obtain ⟨e0, e1, e2⟩ := idx9 t
      intro a
      match a with
      | ⟨0, _⟩ => show win0_9.index t 0 * 2 ≤ (i 0).val ∧ (i 0).val < win0_9.index t 0 * 2 + 2; omega
      | ⟨1, _⟩ => show win0_9.index t 1 * 512 ≤ (i 1).val ∧ (i 1).val < win0_9.index t 1 * 512 + 512; omega
      | ⟨2, _⟩ => show win0_9.index t 2 * 1408 ≤ (i 2).val ∧ (i 2).val < win0_9.index t 2 * 1408 + 1408; omega

end Cert.FfnIdeal.Fwd

end
-- ==== Proof.FfnClaim.lean ====
/- The forward convolution and gate and its reference leave equal results. -/
module

public import proofs.«01_k».proof.Defs
public import proofs.«01_k».proof.Proof.FfnKernel
public import proofs.«01_k».proof.Proof.Gen.FfnRefIdeal.Read

@[expose] public section

set_option maxRecDepth 16384
noncomputable section

namespace Cert.FfnRefIdeal.Fwd

open Cert.FfnRefIdeal Cert.FfnRefIdeal.Gen Cert.FfnRefIdeal.Read Cert.ConvSpec Cert.FfnSpec Idealize.ShloMosaic Idealize.ShloMosaic.TcCoe Idealize.SL.Sem

variable (A0 : FVec Ideal S8192x5632 .bf16) (A1 : FVec Ideal S3x5632 .f32) (A2 : FVec Ideal S1x5632 .f32)

/-- The input with two rows of zeros above it. -/
theorem up_at (r : Fin 8194) (l : Fin 5632) : val_main_v2 (F := Ideal) A0 (ix2 r l) = ex A0 (r.val + 14) l.val := by
  pointwise [val_main_v2, val_main_v1, val_main_v0, val_main_cst]
  have hr := r.isLt
  split
  · next h => unfold ex; rw [if_pos (by omega)]
  · next h =>
    have e : ex A0 (r.val + 14) l.val = A0 (ix2 ⟨r.val - 2, by omega⟩ l) := by
      unfold ex
      rw [if_neg (by omega), show r.val + 14 - 16 = r.val - 2 by omega]
      unfold ux
      rw [dif_pos ⟨by omega, l.isLt⟩]
    exact e.symm

/-- The convolution. -/
theorem cx_at (r : Fin 8192) (l : Fin 5632) : val_main_v24 (F := Ideal) A0 A1 A2 (ix2 r l) = cx A0 A1 A2 r.val l.val := by
  pointwise [up_at A0, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]
  have hw : ∀ k : Fin 3, A1 (ix2 k l) = wx A1 k.val l.val := fun k => by
    unfold wx; rw [dif_pos ⟨k.isLt, l.isLt⟩]
  have hb : A2 (ix2 0 l) = bx A2 l.val := by
    unfold bx; rw [dif_pos l.isLt]
  rw [hw, hw, hw, hb]
  unfold cx
  rw [add_comm _ (bx A2 l.val), ← add_assoc, ← add_assoc, show r.val + 15 = 1 + r.val + 14 by omega, show r.val + 16 = 2 + r.val + 14 by omega]
  rfl

/-- The two halves, and the gated product. -/
theorem g_at (r : Fin 8192) (l : Fin 2816) : val_main_v25 (F := Ideal) A0 A1 A2 (ix2 r l) = cx A0 A1 A2 r.val l.val := by
  pointwise [val_main_v25, cx_at]
theorem v_at (r : Fin 8192) (l : Fin 2816) : val_main_v26 (F := Ideal) A0 A1 A2 (ix2 r l) = cx A0 A1 A2 r.val (2816 + l.val) := by
  pointwise [val_main_v26, cx_at]
theorem act_at (r : Fin 8192) (l : Fin 2816) : val_main_v29 (F := Ideal) A0 A1 A2 (ix2 r l) = act (cx A0 A1 A2 r.val l.val) (cx A0 A1 A2 r.val (2816 + l.val)) := by
  pointwise [g_at, v_at, val_main_v29, val_main_v28, val_main_v27, val_main_call0_v5, val_main_call0_v4, val_main_call0_v3, val_main_call0_v2, val_main_call0_v1, val_main_call0_v0, val_main_call0_cst, val_main_call0_cst_0]
  unfold act GateSpec.sg
  simp

theorem ref_act : val_main_v29 (F := Ideal) A0 A1 A2 = fun i => act (cx A0 A1 A2 (i 0).val (i 1).val) (cx A0 A1 A2 (i 0).val (2816 + (i 1).val)) := by
  funext i
  obtain ⟨r, l, rfl⟩ : ∃ (r : Fin 8192) (l : Fin 2816), i = ix2 r l := ⟨i 0, i 1, eq_ix2 i⟩
  exact act_at A0 A1 A2 r l
theorem ref_uc : val_main_v33 (F := Ideal) A0 A1 A2 = fun i => cx A0 A1 A2 (i 1).val (2816 * (i 0).val + (i 2).val) := by
  funext i
  obtain ⟨k, r, l, rfl⟩ : ∃ (k : Fin 2) (r : Fin 8192) (l : Fin 2816), i = ix3 k r l := ⟨i 0, i 1, i 2, eq_ix3 i⟩
  obtain rfl | rfl : k = 0 ∨ k = 1 := by
    rcases k with ⟨k, hk⟩; interval_cases k <;> simp
  · pointwise [g_at, v_at, val_main_v33, val_main_v32, val_main_v31, val_main_v30]
  · pointwise [g_at, v_at, val_main_v33, val_main_v32, val_main_v31, val_main_v30]

end Cert.FfnRefIdeal.Fwd

namespace Cert.FfnClaim

open Idealize.ShloMosaic Idealize.SL.Sem

attribute [local instance] Cert.FfnIdeal.Gen.facts Cert.FfnRefIdeal.Gen.facts

/-- The reference runs from every memory, leaves its arguments and every counter at zero. -/
theorem ref_frame : Cert.quiescent_FfnRefIdeal := fun m ρ _ =>
  (θ_run _ _ _).mono (fun r h => ⟨fun c => (h c).2.2, Idealize.ShloMosaic.sem_eq_zero_of_no_sems (by decide) r.2⟩)
    (Cert.FfnRefIdeal.Value.run (F := Ideal) m ρ)

/-- From memories that agree on the arguments both programs leave the same results. -/
theorem algebraic : Cert.algebraic_FfnIdeal_FfnRefIdeal := by
  intro m ρ m' ρ' _ hag
  refine ⟨fun c => Cert.FfnIdeal.Fwd.G8 m c, fun c => Cert.FfnIdeal.Fwd.G9 m c, ?_, ?_⟩
  · exact (θ_run _ _ _).mono (fun _ h c => ⟨(h c).1.trans (Cert.FfnIdeal.Fwd.arr_8 m c), (h c).2.1.trans (Cert.FfnIdeal.Fwd.arr_9 m c), (h c).2.2⟩)
      (Cert.FfnIdeal.Value.run_blocks (F := Ideal) m ρ)
  · refine (θ_run _ _ _).mono (fun _ h c => ⟨(h c).1.trans ?_, (h c).2.1.trans ?_, (h c).2.2⟩) (Cert.FfnRefIdeal.Value.run (F := Ideal) m' ρ')
    · refine (Cert.FfnRefIdeal.Read.val_main_v29_eq (F := Ideal) ..).trans ?_
      rw [(hag c).1, (hag c).2.1, (hag c).2.2]
      exact Cert.FfnRefIdeal.Fwd.ref_act (Cert.FfnIdeal.Fwd.A0 m c) (Cert.FfnIdeal.Fwd.A1 m c) (Cert.FfnIdeal.Fwd.A2 m c)
    · refine (Cert.FfnRefIdeal.Read.val_main_v33_eq (F := Ideal) ..).trans ?_
      rw [(hag c).1, (hag c).2.1, (hag c).2.2]
      exact Cert.FfnRefIdeal.Fwd.ref_uc (Cert.FfnIdeal.Fwd.A0 m c) (Cert.FfnIdeal.Fwd.A1 m c) (Cert.FfnIdeal.Fwd.A2 m c)

end Cert.FfnClaim

end
-- ==== Proof.lean ====
module

public import proofs.«01_k».proof.Defs
public import proofs.«01_k».proof.Proof.Gen.Conv.Frame
public import proofs.«01_k».proof.Proof.Gen.ConvIdeal.Frame
public import proofs.«01_k».proof.Proof.Gen.DownDx.Frame
public import proofs.«01_k».proof.Proof.Gen.DownDxIdeal.Frame
public import proofs.«01_k».proof.Proof.Gen.DownDw.Frame
public import proofs.«01_k».proof.Proof.Gen.DownDwIdeal.Frame
public import proofs.«01_k».proof.Proof.Gen.UpDx.Frame
public import proofs.«01_k».proof.Proof.Gen.UpDxIdeal.Frame
public import proofs.«01_k».proof.Proof.Gen.UpDw.Frame
public import proofs.«01_k».proof.Proof.Gen.UpDwIdeal.Frame
public import proofs.«01_k».proof.Proof.Gen.OutDx.Frame
public import proofs.«01_k».proof.Proof.Gen.OutDxIdeal.Frame
public import proofs.«01_k».proof.Proof.Gen.OutDw.Frame
public import proofs.«01_k».proof.Proof.Gen.OutDwIdeal.Frame
public import proofs.«01_k».proof.Proof.Gen.InDx.Frame
public import proofs.«01_k».proof.Proof.Gen.InDxIdeal.Frame
public import proofs.«01_k».proof.Proof.Gen.InDw.Frame
public import proofs.«01_k».proof.Proof.Gen.InDwIdeal.Frame
public import proofs.«01_k».proof.Proof.Gen.InFwd.Frame
public import proofs.«01_k».proof.Proof.Gen.InFwdIdeal.Frame
public import proofs.«01_k».proof.Proof.Gen.OutFwd.Frame
public import proofs.«01_k».proof.Proof.Gen.OutFwdIdeal.Frame
public import proofs.«01_k».proof.Proof.Gen.UpFwd.Frame
public import proofs.«01_k».proof.Proof.Gen.UpFwdIdeal.Frame
public import proofs.«01_k».proof.Proof.Gen.DownFwd.Frame
public import proofs.«01_k».proof.Proof.Gen.DownFwdIdeal.Frame
public import proofs.«01_k».proof.Proof.Gen.Attn.Frame
public import proofs.«01_k».proof.Proof.Gen.AttnIdeal.Frame
public import proofs.«01_k».proof.Proof.Gen.Gate.Frame
public import proofs.«01_k».proof.Proof.Gen.GateIdeal.Frame
public import proofs.«01_k».proof.Proof.Gen.NormB.Frame
public import proofs.«01_k».proof.Proof.Gen.NormBIdeal.Frame
public import proofs.«01_k».proof.Proof.Gen.NormA.Frame
public import proofs.«01_k».proof.Proof.Gen.NormAIdeal.Frame
public import proofs.«01_k».proof.Proof.Gen.FwdB.Frame
public import proofs.«01_k».proof.Proof.Gen.FwdBIdeal.Frame
public import proofs.«01_k».proof.Proof.Gen.FwdA.Frame
public import proofs.«01_k».proof.Proof.Gen.FwdAIdeal.Frame
public import proofs.«01_k».proof.Proof.Gen.Loss.Frame
public import proofs.«01_k».proof.Proof.Gen.LossIdeal.Frame
public import proofs.«01_k».proof.Proof.Gen.Ffn.Frame
public import proofs.«01_k».proof.Proof.Gen.FfnIdeal.Frame
public import proofs.«01_k».proof.Proof.ConvClaim
public import proofs.«01_k».proof.Proof.DownDxClaim
public import proofs.«01_k».proof.Proof.DownDwClaim
public import proofs.«01_k».proof.Proof.UpDxClaim
public import proofs.«01_k».proof.Proof.UpDwClaim
public import proofs.«01_k».proof.Proof.OutDxClaim
public import proofs.«01_k».proof.Proof.OutDwClaim
public import proofs.«01_k».proof.Proof.InDxClaim
public import proofs.«01_k».proof.Proof.InDwClaim
public import proofs.«01_k».proof.Proof.InFwdClaim
public import proofs.«01_k».proof.Proof.OutFwdClaim
public import proofs.«01_k».proof.Proof.UpFwdClaim
public import proofs.«01_k».proof.Proof.DownFwdClaim
public import proofs.«01_k».proof.Proof.AttnClaim
public import proofs.«01_k».proof.Proof.GateClaim
public import proofs.«01_k».proof.Proof.NormBClaim
public import proofs.«01_k».proof.Proof.NormAClaim
public import proofs.«01_k».proof.Proof.FwdBClaim
public import proofs.«01_k».proof.Proof.FwdAClaim
public import proofs.«01_k».proof.Proof.LossClaim
public import proofs.«01_k».proof.Proof.FfnClaim
public import Idealize.ShloMosaic.Adequacy
public import Idealize.ShloMosaic.Init

@[expose] public section

noncomputable section

namespace Cert.Proof

/-- Every call stated here runs to its end on both readings and equals the problem's own lines over the reals. -/
theorem claim : Cert.Claim := ⟨Cert.Conv.Gen.facts,
  Cert.ConvIdeal.Gen.facts,
  Cert.ConvRefIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.UpDx.Gen.facts,
  Cert.UpDxIdeal.Gen.facts,
  Cert.UpDxRefIdeal.Gen.facts,
  Cert.UpDw.Gen.facts,
  Cert.UpDwIdeal.Gen.facts,
  Cert.UpDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.InDx.Gen.facts,
  Cert.InDxIdeal.Gen.facts,
  Cert.InDxRefIdeal.Gen.facts,
  Cert.InDw.Gen.facts,
  Cert.InDwIdeal.Gen.facts,
  Cert.InDwRefIdeal.Gen.facts,
  Cert.InFwd.Gen.facts,
  Cert.InFwdIdeal.Gen.facts,
  Cert.InFwdRefIdeal.Gen.facts,
  Cert.OutFwd.Gen.facts,
  Cert.OutFwdIdeal.Gen.facts,
  Cert.OutFwdRefIdeal.Gen.facts,
  Cert.UpFwd.Gen.facts,
  Cert.UpFwdIdeal.Gen.facts,
  Cert.UpFwdRefIdeal.Gen.facts,
  Cert.DownFwd.Gen.facts,
  Cert.DownFwdIdeal.Gen.facts,
  Cert.DownFwdRefIdeal.Gen.facts,
  Cert.Attn.Gen.facts,
  Cert.AttnIdeal.Gen.facts,
  Cert.AttnRefIdeal.Gen.facts,
  Cert.Gate.Gen.facts,
  Cert.GateIdeal.Gen.facts,
  Cert.GateRefIdeal.Gen.facts,
  Cert.NormB.Gen.facts,
  Cert.NormBIdeal.Gen.facts,
  Cert.NormBRefIdeal.Gen.facts,
  Cert.NormA.Gen.facts,
  Cert.NormAIdeal.Gen.facts,
  Cert.NormARefIdeal.Gen.facts,
  Cert.FwdB.Gen.facts,
  Cert.FwdBIdeal.Gen.facts,
  Cert.FwdBRefIdeal.Gen.facts,
  Cert.FwdA.Gen.facts,
  Cert.FwdAIdeal.Gen.facts,
  Cert.FwdARefIdeal.Gen.facts,
  Cert.Loss.Gen.facts,
  Cert.LossIdeal.Gen.facts,
  Cert.LossRefIdeal.Gen.facts,
  Cert.Ffn.Gen.facts,
  Cert.FfnIdeal.Gen.facts,
  Cert.FfnRefIdeal.Gen.facts,
  Cert.AttnClaim.pre_facts,
  Cert.GateClaim.pre_facts,
  Cert.NormBClaim.pre_facts,
  Cert.NormAClaim.pre_facts,
  Cert.AttnClaim.on_facts,
  fun m ρ _ => Cert.Conv.Gen.frame m ρ,
  fun m ρ _ => Cert.ConvIdeal.Gen.frame m ρ,
  Cert.ConvClaim.ref_frame,
  fun m ρ _ => Cert.DownDx.Gen.frame m ρ,
  fun m ρ _ => Cert.DownDxIdeal.Gen.frame m ρ,
  Cert.DownDxClaim.ref_frame,
  fun m ρ _ => Cert.DownDw.Gen.frame m ρ,
  fun m ρ _ => Cert.DownDwIdeal.Gen.frame m ρ,
  Cert.DownDwClaim.ref_frame,
  fun m ρ _ => Cert.UpDx.Gen.frame m ρ,
  fun m ρ _ => Cert.UpDxIdeal.Gen.frame m ρ,
  Cert.UpDxClaim.ref_frame,
  fun m ρ _ => Cert.UpDw.Gen.frame m ρ,
  fun m ρ _ => Cert.UpDwIdeal.Gen.frame m ρ,
  Cert.UpDwClaim.ref_frame,
  fun m ρ _ => Cert.OutDx.Gen.frame m ρ,
  fun m ρ _ => Cert.OutDxIdeal.Gen.frame m ρ,
  Cert.OutDxClaim.ref_frame,
  fun m ρ _ => Cert.OutDw.Gen.frame m ρ,
  fun m ρ _ => Cert.OutDwIdeal.Gen.frame m ρ,
  Cert.OutDwClaim.ref_frame,
  fun m ρ _ => Cert.InDx.Gen.frame m ρ,
  fun m ρ _ => Cert.InDxIdeal.Gen.frame m ρ,
  Cert.InDxClaim.ref_frame,
  fun m ρ _ => Cert.InDw.Gen.frame m ρ,
  fun m ρ _ => Cert.InDwIdeal.Gen.frame m ρ,
  Cert.InDwClaim.ref_frame,
  fun m ρ _ => Cert.InFwd.Gen.frame m ρ,
  fun m ρ _ => Cert.InFwdIdeal.Gen.frame m ρ,
  Cert.InFwdClaim.ref_frame,
  fun m ρ _ => Cert.OutFwd.Gen.frame m ρ,
  fun m ρ _ => Cert.OutFwdIdeal.Gen.frame m ρ,
  Cert.OutFwdClaim.ref_frame,
  fun m ρ _ => Cert.UpFwd.Gen.frame m ρ,
  fun m ρ _ => Cert.UpFwdIdeal.Gen.frame m ρ,
  Cert.UpFwdClaim.ref_frame,
  fun m ρ _ => Cert.DownFwd.Gen.frame m ρ,
  fun m ρ _ => Cert.DownFwdIdeal.Gen.frame m ρ,
  Cert.DownFwdClaim.ref_frame,
  fun m ρ _ => Cert.Attn.Gen.frame m ρ,
  fun m ρ _ => Cert.AttnIdeal.Gen.frame m ρ,
  fun m ρ _ => Cert.AttnIdeal.Gen.frame m ρ,
  Cert.AttnClaim.ref_frame,
  fun m ρ _ => Cert.AttnClaim.ref_frame m ρ trivial,
  fun m ρ _ => Cert.Gate.Gen.frame m ρ,
  fun m ρ _ => Cert.GateIdeal.Gen.frame m ρ,
  fun m ρ _ => Cert.GateIdeal.Gen.frame m ρ,
  Cert.GateClaim.ref_frame,
  fun m ρ _ => Cert.GateClaim.ref_frame m ρ trivial,
  fun m ρ _ => Cert.NormB.Gen.frame m ρ,
  fun m ρ _ => Cert.NormBIdeal.Gen.frame m ρ,
  fun m ρ _ => Cert.NormBIdeal.Gen.frame m ρ,
  Cert.NormBClaim.ref_frame,
  fun m ρ _ => Cert.NormBClaim.ref_frame m ρ trivial,
  fun m ρ _ => Cert.NormA.Gen.frame m ρ,
  fun m ρ _ => Cert.NormAIdeal.Gen.frame m ρ,
  fun m ρ _ => Cert.NormAIdeal.Gen.frame m ρ,
  Cert.NormAClaim.ref_frame,
  fun m ρ _ => Cert.NormAClaim.ref_frame m ρ trivial,
  fun m ρ _ => Cert.FwdB.Gen.frame m ρ,
  fun m ρ _ => Cert.FwdBIdeal.Gen.frame m ρ,
  Cert.FwdBClaim.ref_frame,
  fun m ρ _ => Cert.FwdA.Gen.frame m ρ,
  fun m ρ _ => Cert.FwdAIdeal.Gen.frame m ρ,
  Cert.FwdAClaim.ref_frame,
  fun m ρ _ => Cert.Loss.Gen.frame m ρ,
  fun m ρ _ => Cert.LossIdeal.Gen.frame m ρ,
  Cert.LossClaim.ref_frame,
  fun m ρ _ => Cert.Ffn.Gen.frame m ρ,
  fun m ρ _ => Cert.FfnIdeal.Gen.frame m ρ,
  Cert.FfnClaim.ref_frame,
  trivial,
  Cert.ConvClaim.algebraic,
  trivial,
  Cert.DownDxClaim.algebraic,
  trivial,
  Cert.DownDwClaim.algebraic,
  trivial,
  Cert.UpDxClaim.algebraic,
  trivial,
  Cert.UpDwClaim.algebraic,
  trivial,
  Cert.OutDxClaim.algebraic,
  trivial,
  Cert.OutDwClaim.algebraic,
  trivial,
  Cert.InDxClaim.algebraic,
  trivial,
  Cert.InDwClaim.algebraic,
  trivial,
  Cert.InFwdClaim.algebraic,
  trivial,
  Cert.OutFwdClaim.algebraic,
  trivial,
  Cert.UpFwdClaim.algebraic,
  trivial,
  Cert.DownFwdClaim.algebraic,
  Cert.AttnClaim.preserves,
  Cert.AttnClaim.algebraic,
  trivial,
  Cert.GateClaim.algebraic,
  trivial,
  Cert.NormBClaim.algebraic,
  trivial,
  Cert.NormAClaim.algebraic,
  trivial,
  Cert.FwdBClaim.algebraic,
  trivial,
  Cert.FwdAClaim.algebraic,
  trivial,
  Cert.LossClaim.algebraic,
  trivial,
  Cert.FfnClaim.algebraic⟩

end Cert.Proof
